-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_QueryWeightGrad (m : (ℓ : Loc Cert.QueryWeightGrad.nD Cert.QueryWeightGrad.τ Cert.QueryWeightGrad.sig) → Buf (Elt Bits) ℓ) : Prop :=
  True

def Pre_QueryWeightGradIdeal (m : (ℓ : Loc Cert.QueryWeightGradIdeal.nD Cert.QueryWeightGradIdeal.τ Cert.QueryWeightGradIdeal.sig) → Buf (Elt Ideal) ℓ) : Prop :=
  True

def Pre_QueryWeightGradReferenceIdeal (m : (ℓ : Loc Cert.QueryWeightGradReferenceIdeal.nD Cert.QueryWeightGradReferenceIdeal.τ Cert.QueryWeightGradReferenceIdeal.sig) → Buf (Elt Ideal) ℓ) : Prop :=
  True

def Pre_InputWeightGrad (m : (ℓ : Loc Cert.InputWeightGrad.nD Cert.InputWeightGrad.τ Cert.InputWeightGrad.sig) → Buf (Elt Bits) ℓ) : Prop :=
  True

def Pre_InputWeightGradIdeal (m : (ℓ : Loc Cert.InputWeightGradIdeal.nD Cert.InputWeightGradIdeal.τ Cert.InputWeightGradIdeal.sig) → Buf (Elt Ideal) ℓ) : Prop :=
  True

def Pre_InputWeightGradReferenceIdeal (m : (ℓ : Loc Cert.InputWeightGradReferenceIdeal.nD Cert.InputWeightGradReferenceIdeal.τ Cert.InputWeightGradReferenceIdeal.sig) → Buf (Elt Ideal) ℓ) : Prop :=
  True

def Pre_OutputWeightGrad (m : (ℓ : Loc Cert.OutputWeightGrad.nD Cert.OutputWeightGrad.τ Cert.OutputWeightGrad.sig) → Buf (Elt Bits) ℓ) : Prop :=
  True

def Pre_OutputWeightGradIdeal (m : (ℓ : Loc Cert.OutputWeightGradIdeal.nD Cert.OutputWeightGradIdeal.τ Cert.OutputWeightGradIdeal.sig) → Buf (Elt Ideal) ℓ) : Prop :=
  True

def Pre_OutputWeightGradReferenceIdeal (m : (ℓ : Loc Cert.OutputWeightGradReferenceIdeal.nD Cert.OutputWeightGradReferenceIdeal.τ Cert.OutputWeightGradReferenceIdeal.sig) → Buf (Elt Ideal) ℓ) : Prop :=
  True

def Pre_ConvWeightGrad (m : (ℓ : Loc Cert.ConvWeightGrad.nD Cert.ConvWeightGrad.τ Cert.ConvWeightGrad.sig) → Buf (Elt Bits) ℓ) : Prop :=
  True

def Pre_ConvWeightGradIdeal (m : (ℓ : Loc Cert.ConvWeightGradIdeal.nD Cert.ConvWeightGradIdeal.τ Cert.ConvWeightGradIdeal.sig) → Buf (Elt Ideal) ℓ) : Prop :=
  True

def Pre_ConvWeightGradReferenceIdeal (m : (ℓ : Loc Cert.ConvWeightGradReferenceIdeal.nD Cert.ConvWeightGradReferenceIdeal.τ Cert.ConvWeightGradReferenceIdeal.sig) → Buf (Elt Ideal) ℓ) : Prop :=
  True

def Pre_PairWeightGrad (m : (ℓ : Loc Cert.PairWeightGrad.nD Cert.PairWeightGrad.τ Cert.PairWeightGrad.sig) → Buf (Elt Bits) ℓ) : Prop :=
  True

def Pre_PairWeightGradIdeal (m : (ℓ : Loc Cert.PairWeightGradIdeal.nD Cert.PairWeightGradIdeal.τ Cert.PairWeightGradIdeal.sig) → Buf (Elt Ideal) ℓ) : Prop :=
  True

def Pre_PairWeightGradReferenceIdeal (m : (ℓ : Loc Cert.PairWeightGradReferenceIdeal.nD Cert.PairWeightGradReferenceIdeal.τ Cert.PairWeightGradReferenceIdeal.sig) → Buf (Elt Ideal) ℓ) : Prop :=
  True

def Pre_InputGrad (m : (ℓ : Loc Cert.InputGrad.nD Cert.InputGrad.τ Cert.InputGrad.sig) → Buf (Elt Bits) ℓ) : Prop :=
  True

def Pre_InputGradIdeal (m : (ℓ : Loc Cert.InputGradIdeal.nD Cert.InputGradIdeal.τ Cert.InputGradIdeal.sig) → Buf (Elt Ideal) ℓ) : Prop :=
  True

def Pre_InputGradReferenceIdeal (m : (ℓ : Loc Cert.InputGradReferenceIdeal.nD Cert.InputGradReferenceIdeal.τ Cert.InputGradReferenceIdeal.sig) → Buf (Elt Ideal) ℓ) : Prop :=
  True

def Pre_InputProjection (m : (ℓ : Loc Cert.InputProjection.nD Cert.InputProjection.τ Cert.InputProjection.sig) → Buf (Elt Bits) ℓ) : Prop :=
  True

def Pre_InputProjectionIdeal (m : (ℓ : Loc Cert.InputProjectionIdeal.nD Cert.InputProjectionIdeal.τ Cert.InputProjectionIdeal.sig) → Buf (Elt Ideal) ℓ) : Prop :=
  True

def Pre_InputProjectionReferenceIdeal (m : (ℓ : Loc Cert.InputProjectionReferenceIdeal.nD Cert.InputProjectionReferenceIdeal.τ Cert.InputProjectionReferenceIdeal.sig) → Buf (Elt Ideal) ℓ) : Prop :=
  True

def Pre_PairProjection (m : (ℓ : Loc Cert.PairProjection.nD Cert.PairProjection.τ Cert.PairProjection.sig) → Buf (Elt Bits) ℓ) : Prop :=
  True

def Pre_PairProjectionIdeal (m : (ℓ : Loc Cert.PairProjectionIdeal.nD Cert.PairProjectionIdeal.τ Cert.PairProjectionIdeal.sig) → Buf (Elt Ideal) ℓ) : Prop :=
  True

def Pre_PairProjectionReferenceIdeal (m : (ℓ : Loc Cert.PairProjectionReferenceIdeal.nD Cert.PairProjectionReferenceIdeal.τ Cert.PairProjectionReferenceIdeal.sig) → Buf (Elt Ideal) ℓ) : Prop :=
  True

def Pre_QueryProjection (m : (ℓ : Loc Cert.QueryProjection.nD Cert.QueryProjection.τ Cert.QueryProjection.sig) → Buf (Elt Bits) ℓ) : Prop :=
  True

def Pre_QueryProjectionIdeal (m : (ℓ : Loc Cert.QueryProjectionIdeal.nD Cert.QueryProjectionIdeal.τ Cert.QueryProjectionIdeal.sig) → Buf (Elt Ideal) ℓ) : Prop :=
  True

def Pre_QueryProjectionReferenceIdeal (m : (ℓ : Loc Cert.QueryProjectionReferenceIdeal.nD Cert.QueryProjectionReferenceIdeal.τ Cert.QueryProjectionReferenceIdeal.sig) → Buf (Elt Ideal) ℓ) : Prop :=
  True

def Pre_ResidualGrad (m : (ℓ : Loc Cert.ResidualGrad.nD Cert.ResidualGrad.τ Cert.ResidualGrad.sig) → Buf (Elt Bits) ℓ) : Prop :=
  True

def Pre_ResidualGradIdeal (m : (ℓ : Loc Cert.ResidualGradIdeal.nD Cert.ResidualGradIdeal.τ Cert.ResidualGradIdeal.sig) → Buf (Elt Ideal) ℓ) : Prop :=
  True

def Pre_ResidualGradReferenceIdeal (m : (ℓ : Loc Cert.ResidualGradReferenceIdeal.nD Cert.ResidualGradReferenceIdeal.τ Cert.ResidualGradReferenceIdeal.sig) → Buf (Elt Ideal) ℓ) : Prop :=
  True

def Pre_LossGrad (m : (ℓ : Loc Cert.LossGrad.nD Cert.LossGrad.τ Cert.LossGrad.sig) → Buf (Elt Bits) ℓ) : Prop :=
  True

def Pre_LossGradIdeal (m : (ℓ : Loc Cert.LossGradIdeal.nD Cert.LossGradIdeal.τ Cert.LossGradIdeal.sig) → Buf (Elt Ideal) ℓ) : Prop :=
  True

def Pre_LossGradReferenceIdeal (m : (ℓ : Loc Cert.LossGradReferenceIdeal.nD Cert.LossGradReferenceIdeal.τ Cert.LossGradReferenceIdeal.sig) → Buf (Elt Ideal) ℓ) : Prop :=
  True

def Pre_GateGrad (m : (ℓ : Loc Cert.GateGrad.nD Cert.GateGrad.τ Cert.GateGrad.sig) → Buf (Elt Bits) ℓ) : Prop :=
  True

def Pre_GateGradIdeal (m : (ℓ : Loc Cert.GateGradIdeal.nD Cert.GateGradIdeal.τ Cert.GateGradIdeal.sig) → Buf (Elt Ideal) ℓ) : Prop :=
  True

def Pre_GateGradIdeal_gate_finite [hPre_gate_finite : Cert.Pre_gate_finite.Facts] (m : (ℓ : Loc Cert.GateGradIdeal.nD Cert.GateGradIdeal.τ Cert.GateGradIdeal.sig) → Buf (Elt Ideal) ℓ) : Prop :=
  ∀ c : Dev Cert.GateGradIdeal.nD,
    (Cert.Pre_gate_finite.fn (F := Ideal) (m ((c.tc : Thread Cert.GateGradIdeal.nD Cert.GateGradIdeal.τ).loc Cert.GateGradIdeal.main_arg0)) (m ((c.tc : Thread Cert.GateGradIdeal.nD Cert.GateGradIdeal.τ).loc Cert.GateGradIdeal.main_arg1)) (m ((c.tc : Thread Cert.GateGradIdeal.nD Cert.GateGradIdeal.τ).loc Cert.GateGradIdeal.main_arg2)) (m ((c.tc : Thread Cert.GateGradIdeal.nD Cert.GateGradIdeal.τ).loc Cert.GateGradIdeal.main_arg3))) = (fun _ => 1#1)

def Pre_GateGradReferenceIdeal (m : (ℓ : Loc Cert.GateGradReferenceIdeal.nD Cert.GateGradReferenceIdeal.τ Cert.GateGradReferenceIdeal.sig) → Buf (Elt Ideal) ℓ) : Prop :=
  True

def Pre_GateGradReferenceIdeal_gate_finite [hPre_gate_finite : Cert.Pre_gate_finite.Facts] (m : (ℓ : Loc Cert.GateGradReferenceIdeal.nD Cert.GateGradReferenceIdeal.τ Cert.GateGradReferenceIdeal.sig) → Buf (Elt Ideal) ℓ) : Prop :=
  ∀ c : Dev Cert.GateGradReferenceIdeal.nD,
    (Cert.Pre_gate_finite.fn (F := Ideal) (m ((c.tc : Thread Cert.GateGradReferenceIdeal.nD Cert.GateGradReferenceIdeal.τ).loc Cert.GateGradReferenceIdeal.main_arg0)) (m ((c.tc : Thread Cert.GateGradReferenceIdeal.nD Cert.GateGradReferenceIdeal.τ).loc Cert.GateGradReferenceIdeal.main_arg1)) (m ((c.tc : Thread Cert.GateGradReferenceIdeal.nD Cert.GateGradReferenceIdeal.τ).loc Cert.GateGradReferenceIdeal.main_arg2)) (m ((c.tc : Thread Cert.GateGradReferenceIdeal.nD Cert.GateGradReferenceIdeal.τ).loc Cert.GateGradReferenceIdeal.main_arg3))) = (fun _ => 1#1)

def Pre_MixerGrad (m : (ℓ : Loc Cert.MixerGrad.nD Cert.MixerGrad.τ Cert.MixerGrad.sig) → Buf (Elt Bits) ℓ) : Prop :=
  True

def Pre_MixerGradIdeal (m : (ℓ : Loc Cert.MixerGradIdeal.nD Cert.MixerGradIdeal.τ Cert.MixerGradIdeal.sig) → Buf (Elt Ideal) ℓ) : Prop :=
  True

def Pre_MixerGradIdeal_mixer_finite [hPre_mixer_finite : Cert.Pre_mixer_finite.Facts] (m : (ℓ : Loc Cert.MixerGradIdeal.nD Cert.MixerGradIdeal.τ Cert.MixerGradIdeal.sig) → Buf (Elt Ideal) ℓ) : Prop :=
  ∀ c : Dev Cert.MixerGradIdeal.nD,
    (Cert.Pre_mixer_finite.fn (F := Ideal) (m ((c.tc : Thread Cert.MixerGradIdeal.nD Cert.MixerGradIdeal.τ).loc Cert.MixerGradIdeal.main_arg0)) (m ((c.tc : Thread Cert.MixerGradIdeal.nD Cert.MixerGradIdeal.τ).loc Cert.MixerGradIdeal.main_arg1)) (m ((c.tc : Thread Cert.MixerGradIdeal.nD Cert.MixerGradIdeal.τ).loc Cert.MixerGradIdeal.main_arg2)) (m ((c.tc : Thread Cert.MixerGradIdeal.nD Cert.MixerGradIdeal.τ).loc Cert.MixerGradIdeal.main_arg3)) (m ((c.tc : Thread Cert.MixerGradIdeal.nD Cert.MixerGradIdeal.τ).loc Cert.MixerGradIdeal.main_arg4)) (m ((c.tc : Thread Cert.MixerGradIdeal.nD Cert.MixerGradIdeal.τ).loc Cert.MixerGradIdeal.main_arg5))) = (fun _ => 1#1)

def Pre_MixerGradReferenceIdeal (m : (ℓ : Loc Cert.MixerGradReferenceIdeal.nD Cert.MixerGradReferenceIdeal.τ Cert.MixerGradReferenceIdeal.sig) → Buf (Elt Ideal) ℓ) : Prop :=
  True

def Pre_MixerGradReferenceIdeal_mixer_finite [hPre_mixer_finite : Cert.Pre_mixer_finite.Facts] (m : (ℓ : Loc Cert.MixerGradReferenceIdeal.nD Cert.MixerGradReferenceIdeal.τ Cert.MixerGradReferenceIdeal.sig) → Buf (Elt Ideal) ℓ) : Prop :=
  ∀ c : Dev Cert.MixerGradReferenceIdeal.nD,
    (Cert.Pre_mixer_finite.fn (F := Ideal) (m ((c.tc : Thread Cert.MixerGradReferenceIdeal.nD Cert.MixerGradReferenceIdeal.τ).loc Cert.MixerGradReferenceIdeal.main_arg0)) (m ((c.tc : Thread Cert.MixerGradReferenceIdeal.nD Cert.MixerGradReferenceIdeal.τ).loc Cert.MixerGradReferenceIdeal.main_arg1)) (m ((c.tc : Thread Cert.MixerGradReferenceIdeal.nD Cert.MixerGradReferenceIdeal.τ).loc Cert.MixerGradReferenceIdeal.main_arg2)) (m ((c.tc : Thread Cert.MixerGradReferenceIdeal.nD Cert.MixerGradReferenceIdeal.τ).loc Cert.MixerGradReferenceIdeal.main_arg3)) (m ((c.tc : Thread Cert.MixerGradReferenceIdeal.nD Cert.MixerGradReferenceIdeal.τ).loc Cert.MixerGradReferenceIdeal.main_arg4)) (m ((c.tc : Thread Cert.MixerGradReferenceIdeal.nD Cert.MixerGradReferenceIdeal.τ).loc Cert.MixerGradReferenceIdeal.main_arg5))) = (fun _ => 1#1)

def Pre_HeadMerge (m : (ℓ : Loc Cert.HeadMerge.nD Cert.HeadMerge.τ Cert.HeadMerge.sig) → Buf (Elt Bits) ℓ) : Prop :=
  True

def Pre_HeadMergeIdeal (m : (ℓ : Loc Cert.HeadMergeIdeal.nD Cert.HeadMergeIdeal.τ Cert.HeadMergeIdeal.sig) → Buf (Elt Ideal) ℓ) : Prop :=
  True

def Pre_HeadMergeIdeal_merge_finite [hPre_merge_finite : Cert.Pre_merge_finite.Facts] (m : (ℓ : Loc Cert.HeadMergeIdeal.nD Cert.HeadMergeIdeal.τ Cert.HeadMergeIdeal.sig) → Buf (Elt Ideal) ℓ) : Prop :=
  ∀ c : Dev Cert.HeadMergeIdeal.nD,
    (Cert.Pre_merge_finite.fn (F := Ideal) (m ((c.tc : Thread Cert.HeadMergeIdeal.nD Cert.HeadMergeIdeal.τ).loc Cert.HeadMergeIdeal.main_arg0)) (m ((c.tc : Thread Cert.HeadMergeIdeal.nD Cert.HeadMergeIdeal.τ).loc Cert.HeadMergeIdeal.main_arg1)) (m ((c.tc : Thread Cert.HeadMergeIdeal.nD Cert.HeadMergeIdeal.τ).loc Cert.HeadMergeIdeal.main_arg2)) (m ((c.tc : Thread Cert.HeadMergeIdeal.nD Cert.HeadMergeIdeal.τ).loc Cert.HeadMergeIdeal.main_arg3)) (m ((c.tc : Thread Cert.HeadMergeIdeal.nD Cert.HeadMergeIdeal.τ).loc Cert.HeadMergeIdeal.main_arg4)) (m ((c.tc : Thread Cert.HeadMergeIdeal.nD Cert.HeadMergeIdeal.τ).loc Cert.HeadMergeIdeal.main_arg5)) (m ((c.tc : Thread Cert.HeadMergeIdeal.nD Cert.HeadMergeIdeal.τ).loc Cert.HeadMergeIdeal.main_arg6))) = (fun _ => 1#1)

def Pre_HeadMergeReferenceIdeal (m : (ℓ : Loc Cert.HeadMergeReferenceIdeal.nD Cert.HeadMergeReferenceIdeal.τ Cert.HeadMergeReferenceIdeal.sig) → Buf (Elt Ideal) ℓ) : Prop :=
  True

def Pre_HeadMergeReferenceIdeal_merge_finite [hPre_merge_finite : Cert.Pre_merge_finite.Facts] (m : (ℓ : Loc Cert.HeadMergeReferenceIdeal.nD Cert.HeadMergeReferenceIdeal.τ Cert.HeadMergeReferenceIdeal.sig) → Buf (Elt Ideal) ℓ) : Prop :=
  ∀ c : Dev Cert.HeadMergeReferenceIdeal.nD,
    (Cert.Pre_merge_finite.fn (F := Ideal) (m ((c.tc : Thread Cert.HeadMergeReferenceIdeal.nD Cert.HeadMergeReferenceIdeal.τ).loc Cert.HeadMergeReferenceIdeal.main_arg0)) (m ((c.tc : Thread Cert.HeadMergeReferenceIdeal.nD Cert.HeadMergeReferenceIdeal.τ).loc Cert.HeadMergeReferenceIdeal.main_arg1)) (m ((c.tc : Thread Cert.HeadMergeReferenceIdeal.nD Cert.HeadMergeReferenceIdeal.τ).loc Cert.HeadMergeReferenceIdeal.main_arg2)) (m ((c.tc : Thread Cert.HeadMergeReferenceIdeal.nD Cert.HeadMergeReferenceIdeal.τ).loc Cert.HeadMergeReferenceIdeal.main_arg3)) (m ((c.tc : Thread Cert.HeadMergeReferenceIdeal.nD Cert.HeadMergeReferenceIdeal.τ).loc Cert.HeadMergeReferenceIdeal.main_arg4)) (m ((c.tc : Thread Cert.HeadMergeReferenceIdeal.nD Cert.HeadMergeReferenceIdeal.τ).loc Cert.HeadMergeReferenceIdeal.main_arg5)) (m ((c.tc : Thread Cert.HeadMergeReferenceIdeal.nD Cert.HeadMergeReferenceIdeal.τ).loc Cert.HeadMergeReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_QueryWeightGrad [hQueryWeightGrad : Cert.QueryWeightGrad.Facts] : Prop :=
  ∀ (m : (ℓ : Loc Cert.QueryWeightGrad.nD Cert.QueryWeightGrad.τ Cert.QueryWeightGrad.sig) → Buf (Elt Bits) ℓ) (g : Dev Cert.QueryWeightGrad.nD → PrngReg), Pre_QueryWeightGrad m →
    θ_run (Cert.QueryWeightGrad.defs (F := Bits)) (onTc (τ := Cert.QueryWeightGrad.τ) (Cert.QueryWeightGrad.main (F := Bits))) ⟨m, fun _ => 0, g⟩ (fun r => (∀ c : Dev Cert.QueryWeightGrad.nD,
      r.2.mem ((c.tc : Thread Cert.QueryWeightGrad.nD Cert.QueryWeightGrad.τ).loc Cert.QueryWeightGrad.main_arg0) = m ((c.tc : Thread Cert.QueryWeightGrad.nD Cert.QueryWeightGrad.τ).loc Cert.QueryWeightGrad.main_arg0)
      ∧ r.2.mem ((c.tc : Thread Cert.QueryWeightGrad.nD Cert.QueryWeightGrad.τ).loc Cert.QueryWeightGrad.main_arg1) = m ((c.tc : Thread Cert.QueryWeightGrad.nD Cert.QueryWeightGrad.τ).loc Cert.QueryWeightGrad.main_arg1))
      ∧ r.2.sem = fun _ => 0)

def quiescent_QueryWeightGradIdeal [hQueryWeightGradIdeal : Cert.QueryWeightGradIdeal.Facts] : Prop :=
  ∀ (m : (ℓ : Loc Cert.QueryWeightGradIdeal.nD Cert.QueryWeightGradIdeal.τ Cert.QueryWeightGradIdeal.sig) → Buf (Elt Ideal) ℓ) (g : Dev Cert.QueryWeightGradIdeal.nD → PrngReg), Pre_QueryWeightGradIdeal m →
    θ_run (Cert.QueryWeightGradIdeal.defs (F := Ideal)) (onTc (τ := Cert.QueryWeightGradIdeal.τ) (Cert.QueryWeightGradIdeal.main (F := Ideal))) ⟨m, fun _ => 0, g⟩ (fun r => (∀ c : Dev Cert.QueryWeightGradIdeal.nD,
      r.2.mem ((c.tc : Thread Cert.QueryWeightGradIdeal.nD Cert.QueryWeightGradIdeal.τ).loc Cert.QueryWeightGradIdeal.main_arg0) = m ((c.tc : Thread Cert.QueryWeightGradIdeal.nD Cert.QueryWeightGradIdeal.τ).loc Cert.QueryWeightGradIdeal.main_arg0)
      ∧ r.2.mem ((c.tc : Thread Cert.QueryWeightGradIdeal.nD Cert.QueryWeightGradIdeal.τ).loc Cert.QueryWeightGradIdeal.main_arg1) = m ((c.tc : Thread Cert.QueryWeightGradIdeal.nD Cert.QueryWeightGradIdeal.τ).loc Cert.QueryWeightGradIdeal.main_arg1))
      ∧ r.2.sem = fun _ => 0)

def quiescent_QueryWeightGradReferenceIdeal [hQueryWeightGradReferenceIdeal : Cert.QueryWeightGradReferenceIdeal.Facts] : Prop :=
  ∀ (m : (ℓ : Loc Cert.QueryWeightGradReferenceIdeal.nD Cert.QueryWeightGradReferenceIdeal.τ Cert.QueryWeightGradReferenceIdeal.sig) → Buf (Elt Ideal) ℓ) (g : Dev Cert.QueryWeightGradReferenceIdeal.nD → PrngReg), Pre_QueryWeightGradReferenceIdeal m →
    θ_run (Cert.QueryWeightGradReferenceIdeal.defs (F := Ideal)) (onTc (τ := Cert.QueryWeightGradReferenceIdeal.τ) (Cert.QueryWeightGradReferenceIdeal.main (F := Ideal))) ⟨m, fun _ => 0, g⟩ (fun r => (∀ c : Dev Cert.QueryWeightGradReferenceIdeal.nD,
      r.2.mem ((c.tc : Thread Cert.QueryWeightGradReferenceIdeal.nD Cert.QueryWeightGradReferenceIdeal.τ).loc Cert.QueryWeightGradReferenceIdeal.main_arg0) = m ((c.tc : Thread Cert.QueryWeightGradReferenceIdeal.nD Cert.QueryWeightGradReferenceIdeal.τ).loc Cert.QueryWeightGradReferenceIdeal.main_arg0)
      ∧ r.2.mem ((c.tc : Thread Cert.QueryWeightGradReferenceIdeal.nD Cert.QueryWeightGradReferenceIdeal.τ).loc Cert.QueryWeightGradReferenceIdeal.main_arg1) = m ((c.tc : Thread Cert.QueryWeightGradReferenceIdeal.nD Cert.QueryWeightGradReferenceIdeal.τ).loc Cert.QueryWeightGradReferenceIdeal.main_arg1))
      ∧ r.2.sem = fun _ => 0)

def quiescent_InputWeightGrad [hInputWeightGrad : Cert.InputWeightGrad.Facts] : Prop :=
  ∀ (m : (ℓ : Loc Cert.InputWeightGrad.nD Cert.InputWeightGrad.τ Cert.InputWeightGrad.sig) → Buf (Elt Bits) ℓ) (g : Dev Cert.InputWeightGrad.nD → PrngReg), Pre_InputWeightGrad m →
    θ_run (Cert.InputWeightGrad.defs (F := Bits)) (onTc (τ := Cert.InputWeightGrad.τ) (Cert.InputWeightGrad.main (F := Bits))) ⟨m, fun _ => 0, g⟩ (fun r => (∀ c : Dev Cert.InputWeightGrad.nD,
      r.2.mem ((c.tc : Thread Cert.InputWeightGrad.nD Cert.InputWeightGrad.τ).loc Cert.InputWeightGrad.main_arg0) = m ((c.tc : Thread Cert.InputWeightGrad.nD Cert.InputWeightGrad.τ).loc Cert.InputWeightGrad.main_arg0)
      ∧ r.2.mem ((c.tc : Thread Cert.InputWeightGrad.nD Cert.InputWeightGrad.τ).loc Cert.InputWeightGrad.main_arg1) = m ((c.tc : Thread Cert.InputWeightGrad.nD Cert.InputWeightGrad.τ).loc Cert.InputWeightGrad.main_arg1))
      ∧ r.2.sem = fun _ => 0)

def quiescent_InputWeightGradIdeal [hInputWeightGradIdeal : Cert.InputWeightGradIdeal.Facts] : Prop :=
  ∀ (m : (ℓ : Loc Cert.InputWeightGradIdeal.nD Cert.InputWeightGradIdeal.τ Cert.InputWeightGradIdeal.sig) → Buf (Elt Ideal) ℓ) (g : Dev Cert.InputWeightGradIdeal.nD → PrngReg), Pre_InputWeightGradIdeal m →
    θ_run (Cert.InputWeightGradIdeal.defs (F := Ideal)) (onTc (τ := Cert.InputWeightGradIdeal.τ) (Cert.InputWeightGradIdeal.main (F := Ideal))) ⟨m, fun _ => 0, g⟩ (fun r => (∀ c : Dev Cert.InputWeightGradIdeal.nD,
      r.2.mem ((c.tc : Thread Cert.InputWeightGradIdeal.nD Cert.InputWeightGradIdeal.τ).loc Cert.InputWeightGradIdeal.main_arg0) = m ((c.tc : Thread Cert.InputWeightGradIdeal.nD Cert.InputWeightGradIdeal.τ).loc Cert.InputWeightGradIdeal.main_arg0)
      ∧ r.2.mem ((c.tc : Thread Cert.InputWeightGradIdeal.nD Cert.InputWeightGradIdeal.τ).loc Cert.InputWeightGradIdeal.main_arg1) = m ((c.tc : Thread Cert.InputWeightGradIdeal.nD Cert.InputWeightGradIdeal.τ).loc Cert.InputWeightGradIdeal.main_arg1))
      ∧ r.2.sem = fun _ => 0)

def quiescent_InputWeightGradReferenceIdeal [hInputWeightGradReferenceIdeal : Cert.InputWeightGradReferenceIdeal.Facts] : Prop :=
  ∀ (m : (ℓ : Loc Cert.InputWeightGradReferenceIdeal.nD Cert.InputWeightGradReferenceIdeal.τ Cert.InputWeightGradReferenceIdeal.sig) → Buf (Elt Ideal) ℓ) (g : Dev Cert.InputWeightGradReferenceIdeal.nD → PrngReg), Pre_InputWeightGradReferenceIdeal m →
    θ_run (Cert.InputWeightGradReferenceIdeal.defs (F := Ideal)) (onTc (τ := Cert.InputWeightGradReferenceIdeal.τ) (Cert.InputWeightGradReferenceIdeal.main (F := Ideal))) ⟨m, fun _ => 0, g⟩ (fun r => (∀ c : Dev Cert.InputWeightGradReferenceIdeal.nD,
      r.2.mem ((c.tc : Thread Cert.InputWeightGradReferenceIdeal.nD Cert.InputWeightGradReferenceIdeal.τ).loc Cert.InputWeightGradReferenceIdeal.main_arg0) = m ((c.tc : Thread Cert.InputWeightGradReferenceIdeal.nD Cert.InputWeightGradReferenceIdeal.τ).loc Cert.InputWeightGradReferenceIdeal.main_arg0)
      ∧ r.2.mem ((c.tc : Thread Cert.InputWeightGradReferenceIdeal.nD Cert.InputWeightGradReferenceIdeal.τ).loc Cert.InputWeightGradReferenceIdeal.main_arg1) = m ((c.tc : Thread Cert.InputWeightGradReferenceIdeal.nD Cert.InputWeightGradReferenceIdeal.τ).loc Cert.InputWeightGradReferenceIdeal.main_arg1))
      ∧ r.2.sem = fun _ => 0)

def quiescent_OutputWeightGrad [hOutputWeightGrad : Cert.OutputWeightGrad.Facts] : Prop :=
  ∀ (m : (ℓ : Loc Cert.OutputWeightGrad.nD Cert.OutputWeightGrad.τ Cert.OutputWeightGrad.sig) → Buf (Elt Bits) ℓ) (g : Dev Cert.OutputWeightGrad.nD → PrngReg), Pre_OutputWeightGrad m →
    θ_run (Cert.OutputWeightGrad.defs (F := Bits)) (onTc (τ := Cert.OutputWeightGrad.τ) (Cert.OutputWeightGrad.main (F := Bits))) ⟨m, fun _ => 0, g⟩ (fun r => (∀ c : Dev Cert.OutputWeightGrad.nD,
      r.2.mem ((c.tc : Thread Cert.OutputWeightGrad.nD Cert.OutputWeightGrad.τ).loc Cert.OutputWeightGrad.main_arg0) = m ((c.tc : Thread Cert.OutputWeightGrad.nD Cert.OutputWeightGrad.τ).loc Cert.OutputWeightGrad.main_arg0)
      ∧ r.2.mem ((c.tc : Thread Cert.OutputWeightGrad.nD Cert.OutputWeightGrad.τ).loc Cert.OutputWeightGrad.main_arg1) = m ((c.tc : Thread Cert.OutputWeightGrad.nD Cert.OutputWeightGrad.τ).loc Cert.OutputWeightGrad.main_arg1))
      ∧ r.2.sem = fun _ => 0)

def quiescent_OutputWeightGradIdeal [hOutputWeightGradIdeal : Cert.OutputWeightGradIdeal.Facts] : Prop :=
  ∀ (m : (ℓ : Loc Cert.OutputWeightGradIdeal.nD Cert.OutputWeightGradIdeal.τ Cert.OutputWeightGradIdeal.sig) → Buf (Elt Ideal) ℓ) (g : Dev Cert.OutputWeightGradIdeal.nD → PrngReg), Pre_OutputWeightGradIdeal m →
    θ_run (Cert.OutputWeightGradIdeal.defs (F := Ideal)) (onTc (τ := Cert.OutputWeightGradIdeal.τ) (Cert.OutputWeightGradIdeal.main (F := Ideal))) ⟨m, fun _ => 0, g⟩ (fun r => (∀ c : Dev Cert.OutputWeightGradIdeal.nD,
      r.2.mem ((c.tc : Thread Cert.OutputWeightGradIdeal.nD Cert.OutputWeightGradIdeal.τ).loc Cert.OutputWeightGradIdeal.main_arg0) = m ((c.tc : Thread Cert.OutputWeightGradIdeal.nD Cert.OutputWeightGradIdeal.τ).loc Cert.OutputWeightGradIdeal.main_arg0)
      ∧ r.2.mem ((c.tc : Thread Cert.OutputWeightGradIdeal.nD Cert.OutputWeightGradIdeal.τ).loc Cert.OutputWeightGradIdeal.main_arg1) = m ((c.tc : Thread Cert.OutputWeightGradIdeal.nD Cert.OutputWeightGradIdeal.τ).loc Cert.OutputWeightGradIdeal.main_arg1))
      ∧ r.2.sem = fun _ => 0)

def quiescent_OutputWeightGradReferenceIdeal [hOutputWeightGradReferenceIdeal : Cert.OutputWeightGradReferenceIdeal.Facts] : Prop :=
  ∀ (m : (ℓ : Loc Cert.OutputWeightGradReferenceIdeal.nD Cert.OutputWeightGradReferenceIdeal.τ Cert.OutputWeightGradReferenceIdeal.sig) → Buf (Elt Ideal) ℓ) (g : Dev Cert.OutputWeightGradReferenceIdeal.nD → PrngReg), Pre_OutputWeightGradReferenceIdeal m →
    θ_run (Cert.OutputWeightGradReferenceIdeal.defs (F := Ideal)) (onTc (τ := Cert.OutputWeightGradReferenceIdeal.τ) (Cert.OutputWeightGradReferenceIdeal.main (F := Ideal))) ⟨m, fun _ => 0, g⟩ (fun r => (∀ c : Dev Cert.OutputWeightGradReferenceIdeal.nD,
      r.2.mem ((c.tc : Thread Cert.OutputWeightGradReferenceIdeal.nD Cert.OutputWeightGradReferenceIdeal.τ).loc Cert.OutputWeightGradReferenceIdeal.main_arg0) = m ((c.tc : Thread Cert.OutputWeightGradReferenceIdeal.nD Cert.OutputWeightGradReferenceIdeal.τ).loc Cert.OutputWeightGradReferenceIdeal.main_arg0)
      ∧ r.2.mem ((c.tc : Thread Cert.OutputWeightGradReferenceIdeal.nD Cert.OutputWeightGradReferenceIdeal.τ).loc Cert.OutputWeightGradReferenceIdeal.main_arg1) = m ((c.tc : Thread Cert.OutputWeightGradReferenceIdeal.nD Cert.OutputWeightGradReferenceIdeal.τ).loc Cert.OutputWeightGradReferenceIdeal.main_arg1))
      ∧ r.2.sem = fun _ => 0)

def quiescent_ConvWeightGrad [hConvWeightGrad : Cert.ConvWeightGrad.Facts] : Prop :=
  ∀ (m : (ℓ : Loc Cert.ConvWeightGrad.nD Cert.ConvWeightGrad.τ Cert.ConvWeightGrad.sig) → Buf (Elt Bits) ℓ) (g : Dev Cert.ConvWeightGrad.nD → PrngReg), Pre_ConvWeightGrad m →
    θ_run (Cert.ConvWeightGrad.defs (F := Bits)) (onTc (τ := Cert.ConvWeightGrad.τ) (Cert.ConvWeightGrad.main (F := Bits))) ⟨m, fun _ => 0, g⟩ (fun r => (∀ c : Dev Cert.ConvWeightGrad.nD,
      r.2.mem ((c.tc : Thread Cert.ConvWeightGrad.nD Cert.ConvWeightGrad.τ).loc Cert.ConvWeightGrad.main_arg0) = m ((c.tc : Thread Cert.ConvWeightGrad.nD Cert.ConvWeightGrad.τ).loc Cert.ConvWeightGrad.main_arg0)
      ∧ r.2.mem ((c.tc : Thread Cert.ConvWeightGrad.nD Cert.ConvWeightGrad.τ).loc Cert.ConvWeightGrad.main_arg1) = m ((c.tc : Thread Cert.ConvWeightGrad.nD Cert.ConvWeightGrad.τ).loc Cert.ConvWeightGrad.main_arg1))
      ∧ r.2.sem = fun _ => 0)

def quiescent_ConvWeightGradIdeal [hConvWeightGradIdeal : Cert.ConvWeightGradIdeal.Facts] : Prop :=
  ∀ (m : (ℓ : Loc Cert.ConvWeightGradIdeal.nD Cert.ConvWeightGradIdeal.τ Cert.ConvWeightGradIdeal.sig) → Buf (Elt Ideal) ℓ) (g : Dev Cert.ConvWeightGradIdeal.nD → PrngReg), Pre_ConvWeightGradIdeal m →
    θ_run (Cert.ConvWeightGradIdeal.defs (F := Ideal)) (onTc (τ := Cert.ConvWeightGradIdeal.τ) (Cert.ConvWeightGradIdeal.main (F := Ideal))) ⟨m, fun _ => 0, g⟩ (fun r => (∀ c : Dev Cert.ConvWeightGradIdeal.nD,
      r.2.mem ((c.tc : Thread Cert.ConvWeightGradIdeal.nD Cert.ConvWeightGradIdeal.τ).loc Cert.ConvWeightGradIdeal.main_arg0) = m ((c.tc : Thread Cert.ConvWeightGradIdeal.nD Cert.ConvWeightGradIdeal.τ).loc Cert.ConvWeightGradIdeal.main_arg0)
      ∧ r.2.mem ((c.tc : Thread Cert.ConvWeightGradIdeal.nD Cert.ConvWeightGradIdeal.τ).loc Cert.ConvWeightGradIdeal.main_arg1) = m ((c.tc : Thread Cert.ConvWeightGradIdeal.nD Cert.ConvWeightGradIdeal.τ).loc Cert.ConvWeightGradIdeal.main_arg1))
      ∧ r.2.sem = fun _ => 0)

def quiescent_ConvWeightGradReferenceIdeal [hConvWeightGradReferenceIdeal : Cert.ConvWeightGradReferenceIdeal.Facts] : Prop :=
  ∀ (m : (ℓ : Loc Cert.ConvWeightGradReferenceIdeal.nD Cert.ConvWeightGradReferenceIdeal.τ Cert.ConvWeightGradReferenceIdeal.sig) → Buf (Elt Ideal) ℓ) (g : Dev Cert.ConvWeightGradReferenceIdeal.nD → PrngReg), Pre_ConvWeightGradReferenceIdeal m →
    θ_run (Cert.ConvWeightGradReferenceIdeal.defs (F := Ideal)) (onTc (τ := Cert.ConvWeightGradReferenceIdeal.τ) (Cert.ConvWeightGradReferenceIdeal.main (F := Ideal))) ⟨m, fun _ => 0, g⟩ (fun r => (∀ c : Dev Cert.ConvWeightGradReferenceIdeal.nD,
      r.2.mem ((c.tc : Thread Cert.ConvWeightGradReferenceIdeal.nD Cert.ConvWeightGradReferenceIdeal.τ).loc Cert.ConvWeightGradReferenceIdeal.main_arg0) = m ((c.tc : Thread Cert.ConvWeightGradReferenceIdeal.nD Cert.ConvWeightGradReferenceIdeal.τ).loc Cert.ConvWeightGradReferenceIdeal.main_arg0)
      ∧ r.2.mem ((c.tc : Thread Cert.ConvWeightGradReferenceIdeal.nD Cert.ConvWeightGradReferenceIdeal.τ).loc Cert.ConvWeightGradReferenceIdeal.main_arg1) = m ((c.tc : Thread Cert.ConvWeightGradReferenceIdeal.nD Cert.ConvWeightGradReferenceIdeal.τ).loc Cert.ConvWeightGradReferenceIdeal.main_arg1))
      ∧ r.2.sem = fun _ => 0)

def quiescent_PairWeightGrad [hPairWeightGrad : Cert.PairWeightGrad.Facts] : Prop :=
  ∀ (m : (ℓ : Loc Cert.PairWeightGrad.nD Cert.PairWeightGrad.τ Cert.PairWeightGrad.sig) → Buf (Elt Bits) ℓ) (g : Dev Cert.PairWeightGrad.nD → PrngReg), Pre_PairWeightGrad m →
    θ_run (Cert.PairWeightGrad.defs (F := Bits)) (onTc (τ := Cert.PairWeightGrad.τ) (Cert.PairWeightGrad.main (F := Bits))) ⟨m, fun _ => 0, g⟩ (fun r => (∀ c : Dev Cert.PairWeightGrad.nD,
      r.2.mem ((c.tc : Thread Cert.PairWeightGrad.nD Cert.PairWeightGrad.τ).loc Cert.PairWeightGrad.main_arg0) = m ((c.tc : Thread Cert.PairWeightGrad.nD Cert.PairWeightGrad.τ).loc Cert.PairWeightGrad.main_arg0)
      ∧ r.2.mem ((c.tc : Thread Cert.PairWeightGrad.nD Cert.PairWeightGrad.τ).loc Cert.PairWeightGrad.main_arg1) = m ((c.tc : Thread Cert.PairWeightGrad.nD Cert.PairWeightGrad.τ).loc Cert.PairWeightGrad.main_arg1)
      ∧ r.2.mem ((c.tc : Thread Cert.PairWeightGrad.nD Cert.PairWeightGrad.τ).loc Cert.PairWeightGrad.main_arg2) = m ((c.tc : Thread Cert.PairWeightGrad.nD Cert.PairWeightGrad.τ).loc Cert.PairWeightGrad.main_arg2))
      ∧ r.2.sem = fun _ => 0)

def quiescent_PairWeightGradIdeal [hPairWeightGradIdeal : Cert.PairWeightGradIdeal.Facts] : Prop :=
  ∀ (m : (ℓ : Loc Cert.PairWeightGradIdeal.nD Cert.PairWeightGradIdeal.τ Cert.PairWeightGradIdeal.sig) → Buf (Elt Ideal) ℓ) (g : Dev Cert.PairWeightGradIdeal.nD → PrngReg), Pre_PairWeightGradIdeal m →
    θ_run (Cert.PairWeightGradIdeal.defs (F := Ideal)) (onTc (τ := Cert.PairWeightGradIdeal.τ) (Cert.PairWeightGradIdeal.main (F := Ideal))) ⟨m, fun _ => 0, g⟩ (fun r => (∀ c : Dev Cert.PairWeightGradIdeal.nD,
      r.2.mem ((c.tc : Thread Cert.PairWeightGradIdeal.nD Cert.PairWeightGradIdeal.τ).loc Cert.PairWeightGradIdeal.main_arg0) = m ((c.tc : Thread Cert.PairWeightGradIdeal.nD Cert.PairWeightGradIdeal.τ).loc Cert.PairWeightGradIdeal.main_arg0)
      ∧ r.2.mem ((c.tc : Thread Cert.PairWeightGradIdeal.nD Cert.PairWeightGradIdeal.τ).loc Cert.PairWeightGradIdeal.main_arg1) = m ((c.tc : Thread Cert.PairWeightGradIdeal.nD Cert.PairWeightGradIdeal.τ).loc Cert.PairWeightGradIdeal.main_arg1)
      ∧ r.2.mem ((c.tc : Thread Cert.PairWeightGradIdeal.nD Cert.PairWeightGradIdeal.τ).loc Cert.PairWeightGradIdeal.main_arg2) = m ((c.tc : Thread Cert.PairWeightGradIdeal.nD Cert.PairWeightGradIdeal.τ).loc Cert.PairWeightGradIdeal.main_arg2))
      ∧ r.2.sem = fun _ => 0)

def quiescent_PairWeightGradReferenceIdeal [hPairWeightGradReferenceIdeal : Cert.PairWeightGradReferenceIdeal.Facts] : Prop :=
  ∀ (m : (ℓ : Loc Cert.PairWeightGradReferenceIdeal.nD Cert.PairWeightGradReferenceIdeal.τ Cert.PairWeightGradReferenceIdeal.sig) → Buf (Elt Ideal) ℓ) (g : Dev Cert.PairWeightGradReferenceIdeal.nD → PrngReg), Pre_PairWeightGradReferenceIdeal m →
    θ_run (Cert.PairWeightGradReferenceIdeal.defs (F := Ideal)) (onTc (τ := Cert.PairWeightGradReferenceIdeal.τ) (Cert.PairWeightGradReferenceIdeal.main (F := Ideal))) ⟨m, fun _ => 0, g⟩ (fun r => (∀ c : Dev Cert.PairWeightGradReferenceIdeal.nD,
      r.2.mem ((c.tc : Thread Cert.PairWeightGradReferenceIdeal.nD Cert.PairWeightGradReferenceIdeal.τ).loc Cert.PairWeightGradReferenceIdeal.main_arg0) = m ((c.tc : Thread Cert.PairWeightGradReferenceIdeal.nD Cert.PairWeightGradReferenceIdeal.τ).loc Cert.PairWeightGradReferenceIdeal.main_arg0)
      ∧ r.2.mem ((c.tc : Thread Cert.PairWeightGradReferenceIdeal.nD Cert.PairWeightGradReferenceIdeal.τ).loc Cert.PairWeightGradReferenceIdeal.main_arg1) = m ((c.tc : Thread Cert.PairWeightGradReferenceIdeal.nD Cert.PairWeightGradReferenceIdeal.τ).loc Cert.PairWeightGradReferenceIdeal.main_arg1)
      ∧ r.2.mem ((c.tc : Thread Cert.PairWeightGradReferenceIdeal.nD Cert.PairWeightGradReferenceIdeal.τ).loc Cert.PairWeightGradReferenceIdeal.main_arg2) = m ((c.tc : Thread Cert.PairWeightGradReferenceIdeal.nD Cert.PairWeightGradReferenceIdeal.τ).loc Cert.PairWeightGradReferenceIdeal.main_arg2))
      ∧ r.2.sem = fun _ => 0)

def quiescent_InputGrad [hInputGrad : Cert.InputGrad.Facts] : Prop :=
  ∀ (m : (ℓ : Loc Cert.InputGrad.nD Cert.InputGrad.τ Cert.InputGrad.sig) → Buf (Elt Bits) ℓ) (g : Dev Cert.InputGrad.nD → PrngReg), Pre_InputGrad m →
    θ_run (Cert.InputGrad.defs (F := Bits)) (onTc (τ := Cert.InputGrad.τ) (Cert.InputGrad.main (F := Bits))) ⟨m, fun _ => 0, g⟩ (fun r => (∀ c : Dev Cert.InputGrad.nD,
      r.2.mem ((c.tc : Thread Cert.InputGrad.nD Cert.InputGrad.τ).loc Cert.InputGrad.main_arg0) = m ((c.tc : Thread Cert.InputGrad.nD Cert.InputGrad.τ).loc Cert.InputGrad.main_arg0)
      ∧ r.2.mem ((c.tc : Thread Cert.InputGrad.nD Cert.InputGrad.τ).loc Cert.InputGrad.main_arg1) = m ((c.tc : Thread Cert.InputGrad.nD Cert.InputGrad.τ).loc Cert.InputGrad.main_arg1)
      ∧ r.2.mem ((c.tc : Thread Cert.InputGrad.nD Cert.InputGrad.τ).loc Cert.InputGrad.main_arg2) = m ((c.tc : Thread Cert.InputGrad.nD Cert.InputGrad.τ).loc Cert.InputGrad.main_arg2))
      ∧ r.2.sem = fun _ => 0)

def quiescent_InputGradIdeal [hInputGradIdeal : Cert.InputGradIdeal.Facts] : Prop :=
  ∀ (m : (ℓ : Loc Cert.InputGradIdeal.nD Cert.InputGradIdeal.τ Cert.InputGradIdeal.sig) → Buf (Elt Ideal) ℓ) (g : Dev Cert.InputGradIdeal.nD → PrngReg), Pre_InputGradIdeal m →
    θ_run (Cert.InputGradIdeal.defs (F := Ideal)) (onTc (τ := Cert.InputGradIdeal.τ) (Cert.InputGradIdeal.main (F := Ideal))) ⟨m, fun _ => 0, g⟩ (fun r => (∀ c : Dev Cert.InputGradIdeal.nD,
      r.2.mem ((c.tc : Thread Cert.InputGradIdeal.nD Cert.InputGradIdeal.τ).loc Cert.InputGradIdeal.main_arg0) = m ((c.tc : Thread Cert.InputGradIdeal.nD Cert.InputGradIdeal.τ).loc Cert.InputGradIdeal.main_arg0)
      ∧ r.2.mem ((c.tc : Thread Cert.InputGradIdeal.nD Cert.InputGradIdeal.τ).loc Cert.InputGradIdeal.main_arg1) = m ((c.tc : Thread Cert.InputGradIdeal.nD Cert.InputGradIdeal.τ).loc Cert.InputGradIdeal.main_arg1)
      ∧ r.2.mem ((c.tc : Thread Cert.InputGradIdeal.nD Cert.InputGradIdeal.τ).loc Cert.InputGradIdeal.main_arg2) = m ((c.tc : Thread Cert.InputGradIdeal.nD Cert.InputGradIdeal.τ).loc Cert.InputGradIdeal.main_arg2))
      ∧ r.2.sem = fun _ => 0)

def quiescent_InputGradReferenceIdeal [hInputGradReferenceIdeal : Cert.InputGradReferenceIdeal.Facts] : Prop :=
  ∀ (m : (ℓ : Loc Cert.InputGradReferenceIdeal.nD Cert.InputGradReferenceIdeal.τ Cert.InputGradReferenceIdeal.sig) → Buf (Elt Ideal) ℓ) (g : Dev Cert.InputGradReferenceIdeal.nD → PrngReg), Pre_InputGradReferenceIdeal m →
    θ_run (Cert.InputGradReferenceIdeal.defs (F := Ideal)) (onTc (τ := Cert.InputGradReferenceIdeal.τ) (Cert.InputGradReferenceIdeal.main (F := Ideal))) ⟨m, fun _ => 0, g⟩ (fun r => (∀ c : Dev Cert.InputGradReferenceIdeal.nD,
      r.2.mem ((c.tc : Thread Cert.InputGradReferenceIdeal.nD Cert.InputGradReferenceIdeal.τ).loc Cert.InputGradReferenceIdeal.main_arg0) = m ((c.tc : Thread Cert.InputGradReferenceIdeal.nD Cert.InputGradReferenceIdeal.τ).loc Cert.InputGradReferenceIdeal.main_arg0)
      ∧ r.2.mem ((c.tc : Thread Cert.InputGradReferenceIdeal.nD Cert.InputGradReferenceIdeal.τ).loc Cert.InputGradReferenceIdeal.main_arg1) = m ((c.tc : Thread Cert.InputGradReferenceIdeal.nD Cert.InputGradReferenceIdeal.τ).loc Cert.InputGradReferenceIdeal.main_arg1)
      ∧ r.2.mem ((c.tc : Thread Cert.InputGradReferenceIdeal.nD Cert.InputGradReferenceIdeal.τ).loc Cert.InputGradReferenceIdeal.main_arg2) = m ((c.tc : Thread Cert.InputGradReferenceIdeal.nD Cert.InputGradReferenceIdeal.τ).loc Cert.InputGradReferenceIdeal.main_arg2))
      ∧ r.2.sem = fun _ => 0)

def quiescent_InputProjection [hInputProjection : Cert.InputProjection.Facts] : Prop :=
  ∀ (m : (ℓ : Loc Cert.InputProjection.nD Cert.InputProjection.τ Cert.InputProjection.sig) → Buf (Elt Bits) ℓ) (g : Dev Cert.InputProjection.nD → PrngReg), Pre_InputProjection m →
    θ_run (Cert.InputProjection.defs (F := Bits)) (onTc (τ := Cert.InputProjection.τ) (Cert.InputProjection.main (F := Bits))) ⟨m, fun _ => 0, g⟩ (fun r => (∀ c : Dev Cert.InputProjection.nD,
      r.2.mem ((c.tc : Thread Cert.InputProjection.nD Cert.InputProjection.τ).loc Cert.InputProjection.main_arg0) = m ((c.tc : Thread Cert.InputProjection.nD Cert.InputProjection.τ).loc Cert.InputProjection.main_arg0)
      ∧ r.2.mem ((c.tc : Thread Cert.InputProjection.nD Cert.InputProjection.τ).loc Cert.InputProjection.main_arg1) = m ((c.tc : Thread Cert.InputProjection.nD Cert.InputProjection.τ).loc Cert.InputProjection.main_arg1)
      ∧ r.2.mem ((c.tc : Thread Cert.InputProjection.nD Cert.InputProjection.τ).loc Cert.InputProjection.main_arg2) = m ((c.tc : Thread Cert.InputProjection.nD Cert.InputProjection.τ).loc Cert.InputProjection.main_arg2))
      ∧ r.2.sem = fun _ => 0)

def quiescent_InputProjectionIdeal [hInputProjectionIdeal : Cert.InputProjectionIdeal.Facts] : Prop :=
  ∀ (m : (ℓ : Loc Cert.InputProjectionIdeal.nD Cert.InputProjectionIdeal.τ Cert.InputProjectionIdeal.sig) → Buf (Elt Ideal) ℓ) (g : Dev Cert.InputProjectionIdeal.nD → PrngReg), Pre_InputProjectionIdeal m →
    θ_run (Cert.InputProjectionIdeal.defs (F := Ideal)) (onTc (τ := Cert.InputProjectionIdeal.τ) (Cert.InputProjectionIdeal.main (F := Ideal))) ⟨m, fun _ => 0, g⟩ (fun r => (∀ c : Dev Cert.InputProjectionIdeal.nD,
      r.2.mem ((c.tc : Thread Cert.InputProjectionIdeal.nD Cert.InputProjectionIdeal.τ).loc Cert.InputProjectionIdeal.main_arg0) = m ((c.tc : Thread Cert.InputProjectionIdeal.nD Cert.InputProjectionIdeal.τ).loc Cert.InputProjectionIdeal.main_arg0)
      ∧ r.2.mem ((c.tc : Thread Cert.InputProjectionIdeal.nD Cert.InputProjectionIdeal.τ).loc Cert.InputProjectionIdeal.main_arg1) = m ((c.tc : Thread Cert.InputProjectionIdeal.nD Cert.InputProjectionIdeal.τ).loc Cert.InputProjectionIdeal.main_arg1)
      ∧ r.2.mem ((c.tc : Thread Cert.InputProjectionIdeal.nD Cert.InputProjectionIdeal.τ).loc Cert.InputProjectionIdeal.main_arg2) = m ((c.tc : Thread Cert.InputProjectionIdeal.nD Cert.InputProjectionIdeal.τ).loc Cert.InputProjectionIdeal.main_arg2))
      ∧ r.2.sem = fun _ => 0)

def quiescent_InputProjectionReferenceIdeal [hInputProjectionReferenceIdeal : Cert.InputProjectionReferenceIdeal.Facts] : Prop :=
  ∀ (m : (ℓ : Loc Cert.InputProjectionReferenceIdeal.nD Cert.InputProjectionReferenceIdeal.τ Cert.InputProjectionReferenceIdeal.sig) → Buf (Elt Ideal) ℓ) (g : Dev Cert.InputProjectionReferenceIdeal.nD → PrngReg), Pre_InputProjectionReferenceIdeal m →
    θ_run (Cert.InputProjectionReferenceIdeal.defs (F := Ideal)) (onTc (τ := Cert.InputProjectionReferenceIdeal.τ) (Cert.InputProjectionReferenceIdeal.main (F := Ideal))) ⟨m, fun _ => 0, g⟩ (fun r => (∀ c : Dev Cert.InputProjectionReferenceIdeal.nD,
      r.2.mem ((c.tc : Thread Cert.InputProjectionReferenceIdeal.nD Cert.InputProjectionReferenceIdeal.τ).loc Cert.InputProjectionReferenceIdeal.main_arg0) = m ((c.tc : Thread Cert.InputProjectionReferenceIdeal.nD Cert.InputProjectionReferenceIdeal.τ).loc Cert.InputProjectionReferenceIdeal.main_arg0)
      ∧ r.2.mem ((c.tc : Thread Cert.InputProjectionReferenceIdeal.nD Cert.InputProjectionReferenceIdeal.τ).loc Cert.InputProjectionReferenceIdeal.main_arg1) = m ((c.tc : Thread Cert.InputProjectionReferenceIdeal.nD Cert.InputProjectionReferenceIdeal.τ).loc Cert.InputProjectionReferenceIdeal.main_arg1)
      ∧ r.2.mem ((c.tc : Thread Cert.InputProjectionReferenceIdeal.nD Cert.InputProjectionReferenceIdeal.τ).loc Cert.InputProjectionReferenceIdeal.main_arg2) = m ((c.tc : Thread Cert.InputProjectionReferenceIdeal.nD Cert.InputProjectionReferenceIdeal.τ).loc Cert.InputProjectionReferenceIdeal.main_arg2))
      ∧ r.2.sem = fun _ => 0)

def quiescent_PairProjection [hPairProjection : Cert.PairProjection.Facts] : Prop :=
  ∀ (m : (ℓ : Loc Cert.PairProjection.nD Cert.PairProjection.τ Cert.PairProjection.sig) → Buf (Elt Bits) ℓ) (g : Dev Cert.PairProjection.nD → PrngReg), Pre_PairProjection m →
    θ_run (Cert.PairProjection.defs (F := Bits)) (onTc (τ := Cert.PairProjection.τ) (Cert.PairProjection.main (F := Bits))) ⟨m, fun _ => 0, g⟩ (fun r => (∀ c : Dev Cert.PairProjection.nD,
      r.2.mem ((c.tc : Thread Cert.PairProjection.nD Cert.PairProjection.τ).loc Cert.PairProjection.main_arg0) = m ((c.tc : Thread Cert.PairProjection.nD Cert.PairProjection.τ).loc Cert.PairProjection.main_arg0)
      ∧ r.2.mem ((c.tc : Thread Cert.PairProjection.nD Cert.PairProjection.τ).loc Cert.PairProjection.main_arg1) = m ((c.tc : Thread Cert.PairProjection.nD Cert.PairProjection.τ).loc Cert.PairProjection.main_arg1))
      ∧ r.2.sem = fun _ => 0)

def quiescent_PairProjectionIdeal [hPairProjectionIdeal : Cert.PairProjectionIdeal.Facts] : Prop :=
  ∀ (m : (ℓ : Loc Cert.PairProjectionIdeal.nD Cert.PairProjectionIdeal.τ Cert.PairProjectionIdeal.sig) → Buf (Elt Ideal) ℓ) (g : Dev Cert.PairProjectionIdeal.nD → PrngReg), Pre_PairProjectionIdeal m →
    θ_run (Cert.PairProjectionIdeal.defs (F := Ideal)) (onTc (τ := Cert.PairProjectionIdeal.τ) (Cert.PairProjectionIdeal.main (F := Ideal))) ⟨m, fun _ => 0, g⟩ (fun r => (∀ c : Dev Cert.PairProjectionIdeal.nD,
      r.2.mem ((c.tc : Thread Cert.PairProjectionIdeal.nD Cert.PairProjectionIdeal.τ).loc Cert.PairProjectionIdeal.main_arg0) = m ((c.tc : Thread Cert.PairProjectionIdeal.nD Cert.PairProjectionIdeal.τ).loc Cert.PairProjectionIdeal.main_arg0)
      ∧ r.2.mem ((c.tc : Thread Cert.PairProjectionIdeal.nD Cert.PairProjectionIdeal.τ).loc Cert.PairProjectionIdeal.main_arg1) = m ((c.tc : Thread Cert.PairProjectionIdeal.nD Cert.PairProjectionIdeal.τ).loc Cert.PairProjectionIdeal.main_arg1))
      ∧ r.2.sem = fun _ => 0)

def quiescent_PairProjectionReferenceIdeal [hPairProjectionReferenceIdeal : Cert.PairProjectionReferenceIdeal.Facts] : Prop :=
  ∀ (m : (ℓ : Loc Cert.PairProjectionReferenceIdeal.nD Cert.PairProjectionReferenceIdeal.τ Cert.PairProjectionReferenceIdeal.sig) → Buf (Elt Ideal) ℓ) (g : Dev Cert.PairProjectionReferenceIdeal.nD → PrngReg), Pre_PairProjectionReferenceIdeal m →
    θ_run (Cert.PairProjectionReferenceIdeal.defs (F := Ideal)) (onTc (τ := Cert.PairProjectionReferenceIdeal.τ) (Cert.PairProjectionReferenceIdeal.main (F := Ideal))) ⟨m, fun _ => 0, g⟩ (fun r => (∀ c : Dev Cert.PairProjectionReferenceIdeal.nD,
      r.2.mem ((c.tc : Thread Cert.PairProjectionReferenceIdeal.nD Cert.PairProjectionReferenceIdeal.τ).loc Cert.PairProjectionReferenceIdeal.main_arg0) = m ((c.tc : Thread Cert.PairProjectionReferenceIdeal.nD Cert.PairProjectionReferenceIdeal.τ).loc Cert.PairProjectionReferenceIdeal.main_arg0)
      ∧ r.2.mem ((c.tc : Thread Cert.PairProjectionReferenceIdeal.nD Cert.PairProjectionReferenceIdeal.τ).loc Cert.PairProjectionReferenceIdeal.main_arg1) = m ((c.tc : Thread Cert.PairProjectionReferenceIdeal.nD Cert.PairProjectionReferenceIdeal.τ).loc Cert.PairProjectionReferenceIdeal.main_arg1))
      ∧ r.2.sem = fun _ => 0)

def quiescent_QueryProjection [hQueryProjection : Cert.QueryProjection.Facts] : Prop :=
  ∀ (m : (ℓ : Loc Cert.QueryProjection.nD Cert.QueryProjection.τ Cert.QueryProjection.sig) → Buf (Elt Bits) ℓ) (g : Dev Cert.QueryProjection.nD → PrngReg), Pre_QueryProjection m →
    θ_run (Cert.QueryProjection.defs (F := Bits)) (onTc (τ := Cert.QueryProjection.τ) (Cert.QueryProjection.main (F := Bits))) ⟨m, fun _ => 0, g⟩ (fun r => (∀ c : Dev Cert.QueryProjection.nD,
      r.2.mem ((c.tc : Thread Cert.QueryProjection.nD Cert.QueryProjection.τ).loc Cert.QueryProjection.main_arg0) = m ((c.tc : Thread Cert.QueryProjection.nD Cert.QueryProjection.τ).loc Cert.QueryProjection.main_arg0)
      ∧ r.2.mem ((c.tc : Thread Cert.QueryProjection.nD Cert.QueryProjection.τ).loc Cert.QueryProjection.main_arg1) = m ((c.tc : Thread Cert.QueryProjection.nD Cert.QueryProjection.τ).loc Cert.QueryProjection.main_arg1))
      ∧ r.2.sem = fun _ => 0)

def quiescent_QueryProjectionIdeal [hQueryProjectionIdeal : Cert.QueryProjectionIdeal.Facts] : Prop :=
  ∀ (m : (ℓ : Loc Cert.QueryProjectionIdeal.nD Cert.QueryProjectionIdeal.τ Cert.QueryProjectionIdeal.sig) → Buf (Elt Ideal) ℓ) (g : Dev Cert.QueryProjectionIdeal.nD → PrngReg), Pre_QueryProjectionIdeal m →
    θ_run (Cert.QueryProjectionIdeal.defs (F := Ideal)) (onTc (τ := Cert.QueryProjectionIdeal.τ) (Cert.QueryProjectionIdeal.main (F := Ideal))) ⟨m, fun _ => 0, g⟩ (fun r => (∀ c : Dev Cert.QueryProjectionIdeal.nD,
      r.2.mem ((c.tc : Thread Cert.QueryProjectionIdeal.nD Cert.QueryProjectionIdeal.τ).loc Cert.QueryProjectionIdeal.main_arg0) = m ((c.tc : Thread Cert.QueryProjectionIdeal.nD Cert.QueryProjectionIdeal.τ).loc Cert.QueryProjectionIdeal.main_arg0)
      ∧ r.2.mem ((c.tc : Thread Cert.QueryProjectionIdeal.nD Cert.QueryProjectionIdeal.τ).loc Cert.QueryProjectionIdeal.main_arg1) = m ((c.tc : Thread Cert.QueryProjectionIdeal.nD Cert.QueryProjectionIdeal.τ).loc Cert.QueryProjectionIdeal.main_arg1))
      ∧ r.2.sem = fun _ => 0)

def quiescent_QueryProjectionReferenceIdeal [hQueryProjectionReferenceIdeal : Cert.QueryProjectionReferenceIdeal.Facts] : Prop :=
  ∀ (m : (ℓ : Loc Cert.QueryProjectionReferenceIdeal.nD Cert.QueryProjectionReferenceIdeal.τ Cert.QueryProjectionReferenceIdeal.sig) → Buf (Elt Ideal) ℓ) (g : Dev Cert.QueryProjectionReferenceIdeal.nD → PrngReg), Pre_QueryProjectionReferenceIdeal m →
    θ_run (Cert.QueryProjectionReferenceIdeal.defs (F := Ideal)) (onTc (τ := Cert.QueryProjectionReferenceIdeal.τ) (Cert.QueryProjectionReferenceIdeal.main (F := Ideal))) ⟨m, fun _ => 0, g⟩ (fun r => (∀ c : Dev Cert.QueryProjectionReferenceIdeal.nD,
      r.2.mem ((c.tc : Thread Cert.QueryProjectionReferenceIdeal.nD Cert.QueryProjectionReferenceIdeal.τ).loc Cert.QueryProjectionReferenceIdeal.main_arg0) = m ((c.tc : Thread Cert.QueryProjectionReferenceIdeal.nD Cert.QueryProjectionReferenceIdeal.τ).loc Cert.QueryProjectionReferenceIdeal.main_arg0)
      ∧ r.2.mem ((c.tc : Thread Cert.QueryProjectionReferenceIdeal.nD Cert.QueryProjectionReferenceIdeal.τ).loc Cert.QueryProjectionReferenceIdeal.main_arg1) = m ((c.tc : Thread Cert.QueryProjectionReferenceIdeal.nD Cert.QueryProjectionReferenceIdeal.τ).loc Cert.QueryProjectionReferenceIdeal.main_arg1))
      ∧ r.2.sem = fun _ => 0)

def quiescent_ResidualGrad [hResidualGrad : Cert.ResidualGrad.Facts] : Prop :=
  ∀ (m : (ℓ : Loc Cert.ResidualGrad.nD Cert.ResidualGrad.τ Cert.ResidualGrad.sig) → Buf (Elt Bits) ℓ) (g : Dev Cert.ResidualGrad.nD → PrngReg), Pre_ResidualGrad m →
    θ_run (Cert.ResidualGrad.defs (F := Bits)) (onTc (τ := Cert.ResidualGrad.τ) (Cert.ResidualGrad.main (F := Bits))) ⟨m, fun _ => 0, g⟩ (fun r => (∀ c : Dev Cert.ResidualGrad.nD,
      r.2.mem ((c.tc : Thread Cert.ResidualGrad.nD Cert.ResidualGrad.τ).loc Cert.ResidualGrad.main_arg0) = m ((c.tc : Thread Cert.ResidualGrad.nD Cert.ResidualGrad.τ).loc Cert.ResidualGrad.main_arg0)
      ∧ r.2.mem ((c.tc : Thread Cert.ResidualGrad.nD Cert.ResidualGrad.τ).loc Cert.ResidualGrad.main_arg1) = m ((c.tc : Thread Cert.ResidualGrad.nD Cert.ResidualGrad.τ).loc Cert.ResidualGrad.main_arg1)
      ∧ r.2.mem ((c.tc : Thread Cert.ResidualGrad.nD Cert.ResidualGrad.τ).loc Cert.ResidualGrad.main_arg2) = m ((c.tc : Thread Cert.ResidualGrad.nD Cert.ResidualGrad.τ).loc Cert.ResidualGrad.main_arg2)
      ∧ r.2.mem ((c.tc : Thread Cert.ResidualGrad.nD Cert.ResidualGrad.τ).loc Cert.ResidualGrad.main_arg3) = m ((c.tc : Thread Cert.ResidualGrad.nD Cert.ResidualGrad.τ).loc Cert.ResidualGrad.main_arg3)
      ∧ r.2.mem ((c.tc : Thread Cert.ResidualGrad.nD Cert.ResidualGrad.τ).loc Cert.ResidualGrad.main_arg4) = m ((c.tc : Thread Cert.ResidualGrad.nD Cert.ResidualGrad.τ).loc Cert.ResidualGrad.main_arg4)
      ∧ r.2.mem ((c.tc : Thread Cert.ResidualGrad.nD Cert.ResidualGrad.τ).loc Cert.ResidualGrad.main_arg5) = m ((c.tc : Thread Cert.ResidualGrad.nD Cert.ResidualGrad.τ).loc Cert.ResidualGrad.main_arg5)
      ∧ r.2.mem ((c.tc : Thread Cert.ResidualGrad.nD Cert.ResidualGrad.τ).loc Cert.ResidualGrad.main_arg6) = m ((c.tc : Thread Cert.ResidualGrad.nD Cert.ResidualGrad.τ).loc Cert.ResidualGrad.main_arg6)
      ∧ r.2.mem ((c.tc : Thread Cert.ResidualGrad.nD Cert.ResidualGrad.τ).loc Cert.ResidualGrad.main_arg7) = m ((c.tc : Thread Cert.ResidualGrad.nD Cert.ResidualGrad.τ).loc Cert.ResidualGrad.main_arg7)
      ∧ r.2.mem ((c.tc : Thread Cert.ResidualGrad.nD Cert.ResidualGrad.τ).loc Cert.ResidualGrad.main_arg8) = m ((c.tc : Thread Cert.ResidualGrad.nD Cert.ResidualGrad.τ).loc Cert.ResidualGrad.main_arg8))
      ∧ r.2.sem = fun _ => 0)

def quiescent_ResidualGradIdeal [hResidualGradIdeal : Cert.ResidualGradIdeal.Facts] : Prop :=
  ∀ (m : (ℓ : Loc Cert.ResidualGradIdeal.nD Cert.ResidualGradIdeal.τ Cert.ResidualGradIdeal.sig) → Buf (Elt Ideal) ℓ) (g : Dev Cert.ResidualGradIdeal.nD → PrngReg), Pre_ResidualGradIdeal m →
    θ_run (Cert.ResidualGradIdeal.defs (F := Ideal)) (onTc (τ := Cert.ResidualGradIdeal.τ) (Cert.ResidualGradIdeal.main (F := Ideal))) ⟨m, fun _ => 0, g⟩ (fun r => (∀ c : Dev Cert.ResidualGradIdeal.nD,
      r.2.mem ((c.tc : Thread Cert.ResidualGradIdeal.nD Cert.ResidualGradIdeal.τ).loc Cert.ResidualGradIdeal.main_arg0) = m ((c.tc : Thread Cert.ResidualGradIdeal.nD Cert.ResidualGradIdeal.τ).loc Cert.ResidualGradIdeal.main_arg0)
      ∧ r.2.mem ((c.tc : Thread Cert.ResidualGradIdeal.nD Cert.ResidualGradIdeal.τ).loc Cert.ResidualGradIdeal.main_arg1) = m ((c.tc : Thread Cert.ResidualGradIdeal.nD Cert.ResidualGradIdeal.τ).loc Cert.ResidualGradIdeal.main_arg1)
      ∧ r.2.mem ((c.tc : Thread Cert.ResidualGradIdeal.nD Cert.ResidualGradIdeal.τ).loc Cert.ResidualGradIdeal.main_arg2) = m ((c.tc : Thread Cert.ResidualGradIdeal.nD Cert.ResidualGradIdeal.τ).loc Cert.ResidualGradIdeal.main_arg2)
      ∧ r.2.mem ((c.tc : Thread Cert.ResidualGradIdeal.nD Cert.ResidualGradIdeal.τ).loc Cert.ResidualGradIdeal.main_arg3) = m ((c.tc : Thread Cert.ResidualGradIdeal.nD Cert.ResidualGradIdeal.τ).loc Cert.ResidualGradIdeal.main_arg3)
      ∧ r.2.mem ((c.tc : Thread Cert.ResidualGradIdeal.nD Cert.ResidualGradIdeal.τ).loc Cert.ResidualGradIdeal.main_arg4) = m ((c.tc : Thread Cert.ResidualGradIdeal.nD Cert.ResidualGradIdeal.τ).loc Cert.ResidualGradIdeal.main_arg4)
      ∧ r.2.mem ((c.tc : Thread Cert.ResidualGradIdeal.nD Cert.ResidualGradIdeal.τ).loc Cert.ResidualGradIdeal.main_arg5) = m ((c.tc : Thread Cert.ResidualGradIdeal.nD Cert.ResidualGradIdeal.τ).loc Cert.ResidualGradIdeal.main_arg5)
      ∧ r.2.mem ((c.tc : Thread Cert.ResidualGradIdeal.nD Cert.ResidualGradIdeal.τ).loc Cert.ResidualGradIdeal.main_arg6) = m ((c.tc : Thread Cert.ResidualGradIdeal.nD Cert.ResidualGradIdeal.τ).loc Cert.ResidualGradIdeal.main_arg6)
      ∧ r.2.mem ((c.tc : Thread Cert.ResidualGradIdeal.nD Cert.ResidualGradIdeal.τ).loc Cert.ResidualGradIdeal.main_arg7) = m ((c.tc : Thread Cert.ResidualGradIdeal.nD Cert.ResidualGradIdeal.τ).loc Cert.ResidualGradIdeal.main_arg7)
      ∧ r.2.mem ((c.tc : Thread Cert.ResidualGradIdeal.nD Cert.ResidualGradIdeal.τ).loc Cert.ResidualGradIdeal.main_arg8) = m ((c.tc : Thread Cert.ResidualGradIdeal.nD Cert.ResidualGradIdeal.τ).loc Cert.ResidualGradIdeal.main_arg8))
      ∧ r.2.sem = fun _ => 0)

def quiescent_ResidualGradReferenceIdeal [hResidualGradReferenceIdeal : Cert.ResidualGradReferenceIdeal.Facts] : Prop :=
  ∀ (m : (ℓ : Loc Cert.ResidualGradReferenceIdeal.nD Cert.ResidualGradReferenceIdeal.τ Cert.ResidualGradReferenceIdeal.sig) → Buf (Elt Ideal) ℓ) (g : Dev Cert.ResidualGradReferenceIdeal.nD → PrngReg), Pre_ResidualGradReferenceIdeal m →
    θ_run (Cert.ResidualGradReferenceIdeal.defs (F := Ideal)) (onTc (τ := Cert.ResidualGradReferenceIdeal.τ) (Cert.ResidualGradReferenceIdeal.main (F := Ideal))) ⟨m, fun _ => 0, g⟩ (fun r => (∀ c : Dev Cert.ResidualGradReferenceIdeal.nD,
      r.2.mem ((c.tc : Thread Cert.ResidualGradReferenceIdeal.nD Cert.ResidualGradReferenceIdeal.τ).loc Cert.ResidualGradReferenceIdeal.main_arg0) = m ((c.tc : Thread Cert.ResidualGradReferenceIdeal.nD Cert.ResidualGradReferenceIdeal.τ).loc Cert.ResidualGradReferenceIdeal.main_arg0)
      ∧ r.2.mem ((c.tc : Thread Cert.ResidualGradReferenceIdeal.nD Cert.ResidualGradReferenceIdeal.τ).loc Cert.ResidualGradReferenceIdeal.main_arg1) = m ((c.tc : Thread Cert.ResidualGradReferenceIdeal.nD Cert.ResidualGradReferenceIdeal.τ).loc Cert.ResidualGradReferenceIdeal.main_arg1)
      ∧ r.2.mem ((c.tc : Thread Cert.ResidualGradReferenceIdeal.nD Cert.ResidualGradReferenceIdeal.τ).loc Cert.ResidualGradReferenceIdeal.main_arg2) = m ((c.tc : Thread Cert.ResidualGradReferenceIdeal.nD Cert.ResidualGradReferenceIdeal.τ).loc Cert.ResidualGradReferenceIdeal.main_arg2)
      ∧ r.2.mem ((c.tc : Thread Cert.ResidualGradReferenceIdeal.nD Cert.ResidualGradReferenceIdeal.τ).loc Cert.ResidualGradReferenceIdeal.main_arg3) = m ((c.tc : Thread Cert.ResidualGradReferenceIdeal.nD Cert.ResidualGradReferenceIdeal.τ).loc Cert.ResidualGradReferenceIdeal.main_arg3)
      ∧ r.2.mem ((c.tc : Thread Cert.ResidualGradReferenceIdeal.nD Cert.ResidualGradReferenceIdeal.τ).loc Cert.ResidualGradReferenceIdeal.main_arg4) = m ((c.tc : Thread Cert.ResidualGradReferenceIdeal.nD Cert.ResidualGradReferenceIdeal.τ).loc Cert.ResidualGradReferenceIdeal.main_arg4)
      ∧ r.2.mem ((c.tc : Thread Cert.ResidualGradReferenceIdeal.nD Cert.ResidualGradReferenceIdeal.τ).loc Cert.ResidualGradReferenceIdeal.main_arg5) = m ((c.tc : Thread Cert.ResidualGradReferenceIdeal.nD Cert.ResidualGradReferenceIdeal.τ).loc Cert.ResidualGradReferenceIdeal.main_arg5)
      ∧ r.2.mem ((c.tc : Thread Cert.ResidualGradReferenceIdeal.nD Cert.ResidualGradReferenceIdeal.τ).loc Cert.ResidualGradReferenceIdeal.main_arg6) = m ((c.tc : Thread Cert.ResidualGradReferenceIdeal.nD Cert.ResidualGradReferenceIdeal.τ).loc Cert.ResidualGradReferenceIdeal.main_arg6)
      ∧ r.2.mem ((c.tc : Thread Cert.ResidualGradReferenceIdeal.nD Cert.ResidualGradReferenceIdeal.τ).loc Cert.ResidualGradReferenceIdeal.main_arg7) = m ((c.tc : Thread Cert.ResidualGradReferenceIdeal.nD Cert.ResidualGradReferenceIdeal.τ).loc Cert.ResidualGradReferenceIdeal.main_arg7)
      ∧ r.2.mem ((c.tc : Thread Cert.ResidualGradReferenceIdeal.nD Cert.ResidualGradReferenceIdeal.τ).loc Cert.ResidualGradReferenceIdeal.main_arg8) = m ((c.tc : Thread Cert.ResidualGradReferenceIdeal.nD Cert.ResidualGradReferenceIdeal.τ).loc Cert.ResidualGradReferenceIdeal.main_arg8))
      ∧ r.2.sem = fun _ => 0)

def quiescent_LossGrad [hLossGrad : Cert.LossGrad.Facts] : Prop :=
  ∀ (m : (ℓ : Loc Cert.LossGrad.nD Cert.LossGrad.τ Cert.LossGrad.sig) → Buf (Elt Bits) ℓ) (g : Dev Cert.LossGrad.nD → PrngReg), Pre_LossGrad m →
    θ_run (Cert.LossGrad.defs (F := Bits)) (onTc (τ := Cert.LossGrad.τ) (Cert.LossGrad.main (F := Bits))) ⟨m, fun _ => 0, g⟩ (fun r => (∀ c : Dev Cert.LossGrad.nD,
      r.2.mem ((c.tc : Thread Cert.LossGrad.nD Cert.LossGrad.τ).loc Cert.LossGrad.main_arg0) = m ((c.tc : Thread Cert.LossGrad.nD Cert.LossGrad.τ).loc Cert.LossGrad.main_arg0)
      ∧ r.2.mem ((c.tc : Thread Cert.LossGrad.nD Cert.LossGrad.τ).loc Cert.LossGrad.main_arg1) = m ((c.tc : Thread Cert.LossGrad.nD Cert.LossGrad.τ).loc Cert.LossGrad.main_arg1)
      ∧ r.2.mem ((c.tc : Thread Cert.LossGrad.nD Cert.LossGrad.τ).loc Cert.LossGrad.main_arg2) = m ((c.tc : Thread Cert.LossGrad.nD Cert.LossGrad.τ).loc Cert.LossGrad.main_arg2)
      ∧ r.2.mem ((c.tc : Thread Cert.LossGrad.nD Cert.LossGrad.τ).loc Cert.LossGrad.main_arg3) = m ((c.tc : Thread Cert.LossGrad.nD Cert.LossGrad.τ).loc Cert.LossGrad.main_arg3)
      ∧ r.2.mem ((c.tc : Thread Cert.LossGrad.nD Cert.LossGrad.τ).loc Cert.LossGrad.main_arg4) = m ((c.tc : Thread Cert.LossGrad.nD Cert.LossGrad.τ).loc Cert.LossGrad.main_arg4)
      ∧ r.2.mem ((c.tc : Thread Cert.LossGrad.nD Cert.LossGrad.τ).loc Cert.LossGrad.main_arg5) = m ((c.tc : Thread Cert.LossGrad.nD Cert.LossGrad.τ).loc Cert.LossGrad.main_arg5)
      ∧ r.2.mem ((c.tc : Thread Cert.LossGrad.nD Cert.LossGrad.τ).loc Cert.LossGrad.main_arg6) = m ((c.tc : Thread Cert.LossGrad.nD Cert.LossGrad.τ).loc Cert.LossGrad.main_arg6)
      ∧ r.2.mem ((c.tc : Thread Cert.LossGrad.nD Cert.LossGrad.τ).loc Cert.LossGrad.main_arg7) = m ((c.tc : Thread Cert.LossGrad.nD Cert.LossGrad.τ).loc Cert.LossGrad.main_arg7)
      ∧ r.2.mem ((c.tc : Thread Cert.LossGrad.nD Cert.LossGrad.τ).loc Cert.LossGrad.main_arg8) = m ((c.tc : Thread Cert.LossGrad.nD Cert.LossGrad.τ).loc Cert.LossGrad.main_arg8))
      ∧ r.2.sem = fun _ => 0)

def quiescent_LossGradIdeal [hLossGradIdeal : Cert.LossGradIdeal.Facts] : Prop :=
  ∀ (m : (ℓ : Loc Cert.LossGradIdeal.nD Cert.LossGradIdeal.τ Cert.LossGradIdeal.sig) → Buf (Elt Ideal) ℓ) (g : Dev Cert.LossGradIdeal.nD → PrngReg), Pre_LossGradIdeal m →
    θ_run (Cert.LossGradIdeal.defs (F := Ideal)) (onTc (τ := Cert.LossGradIdeal.τ) (Cert.LossGradIdeal.main (F := Ideal))) ⟨m, fun _ => 0, g⟩ (fun r => (∀ c : Dev Cert.LossGradIdeal.nD,
      r.2.mem ((c.tc : Thread Cert.LossGradIdeal.nD Cert.LossGradIdeal.τ).loc Cert.LossGradIdeal.main_arg0) = m ((c.tc : Thread Cert.LossGradIdeal.nD Cert.LossGradIdeal.τ).loc Cert.LossGradIdeal.main_arg0)
      ∧ r.2.mem ((c.tc : Thread Cert.LossGradIdeal.nD Cert.LossGradIdeal.τ).loc Cert.LossGradIdeal.main_arg1) = m ((c.tc : Thread Cert.LossGradIdeal.nD Cert.LossGradIdeal.τ).loc Cert.LossGradIdeal.main_arg1)
      ∧ r.2.mem ((c.tc : Thread Cert.LossGradIdeal.nD Cert.LossGradIdeal.τ).loc Cert.LossGradIdeal.main_arg2) = m ((c.tc : Thread Cert.LossGradIdeal.nD Cert.LossGradIdeal.τ).loc Cert.LossGradIdeal.main_arg2)
      ∧ r.2.mem ((c.tc : Thread Cert.LossGradIdeal.nD Cert.LossGradIdeal.τ).loc Cert.LossGradIdeal.main_arg3) = m ((c.tc : Thread Cert.LossGradIdeal.nD Cert.LossGradIdeal.τ).loc Cert.LossGradIdeal.main_arg3)
      ∧ r.2.mem ((c.tc : Thread Cert.LossGradIdeal.nD Cert.LossGradIdeal.τ).loc Cert.LossGradIdeal.main_arg4) = m ((c.tc : Thread Cert.LossGradIdeal.nD Cert.LossGradIdeal.τ).loc Cert.LossGradIdeal.main_arg4)
      ∧ r.2.mem ((c.tc : Thread Cert.LossGradIdeal.nD Cert.LossGradIdeal.τ).loc Cert.LossGradIdeal.main_arg5) = m ((c.tc : Thread Cert.LossGradIdeal.nD Cert.LossGradIdeal.τ).loc Cert.LossGradIdeal.main_arg5)
      ∧ r.2.mem ((c.tc : Thread Cert.LossGradIdeal.nD Cert.LossGradIdeal.τ).loc Cert.LossGradIdeal.main_arg6) = m ((c.tc : Thread Cert.LossGradIdeal.nD Cert.LossGradIdeal.τ).loc Cert.LossGradIdeal.main_arg6)
      ∧ r.2.mem ((c.tc : Thread Cert.LossGradIdeal.nD Cert.LossGradIdeal.τ).loc Cert.LossGradIdeal.main_arg7) = m ((c.tc : Thread Cert.LossGradIdeal.nD Cert.LossGradIdeal.τ).loc Cert.LossGradIdeal.main_arg7)
      ∧ r.2.mem ((c.tc : Thread Cert.LossGradIdeal.nD Cert.LossGradIdeal.τ).loc Cert.LossGradIdeal.main_arg8) = m ((c.tc : Thread Cert.LossGradIdeal.nD Cert.LossGradIdeal.τ).loc Cert.LossGradIdeal.main_arg8))
      ∧ r.2.sem = fun _ => 0)

def quiescent_LossGradReferenceIdeal [hLossGradReferenceIdeal : Cert.LossGradReferenceIdeal.Facts] : Prop :=
  ∀ (m : (ℓ : Loc Cert.LossGradReferenceIdeal.nD Cert.LossGradReferenceIdeal.τ Cert.LossGradReferenceIdeal.sig) → Buf (Elt Ideal) ℓ) (g : Dev Cert.LossGradReferenceIdeal.nD → PrngReg), Pre_LossGradReferenceIdeal m →
    θ_run (Cert.LossGradReferenceIdeal.defs (F := Ideal)) (onTc (τ := Cert.LossGradReferenceIdeal.τ) (Cert.LossGradReferenceIdeal.main (F := Ideal))) ⟨m, fun _ => 0, g⟩ (fun r => (∀ c : Dev Cert.LossGradReferenceIdeal.nD,
      r.2.mem ((c.tc : Thread Cert.LossGradReferenceIdeal.nD Cert.LossGradReferenceIdeal.τ).loc Cert.LossGradReferenceIdeal.main_arg0) = m ((c.tc : Thread Cert.LossGradReferenceIdeal.nD Cert.LossGradReferenceIdeal.τ).loc Cert.LossGradReferenceIdeal.main_arg0)
      ∧ r.2.mem ((c.tc : Thread Cert.LossGradReferenceIdeal.nD Cert.LossGradReferenceIdeal.τ).loc Cert.LossGradReferenceIdeal.main_arg1) = m ((c.tc : Thread Cert.LossGradReferenceIdeal.nD Cert.LossGradReferenceIdeal.τ).loc Cert.LossGradReferenceIdeal.main_arg1)
      ∧ r.2.mem ((c.tc : Thread Cert.LossGradReferenceIdeal.nD Cert.LossGradReferenceIdeal.τ).loc Cert.LossGradReferenceIdeal.main_arg2) = m ((c.tc : Thread Cert.LossGradReferenceIdeal.nD Cert.LossGradReferenceIdeal.τ).loc Cert.LossGradReferenceIdeal.main_arg2)
      ∧ r.2.mem ((c.tc : Thread Cert.LossGradReferenceIdeal.nD Cert.LossGradReferenceIdeal.τ).loc Cert.LossGradReferenceIdeal.main_arg3) = m ((c.tc : Thread Cert.LossGradReferenceIdeal.nD Cert.LossGradReferenceIdeal.τ).loc Cert.LossGradReferenceIdeal.main_arg3)
      ∧ r.2.mem ((c.tc : Thread Cert.LossGradReferenceIdeal.nD Cert.LossGradReferenceIdeal.τ).loc Cert.LossGradReferenceIdeal.main_arg4) = m ((c.tc : Thread Cert.LossGradReferenceIdeal.nD Cert.LossGradReferenceIdeal.τ).loc Cert.LossGradReferenceIdeal.main_arg4)
      ∧ r.2.mem ((c.tc : Thread Cert.LossGradReferenceIdeal.nD Cert.LossGradReferenceIdeal.τ).loc Cert.LossGradReferenceIdeal.main_arg5) = m ((c.tc : Thread Cert.LossGradReferenceIdeal.nD Cert.LossGradReferenceIdeal.τ).loc Cert.LossGradReferenceIdeal.main_arg5)
      ∧ r.2.mem ((c.tc : Thread Cert.LossGradReferenceIdeal.nD Cert.LossGradReferenceIdeal.τ).loc Cert.LossGradReferenceIdeal.main_arg6) = m ((c.tc : Thread Cert.LossGradReferenceIdeal.nD Cert.LossGradReferenceIdeal.τ).loc Cert.LossGradReferenceIdeal.main_arg6)
      ∧ r.2.mem ((c.tc : Thread Cert.LossGradReferenceIdeal.nD Cert.LossGradReferenceIdeal.τ).loc Cert.LossGradReferenceIdeal.main_arg7) = m ((c.tc : Thread Cert.LossGradReferenceIdeal.nD Cert.LossGradReferenceIdeal.τ).loc Cert.LossGradReferenceIdeal.main_arg7)
      ∧ r.2.mem ((c.tc : Thread Cert.LossGradReferenceIdeal.nD Cert.LossGradReferenceIdeal.τ).loc Cert.LossGradReferenceIdeal.main_arg8) = m ((c.tc : Thread Cert.LossGradReferenceIdeal.nD Cert.LossGradReferenceIdeal.τ).loc Cert.LossGradReferenceIdeal.main_arg8))
      ∧ r.2.sem = fun _ => 0)

def quiescent_GateGrad [hGateGrad : Cert.GateGrad.Facts] : Prop :=
  ∀ (m : (ℓ : Loc Cert.GateGrad.nD Cert.GateGrad.τ Cert.GateGrad.sig) → Buf (Elt Bits) ℓ) (g : Dev Cert.GateGrad.nD → PrngReg), Pre_GateGrad m →
    θ_run (Cert.GateGrad.defs (F := Bits)) (onTc (τ := Cert.GateGrad.τ) (Cert.GateGrad.main (F := Bits))) ⟨m, fun _ => 0, g⟩ (fun r => (∀ c : Dev Cert.GateGrad.nD,
      r.2.mem ((c.tc : Thread Cert.GateGrad.nD Cert.GateGrad.τ).loc Cert.GateGrad.main_arg0) = m ((c.tc : Thread Cert.GateGrad.nD Cert.GateGrad.τ).loc Cert.GateGrad.main_arg0)
      ∧ r.2.mem ((c.tc : Thread Cert.GateGrad.nD Cert.GateGrad.τ).loc Cert.GateGrad.main_arg1) = m ((c.tc : Thread Cert.GateGrad.nD Cert.GateGrad.τ).loc Cert.GateGrad.main_arg1)
      ∧ r.2.mem ((c.tc : Thread Cert.GateGrad.nD Cert.GateGrad.τ).loc Cert.GateGrad.main_arg2) = m ((c.tc : Thread Cert.GateGrad.nD Cert.GateGrad.τ).loc Cert.GateGrad.main_arg2)
      ∧ r.2.mem ((c.tc : Thread Cert.GateGrad.nD Cert.GateGrad.τ).loc Cert.GateGrad.main_arg3) = m ((c.tc : Thread Cert.GateGrad.nD Cert.GateGrad.τ).loc Cert.GateGrad.main_arg3))
      ∧ r.2.sem = fun _ => 0)

def quiescent_GateGradIdeal [hGateGradIdeal : Cert.GateGradIdeal.Facts] : Prop :=
  ∀ (m : (ℓ : Loc Cert.GateGradIdeal.nD Cert.GateGradIdeal.τ Cert.GateGradIdeal.sig) → Buf (Elt Ideal) ℓ) (g : Dev Cert.GateGradIdeal.nD → PrngReg), Pre_GateGradIdeal m →
    θ_run (Cert.GateGradIdeal.defs (F := Ideal)) (onTc (τ := Cert.GateGradIdeal.τ) (Cert.GateGradIdeal.main (F := Ideal))) ⟨m, fun _ => 0, g⟩ (fun r => (∀ c : Dev Cert.GateGradIdeal.nD,
      r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
      ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1)
      ∧ r.2.mem ((c.tc : Thread Cert.GateGradIdeal.nD Cert.GateGradIdeal.τ).loc Cert.GateGradIdeal.main_arg2) = m ((c.tc : Thread Cert.GateGradIdeal.nD Cert.GateGradIdeal.τ).loc Cert.GateGradIdeal.main_arg2)
      ∧ r.2.mem ((c.tc : Thread Cert.GateGradIdeal.nD Cert.GateGradIdeal.τ).loc Cert.GateGradIdeal.main_arg3) = m ((c.tc : Thread Cert.GateGradIdeal.nD Cert.GateGradIdeal.τ).loc Cert.GateGradIdeal.main_arg3))
      ∧ r.2.sem = fun _ => 0)

def quiescent_GateGradIdeal_pre_gate_finite [hGateGradIdeal : Cert.GateGradIdeal.Facts] [hPre_gate_finite : Cert.Pre_gate_finite.Facts] : Prop :=
  ∀ (m : (ℓ : Loc Cert.GateGradIdeal.nD Cert.GateGradIdeal.τ Cert.GateGradIdeal.sig) → Buf (Elt Ideal) ℓ) (g : Dev Cert.GateGradIdeal.nD → PrngReg), Pre_GateGradIdeal_gate_finite m →
    θ_run (Cert.GateGradIdeal.defs (F := Ideal)) (onTc (τ := Cert.GateGradIdeal.τ) (Cert.GateGradIdeal.main (F := Ideal))) ⟨m, fun _ => 0, g⟩ (fun r => (∀ c : Dev Cert.GateGradIdeal.nD,
      r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
      ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1)
      ∧ r.2.mem ((c.tc : Thread Cert.GateGradIdeal.nD Cert.GateGradIdeal.τ).loc Cert.GateGradIdeal.main_arg2) = m ((c.tc : Thread Cert.GateGradIdeal.nD Cert.GateGradIdeal.τ).loc Cert.GateGradIdeal.main_arg2)
      ∧ r.2.mem ((c.tc : Thread Cert.GateGradIdeal.nD Cert.GateGradIdeal.τ).loc Cert.GateGradIdeal.main_arg3) = m ((c.tc : Thread Cert.GateGradIdeal.nD Cert.GateGradIdeal.τ).loc Cert.GateGradIdeal.main_arg3))
      ∧ r.2.sem = fun _ => 0)

def quiescent_GateGradReferenceIdeal [hGateGradReferenceIdeal : Cert.GateGradReferenceIdeal.Facts] : Prop :=
  ∀ (m : (ℓ : Loc Cert.GateGradReferenceIdeal.nD Cert.GateGradReferenceIdeal.τ Cert.GateGradReferenceIdeal.sig) → Buf (Elt Ideal) ℓ) (g : Dev Cert.GateGradReferenceIdeal.nD → PrngReg), Pre_GateGradReferenceIdeal m →
    θ_run (Cert.GateGradReferenceIdeal.defs (F := Ideal)) (onTc (τ := Cert.GateGradReferenceIdeal.τ) (Cert.GateGradReferenceIdeal.main (F := Ideal))) ⟨m, fun _ => 0, g⟩ (fun r => (∀ c : Dev Cert.GateGradReferenceIdeal.nD,
      r.2.mem ((c.tc : Thread Cert.GateGradReferenceIdeal.nD Cert.GateGradReferenceIdeal.τ).loc Cert.GateGradReferenceIdeal.main_arg0) = m ((c.tc : Thread Cert.GateGradReferenceIdeal.nD Cert.GateGradReferenceIdeal.τ).loc Cert.GateGradReferenceIdeal.main_arg0)
      ∧ r.2.mem ((c.tc : Thread Cert.GateGradReferenceIdeal.nD Cert.GateGradReferenceIdeal.τ).loc Cert.GateGradReferenceIdeal.main_arg1) = m ((c.tc : Thread Cert.GateGradReferenceIdeal.nD Cert.GateGradReferenceIdeal.τ).loc Cert.GateGradReferenceIdeal.main_arg1)
      ∧ r.2.mem ((c.tc : Thread Cert.GateGradReferenceIdeal.nD Cert.GateGradReferenceIdeal.τ).loc Cert.GateGradReferenceIdeal.main_arg2) = m ((c.tc : Thread Cert.GateGradReferenceIdeal.nD Cert.GateGradReferenceIdeal.τ).loc Cert.GateGradReferenceIdeal.main_arg2)
      ∧ r.2.mem ((c.tc : Thread Cert.GateGradReferenceIdeal.nD Cert.GateGradReferenceIdeal.τ).loc Cert.GateGradReferenceIdeal.main_arg3) = m ((c.tc : Thread Cert.GateGradReferenceIdeal.nD Cert.GateGradReferenceIdeal.τ).loc Cert.GateGradReferenceIdeal.main_arg3))
      ∧ r.2.sem = fun _ => 0)

def quiescent_GateGradReferenceIdeal_pre_gate_finite [hGateGradReferenceIdeal : Cert.GateGradReferenceIdeal.Facts] [hPre_gate_finite : Cert.Pre_gate_finite.Facts] : Prop :=
  ∀ (m : (ℓ : Loc Cert.GateGradReferenceIdeal.nD Cert.GateGradReferenceIdeal.τ Cert.GateGradReferenceIdeal.sig) → Buf (Elt Ideal) ℓ) (g : Dev Cert.GateGradReferenceIdeal.nD → PrngReg), Pre_GateGradReferenceIdeal_gate_finite m →
    θ_run (Cert.GateGradReferenceIdeal.defs (F := Ideal)) (onTc (τ := Cert.GateGradReferenceIdeal.τ) (Cert.GateGradReferenceIdeal.main (F := Ideal))) ⟨m, fun _ => 0, g⟩ (fun r => (∀ c : Dev Cert.GateGradReferenceIdeal.nD,
      r.2.mem ((c.tc : Thread Cert.GateGradReferenceIdeal.nD Cert.GateGradReferenceIdeal.τ).loc Cert.GateGradReferenceIdeal.main_arg0) = m ((c.tc : Thread Cert.GateGradReferenceIdeal.nD Cert.GateGradReferenceIdeal.τ).loc Cert.GateGradReferenceIdeal.main_arg0)
      ∧ r.2.mem ((c.tc : Thread Cert.GateGradReferenceIdeal.nD Cert.GateGradReferenceIdeal.τ).loc Cert.GateGradReferenceIdeal.main_arg1) = m ((c.tc : Thread Cert.GateGradReferenceIdeal.nD Cert.GateGradReferenceIdeal.τ).loc Cert.GateGradReferenceIdeal.main_arg1)
      ∧ r.2.mem ((c.tc : Thread Cert.GateGradReferenceIdeal.nD Cert.GateGradReferenceIdeal.τ).loc Cert.GateGradReferenceIdeal.main_arg2) = m ((c.tc : Thread Cert.GateGradReferenceIdeal.nD Cert.GateGradReferenceIdeal.τ).loc Cert.GateGradReferenceIdeal.main_arg2)
      ∧ r.2.mem ((c.tc : Thread Cert.GateGradReferenceIdeal.nD Cert.GateGradReferenceIdeal.τ).loc Cert.GateGradReferenceIdeal.main_arg3) = m ((c.tc : Thread Cert.GateGradReferenceIdeal.nD Cert.GateGradReferenceIdeal.τ).loc Cert.GateGradReferenceIdeal.main_arg3))
      ∧ r.2.sem = fun _ => 0)

def quiescent_MixerGrad [hMixerGrad : Cert.MixerGrad.Facts] : Prop :=
  ∀ (m : (ℓ : Loc Cert.MixerGrad.nD Cert.MixerGrad.τ Cert.MixerGrad.sig) → Buf (Elt Bits) ℓ) (g : Dev Cert.MixerGrad.nD → PrngReg), Pre_MixerGrad m →
    θ_run (Cert.MixerGrad.defs (F := Bits)) (onTc (τ := Cert.MixerGrad.τ) (Cert.MixerGrad.main (F := Bits))) ⟨m, fun _ => 0, g⟩ (fun r => (∀ c : Dev Cert.MixerGrad.nD,
      r.2.mem ((c.tc : Thread Cert.MixerGrad.nD Cert.MixerGrad.τ).loc Cert.MixerGrad.main_arg0) = m ((c.tc : Thread Cert.MixerGrad.nD Cert.MixerGrad.τ).loc Cert.MixerGrad.main_arg0)
      ∧ r.2.mem ((c.tc : Thread Cert.MixerGrad.nD Cert.MixerGrad.τ).loc Cert.MixerGrad.main_arg1) = m ((c.tc : Thread Cert.MixerGrad.nD Cert.MixerGrad.τ).loc Cert.MixerGrad.main_arg1)
      ∧ r.2.mem ((c.tc : Thread Cert.MixerGrad.nD Cert.MixerGrad.τ).loc Cert.MixerGrad.main_arg2) = m ((c.tc : Thread Cert.MixerGrad.nD Cert.MixerGrad.τ).loc Cert.MixerGrad.main_arg2)
      ∧ r.2.mem ((c.tc : Thread Cert.MixerGrad.nD Cert.MixerGrad.τ).loc Cert.MixerGrad.main_arg3) = m ((c.tc : Thread Cert.MixerGrad.nD Cert.MixerGrad.τ).loc Cert.MixerGrad.main_arg3)
      ∧ r.2.mem ((c.tc : Thread Cert.MixerGrad.nD Cert.MixerGrad.τ).loc Cert.MixerGrad.main_arg4) = m ((c.tc : Thread Cert.MixerGrad.nD Cert.MixerGrad.τ).loc Cert.MixerGrad.main_arg4)
      ∧ r.2.mem ((c.tc : Thread Cert.MixerGrad.nD Cert.MixerGrad.τ).loc Cert.MixerGrad.main_arg5) = m ((c.tc : Thread Cert.MixerGrad.nD Cert.MixerGrad.τ).loc Cert.MixerGrad.main_arg5))
      ∧ r.2.sem = fun _ => 0)

def quiescent_MixerGradIdeal [hMixerGradIdeal : Cert.MixerGradIdeal.Facts] : Prop :=
  ∀ (m : (ℓ : Loc Cert.MixerGradIdeal.nD Cert.MixerGradIdeal.τ Cert.MixerGradIdeal.sig) → Buf (Elt Ideal) ℓ) (g : Dev Cert.MixerGradIdeal.nD → PrngReg), Pre_MixerGradIdeal m →
    θ_run (Cert.MixerGradIdeal.defs (F := Ideal)) (onTc (τ := Cert.MixerGradIdeal.τ) (Cert.MixerGradIdeal.main (F := Ideal))) ⟨m, fun _ => 0, g⟩ (fun r => (∀ c : Dev Cert.MixerGradIdeal.nD,
      r.2.mem ((c.tc : Thread Cert.MixerGradIdeal.nD Cert.MixerGradIdeal.τ).loc Cert.MixerGradIdeal.main_arg0) = m ((c.tc : Thread Cert.MixerGradIdeal.nD Cert.MixerGradIdeal.τ).loc Cert.MixerGradIdeal.main_arg0)
      ∧ r.2.mem ((c.tc : Thread Cert.MixerGradIdeal.nD Cert.MixerGradIdeal.τ).loc Cert.MixerGradIdeal.main_arg1) = m ((c.tc : Thread Cert.MixerGradIdeal.nD Cert.MixerGradIdeal.τ).loc Cert.MixerGradIdeal.main_arg1)
      ∧ r.2.mem ((c.tc : Thread Cert.MixerGradIdeal.nD Cert.MixerGradIdeal.τ).loc Cert.MixerGradIdeal.main_arg2) = m ((c.tc : Thread Cert.MixerGradIdeal.nD Cert.MixerGradIdeal.τ).loc Cert.MixerGradIdeal.main_arg2)
      ∧ r.2.mem ((c.tc : Thread Cert.MixerGradIdeal.nD Cert.MixerGradIdeal.τ).loc Cert.MixerGradIdeal.main_arg3) = m ((c.tc : Thread Cert.MixerGradIdeal.nD Cert.MixerGradIdeal.τ).loc Cert.MixerGradIdeal.main_arg3)
      ∧ r.2.mem ((c.tc : Thread Cert.MixerGradIdeal.nD Cert.MixerGradIdeal.τ).loc Cert.MixerGradIdeal.main_arg4) = m ((c.tc : Thread Cert.MixerGradIdeal.nD Cert.MixerGradIdeal.τ).loc Cert.MixerGradIdeal.main_arg4)
      ∧ r.2.mem ((c.tc : Thread Cert.MixerGradIdeal.nD Cert.MixerGradIdeal.τ).loc Cert.MixerGradIdeal.main_arg5) = m ((c.tc : Thread Cert.MixerGradIdeal.nD Cert.MixerGradIdeal.τ).loc Cert.MixerGradIdeal.main_arg5))
      ∧ r.2.sem = fun _ => 0)

def quiescent_MixerGradIdeal_pre_mixer_finite [hMixerGradIdeal : Cert.MixerGradIdeal.Facts] [hPre_mixer_finite : Cert.Pre_mixer_finite.Facts] : Prop :=
  ∀ (m : (ℓ : Loc Cert.MixerGradIdeal.nD Cert.MixerGradIdeal.τ Cert.MixerGradIdeal.sig) → Buf (Elt Ideal) ℓ) (g : Dev Cert.MixerGradIdeal.nD → PrngReg), Pre_MixerGradIdeal_mixer_finite m →
    θ_run (Cert.MixerGradIdeal.defs (F := Ideal)) (onTc (τ := Cert.MixerGradIdeal.τ) (Cert.MixerGradIdeal.main (F := Ideal))) ⟨m, fun _ => 0, g⟩ (fun r => (∀ c : Dev Cert.MixerGradIdeal.nD,
      r.2.mem ((c.tc : Thread Cert.MixerGradIdeal.nD Cert.MixerGradIdeal.τ).loc Cert.MixerGradIdeal.main_arg0) = m ((c.tc : Thread Cert.MixerGradIdeal.nD Cert.MixerGradIdeal.τ).loc Cert.MixerGradIdeal.main_arg0)
      ∧ r.2.mem ((c.tc : Thread Cert.MixerGradIdeal.nD Cert.MixerGradIdeal.τ).loc Cert.MixerGradIdeal.main_arg1) = m ((c.tc : Thread Cert.MixerGradIdeal.nD Cert.MixerGradIdeal.τ).loc Cert.MixerGradIdeal.main_arg1)
      ∧ r.2.mem ((c.tc : Thread Cert.MixerGradIdeal.nD Cert.MixerGradIdeal.τ).loc Cert.MixerGradIdeal.main_arg2) = m ((c.tc : Thread Cert.MixerGradIdeal.nD Cert.MixerGradIdeal.τ).loc Cert.MixerGradIdeal.main_arg2)
      ∧ r.2.mem ((c.tc : Thread Cert.MixerGradIdeal.nD Cert.MixerGradIdeal.τ).loc Cert.MixerGradIdeal.main_arg3) = m ((c.tc : Thread Cert.MixerGradIdeal.nD Cert.MixerGradIdeal.τ).loc Cert.MixerGradIdeal.main_arg3)
      ∧ r.2.mem ((c.tc : Thread Cert.MixerGradIdeal.nD Cert.MixerGradIdeal.τ).loc Cert.MixerGradIdeal.main_arg4) = m ((c.tc : Thread Cert.MixerGradIdeal.nD Cert.MixerGradIdeal.τ).loc Cert.MixerGradIdeal.main_arg4)
      ∧ r.2.mem ((c.tc : Thread Cert.MixerGradIdeal.nD Cert.MixerGradIdeal.τ).loc Cert.MixerGradIdeal.main_arg5) = m ((c.tc : Thread Cert.MixerGradIdeal.nD Cert.MixerGradIdeal.τ).loc Cert.MixerGradIdeal.main_arg5))
      ∧ r.2.sem = fun _ => 0)

def quiescent_MixerGradReferenceIdeal [hMixerGradReferenceIdeal : Cert.MixerGradReferenceIdeal.Facts] : Prop :=
  ∀ (m : (ℓ : Loc Cert.MixerGradReferenceIdeal.nD Cert.MixerGradReferenceIdeal.τ Cert.MixerGradReferenceIdeal.sig) → Buf (Elt Ideal) ℓ) (g : Dev Cert.MixerGradReferenceIdeal.nD → PrngReg), Pre_MixerGradReferenceIdeal m →
    θ_run (Cert.MixerGradReferenceIdeal.defs (F := Ideal)) (onTc (τ := Cert.MixerGradReferenceIdeal.τ) (Cert.MixerGradReferenceIdeal.main (F := Ideal))) ⟨m, fun _ => 0, g⟩ (fun r => (∀ c : Dev Cert.MixerGradReferenceIdeal.nD,
      r.2.mem ((c.tc : Thread Cert.MixerGradReferenceIdeal.nD Cert.MixerGradReferenceIdeal.τ).loc Cert.MixerGradReferenceIdeal.main_arg0) = m ((c.tc : Thread Cert.MixerGradReferenceIdeal.nD Cert.MixerGradReferenceIdeal.τ).loc Cert.MixerGradReferenceIdeal.main_arg0)
      ∧ r.2.mem ((c.tc : Thread Cert.MixerGradReferenceIdeal.nD Cert.MixerGradReferenceIdeal.τ).loc Cert.MixerGradReferenceIdeal.main_arg1) = m ((c.tc : Thread Cert.MixerGradReferenceIdeal.nD Cert.MixerGradReferenceIdeal.τ).loc Cert.MixerGradReferenceIdeal.main_arg1)
      ∧ r.2.mem ((c.tc : Thread Cert.MixerGradReferenceIdeal.nD Cert.MixerGradReferenceIdeal.τ).loc Cert.MixerGradReferenceIdeal.main_arg2) = m ((c.tc : Thread Cert.MixerGradReferenceIdeal.nD Cert.MixerGradReferenceIdeal.τ).loc Cert.MixerGradReferenceIdeal.main_arg2)
      ∧ r.2.mem ((c.tc : Thread Cert.MixerGradReferenceIdeal.nD Cert.MixerGradReferenceIdeal.τ).loc Cert.MixerGradReferenceIdeal.main_arg3) = m ((c.tc : Thread Cert.MixerGradReferenceIdeal.nD Cert.MixerGradReferenceIdeal.τ).loc Cert.MixerGradReferenceIdeal.main_arg3)
      ∧ r.2.mem ((c.tc : Thread Cert.MixerGradReferenceIdeal.nD Cert.MixerGradReferenceIdeal.τ).loc Cert.MixerGradReferenceIdeal.main_arg4) = m ((c.tc : Thread Cert.MixerGradReferenceIdeal.nD Cert.MixerGradReferenceIdeal.τ).loc Cert.MixerGradReferenceIdeal.main_arg4)
      ∧ r.2.mem ((c.tc : Thread Cert.MixerGradReferenceIdeal.nD Cert.MixerGradReferenceIdeal.τ).loc Cert.MixerGradReferenceIdeal.main_arg5) = m ((c.tc : Thread Cert.MixerGradReferenceIdeal.nD Cert.MixerGradReferenceIdeal.τ).loc Cert.MixerGradReferenceIdeal.main_arg5))
      ∧ r.2.sem = fun _ => 0)

def quiescent_MixerGradReferenceIdeal_pre_mixer_finite [hMixerGradReferenceIdeal : Cert.MixerGradReferenceIdeal.Facts] [hPre_mixer_finite : Cert.Pre_mixer_finite.Facts] : Prop :=
  ∀ (m : (ℓ : Loc Cert.MixerGradReferenceIdeal.nD Cert.MixerGradReferenceIdeal.τ Cert.MixerGradReferenceIdeal.sig) → Buf (Elt Ideal) ℓ) (g : Dev Cert.MixerGradReferenceIdeal.nD → PrngReg), Pre_MixerGradReferenceIdeal_mixer_finite m →
    θ_run (Cert.MixerGradReferenceIdeal.defs (F := Ideal)) (onTc (τ := Cert.MixerGradReferenceIdeal.τ) (Cert.MixerGradReferenceIdeal.main (F := Ideal))) ⟨m, fun _ => 0, g⟩ (fun r => (∀ c : Dev Cert.MixerGradReferenceIdeal.nD,
      r.2.mem ((c.tc : Thread Cert.MixerGradReferenceIdeal.nD Cert.MixerGradReferenceIdeal.τ).loc Cert.MixerGradReferenceIdeal.main_arg0) = m ((c.tc : Thread Cert.MixerGradReferenceIdeal.nD Cert.MixerGradReferenceIdeal.τ).loc Cert.MixerGradReferenceIdeal.main_arg0)
      ∧ r.2.mem ((c.tc : Thread Cert.MixerGradReferenceIdeal.nD Cert.MixerGradReferenceIdeal.τ).loc Cert.MixerGradReferenceIdeal.main_arg1) = m ((c.tc : Thread Cert.MixerGradReferenceIdeal.nD Cert.MixerGradReferenceIdeal.τ).loc Cert.MixerGradReferenceIdeal.main_arg1)
      ∧ r.2.mem ((c.tc : Thread Cert.MixerGradReferenceIdeal.nD Cert.MixerGradReferenceIdeal.τ).loc Cert.MixerGradReferenceIdeal.main_arg2) = m ((c.tc : Thread Cert.MixerGradReferenceIdeal.nD Cert.MixerGradReferenceIdeal.τ).loc Cert.MixerGradReferenceIdeal.main_arg2)
      ∧ r.2.mem ((c.tc : Thread Cert.MixerGradReferenceIdeal.nD Cert.MixerGradReferenceIdeal.τ).loc Cert.MixerGradReferenceIdeal.main_arg3) = m ((c.tc : Thread Cert.MixerGradReferenceIdeal.nD Cert.MixerGradReferenceIdeal.τ).loc Cert.MixerGradReferenceIdeal.main_arg3)
      ∧ r.2.mem ((c.tc : Thread Cert.MixerGradReferenceIdeal.nD Cert.MixerGradReferenceIdeal.τ).loc Cert.MixerGradReferenceIdeal.main_arg4) = m ((c.tc : Thread Cert.MixerGradReferenceIdeal.nD Cert.MixerGradReferenceIdeal.τ).loc Cert.MixerGradReferenceIdeal.main_arg4)
      ∧ r.2.mem ((c.tc : Thread Cert.MixerGradReferenceIdeal.nD Cert.MixerGradReferenceIdeal.τ).loc Cert.MixerGradReferenceIdeal.main_arg5) = m ((c.tc : Thread Cert.MixerGradReferenceIdeal.nD Cert.MixerGradReferenceIdeal.τ).loc Cert.MixerGradReferenceIdeal.main_arg5))
      ∧ r.2.sem = fun _ => 0)

def quiescent_HeadMerge [hHeadMerge : Cert.HeadMerge.Facts] : Prop :=
  ∀ (m : (ℓ : Loc Cert.HeadMerge.nD Cert.HeadMerge.τ Cert.HeadMerge.sig) → Buf (Elt Bits) ℓ) (g : Dev Cert.HeadMerge.nD → PrngReg), Pre_HeadMerge m →
    θ_run (Cert.HeadMerge.defs (F := Bits)) (onTc (τ := Cert.HeadMerge.τ) (Cert.HeadMerge.main (F := Bits))) ⟨m, fun _ => 0, g⟩ (fun r => (∀ c : Dev Cert.HeadMerge.nD,
      r.2.mem ((c.tc : Thread Cert.HeadMerge.nD Cert.HeadMerge.τ).loc Cert.HeadMerge.main_arg0) = m ((c.tc : Thread Cert.HeadMerge.nD Cert.HeadMerge.τ).loc Cert.HeadMerge.main_arg0)
      ∧ r.2.mem ((c.tc : Thread Cert.HeadMerge.nD Cert.HeadMerge.τ).loc Cert.HeadMerge.main_arg1) = m ((c.tc : Thread Cert.HeadMerge.nD Cert.HeadMerge.τ).loc Cert.HeadMerge.main_arg1)
      ∧ r.2.mem ((c.tc : Thread Cert.HeadMerge.nD Cert.HeadMerge.τ).loc Cert.HeadMerge.main_arg2) = m ((c.tc : Thread Cert.HeadMerge.nD Cert.HeadMerge.τ).loc Cert.HeadMerge.main_arg2)
      ∧ r.2.mem ((c.tc : Thread Cert.HeadMerge.nD Cert.HeadMerge.τ).loc Cert.HeadMerge.main_arg3) = m ((c.tc : Thread Cert.HeadMerge.nD Cert.HeadMerge.τ).loc Cert.HeadMerge.main_arg3)
      ∧ r.2.mem ((c.tc : Thread Cert.HeadMerge.nD Cert.HeadMerge.τ).loc Cert.HeadMerge.main_arg4) = m ((c.tc : Thread Cert.HeadMerge.nD Cert.HeadMerge.τ).loc Cert.HeadMerge.main_arg4)
      ∧ r.2.mem ((c.tc : Thread Cert.HeadMerge.nD Cert.HeadMerge.τ).loc Cert.HeadMerge.main_arg5) = m ((c.tc : Thread Cert.HeadMerge.nD Cert.HeadMerge.τ).loc Cert.HeadMerge.main_arg5)
      ∧ r.2.mem ((c.tc : Thread Cert.HeadMerge.nD Cert.HeadMerge.τ).loc Cert.HeadMerge.main_arg6) = m ((c.tc : Thread Cert.HeadMerge.nD Cert.HeadMerge.τ).loc Cert.HeadMerge.main_arg6))
      ∧ r.2.sem = fun _ => 0)

def quiescent_HeadMergeIdeal [hHeadMergeIdeal : Cert.HeadMergeIdeal.Facts] : Prop :=
  ∀ (m : (ℓ : Loc Cert.HeadMergeIdeal.nD Cert.HeadMergeIdeal.τ Cert.HeadMergeIdeal.sig) → Buf (Elt Ideal) ℓ) (g : Dev Cert.HeadMergeIdeal.nD → PrngReg), Pre_HeadMergeIdeal m →
    θ_run (Cert.HeadMergeIdeal.defs (F := Ideal)) (onTc (τ := Cert.HeadMergeIdeal.τ) (Cert.HeadMergeIdeal.main (F := Ideal))) ⟨m, fun _ => 0, g⟩ (fun r => (∀ c : Dev Cert.HeadMergeIdeal.nD,
      r.2.mem ((c.tc : Thread Cert.HeadMergeIdeal.nD Cert.HeadMergeIdeal.τ).loc Cert.HeadMergeIdeal.main_arg0) = m ((c.tc : Thread Cert.HeadMergeIdeal.nD Cert.HeadMergeIdeal.τ).loc Cert.HeadMergeIdeal.main_arg0)
      ∧ r.2.mem ((c.tc : Thread Cert.HeadMergeIdeal.nD Cert.HeadMergeIdeal.τ).loc Cert.HeadMergeIdeal.main_arg1) = m ((c.tc : Thread Cert.HeadMergeIdeal.nD Cert.HeadMergeIdeal.τ).loc Cert.HeadMergeIdeal.main_arg1)
      ∧ r.2.mem ((c.tc : Thread Cert.HeadMergeIdeal.nD Cert.HeadMergeIdeal.τ).loc Cert.HeadMergeIdeal.main_arg2) = m ((c.tc : Thread Cert.HeadMergeIdeal.nD Cert.HeadMergeIdeal.τ).loc Cert.HeadMergeIdeal.main_arg2)
      ∧ r.2.mem ((c.tc : Thread Cert.HeadMergeIdeal.nD Cert.HeadMergeIdeal.τ).loc Cert.HeadMergeIdeal.main_arg3) = m ((c.tc : Thread Cert.HeadMergeIdeal.nD Cert.HeadMergeIdeal.τ).loc Cert.HeadMergeIdeal.main_arg3)
      ∧ r.2.mem ((c.tc : Thread Cert.HeadMergeIdeal.nD Cert.HeadMergeIdeal.τ).loc Cert.HeadMergeIdeal.main_arg4) = m ((c.tc : Thread Cert.HeadMergeIdeal.nD Cert.HeadMergeIdeal.τ).loc Cert.HeadMergeIdeal.main_arg4)
      ∧ r.2.mem ((c.tc : Thread Cert.HeadMergeIdeal.nD Cert.HeadMergeIdeal.τ).loc Cert.HeadMergeIdeal.main_arg5) = m ((c.tc : Thread Cert.HeadMergeIdeal.nD Cert.HeadMergeIdeal.τ).loc Cert.HeadMergeIdeal.main_arg5)
      ∧ r.2.mem ((c.tc : Thread Cert.HeadMergeIdeal.nD Cert.HeadMergeIdeal.τ).loc Cert.HeadMergeIdeal.main_arg6) = m ((c.tc : Thread Cert.HeadMergeIdeal.nD Cert.HeadMergeIdeal.τ).loc Cert.HeadMergeIdeal.main_arg6))
      ∧ r.2.sem = fun _ => 0)

def quiescent_HeadMergeIdeal_pre_merge_finite [hHeadMergeIdeal : Cert.HeadMergeIdeal.Facts] [hPre_merge_finite : Cert.Pre_merge_finite.Facts] : Prop :=
  ∀ (m : (ℓ : Loc Cert.HeadMergeIdeal.nD Cert.HeadMergeIdeal.τ Cert.HeadMergeIdeal.sig) → Buf (Elt Ideal) ℓ) (g : Dev Cert.HeadMergeIdeal.nD → PrngReg), Pre_HeadMergeIdeal_merge_finite m →
    θ_run (Cert.HeadMergeIdeal.defs (F := Ideal)) (onTc (τ := Cert.HeadMergeIdeal.τ) (Cert.HeadMergeIdeal.main (F := Ideal))) ⟨m, fun _ => 0, g⟩ (fun r => (∀ c : Dev Cert.HeadMergeIdeal.nD,
      r.2.mem ((c.tc : Thread Cert.HeadMergeIdeal.nD Cert.HeadMergeIdeal.τ).loc Cert.HeadMergeIdeal.main_arg0) = m ((c.tc : Thread Cert.HeadMergeIdeal.nD Cert.HeadMergeIdeal.τ).loc Cert.HeadMergeIdeal.main_arg0)
      ∧ r.2.mem ((c.tc : Thread Cert.HeadMergeIdeal.nD Cert.HeadMergeIdeal.τ).loc Cert.HeadMergeIdeal.main_arg1) = m ((c.tc : Thread Cert.HeadMergeIdeal.nD Cert.HeadMergeIdeal.τ).loc Cert.HeadMergeIdeal.main_arg1)
      ∧ r.2.mem ((c.tc : Thread Cert.HeadMergeIdeal.nD Cert.HeadMergeIdeal.τ).loc Cert.HeadMergeIdeal.main_arg2) = m ((c.tc : Thread Cert.HeadMergeIdeal.nD Cert.HeadMergeIdeal.τ).loc Cert.HeadMergeIdeal.main_arg2)
      ∧ r.2.mem ((c.tc : Thread Cert.HeadMergeIdeal.nD Cert.HeadMergeIdeal.τ).loc Cert.HeadMergeIdeal.main_arg3) = m ((c.tc : Thread Cert.HeadMergeIdeal.nD Cert.HeadMergeIdeal.τ).loc Cert.HeadMergeIdeal.main_arg3)
      ∧ r.2.mem ((c.tc : Thread Cert.HeadMergeIdeal.nD Cert.HeadMergeIdeal.τ).loc Cert.HeadMergeIdeal.main_arg4) = m ((c.tc : Thread Cert.HeadMergeIdeal.nD Cert.HeadMergeIdeal.τ).loc Cert.HeadMergeIdeal.main_arg4)
      ∧ r.2.mem ((c.tc : Thread Cert.HeadMergeIdeal.nD Cert.HeadMergeIdeal.τ).loc Cert.HeadMergeIdeal.main_arg5) = m ((c.tc : Thread Cert.HeadMergeIdeal.nD Cert.HeadMergeIdeal.τ).loc Cert.HeadMergeIdeal.main_arg5)
      ∧ r.2.mem ((c.tc : Thread Cert.HeadMergeIdeal.nD Cert.HeadMergeIdeal.τ).loc Cert.HeadMergeIdeal.main_arg6) = m ((c.tc : Thread Cert.HeadMergeIdeal.nD Cert.HeadMergeIdeal.τ).loc Cert.HeadMergeIdeal.main_arg6))
      ∧ r.2.sem = fun _ => 0)

def quiescent_HeadMergeReferenceIdeal [hHeadMergeReferenceIdeal : Cert.HeadMergeReferenceIdeal.Facts] : Prop :=
  ∀ (m : (ℓ : Loc Cert.HeadMergeReferenceIdeal.nD Cert.HeadMergeReferenceIdeal.τ Cert.HeadMergeReferenceIdeal.sig) → Buf (Elt Ideal) ℓ) (g : Dev Cert.HeadMergeReferenceIdeal.nD → PrngReg), Pre_HeadMergeReferenceIdeal m →
    θ_run (Cert.HeadMergeReferenceIdeal.defs (F := Ideal)) (onTc (τ := Cert.HeadMergeReferenceIdeal.τ) (Cert.HeadMergeReferenceIdeal.main (F := Ideal))) ⟨m, fun _ => 0, g⟩ (fun r => (∀ c : Dev Cert.HeadMergeReferenceIdeal.nD,
      r.2.mem ((c.tc : Thread Cert.HeadMergeReferenceIdeal.nD Cert.HeadMergeReferenceIdeal.τ).loc Cert.HeadMergeReferenceIdeal.main_arg0) = m ((c.tc : Thread Cert.HeadMergeReferenceIdeal.nD Cert.HeadMergeReferenceIdeal.τ).loc Cert.HeadMergeReferenceIdeal.main_arg0)
      ∧ r.2.mem ((c.tc : Thread Cert.HeadMergeReferenceIdeal.nD Cert.HeadMergeReferenceIdeal.τ).loc Cert.HeadMergeReferenceIdeal.main_arg1) = m ((c.tc : Thread Cert.HeadMergeReferenceIdeal.nD Cert.HeadMergeReferenceIdeal.τ).loc Cert.HeadMergeReferenceIdeal.main_arg1)
      ∧ r.2.mem ((c.tc : Thread Cert.HeadMergeReferenceIdeal.nD Cert.HeadMergeReferenceIdeal.τ).loc Cert.HeadMergeReferenceIdeal.main_arg2) = m ((c.tc : Thread Cert.HeadMergeReferenceIdeal.nD Cert.HeadMergeReferenceIdeal.τ).loc Cert.HeadMergeReferenceIdeal.main_arg2)
      ∧ r.2.mem ((c.tc : Thread Cert.HeadMergeReferenceIdeal.nD Cert.HeadMergeReferenceIdeal.τ).loc Cert.HeadMergeReferenceIdeal.main_arg3) = m ((c.tc : Thread Cert.HeadMergeReferenceIdeal.nD Cert.HeadMergeReferenceIdeal.τ).loc Cert.HeadMergeReferenceIdeal.main_arg3)
      ∧ r.2.mem ((c.tc : Thread Cert.HeadMergeReferenceIdeal.nD Cert.HeadMergeReferenceIdeal.τ).loc Cert.HeadMergeReferenceIdeal.main_arg4) = m ((c.tc : Thread Cert.HeadMergeReferenceIdeal.nD Cert.HeadMergeReferenceIdeal.τ).loc Cert.HeadMergeReferenceIdeal.main_arg4)
      ∧ r.2.mem ((c.tc : Thread Cert.HeadMergeReferenceIdeal.nD Cert.HeadMergeReferenceIdeal.τ).loc Cert.HeadMergeReferenceIdeal.main_arg5) = m ((c.tc : Thread Cert.HeadMergeReferenceIdeal.nD Cert.HeadMergeReferenceIdeal.τ).loc Cert.HeadMergeReferenceIdeal.main_arg5)
      ∧ r.2.mem ((c.tc : Thread Cert.HeadMergeReferenceIdeal.nD Cert.HeadMergeReferenceIdeal.τ).loc Cert.HeadMergeReferenceIdeal.main_arg6) = m ((c.tc : Thread Cert.HeadMergeReferenceIdeal.nD Cert.HeadMergeReferenceIdeal.τ).loc Cert.HeadMergeReferenceIdeal.main_arg6))
      ∧ r.2.sem = fun _ => 0)

def quiescent_HeadMergeReferenceIdeal_pre_merge_finite [hHeadMergeReferenceIdeal : Cert.HeadMergeReferenceIdeal.Facts] [hPre_merge_finite : Cert.Pre_merge_finite.Facts] : Prop :=
  ∀ (m : (ℓ : Loc Cert.HeadMergeReferenceIdeal.nD Cert.HeadMergeReferenceIdeal.τ Cert.HeadMergeReferenceIdeal.sig) → Buf (Elt Ideal) ℓ) (g : Dev Cert.HeadMergeReferenceIdeal.nD → PrngReg), Pre_HeadMergeReferenceIdeal_merge_finite m →
    θ_run (Cert.HeadMergeReferenceIdeal.defs (F := Ideal)) (onTc (τ := Cert.HeadMergeReferenceIdeal.τ) (Cert.HeadMergeReferenceIdeal.main (F := Ideal))) ⟨m, fun _ => 0, g⟩ (fun r => (∀ c : Dev Cert.HeadMergeReferenceIdeal.nD,
      r.2.mem ((c.tc : Thread Cert.HeadMergeReferenceIdeal.nD Cert.HeadMergeReferenceIdeal.τ).loc Cert.HeadMergeReferenceIdeal.main_arg0) = m ((c.tc : Thread Cert.HeadMergeReferenceIdeal.nD Cert.HeadMergeReferenceIdeal.τ).loc Cert.HeadMergeReferenceIdeal.main_arg0)
      ∧ r.2.mem ((c.tc : Thread Cert.HeadMergeReferenceIdeal.nD Cert.HeadMergeReferenceIdeal.τ).loc Cert.HeadMergeReferenceIdeal.main_arg1) = m ((c.tc : Thread Cert.HeadMergeReferenceIdeal.nD Cert.HeadMergeReferenceIdeal.τ).loc Cert.HeadMergeReferenceIdeal.main_arg1)
      ∧ r.2.mem ((c.tc : Thread Cert.HeadMergeReferenceIdeal.nD Cert.HeadMergeReferenceIdeal.τ).loc Cert.HeadMergeReferenceIdeal.main_arg2) = m ((c.tc : Thread Cert.HeadMergeReferenceIdeal.nD Cert.HeadMergeReferenceIdeal.τ).loc Cert.HeadMergeReferenceIdeal.main_arg2)
      ∧ r.2.mem ((c.tc : Thread Cert.HeadMergeReferenceIdeal.nD Cert.HeadMergeReferenceIdeal.τ).loc Cert.HeadMergeReferenceIdeal.main_arg3) = m ((c.tc : Thread Cert.HeadMergeReferenceIdeal.nD Cert.HeadMergeReferenceIdeal.τ).loc Cert.HeadMergeReferenceIdeal.main_arg3)
      ∧ r.2.mem ((c.tc : Thread Cert.HeadMergeReferenceIdeal.nD Cert.HeadMergeReferenceIdeal.τ).loc Cert.HeadMergeReferenceIdeal.main_arg4) = m ((c.tc : Thread Cert.HeadMergeReferenceIdeal.nD Cert.HeadMergeReferenceIdeal.τ).loc Cert.HeadMergeReferenceIdeal.main_arg4)
      ∧ r.2.mem ((c.tc : Thread Cert.HeadMergeReferenceIdeal.nD Cert.HeadMergeReferenceIdeal.τ).loc Cert.HeadMergeReferenceIdeal.main_arg5) = m ((c.tc : Thread Cert.HeadMergeReferenceIdeal.nD Cert.HeadMergeReferenceIdeal.τ).loc Cert.HeadMergeReferenceIdeal.main_arg5)
      ∧ r.2.mem ((c.tc : Thread Cert.HeadMergeReferenceIdeal.nD Cert.HeadMergeReferenceIdeal.τ).loc Cert.HeadMergeReferenceIdeal.main_arg6) = m ((c.tc : Thread Cert.HeadMergeReferenceIdeal.nD Cert.HeadMergeReferenceIdeal.τ).loc Cert.HeadMergeReferenceIdeal.main_arg6))
      ∧ r.2.sem = fun _ => 0)

def preserves_Kernel_KernelIdeal : Prop :=
  IdealRules.named_const.Statement Cert.KernelIdeal.κ "mask" .f32 0xF149F2CA#32 ⊥

def preserves_QueryWeightGrad_QueryWeightGradIdeal : Prop :=
  True

def algebraic_QueryWeightGradIdeal_QueryWeightGradReferenceIdeal [hQueryWeightGradIdeal : Cert.QueryWeightGradIdeal.Facts] [hQueryWeightGradReferenceIdeal : Cert.QueryWeightGradReferenceIdeal.Facts] : Prop :=
  ∀ (m : (ℓ : Loc Cert.QueryWeightGradIdeal.nD Cert.QueryWeightGradIdeal.τ Cert.QueryWeightGradIdeal.sig) → Buf (Elt Ideal) ℓ) (g : Dev Cert.QueryWeightGradIdeal.nD → PrngReg)
    (m' : (ℓ : Loc Cert.QueryWeightGradReferenceIdeal.nD Cert.QueryWeightGradReferenceIdeal.τ Cert.QueryWeightGradReferenceIdeal.sig) → Buf (Elt Ideal) ℓ) (g' : Dev Cert.QueryWeightGradReferenceIdeal.nD → PrngReg), Pre_QueryWeightGradIdeal m →
    (∀ c : Dev Cert.QueryWeightGradIdeal.nD,
      m' ((c.tc : Thread Cert.QueryWeightGradReferenceIdeal.nD Cert.QueryWeightGradReferenceIdeal.τ).loc Cert.QueryWeightGradReferenceIdeal.main_arg0) = m ((c.tc : Thread Cert.QueryWeightGradIdeal.nD Cert.QueryWeightGradIdeal.τ).loc Cert.QueryWeightGradIdeal.main_arg0)
      ∧ m' ((c.tc : Thread Cert.QueryWeightGradReferenceIdeal.nD Cert.QueryWeightGradReferenceIdeal.τ).loc Cert.QueryWeightGradReferenceIdeal.main_arg1) = m ((c.tc : Thread Cert.QueryWeightGradIdeal.nD Cert.QueryWeightGradIdeal.τ).loc Cert.QueryWeightGradIdeal.main_arg1)) →
    ∃ (v0 : (c : Dev Cert.QueryWeightGradIdeal.nD) → Buf (Elt Ideal) ((c.tc : Thread Cert.QueryWeightGradIdeal.nD Cert.QueryWeightGradIdeal.τ).loc Cert.QueryWeightGradIdeal.main_v1)),
      θ_run (Cert.QueryWeightGradIdeal.defs (F := Ideal)) (onTc (τ := Cert.QueryWeightGradIdeal.τ) (Cert.QueryWeightGradIdeal.main (F := Ideal))) ⟨m, fun _ => 0, g⟩ (fun r => ∀ c : Dev Cert.QueryWeightGradIdeal.nD,
          r.2.mem ((c.tc : Thread Cert.QueryWeightGradIdeal.nD Cert.QueryWeightGradIdeal.τ).loc Cert.QueryWeightGradIdeal.main_v1) = v0 c
          ∧ r.2.mem ((c.tc : Thread Cert.QueryWeightGradIdeal.nD Cert.QueryWeightGradIdeal.τ).loc Cert.QueryWeightGradIdeal.main_arg0) = m ((c.tc : Thread Cert.QueryWeightGradIdeal.nD Cert.QueryWeightGradIdeal.τ).loc Cert.QueryWeightGradIdeal.main_arg0)
          ∧ r.2.mem ((c.tc : Thread Cert.QueryWeightGradIdeal.nD Cert.QueryWeightGradIdeal.τ).loc Cert.QueryWeightGradIdeal.main_arg1) = m ((c.tc : Thread Cert.QueryWeightGradIdeal.nD Cert.QueryWeightGradIdeal.τ).loc Cert.QueryWeightGradIdeal.main_arg1))
      ∧ θ_run (Cert.QueryWeightGradReferenceIdeal.defs (F := Ideal)) (onTc (τ := Cert.QueryWeightGradReferenceIdeal.τ) (Cert.QueryWeightGradReferenceIdeal.main (F := Ideal))) ⟨m', fun _ => 0, g'⟩ (fun r => ∀ c : Dev Cert.QueryWeightGradReferenceIdeal.nD,
          r.2.mem ((c.tc : Thread Cert.QueryWeightGradReferenceIdeal.nD Cert.QueryWeightGradReferenceIdeal.τ).loc Cert.QueryWeightGradReferenceIdeal.main_v8) = v0 c
          ∧ r.2.mem ((c.tc : Thread Cert.QueryWeightGradReferenceIdeal.nD Cert.QueryWeightGradReferenceIdeal.τ).loc Cert.QueryWeightGradReferenceIdeal.main_arg0) = m' ((c.tc : Thread Cert.QueryWeightGradReferenceIdeal.nD Cert.QueryWeightGradReferenceIdeal.τ).loc Cert.QueryWeightGradReferenceIdeal.main_arg0)
          ∧ r.2.mem ((c.tc : Thread Cert.QueryWeightGradReferenceIdeal.nD Cert.QueryWeightGradReferenceIdeal.τ).loc Cert.QueryWeightGradReferenceIdeal.main_arg1) = m' ((c.tc : Thread Cert.QueryWeightGradReferenceIdeal.nD Cert.QueryWeightGradReferenceIdeal.τ).loc Cert.QueryWeightGradReferenceIdeal.main_arg1))

def preserves_InputWeightGrad_InputWeightGradIdeal : Prop :=
  True

def algebraic_InputWeightGradIdeal_InputWeightGradReferenceIdeal [hInputWeightGradIdeal : Cert.InputWeightGradIdeal.Facts] [hInputWeightGradReferenceIdeal : Cert.InputWeightGradReferenceIdeal.Facts] : Prop :=
  ∀ (m : (ℓ : Loc Cert.InputWeightGradIdeal.nD Cert.InputWeightGradIdeal.τ Cert.InputWeightGradIdeal.sig) → Buf (Elt Ideal) ℓ) (g : Dev Cert.InputWeightGradIdeal.nD → PrngReg)
    (m' : (ℓ : Loc Cert.InputWeightGradReferenceIdeal.nD Cert.InputWeightGradReferenceIdeal.τ Cert.InputWeightGradReferenceIdeal.sig) → Buf (Elt Ideal) ℓ) (g' : Dev Cert.InputWeightGradReferenceIdeal.nD → PrngReg), Pre_InputWeightGradIdeal m →
    (∀ c : Dev Cert.InputWeightGradIdeal.nD,
      m' ((c.tc : Thread Cert.InputWeightGradReferenceIdeal.nD Cert.InputWeightGradReferenceIdeal.τ).loc Cert.InputWeightGradReferenceIdeal.main_arg0) = m ((c.tc : Thread Cert.InputWeightGradIdeal.nD Cert.InputWeightGradIdeal.τ).loc Cert.InputWeightGradIdeal.main_arg0)
      ∧ m' ((c.tc : Thread Cert.InputWeightGradReferenceIdeal.nD Cert.InputWeightGradReferenceIdeal.τ).loc Cert.InputWeightGradReferenceIdeal.main_arg1) = m ((c.tc : Thread Cert.InputWeightGradIdeal.nD Cert.InputWeightGradIdeal.τ).loc Cert.InputWeightGradIdeal.main_arg1)) →
    ∃ (v0 : (c : Dev Cert.InputWeightGradIdeal.nD) → Buf (Elt Ideal) ((c.tc : Thread Cert.InputWeightGradIdeal.nD Cert.InputWeightGradIdeal.τ).loc Cert.InputWeightGradIdeal.main_v1)),
      θ_run (Cert.InputWeightGradIdeal.defs (F := Ideal)) (onTc (τ := Cert.InputWeightGradIdeal.τ) (Cert.InputWeightGradIdeal.main (F := Ideal))) ⟨m, fun _ => 0, g⟩ (fun r => ∀ c : Dev Cert.InputWeightGradIdeal.nD,
          r.2.mem ((c.tc : Thread Cert.InputWeightGradIdeal.nD Cert.InputWeightGradIdeal.τ).loc Cert.InputWeightGradIdeal.main_v1) = v0 c
          ∧ r.2.mem ((c.tc : Thread Cert.InputWeightGradIdeal.nD Cert.InputWeightGradIdeal.τ).loc Cert.InputWeightGradIdeal.main_arg0) = m ((c.tc : Thread Cert.InputWeightGradIdeal.nD Cert.InputWeightGradIdeal.τ).loc Cert.InputWeightGradIdeal.main_arg0)
          ∧ r.2.mem ((c.tc : Thread Cert.InputWeightGradIdeal.nD Cert.InputWeightGradIdeal.τ).loc Cert.InputWeightGradIdeal.main_arg1) = m ((c.tc : Thread Cert.InputWeightGradIdeal.nD Cert.InputWeightGradIdeal.τ).loc Cert.InputWeightGradIdeal.main_arg1))
      ∧ θ_run (Cert.InputWeightGradReferenceIdeal.defs (F := Ideal)) (onTc (τ := Cert.InputWeightGradReferenceIdeal.τ) (Cert.InputWeightGradReferenceIdeal.main (F := Ideal))) ⟨m', fun _ => 0, g'⟩ (fun r => ∀ c : Dev Cert.InputWeightGradReferenceIdeal.nD,
          r.2.mem ((c.tc : Thread Cert.InputWeightGradReferenceIdeal.nD Cert.InputWeightGradReferenceIdeal.τ).loc Cert.InputWeightGradReferenceIdeal.main_v8) = v0 c
          ∧ r.2.mem ((c.tc : Thread Cert.InputWeightGradReferenceIdeal.nD Cert.InputWeightGradReferenceIdeal.τ).loc Cert.InputWeightGradReferenceIdeal.main_arg0) = m' ((c.tc : Thread Cert.InputWeightGradReferenceIdeal.nD Cert.InputWeightGradReferenceIdeal.τ).loc Cert.InputWeightGradReferenceIdeal.main_arg0)
          ∧ r.2.mem ((c.tc : Thread Cert.InputWeightGradReferenceIdeal.nD Cert.InputWeightGradReferenceIdeal.τ).loc Cert.InputWeightGradReferenceIdeal.main_arg1) = m' ((c.tc : Thread Cert.InputWeightGradReferenceIdeal.nD Cert.InputWeightGradReferenceIdeal.τ).loc Cert.InputWeightGradReferenceIdeal.main_arg1))

def preserves_OutputWeightGrad_OutputWeightGradIdeal : Prop :=
  True

def algebraic_OutputWeightGradIdeal_OutputWeightGradReferenceIdeal [hOutputWeightGradIdeal : Cert.OutputWeightGradIdeal.Facts] [hOutputWeightGradReferenceIdeal : Cert.OutputWeightGradReferenceIdeal.Facts] : Prop :=
  ∀ (m : (ℓ : Loc Cert.OutputWeightGradIdeal.nD Cert.OutputWeightGradIdeal.τ Cert.OutputWeightGradIdeal.sig) → Buf (Elt Ideal) ℓ) (g : Dev Cert.OutputWeightGradIdeal.nD → PrngReg)
    (m' : (ℓ : Loc Cert.OutputWeightGradReferenceIdeal.nD Cert.OutputWeightGradReferenceIdeal.τ Cert.OutputWeightGradReferenceIdeal.sig) → Buf (Elt Ideal) ℓ) (g' : Dev Cert.OutputWeightGradReferenceIdeal.nD → PrngReg), Pre_OutputWeightGradIdeal m →
    (∀ c : Dev Cert.OutputWeightGradIdeal.nD,
      m' ((c.tc : Thread Cert.OutputWeightGradReferenceIdeal.nD Cert.OutputWeightGradReferenceIdeal.τ).loc Cert.OutputWeightGradReferenceIdeal.main_arg0) = m ((c.tc : Thread Cert.OutputWeightGradIdeal.nD Cert.OutputWeightGradIdeal.τ).loc Cert.OutputWeightGradIdeal.main_arg0)
      ∧ m' ((c.tc : Thread Cert.OutputWeightGradReferenceIdeal.nD Cert.OutputWeightGradReferenceIdeal.τ).loc Cert.OutputWeightGradReferenceIdeal.main_arg1) = m ((c.tc : Thread Cert.OutputWeightGradIdeal.nD Cert.OutputWeightGradIdeal.τ).loc Cert.OutputWeightGradIdeal.main_arg1)) →
    ∃ (v0 : (c : Dev Cert.OutputWeightGradIdeal.nD) → Buf (Elt Ideal) ((c.tc : Thread Cert.OutputWeightGradIdeal.nD Cert.OutputWeightGradIdeal.τ).loc Cert.OutputWeightGradIdeal.main_v0)),
      θ_run (Cert.OutputWeightGradIdeal.defs (F := Ideal)) (onTc (τ := Cert.OutputWeightGradIdeal.τ) (Cert.OutputWeightGradIdeal.main (F := Ideal))) ⟨m, fun _ => 0, g⟩ (fun r => ∀ c : Dev Cert.OutputWeightGradIdeal.nD,
          r.2.mem ((c.tc : Thread Cert.OutputWeightGradIdeal.nD Cert.OutputWeightGradIdeal.τ).loc Cert.OutputWeightGradIdeal.main_v0) = v0 c
          ∧ r.2.mem ((c.tc : Thread Cert.OutputWeightGradIdeal.nD Cert.OutputWeightGradIdeal.τ).loc Cert.OutputWeightGradIdeal.main_arg0) = m ((c.tc : Thread Cert.OutputWeightGradIdeal.nD Cert.OutputWeightGradIdeal.τ).loc Cert.OutputWeightGradIdeal.main_arg0)
          ∧ r.2.mem ((c.tc : Thread Cert.OutputWeightGradIdeal.nD Cert.OutputWeightGradIdeal.τ).loc Cert.OutputWeightGradIdeal.main_arg1) = m ((c.tc : Thread Cert.OutputWeightGradIdeal.nD Cert.OutputWeightGradIdeal.τ).loc Cert.OutputWeightGradIdeal.main_arg1))
      ∧ θ_run (Cert.OutputWeightGradReferenceIdeal.defs (F := Ideal)) (onTc (τ := Cert.OutputWeightGradReferenceIdeal.τ) (Cert.OutputWeightGradReferenceIdeal.main (F := Ideal))) ⟨m', fun _ => 0, g'⟩ (fun r => ∀ c : Dev Cert.OutputWeightGradReferenceIdeal.nD,
          r.2.mem ((c.tc : Thread Cert.OutputWeightGradReferenceIdeal.nD Cert.OutputWeightGradReferenceIdeal.τ).loc Cert.OutputWeightGradReferenceIdeal.main_v7) = v0 c
          ∧ r.2.mem ((c.tc : Thread Cert.OutputWeightGradReferenceIdeal.nD Cert.OutputWeightGradReferenceIdeal.τ).loc Cert.OutputWeightGradReferenceIdeal.main_arg0) = m' ((c.tc : Thread Cert.OutputWeightGradReferenceIdeal.nD Cert.OutputWeightGradReferenceIdeal.τ).loc Cert.OutputWeightGradReferenceIdeal.main_arg0)
          ∧ r.2.mem ((c.tc : Thread Cert.OutputWeightGradReferenceIdeal.nD Cert.OutputWeightGradReferenceIdeal.τ).loc Cert.OutputWeightGradReferenceIdeal.main_arg1) = m' ((c.tc : Thread Cert.OutputWeightGradReferenceIdeal.nD Cert.OutputWeightGradReferenceIdeal.τ).loc Cert.OutputWeightGradReferenceIdeal.main_arg1))

def preserves_ConvWeightGrad_ConvWeightGradIdeal : Prop :=
  True

def algebraic_ConvWeightGradIdeal_ConvWeightGradReferenceIdeal [hConvWeightGradIdeal : Cert.ConvWeightGradIdeal.Facts] [hConvWeightGradReferenceIdeal : Cert.ConvWeightGradReferenceIdeal.Facts] : Prop :=
  ∀ (m : (ℓ : Loc Cert.ConvWeightGradIdeal.nD Cert.ConvWeightGradIdeal.τ Cert.ConvWeightGradIdeal.sig) → Buf (Elt Ideal) ℓ) (g : Dev Cert.ConvWeightGradIdeal.nD → PrngReg)
    (m' : (ℓ : Loc Cert.ConvWeightGradReferenceIdeal.nD Cert.ConvWeightGradReferenceIdeal.τ Cert.ConvWeightGradReferenceIdeal.sig) → Buf (Elt Ideal) ℓ) (g' : Dev Cert.ConvWeightGradReferenceIdeal.nD → PrngReg), Pre_ConvWeightGradIdeal m →
    (∀ c : Dev Cert.ConvWeightGradIdeal.nD,
      m' ((c.tc : Thread Cert.ConvWeightGradReferenceIdeal.nD Cert.ConvWeightGradReferenceIdeal.τ).loc Cert.ConvWeightGradReferenceIdeal.main_arg0) = m ((c.tc : Thread Cert.ConvWeightGradIdeal.nD Cert.ConvWeightGradIdeal.τ).loc Cert.ConvWeightGradIdeal.main_arg0)
      ∧ m' ((c.tc : Thread Cert.ConvWeightGradReferenceIdeal.nD Cert.ConvWeightGradReferenceIdeal.τ).loc Cert.ConvWeightGradReferenceIdeal.main_arg1) = m ((c.tc : Thread Cert.ConvWeightGradIdeal.nD Cert.ConvWeightGradIdeal.τ).loc Cert.ConvWeightGradIdeal.main_arg1)) →
    ∃ (v0 : (c : Dev Cert.ConvWeightGradIdeal.nD) → Buf (Elt Ideal) ((c.tc : Thread Cert.ConvWeightGradIdeal.nD Cert.ConvWeightGradIdeal.τ).loc Cert.ConvWeightGradIdeal.main_v0)),
      θ_run (Cert.ConvWeightGradIdeal.defs (F := Ideal)) (onTc (τ := Cert.ConvWeightGradIdeal.τ) (Cert.ConvWeightGradIdeal.main (F := Ideal))) ⟨m, fun _ => 0, g⟩ (fun r => ∀ c : Dev Cert.ConvWeightGradIdeal.nD,
          r.2.mem ((c.tc : Thread Cert.ConvWeightGradIdeal.nD Cert.ConvWeightGradIdeal.τ).loc Cert.ConvWeightGradIdeal.main_v0) = v0 c
          ∧ r.2.mem ((c.tc : Thread Cert.ConvWeightGradIdeal.nD Cert.ConvWeightGradIdeal.τ).loc Cert.ConvWeightGradIdeal.main_arg0) = m ((c.tc : Thread Cert.ConvWeightGradIdeal.nD Cert.ConvWeightGradIdeal.τ).loc Cert.ConvWeightGradIdeal.main_arg0)
          ∧ r.2.mem ((c.tc : Thread Cert.ConvWeightGradIdeal.nD Cert.ConvWeightGradIdeal.τ).loc Cert.ConvWeightGradIdeal.main_arg1) = m ((c.tc : Thread Cert.ConvWeightGradIdeal.nD Cert.ConvWeightGradIdeal.τ).loc Cert.ConvWeightGradIdeal.main_arg1))
      ∧ θ_run (Cert.ConvWeightGradReferenceIdeal.defs (F := Ideal)) (onTc (τ := Cert.ConvWeightGradReferenceIdeal.τ) (Cert.ConvWeightGradReferenceIdeal.main (F := Ideal))) ⟨m', fun _ => 0, g'⟩ (fun r => ∀ c : Dev Cert.ConvWeightGradReferenceIdeal.nD,
          r.2.mem ((c.tc : Thread Cert.ConvWeightGradReferenceIdeal.nD Cert.ConvWeightGradReferenceIdeal.τ).loc Cert.ConvWeightGradReferenceIdeal.main_v7) = v0 c
          ∧ r.2.mem ((c.tc : Thread Cert.ConvWeightGradReferenceIdeal.nD Cert.ConvWeightGradReferenceIdeal.τ).loc Cert.ConvWeightGradReferenceIdeal.main_arg0) = m' ((c.tc : Thread Cert.ConvWeightGradReferenceIdeal.nD Cert.ConvWeightGradReferenceIdeal.τ).loc Cert.ConvWeightGradReferenceIdeal.main_arg0)
          ∧ r.2.mem ((c.tc : Thread Cert.ConvWeightGradReferenceIdeal.nD Cert.ConvWeightGradReferenceIdeal.τ).loc Cert.ConvWeightGradReferenceIdeal.main_arg1) = m' ((c.tc : Thread Cert.ConvWeightGradReferenceIdeal.nD Cert.ConvWeightGradReferenceIdeal.τ).loc Cert.ConvWeightGradReferenceIdeal.main_arg1))

def preserves_PairWeightGrad_PairWeightGradIdeal : Prop :=
  True

def algebraic_PairWeightGradIdeal_PairWeightGradReferenceIdeal [hPairWeightGradIdeal : Cert.PairWeightGradIdeal.Facts] [hPairWeightGradReferenceIdeal : Cert.PairWeightGradReferenceIdeal.Facts] : Prop :=
  ∀ (m : (ℓ : Loc Cert.PairWeightGradIdeal.nD Cert.PairWeightGradIdeal.τ Cert.PairWeightGradIdeal.sig) → Buf (Elt Ideal) ℓ) (g : Dev Cert.PairWeightGradIdeal.nD → PrngReg)
    (m' : (ℓ : Loc Cert.PairWeightGradReferenceIdeal.nD Cert.PairWeightGradReferenceIdeal.τ Cert.PairWeightGradReferenceIdeal.sig) → Buf (Elt Ideal) ℓ) (g' : Dev Cert.PairWeightGradReferenceIdeal.nD → PrngReg), Pre_PairWeightGradIdeal m →
    (∀ c : Dev Cert.PairWeightGradIdeal.nD,
      m' ((c.tc : Thread Cert.PairWeightGradReferenceIdeal.nD Cert.PairWeightGradReferenceIdeal.τ).loc Cert.PairWeightGradReferenceIdeal.main_arg0) = m ((c.tc : Thread Cert.PairWeightGradIdeal.nD Cert.PairWeightGradIdeal.τ).loc Cert.PairWeightGradIdeal.main_arg0)
      ∧ m' ((c.tc : Thread Cert.PairWeightGradReferenceIdeal.nD Cert.PairWeightGradReferenceIdeal.τ).loc Cert.PairWeightGradReferenceIdeal.main_arg1) = m ((c.tc : Thread Cert.PairWeightGradIdeal.nD Cert.PairWeightGradIdeal.τ).loc Cert.PairWeightGradIdeal.main_arg1)
      ∧ m' ((c.tc : Thread Cert.PairWeightGradReferenceIdeal.nD Cert.PairWeightGradReferenceIdeal.τ).loc Cert.PairWeightGradReferenceIdeal.main_arg2) = m ((c.tc : Thread Cert.PairWeightGradIdeal.nD Cert.PairWeightGradIdeal.τ).loc Cert.PairWeightGradIdeal.main_arg2)) →
    ∃ (v0 : (c : Dev Cert.PairWeightGradIdeal.nD) → Buf (Elt Ideal) ((c.tc : Thread Cert.PairWeightGradIdeal.nD Cert.PairWeightGradIdeal.τ).loc Cert.PairWeightGradIdeal.main_v2)),
      θ_run (Cert.PairWeightGradIdeal.defs (F := Ideal)) (onTc (τ := Cert.PairWeightGradIdeal.τ) (Cert.PairWeightGradIdeal.main (F := Ideal))) ⟨m, fun _ => 0, g⟩ (fun r => ∀ c : Dev Cert.PairWeightGradIdeal.nD,
          r.2.mem ((c.tc : Thread Cert.PairWeightGradIdeal.nD Cert.PairWeightGradIdeal.τ).loc Cert.PairWeightGradIdeal.main_v2) = v0 c
          ∧ r.2.mem ((c.tc : Thread Cert.PairWeightGradIdeal.nD Cert.PairWeightGradIdeal.τ).loc Cert.PairWeightGradIdeal.main_arg0) = m ((c.tc : Thread Cert.PairWeightGradIdeal.nD Cert.PairWeightGradIdeal.τ).loc Cert.PairWeightGradIdeal.main_arg0)
          ∧ r.2.mem ((c.tc : Thread Cert.PairWeightGradIdeal.nD Cert.PairWeightGradIdeal.τ).loc Cert.PairWeightGradIdeal.main_arg1) = m ((c.tc : Thread Cert.PairWeightGradIdeal.nD Cert.PairWeightGradIdeal.τ).loc Cert.PairWeightGradIdeal.main_arg1)
          ∧ r.2.mem ((c.tc : Thread Cert.PairWeightGradIdeal.nD Cert.PairWeightGradIdeal.τ).loc Cert.PairWeightGradIdeal.main_arg2) = m ((c.tc : Thread Cert.PairWeightGradIdeal.nD Cert.PairWeightGradIdeal.τ).loc Cert.PairWeightGradIdeal.main_arg2))
      ∧ θ_run (Cert.PairWeightGradReferenceIdeal.defs (F := Ideal)) (onTc (τ := Cert.PairWeightGradReferenceIdeal.τ) (Cert.PairWeightGradReferenceIdeal.main (F := Ideal))) ⟨m', fun _ => 0, g'⟩ (fun r => ∀ c : Dev Cert.PairWeightGradReferenceIdeal.nD,
          r.2.mem ((c.tc : Thread Cert.PairWeightGradReferenceIdeal.nD Cert.PairWeightGradReferenceIdeal.τ).loc Cert.PairWeightGradReferenceIdeal.main_v14) = v0 c
          ∧ r.2.mem ((c.tc : Thread Cert.PairWeightGradReferenceIdeal.nD Cert.PairWeightGradReferenceIdeal.τ).loc Cert.PairWeightGradReferenceIdeal.main_arg0) = m' ((c.tc : Thread Cert.PairWeightGradReferenceIdeal.nD Cert.PairWeightGradReferenceIdeal.τ).loc Cert.PairWeightGradReferenceIdeal.main_arg0)
          ∧ r.2.mem ((c.tc : Thread Cert.PairWeightGradReferenceIdeal.nD Cert.PairWeightGradReferenceIdeal.τ).loc Cert.PairWeightGradReferenceIdeal.main_arg1) = m' ((c.tc : Thread Cert.PairWeightGradReferenceIdeal.nD Cert.PairWeightGradReferenceIdeal.τ).loc Cert.PairWeightGradReferenceIdeal.main_arg1)
          ∧ r.2.mem ((c.tc : Thread Cert.PairWeightGradReferenceIdeal.nD Cert.PairWeightGradReferenceIdeal.τ).loc Cert.PairWeightGradReferenceIdeal.main_arg2) = m' ((c.tc : Thread Cert.PairWeightGradReferenceIdeal.nD Cert.PairWeightGradReferenceIdeal.τ).loc Cert.PairWeightGradReferenceIdeal.main_arg2))

def preserves_InputGrad_InputGradIdeal : Prop :=
  True

def algebraic_InputGradIdeal_InputGradReferenceIdeal [hInputGradIdeal : Cert.InputGradIdeal.Facts] [hInputGradReferenceIdeal : Cert.InputGradReferenceIdeal.Facts] : Prop :=
  ∀ (m : (ℓ : Loc Cert.InputGradIdeal.nD Cert.InputGradIdeal.τ Cert.InputGradIdeal.sig) → Buf (Elt Ideal) ℓ) (g : Dev Cert.InputGradIdeal.nD → PrngReg)
    (m' : (ℓ : Loc Cert.InputGradReferenceIdeal.nD Cert.InputGradReferenceIdeal.τ Cert.InputGradReferenceIdeal.sig) → Buf (Elt Ideal) ℓ) (g' : Dev Cert.InputGradReferenceIdeal.nD → PrngReg), Pre_InputGradIdeal m →
    (∀ c : Dev Cert.InputGradIdeal.nD,
      m' ((c.tc : Thread Cert.InputGradReferenceIdeal.nD Cert.InputGradReferenceIdeal.τ).loc Cert.InputGradReferenceIdeal.main_arg0) = m ((c.tc : Thread Cert.InputGradIdeal.nD Cert.InputGradIdeal.τ).loc Cert.InputGradIdeal.main_arg0)
      ∧ m' ((c.tc : Thread Cert.InputGradReferenceIdeal.nD Cert.InputGradReferenceIdeal.τ).loc Cert.InputGradReferenceIdeal.main_arg1) = m ((c.tc : Thread Cert.InputGradIdeal.nD Cert.InputGradIdeal.τ).loc Cert.InputGradIdeal.main_arg1)
      ∧ m' ((c.tc : Thread Cert.InputGradReferenceIdeal.nD Cert.InputGradReferenceIdeal.τ).loc Cert.InputGradReferenceIdeal.main_arg2) = m ((c.tc : Thread Cert.InputGradIdeal.nD Cert.InputGradIdeal.τ).loc Cert.InputGradIdeal.main_arg2)) →
    ∃ (v0 : (c : Dev Cert.InputGradIdeal.nD) → Buf (Elt Ideal) ((c.tc : Thread Cert.InputGradIdeal.nD Cert.InputGradIdeal.τ).loc Cert.InputGradIdeal.main_v2)),
      θ_run (Cert.InputGradIdeal.defs (F := Ideal)) (onTc (τ := Cert.InputGradIdeal.τ) (Cert.InputGradIdeal.main (F := Ideal))) ⟨m, fun _ => 0, g⟩ (fun r => ∀ c : Dev Cert.InputGradIdeal.nD,
          r.2.mem ((c.tc : Thread Cert.InputGradIdeal.nD Cert.InputGradIdeal.τ).loc Cert.InputGradIdeal.main_v2) = v0 c
          ∧ r.2.mem ((c.tc : Thread Cert.InputGradIdeal.nD Cert.InputGradIdeal.τ).loc Cert.InputGradIdeal.main_arg0) = m ((c.tc : Thread Cert.InputGradIdeal.nD Cert.InputGradIdeal.τ).loc Cert.InputGradIdeal.main_arg0)
          ∧ r.2.mem ((c.tc : Thread Cert.InputGradIdeal.nD Cert.InputGradIdeal.τ).loc Cert.InputGradIdeal.main_arg1) = m ((c.tc : Thread Cert.InputGradIdeal.nD Cert.InputGradIdeal.τ).loc Cert.InputGradIdeal.main_arg1)
          ∧ r.2.mem ((c.tc : Thread Cert.InputGradIdeal.nD Cert.InputGradIdeal.τ).loc Cert.InputGradIdeal.main_arg2) = m ((c.tc : Thread Cert.InputGradIdeal.nD Cert.InputGradIdeal.τ).loc Cert.InputGradIdeal.main_arg2))
      ∧ θ_run (Cert.InputGradReferenceIdeal.defs (F := Ideal)) (onTc (τ := Cert.InputGradReferenceIdeal.τ) (Cert.InputGradReferenceIdeal.main (F := Ideal))) ⟨m', fun _ => 0, g'⟩ (fun r => ∀ c : Dev Cert.InputGradReferenceIdeal.nD,
          r.2.mem ((c.tc : Thread Cert.InputGradReferenceIdeal.nD Cert.InputGradReferenceIdeal.τ).loc Cert.InputGradReferenceIdeal.main_v9) = v0 c
          ∧ r.2.mem ((c.tc : Thread Cert.InputGradReferenceIdeal.nD Cert.InputGradReferenceIdeal.τ).loc Cert.InputGradReferenceIdeal.main_arg0) = m' ((c.tc : Thread Cert.InputGradReferenceIdeal.nD Cert.InputGradReferenceIdeal.τ).loc Cert.InputGradReferenceIdeal.main_arg0)
          ∧ r.2.mem ((c.tc : Thread Cert.InputGradReferenceIdeal.nD Cert.InputGradReferenceIdeal.τ).loc Cert.InputGradReferenceIdeal.main_arg1) = m' ((c.tc : Thread Cert.InputGradReferenceIdeal.nD Cert.InputGradReferenceIdeal.τ).loc Cert.InputGradReferenceIdeal.main_arg1)
          ∧ r.2.mem ((c.tc : Thread Cert.InputGradReferenceIdeal.nD Cert.InputGradReferenceIdeal.τ).loc Cert.InputGradReferenceIdeal.main_arg2) = m' ((c.tc : Thread Cert.InputGradReferenceIdeal.nD Cert.InputGradReferenceIdeal.τ).loc Cert.InputGradReferenceIdeal.main_arg2))

def preserves_InputProjection_InputProjectionIdeal : Prop :=
  True

def algebraic_InputProjectionIdeal_InputProjectionReferenceIdeal [hInputProjectionIdeal : Cert.InputProjectionIdeal.Facts] [hInputProjectionReferenceIdeal : Cert.InputProjectionReferenceIdeal.Facts] : Prop :=
  ∀ (m : (ℓ : Loc Cert.InputProjectionIdeal.nD Cert.InputProjectionIdeal.τ Cert.InputProjectionIdeal.sig) → Buf (Elt Ideal) ℓ) (g : Dev Cert.InputProjectionIdeal.nD → PrngReg)
    (m' : (ℓ : Loc Cert.InputProjectionReferenceIdeal.nD Cert.InputProjectionReferenceIdeal.τ Cert.InputProjectionReferenceIdeal.sig) → Buf (Elt Ideal) ℓ) (g' : Dev Cert.InputProjectionReferenceIdeal.nD → PrngReg), Pre_InputProjectionIdeal m →
    (∀ c : Dev Cert.InputProjectionIdeal.nD,
      m' ((c.tc : Thread Cert.InputProjectionReferenceIdeal.nD Cert.InputProjectionReferenceIdeal.τ).loc Cert.InputProjectionReferenceIdeal.main_arg0) = m ((c.tc : Thread Cert.InputProjectionIdeal.nD Cert.InputProjectionIdeal.τ).loc Cert.InputProjectionIdeal.main_arg0)
      ∧ m' ((c.tc : Thread Cert.InputProjectionReferenceIdeal.nD Cert.InputProjectionReferenceIdeal.τ).loc Cert.InputProjectionReferenceIdeal.main_arg1) = m ((c.tc : Thread Cert.InputProjectionIdeal.nD Cert.InputProjectionIdeal.τ).loc Cert.InputProjectionIdeal.main_arg1)
      ∧ m' ((c.tc : Thread Cert.InputProjectionReferenceIdeal.nD Cert.InputProjectionReferenceIdeal.τ).loc Cert.InputProjectionReferenceIdeal.main_arg2) = m ((c.tc : Thread Cert.InputProjectionIdeal.nD Cert.InputProjectionIdeal.τ).loc Cert.InputProjectionIdeal.main_arg2)) →
    ∃ (v0 : (c : Dev Cert.InputProjectionIdeal.nD) → Buf (Elt Ideal) ((c.tc : Thread Cert.InputProjectionIdeal.nD Cert.InputProjectionIdeal.τ).loc Cert.InputProjectionIdeal.main_v1_0)) (v1 : (c : Dev Cert.InputProjectionIdeal.nD) → Buf (Elt Ideal) ((c.tc : Thread Cert.InputProjectionIdeal.nD Cert.InputProjectionIdeal.τ).loc Cert.InputProjectionIdeal.main_v1_1)) (v2 : (c : Dev Cert.InputProjectionIdeal.nD) → Buf (Elt Ideal) ((c.tc : Thread Cert.InputProjectionIdeal.nD Cert.InputProjectionIdeal.τ).loc Cert.InputProjectionIdeal.main_v1_2)),
      θ_run (Cert.InputProjectionIdeal.defs (F := Ideal)) (onTc (τ := Cert.InputProjectionIdeal.τ) (Cert.InputProjectionIdeal.main (F := Ideal))) ⟨m, fun _ => 0, g⟩ (fun r => ∀ c : Dev Cert.InputProjectionIdeal.nD,
          r.2.mem ((c.tc : Thread Cert.InputProjectionIdeal.nD Cert.InputProjectionIdeal.τ).loc Cert.InputProjectionIdeal.main_v1_0) = v0 c
          ∧ r.2.mem ((c.tc : Thread Cert.InputProjectionIdeal.nD Cert.InputProjectionIdeal.τ).loc Cert.InputProjectionIdeal.main_v1_1) = v1 c
          ∧ r.2.mem ((c.tc : Thread Cert.InputProjectionIdeal.nD Cert.InputProjectionIdeal.τ).loc Cert.InputProjectionIdeal.main_v1_2) = v2 c
          ∧ r.2.mem ((c.tc : Thread Cert.InputProjectionIdeal.nD Cert.InputProjectionIdeal.τ).loc Cert.InputProjectionIdeal.main_arg0) = m ((c.tc : Thread Cert.InputProjectionIdeal.nD Cert.InputProjectionIdeal.τ).loc Cert.InputProjectionIdeal.main_arg0)
          ∧ r.2.mem ((c.tc : Thread Cert.InputProjectionIdeal.nD Cert.InputProjectionIdeal.τ).loc Cert.InputProjectionIdeal.main_arg1) = m ((c.tc : Thread Cert.InputProjectionIdeal.nD Cert.InputProjectionIdeal.τ).loc Cert.InputProjectionIdeal.main_arg1)
          ∧ r.2.mem ((c.tc : Thread Cert.InputProjectionIdeal.nD Cert.InputProjectionIdeal.τ).loc Cert.InputProjectionIdeal.main_arg2) = m ((c.tc : Thread Cert.InputProjectionIdeal.nD Cert.InputProjectionIdeal.τ).loc Cert.InputProjectionIdeal.main_arg2))
      ∧ θ_run (Cert.InputProjectionReferenceIdeal.defs (F := Ideal)) (onTc (τ := Cert.InputProjectionReferenceIdeal.τ) (Cert.InputProjectionReferenceIdeal.main (F := Ideal))) ⟨m', fun _ => 0, g'⟩ (fun r => ∀ c : Dev Cert.InputProjectionReferenceIdeal.nD,
          r.2.mem ((c.tc : Thread Cert.InputProjectionReferenceIdeal.nD Cert.InputProjectionReferenceIdeal.τ).loc Cert.InputProjectionReferenceIdeal.main_v4) = v0 c
          ∧ r.2.mem ((c.tc : Thread Cert.InputProjectionReferenceIdeal.nD Cert.InputProjectionReferenceIdeal.τ).loc Cert.InputProjectionReferenceIdeal.main_v14) = v1 c
          ∧ r.2.mem ((c.tc : Thread Cert.InputProjectionReferenceIdeal.nD Cert.InputProjectionReferenceIdeal.τ).loc Cert.InputProjectionReferenceIdeal.main_v15) = v2 c
          ∧ r.2.mem ((c.tc : Thread Cert.InputProjectionReferenceIdeal.nD Cert.InputProjectionReferenceIdeal.τ).loc Cert.InputProjectionReferenceIdeal.main_arg0) = m' ((c.tc : Thread Cert.InputProjectionReferenceIdeal.nD Cert.InputProjectionReferenceIdeal.τ).loc Cert.InputProjectionReferenceIdeal.main_arg0)
          ∧ r.2.mem ((c.tc : Thread Cert.InputProjectionReferenceIdeal.nD Cert.InputProjectionReferenceIdeal.τ).loc Cert.InputProjectionReferenceIdeal.main_arg1) = m' ((c.tc : Thread Cert.InputProjectionReferenceIdeal.nD Cert.InputProjectionReferenceIdeal.τ).loc Cert.InputProjectionReferenceIdeal.main_arg1)
          ∧ r.2.mem ((c.tc : Thread Cert.InputProjectionReferenceIdeal.nD Cert.InputProjectionReferenceIdeal.τ).loc Cert.InputProjectionReferenceIdeal.main_arg2) = m' ((c.tc : Thread Cert.InputProjectionReferenceIdeal.nD Cert.InputProjectionReferenceIdeal.τ).loc Cert.InputProjectionReferenceIdeal.main_arg2))

def preserves_PairProjection_PairProjectionIdeal : Prop :=
  True

def algebraic_PairProjectionIdeal_PairProjectionReferenceIdeal [hPairProjectionIdeal : Cert.PairProjectionIdeal.Facts] [hPairProjectionReferenceIdeal : Cert.PairProjectionReferenceIdeal.Facts] : Prop :=
  ∀ (m : (ℓ : Loc Cert.PairProjectionIdeal.nD Cert.PairProjectionIdeal.τ Cert.PairProjectionIdeal.sig) → Buf (Elt Ideal) ℓ) (g : Dev Cert.PairProjectionIdeal.nD → PrngReg)
    (m' : (ℓ : Loc Cert.PairProjectionReferenceIdeal.nD Cert.PairProjectionReferenceIdeal.τ Cert.PairProjectionReferenceIdeal.sig) → Buf (Elt Ideal) ℓ) (g' : Dev Cert.PairProjectionReferenceIdeal.nD → PrngReg), Pre_PairProjectionIdeal m →
    (∀ c : Dev Cert.PairProjectionIdeal.nD,
      m' ((c.tc : Thread Cert.PairProjectionReferenceIdeal.nD Cert.PairProjectionReferenceIdeal.τ).loc Cert.PairProjectionReferenceIdeal.main_arg0) = m ((c.tc : Thread Cert.PairProjectionIdeal.nD Cert.PairProjectionIdeal.τ).loc Cert.PairProjectionIdeal.main_arg0)
      ∧ m' ((c.tc : Thread Cert.PairProjectionReferenceIdeal.nD Cert.PairProjectionReferenceIdeal.τ).loc Cert.PairProjectionReferenceIdeal.main_arg1) = m ((c.tc : Thread Cert.PairProjectionIdeal.nD Cert.PairProjectionIdeal.τ).loc Cert.PairProjectionIdeal.main_arg1)) →
    ∃ (v0 : (c : Dev Cert.PairProjectionIdeal.nD) → Buf (Elt Ideal) ((c.tc : Thread Cert.PairProjectionIdeal.nD Cert.PairProjectionIdeal.τ).loc Cert.PairProjectionIdeal.main_v2_0)) (v1 : (c : Dev Cert.PairProjectionIdeal.nD) → Buf (Elt Ideal) ((c.tc : Thread Cert.PairProjectionIdeal.nD Cert.PairProjectionIdeal.τ).loc Cert.PairProjectionIdeal.main_v2_1)),
      θ_run (Cert.PairProjectionIdeal.defs (F := Ideal)) (onTc (τ := Cert.PairProjectionIdeal.τ) (Cert.PairProjectionIdeal.main (F := Ideal))) ⟨m, fun _ => 0, g⟩ (fun r => ∀ c : Dev Cert.PairProjectionIdeal.nD,
          r.2.mem ((c.tc : Thread Cert.PairProjectionIdeal.nD Cert.PairProjectionIdeal.τ).loc Cert.PairProjectionIdeal.main_v2_0) = v0 c
          ∧ r.2.mem ((c.tc : Thread Cert.PairProjectionIdeal.nD Cert.PairProjectionIdeal.τ).loc Cert.PairProjectionIdeal.main_v2_1) = v1 c
          ∧ r.2.mem ((c.tc : Thread Cert.PairProjectionIdeal.nD Cert.PairProjectionIdeal.τ).loc Cert.PairProjectionIdeal.main_arg0) = m ((c.tc : Thread Cert.PairProjectionIdeal.nD Cert.PairProjectionIdeal.τ).loc Cert.PairProjectionIdeal.main_arg0)
          ∧ r.2.mem ((c.tc : Thread Cert.PairProjectionIdeal.nD Cert.PairProjectionIdeal.τ).loc Cert.PairProjectionIdeal.main_arg1) = m ((c.tc : Thread Cert.PairProjectionIdeal.nD Cert.PairProjectionIdeal.τ).loc Cert.PairProjectionIdeal.main_arg1))
      ∧ θ_run (Cert.PairProjectionReferenceIdeal.defs (F := Ideal)) (onTc (τ := Cert.PairProjectionReferenceIdeal.τ) (Cert.PairProjectionReferenceIdeal.main (F := Ideal))) ⟨m', fun _ => 0, g'⟩ (fun r => ∀ c : Dev Cert.PairProjectionReferenceIdeal.nD,
          r.2.mem ((c.tc : Thread Cert.PairProjectionReferenceIdeal.nD Cert.PairProjectionReferenceIdeal.τ).loc Cert.PairProjectionReferenceIdeal.main_v4) = v0 c
          ∧ r.2.mem ((c.tc : Thread Cert.PairProjectionReferenceIdeal.nD Cert.PairProjectionReferenceIdeal.τ).loc Cert.PairProjectionReferenceIdeal.main_v6) = v1 c
          ∧ r.2.mem ((c.tc : Thread Cert.PairProjectionReferenceIdeal.nD Cert.PairProjectionReferenceIdeal.τ).loc Cert.PairProjectionReferenceIdeal.main_arg0) = m' ((c.tc : Thread Cert.PairProjectionReferenceIdeal.nD Cert.PairProjectionReferenceIdeal.τ).loc Cert.PairProjectionReferenceIdeal.main_arg0)
          ∧ r.2.mem ((c.tc : Thread Cert.PairProjectionReferenceIdeal.nD Cert.PairProjectionReferenceIdeal.τ).loc Cert.PairProjectionReferenceIdeal.main_arg1) = m' ((c.tc : Thread Cert.PairProjectionReferenceIdeal.nD Cert.PairProjectionReferenceIdeal.τ).loc Cert.PairProjectionReferenceIdeal.main_arg1))

def preserves_QueryProjection_QueryProjectionIdeal : Prop :=
  True

def algebraic_QueryProjectionIdeal_QueryProjectionReferenceIdeal [hQueryProjectionIdeal : Cert.QueryProjectionIdeal.Facts] [hQueryProjectionReferenceIdeal : Cert.QueryProjectionReferenceIdeal.Facts] : Prop :=
  ∀ (m : (ℓ : Loc Cert.QueryProjectionIdeal.nD Cert.QueryProjectionIdeal.τ Cert.QueryProjectionIdeal.sig) → Buf (Elt Ideal) ℓ) (g : Dev Cert.QueryProjectionIdeal.nD → PrngReg)
    (m' : (ℓ : Loc Cert.QueryProjectionReferenceIdeal.nD Cert.QueryProjectionReferenceIdeal.τ Cert.QueryProjectionReferenceIdeal.sig) → Buf (Elt Ideal) ℓ) (g' : Dev Cert.QueryProjectionReferenceIdeal.nD → PrngReg), Pre_QueryProjectionIdeal m →
    (∀ c : Dev Cert.QueryProjectionIdeal.nD,
      m' ((c.tc : Thread Cert.QueryProjectionReferenceIdeal.nD Cert.QueryProjectionReferenceIdeal.τ).loc Cert.QueryProjectionReferenceIdeal.main_arg0) = m ((c.tc : Thread Cert.QueryProjectionIdeal.nD Cert.QueryProjectionIdeal.τ).loc Cert.QueryProjectionIdeal.main_arg0)
      ∧ m' ((c.tc : Thread Cert.QueryProjectionReferenceIdeal.nD Cert.QueryProjectionReferenceIdeal.τ).loc Cert.QueryProjectionReferenceIdeal.main_arg1) = m ((c.tc : Thread Cert.QueryProjectionIdeal.nD Cert.QueryProjectionIdeal.τ).loc Cert.QueryProjectionIdeal.main_arg1)) →
    ∃ (v0 : (c : Dev Cert.QueryProjectionIdeal.nD) → Buf (Elt Ideal) ((c.tc : Thread Cert.QueryProjectionIdeal.nD Cert.QueryProjectionIdeal.τ).loc Cert.QueryProjectionIdeal.main_v2_0)) (v1 : (c : Dev Cert.QueryProjectionIdeal.nD) → Buf (Elt Ideal) ((c.tc : Thread Cert.QueryProjectionIdeal.nD Cert.QueryProjectionIdeal.τ).loc Cert.QueryProjectionIdeal.main_v2_1)),
      θ_run (Cert.QueryProjectionIdeal.defs (F := Ideal)) (onTc (τ := Cert.QueryProjectionIdeal.τ) (Cert.QueryProjectionIdeal.main (F := Ideal))) ⟨m, fun _ => 0, g⟩ (fun r => ∀ c : Dev Cert.QueryProjectionIdeal.nD,
          r.2.mem ((c.tc : Thread Cert.QueryProjectionIdeal.nD Cert.QueryProjectionIdeal.τ).loc Cert.QueryProjectionIdeal.main_v2_0) = v0 c
          ∧ r.2.mem ((c.tc : Thread Cert.QueryProjectionIdeal.nD Cert.QueryProjectionIdeal.τ).loc Cert.QueryProjectionIdeal.main_v2_1) = v1 c
          ∧ r.2.mem ((c.tc : Thread Cert.QueryProjectionIdeal.nD Cert.QueryProjectionIdeal.τ).loc Cert.QueryProjectionIdeal.main_arg0) = m ((c.tc : Thread Cert.QueryProjectionIdeal.nD Cert.QueryProjectionIdeal.τ).loc Cert.QueryProjectionIdeal.main_arg0)
          ∧ r.2.mem ((c.tc : Thread Cert.QueryProjectionIdeal.nD Cert.QueryProjectionIdeal.τ).loc Cert.QueryProjectionIdeal.main_arg1) = m ((c.tc : Thread Cert.QueryProjectionIdeal.nD Cert.QueryProjectionIdeal.τ).loc Cert.QueryProjectionIdeal.main_arg1))
      ∧ θ_run (Cert.QueryProjectionReferenceIdeal.defs (F := Ideal)) (onTc (τ := Cert.QueryProjectionReferenceIdeal.τ) (Cert.QueryProjectionReferenceIdeal.main (F := Ideal))) ⟨m', fun _ => 0, g'⟩ (fun r => ∀ c : Dev Cert.QueryProjectionReferenceIdeal.nD,
          r.2.mem ((c.tc : Thread Cert.QueryProjectionReferenceIdeal.nD Cert.QueryProjectionReferenceIdeal.τ).loc Cert.QueryProjectionReferenceIdeal.main_v6) = v0 c
          ∧ r.2.mem ((c.tc : Thread Cert.QueryProjectionReferenceIdeal.nD Cert.QueryProjectionReferenceIdeal.τ).loc Cert.QueryProjectionReferenceIdeal.main_v7) = v1 c
          ∧ r.2.mem ((c.tc : Thread Cert.QueryProjectionReferenceIdeal.nD Cert.QueryProjectionReferenceIdeal.τ).loc Cert.QueryProjectionReferenceIdeal.main_arg0) = m' ((c.tc : Thread Cert.QueryProjectionReferenceIdeal.nD Cert.QueryProjectionReferenceIdeal.τ).loc Cert.QueryProjectionReferenceIdeal.main_arg0)
          ∧ r.2.mem ((c.tc : Thread Cert.QueryProjectionReferenceIdeal.nD Cert.QueryProjectionReferenceIdeal.τ).loc Cert.QueryProjectionReferenceIdeal.main_arg1) = m' ((c.tc : Thread Cert.QueryProjectionReferenceIdeal.nD Cert.QueryProjectionReferenceIdeal.τ).loc Cert.QueryProjectionReferenceIdeal.main_arg1))

def preserves_ResidualGrad_ResidualGradIdeal : Prop :=
  True

def algebraic_ResidualGradIdeal_ResidualGradReferenceIdeal [hResidualGradIdeal : Cert.ResidualGradIdeal.Facts] [hResidualGradReferenceIdeal : Cert.ResidualGradReferenceIdeal.Facts] : Prop :=
  ∀ (m : (ℓ : Loc Cert.ResidualGradIdeal.nD Cert.ResidualGradIdeal.τ Cert.ResidualGradIdeal.sig) → Buf (Elt Ideal) ℓ) (g : Dev Cert.ResidualGradIdeal.nD → PrngReg)
    (m' : (ℓ : Loc Cert.ResidualGradReferenceIdeal.nD Cert.ResidualGradReferenceIdeal.τ Cert.ResidualGradReferenceIdeal.sig) → Buf (Elt Ideal) ℓ) (g' : Dev Cert.ResidualGradReferenceIdeal.nD → PrngReg), Pre_ResidualGradIdeal m →
    (∀ c : Dev Cert.ResidualGradIdeal.nD,
      m' ((c.tc : Thread Cert.ResidualGradReferenceIdeal.nD Cert.ResidualGradReferenceIdeal.τ).loc Cert.ResidualGradReferenceIdeal.main_arg0) = m ((c.tc : Thread Cert.ResidualGradIdeal.nD Cert.ResidualGradIdeal.τ).loc Cert.ResidualGradIdeal.main_arg0)
      ∧ m' ((c.tc : Thread Cert.ResidualGradReferenceIdeal.nD Cert.ResidualGradReferenceIdeal.τ).loc Cert.ResidualGradReferenceIdeal.main_arg1) = m ((c.tc : Thread Cert.ResidualGradIdeal.nD Cert.ResidualGradIdeal.τ).loc Cert.ResidualGradIdeal.main_arg1)
      ∧ m' ((c.tc : Thread Cert.ResidualGradReferenceIdeal.nD Cert.ResidualGradReferenceIdeal.τ).loc Cert.ResidualGradReferenceIdeal.main_arg2) = m ((c.tc : Thread Cert.ResidualGradIdeal.nD Cert.ResidualGradIdeal.τ).loc Cert.ResidualGradIdeal.main_arg2)
      ∧ m' ((c.tc : Thread Cert.ResidualGradReferenceIdeal.nD Cert.ResidualGradReferenceIdeal.τ).loc Cert.ResidualGradReferenceIdeal.main_arg3) = m ((c.tc : Thread Cert.ResidualGradIdeal.nD Cert.ResidualGradIdeal.τ).loc Cert.ResidualGradIdeal.main_arg3)
      ∧ m' ((c.tc : Thread Cert.ResidualGradReferenceIdeal.nD Cert.ResidualGradReferenceIdeal.τ).loc Cert.ResidualGradReferenceIdeal.main_arg4) = m ((c.tc : Thread Cert.ResidualGradIdeal.nD Cert.ResidualGradIdeal.τ).loc Cert.ResidualGradIdeal.main_arg4)
      ∧ m' ((c.tc : Thread Cert.ResidualGradReferenceIdeal.nD Cert.ResidualGradReferenceIdeal.τ).loc Cert.ResidualGradReferenceIdeal.main_arg5) = m ((c.tc : Thread Cert.ResidualGradIdeal.nD Cert.ResidualGradIdeal.τ).loc Cert.ResidualGradIdeal.main_arg5)
      ∧ m' ((c.tc : Thread Cert.ResidualGradReferenceIdeal.nD Cert.ResidualGradReferenceIdeal.τ).loc Cert.ResidualGradReferenceIdeal.main_arg6) = m ((c.tc : Thread Cert.ResidualGradIdeal.nD Cert.ResidualGradIdeal.τ).loc Cert.ResidualGradIdeal.main_arg6)
      ∧ m' ((c.tc : Thread Cert.ResidualGradReferenceIdeal.nD Cert.ResidualGradReferenceIdeal.τ).loc Cert.ResidualGradReferenceIdeal.main_arg7) = m ((c.tc : Thread Cert.ResidualGradIdeal.nD Cert.ResidualGradIdeal.τ).loc Cert.ResidualGradIdeal.main_arg7)
      ∧ m' ((c.tc : Thread Cert.ResidualGradReferenceIdeal.nD Cert.ResidualGradReferenceIdeal.τ).loc Cert.ResidualGradReferenceIdeal.main_arg8) = m ((c.tc : Thread Cert.ResidualGradIdeal.nD Cert.ResidualGradIdeal.τ).loc Cert.ResidualGradIdeal.main_arg8)) →
    ∃ (v0 : (c : Dev Cert.ResidualGradIdeal.nD) → Buf (Elt Ideal) ((c.tc : Thread Cert.ResidualGradIdeal.nD Cert.ResidualGradIdeal.τ).loc Cert.ResidualGradIdeal.main_v2_0)) (v1 : (c : Dev Cert.ResidualGradIdeal.nD) → Buf (Elt Ideal) ((c.tc : Thread Cert.ResidualGradIdeal.nD Cert.ResidualGradIdeal.τ).loc Cert.ResidualGradIdeal.main_v2_1)) (v2 : (c : Dev Cert.ResidualGradIdeal.nD) → Buf (Elt Ideal) ((c.tc : Thread Cert.ResidualGradIdeal.nD Cert.ResidualGradIdeal.τ).loc Cert.ResidualGradIdeal.main_v2_2)) (v3 : (c : Dev Cert.ResidualGradIdeal.nD) → Buf (Elt Ideal) ((c.tc : Thread Cert.ResidualGradIdeal.nD Cert.ResidualGradIdeal.τ).loc Cert.ResidualGradIdeal.main_v2_3)) (v4 : (c : Dev Cert.ResidualGradIdeal.nD) → Buf (Elt Ideal) ((c.tc : Thread Cert.ResidualGradIdeal.nD Cert.ResidualGradIdeal.τ).loc Cert.ResidualGradIdeal.main_v2_4)),
      θ_run (Cert.ResidualGradIdeal.defs (F := Ideal)) (onTc (τ := Cert.ResidualGradIdeal.τ) (Cert.ResidualGradIdeal.main (F := Ideal))) ⟨m, fun _ => 0, g⟩ (fun r => ∀ c : Dev Cert.ResidualGradIdeal.nD,
          r.2.mem ((c.tc : Thread Cert.ResidualGradIdeal.nD Cert.ResidualGradIdeal.τ).loc Cert.ResidualGradIdeal.main_v2_0) = v0 c
          ∧ r.2.mem ((c.tc : Thread Cert.ResidualGradIdeal.nD Cert.ResidualGradIdeal.τ).loc Cert.ResidualGradIdeal.main_v2_1) = v1 c
          ∧ r.2.mem ((c.tc : Thread Cert.ResidualGradIdeal.nD Cert.ResidualGradIdeal.τ).loc Cert.ResidualGradIdeal.main_v2_2) = v2 c
          ∧ r.2.mem ((c.tc : Thread Cert.ResidualGradIdeal.nD Cert.ResidualGradIdeal.τ).loc Cert.ResidualGradIdeal.main_v2_3) = v3 c
          ∧ r.2.mem ((c.tc : Thread Cert.ResidualGradIdeal.nD Cert.ResidualGradIdeal.τ).loc Cert.ResidualGradIdeal.main_v2_4) = v4 c
          ∧ r.2.mem ((c.tc : Thread Cert.ResidualGradIdeal.nD Cert.ResidualGradIdeal.τ).loc Cert.ResidualGradIdeal.main_arg0) = m ((c.tc : Thread Cert.ResidualGradIdeal.nD Cert.ResidualGradIdeal.τ).loc Cert.ResidualGradIdeal.main_arg0)
          ∧ r.2.mem ((c.tc : Thread Cert.ResidualGradIdeal.nD Cert.ResidualGradIdeal.τ).loc Cert.ResidualGradIdeal.main_arg1) = m ((c.tc : Thread Cert.ResidualGradIdeal.nD Cert.ResidualGradIdeal.τ).loc Cert.ResidualGradIdeal.main_arg1)
          ∧ r.2.mem ((c.tc : Thread Cert.ResidualGradIdeal.nD Cert.ResidualGradIdeal.τ).loc Cert.ResidualGradIdeal.main_arg2) = m ((c.tc : Thread Cert.ResidualGradIdeal.nD Cert.ResidualGradIdeal.τ).loc Cert.ResidualGradIdeal.main_arg2)
          ∧ r.2.mem ((c.tc : Thread Cert.ResidualGradIdeal.nD Cert.ResidualGradIdeal.τ).loc Cert.ResidualGradIdeal.main_arg3) = m ((c.tc : Thread Cert.ResidualGradIdeal.nD Cert.ResidualGradIdeal.τ).loc Cert.ResidualGradIdeal.main_arg3)
          ∧ r.2.mem ((c.tc : Thread Cert.ResidualGradIdeal.nD Cert.ResidualGradIdeal.τ).loc Cert.ResidualGradIdeal.main_arg4) = m ((c.tc : Thread Cert.ResidualGradIdeal.nD Cert.ResidualGradIdeal.τ).loc Cert.ResidualGradIdeal.main_arg4)
          ∧ r.2.mem ((c.tc : Thread Cert.ResidualGradIdeal.nD Cert.ResidualGradIdeal.τ).loc Cert.ResidualGradIdeal.main_arg5) = m ((c.tc : Thread Cert.ResidualGradIdeal.nD Cert.ResidualGradIdeal.τ).loc Cert.ResidualGradIdeal.main_arg5)
          ∧ r.2.mem ((c.tc : Thread Cert.ResidualGradIdeal.nD Cert.ResidualGradIdeal.τ).loc Cert.ResidualGradIdeal.main_arg6) = m ((c.tc : Thread Cert.ResidualGradIdeal.nD Cert.ResidualGradIdeal.τ).loc Cert.ResidualGradIdeal.main_arg6)
          ∧ r.2.mem ((c.tc : Thread Cert.ResidualGradIdeal.nD Cert.ResidualGradIdeal.τ).loc Cert.ResidualGradIdeal.main_arg7) = m ((c.tc : Thread Cert.ResidualGradIdeal.nD Cert.ResidualGradIdeal.τ).loc Cert.ResidualGradIdeal.main_arg7)
          ∧ r.2.mem ((c.tc : Thread Cert.ResidualGradIdeal.nD Cert.ResidualGradIdeal.τ).loc Cert.ResidualGradIdeal.main_arg8) = m ((c.tc : Thread Cert.ResidualGradIdeal.nD Cert.ResidualGradIdeal.τ).loc Cert.ResidualGradIdeal.main_arg8))
      ∧ θ_run (Cert.ResidualGradReferenceIdeal.defs (F := Ideal)) (onTc (τ := Cert.ResidualGradReferenceIdeal.τ) (Cert.ResidualGradReferenceIdeal.main (F := Ideal))) ⟨m', fun _ => 0, g'⟩ (fun r => ∀ c : Dev Cert.ResidualGradReferenceIdeal.nD,
          r.2.mem ((c.tc : Thread Cert.ResidualGradReferenceIdeal.nD Cert.ResidualGradReferenceIdeal.τ).loc Cert.ResidualGradReferenceIdeal.main_v49) = v0 c
          ∧ r.2.mem ((c.tc : Thread Cert.ResidualGradReferenceIdeal.nD Cert.ResidualGradReferenceIdeal.τ).loc Cert.ResidualGradReferenceIdeal.main_v50) = v1 c
          ∧ r.2.mem ((c.tc : Thread Cert.ResidualGradReferenceIdeal.nD Cert.ResidualGradReferenceIdeal.τ).loc Cert.ResidualGradReferenceIdeal.main_v51) = v2 c
          ∧ r.2.mem ((c.tc : Thread Cert.ResidualGradReferenceIdeal.nD Cert.ResidualGradReferenceIdeal.τ).loc Cert.ResidualGradReferenceIdeal.main_v52) = v3 c
          ∧ r.2.mem ((c.tc : Thread Cert.ResidualGradReferenceIdeal.nD Cert.ResidualGradReferenceIdeal.τ).loc Cert.ResidualGradReferenceIdeal.main_v55) = v4 c
          ∧ r.2.mem ((c.tc : Thread Cert.ResidualGradReferenceIdeal.nD Cert.ResidualGradReferenceIdeal.τ).loc Cert.ResidualGradReferenceIdeal.main_arg0) = m' ((c.tc : Thread Cert.ResidualGradReferenceIdeal.nD Cert.ResidualGradReferenceIdeal.τ).loc Cert.ResidualGradReferenceIdeal.main_arg0)
          ∧ r.2.mem ((c.tc : Thread Cert.ResidualGradReferenceIdeal.nD Cert.ResidualGradReferenceIdeal.τ).loc Cert.ResidualGradReferenceIdeal.main_arg1) = m' ((c.tc : Thread Cert.ResidualGradReferenceIdeal.nD Cert.ResidualGradReferenceIdeal.τ).loc Cert.ResidualGradReferenceIdeal.main_arg1)
          ∧ r.2.mem ((c.tc : Thread Cert.ResidualGradReferenceIdeal.nD Cert.ResidualGradReferenceIdeal.τ).loc Cert.ResidualGradReferenceIdeal.main_arg2) = m' ((c.tc : Thread Cert.ResidualGradReferenceIdeal.nD Cert.ResidualGradReferenceIdeal.τ).loc Cert.ResidualGradReferenceIdeal.main_arg2)
          ∧ r.2.mem ((c.tc : Thread Cert.ResidualGradReferenceIdeal.nD Cert.ResidualGradReferenceIdeal.τ).loc Cert.ResidualGradReferenceIdeal.main_arg3) = m' ((c.tc : Thread Cert.ResidualGradReferenceIdeal.nD Cert.ResidualGradReferenceIdeal.τ).loc Cert.ResidualGradReferenceIdeal.main_arg3)
          ∧ r.2.mem ((c.tc : Thread Cert.ResidualGradReferenceIdeal.nD Cert.ResidualGradReferenceIdeal.τ).loc Cert.ResidualGradReferenceIdeal.main_arg4) = m' ((c.tc : Thread Cert.ResidualGradReferenceIdeal.nD Cert.ResidualGradReferenceIdeal.τ).loc Cert.ResidualGradReferenceIdeal.main_arg4)
          ∧ r.2.mem ((c.tc : Thread Cert.ResidualGradReferenceIdeal.nD Cert.ResidualGradReferenceIdeal.τ).loc Cert.ResidualGradReferenceIdeal.main_arg5) = m' ((c.tc : Thread Cert.ResidualGradReferenceIdeal.nD Cert.ResidualGradReferenceIdeal.τ).loc Cert.ResidualGradReferenceIdeal.main_arg5)
          ∧ r.2.mem ((c.tc : Thread Cert.ResidualGradReferenceIdeal.nD Cert.ResidualGradReferenceIdeal.τ).loc Cert.ResidualGradReferenceIdeal.main_arg6) = m' ((c.tc : Thread Cert.ResidualGradReferenceIdeal.nD Cert.ResidualGradReferenceIdeal.τ).loc Cert.ResidualGradReferenceIdeal.main_arg6)
          ∧ r.2.mem ((c.tc : Thread Cert.ResidualGradReferenceIdeal.nD Cert.ResidualGradReferenceIdeal.τ).loc Cert.ResidualGradReferenceIdeal.main_arg7) = m' ((c.tc : Thread Cert.ResidualGradReferenceIdeal.nD Cert.ResidualGradReferenceIdeal.τ).loc Cert.ResidualGradReferenceIdeal.main_arg7)
          ∧ r.2.mem ((c.tc : Thread Cert.ResidualGradReferenceIdeal.nD Cert.ResidualGradReferenceIdeal.τ).loc Cert.ResidualGradReferenceIdeal.main_arg8) = m' ((c.tc : Thread Cert.ResidualGradReferenceIdeal.nD Cert.ResidualGradReferenceIdeal.τ).loc Cert.ResidualGradReferenceIdeal.main_arg8))

def preserves_LossGrad_LossGradIdeal : Prop :=
  True

def algebraic_LossGradIdeal_LossGradReferenceIdeal [hLossGradIdeal : Cert.LossGradIdeal.Facts] [hLossGradReferenceIdeal : Cert.LossGradReferenceIdeal.Facts] : Prop :=
  ∀ (m : (ℓ : Loc Cert.LossGradIdeal.nD Cert.LossGradIdeal.τ Cert.LossGradIdeal.sig) → Buf (Elt Ideal) ℓ) (g : Dev Cert.LossGradIdeal.nD → PrngReg)
    (m' : (ℓ : Loc Cert.LossGradReferenceIdeal.nD Cert.LossGradReferenceIdeal.τ Cert.LossGradReferenceIdeal.sig) → Buf (Elt Ideal) ℓ) (g' : Dev Cert.LossGradReferenceIdeal.nD → PrngReg), Pre_LossGradIdeal m →
    (∀ c : Dev Cert.LossGradIdeal.nD,
      m' ((c.tc : Thread Cert.LossGradReferenceIdeal.nD Cert.LossGradReferenceIdeal.τ).loc Cert.LossGradReferenceIdeal.main_arg0) = m ((c.tc : Thread Cert.LossGradIdeal.nD Cert.LossGradIdeal.τ).loc Cert.LossGradIdeal.main_arg0)
      ∧ m' ((c.tc : Thread Cert.LossGradReferenceIdeal.nD Cert.LossGradReferenceIdeal.τ).loc Cert.LossGradReferenceIdeal.main_arg1) = m ((c.tc : Thread Cert.LossGradIdeal.nD Cert.LossGradIdeal.τ).loc Cert.LossGradIdeal.main_arg1)
      ∧ m' ((c.tc : Thread Cert.LossGradReferenceIdeal.nD Cert.LossGradReferenceIdeal.τ).loc Cert.LossGradReferenceIdeal.main_arg2) = m ((c.tc : Thread Cert.LossGradIdeal.nD Cert.LossGradIdeal.τ).loc Cert.LossGradIdeal.main_arg2)
      ∧ m' ((c.tc : Thread Cert.LossGradReferenceIdeal.nD Cert.LossGradReferenceIdeal.τ).loc Cert.LossGradReferenceIdeal.main_arg3) = m ((c.tc : Thread Cert.LossGradIdeal.nD Cert.LossGradIdeal.τ).loc Cert.LossGradIdeal.main_arg3)
      ∧ m' ((c.tc : Thread Cert.LossGradReferenceIdeal.nD Cert.LossGradReferenceIdeal.τ).loc Cert.LossGradReferenceIdeal.main_arg4) = m ((c.tc : Thread Cert.LossGradIdeal.nD Cert.LossGradIdeal.τ).loc Cert.LossGradIdeal.main_arg4)
      ∧ m' ((c.tc : Thread Cert.LossGradReferenceIdeal.nD Cert.LossGradReferenceIdeal.τ).loc Cert.LossGradReferenceIdeal.main_arg5) = m ((c.tc : Thread Cert.LossGradIdeal.nD Cert.LossGradIdeal.τ).loc Cert.LossGradIdeal.main_arg5)
      ∧ m' ((c.tc : Thread Cert.LossGradReferenceIdeal.nD Cert.LossGradReferenceIdeal.τ).loc Cert.LossGradReferenceIdeal.main_arg6) = m ((c.tc : Thread Cert.LossGradIdeal.nD Cert.LossGradIdeal.τ).loc Cert.LossGradIdeal.main_arg6)
      ∧ m' ((c.tc : Thread Cert.LossGradReferenceIdeal.nD Cert.LossGradReferenceIdeal.τ).loc Cert.LossGradReferenceIdeal.main_arg7) = m ((c.tc : Thread Cert.LossGradIdeal.nD Cert.LossGradIdeal.τ).loc Cert.LossGradIdeal.main_arg7)
      ∧ m' ((c.tc : Thread Cert.LossGradReferenceIdeal.nD Cert.LossGradReferenceIdeal.τ).loc Cert.LossGradReferenceIdeal.main_arg8) = m ((c.tc : Thread Cert.LossGradIdeal.nD Cert.LossGradIdeal.τ).loc Cert.LossGradIdeal.main_arg8)) →
    ∃ (v0 : (c : Dev Cert.LossGradIdeal.nD) → Buf (Elt Ideal) ((c.tc : Thread Cert.LossGradIdeal.nD Cert.LossGradIdeal.τ).loc Cert.LossGradIdeal.main_v1_0)) (v1 : (c : Dev Cert.LossGradIdeal.nD) → Buf (Elt Ideal) ((c.tc : Thread Cert.LossGradIdeal.nD Cert.LossGradIdeal.τ).loc Cert.LossGradIdeal.main_v1_1)) (v2 : (c : Dev Cert.LossGradIdeal.nD) → Buf (Elt Ideal) ((c.tc : Thread Cert.LossGradIdeal.nD Cert.LossGradIdeal.τ).loc Cert.LossGradIdeal.main_v1_2)) (v3 : (c : Dev Cert.LossGradIdeal.nD) → Buf (Elt Ideal) ((c.tc : Thread Cert.LossGradIdeal.nD Cert.LossGradIdeal.τ).loc Cert.LossGradIdeal.main_v1_3)) (v4 : (c : Dev Cert.LossGradIdeal.nD) → Buf (Elt Ideal) ((c.tc : Thread Cert.LossGradIdeal.nD Cert.LossGradIdeal.τ).loc Cert.LossGradIdeal.main_v1_4)) (v5 : (c : Dev Cert.LossGradIdeal.nD) → Buf (Elt Ideal) ((c.tc : Thread Cert.LossGradIdeal.nD Cert.LossGradIdeal.τ).loc Cert.LossGradIdeal.main_v1_5)),
      θ_run (Cert.LossGradIdeal.defs (F := Ideal)) (onTc (τ := Cert.LossGradIdeal.τ) (Cert.LossGradIdeal.main (F := Ideal))) ⟨m, fun _ => 0, g⟩ (fun r => ∀ c : Dev Cert.LossGradIdeal.nD,
          r.2.mem ((c.tc : Thread Cert.LossGradIdeal.nD Cert.LossGradIdeal.τ).loc Cert.LossGradIdeal.main_v1_0) = v0 c
          ∧ r.2.mem ((c.tc : Thread Cert.LossGradIdeal.nD Cert.LossGradIdeal.τ).loc Cert.LossGradIdeal.main_v1_1) = v1 c
          ∧ r.2.mem ((c.tc : Thread Cert.LossGradIdeal.nD Cert.LossGradIdeal.τ).loc Cert.LossGradIdeal.main_v1_2) = v2 c
          ∧ r.2.mem ((c.tc : Thread Cert.LossGradIdeal.nD Cert.LossGradIdeal.τ).loc Cert.LossGradIdeal.main_v1_3) = v3 c
          ∧ r.2.mem ((c.tc : Thread Cert.LossGradIdeal.nD Cert.LossGradIdeal.τ).loc Cert.LossGradIdeal.main_v1_4) = v4 c
          ∧ r.2.mem ((c.tc : Thread Cert.LossGradIdeal.nD Cert.LossGradIdeal.τ).loc Cert.LossGradIdeal.main_v1_5) = v5 c
          ∧ r.2.mem ((c.tc : Thread Cert.LossGradIdeal.nD Cert.LossGradIdeal.τ).loc Cert.LossGradIdeal.main_arg0) = m ((c.tc : Thread Cert.LossGradIdeal.nD Cert.LossGradIdeal.τ).loc Cert.LossGradIdeal.main_arg0)
          ∧ r.2.mem ((c.tc : Thread Cert.LossGradIdeal.nD Cert.LossGradIdeal.τ).loc Cert.LossGradIdeal.main_arg1) = m ((c.tc : Thread Cert.LossGradIdeal.nD Cert.LossGradIdeal.τ).loc Cert.LossGradIdeal.main_arg1)
          ∧ r.2.mem ((c.tc : Thread Cert.LossGradIdeal.nD Cert.LossGradIdeal.τ).loc Cert.LossGradIdeal.main_arg2) = m ((c.tc : Thread Cert.LossGradIdeal.nD Cert.LossGradIdeal.τ).loc Cert.LossGradIdeal.main_arg2)
          ∧ r.2.mem ((c.tc : Thread Cert.LossGradIdeal.nD Cert.LossGradIdeal.τ).loc Cert.LossGradIdeal.main_arg3) = m ((c.tc : Thread Cert.LossGradIdeal.nD Cert.LossGradIdeal.τ).loc Cert.LossGradIdeal.main_arg3)
          ∧ r.2.mem ((c.tc : Thread Cert.LossGradIdeal.nD Cert.LossGradIdeal.τ).loc Cert.LossGradIdeal.main_arg4) = m ((c.tc : Thread Cert.LossGradIdeal.nD Cert.LossGradIdeal.τ).loc Cert.LossGradIdeal.main_arg4)
          ∧ r.2.mem ((c.tc : Thread Cert.LossGradIdeal.nD Cert.LossGradIdeal.τ).loc Cert.LossGradIdeal.main_arg5) = m ((c.tc : Thread Cert.LossGradIdeal.nD Cert.LossGradIdeal.τ).loc Cert.LossGradIdeal.main_arg5)
          ∧ r.2.mem ((c.tc : Thread Cert.LossGradIdeal.nD Cert.LossGradIdeal.τ).loc Cert.LossGradIdeal.main_arg6) = m ((c.tc : Thread Cert.LossGradIdeal.nD Cert.LossGradIdeal.τ).loc Cert.LossGradIdeal.main_arg6)
          ∧ r.2.mem ((c.tc : Thread Cert.LossGradIdeal.nD Cert.LossGradIdeal.τ).loc Cert.LossGradIdeal.main_arg7) = m ((c.tc : Thread Cert.LossGradIdeal.nD Cert.LossGradIdeal.τ).loc Cert.LossGradIdeal.main_arg7)
          ∧ r.2.mem ((c.tc : Thread Cert.LossGradIdeal.nD Cert.LossGradIdeal.τ).loc Cert.LossGradIdeal.main_arg8) = m ((c.tc : Thread Cert.LossGradIdeal.nD Cert.LossGradIdeal.τ).loc Cert.LossGradIdeal.main_arg8))
      ∧ θ_run (Cert.LossGradReferenceIdeal.defs (F := Ideal)) (onTc (τ := Cert.LossGradReferenceIdeal.τ) (Cert.LossGradReferenceIdeal.main (F := Ideal))) ⟨m', fun _ => 0, g'⟩ (fun r => ∀ c : Dev Cert.LossGradReferenceIdeal.nD,
          r.2.mem ((c.tc : Thread Cert.LossGradReferenceIdeal.nD Cert.LossGradReferenceIdeal.τ).loc Cert.LossGradReferenceIdeal.main_v68) = v0 c
          ∧ r.2.mem ((c.tc : Thread Cert.LossGradReferenceIdeal.nD Cert.LossGradReferenceIdeal.τ).loc Cert.LossGradReferenceIdeal.main_v69) = v1 c
          ∧ r.2.mem ((c.tc : Thread Cert.LossGradReferenceIdeal.nD Cert.LossGradReferenceIdeal.τ).loc Cert.LossGradReferenceIdeal.main_v70) = v2 c
          ∧ r.2.mem ((c.tc : Thread Cert.LossGradReferenceIdeal.nD Cert.LossGradReferenceIdeal.τ).loc Cert.LossGradReferenceIdeal.main_v71) = v3 c
          ∧ r.2.mem ((c.tc : Thread Cert.LossGradReferenceIdeal.nD Cert.LossGradReferenceIdeal.τ).loc Cert.LossGradReferenceIdeal.main_v72) = v4 c
          ∧ r.2.mem ((c.tc : Thread Cert.LossGradReferenceIdeal.nD Cert.LossGradReferenceIdeal.τ).loc Cert.LossGradReferenceIdeal.main_v75) = v5 c
          ∧ r.2.mem ((c.tc : Thread Cert.LossGradReferenceIdeal.nD Cert.LossGradReferenceIdeal.τ).loc Cert.LossGradReferenceIdeal.main_arg0) = m' ((c.tc : Thread Cert.LossGradReferenceIdeal.nD Cert.LossGradReferenceIdeal.τ).loc Cert.LossGradReferenceIdeal.main_arg0)
          ∧ r.2.mem ((c.tc : Thread Cert.LossGradReferenceIdeal.nD Cert.LossGradReferenceIdeal.τ).loc Cert.LossGradReferenceIdeal.main_arg1) = m' ((c.tc : Thread Cert.LossGradReferenceIdeal.nD Cert.LossGradReferenceIdeal.τ).loc Cert.LossGradReferenceIdeal.main_arg1)
          ∧ r.2.mem ((c.tc : Thread Cert.LossGradReferenceIdeal.nD Cert.LossGradReferenceIdeal.τ).loc Cert.LossGradReferenceIdeal.main_arg2) = m' ((c.tc : Thread Cert.LossGradReferenceIdeal.nD Cert.LossGradReferenceIdeal.τ).loc Cert.LossGradReferenceIdeal.main_arg2)
          ∧ r.2.mem ((c.tc : Thread Cert.LossGradReferenceIdeal.nD Cert.LossGradReferenceIdeal.τ).loc Cert.LossGradReferenceIdeal.main_arg3) = m' ((c.tc : Thread Cert.LossGradReferenceIdeal.nD Cert.LossGradReferenceIdeal.τ).loc Cert.LossGradReferenceIdeal.main_arg3)
          ∧ r.2.mem ((c.tc : Thread Cert.LossGradReferenceIdeal.nD Cert.LossGradReferenceIdeal.τ).loc Cert.LossGradReferenceIdeal.main_arg4) = m' ((c.tc : Thread Cert.LossGradReferenceIdeal.nD Cert.LossGradReferenceIdeal.τ).loc Cert.LossGradReferenceIdeal.main_arg4)
          ∧ r.2.mem ((c.tc : Thread Cert.LossGradReferenceIdeal.nD Cert.LossGradReferenceIdeal.τ).loc Cert.LossGradReferenceIdeal.main_arg5) = m' ((c.tc : Thread Cert.LossGradReferenceIdeal.nD Cert.LossGradReferenceIdeal.τ).loc Cert.LossGradReferenceIdeal.main_arg5)
          ∧ r.2.mem ((c.tc : Thread Cert.LossGradReferenceIdeal.nD Cert.LossGradReferenceIdeal.τ).loc Cert.LossGradReferenceIdeal.main_arg6) = m' ((c.tc : Thread Cert.LossGradReferenceIdeal.nD Cert.LossGradReferenceIdeal.τ).loc Cert.LossGradReferenceIdeal.main_arg6)
          ∧ r.2.mem ((c.tc : Thread Cert.LossGradReferenceIdeal.nD Cert.LossGradReferenceIdeal.τ).loc Cert.LossGradReferenceIdeal.main_arg7) = m' ((c.tc : Thread Cert.LossGradReferenceIdeal.nD Cert.LossGradReferenceIdeal.τ).loc Cert.LossGradReferenceIdeal.main_arg7)
          ∧ r.2.mem ((c.tc : Thread Cert.LossGradReferenceIdeal.nD Cert.LossGradReferenceIdeal.τ).loc Cert.LossGradReferenceIdeal.main_arg8) = m' ((c.tc : Thread Cert.LossGradReferenceIdeal.nD Cert.LossGradReferenceIdeal.τ).loc Cert.LossGradReferenceIdeal.main_arg8))

def preserves_GateGrad_GateGradIdeal : Prop :=
  True

def algebraic_GateGradIdeal_GateGradReferenceIdeal_on_gate_written_pre_gate_finite [hGateGradIdeal : Cert.GateGradIdeal.Facts] [hGateGradReferenceIdeal : Cert.GateGradReferenceIdeal.Facts] [hPre_gate_finite : Cert.Pre_gate_finite.Facts] [hOn_gate_written : Cert.On_gate_written.Facts] : Prop :=
  ∀ (m : (ℓ : Loc Cert.GateGradIdeal.nD Cert.GateGradIdeal.τ Cert.GateGradIdeal.sig) → Buf (Elt Ideal) ℓ) (g : Dev Cert.GateGradIdeal.nD → PrngReg)
    (m' : (ℓ : Loc Cert.GateGradReferenceIdeal.nD Cert.GateGradReferenceIdeal.τ Cert.GateGradReferenceIdeal.sig) → Buf (Elt Ideal) ℓ) (g' : Dev Cert.GateGradReferenceIdeal.nD → PrngReg), Pre_GateGradIdeal_gate_finite m →
    (∀ c : Dev Cert.GateGradIdeal.nD,
      m' ((c.tc : Thread Cert.GateGradReferenceIdeal.nD Cert.GateGradReferenceIdeal.τ).loc Cert.GateGradReferenceIdeal.main_arg0) = m ((c.tc : Thread Cert.GateGradIdeal.nD Cert.GateGradIdeal.τ).loc Cert.GateGradIdeal.main_arg0)
      ∧ m' ((c.tc : Thread Cert.GateGradReferenceIdeal.nD Cert.GateGradReferenceIdeal.τ).loc Cert.GateGradReferenceIdeal.main_arg1) = m ((c.tc : Thread Cert.GateGradIdeal.nD Cert.GateGradIdeal.τ).loc Cert.GateGradIdeal.main_arg1)
      ∧ m' ((c.tc : Thread Cert.GateGradReferenceIdeal.nD Cert.GateGradReferenceIdeal.τ).loc Cert.GateGradReferenceIdeal.main_arg2) = m ((c.tc : Thread Cert.GateGradIdeal.nD Cert.GateGradIdeal.τ).loc Cert.GateGradIdeal.main_arg2)
      ∧ m' ((c.tc : Thread Cert.GateGradReferenceIdeal.nD Cert.GateGradReferenceIdeal.τ).loc Cert.GateGradReferenceIdeal.main_arg3) = m ((c.tc : Thread Cert.GateGradIdeal.nD Cert.GateGradIdeal.τ).loc Cert.GateGradIdeal.main_arg3)) →
    ∃ (v0 : (c : Dev Cert.GateGradIdeal.nD) → Buf (Elt Ideal) ((c.tc : Thread Cert.GateGradIdeal.nD Cert.GateGradIdeal.τ).loc Cert.GateGradIdeal.main_v8_0)) (v1 : (c : Dev Cert.GateGradIdeal.nD) → Buf (Elt Ideal) ((c.tc : Thread Cert.GateGradIdeal.nD Cert.GateGradIdeal.τ).loc Cert.GateGradIdeal.main_v8_1)) (v2 : (c : Dev Cert.GateGradIdeal.nD) → Buf (Elt Ideal) ((c.tc : Thread Cert.GateGradIdeal.nD Cert.GateGradIdeal.τ).loc Cert.GateGradIdeal.main_v8_2)),
      θ_run (Cert.GateGradIdeal.defs (F := Ideal)) (onTc (τ := Cert.GateGradIdeal.τ) (Cert.GateGradIdeal.main (F := Ideal))) ⟨m, fun _ => 0, g⟩ (fun r => ∀ c : Dev Cert.GateGradIdeal.nD,
          (∀ i : (⟨2, ![16384, 1024]⟩ : Shape).Idx, (Cert.On_gate_written.fn (F := Ideal) (m ((c.tc : Thread Cert.GateGradIdeal.nD Cert.GateGradIdeal.τ).loc Cert.GateGradIdeal.main_arg0)) (m ((c.tc : Thread Cert.GateGradIdeal.nD Cert.GateGradIdeal.τ).loc Cert.GateGradIdeal.main_arg1)) (m ((c.tc : Thread Cert.GateGradIdeal.nD Cert.GateGradIdeal.τ).loc Cert.GateGradIdeal.main_arg2)) (m ((c.tc : Thread Cert.GateGradIdeal.nD Cert.GateGradIdeal.τ).loc Cert.GateGradIdeal.main_arg3))).1 i = 1#1 → r.2.mem ((c.tc : Thread Cert.GateGradIdeal.nD Cert.GateGradIdeal.τ).loc Cert.GateGradIdeal.main_v8_0) i = v0 c i)
          ∧ (∀ i : (⟨2, ![16384, 4096]⟩ : Shape).Idx, (Cert.On_gate_written.fn (F := Ideal) (m ((c.tc : Thread Cert.GateGradIdeal.nD Cert.GateGradIdeal.τ).loc Cert.GateGradIdeal.main_arg0)) (m ((c.tc : Thread Cert.GateGradIdeal.nD Cert.GateGradIdeal.τ).loc Cert.GateGradIdeal.main_arg1)) (m ((c.tc : Thread Cert.GateGradIdeal.nD Cert.GateGradIdeal.τ).loc Cert.GateGradIdeal.main_arg2)) (m ((c.tc : Thread Cert.GateGradIdeal.nD Cert.GateGradIdeal.τ).loc Cert.GateGradIdeal.main_arg3))).2.1 i = 1#1 → r.2.mem ((c.tc : Thread Cert.GateGradIdeal.nD Cert.GateGradIdeal.τ).loc Cert.GateGradIdeal.main_v8_1) i = v1 c i)
          ∧ (∀ i : (⟨2, ![16384, 128]⟩ : Shape).Idx, (Cert.On_gate_written.fn (F := Ideal) (m ((c.tc : Thread Cert.GateGradIdeal.nD Cert.GateGradIdeal.τ).loc Cert.GateGradIdeal.main_arg0)) (m ((c.tc : Thread Cert.GateGradIdeal.nD Cert.GateGradIdeal.τ).loc Cert.GateGradIdeal.main_arg1)) (m ((c.tc : Thread Cert.GateGradIdeal.nD Cert.GateGradIdeal.τ).loc Cert.GateGradIdeal.main_arg2)) (m ((c.tc : Thread Cert.GateGradIdeal.nD Cert.GateGradIdeal.τ).loc Cert.GateGradIdeal.main_arg3))).2.2 i = 1#1 → r.2.mem ((c.tc : Thread Cert.GateGradIdeal.nD Cert.GateGradIdeal.τ).loc Cert.GateGradIdeal.main_v8_2) i = v2 c i)
          ∧ r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
          ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1)
          ∧ r.2.mem ((c.tc : Thread Cert.GateGradIdeal.nD Cert.GateGradIdeal.τ).loc Cert.GateGradIdeal.main_arg2) = m ((c.tc : Thread Cert.GateGradIdeal.nD Cert.GateGradIdeal.τ).loc Cert.GateGradIdeal.main_arg2)
          ∧ r.2.mem ((c.tc : Thread Cert.GateGradIdeal.nD Cert.GateGradIdeal.τ).loc Cert.GateGradIdeal.main_arg3) = m ((c.tc : Thread Cert.GateGradIdeal.nD Cert.GateGradIdeal.τ).loc Cert.GateGradIdeal.main_arg3))
      ∧ θ_run (Cert.GateGradReferenceIdeal.defs (F := Ideal)) (onTc (τ := Cert.GateGradReferenceIdeal.τ) (Cert.GateGradReferenceIdeal.main (F := Ideal))) ⟨m', fun _ => 0, g'⟩ (fun r => ∀ c : Dev Cert.GateGradReferenceIdeal.nD,
          (∀ i : (⟨2, ![16384, 1024]⟩ : Shape).Idx, (Cert.On_gate_written.fn (F := Ideal) (m ((c.tc : Thread Cert.GateGradIdeal.nD Cert.GateGradIdeal.τ).loc Cert.GateGradIdeal.main_arg0)) (m ((c.tc : Thread Cert.GateGradIdeal.nD Cert.GateGradIdeal.τ).loc Cert.GateGradIdeal.main_arg1)) (m ((c.tc : Thread Cert.GateGradIdeal.nD Cert.GateGradIdeal.τ).loc Cert.GateGradIdeal.main_arg2)) (m ((c.tc : Thread Cert.GateGradIdeal.nD Cert.GateGradIdeal.τ).loc Cert.GateGradIdeal.main_arg3))).1 i = 1#1 → r.2.mem ((c.tc : Thread Cert.GateGradReferenceIdeal.nD Cert.GateGradReferenceIdeal.τ).loc Cert.GateGradReferenceIdeal.main_v23) i = v0 c i)
          ∧ (∀ i : (⟨2, ![16384, 4096]⟩ : Shape).Idx, (Cert.On_gate_written.fn (F := Ideal) (m ((c.tc : Thread Cert.GateGradIdeal.nD Cert.GateGradIdeal.τ).loc Cert.GateGradIdeal.main_arg0)) (m ((c.tc : Thread Cert.GateGradIdeal.nD Cert.GateGradIdeal.τ).loc Cert.GateGradIdeal.main_arg1)) (m ((c.tc : Thread Cert.GateGradIdeal.nD Cert.GateGradIdeal.τ).loc Cert.GateGradIdeal.main_arg2)) (m ((c.tc : Thread Cert.GateGradIdeal.nD Cert.GateGradIdeal.τ).loc Cert.GateGradIdeal.main_arg3))).2.1 i = 1#1 → r.2.mem ((c.tc : Thread Cert.GateGradReferenceIdeal.nD Cert.GateGradReferenceIdeal.τ).loc Cert.GateGradReferenceIdeal.main_v25) i = v1 c i)
          ∧ (∀ i : (⟨2, ![16384, 128]⟩ : Shape).Idx, (Cert.On_gate_written.fn (F := Ideal) (m ((c.tc : Thread Cert.GateGradIdeal.nD Cert.GateGradIdeal.τ).loc Cert.GateGradIdeal.main_arg0)) (m ((c.tc : Thread Cert.GateGradIdeal.nD Cert.GateGradIdeal.τ).loc Cert.GateGradIdeal.main_arg1)) (m ((c.tc : Thread Cert.GateGradIdeal.nD Cert.GateGradIdeal.τ).loc Cert.GateGradIdeal.main_arg2)) (m ((c.tc : Thread Cert.GateGradIdeal.nD Cert.GateGradIdeal.τ).loc Cert.GateGradIdeal.main_arg3))).2.2 i = 1#1 → r.2.mem ((c.tc : Thread Cert.GateGradReferenceIdeal.nD Cert.GateGradReferenceIdeal.τ).loc Cert.GateGradReferenceIdeal.main_v26) i = v2 c i)
          ∧ r.2.mem ((c.tc : Thread Cert.GateGradReferenceIdeal.nD Cert.GateGradReferenceIdeal.τ).loc Cert.GateGradReferenceIdeal.main_arg0) = m' ((c.tc : Thread Cert.GateGradReferenceIdeal.nD Cert.GateGradReferenceIdeal.τ).loc Cert.GateGradReferenceIdeal.main_arg0)
          ∧ r.2.mem ((c.tc : Thread Cert.GateGradReferenceIdeal.nD Cert.GateGradReferenceIdeal.τ).loc Cert.GateGradReferenceIdeal.main_arg1) = m' ((c.tc : Thread Cert.GateGradReferenceIdeal.nD Cert.GateGradReferenceIdeal.τ).loc Cert.GateGradReferenceIdeal.main_arg1)
          ∧ r.2.mem ((c.tc : Thread Cert.GateGradReferenceIdeal.nD Cert.GateGradReferenceIdeal.τ).loc Cert.GateGradReferenceIdeal.main_arg2) = m' ((c.tc : Thread Cert.GateGradReferenceIdeal.nD Cert.GateGradReferenceIdeal.τ).loc Cert.GateGradReferenceIdeal.main_arg2)
          ∧ r.2.mem ((c.tc : Thread Cert.GateGradReferenceIdeal.nD Cert.GateGradReferenceIdeal.τ).loc Cert.GateGradReferenceIdeal.main_arg3) = m' ((c.tc : Thread Cert.GateGradReferenceIdeal.nD Cert.GateGradReferenceIdeal.τ).loc Cert.GateGradReferenceIdeal.main_arg3))

def preserves_MixerGrad_MixerGradIdeal : Prop :=
  True

def algebraic_MixerGradIdeal_MixerGradReferenceIdeal_on_mixer_written_pre_mixer_finite [hMixerGradIdeal : Cert.MixerGradIdeal.Facts] [hMixerGradReferenceIdeal : Cert.MixerGradReferenceIdeal.Facts] [hPre_mixer_finite : Cert.Pre_mixer_finite.Facts] [hOn_mixer_written : Cert.On_mixer_written.Facts] : Prop :=
  ∀ (m : (ℓ : Loc Cert.MixerGradIdeal.nD Cert.MixerGradIdeal.τ Cert.MixerGradIdeal.sig) → Buf (Elt Ideal) ℓ) (g : Dev Cert.MixerGradIdeal.nD → PrngReg)
    (m' : (ℓ : Loc Cert.MixerGradReferenceIdeal.nD Cert.MixerGradReferenceIdeal.τ Cert.MixerGradReferenceIdeal.sig) → Buf (Elt Ideal) ℓ) (g' : Dev Cert.MixerGradReferenceIdeal.nD → PrngReg), Pre_MixerGradIdeal_mixer_finite m →
    (∀ c : Dev Cert.MixerGradIdeal.nD,
      m' ((c.tc : Thread Cert.MixerGradReferenceIdeal.nD Cert.MixerGradReferenceIdeal.τ).loc Cert.MixerGradReferenceIdeal.main_arg0) = m ((c.tc : Thread Cert.MixerGradIdeal.nD Cert.MixerGradIdeal.τ).loc Cert.MixerGradIdeal.main_arg0)
      ∧ m' ((c.tc : Thread Cert.MixerGradReferenceIdeal.nD Cert.MixerGradReferenceIdeal.τ).loc Cert.MixerGradReferenceIdeal.main_arg1) = m ((c.tc : Thread Cert.MixerGradIdeal.nD Cert.MixerGradIdeal.τ).loc Cert.MixerGradIdeal.main_arg1)
      ∧ m' ((c.tc : Thread Cert.MixerGradReferenceIdeal.nD Cert.MixerGradReferenceIdeal.τ).loc Cert.MixerGradReferenceIdeal.main_arg2) = m ((c.tc : Thread Cert.MixerGradIdeal.nD Cert.MixerGradIdeal.τ).loc Cert.MixerGradIdeal.main_arg2)
      ∧ m' ((c.tc : Thread Cert.MixerGradReferenceIdeal.nD Cert.MixerGradReferenceIdeal.τ).loc Cert.MixerGradReferenceIdeal.main_arg3) = m ((c.tc : Thread Cert.MixerGradIdeal.nD Cert.MixerGradIdeal.τ).loc Cert.MixerGradIdeal.main_arg3)
      ∧ m' ((c.tc : Thread Cert.MixerGradReferenceIdeal.nD Cert.MixerGradReferenceIdeal.τ).loc Cert.MixerGradReferenceIdeal.main_arg4) = m ((c.tc : Thread Cert.MixerGradIdeal.nD Cert.MixerGradIdeal.τ).loc Cert.MixerGradIdeal.main_arg4)
      ∧ m' ((c.tc : Thread Cert.MixerGradReferenceIdeal.nD Cert.MixerGradReferenceIdeal.τ).loc Cert.MixerGradReferenceIdeal.main_arg5) = m ((c.tc : Thread Cert.MixerGradIdeal.nD Cert.MixerGradIdeal.τ).loc Cert.MixerGradIdeal.main_arg5)) →
    ∃ (v0 : (c : Dev Cert.MixerGradIdeal.nD) → Buf (Elt Ideal) ((c.tc : Thread Cert.MixerGradIdeal.nD Cert.MixerGradIdeal.τ).loc Cert.MixerGradIdeal.main_v1_0)) (v1 : (c : Dev Cert.MixerGradIdeal.nD) → Buf (Elt Ideal) ((c.tc : Thread Cert.MixerGradIdeal.nD Cert.MixerGradIdeal.τ).loc Cert.MixerGradIdeal.main_v1_1)) (v2 : (c : Dev Cert.MixerGradIdeal.nD) → Buf (Elt Ideal) ((c.tc : Thread Cert.MixerGradIdeal.nD Cert.MixerGradIdeal.τ).loc Cert.MixerGradIdeal.main_v1_2)) (v3 : (c : Dev Cert.MixerGradIdeal.nD) → Buf (Elt Ideal) ((c.tc : Thread Cert.MixerGradIdeal.nD Cert.MixerGradIdeal.τ).loc Cert.MixerGradIdeal.main_v1_3)) (v4 : (c : Dev Cert.MixerGradIdeal.nD) → Buf (Elt Ideal) ((c.tc : Thread Cert.MixerGradIdeal.nD Cert.MixerGradIdeal.τ).loc Cert.MixerGradIdeal.main_v1_4)),
      θ_run (Cert.MixerGradIdeal.defs (F := Ideal)) (onTc (τ := Cert.MixerGradIdeal.τ) (Cert.MixerGradIdeal.main (F := Ideal))) ⟨m, fun _ => 0, g⟩ (fun r => ∀ c : Dev Cert.MixerGradIdeal.nD,
          (∀ i : (⟨2, ![16384, 1024]⟩ : Shape).Idx, (Cert.On_mixer_written.fn (F := Ideal) (m ((c.tc : Thread Cert.MixerGradIdeal.nD Cert.MixerGradIdeal.τ).loc Cert.MixerGradIdeal.main_arg0)) (m ((c.tc : Thread Cert.MixerGradIdeal.nD Cert.MixerGradIdeal.τ).loc Cert.MixerGradIdeal.main_arg1)) (m ((c.tc : Thread Cert.MixerGradIdeal.nD Cert.MixerGradIdeal.τ).loc Cert.MixerGradIdeal.main_arg2)) (m ((c.tc : Thread Cert.MixerGradIdeal.nD Cert.MixerGradIdeal.τ).loc Cert.MixerGradIdeal.main_arg3)) (m ((c.tc : Thread Cert.MixerGradIdeal.nD Cert.MixerGradIdeal.τ).loc Cert.MixerGradIdeal.main_arg4)) (m ((c.tc : Thread Cert.MixerGradIdeal.nD Cert.MixerGradIdeal.τ).loc Cert.MixerGradIdeal.main_arg5))).1 i = 1#1 → r.2.mem ((c.tc : Thread Cert.MixerGradIdeal.nD Cert.MixerGradIdeal.τ).loc Cert.MixerGradIdeal.main_v1_0) i = v0 c i)
          ∧ (∀ i : (⟨2, ![16384, 3072]⟩ : Shape).Idx, (Cert.On_mixer_written.fn (F := Ideal) (m ((c.tc : Thread Cert.MixerGradIdeal.nD Cert.MixerGradIdeal.τ).loc Cert.MixerGradIdeal.main_arg0)) (m ((c.tc : Thread Cert.MixerGradIdeal.nD Cert.MixerGradIdeal.τ).loc Cert.MixerGradIdeal.main_arg1)) (m ((c.tc : Thread Cert.MixerGradIdeal.nD Cert.MixerGradIdeal.τ).loc Cert.MixerGradIdeal.main_arg2)) (m ((c.tc : Thread Cert.MixerGradIdeal.nD Cert.MixerGradIdeal.τ).loc Cert.MixerGradIdeal.main_arg3)) (m ((c.tc : Thread Cert.MixerGradIdeal.nD Cert.MixerGradIdeal.τ).loc Cert.MixerGradIdeal.main_arg4)) (m ((c.tc : Thread Cert.MixerGradIdeal.nD Cert.MixerGradIdeal.τ).loc Cert.MixerGradIdeal.main_arg5))).2.1 i = 1#1 → r.2.mem ((c.tc : Thread Cert.MixerGradIdeal.nD Cert.MixerGradIdeal.τ).loc Cert.MixerGradIdeal.main_v1_1) i = v1 c i)
          ∧ (∀ i : (⟨2, ![8, 1024]⟩ : Shape).Idx, (Cert.On_mixer_written.fn (F := Ideal) (m ((c.tc : Thread Cert.MixerGradIdeal.nD Cert.MixerGradIdeal.τ).loc Cert.MixerGradIdeal.main_arg0)) (m ((c.tc : Thread Cert.MixerGradIdeal.nD Cert.MixerGradIdeal.τ).loc Cert.MixerGradIdeal.main_arg1)) (m ((c.tc : Thread Cert.MixerGradIdeal.nD Cert.MixerGradIdeal.τ).loc Cert.MixerGradIdeal.main_arg2)) (m ((c.tc : Thread Cert.MixerGradIdeal.nD Cert.MixerGradIdeal.τ).loc Cert.MixerGradIdeal.main_arg3)) (m ((c.tc : Thread Cert.MixerGradIdeal.nD Cert.MixerGradIdeal.τ).loc Cert.MixerGradIdeal.main_arg4)) (m ((c.tc : Thread Cert.MixerGradIdeal.nD Cert.MixerGradIdeal.τ).loc Cert.MixerGradIdeal.main_arg5))).2.2.1 i = 1#1 → r.2.mem ((c.tc : Thread Cert.MixerGradIdeal.nD Cert.MixerGradIdeal.τ).loc Cert.MixerGradIdeal.main_v1_2) i = v2 c i)
          ∧ (∀ i : (⟨2, ![8, 1024]⟩ : Shape).Idx, (Cert.On_mixer_written.fn (F := Ideal) (m ((c.tc : Thread Cert.MixerGradIdeal.nD Cert.MixerGradIdeal.τ).loc Cert.MixerGradIdeal.main_arg0)) (m ((c.tc : Thread Cert.MixerGradIdeal.nD Cert.MixerGradIdeal.τ).loc Cert.MixerGradIdeal.main_arg1)) (m ((c.tc : Thread Cert.MixerGradIdeal.nD Cert.MixerGradIdeal.τ).loc Cert.MixerGradIdeal.main_arg2)) (m ((c.tc : Thread Cert.MixerGradIdeal.nD Cert.MixerGradIdeal.τ).loc Cert.MixerGradIdeal.main_arg3)) (m ((c.tc : Thread Cert.MixerGradIdeal.nD Cert.MixerGradIdeal.τ).loc Cert.MixerGradIdeal.main_arg4)) (m ((c.tc : Thread Cert.MixerGradIdeal.nD Cert.MixerGradIdeal.τ).loc Cert.MixerGradIdeal.main_arg5))).2.2.2.1 i = 1#1 → r.2.mem ((c.tc : Thread Cert.MixerGradIdeal.nD Cert.MixerGradIdeal.τ).loc Cert.MixerGradIdeal.main_v1_3) i = v3 c i)
          ∧ (∀ i : (⟨2, ![8, 1024]⟩ : Shape).Idx, (Cert.On_mixer_written.fn (F := Ideal) (m ((c.tc : Thread Cert.MixerGradIdeal.nD Cert.MixerGradIdeal.τ).loc Cert.MixerGradIdeal.main_arg0)) (m ((c.tc : Thread Cert.MixerGradIdeal.nD Cert.MixerGradIdeal.τ).loc Cert.MixerGradIdeal.main_arg1)) (m ((c.tc : Thread Cert.MixerGradIdeal.nD Cert.MixerGradIdeal.τ).loc Cert.MixerGradIdeal.main_arg2)) (m ((c.tc : Thread Cert.MixerGradIdeal.nD Cert.MixerGradIdeal.τ).loc Cert.MixerGradIdeal.main_arg3)) (m ((c.tc : Thread Cert.MixerGradIdeal.nD Cert.MixerGradIdeal.τ).loc Cert.MixerGradIdeal.main_arg4)) (m ((c.tc : Thread Cert.MixerGradIdeal.nD Cert.MixerGradIdeal.τ).loc Cert.MixerGradIdeal.main_arg5))).2.2.2.2 i = 1#1 → r.2.mem ((c.tc : Thread Cert.MixerGradIdeal.nD Cert.MixerGradIdeal.τ).loc Cert.MixerGradIdeal.main_v1_4) i = v4 c i)
          ∧ r.2.mem ((c.tc : Thread Cert.MixerGradIdeal.nD Cert.MixerGradIdeal.τ).loc Cert.MixerGradIdeal.main_arg0) = m ((c.tc : Thread Cert.MixerGradIdeal.nD Cert.MixerGradIdeal.τ).loc Cert.MixerGradIdeal.main_arg0)
          ∧ r.2.mem ((c.tc : Thread Cert.MixerGradIdeal.nD Cert.MixerGradIdeal.τ).loc Cert.MixerGradIdeal.main_arg1) = m ((c.tc : Thread Cert.MixerGradIdeal.nD Cert.MixerGradIdeal.τ).loc Cert.MixerGradIdeal.main_arg1)
          ∧ r.2.mem ((c.tc : Thread Cert.MixerGradIdeal.nD Cert.MixerGradIdeal.τ).loc Cert.MixerGradIdeal.main_arg2) = m ((c.tc : Thread Cert.MixerGradIdeal.nD Cert.MixerGradIdeal.τ).loc Cert.MixerGradIdeal.main_arg2)
          ∧ r.2.mem ((c.tc : Thread Cert.MixerGradIdeal.nD Cert.MixerGradIdeal.τ).loc Cert.MixerGradIdeal.main_arg3) = m ((c.tc : Thread Cert.MixerGradIdeal.nD Cert.MixerGradIdeal.τ).loc Cert.MixerGradIdeal.main_arg3)
          ∧ r.2.mem ((c.tc : Thread Cert.MixerGradIdeal.nD Cert.MixerGradIdeal.τ).loc Cert.MixerGradIdeal.main_arg4) = m ((c.tc : Thread Cert.MixerGradIdeal.nD Cert.MixerGradIdeal.τ).loc Cert.MixerGradIdeal.main_arg4)
          ∧ r.2.mem ((c.tc : Thread Cert.MixerGradIdeal.nD Cert.MixerGradIdeal.τ).loc Cert.MixerGradIdeal.main_arg5) = m ((c.tc : Thread Cert.MixerGradIdeal.nD Cert.MixerGradIdeal.τ).loc Cert.MixerGradIdeal.main_arg5))
      ∧ θ_run (Cert.MixerGradReferenceIdeal.defs (F := Ideal)) (onTc (τ := Cert.MixerGradReferenceIdeal.τ) (Cert.MixerGradReferenceIdeal.main (F := Ideal))) ⟨m', fun _ => 0, g'⟩ (fun r => ∀ c : Dev Cert.MixerGradReferenceIdeal.nD,
          (∀ i : (⟨2, ![16384, 1024]⟩ : Shape).Idx, (Cert.On_mixer_written.fn (F := Ideal) (m ((c.tc : Thread Cert.MixerGradIdeal.nD Cert.MixerGradIdeal.τ).loc Cert.MixerGradIdeal.main_arg0)) (m ((c.tc : Thread Cert.MixerGradIdeal.nD Cert.MixerGradIdeal.τ).loc Cert.MixerGradIdeal.main_arg1)) (m ((c.tc : Thread Cert.MixerGradIdeal.nD Cert.MixerGradIdeal.τ).loc Cert.MixerGradIdeal.main_arg2)) (m ((c.tc : Thread Cert.MixerGradIdeal.nD Cert.MixerGradIdeal.τ).loc Cert.MixerGradIdeal.main_arg3)) (m ((c.tc : Thread Cert.MixerGradIdeal.nD Cert.MixerGradIdeal.τ).loc Cert.MixerGradIdeal.main_arg4)) (m ((c.tc : Thread Cert.MixerGradIdeal.nD Cert.MixerGradIdeal.τ).loc Cert.MixerGradIdeal.main_arg5))).1 i = 1#1 → r.2.mem ((c.tc : Thread Cert.MixerGradReferenceIdeal.nD Cert.MixerGradReferenceIdeal.τ).loc Cert.MixerGradReferenceIdeal.main_v86) i = v0 c i)
          ∧ (∀ i : (⟨2, ![16384, 3072]⟩ : Shape).Idx, (Cert.On_mixer_written.fn (F := Ideal) (m ((c.tc : Thread Cert.MixerGradIdeal.nD Cert.MixerGradIdeal.τ).loc Cert.MixerGradIdeal.main_arg0)) (m ((c.tc : Thread Cert.MixerGradIdeal.nD Cert.MixerGradIdeal.τ).loc Cert.MixerGradIdeal.main_arg1)) (m ((c.tc : Thread Cert.MixerGradIdeal.nD Cert.MixerGradIdeal.τ).loc Cert.MixerGradIdeal.main_arg2)) (m ((c.tc : Thread Cert.MixerGradIdeal.nD Cert.MixerGradIdeal.τ).loc Cert.MixerGradIdeal.main_arg3)) (m ((c.tc : Thread Cert.MixerGradIdeal.nD Cert.MixerGradIdeal.τ).loc Cert.MixerGradIdeal.main_arg4)) (m ((c.tc : Thread Cert.MixerGradIdeal.nD Cert.MixerGradIdeal.τ).loc Cert.MixerGradIdeal.main_arg5))).2.1 i = 1#1 → r.2.mem ((c.tc : Thread Cert.MixerGradReferenceIdeal.nD Cert.MixerGradReferenceIdeal.τ).loc Cert.MixerGradReferenceIdeal.main_v88) i = v1 c i)
          ∧ (∀ i : (⟨2, ![8, 1024]⟩ : Shape).Idx, (Cert.On_mixer_written.fn (F := Ideal) (m ((c.tc : Thread Cert.MixerGradIdeal.nD Cert.MixerGradIdeal.τ).loc Cert.MixerGradIdeal.main_arg0)) (m ((c.tc : Thread Cert.MixerGradIdeal.nD Cert.MixerGradIdeal.τ).loc Cert.MixerGradIdeal.main_arg1)) (m ((c.tc : Thread Cert.MixerGradIdeal.nD Cert.MixerGradIdeal.τ).loc Cert.MixerGradIdeal.main_arg2)) (m ((c.tc : Thread Cert.MixerGradIdeal.nD Cert.MixerGradIdeal.τ).loc Cert.MixerGradIdeal.main_arg3)) (m ((c.tc : Thread Cert.MixerGradIdeal.nD Cert.MixerGradIdeal.τ).loc Cert.MixerGradIdeal.main_arg4)) (m ((c.tc : Thread Cert.MixerGradIdeal.nD Cert.MixerGradIdeal.τ).loc Cert.MixerGradIdeal.main_arg5))).2.2.1 i = 1#1 → r.2.mem ((c.tc : Thread Cert.MixerGradReferenceIdeal.nD Cert.MixerGradReferenceIdeal.τ).loc Cert.MixerGradReferenceIdeal.main_v89) i = v2 c i)
          ∧ (∀ i : (⟨2, ![8, 1024]⟩ : Shape).Idx, (Cert.On_mixer_written.fn (F := Ideal) (m ((c.tc : Thread Cert.MixerGradIdeal.nD Cert.MixerGradIdeal.τ).loc Cert.MixerGradIdeal.main_arg0)) (m ((c.tc : Thread Cert.MixerGradIdeal.nD Cert.MixerGradIdeal.τ).loc Cert.MixerGradIdeal.main_arg1)) (m ((c.tc : Thread Cert.MixerGradIdeal.nD Cert.MixerGradIdeal.τ).loc Cert.MixerGradIdeal.main_arg2)) (m ((c.tc : Thread Cert.MixerGradIdeal.nD Cert.MixerGradIdeal.τ).loc Cert.MixerGradIdeal.main_arg3)) (m ((c.tc : Thread Cert.MixerGradIdeal.nD Cert.MixerGradIdeal.τ).loc Cert.MixerGradIdeal.main_arg4)) (m ((c.tc : Thread Cert.MixerGradIdeal.nD Cert.MixerGradIdeal.τ).loc Cert.MixerGradIdeal.main_arg5))).2.2.2.1 i = 1#1 → r.2.mem ((c.tc : Thread Cert.MixerGradReferenceIdeal.nD Cert.MixerGradReferenceIdeal.τ).loc Cert.MixerGradReferenceIdeal.main_v90) i = v3 c i)
          ∧ (∀ i : (⟨2, ![8, 1024]⟩ : Shape).Idx, (Cert.On_mixer_written.fn (F := Ideal) (m ((c.tc : Thread Cert.MixerGradIdeal.nD Cert.MixerGradIdeal.τ).loc Cert.MixerGradIdeal.main_arg0)) (m ((c.tc : Thread Cert.MixerGradIdeal.nD Cert.MixerGradIdeal.τ).loc Cert.MixerGradIdeal.main_arg1)) (m ((c.tc : Thread Cert.MixerGradIdeal.nD Cert.MixerGradIdeal.τ).loc Cert.MixerGradIdeal.main_arg2)) (m ((c.tc : Thread Cert.MixerGradIdeal.nD Cert.MixerGradIdeal.τ).loc Cert.MixerGradIdeal.main_arg3)) (m ((c.tc : Thread Cert.MixerGradIdeal.nD Cert.MixerGradIdeal.τ).loc Cert.MixerGradIdeal.main_arg4)) (m ((c.tc : Thread Cert.MixerGradIdeal.nD Cert.MixerGradIdeal.τ).loc Cert.MixerGradIdeal.main_arg5))).2.2.2.2 i = 1#1 → r.2.mem ((c.tc : Thread Cert.MixerGradReferenceIdeal.nD Cert.MixerGradReferenceIdeal.τ).loc Cert.MixerGradReferenceIdeal.main_v93) i = v4 c i)
          ∧ r.2.mem ((c.tc : Thread Cert.MixerGradReferenceIdeal.nD Cert.MixerGradReferenceIdeal.τ).loc Cert.MixerGradReferenceIdeal.main_arg0) = m' ((c.tc : Thread Cert.MixerGradReferenceIdeal.nD Cert.MixerGradReferenceIdeal.τ).loc Cert.MixerGradReferenceIdeal.main_arg0)
          ∧ r.2.mem ((c.tc : Thread Cert.MixerGradReferenceIdeal.nD Cert.MixerGradReferenceIdeal.τ).loc Cert.MixerGradReferenceIdeal.main_arg1) = m' ((c.tc : Thread Cert.MixerGradReferenceIdeal.nD Cert.MixerGradReferenceIdeal.τ).loc Cert.MixerGradReferenceIdeal.main_arg1)
          ∧ r.2.mem ((c.tc : Thread Cert.MixerGradReferenceIdeal.nD Cert.MixerGradReferenceIdeal.τ).loc Cert.MixerGradReferenceIdeal.main_arg2) = m' ((c.tc : Thread Cert.MixerGradReferenceIdeal.nD Cert.MixerGradReferenceIdeal.τ).loc Cert.MixerGradReferenceIdeal.main_arg2)
          ∧ r.2.mem ((c.tc : Thread Cert.MixerGradReferenceIdeal.nD Cert.MixerGradReferenceIdeal.τ).loc Cert.MixerGradReferenceIdeal.main_arg3) = m' ((c.tc : Thread Cert.MixerGradReferenceIdeal.nD Cert.MixerGradReferenceIdeal.τ).loc Cert.MixerGradReferenceIdeal.main_arg3)
          ∧ r.2.mem ((c.tc : Thread Cert.MixerGradReferenceIdeal.nD Cert.MixerGradReferenceIdeal.τ).loc Cert.MixerGradReferenceIdeal.main_arg4) = m' ((c.tc : Thread Cert.MixerGradReferenceIdeal.nD Cert.MixerGradReferenceIdeal.τ).loc Cert.MixerGradReferenceIdeal.main_arg4)
          ∧ r.2.mem ((c.tc : Thread Cert.MixerGradReferenceIdeal.nD Cert.MixerGradReferenceIdeal.τ).loc Cert.MixerGradReferenceIdeal.main_arg5) = m' ((c.tc : Thread Cert.MixerGradReferenceIdeal.nD Cert.MixerGradReferenceIdeal.τ).loc Cert.MixerGradReferenceIdeal.main_arg5))

def preserves_HeadMerge_HeadMergeIdeal : Prop :=
  True

def algebraic_HeadMergeIdeal_HeadMergeReferenceIdeal_pre_merge_finite [hHeadMergeIdeal : Cert.HeadMergeIdeal.Facts] [hHeadMergeReferenceIdeal : Cert.HeadMergeReferenceIdeal.Facts] [hPre_merge_finite : Cert.Pre_merge_finite.Facts] : Prop :=
  ∀ (m : (ℓ : Loc Cert.HeadMergeIdeal.nD Cert.HeadMergeIdeal.τ Cert.HeadMergeIdeal.sig) → Buf (Elt Ideal) ℓ) (g : Dev Cert.HeadMergeIdeal.nD → PrngReg)
    (m' : (ℓ : Loc Cert.HeadMergeReferenceIdeal.nD Cert.HeadMergeReferenceIdeal.τ Cert.HeadMergeReferenceIdeal.sig) → Buf (Elt Ideal) ℓ) (g' : Dev Cert.HeadMergeReferenceIdeal.nD → PrngReg), Pre_HeadMergeIdeal_merge_finite m →
    (∀ c : Dev Cert.HeadMergeIdeal.nD,
      m' ((c.tc : Thread Cert.HeadMergeReferenceIdeal.nD Cert.HeadMergeReferenceIdeal.τ).loc Cert.HeadMergeReferenceIdeal.main_arg0) = m ((c.tc : Thread Cert.HeadMergeIdeal.nD Cert.HeadMergeIdeal.τ).loc Cert.HeadMergeIdeal.main_arg0)
      ∧ m' ((c.tc : Thread Cert.HeadMergeReferenceIdeal.nD Cert.HeadMergeReferenceIdeal.τ).loc Cert.HeadMergeReferenceIdeal.main_arg1) = m ((c.tc : Thread Cert.HeadMergeIdeal.nD Cert.HeadMergeIdeal.τ).loc Cert.HeadMergeIdeal.main_arg1)
      ∧ m' ((c.tc : Thread Cert.HeadMergeReferenceIdeal.nD Cert.HeadMergeReferenceIdeal.τ).loc Cert.HeadMergeReferenceIdeal.main_arg2) = m ((c.tc : Thread Cert.HeadMergeIdeal.nD Cert.HeadMergeIdeal.τ).loc Cert.HeadMergeIdeal.main_arg2)
      ∧ m' ((c.tc : Thread Cert.HeadMergeReferenceIdeal.nD Cert.HeadMergeReferenceIdeal.τ).loc Cert.HeadMergeReferenceIdeal.main_arg3) = m ((c.tc : Thread Cert.HeadMergeIdeal.nD Cert.HeadMergeIdeal.τ).loc Cert.HeadMergeIdeal.main_arg3)
      ∧ m' ((c.tc : Thread Cert.HeadMergeReferenceIdeal.nD Cert.HeadMergeReferenceIdeal.τ).loc Cert.HeadMergeReferenceIdeal.main_arg4) = m ((c.tc : Thread Cert.HeadMergeIdeal.nD Cert.HeadMergeIdeal.τ).loc Cert.HeadMergeIdeal.main_arg4)
      ∧ m' ((c.tc : Thread Cert.HeadMergeReferenceIdeal.nD Cert.HeadMergeReferenceIdeal.τ).loc Cert.HeadMergeReferenceIdeal.main_arg5) = m ((c.tc : Thread Cert.HeadMergeIdeal.nD Cert.HeadMergeIdeal.τ).loc Cert.HeadMergeIdeal.main_arg5)
      ∧ m' ((c.tc : Thread Cert.HeadMergeReferenceIdeal.nD Cert.HeadMergeReferenceIdeal.τ).loc Cert.HeadMergeReferenceIdeal.main_arg6) = m ((c.tc : Thread Cert.HeadMergeIdeal.nD Cert.HeadMergeIdeal.τ).loc Cert.HeadMergeIdeal.main_arg6)) →
    ∃ (v0 : (c : Dev Cert.HeadMergeIdeal.nD) → Buf (Elt Ideal) ((c.tc : Thread Cert.HeadMergeIdeal.nD Cert.HeadMergeIdeal.τ).loc Cert.HeadMergeIdeal.main_v7_0)) (v1 : (c : Dev Cert.HeadMergeIdeal.nD) → Buf (Elt Ideal) ((c.tc : Thread Cert.HeadMergeIdeal.nD Cert.HeadMergeIdeal.τ).loc Cert.HeadMergeIdeal.main_v7_1)) (v2 : (c : Dev Cert.HeadMergeIdeal.nD) → Buf (Elt Ideal) ((c.tc : Thread Cert.HeadMergeIdeal.nD Cert.HeadMergeIdeal.τ).loc Cert.HeadMergeIdeal.main_v7_2)),
      θ_run (Cert.HeadMergeIdeal.defs (F := Ideal)) (onTc (τ := Cert.HeadMergeIdeal.τ) (Cert.HeadMergeIdeal.main (F := Ideal))) ⟨m, fun _ => 0, g⟩ (fun r => ∀ c : Dev Cert.HeadMergeIdeal.nD,
          r.2.mem ((c.tc : Thread Cert.HeadMergeIdeal.nD Cert.HeadMergeIdeal.τ).loc Cert.HeadMergeIdeal.main_v7_0) = v0 c
          ∧ r.2.mem ((c.tc : Thread Cert.HeadMergeIdeal.nD Cert.HeadMergeIdeal.τ).loc Cert.HeadMergeIdeal.main_v7_1) = v1 c
          ∧ r.2.mem ((c.tc : Thread Cert.HeadMergeIdeal.nD Cert.HeadMergeIdeal.τ).loc Cert.HeadMergeIdeal.main_v7_2) = v2 c
          ∧ r.2.mem ((c.tc : Thread Cert.HeadMergeIdeal.nD Cert.HeadMergeIdeal.τ).loc Cert.HeadMergeIdeal.main_arg0) = m ((c.tc : Thread Cert.HeadMergeIdeal.nD Cert.HeadMergeIdeal.τ).loc Cert.HeadMergeIdeal.main_arg0)
          ∧ r.2.mem ((c.tc : Thread Cert.HeadMergeIdeal.nD Cert.HeadMergeIdeal.τ).loc Cert.HeadMergeIdeal.main_arg1) = m ((c.tc : Thread Cert.HeadMergeIdeal.nD Cert.HeadMergeIdeal.τ).loc Cert.HeadMergeIdeal.main_arg1)
          ∧ r.2.mem ((c.tc : Thread Cert.HeadMergeIdeal.nD Cert.HeadMergeIdeal.τ).loc Cert.HeadMergeIdeal.main_arg2) = m ((c.tc : Thread Cert.HeadMergeIdeal.nD Cert.HeadMergeIdeal.τ).loc Cert.HeadMergeIdeal.main_arg2)
          ∧ r.2.mem ((c.tc : Thread Cert.HeadMergeIdeal.nD Cert.HeadMergeIdeal.τ).loc Cert.HeadMergeIdeal.main_arg3) = m ((c.tc : Thread Cert.HeadMergeIdeal.nD Cert.HeadMergeIdeal.τ).loc Cert.HeadMergeIdeal.main_arg3)
          ∧ r.2.mem ((c.tc : Thread Cert.HeadMergeIdeal.nD Cert.HeadMergeIdeal.τ).loc Cert.HeadMergeIdeal.main_arg4) = m ((c.tc : Thread Cert.HeadMergeIdeal.nD Cert.HeadMergeIdeal.τ).loc Cert.HeadMergeIdeal.main_arg4)
          ∧ r.2.mem ((c.tc : Thread Cert.HeadMergeIdeal.nD Cert.HeadMergeIdeal.τ).loc Cert.HeadMergeIdeal.main_arg5) = m ((c.tc : Thread Cert.HeadMergeIdeal.nD Cert.HeadMergeIdeal.τ).loc Cert.HeadMergeIdeal.main_arg5)
          ∧ r.2.mem ((c.tc : Thread Cert.HeadMergeIdeal.nD Cert.HeadMergeIdeal.τ).loc Cert.HeadMergeIdeal.main_arg6) = m ((c.tc : Thread Cert.HeadMergeIdeal.nD Cert.HeadMergeIdeal.τ).loc Cert.HeadMergeIdeal.main_arg6))
      ∧ θ_run (Cert.HeadMergeReferenceIdeal.defs (F := Ideal)) (onTc (τ := Cert.HeadMergeReferenceIdeal.τ) (Cert.HeadMergeReferenceIdeal.main (F := Ideal))) ⟨m', fun _ => 0, g'⟩ (fun r => ∀ c : Dev Cert.HeadMergeReferenceIdeal.nD,
          r.2.mem ((c.tc : Thread Cert.HeadMergeReferenceIdeal.nD Cert.HeadMergeReferenceIdeal.τ).loc Cert.HeadMergeReferenceIdeal.main_v27) = v0 c
          ∧ r.2.mem ((c.tc : Thread Cert.HeadMergeReferenceIdeal.nD Cert.HeadMergeReferenceIdeal.τ).loc Cert.HeadMergeReferenceIdeal.main_v30) = v1 c
          ∧ r.2.mem ((c.tc : Thread Cert.HeadMergeReferenceIdeal.nD Cert.HeadMergeReferenceIdeal.τ).loc Cert.HeadMergeReferenceIdeal.main_v39) = v2 c
          ∧ r.2.mem ((c.tc : Thread Cert.HeadMergeReferenceIdeal.nD Cert.HeadMergeReferenceIdeal.τ).loc Cert.HeadMergeReferenceIdeal.main_arg0) = m' ((c.tc : Thread Cert.HeadMergeReferenceIdeal.nD Cert.HeadMergeReferenceIdeal.τ).loc Cert.HeadMergeReferenceIdeal.main_arg0)
          ∧ r.2.mem ((c.tc : Thread Cert.HeadMergeReferenceIdeal.nD Cert.HeadMergeReferenceIdeal.τ).loc Cert.HeadMergeReferenceIdeal.main_arg1) = m' ((c.tc : Thread Cert.HeadMergeReferenceIdeal.nD Cert.HeadMergeReferenceIdeal.τ).loc Cert.HeadMergeReferenceIdeal.main_arg1)
          ∧ r.2.mem ((c.tc : Thread Cert.HeadMergeReferenceIdeal.nD Cert.HeadMergeReferenceIdeal.τ).loc Cert.HeadMergeReferenceIdeal.main_arg2) = m' ((c.tc : Thread Cert.HeadMergeReferenceIdeal.nD Cert.HeadMergeReferenceIdeal.τ).loc Cert.HeadMergeReferenceIdeal.main_arg2)
          ∧ r.2.mem ((c.tc : Thread Cert.HeadMergeReferenceIdeal.nD Cert.HeadMergeReferenceIdeal.τ).loc Cert.HeadMergeReferenceIdeal.main_arg3) = m' ((c.tc : Thread Cert.HeadMergeReferenceIdeal.nD Cert.HeadMergeReferenceIdeal.τ).loc Cert.HeadMergeReferenceIdeal.main_arg3)
          ∧ r.2.mem ((c.tc : Thread Cert.HeadMergeReferenceIdeal.nD Cert.HeadMergeReferenceIdeal.τ).loc Cert.HeadMergeReferenceIdeal.main_arg4) = m' ((c.tc : Thread Cert.HeadMergeReferenceIdeal.nD Cert.HeadMergeReferenceIdeal.τ).loc Cert.HeadMergeReferenceIdeal.main_arg4)
          ∧ r.2.mem ((c.tc : Thread Cert.HeadMergeReferenceIdeal.nD Cert.HeadMergeReferenceIdeal.τ).loc Cert.HeadMergeReferenceIdeal.main_arg5) = m' ((c.tc : Thread Cert.HeadMergeReferenceIdeal.nD Cert.HeadMergeReferenceIdeal.τ).loc Cert.HeadMergeReferenceIdeal.main_arg5)
          ∧ r.2.mem ((c.tc : Thread Cert.HeadMergeReferenceIdeal.nD Cert.HeadMergeReferenceIdeal.τ).loc Cert.HeadMergeReferenceIdeal.main_arg6) = m' ((c.tc : Thread Cert.HeadMergeReferenceIdeal.nD Cert.HeadMergeReferenceIdeal.τ).loc Cert.HeadMergeReferenceIdeal.main_arg6))

def Claim : Prop :=
  ∃ (hKernel : Cert.Kernel.Facts) (hKernelIdeal : Cert.KernelIdeal.Facts) (hReferenceIdeal : Cert.ReferenceIdeal.Facts) (hQueryWeightGrad : Cert.QueryWeightGrad.Facts) (hQueryWeightGradIdeal : Cert.QueryWeightGradIdeal.Facts) (hQueryWeightGradReferenceIdeal : Cert.QueryWeightGradReferenceIdeal.Facts) (hInputWeightGrad : Cert.InputWeightGrad.Facts) (hInputWeightGradIdeal : Cert.InputWeightGradIdeal.Facts) (hInputWeightGradReferenceIdeal : Cert.InputWeightGradReferenceIdeal.Facts) (hOutputWeightGrad : Cert.OutputWeightGrad.Facts) (hOutputWeightGradIdeal : Cert.OutputWeightGradIdeal.Facts) (hOutputWeightGradReferenceIdeal : Cert.OutputWeightGradReferenceIdeal.Facts) (hConvWeightGrad : Cert.ConvWeightGrad.Facts) (hConvWeightGradIdeal : Cert.ConvWeightGradIdeal.Facts) (hConvWeightGradReferenceIdeal : Cert.ConvWeightGradReferenceIdeal.Facts) (hPairWeightGrad : Cert.PairWeightGrad.Facts) (hPairWeightGradIdeal : Cert.PairWeightGradIdeal.Facts) (hPairWeightGradReferenceIdeal : Cert.PairWeightGradReferenceIdeal.Facts) (hInputGrad : Cert.InputGrad.Facts) (hInputGradIdeal : Cert.InputGradIdeal.Facts) (hInputGradReferenceIdeal : Cert.InputGradReferenceIdeal.Facts) (hInputProjection : Cert.InputProjection.Facts) (hInputProjectionIdeal : Cert.InputProjectionIdeal.Facts) (hInputProjectionReferenceIdeal : Cert.InputProjectionReferenceIdeal.Facts) (hPairProjection : Cert.PairProjection.Facts) (hPairProjectionIdeal : Cert.PairProjectionIdeal.Facts) (hPairProjectionReferenceIdeal : Cert.PairProjectionReferenceIdeal.Facts) (hQueryProjection : Cert.QueryProjection.Facts) (hQueryProjectionIdeal : Cert.QueryProjectionIdeal.Facts) (hQueryProjectionReferenceIdeal : Cert.QueryProjectionReferenceIdeal.Facts) (hResidualGrad : Cert.ResidualGrad.Facts) (hResidualGradIdeal : Cert.ResidualGradIdeal.Facts) (hResidualGradReferenceIdeal : Cert.ResidualGradReferenceIdeal.Facts) (hLossGrad : Cert.LossGrad.Facts) (hLossGradIdeal : Cert.LossGradIdeal.Facts) (hLossGradReferenceIdeal : Cert.LossGradReferenceIdeal.Facts) (hGateGrad : Cert.GateGrad.Facts) (hGateGradIdeal : Cert.GateGradIdeal.Facts) (hGateGradReferenceIdeal : Cert.GateGradReferenceIdeal.Facts) (hMixerGrad : Cert.MixerGrad.Facts) (hMixerGradIdeal : Cert.MixerGradIdeal.Facts) (hMixerGradReferenceIdeal : Cert.MixerGradReferenceIdeal.Facts) (hHeadMerge : Cert.HeadMerge.Facts) (hHeadMergeIdeal : Cert.HeadMergeIdeal.Facts) (hHeadMergeReferenceIdeal : Cert.HeadMergeReferenceIdeal.Facts) (hPre_gate_finite : Cert.Pre_gate_finite.Facts) (hPre_mixer_finite : Cert.Pre_mixer_finite.Facts) (hPre_merge_finite : Cert.Pre_merge_finite.Facts) (hOn_gate_written : Cert.On_gate_written.Facts) (hOn_mixer_written : Cert.On_mixer_written.Facts),
    quiescent_Kernel (hKernel := hKernel)
    ∧ quiescent_KernelIdeal (hKernelIdeal := hKernelIdeal)
    ∧ quiescent_ReferenceIdeal (hReferenceIdeal := hReferenceIdeal)
    ∧ quiescent_QueryWeightGrad (hQueryWeightGrad := hQueryWeightGrad)
    ∧ quiescent_QueryWeightGradIdeal (hQueryWeightGradIdeal := hQueryWeightGradIdeal)
    ∧ quiescent_QueryWeightGradReferenceIdeal (hQueryWeightGradReferenceIdeal := hQueryWeightGradReferenceIdeal)
    ∧ quiescent_InputWeightGrad (hInputWeightGrad := hInputWeightGrad)
    ∧ quiescent_InputWeightGradIdeal (hInputWeightGradIdeal := hInputWeightGradIdeal)
    ∧ quiescent_InputWeightGradReferenceIdeal (hInputWeightGradReferenceIdeal := hInputWeightGradReferenceIdeal)
    ∧ quiescent_OutputWeightGrad (hOutputWeightGrad := hOutputWeightGrad)
    ∧ quiescent_OutputWeightGradIdeal (hOutputWeightGradIdeal := hOutputWeightGradIdeal)
    ∧ quiescent_OutputWeightGradReferenceIdeal (hOutputWeightGradReferenceIdeal := hOutputWeightGradReferenceIdeal)
    ∧ quiescent_ConvWeightGrad (hConvWeightGrad := hConvWeightGrad)
    ∧ quiescent_ConvWeightGradIdeal (hConvWeightGradIdeal := hConvWeightGradIdeal)
    ∧ quiescent_ConvWeightGradReferenceIdeal (hConvWeightGradReferenceIdeal := hConvWeightGradReferenceIdeal)
    ∧ quiescent_PairWeightGrad (hPairWeightGrad := hPairWeightGrad)
    ∧ quiescent_PairWeightGradIdeal (hPairWeightGradIdeal := hPairWeightGradIdeal)
    ∧ quiescent_PairWeightGradReferenceIdeal (hPairWeightGradReferenceIdeal := hPairWeightGradReferenceIdeal)
    ∧ quiescent_InputGrad (hInputGrad := hInputGrad)
    ∧ quiescent_InputGradIdeal (hInputGradIdeal := hInputGradIdeal)
    ∧ quiescent_InputGradReferenceIdeal (hInputGradReferenceIdeal := hInputGradReferenceIdeal)
    ∧ quiescent_InputProjection (hInputProjection := hInputProjection)
    ∧ quiescent_InputProjectionIdeal (hInputProjectionIdeal := hInputProjectionIdeal)
    ∧ quiescent_InputProjectionReferenceIdeal (hInputProjectionReferenceIdeal := hInputProjectionReferenceIdeal)
    ∧ quiescent_PairProjection (hPairProjection := hPairProjection)
    ∧ quiescent_PairProjectionIdeal (hPairProjectionIdeal := hPairProjectionIdeal)
    ∧ quiescent_PairProjectionReferenceIdeal (hPairProjectionReferenceIdeal := hPairProjectionReferenceIdeal)
    ∧ quiescent_QueryProjection (hQueryProjection := hQueryProjection)
    ∧ quiescent_QueryProjectionIdeal (hQueryProjectionIdeal := hQueryProjectionIdeal)
    ∧ quiescent_QueryProjectionReferenceIdeal (hQueryProjectionReferenceIdeal := hQueryProjectionReferenceIdeal)
    ∧ quiescent_ResidualGrad (hResidualGrad := hResidualGrad)
    ∧ quiescent_ResidualGradIdeal (hResidualGradIdeal := hResidualGradIdeal)
    ∧ quiescent_ResidualGradReferenceIdeal (hResidualGradReferenceIdeal := hResidualGradReferenceIdeal)
    ∧ quiescent_LossGrad (hLossGrad := hLossGrad)
    ∧ quiescent_LossGradIdeal (hLossGradIdeal := hLossGradIdeal)
    ∧ quiescent_LossGradReferenceIdeal (hLossGradReferenceIdeal := hLossGradReferenceIdeal)
    ∧ quiescent_GateGrad (hGateGrad := hGateGrad)
    ∧ quiescent_GateGradIdeal (hGateGradIdeal := hGateGradIdeal)
    ∧ quiescent_GateGradIdeal_pre_gate_finite (hGateGradIdeal := hGateGradIdeal) (hPre_gate_finite := hPre_gate_finite)
    ∧ quiescent_GateGradReferenceIdeal (hGateGradReferenceIdeal := hGateGradReferenceIdeal)
    ∧ quiescent_GateGradReferenceIdeal_pre_gate_finite (hGateGradReferenceIdeal := hGateGradReferenceIdeal) (hPre_gate_finite := hPre_gate_finite)
    ∧ quiescent_MixerGrad (hMixerGrad := hMixerGrad)
    ∧ quiescent_MixerGradIdeal (hMixerGradIdeal := hMixerGradIdeal)
    ∧ quiescent_MixerGradIdeal_pre_mixer_finite (hMixerGradIdeal := hMixerGradIdeal) (hPre_mixer_finite := hPre_mixer_finite)
    ∧ quiescent_MixerGradReferenceIdeal (hMixerGradReferenceIdeal := hMixerGradReferenceIdeal)
    ∧ quiescent_MixerGradReferenceIdeal_pre_mixer_finite (hMixerGradReferenceIdeal := hMixerGradReferenceIdeal) (hPre_mixer_finite := hPre_mixer_finite)
    ∧ quiescent_HeadMerge (hHeadMerge := hHeadMerge)
    ∧ quiescent_HeadMergeIdeal (hHeadMergeIdeal := hHeadMergeIdeal)
    ∧ quiescent_HeadMergeIdeal_pre_merge_finite (hHeadMergeIdeal := hHeadMergeIdeal) (hPre_merge_finite := hPre_merge_finite)
    ∧ quiescent_HeadMergeReferenceIdeal (hHeadMergeReferenceIdeal := hHeadMergeReferenceIdeal)
    ∧ quiescent_HeadMergeReferenceIdeal_pre_merge_finite (hHeadMergeReferenceIdeal := hHeadMergeReferenceIdeal) (hPre_merge_finite := hPre_merge_finite)
    ∧ preserves_Kernel_KernelIdeal
    ∧ preserves_QueryWeightGrad_QueryWeightGradIdeal
    ∧ algebraic_QueryWeightGradIdeal_QueryWeightGradReferenceIdeal (hQueryWeightGradIdeal := hQueryWeightGradIdeal) (hQueryWeightGradReferenceIdeal := hQueryWeightGradReferenceIdeal)
    ∧ preserves_InputWeightGrad_InputWeightGradIdeal
    ∧ algebraic_InputWeightGradIdeal_InputWeightGradReferenceIdeal (hInputWeightGradIdeal := hInputWeightGradIdeal) (hInputWeightGradReferenceIdeal := hInputWeightGradReferenceIdeal)
    ∧ preserves_OutputWeightGrad_OutputWeightGradIdeal
    ∧ algebraic_OutputWeightGradIdeal_OutputWeightGradReferenceIdeal (hOutputWeightGradIdeal := hOutputWeightGradIdeal) (hOutputWeightGradReferenceIdeal := hOutputWeightGradReferenceIdeal)
    ∧ preserves_ConvWeightGrad_ConvWeightGradIdeal
    ∧ algebraic_ConvWeightGradIdeal_ConvWeightGradReferenceIdeal (hConvWeightGradIdeal := hConvWeightGradIdeal) (hConvWeightGradReferenceIdeal := hConvWeightGradReferenceIdeal)
    ∧ preserves_PairWeightGrad_PairWeightGradIdeal
    ∧ algebraic_PairWeightGradIdeal_PairWeightGradReferenceIdeal (hPairWeightGradIdeal := hPairWeightGradIdeal) (hPairWeightGradReferenceIdeal := hPairWeightGradReferenceIdeal)
    ∧ preserves_InputGrad_InputGradIdeal
    ∧ algebraic_InputGradIdeal_InputGradReferenceIdeal (hInputGradIdeal := hInputGradIdeal) (hInputGradReferenceIdeal := hInputGradReferenceIdeal)
    ∧ preserves_InputProjection_InputProjectionIdeal
    ∧ algebraic_InputProjectionIdeal_InputProjectionReferenceIdeal (hInputProjectionIdeal := hInputProjectionIdeal) (hInputProjectionReferenceIdeal := hInputProjectionReferenceIdeal)
    ∧ preserves_PairProjection_PairProjectionIdeal
    ∧ algebraic_PairProjectionIdeal_PairProjectionReferenceIdeal (hPairProjectionIdeal := hPairProjectionIdeal) (hPairProjectionReferenceIdeal := hPairProjectionReferenceIdeal)
    ∧ preserves_QueryProjection_QueryProjectionIdeal
    ∧ algebraic_QueryProjectionIdeal_QueryProjectionReferenceIdeal (hQueryProjectionIdeal := hQueryProjectionIdeal) (hQueryProjectionReferenceIdeal := hQueryProjectionReferenceIdeal)
    ∧ preserves_ResidualGrad_ResidualGradIdeal
    ∧ algebraic_ResidualGradIdeal_ResidualGradReferenceIdeal (hResidualGradIdeal := hResidualGradIdeal) (hResidualGradReferenceIdeal := hResidualGradReferenceIdeal)
    ∧ preserves_LossGrad_LossGradIdeal
    ∧ algebraic_LossGradIdeal_LossGradReferenceIdeal (hLossGradIdeal := hLossGradIdeal) (hLossGradReferenceIdeal := hLossGradReferenceIdeal)
    ∧ preserves_GateGrad_GateGradIdeal
    ∧ algebraic_GateGradIdeal_GateGradReferenceIdeal_on_gate_written_pre_gate_finite (hGateGradIdeal := hGateGradIdeal) (hGateGradReferenceIdeal := hGateGradReferenceIdeal) (hPre_gate_finite := hPre_gate_finite) (hOn_gate_written := hOn_gate_written)
    ∧ preserves_MixerGrad_MixerGradIdeal
    ∧ algebraic_MixerGradIdeal_MixerGradReferenceIdeal_on_mixer_written_pre_mixer_finite (hMixerGradIdeal := hMixerGradIdeal) (hMixerGradReferenceIdeal := hMixerGradReferenceIdeal) (hPre_mixer_finite := hPre_mixer_finite) (hOn_mixer_written := hOn_mixer_written)
    ∧ preserves_HeadMerge_HeadMergeIdeal
    ∧ algebraic_HeadMergeIdeal_HeadMergeReferenceIdeal_pre_merge_finite (hHeadMergeIdeal := hHeadMergeIdeal) (hHeadMergeReferenceIdeal := hHeadMergeReferenceIdeal) (hPre_merge_finite := hPre_merge_finite)
-- ==== On_gate_written.lean ====
abbrev S16384x1024 : Shape := ⟨2, ![16384, 1024]⟩
abbrev S1024x1024 : Shape := ⟨2, ![1024, 1024]⟩
abbrev S_ : Shape := ⟨0, ![]⟩
abbrev S16384x4096 : Shape := ⟨2, ![16384, 4096]⟩
abbrev S16384x128 : Shape := ⟨2, ![16384, 128]⟩

class Facts : Prop where
  bcast_S_S16384x1024 : S_.BroadcastsInDim S16384x1024 (![] : Fin 0 → Fin S16384x1024.rank)
  bcast_S_S16384x4096 : S_.BroadcastsInDim S16384x4096 (![] : Fin 0 → Fin S16384x4096.rank)
  bcast_S_S16384x128 : S_.BroadcastsInDim S16384x128 (![] : Fin 0 → Fin S16384x128.rank)

variable [Facts]

def fn {F : FTy → Type} [FloatOps F] (main_arg0 : FVec F S16384x1024 .bf16) (main_arg1 : FVec F S1024x1024 .f32) (main_arg2 : FVec F S16384x1024 .f32) (main_arg3 : FVec F S16384x1024 .f32) : IVec S16384x1024 1 × IVec S16384x4096 1 × IVec S16384x128 1 :=
  let main_c : IVec S_ 1 := constantI S_ 1 1#1
  let main_v0 : IVec S16384x1024 1 := broadcastInDim S16384x1024 ![] bcast_S_S16384x1024 main_c
  let main_v1 : IVec S16384x4096 32 := iotaInDim S16384x4096 32 1
  let main_c_0 : IVec S_ 32 := constantI S_ 32 3072#32
  let main_v2 : IVec S16384x4096 32 := broadcastInDim S16384x4096 ![] bcast_S_S16384x4096 main_c_0
  let main_v3 : IVec S16384x4096 1 := cmpi .sge main_v1 main_v2
  let main_c_1 : IVec S_ 1 := constantI S_ 1 1#1
  let main_v4 : IVec S16384x128 1 := broadcastInDim S16384x128 ![] bcast_S_S16384x128 main_c_1
  (main_v0, main_v3, main_v4)
-- ==== On_mixer_written.lean ====
abbrev S16384x1024 : Shape := ⟨2, ![16384, 1024]⟩
abbrev S1024x1024 : Shape := ⟨2, ![1024, 1024]⟩
abbrev S16384x3072 : Shape := ⟨2, ![16384, 3072]⟩
abbrev S1x1024 : Shape := ⟨2, ![1, 1024]⟩
abbrev S_ : Shape := ⟨0, ![]⟩
abbrev S8x1024 : Shape := ⟨2, ![8, 1024]⟩

class Facts : Prop where
  bcast_S_S8x1024 : S_.BroadcastsInDim S8x1024 (![] : Fin 0 → Fin S8x1024.rank)
  bcast_S_S16384x1024 : S_.BroadcastsInDim S16384x1024 (![] : Fin 0 → Fin S16384x1024.rank)
  bcast_S_S16384x3072 : S_.BroadcastsInDim S16384x3072 (![] : Fin 0 → Fin S16384x3072.rank)

variable [Facts]

def fn {F : FTy → Type} [FloatOps F] (main_arg0 : FVec F S16384x1024 .bf16) (main_arg1 : FVec F S1024x1024 .f32) (main_arg2 : FVec F S16384x1024 .f32) (main_arg3 : FVec F S16384x3072 .f32) (main_arg4 : FVec F S1x1024 .f32) (main_arg5 : FVec F S1x1024 .f32) : IVec S16384x1024 1 × IVec S16384x3072 1 × IVec S8x1024 1 × IVec S8x1024 1 × IVec S8x1024 1 :=
  let main_c : IVec S_ 1 := constantI S_ 1 1#1
  let main_v0 : IVec S8x1024 1 := broadcastInDim S8x1024 ![] bcast_S_S8x1024 main_c
  let main_c_0 : IVec S_ 1 := constantI S_ 1 1#1
  let main_v1 : IVec S16384x1024 1 := broadcastInDim S16384x1024 ![] bcast_S_S16384x1024 main_c_0
  let main_v2 : IVec S16384x3072 32 := iotaInDim S16384x3072 32 1
  let main_c_1 : IVec S_ 32 := constantI S_ 32 2048#32
  let main_v3 : IVec S16384x3072 32 := broadcastInDim S16384x3072 ![] bcast_S_S16384x3072 main_c_1
  let main_v4 : IVec S16384x3072 1 := cmpi .sge main_v2 main_v3
  (main_v1, main_v4, main_v0, main_v0, main_v0)
-- ==== Pre_gate_finite.lean ====
abbrev S16384x1024 : Shape := ⟨2, ![16384, 1024]⟩
abbrev S1024x1024 : Shape := ⟨2, ![1024, 1024]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v14 : IVec S_ 1) (main_v15 : FVec F S16384x1024 .f32) (main_v16 : FVec F S16384x1024 .f32) : IVec S_ 1 :=
  let main_v17 : IVec S16384x1024 1 := cmpf .olt main_v15 main_v16
  let main_c_5 : IVec S_ 1 := constantI S_ 1 1#1
  let main_v18 : IVec S_ 1 := (fun x v => Host.reduce IntOp.andi x v reducesTo_S16384x1024_S_d0_1 h_S_) main_v17 main_c_5
  let main_v19 : IVec S_ 1 := andi main_v14 main_v18
  main_v19

def fn {F : FTy → Type} [FloatOps F] (main_arg0 : FVec F S16384x1024 .bf16) (main_arg1 : FVec F S1024x1024 .f32) (main_arg2 : FVec F S16384x1024 .f32) (main_arg3 : FVec F S16384x1024 .f32) : IVec S_ 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_v5 : FVec F S1024x1024 .f32 := Host.absf main_arg1
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_c_1 : IVec S_ 1 := constantI S_ 1 1#1
  let main_v8 : IVec S_ 1 := (fun x v => Host.reduce IntOp.andi x v reducesTo_S1024x1024_S_d0_1 h_S_) main_v7 main_c_1
  let main_v9 : IVec S_ 1 := andi main_v4 main_v8
  let main_v10 : FVec F S16384x1024 .f32 := Host.absf main_arg2
  let main_cst_2 : FVec F S_ .f32 := constant S_ .f32 0x7F800000#32
  let main_v11 : FVec F S16384x1024 .f32 := broadcastInDim S16384x1024 ![] bcast_S_S16384x1024 main_cst_2
  let main_v12 : IVec S16384x1024 1 := cmpf .olt main_v10 main_v11
  let main_c_3 : IVec S_ 1 := constantI S_ 1 1#1
  let main_v13 : IVec S_ 1 := (fun x v => Host.reduce IntOp.andi x v reducesTo_S16384x1024_S_d0_1 h_S_) main_v12 main_c_3
  let main_v14 : IVec S_ 1 := andi main_v9 main_v13
  let main_v15 : FVec F S16384x1024 .f32 := Host.absf main_arg3
  let main_cst_4 : FVec F S_ .f32 := constant S_ .f32 0x7F800000#32
  let main_v16 : FVec F S16384x1024 .f32 := broadcastInDim S16384x1024 ![] bcast_S_S16384x1024 main_cst_4
  fn_part1 (F := F) main_v14 main_v15 main_v16
-- ==== Pre_merge_finite.lean ====
abbrev S16384x1024 : Shape := ⟨2, ![16384, 1024]⟩
abbrev S16384x128 : Shape := ⟨2, ![16384, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel

variable [Facts]

def fn {F : FTy → Type} [FloatOps F] (main_arg0 : FVec F S16384x1024 .f32) (main_arg1 : FVec F S16384x1024 .f32) (main_arg2 : FVec F S16384x1024 .f32) (main_arg3 : FVec F S16384x128 .f32) (main_arg4 : FVec F S16384x128 .f32) (main_arg5 : FVec F S16384x128 .f32) (main_arg6 : FVec F S16384x1024 .f32) : IVec S_ 1 :=
  let main_v0 : FVec F S16384x128 .f32 := Host.absf main_arg3
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x128 .f32 := Host.absf main_arg4
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S16384x128 .f32 := Host.absf main_arg5
  let main_cst_2 : FVec F S_ .f32 := constant S_ .f32 0x7F800000#32
  let main_v10 : FVec F S16384x128 .f32 := broadcastInDim S16384x128 ![] bcast_S_S16384x128 main_cst_2
  let main_v11 : IVec S16384x128 1 := cmpf .olt main_v9 main_v10
  let main_c_3 : IVec S_ 1 := constantI S_ 1 1#1
  let main_v12 : IVec S_ 1 := (fun x v => Host.reduce IntOp.andi x v reducesTo_S16384x128_S_d0_1 h_S_) main_v11 main_c_3
  let main_v13 : IVec S_ 1 := andi main_v8 main_v12
  main_v13
-- ==== Pre_mixer_finite.lean ====
abbrev S16384x1024 : Shape := ⟨2, ![16384, 1024]⟩
abbrev S1024x1024 : Shape := ⟨2, ![1024, 1024]⟩
abbrev S16384x3072 : Shape := ⟨2, ![16384, 3072]⟩
abbrev S1x1024 : Shape := ⟨2, ![1, 1024]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S16384x3072 : S_.BroadcastsInDim S16384x3072 (![] : Fin 0 → Fin S16384x3072.rank)
  reducesTo_S16384x3072_S_d0_1 : S16384x3072.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_arg5 : FVec F S1x1024 .f32) (main_v14 : IVec S_ 1) (main_v15 : FVec F S16384x3072 .f32) (main_v16 : FVec F S16384x3072 .f32) : IVec S_ 1 :=
  let main_v17 : IVec S16384x3072 1 := cmpf .olt main_v15 main_v16
  let main_c_5 : IVec S_ 1 := constantI S_ 1 1#1
  let main_v18 : IVec S_ 1 := (fun x v => Host.reduce IntOp.andi x v reducesTo_S16384x3072_S_d0_1 h_S_) main_v17 main_c_5
  let main_v19 : IVec S_ 1 := andi main_v14 main_v18
  let main_v20 : FVec F S1x1024 .f32 := Host.absf main_arg4
  let main_cst_6 : FVec F S_ .f32 := constant S_ .f32 0x7F800000#32
  let main_v21 : FVec F S1x1024 .f32 := broadcastInDim S1x1024 ![] bcast_S_S1x1024 main_cst_6
  let main_v22 : IVec S1x1024 1 := cmpf .olt main_v20 main_v21
  let main_c_7 : IVec S_ 1 := constantI S_ 1 1#1
  let main_v23 : IVec S_ 1 := (fun x v => Host.reduce IntOp.andi x v reducesTo_S1x1024_S_d0_1 h_S_) main_v22 main_c_7
  let main_v24 : IVec S_ 1 := andi main_v19 main_v23
  let main_v25 : FVec F S1x1024 .f32 := Host.absf main_arg5
  let main_cst_8 : FVec F S_ .f32 := constant S_ .f32 0x7F800000#32
  let main_v26 : FVec F S1x1024 .f32 := broadcastInDim S1x1024 ![] bcast_S_S1x1024 main_cst_8
  let main_v27 : IVec S1x1024 1 := cmpf .olt main_v25 main_v26
  let main_c_9 : IVec S_ 1 := constantI S_ 1 1#1
  let main_v28 : IVec S_ 1 := (fun x v => Host.reduce IntOp.andi x v reducesTo_S1x1024_S_d0_1 h_S_) main_v27 main_c_9
  let main_v29 : IVec S_ 1 := andi main_v24 main_v28
  main_v29

def fn {F : FTy → Type} [FloatOps F] (main_arg0 : FVec F S16384x1024 .bf16) (main_arg1 : FVec F S1024x1024 .f32) (main_arg2 : FVec F S16384x1024 .f32) (main_arg3 : FVec F S16384x3072 .f32) (main_arg4 : FVec F S1x1024 .f32) (main_arg5 : FVec F S1x1024 .f32) : IVec S_ 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_v5 : FVec F S1024x1024 .f32 := Host.absf main_arg1
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_c_1 : IVec S_ 1 := constantI S_ 1 1#1
  let main_v8 : IVec S_ 1 := (fun x v => Host.reduce IntOp.andi x v reducesTo_S1024x1024_S_d0_1 h_S_) main_v7 main_c_1
  let main_v9 : IVec S_ 1 := andi main_v4 main_v8
  let main_v10 : FVec F S16384x1024 .f32 := Host.absf main_arg2
  let main_cst_2 : FVec F S_ .f32 := constant S_ .f32 0x7F800000#32
  let main_v11 : FVec F S16384x1024 .f32 := broadcastInDim S16384x1024 ![] bcast_S_S16384x1024 main_cst_2
  let main_v12 : IVec S16384x1024 1 := cmpf .olt main_v10 main_v11
  let main_c_3 : IVec S_ 1 := constantI S_ 1 1#1
  let main_v13 : IVec S_ 1 := (fun x v => Host.reduce IntOp.andi x v reducesTo_S16384x1024_S_d0_1 h_S_) main_v12 main_c_3
  let main_v14 : IVec S_ 1 := andi main_v9 main_v13
  let main_v15 : FVec F S16384x3072 .f32 := Host.absf main_arg3
  let main_cst_4 : FVec F S_ .f32 := constant S_ .f32 0x7F800000#32
  let main_v16 : FVec F S16384x3072 .f32 := broadcastInDim S16384x3072 ![] bcast_S_S16384x3072 main_cst_4
  fn_part1 (F := F) main_arg4 main_arg5 main_v14 main_v15 main_v16
-- ==== Kernel.lean ====
abbrev S16384x3072 : Shape := ⟨2, ![16384, 3072]⟩
abbrev S16384x1024 : Shape := ⟨2, ![16384, 1024]⟩
abbrev S16384x16 : Shape := ⟨2, ![16384, 16]⟩
abbrev S16384x4096 : Shape := ⟨2, ![16384, 4096]⟩
abbrev S_ : Shape := ⟨0, ![]⟩
abbrev S16384x112 : Shape := ⟨2, ![16384, 112]⟩
abbrev S16384x128 : Shape := ⟨2, ![16384, 128]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S8x8x256 : Shape := ⟨3, ![8, 8, 256]⟩
abbrev S1024x128 : Shape := ⟨2, ![1024, 128]⟩
abbrev S512x128 : Shape := ⟨2, ![512, 128]⟩
abbrev S1x8x256 : Shape := ⟨3, ![1, 8, 256]⟩
abbrev S1536x128 : Shape := ⟨2, ![1536, 128]⟩
abbrev S256x256 : Shape := ⟨2, ![256, 256]⟩
abbrev S128x128 : Shape := ⟨2, ![128, 128]⟩
abbrev S1x128 : Shape := ⟨2, ![1, 128]⟩
abbrev S1x1x256 : Shape := ⟨3, ![1, 1, 256]⟩
abbrev S256x128 : Shape := ⟨2, ![256, 128]⟩
abbrev S256x1 : Shape := ⟨2, ![256, 1]⟩

abbrev nBuf : Space → Nat
  | .hbm => 71
  | .vmem => 34
  | .smem => 0
  | _ => 0

abbrev bufTy : (tb : Table) → Fin (tcTables nBuf tb) → BufTy
  | .hbm, ⟨0, _⟩ => ⟨S16384x3072, .f32⟩
  | .hbm, ⟨1, _⟩ => ⟨S16384x3072, .f32⟩
  | .hbm, ⟨2, _⟩ => ⟨S16384x3072, .f32⟩
  | .hbm, ⟨3, _⟩ => ⟨S16384x1024, .f32⟩
  | .hbm, ⟨4, _⟩ => ⟨S16384x16, .f32⟩
  | .hbm, ⟨5, _⟩ => ⟨S16384x16, .f32⟩
  | .hbm, ⟨6, _⟩ => ⟨S16384x4096, .bf16⟩
  | .hbm, ⟨7, _⟩ => ⟨S16384x3072, .bf16⟩
  | .hbm, ⟨8, _⟩ => ⟨S16384x3072, .bf16⟩
  | .hbm, ⟨9, _⟩ => ⟨S_, .f32⟩
  | .hbm, ⟨10, _⟩ => ⟨S16384x3072, .f32⟩
  | .hbm, ⟨11, _⟩ => ⟨S16384x3072, .f32⟩
  | .hbm, ⟨12, _⟩ => ⟨S16384x3072, .bf16⟩
  | .hbm, ⟨13, _⟩ => ⟨S16384x3072, .bf16⟩
  | .hbm, ⟨14, _⟩ => ⟨S16384x3072, .bf16⟩
  | .hbm, ⟨15, _⟩ => ⟨S16384x1024, .bf16⟩
  | .hbm, ⟨16, _⟩ => ⟨S_, .f32⟩
  | .hbm, ⟨17, _⟩ => ⟨S16384x112, .f32⟩
  | .hbm, ⟨18, _⟩ => ⟨S16384x128, .f32⟩
  | .hbm, ⟨19, _⟩ => ⟨S_, .f32⟩
  | .hbm, ⟨20, _⟩ => ⟨S16384x112, .f32⟩
  | .hbm, ⟨21, _⟩ => ⟨S16384x128, .f32⟩
  | .hbm, ⟨22, _⟩ => ⟨S128, .i32⟩
  | .hbm, ⟨23, _⟩ => ⟨S128x1, .i32⟩
  | .hbm, ⟨24, _⟩ => ⟨S256, .i32⟩
  | .hbm, ⟨25, _⟩ => ⟨S1x256, .i32⟩
  | .hbm, ⟨26, _⟩ => ⟨S_, .i32⟩
  | .hbm, ⟨27, _⟩ => ⟨S128x1, .i32⟩
  | .hbm, ⟨28, _⟩ => ⟨S128x1, .i32⟩
  | .hbm, ⟨29, _⟩ => ⟨S128x256, .i32⟩
  | .hbm, ⟨30, _⟩ => ⟨S128x256, .i32⟩
  | .hbm, ⟨31, _⟩ => ⟨S128x256, .i32⟩
  | .hbm, ⟨32, _⟩ => ⟨S_, .i32⟩
  | .hbm, ⟨33, _⟩ => ⟨S128x256, .i32⟩
  | .hbm, ⟨34, _⟩ => ⟨S128x256, .i1⟩
  | .hbm, ⟨35, _⟩ => ⟨S_, .i32⟩
  | .hbm, ⟨36, _⟩ => ⟨S128x256, .i32⟩
  | .hbm, ⟨37, _⟩ => ⟨S128x256, .i1⟩
  | .hbm, ⟨38, _⟩ => ⟨S128x256, .i1⟩
  | .hbm, ⟨39, _⟩ => ⟨S_, .i32⟩
  | .hbm, ⟨40, _⟩ => ⟨S128x256, .i32⟩
  | .hbm, ⟨41, _⟩ => ⟨S128x256, .i32⟩
  | .hbm, ⟨42, _⟩ => ⟨S128x256, .f32⟩
  | .hbm, ⟨43, _⟩ => ⟨S128x256, .f32⟩
  | .hbm, ⟨44, _⟩ => ⟨S_, .f32⟩
  | .hbm, ⟨45, _⟩ => ⟨S_, .f32⟩
  | .hbm, ⟨46, _⟩ => ⟨S128x256, .f32⟩
  | .hbm, ⟨47, _⟩ => ⟨S128x256, .f32⟩
  | .hbm, ⟨48, _⟩ => ⟨S8x8x256, .i32⟩
  | .hbm, ⟨49, _⟩ => ⟨S_, .i32⟩
  | .hbm, ⟨50, _⟩ => ⟨S8x8x256, .i32⟩
  | .hbm, ⟨51, _⟩ => ⟨S8x8x256, .i32⟩
  | .hbm, ⟨52, _⟩ => ⟨S8x8x256, .i32⟩
  | .hbm, ⟨53, _⟩ => ⟨S8x8x256, .i32⟩
  | .hbm, ⟨54, _⟩ => ⟨S_, .i32⟩
  | .hbm, ⟨55, _⟩ => ⟨S8x8x256, .i32⟩
  | .hbm, ⟨56, _⟩ => ⟨S8x8x256, .i32⟩
  | .hbm, ⟨57, _⟩ => ⟨S8x8x256, .f32⟩
  | .hbm, ⟨58, _⟩ => ⟨S_, .f32⟩
  | .hbm, ⟨59, _⟩ => ⟨S8x8x256, .f32⟩
  | .hbm, ⟨60, _⟩ => ⟨S8x8x256, .f32⟩
  | .hbm, ⟨61, _⟩ => ⟨S_, .f32⟩
  | .hbm, ⟨62, _⟩ => ⟨S8x8x256, .f32⟩
  | .hbm, ⟨63, _⟩ => ⟨S8x8x256, .f32⟩
  | .hbm, ⟨64, _⟩ => ⟨S_, .f32⟩
  | .hbm, ⟨65, _⟩ => ⟨S8x8x256, .f32⟩
  | .hbm, ⟨66, _⟩ => ⟨S8x8x256, .f32⟩
  | .hbm, ⟨67, _⟩ => ⟨S8x8x256, .f32⟩
  | .hbm, ⟨68, _⟩ => ⟨S16384x4096, .bf16⟩
  | .hbm, ⟨69, _⟩ => ⟨S16384x3072, .bf16⟩
  | .hbm, ⟨70, _⟩ => ⟨S16384x3072, .bf16⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S512x128, .bf16⟩
  | .local _ .vmem, ⟨5, _⟩ => ⟨S512x128, .bf16⟩
  | .local _ .vmem, ⟨6, _⟩ => ⟨S1024x128, .bf16⟩
  | .local _ .vmem, ⟨7, _⟩ => ⟨S1024x128, .bf16⟩
  | .local _ .vmem, ⟨8, _⟩ => ⟨S512x128, .bf16⟩
  | .local _ .vmem, ⟨9, _⟩ => ⟨S512x128, .bf16⟩
  | .local _ .vmem, ⟨10, _⟩ => ⟨S128x256, .f32⟩
  | .local _ .vmem, ⟨11, _⟩ => ⟨S1x8x256, .f32⟩
  | .local _ .vmem, ⟨12, _⟩ => ⟨S1x8x256, .f32⟩
  | .local _ .vmem, ⟨13, _⟩ => ⟨S1024x128, .bf16⟩
  | .local _ .vmem, ⟨14, _⟩ => ⟨S1024x128, .bf16⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .bf16⟩
  | .local _ .vmem, ⟨20, _⟩ => ⟨S1024x128, .bf16⟩
  | .local _ .vmem, ⟨21, _⟩ => ⟨S1024x128, .bf16⟩
  | .local _ .vmem, ⟨22, _⟩ => ⟨S1024x128, .bf16⟩
  | .local _ .vmem, ⟨23, _⟩ => ⟨S1024x128, .bf16⟩
  | .local _ .vmem, ⟨24, _⟩ => ⟨S1024x128, .bf16⟩
  | .local _ .vmem, ⟨25, _⟩ => ⟨S1024x128, .f32⟩
  | .local _ .vmem, ⟨26, _⟩ => ⟨S1024x128, .f32⟩
  | .local _ .vmem, ⟨27, _⟩ => ⟨S1536x128, .f32⟩
  | .local _ .vmem, ⟨28, _⟩ => ⟨S1536x128, .f32⟩
  | .local _ .vmem, ⟨29, _⟩ => ⟨S1024x128, .f32⟩
  | .local _ .vmem, ⟨30, _⟩ => ⟨S1536x128, .f32⟩
  | .local _ .vmem, ⟨31, _⟩ => ⟨S1536x128, .f32⟩
  | .local _ .vmem, ⟨32, _⟩ => ⟨S1024x128, .f32⟩
  | .local _ .vmem, ⟨33, _⟩ => ⟨S1024x128, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_call0_v0 : Ref sig .tc := ⟨.hbm, 45, rfl⟩
abbrev main_call0_v1 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_cst_10 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44_0 : Ref sig .tc := ⟨.hbm, 68, rfl⟩
abbrev main_v44_1 : Ref sig .tc := ⟨.hbm, 69, rfl⟩
abbrev main_v44_2 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_scratch6 : Ref sig .tc := ⟨.vmem, 31, rfl⟩
abbrev cc0_scratch7 : Ref sig .tc := ⟨.vmem, 32, rfl⟩
abbrev cc0_scratch8 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![8, 17], ![false, false]⟩

def k0_cond2 (i : grid0.Coords) : BitVec 1 :=
  let arg1 : BitVec 32 := BitVec.ofNat 32 (i 1).val
  let c16_i32 : BitVec 32 := 16#32
  let v11 : BitVec 1 := Scalar.cmpi .slt arg1 c16_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c8_i32 : BitVec 32 := 8#32
  let v1 : BitVec 32 := Scalar.addi c8_i32 arg0
  let c0_i32 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c8_i32 : BitVec 32 := 8#32
  let v1 : BitVec 32 := Scalar.addi c8_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c2_i32 : BitVec 32 := 2#32
  let v1 : BitVec 32 := Scalar.muli v0 c2_i32
  let c1_i32 : BitVec 32 := 1#32
  let v2 : BitVec 32 := Scalar.subi v1 c1_i32
  let c0_i32 : BitVec 32 := 0#32
  let v3 : BitVec 32 := Scalar.maxsi v2 c0_i32
  let c8_i32 : BitVec 32 := 8#32
  let v4 : BitVec 32 := Scalar.addi c8_i32 arg0
  let c0_i32_0 : BitVec 32 := 0#32
  ![v3.toNat, v4.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c8_i32 : BitVec 32 := 8#32
  let v1 : BitVec 32 := Scalar.addi c8_i32 arg0
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c2_i32 : BitVec 32 := 2#32
  let v1 : BitVec 32 := Scalar.muli v0 c2_i32
  let c1_i32 : BitVec 32 := 1#32
  let v2 : BitVec 32 := Scalar.subi v1 c1_i32
  let c0_i32 : BitVec 32 := 0#32
  let v3 : BitVec 32 := Scalar.maxsi v2 c0_i32
  let c8_i32 : BitVec 32 := 8#32
  let v4 : BitVec 32 := Scalar.addi c8_i32 arg0
  let c0_i32_0 : BitVec 32 := 0#32
  ![v3.toNat, v4.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c8_i32 : BitVec 32 := 8#32
  let v1 : BitVec 32 := Scalar.addi c8_i32 arg0
  let c0_i32 : BitVec 32 := 0#32
  ![v0.toNat, v1.toNat]

def cc0_transform_14 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c8_i32 : BitVec 32 := 8#32
  let v2 : BitVec 32 := Scalar.addi c8_i32 arg0
  let c0_i32_0 : BitVec 32 := 0#32
  ![v1.toNat, v2.toNat]

def cc0_transform_15 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c8_i32 : BitVec 32 := 8#32
  let v2 : BitVec 32 := Scalar.addi c8_i32 arg0
  let c0_i32_0 : BitVec 32 := 0#32
  ![v1.toNat, v2.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16384x3072 : Shape := ⟨2, ![16384, 3072]⟩
abbrev S16384x1024 : Shape := ⟨2, ![16384, 1024]⟩
abbrev S16384x16 : Shape := ⟨2, ![16384, 16]⟩
abbrev S16384x4096 : Shape := ⟨2, ![16384, 4096]⟩
abbrev S1x4096x4x16 : Shape := ⟨4, ![1, 4096, 4, 16]⟩
abbrev S1x4x4096x16 : Shape := ⟨4, ![1, 4, 4096, 16]⟩
abbrev S1x4x32x128x16 : Shape := ⟨5, ![1, 4, 32, 128, 16]⟩
abbrev S1x4x32x16x128 : Shape := ⟨5, ![1, 4, 32, 16, 128]⟩
abbrev S1x4096x4x16x64 : Shape := ⟨5, ![1, 4096, 4, 16, 64]⟩
abbrev S1x4x4096x16x64 : Shape := ⟨5, ![1, 4, 4096, 16, 64]⟩
abbrev S1x4x32x128x16x64 : Shape := ⟨6, ![1, 4, 32, 128, 16, 64]⟩
abbrev S1x4x1x128x16x64 : Shape := ⟨6, ![1, 4, 1, 128, 16, 64]⟩
abbrev S_ : Shape := ⟨0, ![]⟩
abbrev S1x4x31x128x16x64 : Shape := ⟨6, ![1, 4, 31, 128, 16, 64]⟩
abbrev S1x4x32x256x16x64 : Shape := ⟨6, ![1, 4, 32, 256, 16, 64]⟩
abbrev S1x4x32x16x128x256 : Shape := ⟨6, ![1, 4, 32, 16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x128x256 : Shape := ⟨3, ![1, 128, 256]⟩
abbrev S1x1x256 : Shape := ⟨3, ![1, 1, 256]⟩
abbrev S32x1x256 : Shape := ⟨3, ![32, 1, 256]⟩
abbrev S32x128x256 : Shape := ⟨3, ![32, 128, 256]⟩
abbrev S16 : Shape := ⟨1, ![16]⟩
abbrev S16x1x1 : Shape := ⟨3, ![16, 1, 1]⟩
abbrev S16x128x256 : Shape := ⟨3, ![16, 128, 256]⟩
abbrev S1x1x32x1x128x256 : Shape := ⟨6, ![1, 1, 32, 1, 128, 256]⟩
abbrev S1x1x1x16x128x256 : Shape := ⟨6, ![1, 1, 1, 16, 128, 256]⟩
abbrev S1x4x32x16x128x1 : Shape := ⟨6, ![1, 4, 32, 16, 128, 1]⟩
abbrev S1x4x32x16x64x128 : Shape := ⟨6, ![1, 4, 32, 16, 64, 128]⟩
abbrev S1x4x32x16x64x256 : Shape := ⟨6, ![1, 4, 32, 16, 64, 256]⟩
abbrev S1x4x32x16x256x64 : Shape := ⟨6, ![1, 4, 32, 16, 256, 64]⟩
abbrev S1x4x32x16x128x64 : Shape := ⟨6, ![1, 4, 32, 16, 128, 64]⟩
abbrev S16384x2048 : Shape := ⟨2, ![16384, 2048]⟩

abbrev nBuf : Space → Nat
  | .hbm => 182
  | .vmem => 0
  | .smem => 0
  | _ => 0

abbrev hbmTy0_0 (i : Nat) : BufTy := match i % 128 with
  | 0 => ⟨S16384x3072, .f32⟩
  | 1 => ⟨S16384x3072, .f32⟩
  | 2 => ⟨S16384x3072, .f32⟩
  | 3 => ⟨S16384x1024, .f32⟩
  | 4 => ⟨S16384x16, .f32⟩
  | 5 => ⟨S16384x16, .f32⟩
  | 6 => ⟨S16384x4096, .bf16⟩
  | 7 => ⟨S16384x3072, .bf16⟩
  | 8 => ⟨S16384x3072, .bf16⟩
  | 9 => ⟨S1x4096x4x16, .f32⟩
  | 10 => ⟨S1x4x4096x16, .f32⟩
  | 11 => ⟨S1x4x32x128x16, .f32⟩
  | 12 => ⟨S1x4x32x16x128, .f32⟩
  | 13 => ⟨S16384x1024, .f32⟩
  | 14 => ⟨S16384x1024, .f32⟩
  | 15 => ⟨S16384x1024, .f32⟩
  | 16 => ⟨S1x4096x4x16x64, .f32⟩
  | 17 => ⟨S1x4x4096x16x64, .f32⟩
  | 18 => ⟨S1x4x32x128x16x64, .f32⟩
  | 19 => ⟨S1x4096x4x16x64, .f32⟩
  | 20 => ⟨S1x4x4096x16x64, .f32⟩
  | 21 => ⟨S1x4x32x128x16x64, .f32⟩
  | 22 => ⟨S1x4x1x128x16x64, .f32⟩
  | 23 => ⟨S_, .f32⟩
  | 24 => ⟨S1x4x1x128x16x64, .f32⟩
  | 25 => ⟨S1x4x31x128x16x64, .f32⟩
  | 26 => ⟨S1x4x32x128x16x64, .f32⟩
  | 27 => ⟨S_, .f32⟩
  | 28 => ⟨S1x4x1x128x16x64, .f32⟩
  | 29 => ⟨S1x4x32x256x16x64, .f32⟩
  | 30 => ⟨S1x4096x4x16x64, .f32⟩
  | 31 => ⟨S1x4x4096x16x64, .f32⟩
  | 32 => ⟨S1x4x32x128x16x64, .f32⟩
  | 33 => ⟨S1x4x1x128x16x64, .f32⟩
  | 34 => ⟨S_, .f32⟩
  | 35 => ⟨S1x4x1x128x16x64, .f32⟩
  | 36 => ⟨S1x4x31x128x16x64, .f32⟩
  | 37 => ⟨S1x4x32x128x16x64, .f32⟩
  | 38 => ⟨S_, .f32⟩
  | 39 => ⟨S1x4x1x128x16x64, .f32⟩
  | 40 => ⟨S1x4x32x256x16x64, .f32⟩
  | 41 => ⟨S1x4x32x16x128x256, .f32⟩
  | 42 => ⟨S_, .f32⟩
  | 43 => ⟨S1x4x32x16x128x256, .f32⟩
  | 44 => ⟨S1x4x32x16x128x256, .f32⟩
  | 45 => ⟨S128, .i32⟩
  | 46 => ⟨S128x1, .i32⟩
  | 47 => ⟨S256, .i32⟩
  | 48 => ⟨S1x256, .i32⟩
  | 49 => ⟨S_, .i32⟩
  | 50 => ⟨S128x1, .i32⟩
  | 51 => ⟨S128x1, .i32⟩
  | 52 => ⟨S128x256, .i32⟩
  | 53 => ⟨S128x256, .i32⟩
  | 54 => ⟨S128x256, .i32⟩
  | 55 => ⟨S_, .i32⟩
  | 56 => ⟨S128x256, .i32⟩
  | 57 => ⟨S128x256, .i1⟩
  | 58 => ⟨S_, .i32⟩
  | 59 => ⟨S128x256, .i32⟩
  | 60 => ⟨S128x256, .i1⟩
  | 61 => ⟨S128x256, .i1⟩
  | 62 => ⟨S32, .i32⟩
  | 63 => ⟨S_, .i32⟩
  | 64 => ⟨S32, .i32⟩
  | 65 => ⟨S32, .i1⟩
  | 66 => ⟨S32x1x1, .i1⟩
  | 67 => ⟨S1x128x256, .i1⟩
  | 68 => ⟨S_, .i32⟩
  | 69 => ⟨S1x256, .i32⟩
  | 70 => ⟨S1x256, .i1⟩
  | 71 => ⟨S1x1x256, .i1⟩
  | 72 => ⟨S32x1x256, .i1⟩
  | 73 => ⟨S32x1x256, .i1⟩
  | 74 => ⟨S32x1x256, .i1⟩
  | 75 => ⟨S32x1x256, .i1⟩
  | 76 => ⟨S32x128x256, .i1⟩
  | 77 => ⟨S32x128x256, .i1⟩
  | 78 => ⟨S32x128x256, .i1⟩
  | 79 => ⟨S16, .f32⟩
  | 80 => ⟨S_, .f32⟩
  | 81 => ⟨S16, .f32⟩
  | 82 => ⟨S16, .f32⟩
  | 83 => ⟨S_, .f32⟩
  | 84 => ⟨S16, .f32⟩
  | 85 => ⟨S16, .f32⟩
  | 86 => ⟨S_, .f32⟩
  | 87 => ⟨S16, .f32⟩
  | 88 => ⟨S16, .f32⟩
  | 89 => ⟨S_, .f32⟩
  | 90 => ⟨S16, .f32⟩
  | 91 => ⟨S16, .f32⟩
  | 92 => ⟨S16, .f32⟩
  | 93 => ⟨S16x1x1, .f32⟩
  | 94 => ⟨S16x1x1, .f32⟩
  | 95 => ⟨S_, .i32⟩
  | 96 => ⟨S128x256, .i32⟩
  | 97 => ⟨S128x256, .i32⟩
  | 98 => ⟨S128x256, .f32⟩
  | 99 => ⟨S1x128x256, .f32⟩
  | 100 => ⟨S16x128x256, .f32⟩
  | 101 => ⟨S16x128x256, .f32⟩
  | 102 => ⟨S16x128x256, .f32⟩
  | 103 => ⟨S1x1x32x1x128x256, .i1⟩
  | 104 => ⟨S1x1x1x16x128x256, .f32⟩
  | 105 => ⟨S1x4x32x16x128x256, .f32⟩
  | 106 => ⟨S1x4x32x16x128x256, .f32⟩
  | 107 => ⟨S_, .f32⟩
  | 108 => ⟨S_, .f32⟩
  | 109 => ⟨S1x4x32x16x128x256, .i1⟩
  | 110 => ⟨S1x4x32x16x128x256, .f32⟩
  | 111 => ⟨S1x4x32x16x128x256, .f32⟩
  | 112 => ⟨S_, .f32⟩
  | 113 => ⟨S1x4x32x16x128x256, .f32⟩
  | 114 => ⟨S1x4x32x16x128x1, .f32⟩
  | 115 => ⟨S1x4x32x16x128x256, .f32⟩
  | 116 => ⟨S1x4x32x16x128x256, .f32⟩
  | 117 => ⟨S1x4x32x16x128x256, .f32⟩
  | 118 => ⟨S1x4x32x16x64x128, .f32⟩
  | 119 => ⟨S1x4x32x128x16x64, .f32⟩
  | 120 => ⟨S_, .f32⟩
  | 121 => ⟨S1x4x32x16x128, .f32⟩
  | 122 => ⟨S1x4096x4x16x64, .f32⟩
  | 123 => ⟨S1x4x4096x16x64, .f32⟩
  | 124 => ⟨S1x4x32x128x16x64, .f32⟩
  | 125 => ⟨S1x4096x4x16, .f32⟩
  | 126 => ⟨S1x4x4096x16, .f32⟩
  | 127 => ⟨S1x4x32x128x16, .f32⟩
  | _ => ⟨S16384x3072, .f32⟩

abbrev hbmTy0_1 (i : Nat) : BufTy := match i % 128 with
  | 0 => ⟨S1x4x32x16x128, .f32⟩
  | 1 => ⟨S1x4x32x16x128, .f32⟩
  | 2 => ⟨S1x4x32x16x128x256, .f32⟩
  | 3 => ⟨S1x4x32x16x64x128, .f32⟩
  | 4 => ⟨S1x4x32x16x128x256, .f32⟩
  | 5 => ⟨S1x4x32x16x128x256, .f32⟩
  | 6 => ⟨S1x4x32x16x64x256, .f32⟩
  | 7 => ⟨S1x4x32x256x16x64, .f32⟩
  | 8 => ⟨S1x4x32x16x128x256, .f32⟩
  | 9 => ⟨S_, .f32⟩
  | 10 => ⟨S1x4x32x16x128x256, .f32⟩
  | 11 => ⟨S1x4x32x16x128x256, .f32⟩
  | 12 => ⟨S_, .f32⟩
  | 13 => ⟨S1x4x32x16x128x256, .f32⟩
  | 14 => ⟨S1x4x32x16x128x256, .f32⟩
  | 15 => ⟨S1x4x32x16x256x64, .f32⟩
  | 16 => ⟨S1x4x32x256x16x64, .f32⟩
  | 17 => ⟨S1x4x32x16x128x64, .f32⟩
  | 18 => ⟨S1x4x32x128x16x64, .f32⟩
  | 19 => ⟨S1x4x32x128x16x64, .f32⟩
  | 20 => ⟨S1x4x32x128x16x64, .f32⟩
  | 21 => ⟨S1x4x1x128x16x64, .f32⟩
  | 22 => ⟨S1x4x31x128x16x64, .f32⟩
  | 23 => ⟨S_, .f32⟩
  | 24 => ⟨S1x4x32x128x16x64, .f32⟩
  | 25 => ⟨S1x4x32x128x16x64, .f32⟩
  | 26 => ⟨S1x4x4096x16x64, .f32⟩
  | 27 => ⟨S1x4096x4x16x64, .f32⟩
  | 28 => ⟨S16384x1024, .f32⟩
  | 29 => ⟨S1x4x32x128x16x64, .f32⟩
  | 30 => ⟨S1x4x32x128x16x64, .f32⟩
  | 31 => ⟨S1x4x1x128x16x64, .f32⟩
  | 32 => ⟨S1x4x31x128x16x64, .f32⟩
  | 33 => ⟨S_, .f32⟩
  | 34 => ⟨S1x4x32x128x16x64, .f32⟩
  | 35 => ⟨S1x4x32x128x16x64, .f32⟩
  | 36 => ⟨S1x4x4096x16x64, .f32⟩
  | 37 => ⟨S1x4096x4x16x64, .f32⟩
  | 38 => ⟨S16384x1024, .f32⟩
  | 39 => ⟨S1x4x4096x16x64, .f32⟩
  | 40 => ⟨S1x4096x4x16x64, .f32⟩
  | 41 => ⟨S16384x1024, .f32⟩
  | 42 => ⟨S16384x1024, .bf16⟩
  | 43 => ⟨S16384x1024, .bf16⟩
  | 44 => ⟨S16384x2048, .bf16⟩
  | 45 => ⟨S16384x4096, .bf16⟩
  | 46 => ⟨S16384x1024, .bf16⟩
  | 47 => ⟨S16384x1024, .bf16⟩
  | 48 => ⟨S16384x1024, .bf16⟩
  | 49 => ⟨S16384x3072, .bf16⟩
  | 50 => ⟨S16384x1024, .bf16⟩
  | 51 => ⟨S16384x1024, .bf16⟩
  | 52 => ⟨S16384x1024, .bf16⟩
  | 53 => ⟨S16384x3072, .bf16⟩
  | _ => ⟨S16384x3072, .f32⟩

abbrev hbmTy (i : Nat) : BufTy := match i / 128 with
  | 0 => hbmTy0_0 i
  | 1 => hbmTy0_1 i
  | _ => ⟨S16384x3072, .f32⟩

abbrev bufTy : (tb : Table) → Fin (tcTables nBuf tb) → BufTy
  | .hbm, ⟨i, _⟩ => hbmTy i
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_4 : Ref sig .tc := ⟨.hbm, 55, rfl⟩
abbrev main_v40 : Ref sig .tc := ⟨.hbm, 56, rfl⟩
abbrev main_v41 : Ref sig .tc := ⟨.hbm, 57, rfl⟩
abbrev main_c_5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_6 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_7 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_8 : Ref sig .tc := ⟨.hbm, 80, rfl⟩
abbrev main_v61 : Ref sig .tc := ⟨.hbm, 81, rfl⟩
abbrev main_v62 : Ref sig .tc := ⟨.hbm, 82, rfl⟩
abbrev main_cst_9 : Ref sig .tc := ⟨.hbm, 83, rfl⟩
abbrev main_v63 : Ref sig .tc := ⟨.hbm, 84, rfl⟩
abbrev main_v64 : Ref sig .tc := ⟨.hbm, 85, rfl⟩
abbrev main_cst_10 : Ref sig .tc := ⟨.hbm, 86, rfl⟩
abbrev main_v65 : Ref sig .tc := ⟨.hbm, 87, rfl⟩
abbrev main_v66 : Ref sig .tc := ⟨.hbm, 88, rfl⟩
abbrev main_cst_11 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_c_12 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_13 : Ref sig .tc := ⟨.hbm, 107, rfl⟩
abbrev main_call0_v0 : Ref sig .tc := ⟨.hbm, 108, rfl⟩
abbrev main_v83_1 : Ref sig .tc := ⟨.hbm, 109, rfl⟩
abbrev main_call0_v2 : Ref sig .tc := ⟨.hbm, 110, rfl⟩
abbrev main_v83_0 : Ref sig .tc := ⟨.hbm, 111, rfl⟩
abbrev main_call0_cst : Ref sig .tc := ⟨.hbm, 112, rfl⟩
abbrev main_v83_2 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_14 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_call1_cst : Ref sig .tc := ⟨.hbm, 137, rfl⟩
abbrev main_call1_v0 : Ref sig .tc := ⟨.hbm, 138, rfl⟩
abbrev main_v106 : Ref sig .tc := ⟨.hbm, 139, rfl⟩
abbrev main_cst_15 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_cst_16 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_cst_17 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩

abbrev nD : Nat := 1
abbrev τ : Topo := Topo.v7x

variable {F : FTy → Type} [FloatOps F]
-- ==== QueryWeightGrad.lean ====
abbrev S16384x1024 : Shape := ⟨2, ![16384, 1024]⟩
abbrev S16384x4096 : Shape := ⟨2, ![16384, 4096]⟩
abbrev S8x1024x512 : Shape := ⟨3, ![8, 1024, 512]⟩
abbrev S512x1024 : Shape := ⟨2, ![512, 1024]⟩
abbrev S512x4096 : Shape := ⟨2, ![512, 4096]⟩
abbrev S1024x512 : Shape := ⟨2, ![1024, 512]⟩
abbrev S1x1024x512 : Shape := ⟨3, ![1, 1024, 512]⟩
abbrev S512x512 : Shape := ⟨2, ![512, 512]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S16384x4096, .bf16⟩
  | .hbm, ⟨2, _⟩ => ⟨S16384x1024, .bf16⟩
  | .hbm, ⟨3, _⟩ => ⟨S8x1024x512, .f32⟩
  | .local _ .vmem, ⟨0, _⟩ => ⟨S512x1024, .bf16⟩
  | .local _ .vmem, ⟨1, _⟩ => ⟨S512x1024, .bf16⟩
  | .local _ .vmem, ⟨2, _⟩ => ⟨S512x4096, .bf16⟩
  | .local _ .vmem, ⟨3, _⟩ => ⟨S512x4096, .bf16⟩
  | .local _ .vmem, ⟨4, _⟩ => ⟨S8x1024x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== QueryWeightGradReferenceIdeal.lean ====
abbrev S16384x1024 : Shape := ⟨2, ![16384, 1024]⟩
abbrev S16384x4096 : Shape := ⟨2, ![16384, 4096]⟩
abbrev S_ : Shape := ⟨0, ![]⟩
abbrev S8x1024x512 : Shape := ⟨3, ![8, 1024, 512]⟩
abbrev S1024x8x512 : Shape := ⟨3, ![1024, 8, 512]⟩
abbrev S1024x4096 : Shape := ⟨2, ![1024, 4096]⟩
abbrev S4096x1024 : Shape := ⟨2, ![4096, 1024]⟩

abbrev nBuf : Space → Nat
  | .hbm => 12
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x4096, .bf16⟩
  | .hbm, ⟨2, _⟩ => ⟨S_, .f32⟩
  | .hbm, ⟨3, _⟩ => ⟨S8x1024x512, .f32⟩
  | .hbm, ⟨4, _⟩ => ⟨S1024x8x512, .f32⟩
  | .hbm, ⟨5, _⟩ => ⟨S1024x4096, .f32⟩
  | .hbm, ⟨6, _⟩ => ⟨S16384x4096, .f32⟩
  | .hbm, ⟨7, _⟩ => ⟨S16384x4096, .f32⟩
  | .hbm, ⟨8, _⟩ => ⟨S4096x1024, .f32⟩
  | .hbm, ⟨9, _⟩ => ⟨S1024x4096, .f32⟩
  | .hbm, ⟨10, _⟩ => ⟨S1024x8x512, .f32⟩
  | .hbm, ⟨11, _⟩ => ⟨S8x1024x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== InputWeightGrad.lean ====
abbrev S16384x1024 : Shape := ⟨2, ![16384, 1024]⟩
abbrev S16384x3072 : Shape := ⟨2, ![16384, 3072]⟩
abbrev S8x1024x384 : Shape := ⟨3, ![8, 1024, 384]⟩
abbrev S1024x1024 : Shape := ⟨2, ![1024, 1024]⟩
abbrev S1024x3072 : Shape := ⟨2, ![1024, 3072]⟩
abbrev S1x1024x384 : Shape := ⟨3, ![1, 1024, 384]⟩
abbrev S1024x384 : Shape := ⟨2, ![1024, 384]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S16384x3072, .bf16⟩
  | .hbm, ⟨2, _⟩ => ⟨S16384x1024, .bf16⟩
  | .hbm, ⟨3, _⟩ => ⟨S8x1024x384, .f32⟩
  | .local _ .vmem, ⟨0, _⟩ => ⟨S1024x1024, .bf16⟩
  | .local _ .vmem, ⟨1, _⟩ => ⟨S1024x1024, .bf16⟩
  | .local _ .vmem, ⟨2, _⟩ => ⟨S1024x3072, .bf16⟩
  | .local _ .vmem, ⟨3, _⟩ => ⟨S1024x3072, .bf16⟩
  | .local _ .vmem, ⟨4, _⟩ => ⟨S8x1024x384, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== InputWeightGradReferenceIdeal.lean ====
abbrev S16384x1024 : Shape := ⟨2, ![16384, 1024]⟩
abbrev S16384x3072 : Shape := ⟨2, ![16384, 3072]⟩
abbrev S_ : Shape := ⟨0, ![]⟩
abbrev S8x1024x384 : Shape := ⟨3, ![8, 1024, 384]⟩
abbrev S1024x8x384 : Shape := ⟨3, ![1024, 8, 384]⟩
abbrev S1024x3072 : Shape := ⟨2, ![1024, 3072]⟩
abbrev S3072x1024 : Shape := ⟨2, ![3072, 1024]⟩

abbrev nBuf : Space → Nat
  | .hbm => 12
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x3072, .bf16⟩
  | .hbm, ⟨2, _⟩ => ⟨S_, .f32⟩
  | .hbm, ⟨3, _⟩ => ⟨S8x1024x384, .f32⟩
  | .hbm, ⟨4, _⟩ => ⟨S1024x8x384, .f32⟩
  | .hbm, ⟨5, _⟩ => ⟨S1024x3072, .f32⟩
  | .hbm, ⟨6, _⟩ => ⟨S16384x3072, .f32⟩
  | .hbm, ⟨7, _⟩ => ⟨S16384x3072, .f32⟩
  | .hbm, ⟨8, _⟩ => ⟨S3072x1024, .f32⟩
  | .hbm, ⟨9, _⟩ => ⟨S1024x3072, .f32⟩
  | .hbm, ⟨10, _⟩ => ⟨S1024x8x384, .f32⟩
  | .hbm, ⟨11, _⟩ => ⟨S8x1024x384, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OutputWeightGrad.lean ====
abbrev S16384x1024 : Shape := ⟨2, ![16384, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== OutputWeightGradReferenceIdeal.lean ====
abbrev S16384x1024 : Shape := ⟨2, ![16384, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S_, .f32⟩
  | .hbm, ⟨3, _⟩ => ⟨S1x1024x1024, .f32⟩
  | .hbm, ⟨4, _⟩ => ⟨S16384x1024, .f32⟩
  | .hbm, ⟨5, _⟩ => ⟨S1024x1024, .f32⟩
  | .hbm, ⟨6, _⟩ => ⟨S16384x1024, .f32⟩
  | .hbm, ⟨7, _⟩ => ⟨S16384x1024, .f32⟩
  | .hbm, ⟨8, _⟩ => ⟨S1024x1024, .f32⟩
  | .hbm, ⟨9, _⟩ => ⟨S1024x1024, .f32⟩
  | .hbm, ⟨10, _⟩ => ⟨S1x1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== ConvWeightGrad.lean ====
abbrev S16384x1024 : Shape := ⟨2, ![16384, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ConvWeightGradReferenceIdeal.lean ====
abbrev S16384x1024 : Shape := ⟨2, ![16384, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S_, .f32⟩
  | .hbm, ⟨3, _⟩ => ⟨S1x1024x1024, .f32⟩
  | .hbm, ⟨4, _⟩ => ⟨S16384x1024, .f32⟩
  | .hbm, ⟨5, _⟩ => ⟨S1024x1024, .f32⟩
  | .hbm, ⟨6, _⟩ => ⟨S16384x1024, .f32⟩
  | .hbm, ⟨7, _⟩ => ⟨S16384x1024, .f32⟩
  | .hbm, ⟨8, _⟩ => ⟨S1024x1024, .f32⟩
  | .hbm, ⟨9, _⟩ => ⟨S1024x1024, .f32⟩
  | .hbm, ⟨10, _⟩ => ⟨S1x1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== PairWeightGrad.lean ====
abbrev S16384x1024 : Shape := ⟨2, ![16384, 1024]⟩
abbrev S16384x3072 : Shape := ⟨2, ![16384, 3072]⟩
abbrev S8x1024x768 : Shape := ⟨3, ![8, 1024, 768]⟩
abbrev S1024x1024 : Shape := ⟨2, ![1024, 1024]⟩
abbrev S1024x3072 : Shape := ⟨2, ![1024, 3072]⟩
abbrev S4x1024x768 : Shape := ⟨3, ![4, 1024, 768]⟩
abbrev S1x1024x768 : Shape := ⟨3, ![1, 1024, 768]⟩
abbrev S1024x768 : Shape := ⟨2, ![1024, 768]⟩

abbrev nBuf : Space → Nat
  | .hbm => 6
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x3072, .bf16⟩
  | .hbm, ⟨2, _⟩ => ⟨S16384x3072, .bf16⟩
  | .hbm, ⟨3, _⟩ => ⟨S16384x1024, .bf16⟩
  | .hbm, ⟨4, _⟩ => ⟨S8x1024x768, .f32⟩
  | .hbm, ⟨5, _⟩ => ⟨S8x1024x768, .f32⟩
  | .local _ .vmem, ⟨0, _⟩ => ⟨S1024x1024, .bf16⟩
  | .local _ .vmem, ⟨1, _⟩ => ⟨S1024x1024, .bf16⟩
  | .local _ .vmem, ⟨2, _⟩ => ⟨S1024x3072, .bf16⟩
  | .local _ .vmem, ⟨3, _⟩ => ⟨S1024x3072, .bf16⟩
  | .local _ .vmem, ⟨4, _⟩ => ⟨S4x1024x768, .f32⟩
  | .local _ .vmem, ⟨5, _⟩ => ⟨S1024x1024, .bf16⟩
  | .local _ .vmem, ⟨6, _⟩ => ⟨S1024x1024, .bf16⟩
  | .local _ .vmem, ⟨7, _⟩ => ⟨S1024x3072, .bf16⟩
  | .local _ .vmem, ⟨8, _⟩ => ⟨S1024x3072, .bf16⟩
  | .local _ .vmem, ⟨9, _⟩ => ⟨S4x1024x768, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x3072 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4x1024x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]
-- ==== PairWeightGradReferenceIdeal.lean ====
abbrev S16384x1024 : Shape := ⟨2, ![16384, 1024]⟩
abbrev S16384x3072 : Shape := ⟨2, ![16384, 3072]⟩
abbrev S_ : Shape := ⟨0, ![]⟩
abbrev S8x1024x768 : Shape := ⟨3, ![8, 1024, 768]⟩
abbrev S1024x8x768 : Shape := ⟨3, ![1024, 8, 768]⟩
abbrev S1024x6144 : Shape := ⟨2, ![1024, 6144]⟩
abbrev S16384x6144 : Shape := ⟨2, ![16384, 6144]⟩
abbrev S6144x1024 : Shape := ⟨2, ![6144, 1024]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x3072, .bf16⟩
  | .hbm, ⟨2, _⟩ => ⟨S16384x3072, .bf16⟩
  | .hbm, ⟨3, _⟩ => ⟨S_, .f32⟩
  | .hbm, ⟨4, _⟩ => ⟨S8x1024x768, .f32⟩
  | .hbm, ⟨5, _⟩ => ⟨S1024x8x768, .f32⟩
  | .hbm, ⟨6, _⟩ => ⟨S1024x6144, .f32⟩
  | .hbm, ⟨7, _⟩ => ⟨S16384x6144, .f32⟩
  | .hbm, ⟨8, _⟩ => ⟨S16384x3072, .f32⟩
  | .hbm, ⟨9, _⟩ => ⟨S16384x3072, .f32⟩
  | .hbm, ⟨10, _⟩ => ⟨S16384x3072, .f32⟩
  | .hbm, ⟨11, _⟩ => ⟨S16384x3072, .f32⟩
  | .hbm, ⟨12, _⟩ => ⟨S_, .f32⟩
  | .hbm, ⟨13, _⟩ => ⟨S16384x6144, .f32⟩
  | .hbm, ⟨14, _⟩ => ⟨S_, .f32⟩
  | .hbm, ⟨15, _⟩ => ⟨S16384x6144, .f32⟩
  | .hbm, ⟨16, _⟩ => ⟨S16384x6144, .f32⟩
  | .hbm, ⟨17, _⟩ => ⟨S6144x1024, .f32⟩
  | .hbm, ⟨18, _⟩ => ⟨S1024x6144, .f32⟩
  | .hbm, ⟨19, _⟩ => ⟨S1024x8x768, .f32⟩
  | .hbm, ⟨20, _⟩ => ⟨S8x1024x768, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== InputGrad.lean ====
abbrev S16384x1024 : Shape := ⟨2, ![16384, 1024]⟩
abbrev S16384x3072 : Shape := ⟨2, ![16384, 3072]⟩
abbrev S8x1024x384 : Shape := ⟨3, ![8, 1024, 384]⟩
abbrev S512x1024 : Shape := ⟨2, ![512, 1024]⟩
abbrev S512x3072 : Shape := ⟨2, ![512, 3072]⟩
abbrev S512x384 : Shape := ⟨2, ![512, 384]⟩
abbrev S1x1024x384 : Shape := ⟨3, ![1, 1024, 384]⟩
abbrev S1024x384 : Shape := ⟨2, ![1024, 384]⟩

abbrev nBuf : Space → Nat
  | .hbm => 6
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x3072, .bf16⟩
  | .hbm, ⟨2, _⟩ => ⟨S8x1024x384, .f32⟩
  | .hbm, ⟨3, _⟩ => ⟨S8x1024x384, .bf16⟩
  | .hbm, ⟨4, _⟩ => ⟨S16384x1024, .f32⟩
  | .hbm, ⟨5, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x3072, .bf16⟩
  | .local _ .vmem, ⟨3, _⟩ => ⟨S512x3072, .bf16⟩
  | .local _ .vmem, ⟨4, _⟩ => ⟨S8x1024x384, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x3072, .bf16⟩
  | .local _ .vmem, ⟨10, _⟩ => ⟨S512x3072, .bf16⟩
  | .local _ .vmem, ⟨11, _⟩ => ⟨S8x1024x384, .bf16⟩
  | .local _ .vmem, ⟨12, _⟩ => ⟨S512x1024, .f32⟩
  | .local _ .vmem, ⟨13, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x3072 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8x1024x384 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== InputGradReferenceIdeal.lean ====
abbrev S16384x1024 : Shape := ⟨2, ![16384, 1024]⟩
abbrev S16384x3072 : Shape := ⟨2, ![16384, 3072]⟩
abbrev S8x1024x384 : Shape := ⟨3, ![8, 1024, 384]⟩
abbrev S1024x8x384 : Shape := ⟨3, ![1024, 8, 384]⟩
abbrev S1024x3072 : Shape := ⟨2, ![1024, 3072]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x3072, .bf16⟩
  | .hbm, ⟨2, _⟩ => ⟨S8x1024x384, .f32⟩
  | .hbm, ⟨3, _⟩ => ⟨S1024x8x384, .f32⟩
  | .hbm, ⟨4, _⟩ => ⟨S1024x3072, .f32⟩
  | .hbm, ⟨5, _⟩ => ⟨S16384x3072, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S16384x3072, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== InputProjection.lean ====
abbrev S16384x1024 : Shape := ⟨2, ![16384, 1024]⟩
abbrev S8x1024x384 : Shape := ⟨3, ![8, 1024, 384]⟩
abbrev S1x3072 : Shape := ⟨2, ![1, 3072]⟩
abbrev S16384x3072 : Shape := ⟨2, ![16384, 3072]⟩
abbrev S512x1024 : Shape := ⟨2, ![512, 1024]⟩
abbrev S512x3072 : Shape := ⟨2, ![512, 3072]⟩
abbrev S1x1024x384 : Shape := ⟨3, ![1, 1024, 384]⟩
abbrev S1024x384 : Shape := ⟨2, ![1024, 384]⟩
abbrev S512x384 : Shape := ⟨2, ![512, 384]⟩
abbrev S1x384 : Shape := ⟨2, ![1, 384]⟩

abbrev nBuf : Space → Nat
  | .hbm => 7
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S8x1024x384, .f32⟩
  | .hbm, ⟨2, _⟩ => ⟨S1x3072, .f32⟩
  | .hbm, ⟨3, _⟩ => ⟨S8x1024x384, .bf16⟩
  | .hbm, ⟨4, _⟩ => ⟨S16384x3072, .f32⟩
  | .hbm, ⟨5, _⟩ => ⟨S16384x1024, .f32⟩
  | .hbm, ⟨6, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S8x1024x384, .bf16⟩
  | .local _ .vmem, ⟨3, _⟩ => ⟨S1x3072, .f32⟩
  | .local _ .vmem, ⟨4, _⟩ => ⟨S512x3072, .f32⟩
  | .local _ .vmem, ⟨5, _⟩ => ⟨S512x3072, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InputProjectionReferenceIdeal.lean ====
abbrev S16384x1024 : Shape := ⟨2, ![16384, 1024]⟩
abbrev S8x1024x384 : Shape := ⟨3, ![8, 1024, 384]⟩
abbrev S1x3072 : Shape := ⟨2, ![1, 3072]⟩
abbrev S1024x8x384 : Shape := ⟨3, ![1024, 8, 384]⟩
abbrev S1024x3072 : Shape := ⟨2, ![1024, 3072]⟩
abbrev S16384x3072 : Shape := ⟨2, ![16384, 3072]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x1024x384, .f32⟩
  | .hbm, ⟨2, _⟩ => ⟨S1x3072, .f32⟩
  | .hbm, ⟨3, _⟩ => ⟨S1024x8x384, .f32⟩
  | .hbm, ⟨4, _⟩ => ⟨S1024x3072, .f32⟩
  | .hbm, ⟨5, _⟩ => ⟨S16384x3072, .f32⟩
  | .hbm, ⟨6, _⟩ => ⟨S16384x3072, .f32⟩
  | .hbm, ⟨7, _⟩ => ⟨S16384x3072, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== PairProjection.lean ====
abbrev S16384x1024 : Shape := ⟨2, ![16384, 1024]⟩
abbrev S8x1024x768 : Shape := ⟨3, ![8, 1024, 768]⟩
abbrev S16384x3072 : Shape := ⟨2, ![16384, 3072]⟩
abbrev S512x1024 : Shape := ⟨2, ![512, 1024]⟩
abbrev S512x3072 : Shape := ⟨2, ![512, 3072]⟩
abbrev S1x1024x768 : Shape := ⟨3, ![1, 1024, 768]⟩
abbrev S1024x768 : Shape := ⟨2, ![1024, 768]⟩
abbrev S512x768 : Shape := ⟨2, ![512, 768]⟩

abbrev nBuf : Space → Nat
  | .hbm => 6
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S8x1024x768, .f32⟩
  | .hbm, ⟨2, _⟩ => ⟨S16384x1024, .bf16⟩
  | .hbm, ⟨3, _⟩ => ⟨S8x1024x768, .bf16⟩
  | .hbm, ⟨4, _⟩ => ⟨S16384x3072, .bf16⟩
  | .hbm, ⟨5, _⟩ => ⟨S16384x3072, .bf16⟩
  | .local _ .vmem, ⟨0, _⟩ => ⟨S512x1024, .bf16⟩
  | .local _ .vmem, ⟨1, _⟩ => ⟨S512x1024, .bf16⟩
  | .local _ .vmem, ⟨2, _⟩ => ⟨S8x1024x768, .bf16⟩
  | .local _ .vmem, ⟨3, _⟩ => ⟨S512x3072, .bf16⟩
  | .local _ .vmem, ⟨4, _⟩ => ⟨S512x3072, .bf16⟩
  | .local _ .vmem, ⟨5, _⟩ => ⟨S512x3072, .bf16⟩
  | .local _ .vmem, ⟨6, _⟩ => ⟨S512x3072, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PairProjectionReferenceIdeal.lean ====
abbrev S16384x1024 : Shape := ⟨2, ![16384, 1024]⟩
abbrev S8x1024x768 : Shape := ⟨3, ![8, 1024, 768]⟩
abbrev S1024x8x768 : Shape := ⟨3, ![1024, 8, 768]⟩
abbrev S1024x6144 : Shape := ⟨2, ![1024, 6144]⟩
abbrev S16384x6144 : Shape := ⟨2, ![16384, 6144]⟩
abbrev S16384x3072 : Shape := ⟨2, ![16384, 3072]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x1024x768, .f32⟩
  | .hbm, ⟨2, _⟩ => ⟨S1024x8x768, .f32⟩
  | .hbm, ⟨3, _⟩ => ⟨S1024x6144, .f32⟩
  | .hbm, ⟨4, _⟩ => ⟨S16384x6144, .f32⟩
  | .hbm, ⟨5, _⟩ => ⟨S16384x3072, .f32⟩
  | .hbm, ⟨6, _⟩ => ⟨S16384x3072, .bf16⟩
  | .hbm, ⟨7, _⟩ => ⟨S16384x3072, .f32⟩
  | .hbm, ⟨8, _⟩ => ⟨S16384x3072, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== QueryProjection.lean ====
abbrev S16384x1024 : Shape := ⟨2, ![16384, 1024]⟩
abbrev S8x1024x512 : Shape := ⟨3, ![8, 1024, 512]⟩
abbrev S16384x3072 : Shape := ⟨2, ![16384, 3072]⟩
abbrev S512x1024 : Shape := ⟨2, ![512, 1024]⟩
abbrev S512x3072 : Shape := ⟨2, ![512, 3072]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 6
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S8x1024x512, .f32⟩
  | .hbm, ⟨2, _⟩ => ⟨S16384x1024, .bf16⟩
  | .hbm, ⟨3, _⟩ => ⟨S8x1024x512, .bf16⟩
  | .hbm, ⟨4, _⟩ => ⟨S16384x3072, .bf16⟩
  | .hbm, ⟨5, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S8x1024x512, .bf16⟩
  | .local _ .vmem, ⟨3, _⟩ => ⟨S512x3072, .bf16⟩
  | .local _ .vmem, ⟨4, _⟩ => ⟨S512x3072, .bf16⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== QueryProjectionReferenceIdeal.lean ====
abbrev S16384x1024 : Shape := ⟨2, ![16384, 1024]⟩
abbrev S8x1024x512 : Shape := ⟨3, ![8, 1024, 512]⟩
abbrev S1024x8x512 : Shape := ⟨3, ![1024, 8, 512]⟩
abbrev S1024x4096 : Shape := ⟨2, ![1024, 4096]⟩
abbrev S16384x4096 : Shape := ⟨2, ![16384, 4096]⟩
abbrev S16384x3072 : Shape := ⟨2, ![16384, 3072]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x1024x512, .f32⟩
  | .hbm, ⟨2, _⟩ => ⟨S1024x8x512, .f32⟩
  | .hbm, ⟨3, _⟩ => ⟨S1024x4096, .f32⟩
  | .hbm, ⟨4, _⟩ => ⟨S16384x4096, .f32⟩
  | .hbm, ⟨5, _⟩ => ⟨S16384x3072, .f32⟩
  | .hbm, ⟨6, _⟩ => ⟨S_, .f32⟩
  | .hbm, ⟨7, _⟩ => ⟨S16384x3072, .f32⟩
  | .hbm, ⟨8, _⟩ => ⟨S16384x3072, .f32⟩
  | .hbm, ⟨9, _⟩ => ⟨S16384x3072, .bf16⟩
  | .hbm, ⟨10, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== ResidualGrad.lean ====
abbrev S16384x1024 : Shape := ⟨2, ![16384, 1024]⟩
abbrev S16384x4096 : Shape := ⟨2, ![16384, 4096]⟩
abbrev S16384x3072 : Shape := ⟨2, ![16384, 3072]⟩
abbrev S8x1024x512 : Shape := ⟨3, ![8, 1024, 512]⟩
abbrev S8x1024x768 : Shape := ⟨3, ![8, 1024, 768]⟩
abbrev S16384x1 : Shape := ⟨2, ![16384, 1]⟩
abbrev S1x1024 : Shape := ⟨2, ![1, 1024]⟩
abbrev S8x1024 : Shape := ⟨2, ![8, 1024]⟩
abbrev S256x1024 : Shape := ⟨2, ![256, 1024]⟩
abbrev S256x4096 : Shape := ⟨2, ![256, 4096]⟩
abbrev S256x3072 : Shape := ⟨2, ![256, 3072]⟩
abbrev S256x1 : Shape := ⟨2, ![256, 1]⟩
abbrev S_ : Shape := ⟨0, ![]⟩
abbrev S256x512 : Shape := ⟨2, ![256, 512]⟩
abbrev S1x1024x512 : Shape := ⟨3, ![1, 1024, 512]⟩
abbrev S1024x512 : Shape := ⟨2, ![1024, 512]⟩
abbrev S256x768 : Shape := ⟨2, ![256, 768]⟩
abbrev S1x1024x768 : Shape := ⟨3, ![1, 1024, 768]⟩
abbrev S1024x768 : Shape := ⟨2, ![1024, 768]⟩
abbrev S32x8x1024 : Shape := ⟨3, ![32, 8, 1024]⟩
abbrev S256 : Shape := ⟨1, ![256]⟩
abbrev S1024 : Shape := ⟨1, ![1024]⟩

abbrev nBuf : Space → Nat
  | .hbm => 16
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16384x4096, .bf16⟩
  | .hbm, ⟨2, _⟩ => ⟨S16384x3072, .bf16⟩
  | .hbm, ⟨3, _⟩ => ⟨S16384x3072, .bf16⟩
  | .hbm, ⟨4, _⟩ => ⟨S8x1024x512, .f32⟩
  | .hbm, ⟨5, _⟩ => ⟨S8x1024x768, .f32⟩
  | .hbm, ⟨6, _⟩ => ⟨S16384x1024, .f32⟩
  | .hbm, ⟨7, _⟩ => ⟨S16384x1, .f32⟩
  | .hbm, ⟨8, _⟩ => ⟨S1x1024, .f32⟩
  | .hbm, ⟨9, _⟩ => ⟨S8x1024x512, .bf16⟩
  | .hbm, ⟨10, _⟩ => ⟨S8x1024x768, .bf16⟩
  | .hbm, ⟨11, _⟩ => ⟨S16384x1024, .f32⟩
  | .hbm, ⟨12, _⟩ => ⟨S16384x1024, .bf16⟩
  | .hbm, ⟨13, _⟩ => ⟨S8x1024, .f32⟩
  | .hbm, ⟨14, _⟩ => ⟨S8x1024, .f32⟩
  | .hbm, ⟨15, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x4096, .bf16⟩
  | .local _ .vmem, ⟨3, _⟩ => ⟨S256x4096, .bf16⟩
  | .local _ .vmem, ⟨4, _⟩ => ⟨S256x3072, .bf16⟩
  | .local _ .vmem, ⟨5, _⟩ => ⟨S256x3072, .bf16⟩
  | .local _ .vmem, ⟨6, _⟩ => ⟨S256x3072, .bf16⟩
  | .local _ .vmem, ⟨7, _⟩ => ⟨S256x3072, .bf16⟩
  | .local _ .vmem, ⟨8, _⟩ => ⟨S256x1024, .f32⟩
  | .local _ .vmem, ⟨9, _⟩ => ⟨S256x1024, .f32⟩
  | .local _ .vmem, ⟨10, _⟩ => ⟨S256x1, .f32⟩
  | .local _ .vmem, ⟨11, _⟩ => ⟨S256x1, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S8x1024, .f32⟩
  | .local _ .vmem, ⟨18, _⟩ => ⟨S8x1024, .f32⟩
  | .local _ .vmem, ⟨19, _⟩ => ⟨S8x1024, .f32⟩
  | .local _ .vmem, ⟨20, _⟩ => ⟨S8x1024x512, .bf16⟩
  | .local _ .vmem, ⟨21, _⟩ => ⟨S8x1024x768, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev main_v2_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ResidualGradReferenceIdeal.lean ====
abbrev S16384x1024 : Shape := ⟨2, ![16384, 1024]⟩
abbrev S16384x4096 : Shape := ⟨2, ![16384, 4096]⟩
abbrev S16384x3072 : Shape := ⟨2, ![16384, 3072]⟩
abbrev S8x1024x512 : Shape := ⟨3, ![8, 1024, 512]⟩
abbrev S8x1024x768 : Shape := ⟨3, ![8, 1024, 768]⟩
abbrev S16384x1 : Shape := ⟨2, ![16384, 1]⟩
abbrev S1x1024 : Shape := ⟨2, ![1, 1024]⟩
abbrev S1024x8x512 : Shape := ⟨3, ![1024, 8, 512]⟩
abbrev S1024x4096 : Shape := ⟨2, ![1024, 4096]⟩
abbrev S1024x8x768 : Shape := ⟨3, ![1024, 8, 768]⟩
abbrev S1024x6144 : Shape := ⟨2, ![1024, 6144]⟩
abbrev S16384x6144 : Shape := ⟨2, ![16384, 6144]⟩
abbrev S_ : Shape := ⟨0, ![]⟩
abbrev S1024 : Shape := ⟨1, ![1024]⟩
abbrev S16384 : Shape := ⟨1, ![16384]⟩
abbrev S8x1024 : Shape := ⟨2, ![8, 1024]⟩

abbrev nBuf : Space → Nat
  | .hbm => 77
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x4096, .bf16⟩
  | .hbm, ⟨2, _⟩ => ⟨S16384x3072, .bf16⟩
  | .hbm, ⟨3, _⟩ => ⟨S16384x3072, .bf16⟩
  | .hbm, ⟨4, _⟩ => ⟨S8x1024x512, .f32⟩
  | .hbm, ⟨5, _⟩ => ⟨S8x1024x768, .f32⟩
  | .hbm, ⟨6, _⟩ => ⟨S16384x1024, .f32⟩
  | .hbm, ⟨7, _⟩ => ⟨S16384x1, .f32⟩
  | .hbm, ⟨8, _⟩ => ⟨S1x1024, .f32⟩
  | .hbm, ⟨9, _⟩ => ⟨S1024x8x512, .f32⟩
  | .hbm, ⟨10, _⟩ => ⟨S1024x4096, .f32⟩
  | .hbm, ⟨11, _⟩ => ⟨S1024x8x768, .f32⟩
  | .hbm, ⟨12, _⟩ => ⟨S1024x6144, .f32⟩
  | .hbm, ⟨13, _⟩ => ⟨S16384x6144, .f32⟩
  | .hbm, ⟨14, _⟩ => ⟨S16384x4096, .f32⟩
  | .hbm, ⟨15, _⟩ => ⟨S16384x3072, .f32⟩
  | .hbm, ⟨16, _⟩ => ⟨S16384x3072, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S16384x4096, .f32⟩
  | .hbm, ⟨21, _⟩ => ⟨S16384x3072, .f32⟩
  | .hbm, ⟨22, _⟩ => ⟨S16384x3072, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x6144, .f32⟩
  | .hbm, ⟨28, _⟩ => ⟨S_, .f32⟩
  | .hbm, ⟨29, _⟩ => ⟨S16384x6144, .f32⟩
  | .hbm, ⟨30, _⟩ => ⟨S16384x6144, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S1x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S16384x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S_, .f32⟩
  | .hbm, ⟨60, _⟩ => ⟨S16384, .f32⟩
  | .hbm, ⟨61, _⟩ => ⟨S16384x1, .f32⟩
  | .hbm, ⟨62, _⟩ => ⟨S_, .f32⟩
  | .hbm, ⟨63, _⟩ => ⟨S16384x1, .f32⟩
  | .hbm, ⟨64, _⟩ => ⟨S16384x1, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .bf16⟩
  | .hbm, ⟨71, _⟩ => ⟨S8x1024, .f32⟩
  | .hbm, ⟨72, _⟩ => ⟨S8x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S8x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== LossGrad.lean ====
abbrev S16384x1024 : Shape := ⟨2, ![16384, 1024]⟩
abbrev S1024x1024 : Shape := ⟨2, ![1024, 1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S64x8x1024 : Shape := ⟨3, ![64, 8, 1024]⟩
abbrev S1024 : Shape := ⟨1, ![1024]⟩
abbrev S1x8x1024 : Shape := ⟨3, ![1, 8, 1024]⟩
abbrev S1 : Shape := ⟨1, ![1]⟩
abbrev S1x1x1 : Shape := ⟨3, ![1, 1, 1]⟩
abbrev S1x1 : Shape := ⟨2, ![1, 1]⟩

abbrev nBuf : Space → Nat
  | .hbm => 16
  | .vmem => 20
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S1x1024, .f32⟩
  | .hbm, ⟨3, _⟩ => ⟨S16384x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S16384x1024, .f32⟩
  | .hbm, ⟨9, _⟩ => ⟨S1024x1024, .bf16⟩
  | .hbm, ⟨10, _⟩ => ⟨S16384x1024, .f32⟩
  | .hbm, ⟨11, _⟩ => ⟨S16384x1024, .bf16⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S8x1024, .f32⟩
  | .local _ .vmem, ⟨17, _⟩ => ⟨S8x1024, .f32⟩
  | .local _ .vmem, ⟨18, _⟩ => ⟨S8x1024, .f32⟩
  | .local _ .vmem, ⟨19, _⟩ => ⟨S8x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v1_4 : Ref sig .tc := ⟨.hbm, 14, rfl⟩
abbrev main_v1_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem13_0 : DmaSem sig := 18
abbrev cc0_sem14_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== LossGradReferenceIdeal.lean ====
abbrev S16384x1024 : Shape := ⟨2, ![16384, 1024]⟩
abbrev S1024x1024 : Shape := ⟨2, ![1024, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩
abbrev S8x1024 : Shape := ⟨2, ![8, 1024]⟩

abbrev nBuf : Space → Nat
  | .hbm => 106
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S1x1024, .f32⟩
  | .hbm, ⟨3, _⟩ => ⟨S16384x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x1, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384, .f32⟩
  | .hbm, ⟨53, _⟩ => ⟨S_, .f32⟩
  | .hbm, ⟨54, _⟩ => ⟨S16384, .f32⟩
  | .hbm, ⟨55, _⟩ => ⟨S16384, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S16384, .f32⟩
  | .hbm, ⟨64, _⟩ => ⟨S_, .f32⟩
  | .hbm, ⟨65, _⟩ => ⟨S16384, .f32⟩
  | .hbm, ⟨66, _⟩ => ⟨S16384, .f32⟩
  | .hbm, ⟨67, _⟩ => ⟨S16384x1024, .f32⟩
  | .hbm, ⟨68, _⟩ => ⟨S16384x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S16384x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S16384x1024, .f32⟩
  | .hbm, ⟨77, _⟩ => ⟨S16384x1024, .f32⟩
  | .hbm, ⟨78, _⟩ => ⟨S_, .f32⟩
  | .hbm, ⟨79, _⟩ => ⟨S16384, .f32⟩
  | .hbm, ⟨80, _⟩ => ⟨S16384x1, .f32⟩
  | .hbm, ⟨81, _⟩ => ⟨S_, .f32⟩
  | .hbm, ⟨82, _⟩ => ⟨S16384x1, .f32⟩
  | .hbm, ⟨83, _⟩ => ⟨S16384x1, .f32⟩
  | .hbm, ⟨84, _⟩ => ⟨S16384x1024, .f32⟩
  | .hbm, ⟨85, _⟩ => ⟨S16384x1024, .f32⟩
  | .hbm, ⟨86, _⟩ => ⟨S16384x1024, .f32⟩
  | .hbm, ⟨87, _⟩ => ⟨S_, .f32⟩
  | .hbm, ⟨88, _⟩ => ⟨S16384, .f32⟩
  | .hbm, ⟨89, _⟩ => ⟨S16384x1, .f32⟩
  | .hbm, ⟨90, _⟩ => ⟨S_, .f32⟩
  | .hbm, ⟨91, _⟩ => ⟨S16384x1, .f32⟩
  | .hbm, ⟨92, _⟩ => ⟨S16384x1, .f32⟩
  | .hbm, ⟨93, _⟩ => ⟨S16384x1024, .f32⟩
  | .hbm, ⟨94, _⟩ => ⟨S16384x1024, .f32⟩
  | .hbm, ⟨95, _⟩ => ⟨S16384x1024, .f32⟩
  | .hbm, ⟨96, _⟩ => ⟨S16384x1024, .f32⟩
  | .hbm, ⟨97, _⟩ => ⟨S16384x1024, .f32⟩
  | .hbm, ⟨98, _⟩ => ⟨S16384x1024, .bf16⟩
  | .hbm, ⟨99, _⟩ => ⟨S8x1024, .f32⟩
  | .hbm, ⟨100, _⟩ => ⟨S8x1024, .f32⟩
  | .hbm, ⟨101, _⟩ => ⟨S8x1024, .f32⟩
  | .hbm, ⟨102, _⟩ => ⟨S_, .f32⟩
  | .hbm, ⟨103, _⟩ => ⟨S1024, .f32⟩
  | .hbm, ⟨104, _⟩ => ⟨S1x1024, .f32⟩
  | .hbm, ⟨105, _⟩ => ⟨S8x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_cst_10 : Ref sig .tc := ⟨.hbm, 60, rfl⟩
abbrev main_cst_11 : Ref sig .tc := ⟨.hbm, 61, rfl⟩
abbrev main_v40 : Ref sig .tc := ⟨.hbm, 62, rfl⟩
abbrev main_v41 : Ref sig .tc := ⟨.hbm, 63, rfl⟩
abbrev main_cst_12 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_13 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_14 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_15 : Ref sig .tc := ⟨.hbm, 78, rfl⟩
abbrev main_v53 : Ref sig .tc := ⟨.hbm, 79, rfl⟩
abbrev main_v54 : Ref sig .tc := ⟨.hbm, 80, rfl⟩
abbrev main_cst_16 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_17 : Ref sig .tc := ⟨.hbm, 87, rfl⟩
abbrev main_v60 : Ref sig .tc := ⟨.hbm, 88, rfl⟩
abbrev main_v61 : Ref sig .tc := ⟨.hbm, 89, rfl⟩
abbrev main_cst_18 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_19 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩

abbrev nD : Nat := 1
abbrev τ : Topo := Topo.v7x

variable {F : FTy → Type} [FloatOps F]
-- ==== GateGrad.lean ====
abbrev S16384x1024 : Shape := ⟨2, ![16384, 1024]⟩
abbrev S1024x1024 : Shape := ⟨2, ![1024, 1024]⟩
abbrev S1024x128 : Shape := ⟨2, ![1024, 128]⟩
abbrev S_ : Shape := ⟨0, ![]⟩
abbrev S16384x4096 : Shape := ⟨2, ![16384, 4096]⟩
abbrev S16384x128 : Shape := ⟨2, ![16384, 128]⟩
abbrev S512x1024 : Shape := ⟨2, ![512, 1024]⟩
abbrev S512x128 : Shape := ⟨2, ![512, 128]⟩

abbrev nBuf : Space → Nat
  | .hbm => 20
  | .vmem => 14
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S16384x1024, .f32⟩
  | .hbm, ⟨4, _⟩ => ⟨S1024x1024, .bf16⟩
  | .hbm, ⟨5, _⟩ => ⟨S1024x128, .i32⟩
  | .hbm, ⟨6, _⟩ => ⟨S_, .i32⟩
  | .hbm, ⟨7, _⟩ => ⟨S1024x128, .i32⟩
  | .hbm, ⟨8, _⟩ => ⟨S1024x128, .i32⟩
  | .hbm, ⟨9, _⟩ => ⟨S1024x128, .i32⟩
  | .hbm, ⟨10, _⟩ => ⟨S1024x128, .i1⟩
  | .hbm, ⟨11, _⟩ => ⟨S_, .f32⟩
  | .hbm, ⟨12, _⟩ => ⟨S_, .f32⟩
  | .hbm, ⟨13, _⟩ => ⟨S1024x128, .f32⟩
  | .hbm, ⟨14, _⟩ => ⟨S1024x128, .f32⟩
  | .hbm, ⟨15, _⟩ => ⟨S1024x128, .f32⟩
  | .hbm, ⟨16, _⟩ => ⟨S1024x128, .bf16⟩
  | .hbm, ⟨17, _⟩ => ⟨S16384x1024, .bf16⟩
  | .hbm, ⟨18, _⟩ => ⟨S16384x4096, .bf16⟩
  | .hbm, ⟨19, _⟩ => ⟨S16384x128, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1024x128, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x128, .f32⟩
  | .local _ .vmem, ⟨13, _⟩ => ⟨S512x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GateGradReferenceIdeal.lean ====
abbrev S16384x1024 : Shape := ⟨2, ![16384, 1024]⟩
abbrev S1024x1024 : Shape := ⟨2, ![1024, 1024]⟩
abbrev S_ : Shape := ⟨0, ![]⟩
abbrev S16384x16x64 : Shape := ⟨3, ![16384, 16, 64]⟩
abbrev S16384x16 : Shape := ⟨2, ![16384, 16]⟩
abbrev S16384x4096 : Shape := ⟨2, ![16384, 4096]⟩
abbrev S16384x128 : Shape := ⟨2, ![16384, 128]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x16x64, .f32⟩
  | .hbm, ⟨29, _⟩ => ⟨S_, .f32⟩
  | .hbm, ⟨30, _⟩ => ⟨S16384x16, .f32⟩
  | .hbm, ⟨31, _⟩ => ⟨S16384x1024, .bf16⟩
  | .hbm, ⟨32, _⟩ => ⟨S16384x1024, .bf16⟩
  | .hbm, ⟨33, _⟩ => ⟨S_, .i32⟩
  | .hbm, ⟨34, _⟩ => ⟨S_, .bf16⟩
  | .hbm, ⟨35, _⟩ => ⟨S16384x4096, .bf16⟩
  | .hbm, ⟨36, _⟩ => ⟨S_, .i32⟩
  | .hbm, ⟨37, _⟩ => ⟨S_, .f32⟩
  | .hbm, ⟨38, _⟩ => ⟨S16384x128, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c : Ref sig .tc := ⟨.hbm, 33, rfl⟩
abbrev main_call0_v0 : Ref sig .tc := ⟨.hbm, 34, rfl⟩
abbrev main_v25 : Ref sig .tc := ⟨.hbm, 35, rfl⟩
abbrev main_c_3 : Ref sig .tc := ⟨.hbm, 36, rfl⟩
abbrev main_call1_v0 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== MixerGrad.lean ====
abbrev S16384x1024 : Shape := ⟨2, ![16384, 1024]⟩
abbrev S1024x1024 : Shape := ⟨2, ![1024, 1024]⟩
abbrev S16384x3072 : Shape := ⟨2, ![16384, 3072]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S64x8x1024 : Shape := ⟨3, ![64, 8, 1024]⟩
abbrev S1024 : Shape := ⟨1, ![1024]⟩

abbrev nBuf : Space → Nat
  | .hbm => 12
  | .vmem => 16
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S16384x3072, .f32⟩
  | .hbm, ⟨4, _⟩ => ⟨S1x1024, .f32⟩
  | .hbm, ⟨5, _⟩ => ⟨S1x1024, .f32⟩
  | .hbm, ⟨6, _⟩ => ⟨S1024x1024, .bf16⟩
  | .hbm, ⟨7, _⟩ => ⟨S16384x1024, .f32⟩
  | .hbm, ⟨8, _⟩ => ⟨S16384x3072, .bf16⟩
  | .hbm, ⟨9, _⟩ => ⟨S8x1024, .f32⟩
  | .hbm, ⟨10, _⟩ => ⟨S8x1024, .f32⟩
  | .hbm, ⟨11, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S8x1024, .f32⟩
  | .local _ .vmem, ⟨14, _⟩ => ⟨S8x1024, .f32⟩
  | .local _ .vmem, ⟨15, _⟩ => ⟨S8x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MixerGradReferenceIdeal.lean ====
abbrev S16384x1024 : Shape := ⟨2, ![16384, 1024]⟩
abbrev S1024x1024 : Shape := ⟨2, ![1024, 1024]⟩
abbrev S16384x3072 : Shape := ⟨2, ![16384, 3072]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩
abbrev S8x1024 : Shape := ⟨2, ![8, 1024]⟩

abbrev nBuf : Space → Nat
  | .hbm => 124
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S16384x3072, .f32⟩
  | .hbm, ⟨4, _⟩ => ⟨S1x1024, .f32⟩
  | .hbm, ⟨5, _⟩ => ⟨S1x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384x1024, .f32⟩
  | .hbm, ⟨56, _⟩ => ⟨S16384x1024, .f32⟩
  | .hbm, ⟨57, _⟩ => ⟨S_, .f32⟩
  | .hbm, ⟨58, _⟩ => ⟨S16384x1024, .f32⟩
  | .hbm, ⟨59, _⟩ => ⟨S16384x1024, .f32⟩
  | .hbm, ⟨60, _⟩ => ⟨S_, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S16384x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S16384x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S16384x1024, .f32⟩
  | .hbm, ⟨87, _⟩ => ⟨S16384x1024, .f32⟩
  | .hbm, ⟨88, _⟩ => ⟨S16384x1024, .f32⟩
  | .hbm, ⟨89, _⟩ => ⟨S_, .f32⟩
  | .hbm, ⟨90, _⟩ => ⟨S16384, .f32⟩
  | .hbm, ⟨91, _⟩ => ⟨S16384x1, .f32⟩
  | .hbm, ⟨92, _⟩ => ⟨S16384x1024, .f32⟩
  | .hbm, ⟨93, _⟩ => ⟨S16384x1024, .f32⟩
  | .hbm, ⟨94, _⟩ => ⟨S16384x1, .f32⟩
  | .hbm, ⟨95, _⟩ => ⟨S_, .f32⟩
  | .hbm, ⟨96, _⟩ => ⟨S16384x1, .f32⟩
  | .hbm, ⟨97, _⟩ => ⟨S16384x1, .f32⟩
  | .hbm, ⟨98, _⟩ => ⟨S_, .f32⟩
  | .hbm, ⟨99, _⟩ => ⟨S16384, .f32⟩
  | .hbm, ⟨100, _⟩ => ⟨S16384x1024, .f32⟩
  | .hbm, ⟨101, _⟩ => ⟨S16384x1024, .f32⟩
  | .hbm, ⟨102, _⟩ => ⟨S16384x1024, .f32⟩
  | .hbm, ⟨103, _⟩ => ⟨S16384x1024, .f32⟩
  | .hbm, ⟨104, _⟩ => ⟨S_, .f32⟩
  | .hbm, ⟨105, _⟩ => ⟨S16384, .f32⟩
  | .hbm, ⟨106, _⟩ => ⟨S16384x1, .f32⟩
  | .hbm, ⟨107, _⟩ => ⟨S_, .f32⟩
  | .hbm, ⟨108, _⟩ => ⟨S16384x1, .f32⟩
  | .hbm, ⟨109, _⟩ => ⟨S16384x1, .f32⟩
  | .hbm, ⟨110, _⟩ => ⟨S_, .f32⟩
  | .hbm, ⟨111, _⟩ => ⟨S16384, .f32⟩
  | .hbm, ⟨112, _⟩ => ⟨S16384x1024, .f32⟩
  | .hbm, ⟨113, _⟩ => ⟨S16384x1024, .f32⟩
  | .hbm, ⟨114, _⟩ => ⟨S16384x1024, .bf16⟩
  | .hbm, ⟨115, _⟩ => ⟨S_, .i32⟩
  | .hbm, ⟨116, _⟩ => ⟨S_, .bf16⟩
  | .hbm, ⟨117, _⟩ => ⟨S16384x3072, .bf16⟩
  | .hbm, ⟨118, _⟩ => ⟨S8x1024, .f32⟩
  | .hbm, ⟨119, _⟩ => ⟨S8x1024, .f32⟩
  | .hbm, ⟨120, _⟩ => ⟨S_, .f32⟩
  | .hbm, ⟨121, _⟩ => ⟨S1024, .f32⟩
  | .hbm, ⟨122, _⟩ => ⟨S1x1024, .f32⟩
  | .hbm, ⟨123, _⟩ => ⟨S8x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_cst_11 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_12 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_13 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_14 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_15 : Ref sig .tc := ⟨.hbm, 95, rfl⟩
abbrev main_v73 : Ref sig .tc := ⟨.hbm, 96, rfl⟩
abbrev main_v74 : Ref sig .tc := ⟨.hbm, 97, rfl⟩
abbrev main_cst_16 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_17 : Ref sig .tc := ⟨.hbm, 104, rfl⟩
abbrev main_v80 : Ref sig .tc := ⟨.hbm, 105, rfl⟩
abbrev main_v81 : Ref sig .tc := ⟨.hbm, 106, rfl⟩
abbrev main_cst_18 : Ref sig .tc := ⟨.hbm, 107, rfl⟩
abbrev main_v82 : Ref sig .tc := ⟨.hbm, 108, rfl⟩
abbrev main_v83 : Ref sig .tc := ⟨.hbm, 109, rfl⟩
abbrev main_cst_19 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_c : Ref sig .tc := ⟨.hbm, 115, rfl⟩
abbrev main_call0_v0 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_cst_20 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩

abbrev nD : Nat := 1
abbrev τ : Topo := Topo.v7x

variable {F : FTy → Type} [FloatOps F]
-- ==== HeadMerge.lean ====
abbrev S16384x1024 : Shape := ⟨2, ![16384, 1024]⟩
abbrev S16384x128 : Shape := ⟨2, ![16384, 128]⟩
abbrev S128x1024 : Shape := ⟨2, ![128, 1024]⟩
abbrev S_ : Shape := ⟨0, ![]⟩
abbrev S512x1024 : Shape := ⟨2, ![512, 1024]⟩
abbrev S512x128 : Shape := ⟨2, ![512, 128]⟩

abbrev nBuf : Space → Nat
  | .hbm => 22
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x128, .f32⟩
  | .hbm, ⟨4, _⟩ => ⟨S16384x128, .f32⟩
  | .hbm, ⟨5, _⟩ => ⟨S16384x128, .f32⟩
  | .hbm, ⟨6, _⟩ => ⟨S16384x1024, .f32⟩
  | .hbm, ⟨7, _⟩ => ⟨S128x1024, .i32⟩
  | .hbm, ⟨8, _⟩ => ⟨S_, .i32⟩
  | .hbm, ⟨9, _⟩ => ⟨S128x1024, .i32⟩
  | .hbm, ⟨10, _⟩ => ⟨S128x1024, .i32⟩
  | .hbm, ⟨11, _⟩ => ⟨S128x1024, .i32⟩
  | .hbm, ⟨12, _⟩ => ⟨S128x1024, .i1⟩
  | .hbm, ⟨13, _⟩ => ⟨S_, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S128x1024, .bf16⟩
  | .hbm, ⟨19, _⟩ => ⟨S16384x1024, .f32⟩
  | .hbm, ⟨20, _⟩ => ⟨S16384x128, .f32⟩
  | .hbm, ⟨21, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x1024, .f32⟩
  | .local _ .vmem, ⟨13, _⟩ => ⟨S512x1024, .f32⟩
  | .local _ .vmem, ⟨14, _⟩ => ⟨S128x1024, .bf16⟩
  | .local _ .vmem, ⟨15, _⟩ => ⟨S512x1024, .f32⟩
  | .local _ .vmem, ⟨16, _⟩ => ⟨S512x1024, .f32⟩
  | .local _ .vmem, ⟨17, _⟩ => ⟨S512x128, .f32⟩
  | .local _ .vmem, ⟨18, _⟩ => ⟨S512x128, .f32⟩
  | .local _ .vmem, ⟨19, _⟩ => ⟨S512x1024, .bf16⟩
  | .local _ .vmem, ⟨20, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev main_v7_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== HeadMergeReferenceIdeal.lean ====
abbrev S16384x1024 : Shape := ⟨2, ![16384, 1024]⟩
abbrev S16384x128 : Shape := ⟨2, ![16384, 128]⟩
abbrev S1x16384x128 : Shape := ⟨3, ![1, 16384, 128]⟩
abbrev S3x16384x128 : Shape := ⟨3, ![3, 16384, 128]⟩
abbrev S3x16384x16 : Shape := ⟨3, ![3, 16384, 16]⟩
abbrev S_ : Shape := ⟨0, ![]⟩
abbrev S16384x16 : Shape := ⟨2, ![16384, 16]⟩
abbrev S1x16384x16 : Shape := ⟨3, ![1, 16384, 16]⟩
abbrev S3x16384x16x1 : Shape := ⟨4, ![3, 16384, 16, 1]⟩
abbrev S16384x16x64 : Shape := ⟨3, ![16384, 16, 64]⟩
abbrev S1x16384x16x64 : Shape := ⟨4, ![1, 16384, 16, 64]⟩
abbrev S3x16384x16x64 : Shape := ⟨4, ![3, 16384, 16, 64]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x128, .f32⟩
  | .hbm, ⟨4, _⟩ => ⟨S16384x128, .f32⟩
  | .hbm, ⟨5, _⟩ => ⟨S16384x128, .f32⟩
  | .hbm, ⟨6, _⟩ => ⟨S16384x1024, .f32⟩
  | .hbm, ⟨7, _⟩ => ⟨S1x16384x128, .f32⟩
  | .hbm, ⟨8, _⟩ => ⟨S1x16384x128, .f32⟩
  | .hbm, ⟨9, _⟩ => ⟨S1x16384x128, .f32⟩
  | .hbm, ⟨10, _⟩ => ⟨S3x16384x128, .f32⟩
  | .hbm, ⟨11, _⟩ => ⟨S3x16384x16, .f32⟩
  | .hbm, ⟨12, _⟩ => ⟨S_, .f32⟩
  | .hbm, ⟨13, _⟩ => ⟨S16384x16, .f32⟩
  | .hbm, ⟨14, _⟩ => ⟨S_, .f32⟩
  | .hbm, ⟨15, _⟩ => ⟨S16384x16, .f32⟩
  | .hbm, ⟨16, _⟩ => ⟨S16384x16, .f32⟩
  | .hbm, ⟨17, _⟩ => ⟨S1x16384x16, .f32⟩
  | .hbm, ⟨18, _⟩ => ⟨S3x16384x16, .f32⟩
  | .hbm, ⟨19, _⟩ => ⟨S3x16384x16, .f32⟩
  | .hbm, ⟨20, _⟩ => ⟨S3x16384x16, .f32⟩
  | .hbm, ⟨21, _⟩ => ⟨S_, .f32⟩
  | .hbm, ⟨22, _⟩ => ⟨S16384x16, .f32⟩
  | .hbm, ⟨23, _⟩ => ⟨S1x16384x16, .f32⟩
  | .hbm, ⟨24, _⟩ => ⟨S3x16384x16, .f32⟩
  | .hbm, ⟨25, _⟩ => ⟨S3x16384x16, .f32⟩
  | .hbm, ⟨26, _⟩ => ⟨S3x16384x16x1, .f32⟩
  | .hbm, ⟨27, _⟩ => ⟨S16384x16x64, .f32⟩
  | .hbm, ⟨28, _⟩ => ⟨S16384x16x64, .f32⟩
  | .hbm, ⟨29, _⟩ => ⟨S16384x16x64, .f32⟩
  | .hbm, ⟨30, _⟩ => ⟨S1x16384x16x64, .f32⟩
  | .hbm, ⟨31, _⟩ => ⟨S1x16384x16x64, .f32⟩
  | .hbm, ⟨32, _⟩ => ⟨S1x16384x16x64, .f32⟩
  | .hbm, ⟨33, _⟩ => ⟨S3x16384x16x64, .f32⟩
  | .hbm, ⟨34, _⟩ => ⟨S3x16384x16x64, .f32⟩
  | .hbm, ⟨35, _⟩ => ⟨S3x16384x16x64, .f32⟩
  | .hbm, ⟨36, _⟩ => ⟨S_, .f32⟩
  | .hbm, ⟨37, _⟩ => ⟨S16384x16x64, .f32⟩
  | .hbm, ⟨38, _⟩ => ⟨S16384x1024, .f32⟩
  | .hbm, ⟨39, _⟩ => ⟨S3x16384x128, .f32⟩
  | .hbm, ⟨40, _⟩ => ⟨S_, .f32⟩
  | .hbm, ⟨41, _⟩ => ⟨S16384x128, .f32⟩
  | .hbm, ⟨42, _⟩ => ⟨S16384x128, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Proof.Attn.Runs.lean ====
/- What the symbolic runs of the body are stated over: the attention backward kernel's branch conditions, staging memrefs and scratch.  -/
module

public import proofs.«01_k».proof.Proof.Gen.KernelIdeal.Frame
public import proofs.«01_k».proof.Proof.Gen.KernelIdeal.Skeleton

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 17) — by arithmetic of the point. -/
theorem hcond0_0 : ∀ t : Fin cfg0.N, cond0_0 (grid0.coords t) ↔ t.val % 17 = 0 :=
  (fun t => by
    have ht : t.val < 136 := Nat.lt_of_lt_of_eq t.isLt N_0
    have e0 : (grid0.coords t 0).val = t.val / 17 % 8 := Pipeline.Grid.coords_val t 0 (by decide) rfl
    have e1 : (grid0.coords t 1).val = t.val / 1 % 17 := Pipeline.Grid.coords_val t 1 (by decide) rfl
    simp only [cond0_0, e0, e1]
    word_cmp
   : ∀ t : Fin grid0.N, cond0_0 (grid0.coords t) ↔ t.val % 17 = 0)

/-- The condition of the body's `scf.if` 1 (`k0_h2`), from the grid coordinates (the skeleton's scalar
    chain substituted). -/
abbrev cond0_1 (i : grid0.Coords) : Prop := k0_cond2 i = 1#1
/-- It holds at the points whose coordinates have i1 ≤ 15 — decided over the grid. -/
theorem hcond0_1 : ∀ t : Fin cfg0.N, cond0_1 (grid0.coords t) ↔ t.val % 17 ≤ 15 :=
  (by decide +kernel : ∀ t : Fin grid0.N, cond0_1 (grid0.coords t) ↔ t.val % 17 ≤ 15)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 11 is never idle (an output stored at every point, under no condition). -/
theorem liveAt0_11 : ∀ t : Fin cfg0.N, cfg0.idle 11 (grid0.coords t) = false := fun _ => rfl
/-- Window 12 is never idle (an output stored at every point, under no condition). -/
theorem liveAt0_12 : ∀ t : Fin cfg0.N, cfg0.idle 12 (grid0.coords t) = false := fun _ => rfl

/-! ## The kernel body on any staging memrefs: a subtype the run finds -/

/-- One staging buffer of output window 10, through which its contents are stated (`View.read_writes_of_cover`: the
    choice does not matter). -/
abbrev VO0_10 : View sig .tc .vmem S1024x128 .bf16 := (Memref.whole cc0_stg10_0 : Memref sig .tc .vmem S1024x128 .bf16).view
/-- One staging buffer of output window 11, through which its contents are stated (`View.read_writes_of_cover`: the
    choice does not matter). -/
abbrev VO0_11 : View sig .tc .vmem S1024x128 .bf16 := (Memref.whole cc0_stg11_0 : Memref sig .tc .vmem S1024x128 .bf16).view
/-- One staging buffer of output window 12, through which its contents are stated (`View.read_writes_of_cover`: the
    choice does not matter). -/
abbrev VO0_12 : View sig .tc .vmem S1024x128 .bf16 := (Memref.whole cc0_stg12_0 : Memref sig .tc .vmem S1024x128 .bf16).view
/-- Each window's current staging memref at point `t`, spelled as the pipeline passes it (`bodyAt0`), and its wholeness. -/
abbrev ms0_0 (t : Fin cfg0.N) : Memref sig .tc .vmem S1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x128 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1024x128 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1024x128 .bf16 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S1024x128 .f32 := Memref.whole cc0_scratch0
abbrev scM0_1 : Memref sig .tc .vmem S1024x128 .f32 := Memref.whole cc0_scratch1
abbrev scM0_2 : Memref sig .tc .vmem S1536x128 .f32 := Memref.whole cc0_scratch2
abbrev scM0_3 : Memref sig .tc .vmem S1536x128 .f32 := Memref.whole cc0_scratch3
abbrev scM0_4 : Memref sig .tc .vmem S1024x128 .f32 := Memref.whole cc0_scratch4
abbrev scM0_5 : Memref sig .tc .vmem S1536x128 .f32 := Memref.whole cc0_scratch5
abbrev scM0_6 : Memref sig .tc .vmem S1536x128 .f32 := Memref.whole cc0_scratch6
abbrev scM0_7 : Memref sig .tc .vmem S1024x128 .f32 := Memref.whole cc0_scratch7
abbrev scM0_8 : Memref sig .tc .vmem S1024x128 .f32 := Memref.whole cc0_scratch8
/-- The scratch `arg25` the kernel carries between points, as a view: what it holds is stated through it. -/
abbrev VS0_7 : View sig .tc .vmem S1024x128 .f32 := scM0_7.view
/-- The scratch `arg26` the kernel carries between points, as a view: what it holds is stated through it. -/
abbrev VS0_8 : View sig .tc .vmem S1024x128 .f32 := scM0_8.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  unfold Pipeline.ΦA; rw [scopedRest0_eq]; simp only [scM0_0, scM0_1, scM0_2, scM0_3, scM0_4, scM0_5, scM0_6, scM0_7, scM0_8, owns_whole]; try rfl

end Cert.KernelIdeal.Attn

end
-- ==== Proof.Attn.RunA.lean ====
/- The body of the attention backward kernel, run symbolically at the first point of a head pair (the carried scratch is zeroed first). -/
module

public import proofs.«01_k».proof.Proof.Attn.Runs

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1200000 in set_option sl_exec.stridedRows true in
/-- The pieces (last first) that the body's stores leave in the output windows and the scratch buffers at
    the first point of a head pair (the carried scratch is zeroed first),
    with the proof that the body runs and leaves them. -/
noncomputable def runA (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x128 .bf16) (harg6 : arg6.IsWhole) (arg7 : Memref sig .tc .vmem S128x256 .f32) (harg7 : arg7.IsWhole) (arg8 : Memref sig .tc .vmem S1x8x256 .f32) (harg8 : arg8.IsWhole) (arg9 : Memref sig .tc .vmem S1024x128 .bf16) (harg9 : arg9.IsWhole) (arg10 : Memref sig .tc .vmem S1024x128 .f32) (harg10 : arg10.IsWhole) (arg11 : Memref sig .tc .vmem S1024x128 .f32) (harg11 : arg11.IsWhole) (arg15 : Memref sig .tc .vmem S1024x128 .bf16) (harg15 : arg15.IsWhole) (arg16 : Memref sig .tc .vmem S1024x128 .bf16) (harg16 : arg16.IsWhole) (arg17 : Memref sig .tc .vmem S1024x128 .bf16) (harg17 : arg17.IsWhole) (arg18 : Memref sig .tc .vmem S1024x128 .f32) (harg18 : arg18.IsWhole) (arg19 : Memref sig .tc .vmem S1024x128 .f32) (harg19 : arg19.IsWhole) (arg20 : Memref sig .tc .vmem S1536x128 .f32) (harg20 : arg20.IsWhole) (arg21 : Memref sig .tc .vmem S1536x128 .f32) (harg21 : arg21.IsWhole) (arg22 : Memref sig .tc .vmem S1024x128 .f32) (harg22 : arg22.IsWhole) (arg23 : Memref sig .tc .vmem S1536x128 .f32) (harg23 : arg23.IsWhole) (arg24 : Memref sig .tc .vmem S1536x128 .f32) (harg24 : arg24.IsWhole) (arg25 : Memref sig .tc .vmem S1024x128 .f32) (harg25 : arg25.IsWhole) (arg26 : Memref sig .tc .vmem S1024x128 .f32) (harg26 : arg26.IsWhole) (hc0 : cond0_0 i) (hc1 : cond0_1 i)
    (x0 : Vec F S1024x128 .bf16) (x1 : Vec F S1024x128 .bf16) (x2 : Vec F S512x128 .bf16) (x3 : Vec F S1024x128 .bf16) (x4 : Vec F S512x128 .bf16) (x5 : Vec F S128x256 .f32) (x6 : Vec F S1x8x256 .f32) (x7 : Vec F S1024x128 .bf16) (x8 : Vec F S1024x128 .f32) (x9 : Vec F S1024x128 .f32) :
    Σ' (L10 : List (View.Piece (Elt F) S1024x128 .bf16)), Σ' (L11 : List (View.Piece (Elt F) S1024x128 .bf16)), Σ' (L12 : List (View.Piece (Elt F) S1024x128 .bf16)), Σ' (LS7 : List (View.Piece (Elt F) S1024x128 .f32)), Σ' (LS8 : List (View.Piece (Elt F) S1024x128 .f32)), Σ' (LT5 : List (View.Piece (Elt F) S1536x128 .f32)), { LT6 : List (View.Piece (Elt F) S1536x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg15.view.loc (c : Thread nD τ) ↦[arg15.view.set]{fullShare} arg15.view.writes (Elt F) f L10) ∗ (∃ f, arg16.view.loc (c : Thread nD τ) ↦[arg16.view.set]{fullShare} arg16.view.writes (Elt F) f L11) ∗ (∃ f, arg17.view.loc (c : Thread nD τ) ↦[arg17.view.set]{fullShare} arg17.view.writes (Elt F) f L12) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ f, arg25.view.loc (c : Thread nD τ) ↦[arg25.view.set]{fullShare} arg25.view.writes (Elt F) f LS7) ∗ (∃ f, arg26.view.loc (c : Thread nD τ) ↦[arg26.view.set]{fullShare} arg26.view.writes (Elt F) f LS8)) -∗ K ⟨⟩))
          ⊢ wp frame (wpE (defs₀ (F := F)) Variants.none c none) E (cc0_attn_bwd_g1 i arg2 harg2 arg3 harg3 arg4 harg4 arg5 harg5 arg6 harg6 arg7 harg7 arg8 harg8 arg9 harg9 arg10 harg10 arg11 harg11 (Memref.whole main_arg6) (Memref.isWhole_whole _) (Memref.whole main_arg7) (Memref.isWhole_whole _) (Memref.whole main_arg8) (Memref.isWhole_whole _) arg15 harg15 arg16 harg16 arg17 harg17 arg18 harg18 arg19 harg19 arg20 harg20 arg21 harg21 arg22 harg22 arg23 harg23 arg24 harg24 arg25 harg25 arg26 harg26) K } := by
  refine ⟨?_, ?_, ?_, ?_, ?_, [], [], fun E K => ?run⟩
  case run =>
    simp only [cc0_attn_bwd_g1_eq_skeleton]; unfold cc0_attn_bwd_g1_skel
    simp only [k0_part22_eq_skeleton, k0_part21_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]; · iexists _; iexact H12
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]; · iexists _; iexact HS7
    iexists _; iexact HS8

end Cert.KernelIdeal.Attn

end
-- ==== Proof.Attn.RunB.lean ====
/- The body of the attention backward kernel, run symbolically at a middle point of a head pair. -/
module

public import proofs.«01_k».proof.Proof.Attn.RunA

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1200000 in set_option sl_exec.stridedRows true in
/-- The pieces (last first) that the body's stores leave in the output windows and the scratch buffers at
    a middle point of a head pair,
    with the proof that the body runs and leaves them. -/
noncomputable def runB (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x128 .bf16) (harg6 : arg6.IsWhole) (arg7 : Memref sig .tc .vmem S128x256 .f32) (harg7 : arg7.IsWhole) (arg8 : Memref sig .tc .vmem S1x8x256 .f32) (harg8 : arg8.IsWhole) (arg9 : Memref sig .tc .vmem S1024x128 .bf16) (harg9 : arg9.IsWhole) (arg10 : Memref sig .tc .vmem S1024x128 .f32) (harg10 : arg10.IsWhole) (arg11 : Memref sig .tc .vmem S1024x128 .f32) (harg11 : arg11.IsWhole) (arg15 : Memref sig .tc .vmem S1024x128 .bf16) (harg15 : arg15.IsWhole) (arg16 : Memref sig .tc .vmem S1024x128 .bf16) (harg16 : arg16.IsWhole) (arg17 : Memref sig .tc .vmem S1024x128 .bf16) (harg17 : arg17.IsWhole) (arg18 : Memref sig .tc .vmem S1024x128 .f32) (harg18 : arg18.IsWhole) (arg19 : Memref sig .tc .vmem S1024x128 .f32) (harg19 : arg19.IsWhole) (arg20 : Memref sig .tc .vmem S1536x128 .f32) (harg20 : arg20.IsWhole) (arg21 : Memref sig .tc .vmem S1536x128 .f32) (harg21 : arg21.IsWhole) (arg22 : Memref sig .tc .vmem S1024x128 .f32) (harg22 : arg22.IsWhole) (arg23 : Memref sig .tc .vmem S1536x128 .f32) (harg23 : arg23.IsWhole) (arg24 : Memref sig .tc .vmem S1536x128 .f32) (harg24 : arg24.IsWhole) (arg25 : Memref sig .tc .vmem S1024x128 .f32) (harg25 : arg25.IsWhole) (arg26 : Memref sig .tc .vmem S1024x128 .f32) (harg26 : arg26.IsWhole) (hc0 : ¬cond0_0 i) (hc1 : cond0_1 i)
    (x0 : Vec F S1024x128 .bf16) (x1 : Vec F S1024x128 .bf16) (x2 : Vec F S512x128 .bf16) (x3 : Vec F S1024x128 .bf16) (x4 : Vec F S512x128 .bf16) (x5 : Vec F S128x256 .f32) (x6 : Vec F S1x8x256 .f32) (x7 : Vec F S1024x128 .bf16) (x8 : Vec F S1024x128 .f32) (x9 : Vec F S1024x128 .f32) (xs7 : Vec F S1024x128 .f32) (xs8 : Vec F S1024x128 .f32) :
    Σ' (L10 : List (View.Piece (Elt F) S1024x128 .bf16)), Σ' (L11 : List (View.Piece (Elt F) S1024x128 .bf16)), Σ' (L12 : List (View.Piece (Elt F) S1024x128 .bf16)), Σ' (LS7 : List (View.Piece (Elt F) S1024x128 .f32)), Σ' (LS8 : List (View.Piece (Elt F) S1024x128 .f32)), Σ' (LT5 : List (View.Piece (Elt F) S1536x128 .f32)), { LT6 : List (View.Piece (Elt F) S1536x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ owns (c : Thread nD τ) arg25 fullShare xs7 ∗ owns (c : Thread nD τ) arg26 fullShare xs8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg15.view.loc (c : Thread nD τ) ↦[arg15.view.set]{fullShare} arg15.view.writes (Elt F) f L10) ∗ (∃ f, arg16.view.loc (c : Thread nD τ) ↦[arg16.view.set]{fullShare} arg16.view.writes (Elt F) f L11) ∗ (∃ f, arg17.view.loc (c : Thread nD τ) ↦[arg17.view.set]{fullShare} arg17.view.writes (Elt F) f L12) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ f, arg25.view.loc (c : Thread nD τ) ↦[arg25.view.set]{fullShare} arg25.view.writes (Elt F) f LS7) ∗ (∃ f, arg26.view.loc (c : Thread nD τ) ↦[arg26.view.set]{fullShare} arg26.view.writes (Elt F) f LS8)) -∗ K ⟨⟩))
          ⊢ wp frame (wpE (defs₀ (F := F)) Variants.none c none) E (cc0_attn_bwd_g1 i arg2 harg2 arg3 harg3 arg4 harg4 arg5 harg5 arg6 harg6 arg7 harg7 arg8 harg8 arg9 harg9 arg10 harg10 arg11 harg11 (Memref.whole main_arg6) (Memref.isWhole_whole _) (Memref.whole main_arg7) (Memref.isWhole_whole _) (Memref.whole main_arg8) (Memref.isWhole_whole _) arg15 harg15 arg16 harg16 arg17 harg17 arg18 harg18 arg19 harg19 arg20 harg20 arg21 harg21 arg22 harg22 arg23 harg23 arg24 harg24 arg25 harg25 arg26 harg26) K } := by
  refine ⟨?_, ?_, ?_, ?_, ?_, [], [], fun E K => ?run⟩
  case run =>
    simp only [cc0_attn_bwd_g1_eq_skeleton]; unfold cc0_attn_bwd_g1_skel
    simp only [k0_part22_eq_skeleton, k0_part21_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%fs7, %hfs7, HS7⟩, ⟨%fs8, %hfs8, HS8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg25.eq_unread hfs7; obtain rfl := harg26.eq_unread hfs8
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]; · iexists _; iexact H12
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]; · iexists _; iexact HS7
    iexists _; iexact HS8

end Cert.KernelIdeal.Attn

end
-- ==== Proof.Attn.RunC.lean ====
/- The body of the attention backward kernel, run symbolically at the last point of a head pair, which only hands the carried rows over: the buffer of window 10 is left alone. -/
module

public import proofs.«01_k».proof.Proof.Attn.RunB

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1200000 in set_option sl_exec.stridedRows true in
/-- The pieces (last first) that the body's stores leave in the output windows and the scratch buffers at
    the last point of a head pair, which only hands the carried rows over: the buffer of window 10 is left alone,
    with the proof that the body runs and leaves them. -/
noncomputable def runC (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x128 .bf16) (harg6 : arg6.IsWhole) (arg7 : Memref sig .tc .vmem S128x256 .f32) (harg7 : arg7.IsWhole) (arg8 : Memref sig .tc .vmem S1x8x256 .f32) (harg8 : arg8.IsWhole) (arg9 : Memref sig .tc .vmem S1024x128 .bf16) (harg9 : arg9.IsWhole) (arg10 : Memref sig .tc .vmem S1024x128 .f32) (harg10 : arg10.IsWhole) (arg11 : Memref sig .tc .vmem S1024x128 .f32) (harg11 : arg11.IsWhole) (arg15 : Memref sig .tc .vmem S1024x128 .bf16) (harg15 : arg15.IsWhole) (arg16 : Memref sig .tc .vmem S1024x128 .bf16) (harg16 : arg16.IsWhole) (arg17 : Memref sig .tc .vmem S1024x128 .bf16) (harg17 : arg17.IsWhole) (arg18 : Memref sig .tc .vmem S1024x128 .f32) (harg18 : arg18.IsWhole) (arg19 : Memref sig .tc .vmem S1024x128 .f32) (harg19 : arg19.IsWhole) (arg20 : Memref sig .tc .vmem S1536x128 .f32) (harg20 : arg20.IsWhole) (arg21 : Memref sig .tc .vmem S1536x128 .f32) (harg21 : arg21.IsWhole) (arg22 : Memref sig .tc .vmem S1024x128 .f32) (harg22 : arg22.IsWhole) (arg23 : Memref sig .tc .vmem S1536x128 .f32) (harg23 : arg23.IsWhole) (arg24 : Memref sig .tc .vmem S1536x128 .f32) (harg24 : arg24.IsWhole) (arg25 : Memref sig .tc .vmem S1024x128 .f32) (harg25 : arg25.IsWhole) (arg26 : Memref sig .tc .vmem S1024x128 .f32) (harg26 : arg26.IsWhole) (hc0 : ¬cond0_0 i) (hc1 : ¬cond0_1 i)
    (x0 : Vec F S1024x128 .bf16) (x1 : Vec F S1024x128 .bf16) (x2 : Vec F S512x128 .bf16) (x3 : Vec F S1024x128 .bf16) (x4 : Vec F S512x128 .bf16) (x5 : Vec F S128x256 .f32) (x6 : Vec F S1x8x256 .f32) (x7 : Vec F S1024x128 .bf16) (x8 : Vec F S1024x128 .f32) (x9 : Vec F S1024x128 .f32) (x10 : Vec F S1024x128 .bf16) (xs7 : Vec F S1024x128 .f32) (xs8 : Vec F S1024x128 .f32) :
    Σ' (L11 : List (View.Piece (Elt F) S1024x128 .bf16)), Σ' (L12 : List (View.Piece (Elt F) S1024x128 .bf16)), Σ' (LS7 : List (View.Piece (Elt F) S1024x128 .f32)), Σ' (LS8 : List (View.Piece (Elt F) S1024x128 .f32)), Σ' (LT5 : List (View.Piece (Elt F) S1536x128 .f32)), { LT6 : List (View.Piece (Elt F) S1536x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg15 fullShare x10 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ owns (c : Thread nD τ) arg25 fullShare xs7 ∗ owns (c : Thread nD τ) arg26 fullShare xs8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg15 fullShare x10 ∗ (∃ f, arg16.view.loc (c : Thread nD τ) ↦[arg16.view.set]{fullShare} arg16.view.writes (Elt F) f L11) ∗ (∃ f, arg17.view.loc (c : Thread nD τ) ↦[arg17.view.set]{fullShare} arg17.view.writes (Elt F) f L12) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ f, arg23.view.loc (c : Thread nD τ) ↦[arg23.view.set]{fullShare} arg23.view.writes (Elt F) f LT5) ∗ (∃ f, arg24.view.loc (c : Thread nD τ) ↦[arg24.view.set]{fullShare} arg24.view.writes (Elt F) f LT6) ∗ (∃ f, arg25.view.loc (c : Thread nD τ) ↦[arg25.view.set]{fullShare} arg25.view.writes (Elt F) f LS7) ∗ (∃ f, arg26.view.loc (c : Thread nD τ) ↦[arg26.view.set]{fullShare} arg26.view.writes (Elt F) f LS8)) -∗ K ⟨⟩))
          ⊢ wp frame (wpE (defs₀ (F := F)) Variants.none c none) E (cc0_attn_bwd_g1 i arg2 harg2 arg3 harg3 arg4 harg4 arg5 harg5 arg6 harg6 arg7 harg7 arg8 harg8 arg9 harg9 arg10 harg10 arg11 harg11 (Memref.whole main_arg6) (Memref.isWhole_whole _) (Memref.whole main_arg7) (Memref.isWhole_whole _) (Memref.whole main_arg8) (Memref.isWhole_whole _) arg15 harg15 arg16 harg16 arg17 harg17 arg18 harg18 arg19 harg19 arg20 harg20 arg21 harg21 arg22 harg22 arg23 harg23 arg24 harg24 arg25 harg25 arg26 harg26) K } := by
  refine ⟨?_, ?_, ?_, ?_, ?_, ?_, fun E K => ?run⟩
  case run =>
    simp only [cc0_attn_bwd_g1_eq_skeleton]; unfold cc0_attn_bwd_g1_skel
    simp only [k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%fs7, %hfs7, HS7⟩, ⟨%fs8, %hfs8, HS8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg15.eq_unread hf10; obtain rfl := harg25.eq_unread hfs7; obtain rfl := harg26.eq_unread hfs8
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg15.read_unread _
      iexact H10
    isplitl [H11]; · iexists _; iexact H11
    isplitl [H12]; · iexists _; iexact H12
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]; · iexists _; iexact HS5
    isplitl [HS6]; · iexists _; iexact HS6
    isplitl [HS7]; · iexists _; iexact HS7
    iexists _; iexact HS8

end Cert.KernelIdeal.Attn

end
-- ==== Proof.Attn.Body.lean ====
/- What the body of the attention backward kernel leaves at a grid point, and the run of the whole launch. -/
module

public import proofs.«01_k».proof.Proof.Attn.RunC

public import Idealize.ShloMosaic.Lib.Claim
public import Idealize.ShloMosaic.Lib.Pipeline.TableIdle

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The run of case A at point `t`, on the windows' buffers there. -/
abbrev atA (c : Dev nD) (t : Fin cfg0.N) (h0 : t.val % 17 = 0) (h1 : t.val % 17 ≤ 15) :=
  runA (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t)

theorem coverA_dq (c : Dev nD) (t : Fin cfg0.N) (h0 : t.val % 17 = 0) (h1 : t.val % 17 ≤ 15) (y : S1024x128.Idx) :
    ∃ pc ∈ (atA m c t h0 h1).1, y ∈ pc.1.set :=
  View.cover_of_tiledL (atA m c t h0 h1).1 S1024x128.size (by sl_kernel_rfl) y
theorem coverA_dk (c : Dev nD) (t : Fin cfg0.N) (h0 : t.val % 17 = 0) (h1 : t.val % 17 ≤ 15) (y : S1024x128.Idx) :
    ∃ pc ∈ (atA m c t h0 h1).2.1, y ∈ pc.1.set :=
  View.cover_of_tiledL (atA m c t h0 h1).2.1 S512x128.size (by sl_kernel_rfl) y
theorem coverA_dv (c : Dev nD) (t : Fin cfg0.N) (h0 : t.val % 17 = 0) (h1 : t.val % 17 ≤ 15) (y : S1024x128.Idx) :
    ∃ pc ∈ (atA m c t h0 h1).2.2.1, y ∈ pc.1.set :=
  View.cover_of_tiledL (atA m c t h0 h1).2.2.1 S512x128.size (by sl_kernel_rfl) y
theorem coverA_ck (c : Dev nD) (t : Fin cfg0.N) (h0 : t.val % 17 = 0) (h1 : t.val % 17 ≤ 15) (y : S1024x128.Idx) :
    ∃ pc ∈ (atA m c t h0 h1).2.2.2.1, y ∈ pc.1.set :=
  View.cover_of_tiledL (atA m c t h0 h1).2.2.2.1 S1024x128.size (by sl_kernel_rfl) y
theorem coverA_cv (c : Dev nD) (t : Fin cfg0.N) (h0 : t.val % 17 = 0) (h1 : t.val % 17 ≤ 15) (y : S1024x128.Idx) :
    ∃ pc ∈ (atA m c t h0 h1).2.2.2.2.1, y ∈ pc.1.set :=
  View.cover_of_tiledL (atA m c t h0 h1).2.2.2.2.1 S1024x128.size (by sl_kernel_rfl) y

/-- The run of case B at point `t`, on the windows' buffers there. -/
abbrev atB (c : Dev nD) (t : Fin cfg0.N) (h0 : ¬t.val % 17 = 0) (h1 : t.val % 17 ≤ 15) (ck cv : Vec F S1024x128 .f32) :=
  runB (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) ck cv

theorem coverB_dq (c : Dev nD) (t : Fin cfg0.N) (h0 : ¬t.val % 17 = 0) (h1 : t.val % 17 ≤ 15) (ck cv : Vec F S1024x128 .f32) (y : S1024x128.Idx) :
    ∃ pc ∈ (atB m c t h0 h1 ck cv).1, y ∈ pc.1.set :=
  View.cover_of_tiledL (atB m c t h0 h1 ck cv).1 S1024x128.size (by sl_kernel_rfl) y
theorem coverB_dk (c : Dev nD) (t : Fin cfg0.N) (h0 : ¬t.val % 17 = 0) (h1 : t.val % 17 ≤ 15) (ck cv : Vec F S1024x128 .f32) (y : S1024x128.Idx) :
    ∃ pc ∈ (atB m c t h0 h1 ck cv).2.1, y ∈ pc.1.set :=
  View.cover_of_tiledL (atB m c t h0 h1 ck cv).2.1 S512x128.size (by sl_kernel_rfl) y
theorem coverB_dv (c : Dev nD) (t : Fin cfg0.N) (h0 : ¬t.val % 17 = 0) (h1 : t.val % 17 ≤ 15) (ck cv : Vec F S1024x128 .f32) (y : S1024x128.Idx) :
    ∃ pc ∈ (atB m c t h0 h1 ck cv).2.2.1, y ∈ pc.1.set :=
  View.cover_of_tiledL (atB m c t h0 h1 ck cv).2.2.1 S512x128.size (by sl_kernel_rfl) y
theorem coverB_ck (c : Dev nD) (t : Fin cfg0.N) (h0 : ¬t.val % 17 = 0) (h1 : t.val % 17 ≤ 15) (ck cv : Vec F S1024x128 .f32) (y : S1024x128.Idx) :
    ∃ pc ∈ (atB m c t h0 h1 ck cv).2.2.2.1, y ∈ pc.1.set :=
  View.cover_of_tiledL (atB m c t h0 h1 ck cv).2.2.2.1 S1024x128.size (by sl_kernel_rfl) y
theorem coverB_cv (c : Dev nD) (t : Fin cfg0.N) (h0 : ¬t.val % 17 = 0) (h1 : t.val % 17 ≤ 15) (ck cv : Vec F S1024x128 .f32) (y : S1024x128.Idx) :
    ∃ pc ∈ (atB m c t h0 h1 ck cv).2.2.2.2.1, y ∈ pc.1.set :=
  View.cover_of_tiledL (atB m c t h0 h1 ck cv).2.2.2.2.1 S1024x128.size (by sl_kernel_rfl) y

/-- The run of case C at point `t`, on the windows' buffers there. -/
abbrev atC (c : Dev nD) (t : Fin cfg0.N) (h0 : ¬t.val % 17 = 0) (h1 : ¬t.val % 17 ≤ 15) (dq : Vec F S1024x128 .bf16) (ck cv : Vec F S1024x128 .f32) :=
  runC (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) dq ck cv

theorem coverC_dk (c : Dev nD) (t : Fin cfg0.N) (h0 : ¬t.val % 17 = 0) (h1 : ¬t.val % 17 ≤ 15) (dq : Vec F S1024x128 .bf16) (ck cv : Vec F S1024x128 .f32) (y : S1024x128.Idx) :
    ∃ pc ∈ (atC m c t h0 h1 dq ck cv).1, y ∈ pc.1.set :=
  View.cover_of_tiledL (atC m c t h0 h1 dq ck cv).1 S512x128.size (by sl_kernel_rfl) y
theorem coverC_dv (c : Dev nD) (t : Fin cfg0.N) (h0 : ¬t.val % 17 = 0) (h1 : ¬t.val % 17 ≤ 15) (dq : Vec F S1024x128 .bf16) (ck cv : Vec F S1024x128 .f32) (y : S1024x128.Idx) :
    ∃ pc ∈ (atC m c t h0 h1 dq ck cv).2.1, y ∈ pc.1.set :=
  View.cover_of_tiledL (atC m c t h0 h1 dq ck cv).2.1 S512x128.size (by sl_kernel_rfl) y
theorem coverC_ck (c : Dev nD) (t : Fin cfg0.N) (h0 : ¬t.val % 17 = 0) (h1 : ¬t.val % 17 ≤ 15) (dq : Vec F S1024x128 .bf16) (ck cv : Vec F S1024x128 .f32) (y : S1024x128.Idx) :
    ∃ pc ∈ (atC m c t h0 h1 dq ck cv).2.2.1, y ∈ pc.1.set :=
  View.cover_of_tiledL (atC m c t h0 h1 dq ck cv).2.2.1 S1024x128.size (by sl_kernel_rfl) y
theorem coverC_cv (c : Dev nD) (t : Fin cfg0.N) (h0 : ¬t.val % 17 = 0) (h1 : ¬t.val % 17 ≤ 15) (dq : Vec F S1024x128 .bf16) (ck cv : Vec F S1024x128 .f32) (y : S1024x128.Idx) :
    ∃ pc ∈ (atC m c t h0 h1 dq ck cv).2.2.2.1, y ∈ pc.1.set :=
  View.cover_of_tiledL (atC m c t h0 h1 dq ck cv).2.2.2.1 S1024x128.size (by sl_kernel_rfl) y

/-- What a point leaves: the blocks of the three outputs in their staging buffers, and the rows of the gradients of k
    and v carried to the next point. -/
structure Left (F : FTy → Type) where
  dq : Vec F S1024x128 .bf16
  dk : Vec F S1024x128 .bf16
  dv : Vec F S1024x128 .bf16
  ck : Vec F S1024x128 .f32
  cv : Vec F S1024x128 .f32

set_option maxHeartbeats 4000000 in
/-- What point `t` leaves when the point before it left `p`. -/
def left (c : Dev nD) (t : Fin cfg0.N) (p : Left F) : Left F :=
  if h0 : t.val % 17 = 0 then
    if h1 : t.val % 17 ≤ 15 then
      ⟨View.canon (atA m c t h0 h1).1, View.canon (atA m c t h0 h1).2.1, View.canon (atA m c t h0 h1).2.2.1,
        View.canon (atA m c t h0 h1).2.2.2.1, View.canon (atA m c t h0 h1).2.2.2.2.1⟩
    else p
  else if h1 : t.val % 17 ≤ 15 then
    ⟨View.canon (atB m c t h0 h1 p.ck p.cv).1, View.canon (atB m c t h0 h1 p.ck p.cv).2.1, View.canon (atB m c t h0 h1 p.ck p.cv).2.2.1,
      View.canon (atB m c t h0 h1 p.ck p.cv).2.2.2.1, View.canon (atB m c t h0 h1 p.ck p.cv).2.2.2.2.1⟩
  else
    ⟨p.dq, View.canon (atC m c t h0 h1 p.dq p.ck p.cv).1, View.canon (atC m c t h0 h1 p.dq p.ck p.cv).2.1,
      View.canon (atC m c t h0 h1 p.dq p.ck p.cv).2.2.1, View.canon (atC m c t h0 h1 p.dq p.ck p.cv).2.2.2.1⟩

/-- What the points below `n` leave in the end. -/
def lefts (c : Dev nD) : ℕ → Left F
  | 0 => ⟨View.canon [], View.canon [], View.canon [], View.canon [], View.canon []⟩
  | n + 1 => if h : n < cfg0.N then left m c ⟨n, h⟩ (lefts c n) else lefts c n

theorem lefts_succ (c : Dev nD) (t : Fin cfg0.N) : lefts m c (t.val + 1) = left m c t (lefts m c t.val) := by
  rw [lefts, dif_pos t.isLt]

set_option maxHeartbeats 4000000 in
theorem left_A (c : Dev nD) (t : Fin cfg0.N) (p : Left F) (h0 : t.val % 17 = 0) (h1 : t.val % 17 ≤ 15) : left m c t p =
    ⟨View.canon (atA m c t h0 h1).1, View.canon (atA m c t h0 h1).2.1, View.canon (atA m c t h0 h1).2.2.1,
      View.canon (atA m c t h0 h1).2.2.2.1, View.canon (atA m c t h0 h1).2.2.2.2.1⟩ := by
  rw [left, dif_pos h0, dif_pos h1]
set_option maxHeartbeats 4000000 in
theorem left_B (c : Dev nD) (t : Fin cfg0.N) (p : Left F) (h0 : ¬t.val % 17 = 0) (h1 : t.val % 17 ≤ 15) : left m c t p =
    ⟨View.canon (atB m c t h0 h1 p.ck p.cv).1, View.canon (atB m c t h0 h1 p.ck p.cv).2.1, View.canon (atB m c t h0 h1 p.ck p.cv).2.2.1,
      View.canon (atB m c t h0 h1 p.ck p.cv).2.2.2.1, View.canon (atB m c t h0 h1 p.ck p.cv).2.2.2.2.1⟩ := by
  rw [left, dif_neg h0, dif_pos h1]
set_option maxHeartbeats 4000000 in
theorem left_C (c : Dev nD) (t : Fin cfg0.N) (p : Left F) (h0 : ¬t.val % 17 = 0) (h1 : ¬t.val % 17 ≤ 15) : left m c t p =
    ⟨p.dq, View.canon (atC m c t h0 h1 p.dq p.ck p.cv).1, View.canon (atC m c t h0 h1 p.dq p.ck p.cv).2.1,
      View.canon (atC m c t h0 h1 p.dq p.ck p.cv).2.2.1, View.canon (atC m c t h0 h1 p.dq p.ck p.cv).2.2.2.1⟩ := by
  rw [left, dif_neg h0, dif_neg h1]

/-- The scratch the kernel does not carry, at anything. -/
def loose (c : Dev nD) : sProp 𝕄 :=
  iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d))

/-- The invariant before point `n`: the carried scratch holds what the points below `n` left (at the first point: anything). -/
def Inv (c : Dev nD) (n : ℕ) : sProp 𝕄 :=
  iprop(loose (F := F) c ∗ (∃ d7 d8, ⌜n ≠ 0 → d7 = (lefts m c n).ck ∧ d8 = (lefts m c n).cv⌝
    ∗ owns (c : Thread nD τ) scM0_7 fullShare d7 ∗ owns (c : Thread nD τ) scM0_8 fullShare d8) ∗ (∃ r, prngReg c r))

/-- The pipeline's proof data: each input's buffer keeps its block, the outputs' hold what `lefts` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (lefts m c (t.val + 1)).dq
    | ⟨11, _⟩ => (lefts m c (t.val + 1)).dk
    | ⟨12, _⟩ => (lefts m c (t.val + 1)).dv
  Φ t := Inv m c t.val
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = (lefts m c (t.val + 1)).dq := by dsimp only [dats]
theorem after_11 (c : Dev nD) (t : Fin cfg0.N) : (dats m 0 c).after 11 t = (lefts m c (t.val + 1)).dk := by dsimp only [dats]
theorem after_12 (c : Dev nD) (t : Fin cfg0.N) : (dats m 0 c).after 12 t = (lefts m c (t.val + 1)).dv := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

/-- Output window 10 is idle exactly at the last point of a head pair. -/
theorem idle_10 : ∀ t : Fin cfg0.N, cfg0.idle 10 (grid0.coords t) = !decide (t.val % 17 ≤ 15) := by decide +kernel
/-- Output window 10 is written back at every point but the last but one of a head pair. -/
theorem flush_10 : ∀ t : Fin cfg0.N, (cfg0.win 10).flush t = !decide (t.val % 17 = 15) := by decide +kernel
theorem fresh_10 (n : ℕ) (hn : n ≤ cfg0.N) : cfg0.fresh 10 n = !decide (n % 17 = 16) :=
  cfg0.fresh_tab 10 (fun n => !decide (n % 17 = 16)) rfl (fun t => by
    have e1 : cfg0.idle 10 (cfg0.grid.coords t) = !decide (t.val % 17 ≤ 15) := idle_10 t
    show (!decide ((t.val + 1) % 17 = 16)) = _
    rw [flush_10 t, e1]
    by_cases h : t.val % 17 = 15
    · have e2 : (t.val + 1) % 17 = 16 := by omega
      simp [h, e2]
    · have e2 : ¬(t.val + 1) % 17 = 16 := by omega
      simp [h, e2]) n hn

/-- At the last point of a head pair the buffer of window 10 still holds what the point before left. -/
theorem before_10 (c : Dev nD) (t : Fin cfg0.N) (h1 : ¬t.val % 17 ≤ 15) (d) :
    (dats m 0 c).before 10 t d = (lefts m c t.val).dq := by
  have hf : cfg0.fresh 10 t.val = false := by
    rw [fresh_10 t.val t.isLt.le, show t.val % 17 = 16 by omega]; rfl
  rw [(dats m 0 c).before_out_traj 10 rfl (fun _ _ => rfl) (fun s hs hi hfr => by
    have e1 : cfg0.idle 10 (cfg0.grid.coords s) = !decide (s.val % 17 ≤ 15) := idle_10 s
    have hs1 : ¬s.val % 17 ≤ 15 := by
      intro h; rw [e1, decide_eq_true h] at hi; exact absurd hi (by decide)
    rw [after_10, after_10, lefts_succ, left_C m c s _ (by omega) hs1]
    exact congrArg (fun n => (lefts m c n).dq) (show s.val = s.val - 1 + 1 by omega)) t.val t rfl d, hf]
  rw [if_neg (by decide), after_10]
  exact congrArg (fun n => (lefts m c n).dq) (show t.val - 1 + 1 = t.val by omega)

/-- Before the body at point `t`: the invariant and every window's buffer. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- After it. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

/-- A buffer whose writes cover it holds their canonical contents. -/
theorem owns_canon (c : Dev nD) {sp : Space} {s : Shape} {e : EltTy} (M : Memref sig .tc sp s e) (f : M.view.ty.Contents (Elt F))
    (L : List (View.Piece (Elt F) s e)) (h : ∀ y, ∃ p ∈ L, y ∈ p.1.set) :
    (M.view.loc (c : Thread nD τ) ↦[M.view.set]{fullShare} M.view.writes (Elt F) f L : sProp 𝕄)
      ⊢ owns (c : Thread nD τ) M fullShare (View.canon L) := by
  unfold owns; iintro H; iexists _; isplitr
  swap; · iexact H
  ipureintro; exact View.read_writes_eq_canon M.view f L h

/-- A written buffer holds something. -/
theorem owns_any (c : Dev nD) {sp : Space} {s : Shape} {e : EltTy} (M : Memref sig .tc sp s e) (f : M.view.ty.Contents (Elt F))
    (L : List (View.Piece (Elt F) s e)) :
    (M.view.loc (c : Thread nD τ) ↦[M.view.set]{fullShare} M.view.writes (Elt F) f L : sProp 𝕄)
      ⊢ iprop(∃ d, owns (c : Thread nD τ) M fullShare d) := by
  unfold owns; iintro H; iexists _, _; isplitr
  swap; · iexact H
  ipureintro; rfl

theorem leaves_0 (c : Dev nD) (t : Fin cfg0.N) : (dats m 0 c).leavesExact 0 t = owns (c : Thread nD τ) (ms0_0 t) fullShare ((dats m 0 c).after 0 t) := by
  unfold Dat.leavesExact; rw [liveAt0_0 t]
theorem leaves_1 (c : Dev nD) (t : Fin cfg0.N) : (dats m 0 c).leavesExact 1 t = owns (c : Thread nD τ) (ms0_1 t) fullShare ((dats m 0 c).after 1 t) := by
  unfold Dat.leavesExact; rw [liveAt0_1 t]
theorem leaves_2 (c : Dev nD) (t : Fin cfg0.N) : (dats m 0 c).leavesExact 2 t = owns (c : Thread nD τ) (ms0_2 t) fullShare ((dats m 0 c).after 2 t) := by
  unfold Dat.leavesExact; rw [liveAt0_2 t]
theorem leaves_3 (c : Dev nD) (t : Fin cfg0.N) : (dats m 0 c).leavesExact 3 t = owns (c : Thread nD τ) (ms0_3 t) fullShare ((dats m 0 c).after 3 t) := by
  unfold Dat.leavesExact; rw [liveAt0_3 t]
theorem leaves_4 (c : Dev nD) (t : Fin cfg0.N) : (dats m 0 c).leavesExact 4 t = owns (c : Thread nD τ) (ms0_4 t) fullShare ((dats m 0 c).after 4 t) := by
  unfold Dat.leavesExact; rw [liveAt0_4 t]
theorem leaves_5 (c : Dev nD) (t : Fin cfg0.N) : (dats m 0 c).leavesExact 5 t = owns (c : Thread nD τ) (ms0_5 t) fullShare ((dats m 0 c).after 5 t) := by
  unfold Dat.leavesExact; rw [liveAt0_5 t]
theorem leaves_6 (c : Dev nD) (t : Fin cfg0.N) : (dats m 0 c).leavesExact 6 t = owns (c : Thread nD τ) (ms0_6 t) fullShare ((dats m 0 c).after 6 t) := by
  unfold Dat.leavesExact; rw [liveAt0_6 t]
theorem leaves_7 (c : Dev nD) (t : Fin cfg0.N) : (dats m 0 c).leavesExact 7 t = owns (c : Thread nD τ) (ms0_7 t) fullShare ((dats m 0 c).after 7 t) := by
  unfold Dat.leavesExact; rw [liveAt0_7 t]
theorem leaves_8 (c : Dev nD) (t : Fin cfg0.N) : (dats m 0 c).leavesExact 8 t = owns (c : Thread nD τ) (ms0_8 t) fullShare ((dats m 0 c).after 8 t) := by
  unfold Dat.leavesExact; rw [liveAt0_8 t]
theorem leaves_9 (c : Dev nD) (t : Fin cfg0.N) : (dats m 0 c).leavesExact 9 t = owns (c : Thread nD τ) (ms0_9 t) fullShare ((dats m 0 c).after 9 t) := by
  unfold Dat.leavesExact; rw [liveAt0_9 t]
theorem leaves_11 (c : Dev nD) (t : Fin cfg0.N) : (dats m 0 c).leavesExact 11 t = owns (c : Thread nD τ) (ms0_11 t) fullShare ((dats m 0 c).after 11 t) := by
  unfold Dat.leavesExact; rw [liveAt0_11 t]
theorem leaves_12 (c : Dev nD) (t : Fin cfg0.N) : (dats m 0 c).leavesExact 12 t = owns (c : Thread nD τ) (ms0_12 t) fullShare ((dats m 0 c).after 12 t) := by
  unfold Dat.leavesExact; rw [liveAt0_12 t]
theorem leaves_10 (c : Dev nD) (t : Fin cfg0.N) : (dats m 0 c).leavesExact 10 t = owns (c : Thread nD τ) (ms0_10 t) fullShare ((dats m 0 c).after 10 t) := by
  have e1 : cfg0.idle 10 (cfg0.grid.coords t) = !decide (t.val % 17 ≤ 15) := idle_10 t
  unfold Dat.leavesExact
  by_cases h : t.val % 17 ≤ 15
  · rw [e1, decide_eq_true h]; rfl
  · rw [e1, decide_eq_false h, flush_10 t, decide_eq_false (by omega)]; rfl

set_option maxHeartbeats 4000000 in
/-- The body at a point of case A. -/
theorem sound_A (c : Dev nD) (t : Fin cfg0.N) (h0 : t.val % 17 = 0) (h1 : t.val % 17 ≤ 15) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl]
  rw [show (dats m 0 c).Φ t.succ = Inv m c (t.val + 1) from rfl, show (dats m 0 c).Φ t.castSucc = Inv m c t.val from rfl]
  rw [leaves_0, leaves_1, leaves_2, leaves_3, leaves_4, leaves_5, leaves_6, leaves_7, leaves_8, leaves_9, leaves_10, leaves_11, leaves_12]
  rw [after_0, after_1, after_2, after_3, after_4, after_5, after_6, after_7, after_8, after_9, after_10, after_11, after_12]
  unfold Inv loose
  rw [lefts_succ]
  rw [left_A m c t _ h0 h1]
  iintro ⟨⟨⟨HS0, HS1, HS2, HS3, HS4, HS5, HS6⟩, ⟨%d7, %d8, %hd, HS7, HS8⟩, Hg⟩, Ho, ⟨%z0, H0⟩, ⟨%z1, H1⟩, ⟨%z2, H2⟩, ⟨%z3, H3⟩, ⟨%z4, H4⟩, ⟨%z5, H5⟩, ⟨%z6, H6⟩, ⟨%z7, H7⟩, ⟨%z8, H8⟩, ⟨%z9, H9⟩, ⟨%z10, H10⟩, ⟨%z11, H11⟩, ⟨%z12, H12⟩⟩
  iapply ((atA m c t h0 h1).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexists _; iexact HS7
  isplitl [HS8]; · iexists _; iexact HS8
  iintro ⟨H0, H1, H2, H3, H4, H5, H6, H7, H8, H9, ⟨%e10, H10⟩, ⟨%e11, H11⟩, ⟨%e12, H12⟩, HS0, HS1, HS2, HS3, HS4, HS5, HS6, ⟨%es7, HS7⟩, ⟨%es8, HS8⟩⟩
  isplitl [HS0 HS1 HS2 HS3 HS4 HS5 HS6 HS7 HS8 Hg]
  · isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5]; · iexact HS5
      iexact HS6
    isplitl [HS7 HS8]
    · iexists _, _; isplitr; swap
      · isplitl [HS7]; · iapply (owns_canon c _ _ _ (coverA_ck m c t h0 h1)); iexact HS7
        iapply (owns_canon c _ _ _ (coverA_cv m c t h0 h1)); iexact HS8
      ipureintro; exact fun _ => ⟨rfl, rfl⟩
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iapply (owns_canon c _ _ _ (coverA_dq m c t h0 h1)); iexact H10
  isplitl [H11]; · iapply (owns_canon c _ _ _ (coverA_dk m c t h0 h1)); iexact H11
  iapply (owns_canon c _ _ _ (coverA_dv m c t h0 h1)); iexact H12

set_option maxHeartbeats 4000000 in
/-- The body at a point of case B. -/
theorem sound_B (c : Dev nD) (t : Fin cfg0.N) (h0 : ¬t.val % 17 = 0) (h1 : t.val % 17 ≤ 15) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl]
  rw [show (dats m 0 c).Φ t.succ = Inv m c (t.val + 1) from rfl, show (dats m 0 c).Φ t.castSucc = Inv m c t.val from rfl]
  rw [leaves_0, leaves_1, leaves_2, leaves_3, leaves_4, leaves_5, leaves_6, leaves_7, leaves_8, leaves_9, leaves_10, leaves_11, leaves_12]
  rw [after_0, after_1, after_2, after_3, after_4, after_5, after_6, after_7, after_8, after_9, after_10, after_11, after_12]
  unfold Inv loose
  rw [lefts_succ]
  rw [left_B m c t _ h0 h1]
  have hp : t.val ≠ 0 := by intro h; rw [h] at h0; exact h0 rfl
  iintro ⟨⟨⟨HS0, HS1, HS2, HS3, HS4, HS5, HS6⟩, ⟨%d7, %d8, %hd, HS7, HS8⟩, Hg⟩, Ho, ⟨%z0, H0⟩, ⟨%z1, H1⟩, ⟨%z2, H2⟩, ⟨%z3, H3⟩, ⟨%z4, H4⟩, ⟨%z5, H5⟩, ⟨%z6, H6⟩, ⟨%z7, H7⟩, ⟨%z8, H8⟩, ⟨%z9, H9⟩, ⟨%z10, H10⟩, ⟨%z11, H11⟩, ⟨%z12, H12⟩⟩
  obtain ⟨rfl, rfl⟩ := hd hp
  iapply ((atB m c t h0 h1 (lefts m c t.val).ck (lefts m c t.val).cv).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  iintro ⟨H0, H1, H2, H3, H4, H5, H6, H7, H8, H9, ⟨%e10, H10⟩, ⟨%e11, H11⟩, ⟨%e12, H12⟩, HS0, HS1, HS2, HS3, HS4, HS5, HS6, ⟨%es7, HS7⟩, ⟨%es8, HS8⟩⟩
  isplitl [HS0 HS1 HS2 HS3 HS4 HS5 HS6 HS7 HS8 Hg]
  · isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5]; · iexact HS5
      iexact HS6
    isplitl [HS7 HS8]
    · iexists _, _; isplitr; swap
      · isplitl [HS7]; · iapply (owns_canon c _ _ _ (coverB_ck m c t h0 h1 (lefts m c t.val).ck (lefts m c t.val).cv)); iexact HS7
        iapply (owns_canon c _ _ _ (coverB_cv m c t h0 h1 (lefts m c t.val).ck (lefts m c t.val).cv)); iexact HS8
      ipureintro; exact fun _ => ⟨rfl, rfl⟩
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iapply (owns_canon c _ _ _ (coverB_dq m c t h0 h1 (lefts m c t.val).ck (lefts m c t.val).cv)); iexact H10
  isplitl [H11]; · iapply (owns_canon c _ _ _ (coverB_dk m c t h0 h1 (lefts m c t.val).ck (lefts m c t.val).cv)); iexact H11
  iapply (owns_canon c _ _ _ (coverB_dv m c t h0 h1 (lefts m c t.val).ck (lefts m c t.val).cv)); iexact H12

set_option maxHeartbeats 4000000 in
/-- The body at a point of case C. -/
theorem sound_C (c : Dev nD) (t : Fin cfg0.N) (h0 : ¬t.val % 17 = 0) (h1 : ¬t.val % 17 ≤ 15) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl]
  rw [show (dats m 0 c).Φ t.succ = Inv m c (t.val + 1) from rfl, show (dats m 0 c).Φ t.castSucc = Inv m c t.val from rfl]
  rw [leaves_0, leaves_1, leaves_2, leaves_3, leaves_4, leaves_5, leaves_6, leaves_7, leaves_8, leaves_9, leaves_10, leaves_11, leaves_12]
  rw [after_0, after_1, after_2, after_3, after_4, after_5, after_6, after_7, after_8, after_9, after_10, after_11, after_12]
  unfold Inv loose
  rw [lefts_succ]
  rw [left_C m c t _ h0 h1]
  have hp : t.val ≠ 0 := by intro h; rw [h] at h0; exact h0 rfl
  iintro ⟨⟨⟨HS0, HS1, HS2, HS3, HS4, HS5, HS6⟩, ⟨%d7, %d8, %hd, HS7, HS8⟩, Hg⟩, Ho, ⟨%z0, H0⟩, ⟨%z1, H1⟩, ⟨%z2, H2⟩, ⟨%z3, H3⟩, ⟨%z4, H4⟩, ⟨%z5, H5⟩, ⟨%z6, H6⟩, ⟨%z7, H7⟩, ⟨%z8, H8⟩, ⟨%z9, H9⟩, ⟨%z10, H10⟩, ⟨%z11, H11⟩, ⟨%z12, H12⟩⟩
  obtain ⟨rfl, rfl⟩ := hd hp
  rw [before_10 m c t h1]
  iapply ((atC m c t h0 h1 (lefts m c t.val).dq (lefts m c t.val).ck (lefts m c t.val).cv).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  iintro ⟨H0, H1, H2, H3, H4, H5, H6, H7, H8, H9, H10, ⟨%e11, H11⟩, ⟨%e12, H12⟩, HS0, HS1, HS2, HS3, HS4, ⟨%e5, HS5⟩, ⟨%e6, HS6⟩, ⟨%es7, HS7⟩, ⟨%es8, HS8⟩⟩
  isplitl [HS0 HS1 HS2 HS3 HS4 HS5 HS6 HS7 HS8 Hg]
  · isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5]; · iapply (owns_any c _ _ _); iexact HS5
      iapply (owns_any c _ _ _); iexact HS6
    isplitl [HS7 HS8]
    · iexists _, _; isplitr; swap
      · isplitl [HS7]; · iapply (owns_canon c _ _ _ (coverC_ck m c t h0 h1 (lefts m c t.val).dq (lefts m c t.val).ck (lefts m c t.val).cv)); iexact HS7
        iapply (owns_canon c _ _ _ (coverC_cv m c t h0 h1 (lefts m c t.val).dq (lefts m c t.val).ck (lefts m c t.val).cv)); iexact HS8
      ipureintro; exact fun _ => ⟨rfl, rfl⟩
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iapply (owns_canon c _ _ _ (coverC_dk m c t h0 h1 (lefts m c t.val).dq (lefts m c t.val).ck (lefts m c t.val).cv)); iexact H11
  iapply (owns_canon c _ _ _ (coverC_dv m c t h0 h1 (lefts m c t.val).dq (lefts m c t.val).ck (lefts m c t.val).cv)); iexact H12

theorem sound_body (c : Dev nD) (t : Fin cfg0.N) :
    bodyPre m c t ⊢ wp frame (wpE (defs₀ (F := F)) Variants.none c none) Set.univ (bodyAt0 t) (fun _ => bodyPost m c t) := by
  by_cases h0 : t.val % 17 = 0
  · exact sound_A m c t h0 (by omega)
  · by_cases h1 : t.val % 17 ≤ 15
    · exact sound_B m c t h0 h1
    · exact sound_C m c t h0 h1

/-- The body table's row at point `t`'s buffers is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Inv m c 0 from rfl, PhiA0_eq]
  unfold Inv loose
  iintro ⟨⟨HS0, HS1, HS2, HS3, HS4, HS5, HS6, ⟨%d7, HS7⟩, ⟨%d8, HS8⟩⟩, Hg⟩
  isplitl [HS0 HS1 HS2 HS3 HS4 HS5 HS6]
  · isplitl [HS0]; · iexact HS0
    isplitl [HS1]; · iexact HS1
    isplitl [HS2]; · iexact HS2
    isplitl [HS3]; · iexact HS3
    isplitl [HS4]; · iexact HS4
    isplitl [HS5]; · iexact HS5
    iexact HS6
  isplitl [HS7 HS8]
  · iexists d7, d8; isplitr
    · ipureintro; exact fun h => absurd rfl h
    isplitl [HS7]; · iexact HS7
    iexact HS8
  iexact Hg

theorem hout (c : Dev nD) : (dats m 0 c).Φ (Fin.last cfg0.N) ⊢ Pipeline.ΦA spec0 c := by
  rw [show (dats m 0 c).Φ (Fin.last cfg0.N) = Inv m c cfg0.N from rfl, PhiA0_eq]
  unfold Inv loose
  iintro ⟨⟨HS0, HS1, HS2, HS3, HS4, HS5, HS6⟩, ⟨%d7, %d8, -, HS7, HS8⟩, Hg⟩
  isplitl [HS0 HS1 HS2 HS3 HS4 HS5 HS6 HS7 HS8]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexists d7; iexact HS7
    iexists d8; iexact HS8
  iexact Hg

set_option backward.isDefEq.respectTransparency.types false in
/-- The launch: the arrays end at what the proof data says, the counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  θ_run_and (frame_of m ρ (dats m) (A_eq m) (run_main m ρ)) ((θ_run defs _ _).mono (fun _ h => h.2) (run_main_quiescent m ρ))

end Cert.KernelIdeal.Attn

end
-- ==== Proof.Wg.Values.lean ====
/- What one grid point of the weight gradient adds to each of its blocks, and what they hold at the end. -/
module

public import proofs.«01_k».proof.Proof.Gen.QueryWeightGradIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.QueryWeightGradIdeal.Sum

open Cert.QueryWeightGradIdeal.Gen
open Idealize.ShloMosaic Idealize.ShloMosaic.TcCoe

/-- Where later stores already cover, earlier ones do not matter. -/
theorem kept {S : Shape} {e : EltTy} (L' : List (View.Piece (Elt Ideal) S e)) :
    ∀ (L : List (View.Piece (Elt Ideal) S e)) (y : S.Idx), (∃ p ∈ L, y ∈ p.1.set) → View.canon (L ++ L') y = View.canon L y
  | [], _, h => by obtain ⟨p, hp, _⟩ := h; simp at hp
  | p :: L, y, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine kept L' L y ?_
      obtain ⟨q, hq, hy⟩ := h
      rcases List.mem_cons.mp hq with rfl | hq'
      · exact absurd hy hm
      · exact ⟨q, hq', hy⟩

/-- What a point's rows add at `(block, row, column)`. -/
def part (a : Vec Ideal S512x1024 .bf16) (b : Vec Ideal S512x4096 .bf16) (y : S8x1024x512.Idx) : Elt Ideal .f32 :=
  ∑ k : Fin 512, a (ix2 k (y 1)) * b (ix2 k ⟨512 * (y 0).val + (y 2).val, by
    have := (y 0).isLt; have := (y 2).isLt; simp only [S8x1024x512, Matrix.cons_val] at *; omega⟩)

/-- A later point adds its part. -/
theorem later (c : Dev nD) (i : grid0.Coords) (arg1 : Memref sig .tc .vmem S512x1024 .bf16) (harg1 : arg1.IsWhole)
    (arg2 : Memref sig .tc .vmem S512x4096 .bf16) (harg2 : arg2.IsWhole) (arg3 : Memref sig .tc .vmem S8x1024x512 .f32)
    (harg3 : arg3.IsWhole) (hc0 : ¬cond0_0 i) (x0 : Vec Ideal S512x1024 .bf16) (x1 : Vec Ideal S512x4096 .bf16)
    (xo : Vec Ideal S8x1024x512 .f32) (y : S8x1024x512.Idx) :
    out0_B_2 (F := Ideal) c i arg1 harg1 arg2 harg2 arg3 harg3 hc0 x0 x1 xo y = xo y + part x0 x1 y := by
  frame_out
  canon_tiles x h
  all_goals open_payloads
  all_goals pointwise [part]
  all_goals blk_point

/-- The first point leaves its part alone. -/
theorem first (c : Dev nD) (i : grid0.Coords) (arg1 : Memref sig .tc .vmem S512x1024 .bf16) (harg1 : arg1.IsWhole)
    (arg2 : Memref sig .tc .vmem S512x4096 .bf16) (harg2 : arg2.IsWhole) (arg3 : Memref sig .tc .vmem S8x1024x512 .f32)
    (harg3 : arg3.IsWhole) (hc0 : cond0_0 i) (x0 : Vec Ideal S512x1024 .bf16) (x1 : Vec Ideal S512x4096 .bf16)
    (y : S8x1024x512.Idx) :
    out0_A_2 (F := Ideal) c i arg1 harg1 arg2 harg2 arg3 harg3 hc0 x0 x1 y = 0 + part x0 x1 y := by
  frame_open
  simp (disch := decide) only [↓View.readCov_skip, ↓View.readCov_fill]
  frame_out
  refine (kept [_] [_, _, _, _, _, _, _, _] y ?_).trans ?_
  · exact View.cover_of_tiledL (s := S8x1024x512) _ S1x1024x512.size (by sl_kernel_rfl) y
  canon_tiles x h
  all_goals open_payloads
  all_goals pointwise [part]
  all_goals blk_point

end Cert.QueryWeightGradIdeal.Sum

end
-- ==== Proof.Wg.Array.lean ====
/- The weight gradient after the whole grid is the sum over all rows, and the reference computes the same sum. -/
module

public import proofs.«01_k».proof.Proof.Wg.Values
public import proofs.«01_k».proof.Proof.Gen.QueryWeightGradReferenceIdeal.Read

@[expose] public section

set_option maxRecDepth 16384

noncomputable section

namespace Cert.QueryWeightGradIdeal.Sum

open Cert.QueryWeightGradIdeal.Gen
open Idealize.ShloMosaic Idealize.ShloMosaic.TcCoe

/-- Rows of activations against rows of cotangents, summed over the 16384 tokens. -/
def product (x : Vec Ideal S16384x1024 .f32) (d : Vec Ideal S16384x4096 .bf16) : Vec Ideal S8x1024x512 .f32 := fun i =>
  ∑ l : Fin 16384, x (ix2 l (i 1)) * d (ix2 l ⟨512 * (i 0).val + (i 2).val, by
    have := (i 0).isLt; have := (i 2).isLt; simp only [S8x1024x512, Matrix.cons_val] at *; omega⟩)

/-- Point `t` reads row block `t` of both arrays. -/
theorem rowBlock : ∀ t : Fin cfg0.N, win0_0.index t 0 = t.val ∧ win0_0.index t 1 = 0 ∧ win0_1.index t 0 = t.val ∧ win0_1.index t 1 = 0
    ∧ win0_2.index t 0 = 0 ∧ win0_2.index t 1 = 0 ∧ win0_2.index t 2 = 0 := by
  decide +kernel

variable (m : (ℓ : Loc nD τ sig) → Buf (Elt Ideal) ℓ)

/-- The block after the last point. -/
theorem total (c : Dev nD) (t : Fin cfg0.N) (ht : t.val + 1 = cfg0.N) (y : S8x1024x512.Idx) :
    outsAt0 m c t.val t.isLt y = product (m ((c : Thread nD τ).loc main_arg0)) (m ((c : Thread nD τ).loc main_arg1)) y := by
  rw [Pipeline.eq_sum_fin_of_reset_step_apply_last (fun n h => outsAt0 m c n h) 32 (fun _ => 0) _
    (fun t h j => by rw [outsAt0_A m c t h]; exact first ..)
    (fun t h j => by rw [outsAt0_B m c t h]; exact later ..)
    (le_of_eq N_0) t ht y, zero_add]
  unfold product
  refine Fin.sum_mul_add_congr fun t k hl => ?_
  congr 1 <;> blk_ext! [iblk, V, rowBlock t]

/-- The result array after the run. -/
theorem array (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2]
  have ht : t.val + 1 = cfg0.N := by
    have h := (flush0_2 t).mp hf
    have h' : t.val < 32 := lt_of_lt_of_eq t.isLt N_0
    exact (by omega : t.val + 1 = 32).trans N_0.symm
  refine (total m c t ht _).trans ?_
  congr 1
  blk_ext [rowBlock t]

/-- The reference's array. -/
theorem reference (x : Vec Ideal S16384x1024 .f32) (d : Vec Ideal S16384x4096 .bf16) :
    Cert.QueryWeightGradReferenceIdeal.Read.val_main_v8 (F := Ideal) x d = product x d := by
  funext i
  rw [Cert.QueryWeightGradReferenceIdeal.Read.val_main_v8_apply, Cert.QueryWeightGradReferenceIdeal.Read.val_main_v7_apply,
    Cert.QueryWeightGradReferenceIdeal.Read.val_main_v6_apply, Cert.QueryWeightGradReferenceIdeal.Read.val_main_v5_apply]
  unfold product
  refine Finset.sum_congr rfl fun k _ => ?_
  rw [Cert.QueryWeightGradReferenceIdeal.Read.val_main_v4_apply, mul_comm]
  refine congrArg₂ (· * ·) (congrArg x ?_) (congrArg d ?_) <;> blk_ext

end Cert.QueryWeightGradIdeal.Sum

end
-- ==== Proof.Wg.Claims.lean ====
/- The claims about the weight gradient of the query and gate projection. -/
module

public import proofs.«01_k».proof.Defs
public import proofs.«01_k».proof.Proof.Wg.Array
public import proofs.«01_k».proof.Proof.Gen.QueryWeightGrad.Frame
public import proofs.«01_k».proof.Proof.Gen.QueryWeightGradReferenceIdeal.Run
public import Idealize.ShloMosaic.Lib.Quiescent

@[expose] public section

noncomputable section

namespace Cert.QueryWeightGradIdeal.Sum

open Idealize.ShloMosaic Idealize.ShloMosaic.TcCoe Idealize.SL.Sem

/-- The kernel's frame. -/
theorem frame_kernel : Cert.quiescent_QueryWeightGrad := fun m ρ _ => Cert.QueryWeightGrad.Gen.frame m ρ

/-- Its idealization's frame. -/
theorem frame_kernel_ideal : Cert.quiescent_QueryWeightGradIdeal := fun m ρ _ => Cert.QueryWeightGradIdeal.Gen.frame m ρ

/-- The reference's frame. -/
theorem frame_reference : Cert.quiescent_QueryWeightGradReferenceIdeal := fun m ρ _ =>
  (θ_run Cert.QueryWeightGradReferenceIdeal.defs _ _).mono (fun r h => ⟨fun c => (h c).2,
      Idealize.ShloMosaic.sem_eq_zero_of_no_sems (by decide) r.2⟩)
    (Cert.QueryWeightGradReferenceIdeal.Value.run (F := Ideal) m ρ)

/-- Nothing was rewritten. -/
theorem preserves : Cert.preserves_QueryWeightGrad_QueryWeightGradIdeal := trivial

/-- Both programs end with the sum over all rows. -/
theorem algebraic : Cert.algebraic_QueryWeightGradIdeal_QueryWeightGradReferenceIdeal := by
  intro m ρ m' ρ' _ hagree
  refine ⟨_, Cert.QueryWeightGradIdeal.Value.run_blocks (F := Ideal) m ρ, ?_⟩
  refine (θ_run Cert.QueryWeightGradReferenceIdeal.defs _ _).mono (fun _ h c => ⟨(h c).1.trans ?_, (h c).2⟩)
    (Cert.QueryWeightGradReferenceIdeal.Value.run (F := Ideal) m' ρ')
  rw [(hagree c).1, (hagree c).2]
  exact (Cert.QueryWeightGradReferenceIdeal.Read.val_main_v8_eq (F := Ideal) _ _).trans ((reference _ _).trans (array m c).symm)

end Cert.QueryWeightGradIdeal.Sum

end
-- ==== Proof.Wa.Values.lean ====
/- What one grid point of the weight gradient adds to each of its blocks, and what they hold at the end. -/
module

public import proofs.«01_k».proof.Proof.Gen.InputWeightGradIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.InputWeightGradIdeal.Sum

open Cert.InputWeightGradIdeal.Gen
open Idealize.ShloMosaic Idealize.ShloMosaic.TcCoe

/-- Where later stores already cover, earlier ones do not matter. -/
theorem kept {S : Shape} {e : EltTy} (L' : List (View.Piece (Elt Ideal) S e)) :
    ∀ (L : List (View.Piece (Elt Ideal) S e)) (y : S.Idx), (∃ p ∈ L, y ∈ p.1.set) → View.canon (L ++ L') y = View.canon L y
  | [], _, h => by obtain ⟨p, hp, _⟩ := h; simp at hp
  | p :: L, y, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine kept L' L y ?_
      obtain ⟨q, hq, hy⟩ := h
      rcases List.mem_cons.mp hq with rfl | hq'
      · exact absurd hy hm
      · exact ⟨q, hq', hy⟩

/-- What a point's rows add at `(block, row, column)`. -/
def part (a : Vec Ideal S1024x1024 .bf16) (b : Vec Ideal S1024x3072 .bf16) (y : S8x1024x384.Idx) : Elt Ideal .f32 :=
  ∑ k : Fin 1024, a (ix2 k (y 1)) * b (ix2 k ⟨384 * (y 0).val + (y 2).val, by
    have := (y 0).isLt; have := (y 2).isLt; simp only [S8x1024x384, Matrix.cons_val] at *; omega⟩)

/-- A later point adds its part. -/
theorem later (c : Dev nD) (i : grid0.Coords) (arg1 : Memref sig .tc .vmem S1024x1024 .bf16) (harg1 : arg1.IsWhole)
    (arg2 : Memref sig .tc .vmem S1024x3072 .bf16) (harg2 : arg2.IsWhole) (arg3 : Memref sig .tc .vmem S8x1024x384 .f32)
    (harg3 : arg3.IsWhole) (hc0 : ¬cond0_0 i) (x0 : Vec Ideal S1024x1024 .bf16) (x1 : Vec Ideal S1024x3072 .bf16)
    (xo : Vec Ideal S8x1024x384 .f32) (y : S8x1024x384.Idx) :
    out0_B_2 (F := Ideal) c i arg1 harg1 arg2 harg2 arg3 harg3 hc0 x0 x1 xo y = xo y + part x0 x1 y := by
  frame_out
  canon_tiles x h
  all_goals open_payloads
  all_goals pointwise [part]
  all_goals blk_point

/-- The first point leaves its part alone. -/
theorem first (c : Dev nD) (i : grid0.Coords) (arg1 : Memref sig .tc .vmem S1024x1024 .bf16) (harg1 : arg1.IsWhole)
    (arg2 : Memref sig .tc .vmem S1024x3072 .bf16) (harg2 : arg2.IsWhole) (arg3 : Memref sig .tc .vmem S8x1024x384 .f32)
    (harg3 : arg3.IsWhole) (hc0 : cond0_0 i) (x0 : Vec Ideal S1024x1024 .bf16) (x1 : Vec Ideal S1024x3072 .bf16)
    (y : S8x1024x384.Idx) :
    out0_A_2 (F := Ideal) c i arg1 harg1 arg2 harg2 arg3 harg3 hc0 x0 x1 y = 0 + part x0 x1 y := by
  frame_open
  simp (disch := decide) only [↓View.readCov_skip, ↓View.readCov_fill]
  frame_out
  refine (kept [_] [_, _, _, _, _, _, _, _] y ?_).trans ?_
  · exact View.cover_of_tiledL (s := S8x1024x384) _ S1x1024x384.size (by sl_kernel_rfl) y
  canon_tiles x h
  all_goals open_payloads
  all_goals pointwise [part]
  all_goals blk_point

end Cert.InputWeightGradIdeal.Sum

end
-- ==== Proof.Wa.Array.lean ====
/- The weight gradient after the whole grid is the sum over all rows, and the reference computes the same sum. -/
module

public import proofs.«01_k».proof.Proof.Wa.Values
public import proofs.«01_k».proof.Proof.Gen.InputWeightGradReferenceIdeal.Read

@[expose] public section

set_option maxRecDepth 16384

noncomputable section

namespace Cert.InputWeightGradIdeal.Sum

open Cert.InputWeightGradIdeal.Gen
open Idealize.ShloMosaic Idealize.ShloMosaic.TcCoe

/-- Rows of activations against rows of cotangents, summed over the 16384 tokens. -/
def product (x : Vec Ideal S16384x1024 .f32) (d : Vec Ideal S16384x3072 .bf16) : Vec Ideal S8x1024x384 .f32 := fun i =>
  ∑ l : Fin 16384, x (ix2 l (i 1)) * d (ix2 l ⟨384 * (i 0).val + (i 2).val, by
    have := (i 0).isLt; have := (i 2).isLt; simp only [S8x1024x384, Matrix.cons_val] at *; omega⟩)

/-- Point `t` reads row block `t` of both arrays. -/
theorem rowBlock : ∀ t : Fin cfg0.N, win0_0.index t 0 = t.val ∧ win0_0.index t 1 = 0 ∧ win0_1.index t 0 = t.val ∧ win0_1.index t 1 = 0
    ∧ win0_2.index t 0 = 0 ∧ win0_2.index t 1 = 0 ∧ win0_2.index t 2 = 0 := by
  decide +kernel

variable (m : (ℓ : Loc nD τ sig) → Buf (Elt Ideal) ℓ)

/-- The block after the last point. -/
theorem total (c : Dev nD) (t : Fin cfg0.N) (ht : t.val + 1 = cfg0.N) (y : S8x1024x384.Idx) :
    outsAt0 m c t.val t.isLt y = product (m ((c : Thread nD τ).loc main_arg0)) (m ((c : Thread nD τ).loc main_arg1)) y := by
  rw [Pipeline.eq_sum_fin_of_reset_step_apply_last (fun n h => outsAt0 m c n h) 16 (fun _ => 0) _
    (fun t h j => by rw [outsAt0_A m c t h]; exact first ..)
    (fun t h j => by rw [outsAt0_B m c t h]; exact later ..)
    (le_of_eq N_0) t ht y, zero_add]
  unfold product
  refine Fin.sum_mul_add_congr fun t k hl => ?_
  congr 1 <;> blk_ext! [iblk, V, rowBlock t]

/-- The result array after the run. -/
theorem array (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2]
  have ht : t.val + 1 = cfg0.N := by
    have h := (flush0_2 t).mp hf
    have h' : t.val < 16 := lt_of_lt_of_eq t.isLt N_0
    exact (by omega : t.val + 1 = 16).trans N_0.symm
  refine (total m c t ht _).trans ?_
  congr 1
  blk_ext [rowBlock t]

/-- The reference's array. -/
theorem reference (x : Vec Ideal S16384x1024 .f32) (d : Vec Ideal S16384x3072 .bf16) :
    Cert.InputWeightGradReferenceIdeal.Read.val_main_v8 (F := Ideal) x d = product x d := by
  funext i
  rw [Cert.InputWeightGradReferenceIdeal.Read.val_main_v8_apply, Cert.InputWeightGradReferenceIdeal.Read.val_main_v7_apply,
    Cert.InputWeightGradReferenceIdeal.Read.val_main_v6_apply, Cert.InputWeightGradReferenceIdeal.Read.val_main_v5_apply]
  unfold product
  refine Finset.sum_congr rfl fun k _ => ?_
  rw [Cert.InputWeightGradReferenceIdeal.Read.val_main_v4_apply, mul_comm]
  refine congrArg₂ (· * ·) (congrArg x ?_) (congrArg d ?_) <;> blk_ext

end Cert.InputWeightGradIdeal.Sum

end
-- ==== Proof.Wa.Claims.lean ====
/- The claims about the weight gradient of the convolution branch's input projection. -/
module

public import proofs.«01_k».proof.Defs
public import proofs.«01_k».proof.Proof.Wa.Array
public import proofs.«01_k».proof.Proof.Gen.InputWeightGrad.Frame
public import proofs.«01_k».proof.Proof.Gen.InputWeightGradReferenceIdeal.Run
public import Idealize.ShloMosaic.Lib.Quiescent

@[expose] public section

noncomputable section

namespace Cert.InputWeightGradIdeal.Sum

open Idealize.ShloMosaic Idealize.ShloMosaic.TcCoe Idealize.SL.Sem

/-- The kernel's frame. -/
theorem frame_kernel : Cert.quiescent_InputWeightGrad := fun m ρ _ => Cert.InputWeightGrad.Gen.frame m ρ

/-- Its idealization's frame. -/
theorem frame_kernel_ideal : Cert.quiescent_InputWeightGradIdeal := fun m ρ _ => Cert.InputWeightGradIdeal.Gen.frame m ρ

/-- The reference's frame. -/
theorem frame_reference : Cert.quiescent_InputWeightGradReferenceIdeal := fun m ρ _ =>
  (θ_run Cert.InputWeightGradReferenceIdeal.defs _ _).mono (fun r h => ⟨fun c => (h c).2,
      Idealize.ShloMosaic.sem_eq_zero_of_no_sems (by decide) r.2⟩)
    (Cert.InputWeightGradReferenceIdeal.Value.run (F := Ideal) m ρ)

/-- Nothing was rewritten. -/
theorem preserves : Cert.preserves_InputWeightGrad_InputWeightGradIdeal := trivial

/-- Both programs end with the sum over all rows. -/
theorem algebraic : Cert.algebraic_InputWeightGradIdeal_InputWeightGradReferenceIdeal := by
  intro m ρ m' ρ' _ hagree
  refine ⟨_, Cert.InputWeightGradIdeal.Value.run_blocks (F := Ideal) m ρ, ?_⟩
  refine (θ_run Cert.InputWeightGradReferenceIdeal.defs _ _).mono (fun _ h c => ⟨(h c).1.trans ?_, (h c).2⟩)
    (Cert.InputWeightGradReferenceIdeal.Value.run (F := Ideal) m' ρ')
  rw [(hagree c).1, (hagree c).2]
  exact (Cert.InputWeightGradReferenceIdeal.Read.val_main_v8_eq (F := Ideal) _ _).trans ((reference _ _).trans (array m c).symm)

end Cert.InputWeightGradIdeal.Sum

end
-- ==== Proof.Wo.Values.lean ====
/- What one grid point of the weight gradient of the attention output projection adds to its block, and what the block holds at the end. -/
module

public import proofs.«01_k».proof.Proof.Gen.OutputWeightGradIdeal.Value
public import Idealize.ShloMosaic.Lib.Pipeline.ValueKit
public import Idealize.ShloMosaic.Lib.Pointwise

@[expose] public section

set_option maxRecDepth 16384

noncomputable section

namespace Cert.OutputWeightGradIdeal.Sum

open Cert.OutputWeightGradIdeal.Gen
open Idealize.ShloMosaic Idealize.ShloMosaic.TcCoe

/-- What a point's rows add at `(row, column)`. -/
def part (a b : Vec Ideal S1024x1024 .bf16) (y : S1x1024x1024.Idx) : Elt Ideal .f32 :=
  ∑ k : Fin 1024, a (ix2 k (y 1)) * b (ix2 k (y 2))

/-- A stored block is the block read plus the point's part. -/
theorem step (a b : Vec Ideal S1024x1024 .bf16) (acc : Vec Ideal S1x1024x1024 .f32) (y : S1x1024x1024.Idx) :
    k0_pay2 (F := Ideal) a acc b y = acc y + part a b y := by
  unfold k0_pay2
  pointwise [part]
  all_goals blk_point

/-- The block the first point starts from. -/
theorem blank (y : S1x1024x1024.Idx) : k0_pay1 (F := Ideal) y = 0 := by
  unfold k0_pay1
  pointwise

end Cert.OutputWeightGradIdeal.Sum

end
-- ==== Proof.Wo.Array.lean ====
/- The weight gradient of the attention output projection after the whole grid is the sum over all rows, and the reference computes the same sum. -/
module

public import proofs.«01_k».proof.Proof.Wo.Values
public import proofs.«01_k».proof.Proof.Gen.OutputWeightGradReferenceIdeal.Read

@[expose] public section

set_option maxRecDepth 16384

noncomputable section

namespace Cert.OutputWeightGradIdeal.Sum

open Cert.OutputWeightGradIdeal.Gen
open Idealize.ShloMosaic Idealize.ShloMosaic.TcCoe

/-- Rows of activations against rows of cotangents, summed over the 16384 tokens. -/
def product (x d : Vec Ideal S16384x1024 .bf16) : Vec Ideal S1x1024x1024 .f32 := fun i =>
  ∑ l : Fin 16384, x (ix2 l (i 1)) * d (ix2 l (i 2))

/-- Point `t` reads row block `t` of both arrays. -/
theorem rowBlock : ∀ t : Fin cfg0.N, win0_0.index t 0 = t.val ∧ win0_0.index t 1 = 0 ∧ win0_1.index t 0 = t.val ∧ win0_1.index t 1 = 0
    ∧ win0_2.index t 0 = 0 ∧ win0_2.index t 1 = 0 ∧ win0_2.index t 2 = 0 := by
  decide +kernel

variable (m : (ℓ : Loc nD τ sig) → Buf (Elt Ideal) ℓ)

/-- The block after the last point. -/
theorem total (c : Dev nD) (t : Fin cfg0.N) (ht : t.val + 1 = cfg0.N) (y : S1x1024x1024.Idx) :
    outsAt0 m c t.val t.isLt y = product (m ((c : Thread nD τ).loc main_arg0)) (m ((c : Thread nD τ).loc main_arg1)) y := by
  rw [Pipeline.eq_sum_fin_of_reset_step_apply_last (fun n h => outsAt0 m c n h) 16 (fun _ => 0) _
    (fun t h j => by rw [outsAt0_A m c t h, Value.out_A_2_eq, step, blank])
    (fun t h j => by rw [outsAt0_B m c t h, Value.out_B_2_eq, step])
    (le_of_eq N_0) t ht y, zero_add]
  unfold product
  refine Fin.sum_mul_add_congr fun t k hl => ?_
  congr 1 <;> blk_ext! [iblk, V, rowBlock t]

/-- The result array after the run. -/
theorem array (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2]
  have ht : t.val + 1 = cfg0.N := by
    have h := (flush0_2 t).mp hf
    have h' : t.val < 16 := lt_of_lt_of_eq t.isLt N_0
    exact (by omega : t.val + 1 = 16).trans N_0.symm
  refine (total m c t ht _).trans ?_
  congr 1
  blk_ext [rowBlock t]

/-- The reference's array. -/
theorem reference (x d : Vec Ideal S16384x1024 .bf16) :
    Cert.OutputWeightGradReferenceIdeal.Read.val_main_v7 (F := Ideal) x d = product x d := by
  funext i
  rw [Cert.OutputWeightGradReferenceIdeal.Read.val_main_v7_apply, Cert.OutputWeightGradReferenceIdeal.Read.val_main_v6_apply,
    Cert.OutputWeightGradReferenceIdeal.Read.val_main_v5_apply]
  unfold product
  refine Finset.sum_congr rfl fun k _ => ?_
  rw [Cert.OutputWeightGradReferenceIdeal.Read.val_main_v4_apply, Cert.OutputWeightGradReferenceIdeal.Read.val_main_v1_apply, mul_comm]
  refine congrArg₂ (· * ·) (congrArg x ?_) (congrArg d ?_) <;> blk_ext

end Cert.OutputWeightGradIdeal.Sum

end
-- ==== Proof.Wo.Claims.lean ====
/- The claims about the weight gradient of the attention output projection. -/
module

public import proofs.«01_k».proof.Defs
public import proofs.«01_k».proof.Proof.Wo.Array
public import proofs.«01_k».proof.Proof.Gen.OutputWeightGrad.Frame
public import proofs.«01_k».proof.Proof.Gen.OutputWeightGradReferenceIdeal.Run
public import Idealize.ShloMosaic.Lib.Quiescent

@[expose] public section

noncomputable section

namespace Cert.OutputWeightGradIdeal.Sum

open Idealize.ShloMosaic Idealize.ShloMosaic.TcCoe Idealize.SL.Sem

/-- The kernel's frame. -/
theorem frame_kernel : Cert.quiescent_OutputWeightGrad := fun m ρ _ => Cert.OutputWeightGrad.Gen.frame m ρ

/-- Its idealization's frame. -/
theorem frame_kernel_ideal : Cert.quiescent_OutputWeightGradIdeal := fun m ρ _ => Cert.OutputWeightGradIdeal.Gen.frame m ρ

/-- The reference's frame. -/
theorem frame_reference : Cert.quiescent_OutputWeightGradReferenceIdeal := fun m ρ _ =>
  (θ_run Cert.OutputWeightGradReferenceIdeal.defs _ _).mono (fun r h => ⟨fun c => (h c).2,
      Idealize.ShloMosaic.sem_eq_zero_of_no_sems (by decide) r.2⟩)
    (Cert.OutputWeightGradReferenceIdeal.Value.run (F := Ideal) m ρ)

/-- Nothing was rewritten. -/
theorem preserves : Cert.preserves_OutputWeightGrad_OutputWeightGradIdeal := trivial

/-- Both programs end with the sum over all rows. -/
theorem algebraic : Cert.algebraic_OutputWeightGradIdeal_OutputWeightGradReferenceIdeal := by
  intro m ρ m' ρ' _ hagree
  refine ⟨_, Cert.OutputWeightGradIdeal.Value.run_blocks (F := Ideal) m ρ, ?_⟩
  refine (θ_run Cert.OutputWeightGradReferenceIdeal.defs _ _).mono (fun _ h c => ⟨(h c).1.trans ?_, (h c).2⟩)
    (Cert.OutputWeightGradReferenceIdeal.Value.run (F := Ideal) m' ρ')
  rw [(hagree c).1, (hagree c).2]
  exact (Cert.OutputWeightGradReferenceIdeal.Read.val_main_v7_eq (F := Ideal) _ _).trans ((reference _ _).trans (array m c).symm)

end Cert.OutputWeightGradIdeal.Sum

end
-- ==== Proof.Wc.Values.lean ====
/- What one grid point of the weight gradient of the convolution branch's output projection adds to its block, and what the block holds at the end. -/
module

public import proofs.«01_k».proof.Proof.Gen.ConvWeightGradIdeal.Value
public import Idealize.ShloMosaic.Lib.Pipeline.ValueKit
public import Idealize.ShloMosaic.Lib.Pointwise

@[expose] public section

set_option maxRecDepth 16384

noncomputable section

namespace Cert.ConvWeightGradIdeal.Sum

open Cert.ConvWeightGradIdeal.Gen
open Idealize.ShloMosaic Idealize.ShloMosaic.TcCoe

/-- What a point's rows add at `(row, column)`. -/
def part (a b : Vec Ideal S1024x1024 .bf16) (y : S1x1024x1024.Idx) : Elt Ideal .f32 :=
  ∑ k : Fin 1024, a (ix2 k (y 1)) * b (ix2 k (y 2))

/-- A stored block is the block read plus the point's part. -/
theorem step (a b : Vec Ideal S1024x1024 .bf16) (acc : Vec Ideal S1x1024x1024 .f32) (y : S1x1024x1024.Idx) :
    k0_pay2 (F := Ideal) a acc b y = acc y + part a b y := by
  unfold k0_pay2
  pointwise [part]
  all_goals blk_point

/-- The block the first point starts from. -/
theorem blank (y : S1x1024x1024.Idx) : k0_pay1 (F := Ideal) y = 0 := by
  unfold k0_pay1
  pointwise

end Cert.ConvWeightGradIdeal.Sum

end
-- ==== Proof.Wc.Array.lean ====
/- The weight gradient of the convolution branch's output projection after the whole grid is the sum over all rows, and the reference computes the same sum. -/
module

public import proofs.«01_k».proof.Proof.Wc.Values
public import proofs.«01_k».proof.Proof.Gen.ConvWeightGradReferenceIdeal.Read

@[expose] public section

set_option maxRecDepth 16384

noncomputable section

namespace Cert.ConvWeightGradIdeal.Sum

open Cert.ConvWeightGradIdeal.Gen
open Idealize.ShloMosaic Idealize.ShloMosaic.TcCoe

/-- Rows of activations against rows of cotangents, summed over the 16384 tokens. -/
def product (x d : Vec Ideal S16384x1024 .bf16) : Vec Ideal S1x1024x1024 .f32 := fun i =>
  ∑ l : Fin 16384, x (ix2 l (i 1)) * d (ix2 l (i 2))

/-- Point `t` reads row block `t` of both arrays. -/
theorem rowBlock : ∀ t : Fin cfg0.N, win0_0.index t 0 = t.val ∧ win0_0.index t 1 = 0 ∧ win0_1.index t 0 = t.val ∧ win0_1.index t 1 = 0
    ∧ win0_2.index t 0 = 0 ∧ win0_2.index t 1 = 0 ∧ win0_2.index t 2 = 0 := by
  decide +kernel

variable (m : (ℓ : Loc nD τ sig) → Buf (Elt Ideal) ℓ)

/-- The block after the last point. -/
theorem total (c : Dev nD) (t : Fin cfg0.N) (ht : t.val + 1 = cfg0.N) (y : S1x1024x1024.Idx) :
    outsAt0 m c t.val t.isLt y = product (m ((c : Thread nD τ).loc main_arg0)) (m ((c : Thread nD τ).loc main_arg1)) y := by
  rw [Pipeline.eq_sum_fin_of_reset_step_apply_last (fun n h => outsAt0 m c n h) 16 (fun _ => 0) _
    (fun t h j => by rw [outsAt0_A m c t h, Value.out_A_2_eq, step, blank])
    (fun t h j => by rw [outsAt0_B m c t h, Value.out_B_2_eq, step])
    (le_of_eq N_0) t ht y, zero_add]
  unfold product
  refine Fin.sum_mul_add_congr fun t k hl => ?_
  congr 1 <;> blk_ext! [iblk, V, rowBlock t]

/-- The result array after the run. -/
theorem array (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2]
  have ht : t.val + 1 = cfg0.N := by
    have h := (flush0_2 t).mp hf
    have h' : t.val < 16 := lt_of_lt_of_eq t.isLt N_0
    exact (by omega : t.val + 1 = 16).trans N_0.symm
  refine (total m c t ht _).trans ?_
  congr 1
  blk_ext [rowBlock t]

/-- The reference's array. -/
theorem reference (x d : Vec Ideal S16384x1024 .bf16) :
    Cert.ConvWeightGradReferenceIdeal.Read.val_main_v7 (F := Ideal) x d = product x d := by
  funext i
  rw [Cert.ConvWeightGradReferenceIdeal.Read.val_main_v7_apply, Cert.ConvWeightGradReferenceIdeal.Read.val_main_v6_apply,
    Cert.ConvWeightGradReferenceIdeal.Read.val_main_v5_apply]
  unfold product
  refine Finset.sum_congr rfl fun k _ => ?_
  rw [Cert.ConvWeightGradReferenceIdeal.Read.val_main_v4_apply, Cert.ConvWeightGradReferenceIdeal.Read.val_main_v1_apply, mul_comm]
  refine congrArg₂ (· * ·) (congrArg x ?_) (congrArg d ?_) <;> blk_ext

end Cert.ConvWeightGradIdeal.Sum

end
-- ==== Proof.Wc.Claims.lean ====
/- The claims about the weight gradient of the convolution branch's output projection. -/
module

public import proofs.«01_k».proof.Defs
public import proofs.«01_k».proof.Proof.Wc.Array
public import proofs.«01_k».proof.Proof.Gen.ConvWeightGrad.Frame
public import proofs.«01_k».proof.Proof.Gen.ConvWeightGradReferenceIdeal.Run
public import Idealize.ShloMosaic.Lib.Quiescent

@[expose] public section

noncomputable section

namespace Cert.ConvWeightGradIdeal.Sum

open Idealize.ShloMosaic Idealize.ShloMosaic.TcCoe Idealize.SL.Sem

/-- The kernel's frame. -/
theorem frame_kernel : Cert.quiescent_ConvWeightGrad := fun m ρ _ => Cert.ConvWeightGrad.Gen.frame m ρ

/-- Its idealization's frame. -/
theorem frame_kernel_ideal : Cert.quiescent_ConvWeightGradIdeal := fun m ρ _ => Cert.ConvWeightGradIdeal.Gen.frame m ρ

/-- The reference's frame. -/
theorem frame_reference : Cert.quiescent_ConvWeightGradReferenceIdeal := fun m ρ _ =>
  (θ_run Cert.ConvWeightGradReferenceIdeal.defs _ _).mono (fun r h => ⟨fun c => (h c).2,
      Idealize.ShloMosaic.sem_eq_zero_of_no_sems (by decide) r.2⟩)
    (Cert.ConvWeightGradReferenceIdeal.Value.run (F := Ideal) m ρ)

/-- Nothing was rewritten. -/
theorem preserves : Cert.preserves_ConvWeightGrad_ConvWeightGradIdeal := trivial

/-- Both programs end with the sum over all rows. -/
theorem algebraic : Cert.algebraic_ConvWeightGradIdeal_ConvWeightGradReferenceIdeal := by
  intro m ρ m' ρ' _ hagree
  refine ⟨_, Cert.ConvWeightGradIdeal.Value.run_blocks (F := Ideal) m ρ, ?_⟩
  refine (θ_run Cert.ConvWeightGradReferenceIdeal.defs _ _).mono (fun _ h c => ⟨(h c).1.trans ?_, (h c).2⟩)
    (Cert.ConvWeightGradReferenceIdeal.Value.run (F := Ideal) m' ρ')
  rw [(hagree c).1, (hagree c).2]
  exact (Cert.ConvWeightGradReferenceIdeal.Read.val_main_v7_eq (F := Ideal) _ _).trans ((reference _ _).trans (array m c).symm)

end Cert.ConvWeightGradIdeal.Sum

end
-- ==== Proof.Wkv.Values.lean ====
/- What one grid point of the key and value weight gradients adds to each of its four blocks. -/
module

public import proofs.«01_k».proof.Proof.Gen.PairWeightGradIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.PairWeightGradIdeal.Sum

open Cert.PairWeightGradIdeal.Gen
open Idealize.ShloMosaic Idealize.ShloMosaic.TcCoe

/-- Where later stores already cover, earlier ones do not matter. -/
theorem kept {S : Shape} {e : EltTy} (L' : List (View.Piece (Elt Ideal) S e)) :
    ∀ (L : List (View.Piece (Elt Ideal) S e)) (y : S.Idx), (∃ p ∈ L, y ∈ p.1.set) → View.canon (L ++ L') y = View.canon L y
  | [], _, h => by obtain ⟨p, hp, _⟩ := h; simp at hp
  | p :: L, y, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine kept L' L y ?_
      obtain ⟨q, hq, hy⟩ := h
      rcases List.mem_cons.mp hq with rfl | hq'
      · exact absurd hy hm
      · exact ⟨q, hq', hy⟩

/-- What a point's rows add at `(block, row, column)`. -/
def part (a : Vec Ideal S1024x1024 .bf16) (b : Vec Ideal S1024x3072 .bf16) (y : S4x1024x768.Idx) : Elt Ideal .f32 :=
  ∑ k : Fin 1024, a (ix2 k (y 1)) * b (ix2 k ⟨768 * (y 0).val + (y 2).val, by
    have := (y 0).isLt; have := (y 2).isLt; simp only [S4x1024x768, Matrix.cons_val] at *; omega⟩)

/-- For the keys, a later point adds its part. -/
theorem later0 (c : Dev nD) (i : grid0.Coords) (arg1 : Memref sig .tc .vmem S1024x1024 .bf16) (harg1 : arg1.IsWhole)
    (arg2 : Memref sig .tc .vmem S1024x3072 .bf16) (harg2 : arg2.IsWhole) (arg3 : Memref sig .tc .vmem S4x1024x768 .f32)
    (harg3 : arg3.IsWhole) (hc0 : ¬cond0_0 i) (x0 : Vec Ideal S1024x1024 .bf16) (x1 : Vec Ideal S1024x3072 .bf16)
    (xo : Vec Ideal S4x1024x768 .f32) (y : S4x1024x768.Idx) :
    out0_B_2 (F := Ideal) c i arg1 harg1 arg2 harg2 arg3 harg3 hc0 x0 x1 xo y = xo y + part x0 x1 y := by
  frame_out
  canon_tiles x h
  all_goals open_payloads
  all_goals pointwise [part]
  all_goals blk_point

/-- For the keys, the first point leaves its part alone. -/
theorem first0 (c : Dev nD) (i : grid0.Coords) (arg1 : Memref sig .tc .vmem S1024x1024 .bf16) (harg1 : arg1.IsWhole)
    (arg2 : Memref sig .tc .vmem S1024x3072 .bf16) (harg2 : arg2.IsWhole) (arg3 : Memref sig .tc .vmem S4x1024x768 .f32)
    (harg3 : arg3.IsWhole) (hc0 : cond0_0 i) (x0 : Vec Ideal S1024x1024 .bf16) (x1 : Vec Ideal S1024x3072 .bf16)
    (y : S4x1024x768.Idx) :
    out0_A_2 (F := Ideal) c i arg1 harg1 arg2 harg2 arg3 harg3 hc0 x0 x1 y = 0 + part x0 x1 y := by
  frame_open
  simp (disch := decide) only [↓View.readCov_skip, ↓View.readCov_fill]
  frame_out
  refine (kept [_] [_, _, _, _] y ?_).trans ?_
  · exact View.cover_of_tiledL (s := S4x1024x768) _ S1x1024x768.size (by sl_kernel_rfl) y
  canon_tiles x h
  all_goals open_payloads
  all_goals pointwise [part]
  all_goals blk_point

/-- For the values, a later point adds its part. -/
theorem later1 (c : Dev nD) (i : grid1.Coords) (arg1 : Memref sig .tc .vmem S1024x1024 .bf16) (harg1 : arg1.IsWhole)
    (arg2 : Memref sig .tc .vmem S1024x3072 .bf16) (harg2 : arg2.IsWhole) (arg4 : Memref sig .tc .vmem S4x1024x768 .f32)
    (harg4 : arg4.IsWhole) (hc0 : ¬cond1_0 i) (x0 : Vec Ideal S1024x1024 .bf16) (x1 : Vec Ideal S1024x3072 .bf16)
    (xo : Vec Ideal S4x1024x768 .f32) (y : S4x1024x768.Idx) :
    out1_B_2 (F := Ideal) c i arg1 harg1 arg2 harg2 arg4 harg4 hc0 x0 x1 xo y = xo y + part x0 x1 y := by
  frame_out
  canon_tiles x h
  all_goals open_payloads
  all_goals pointwise [part]
  all_goals blk_point

/-- For the values, the first point leaves its part alone. -/
theorem first1 (c : Dev nD) (i : grid1.Coords) (arg1 : Memref sig .tc .vmem S1024x1024 .bf16) (harg1 : arg1.IsWhole)
    (arg2 : Memref sig .tc .vmem S1024x3072 .bf16) (harg2 : arg2.IsWhole) (arg4 : Memref sig .tc .vmem S4x1024x768 .f32)
    (harg4 : arg4.IsWhole) (hc0 : cond1_0 i) (x0 : Vec Ideal S1024x1024 .bf16) (x1 : Vec Ideal S1024x3072 .bf16)
    (y : S4x1024x768.Idx) :
    out1_A_2 (F := Ideal) c i arg1 harg1 arg2 harg2 arg4 harg4 hc0 x0 x1 y = 0 + part x0 x1 y := by
  frame_open
  simp (disch := decide) only [↓View.readCov_skip, ↓View.readCov_fill]
  frame_out
  refine (kept [_] [_, _, _, _] y ?_).trans ?_
  · exact View.cover_of_tiledL (s := S4x1024x768) _ S1x1024x768.size (by sl_kernel_rfl) y
  canon_tiles x h
  all_goals open_payloads
  all_goals pointwise [part]
  all_goals blk_point

end Cert.PairWeightGradIdeal.Sum

end
-- ==== Proof.Wkv.Array.lean ====
/- The key half and the value half of the weight gradient after both grids, and what the reference computes. -/
module

public import proofs.«01_k».proof.Proof.Wkv.Values
public import proofs.«01_k».proof.Proof.Gen.PairWeightGradReferenceIdeal.Read

@[expose] public section

set_option maxRecDepth 16384

noncomputable section

namespace Cert.PairWeightGradIdeal.Sum

open Cert.PairWeightGradIdeal.Gen
open Idealize.ShloMosaic Idealize.ShloMosaic.TcCoe

/-- Rows of activations against rows of cotangents, summed over the 16384 tokens. -/
def product (x : Vec Ideal S16384x1024 .bf16) (d : Vec Ideal S16384x3072 .bf16) (r : Fin 1024) (j : Fin 3072) : Elt Ideal .f32 :=
  ∑ l : Fin 16384, x (ix2 l r) * d (ix2 l j)

/-- One half: four blocks of 768 columns. -/
def half (x : Vec Ideal S16384x1024 .bf16) (d : Vec Ideal S16384x3072 .bf16) (y : S4x1024x768.Idx) : Elt Ideal .f32 :=
  product x d (y 1) ⟨768 * (y 0).val + (y 2).val, by
    have := (y 0).isLt; have := (y 2).isLt; simp only [S4x1024x768, Matrix.cons_val] at *; omega⟩

/-- The gradient: the first four blocks from the keys' cotangent, the last four from the values'. -/
def both (x : Vec Ideal S16384x1024 .bf16) (k v : Vec Ideal S16384x3072 .bf16) : Vec Ideal S8x1024x768 .f32 := fun i =>
  if h : (i 0).val < 4 then half x k (ix3 ⟨(i 0).val, h⟩ (i 1) (i 2))
  else half x v (ix3 ⟨(i 0).val - 4, by have := (i 0).isLt; simp only [S8x1024x768, Matrix.cons_val] at *; omega⟩ (i 1) (i 2))

/-- Point `t` reads row block `t` of both arrays. -/
theorem rowBlock0 : ∀ t : Fin cfg0.N, win0_0.index t 0 = t.val ∧ win0_0.index t 1 = 0 ∧ win0_1.index t 0 = t.val ∧ win0_1.index t 1 = 0
    ∧ win0_2.index t 0 = 0 ∧ win0_2.index t 1 = 0 ∧ win0_2.index t 2 = 0 := by
  decide +kernel

/-- The four blocks after the last point. -/
theorem total0 (V : (c : Dev nD) → (b : Ref sig .tc) → Buf (Elt Ideal) ((c : Thread nD τ).loc b)) (c : Dev nD) (t : Fin cfg0.N)
    (ht : t.val + 1 = cfg0.N) (y : S4x1024x768.Idx) :
    outsAt0 V c t.val t.isLt y = half (V c main_v0) (V c main_arg1) y := by
  rw [Pipeline.eq_sum_fin_of_reset_step_apply_last (fun n h => outsAt0 V c n h) 16 (fun _ => 0) _
    (fun t h j => by rw [outsAt0_A V c t h]; exact first0 ..)
    (fun t h j => by rw [outsAt0_B V c t h]; exact later0 ..)
    (le_of_eq N_0) t ht y, zero_add]
  unfold half product
  refine Fin.sum_mul_add_congr fun t k hl => ?_
  congr 1 <;> blk_ext! [iblk0, rowBlock0 t]

/-- The array after the grid: its half written, the other as found. -/
theorem array0 (V : (c : Dev nD) → (b : Ref sig .tc) → Buf (Elt Ideal) ((c : Thread nD τ).loc b)) (c : Dev nD) :
    (dat0 V c).arrAt 2 cfg0.N = fun i : S8x1024x768.Idx =>
      if (i 0).val / 4 = 0 then both (V c main_v0) (V c main_arg1) (V c main_arg1) i else V c main_v1 i := by
  refine (dat0 V c).arrAt_eq_of_coversWhere 2 _ (fun β => β (0 : Fin _) = 0) (by decide +kernel) (fun t hf y => ?_) (fun j => Iff.rfl)
  blk_simp
  rw [after0_2]
  have ht : t.val + 1 = cfg0.N := by
    have h := (flush0_2 t).mp hf
    have h' : t.val < 16 := lt_of_lt_of_eq t.isLt N_0
    exact (by omega : t.val + 1 = 16).trans N_0.symm
  refine (total0 V c t ht _).trans ?_
  have hy : (y 0).val < 4 := (y 0).isLt
  unfold both
  rw [dif_pos (by blk_simp [rowBlock0 t]; omega)]
  congr 1
  blk_ext [rowBlock0 t]

/-- Point `t` reads row block `t` of both arrays. -/
theorem rowBlock1 : ∀ t : Fin cfg1.N, win1_0.index t 0 = t.val ∧ win1_0.index t 1 = 0 ∧ win1_1.index t 0 = t.val ∧ win1_1.index t 1 = 0
    ∧ win1_2.index t 0 = 1 ∧ win1_2.index t 1 = 0 ∧ win1_2.index t 2 = 0 := by
  decide +kernel

/-- The four blocks after the last point. -/
theorem total1 (V : (c : Dev nD) → (b : Ref sig .tc) → Buf (Elt Ideal) ((c : Thread nD τ).loc b)) (c : Dev nD) (t : Fin cfg1.N)
    (ht : t.val + 1 = cfg1.N) (y : S4x1024x768.Idx) :
    outsAt1 V c t.val t.isLt y = half (V c main_v0) (V c main_arg2) y := by
  rw [Pipeline.eq_sum_fin_of_reset_step_apply_last (fun n h => outsAt1 V c n h) 16 (fun _ => 0) _
    (fun t h j => by rw [outsAt1_A V c t h]; exact first1 ..)
    (fun t h j => by rw [outsAt1_B V c t h]; exact later1 ..)
    (le_of_eq N_1) t ht y, zero_add]
  unfold half product
  refine Fin.sum_mul_add_congr fun t k hl => ?_
  congr 1 <;> blk_ext! [iblk1, rowBlock1 t]

/-- The array after the grid: its half written, the other as found. -/
theorem array1 (V : (c : Dev nD) → (b : Ref sig .tc) → Buf (Elt Ideal) ((c : Thread nD τ).loc b)) (c : Dev nD) :
    (dat1 V c).arrAt 2 cfg1.N = fun i : S8x1024x768.Idx =>
      if (i 0).val / 4 = 1 then both (V c main_v0) (V c main_arg2) (V c main_arg2) i else V c main_v2 i := by
  refine (dat1 V c).arrAt_eq_of_coversWhere 2 _ (fun β => β (0 : Fin _) = 1) (by decide +kernel) (fun t hf y => ?_) (fun j => Iff.rfl)
  blk_simp
  rw [after1_2]
  have ht : t.val + 1 = cfg1.N := by
    have h := (flush1_2 t).mp hf
    have h' : t.val < 16 := lt_of_lt_of_eq t.isLt N_1
    exact (by omega : t.val + 1 = 16).trans N_1.symm
  refine (total1 V c t ht _).trans ?_
  unfold both
  rw [dif_neg (by blk_simp [rowBlock1 t]; omega)]
  congr 1
  blk_ext [rowBlock1 t]

/-- The reference's cotangents, side by side. -/
theorem cotangents (k v : Vec Ideal S16384x3072 .bf16) (i : Cert.PairWeightGradReferenceIdeal.S16384x6144.Idx) :
    Cert.PairWeightGradReferenceIdeal.Read.val_main_v10 (F := Ideal) k v i
      = if h : (i 1).val < 3072 then k (ix2 (i 0) ⟨(i 1).val, h⟩)
        else v (ix2 (i 0) ⟨(i 1).val - 3072, by have := (i 1).isLt; simp only [Cert.PairWeightGradReferenceIdeal.S16384x6144, Matrix.cons_val] at *; omega⟩) := by
  unfold Cert.PairWeightGradReferenceIdeal.Read.val_main_v10 Cert.PairWeightGradReferenceIdeal.Read.val_main_v8
    Cert.PairWeightGradReferenceIdeal.Read.val_main_v9
  pointwise [Cert.PairWeightGradReferenceIdeal.Read.val_main_v7, Cert.PairWeightGradReferenceIdeal.Read.val_main_v6,
    Cert.PairWeightGradReferenceIdeal.Read.val_main_cst_0, Cert.PairWeightGradReferenceIdeal.Read.val_main_cst_1]
  have hi : (i 1).val < 6144 := (i 1).isLt
  by_cases h : (i 1).val < 3072
  · rw [dif_neg (by omega), dif_pos h, dif_pos h, zero_add]
  · rw [dif_pos (by omega), dif_neg h, dif_neg h, add_zero]

/-- The reference's array. -/
theorem reference (x : Vec Ideal S16384x1024 .f32) (k v : Vec Ideal S16384x3072 .bf16) :
    Cert.PairWeightGradReferenceIdeal.Read.val_main_v14 (F := Ideal) x k v = both x k v := by
  funext i
  have h0 : (i 0).val < 8 := (i 0).isLt
  have h1 : (i 1).val < 1024 := (i 1).isLt
  have h2 : (i 2).val < 768 := (i 2).isLt
  rw [Cert.PairWeightGradReferenceIdeal.Read.val_main_v14_apply, Cert.PairWeightGradReferenceIdeal.Read.val_main_v13_apply,
    Cert.PairWeightGradReferenceIdeal.Read.val_main_v12_apply, Cert.PairWeightGradReferenceIdeal.Read.val_main_v11_apply]
  by_cases h : (i 0).val < 4
  · unfold both half product
    rw [dif_pos h]
    refine Finset.sum_congr rfl fun l _ => ?_
    rw [cotangents, mul_comm]
    rw [dif_pos (by dsimp only; omega)]
    refine congrArg₂ (· * ·) (congrArg x ?_) (congrArg k ?_) <;> blk_ext
  · unfold both half product
    rw [dif_neg h]
    refine Finset.sum_congr rfl fun l _ => ?_
    rw [cotangents, mul_comm]
    rw [dif_neg (by dsimp only; omega)]
    refine congrArg₂ (· * ·) (congrArg x ?_) (congrArg v ?_) <;> blk_ext

end Cert.PairWeightGradIdeal.Sum

end
-- ==== Proof.Wkv.Claims.lean ====
/- The run of both grids, with the result named, and the claims. -/
module

public import proofs.«01_k».proof.Defs
public import proofs.«01_k».proof.Proof.Wkv.Array
public import proofs.«01_k».proof.Proof.Gen.PairWeightGrad.Frame
public import proofs.«01_k».proof.Proof.Gen.PairWeightGradReferenceIdeal.Run
public import Idealize.ShloMosaic.Lib.Quiescent

@[expose] public section

set_option maxRecDepth 16384

noncomputable section

namespace Cert.PairWeightGradIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer the launch reads at the end is at the last boundary's contents. -/
theorem ended : θ_run defs (onTc (τ := τ) (main (F := F))) ⟨m, fun _ => 0, ρ⟩ (fun r => ∀ c : Dev nD,
      r.2.mem ((c.tc : Thread nD τ).loc main_v2) = W4 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v2 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.PairWeightGradIdeal.Gen

namespace Cert.PairWeightGradIdeal.Sum

open Cert.PairWeightGradIdeal.Gen
open Idealize.ShloMosaic Idealize.ShloMosaic.TcCoe Idealize.SL.Sem

variable (m : (ℓ : Loc nD τ sig) → Buf (Elt Ideal) ℓ) (ρ : Dev nD → PrngReg)

/-- The cast activations as each grid finds them. -/
theorem rows1 (c : Dev nD) : V1 (F := Ideal) m ρ c main_v0 = m ((c : Thread nD τ).loc main_arg0) := by
  unfold V1 W1
  after_results
  rfl

theorem rows3 (c : Dev nD) : V3 (F := Ideal) m ρ c main_v0 = m ((c : Thread nD τ).loc main_arg0) :=
  (W3_of m ρ c main_v0 (by decide)).trans ((W2_of m ρ c main_v0 (by decide)).trans (rows1 m ρ c))

theorem keys1 (c : Dev nD) : V1 (F := Ideal) m ρ c main_arg1 = m ((c : Thread nD τ).loc main_arg1) :=
  W1_args m ρ c main_arg1 (by decide)

theorem values3 (c : Dev nD) : V3 (F := Ideal) m ρ c main_arg2 = m ((c : Thread nD τ).loc main_arg2) :=
  W3_args m ρ c main_arg2 (by decide)

/-- The second grid starts from what the first left. -/
theorem handed (c : Dev nD) : V3 (F := Ideal) m ρ c main_v2 = W2 m ρ c (Proc.devRef .tc main_v1) := by
  unfold V3 W3
  after_results
  rfl

/-- The result. -/
theorem result (c : Dev nD) : W4 (F := Ideal) m ρ c (Proc.devRef .tc main_v2)
    = both (m ((c : Thread nD τ).loc main_arg0)) (m ((c : Thread nD τ).loc main_arg1)) (m ((c : Thread nD τ).loc main_arg2)) := by
  refine (W4_arr m ρ c 2).trans ((array1 (V3 m ρ) c).trans ?_)
  funext i
  rw [handed m ρ c, show W2 m ρ c (Proc.devRef .tc main_v1) = _ from (W2_arr m ρ c 2).trans (array0 (V1 m ρ) c), rows1, rows3, keys1, values3]
  have hi : (i 0).val < 8 := (i 0).isLt
  unfold both
  by_cases h : (i 0).val < 4
  · rw [dif_pos h, if_neg (by omega)]
    beta_reduce
    rw [if_pos (Nat.div_eq_of_lt h), dif_pos h, dif_pos h]
  · rw [dif_neg h, if_pos (by omega), dif_neg h]

/-- The kernel's frame. -/
theorem frame_kernel : Cert.quiescent_PairWeightGrad := fun m ρ _ => Cert.PairWeightGrad.Gen.frame m ρ

/-- Its idealization's frame. -/
theorem frame_kernel_ideal : Cert.quiescent_PairWeightGradIdeal := fun m ρ _ => Cert.PairWeightGradIdeal.Gen.frame m ρ

/-- The reference's frame. -/
theorem frame_reference : Cert.quiescent_PairWeightGradReferenceIdeal := fun m ρ _ =>
  (θ_run Cert.PairWeightGradReferenceIdeal.defs _ _).mono (fun r h => ⟨fun c => (h c).2,
      Idealize.ShloMosaic.sem_eq_zero_of_no_sems (by decide) r.2⟩)
    (Cert.PairWeightGradReferenceIdeal.Value.run (F := Ideal) m ρ)

/-- Nothing was rewritten. -/
theorem preserves : Cert.preserves_PairWeightGrad_PairWeightGradIdeal := trivial

/-- Both programs end with the sums over all rows. -/
theorem algebraic : Cert.algebraic_PairWeightGradIdeal_PairWeightGradReferenceIdeal := by
  intro m ρ m' ρ' _ hagree
  refine ⟨_, ended (F := Ideal) m ρ, ?_⟩
  refine (θ_run Cert.PairWeightGradReferenceIdeal.defs _ _).mono (fun _ h c => ⟨(h c).1.trans ?_, (h c).2⟩)
    (Cert.PairWeightGradReferenceIdeal.Value.run (F := Ideal) m' ρ')
  rw [(hagree c).1, (hagree c).2.1, (hagree c).2.2]
  exact (Cert.PairWeightGradReferenceIdeal.Read.val_main_v14_eq (F := Ideal) _ _ _).trans ((reference _ _ _).trans (result m ρ c).symm)

end Cert.PairWeightGradIdeal.Sum

end
-- ==== Proof.Gi.Values.lean ====
/- What one grid point of the input's gradient writes. -/
module

public import proofs.«01_k».proof.Proof.Gen.InputGradIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.InputGradIdeal.Sum

open Cert.InputGradIdeal.Gen
open Idealize.ShloMosaic Idealize.ShloMosaic.TcCoe

/-- The residual's share and the eight column blocks' shares of one entry. -/
def entry (r : Vec Ideal S512x1024 .f32) (d : Vec Ideal S512x3072 .bf16) (w : Vec Ideal S8x1024x384 .bf16) (y : S512x1024.Idx) : Elt Ideal .f32 :=
  Ideal.ofBits .f32 0x3FB504F3#32 * r y
    + ∑ j : Fin 8, ∑ k : Fin 384, d (ix2 (y 0) ⟨j.val * 384 + k.val, by have := j.isLt; have := k.isLt; omega⟩) * w (ix3 j (y 1) k)

/-- The first grid's block. -/
theorem block0 (r : Vec Ideal S512x1024 .f32) (d : Vec Ideal S512x3072 .bf16) (w : Vec Ideal S8x1024x384 .bf16) (y : S512x1024.Idx) :
    out0_3 (F := Ideal) r d w y = entry r d w y := by
  unfold entry
  rw [Fin.sum_univ_eight]
  frame_out
  pointwise [k0_pay1, k0_pay2, k0_pay3, r0_1, r0_2, r0_3, r0_4, r0_5, r0_6, r0_7, r0_8, r0_9, r0_10, r0_11, r0_12, r0_13, r0_14, r0_15, r0_16]
  simp only [add_assoc]

/-- The second grid's block. -/
theorem block1 (c : Dev nD) (i : grid1.Coords) (arg1 : Memref sig .tc .vmem S512x1024 .f32) (harg1 : arg1.IsWhole) (arg2 : Memref sig .tc .vmem S512x3072 .bf16) (harg2 : arg2.IsWhole) (arg3 : Memref sig .tc .vmem S8x1024x384 .bf16) (harg3 : arg3.IsWhole) (arg5 : Memref sig .tc .vmem S512x1024 .f32) (harg5 : arg5.IsWhole)
    (r : Vec Ideal S512x1024 .f32) (d : Vec Ideal S512x3072 .bf16) (w : Vec Ideal S8x1024x384 .bf16) (y : S512x1024.Idx) :
    out1_A_3 (F := Ideal) c i arg1 harg1 arg2 harg2 arg3 harg3 arg5 harg5 r d w y = entry r d w y := by
  unfold entry
  rw [Fin.sum_univ_eight]
  frame_out
  pointwise [k1_pay1, k1_pay2, k1_pay3]
  simp only [add_assoc]

end Cert.InputGradIdeal.Sum

end
-- ==== Proof.Gi.Array.lean ====
/- The input's gradient after both grids, and what the reference computes. -/
module

public import proofs.«01_k».proof.Proof.Gi.Values
public import proofs.«01_k».proof.Proof.Gen.InputGradReferenceIdeal.Read

@[expose] public section

set_option maxRecDepth 16384

noncomputable section

namespace Cert.InputGradIdeal.Sum

open Cert.InputGradIdeal.Gen
open Idealize.ShloMosaic Idealize.ShloMosaic.TcCoe

/-- The residual's gradient scaled, plus the product of the projection's cotangent with the transposed weight. -/
def gradient (r : Vec Ideal S16384x1024 .f32) (d : Vec Ideal S16384x3072 .bf16) (w : Vec Ideal S8x1024x384 .bf16) : Vec Ideal S16384x1024 .f32 := fun i =>
  Ideal.ofBits .f32 0x3FB504F3#32 * r i
    + ∑ l : Fin 3072, d (ix2 (i 0) l) * w (ix3 ⟨l.val / 384, by have := l.isLt; omega⟩ (i 1) ⟨l.val % 384, by omega⟩)

/-- Point `t` reads and writes row block `t`. -/
theorem rowBlock0 : ∀ t : Fin cfg0.N, win0_0.index t 0 = t.val ∧ win0_0.index t 1 = 0 ∧ win0_1.index t 0 = t.val ∧ win0_1.index t 1 = 0
    ∧ win0_2.index t 0 = 0 ∧ win0_2.index t 1 = 0 ∧ win0_2.index t 2 = 0 ∧ win0_3.index t 0 = t.val ∧ win0_3.index t 1 = 0 := by
  decide +kernel

/-- The array after the grid: its rows written, the others as found. -/
theorem array0 (V : (c : Dev nD) → (b : Ref sig .tc) → Buf (Elt Ideal) ((c : Thread nD τ).loc b)) (c : Dev nD) :
    (dat0 V c).arrAt 3 cfg0.N = fun i : S16384x1024.Idx =>
      if (i 0).val / 512 < 16 then gradient (V c main_arg0) (V c main_arg1) (V c main_v0) i else V c main_v1 i := by
  refine (dat0 V c).arrAt_eq_of_coversWhere 3 _ (fun β => β (0 : Fin _) < 16) (by decide +kernel) (fun t hf y => ?_) (fun j => Iff.rfl)
  blk_simp
  rw [after0_3]
  refine (block0 ..).trans ?_
  unfold entry gradient
  refine congrArg₂ (· + ·) (congrArg₂ (· * ·) rfl (by blk_ext! [iblk0, rowBlock0 t])) ?_
  refine Fin.sum_mul_add_congr fun j k hl => ?_
  congr 1 <;> blk_ext! [iblk0, rowBlock0 t]

/-- Point `t` reads and writes row block `t + 16`. -/
theorem rowBlock1 : ∀ t : Fin cfg1.N, win1_0.index t 0 = t.val + 16 ∧ win1_0.index t 1 = 0 ∧ win1_1.index t 0 = t.val + 16 ∧ win1_1.index t 1 = 0
    ∧ win1_2.index t 0 = 0 ∧ win1_2.index t 1 = 0 ∧ win1_2.index t 2 = 0 ∧ win1_3.index t 0 = t.val + 16 ∧ win1_3.index t 1 = 0 := by
  decide +kernel

/-- The array after the grid: its rows written, the others as found. -/
theorem array1 (V : (c : Dev nD) → (b : Ref sig .tc) → Buf (Elt Ideal) ((c : Thread nD τ).loc b)) (c : Dev nD) :
    (dat1 V c).arrAt 3 cfg1.N = fun i : S16384x1024.Idx =>
      if 16 ≤ (i 0).val / 512 then gradient (V c main_arg0) (V c main_arg1) (V c main_v0) i else V c main_v2 i := by
  refine (dat1 V c).arrAt_eq_of_coversWhere 3 _ (fun β => 16 ≤ β (0 : Fin _)) (by decide +kernel) (fun t hf y => ?_) (fun j => Iff.rfl)
  blk_simp
  rw [after1_3]
  refine (block1 _ _ _ _ _ _ _ _ _ _ _ _ _ _).trans ?_
  unfold entry gradient
  refine congrArg₂ (· + ·) (congrArg₂ (· * ·) rfl (by blk_ext! [iblk1, rowBlock1 t])) ?_
  refine Fin.sum_mul_add_congr fun j k hl => ?_
  congr 1 <;> blk_ext! [iblk1, rowBlock1 t]

/-- The reference's array. -/
theorem reference (r : Vec Ideal S16384x1024 .f32) (d : Vec Ideal S16384x3072 .bf16) (w : Vec Ideal S8x1024x384 .f32) :
    Cert.InputGradReferenceIdeal.Read.val_main_v9 (F := Ideal) r d w = gradient r d w := by
  funext i
  rw [Cert.InputGradReferenceIdeal.Read.val_main_v9_apply, Cert.InputGradReferenceIdeal.Read.val_main_v8_apply]
  unfold gradient
  refine congrArg₂ (· + ·) ?_ (Finset.sum_congr rfl fun l _ => ?_)
  · rw [Cert.InputGradReferenceIdeal.Read.val_main_v7_apply, Cert.InputGradReferenceIdeal.Read.val_main_v6_apply, Cert.InputGradReferenceIdeal.Read.val_main_cst_0_apply]
    rfl
  · rw [Cert.InputGradReferenceIdeal.Read.val_main_v5_apply, Cert.InputGradReferenceIdeal.Read.val_main_v1_apply, Cert.InputGradReferenceIdeal.Read.val_main_v0_apply]
    have h1 : (i 1).val < 1024 := (i 1).isLt
    have hl : l.val < 3072 := l.isLt
    refine congrArg₂ (· * ·) (congrArg d ?_) (congrArg w ?_) <;> blk_ext

end Cert.InputGradIdeal.Sum

end
-- ==== Proof.Gi.Claims.lean ====
/- The run of both grids, with the result named, and the claims. -/
module

public import proofs.«01_k».proof.Defs
public import proofs.«01_k».proof.Proof.Gi.Array
public import proofs.«01_k».proof.Proof.Gen.InputGrad.Frame
public import proofs.«01_k».proof.Proof.Gen.InputGradReferenceIdeal.Run
public import Idealize.ShloMosaic.Lib.Quiescent

@[expose] public section

set_option maxRecDepth 16384

noncomputable section

namespace Cert.InputGradIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer the launch reads at the end is at the last boundary's contents. -/
theorem ended : θ_run defs (onTc (τ := τ) (main (F := F))) ⟨m, fun _ => 0, ρ⟩ (fun r => ∀ c : Dev nD,
      r.2.mem ((c.tc : Thread nD τ).loc main_v2) = W4 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v2 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.InputGradIdeal.Gen

namespace Cert.InputGradIdeal.Sum

open Cert.InputGradIdeal.Gen
open Idealize.ShloMosaic Idealize.ShloMosaic.TcCoe Idealize.SL.Sem

variable (m : (ℓ : Loc nD τ sig) → Buf (Elt Ideal) ℓ) (ρ : Dev nD → PrngReg)

/-- The cast weight as each grid finds it. -/
theorem weight1 (c : Dev nD) : V1 (F := Ideal) m ρ c main_v0 = m ((c : Thread nD τ).loc main_arg2) := by
  unfold V1 W1
  after_results
  rfl

theorem weight3 (c : Dev nD) : V3 (F := Ideal) m ρ c main_v0 = m ((c : Thread nD τ).loc main_arg2) :=
  (W3_of m ρ c main_v0 (by decide)).trans ((W2_of m ρ c main_v0 (by decide)).trans (weight1 m ρ c))

theorem residual1 (c : Dev nD) : V1 (F := Ideal) m ρ c main_arg0 = m ((c : Thread nD τ).loc main_arg0) :=
  W1_args m ρ c main_arg0 (by decide)

theorem residual3 (c : Dev nD) : V3 (F := Ideal) m ρ c main_arg0 = m ((c : Thread nD τ).loc main_arg0) :=
  W3_args m ρ c main_arg0 (by decide)

theorem cotangent1 (c : Dev nD) : V1 (F := Ideal) m ρ c main_arg1 = m ((c : Thread nD τ).loc main_arg1) :=
  W1_args m ρ c main_arg1 (by decide)

theorem cotangent3 (c : Dev nD) : V3 (F := Ideal) m ρ c main_arg1 = m ((c : Thread nD τ).loc main_arg1) :=
  W3_args m ρ c main_arg1 (by decide)

/-- The second grid starts from what the first left. -/
theorem handed (c : Dev nD) : V3 (F := Ideal) m ρ c main_v2 = W2 m ρ c (Proc.devRef .tc main_v1) := by
  unfold V3 W3
  after_results
  rfl

/-- The result. -/
theorem result (c : Dev nD) : W4 (F := Ideal) m ρ c (Proc.devRef .tc main_v2)
    = gradient (m ((c : Thread nD τ).loc main_arg0)) (m ((c : Thread nD τ).loc main_arg1)) (m ((c : Thread nD τ).loc main_arg2)) := by
  refine (W4_arr m ρ c 3).trans ((array1 (V3 m ρ) c).trans ?_)
  funext i
  rw [handed m ρ c, show W2 m ρ c (Proc.devRef .tc main_v1) = _ from (W2_arr m ρ c 3).trans (array0 (V1 m ρ) c), weight1, weight3,
    residual1, residual3, cotangent1, cotangent3]
  by_cases h : 16 ≤ (i 0).val / 512
  · rw [if_pos h]
  · rw [if_neg h]
    beta_reduce
    rw [if_pos (Nat.lt_of_not_le h)]

/-- The kernel's frame. -/
theorem frame_kernel : Cert.quiescent_InputGrad := fun m ρ _ => Cert.InputGrad.Gen.frame m ρ

/-- Its idealization's frame. -/
theorem frame_kernel_ideal : Cert.quiescent_InputGradIdeal := fun m ρ _ => Cert.InputGradIdeal.Gen.frame m ρ

/-- The reference's frame. -/
theorem frame_reference : Cert.quiescent_InputGradReferenceIdeal := fun m ρ _ =>
  (θ_run Cert.InputGradReferenceIdeal.defs _ _).mono (fun r h => ⟨fun c => (h c).2,
      Idealize.ShloMosaic.sem_eq_zero_of_no_sems (by decide) r.2⟩)
    (Cert.InputGradReferenceIdeal.Value.run (F := Ideal) m ρ)

/-- Nothing was rewritten. -/
theorem preserves : Cert.preserves_InputGrad_InputGradIdeal := trivial

/-- Both programs end with the same gradient. -/
theorem algebraic : Cert.algebraic_InputGradIdeal_InputGradReferenceIdeal := by
  intro m ρ m' ρ' _ hagree
  refine ⟨_, ended (F := Ideal) m ρ, ?_⟩
  refine (θ_run Cert.InputGradReferenceIdeal.defs _ _).mono (fun _ h c => ⟨(h c).1.trans ?_, (h c).2⟩)
    (Cert.InputGradReferenceIdeal.Value.run (F := Ideal) m' ρ')
  rw [(hagree c).1, (hagree c).2.1, (hagree c).2.2]
  exact (Cert.InputGradReferenceIdeal.Read.val_main_v9_eq (F := Ideal) _ _ _).trans ((reference _ _ _).trans (result m ρ c).symm)

end Cert.InputGradIdeal.Sum

end
-- ==== Proof.Fi.Values.lean ====
/- What one grid point of the input projection writes. -/
module

public import proofs.«01_k».proof.Proof.Gen.InputProjectionIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.InputProjectionIdeal.Sum

open Cert.InputProjectionIdeal.Gen
open Idealize.ShloMosaic Idealize.ShloMosaic.TcCoe

/-- Row `r` of `x` against column `j` of the weight, whose columns lie in eight blocks of 384, plus the bias. -/
def pre {n : ℕ} (x : Vec Ideal (⟨2, ![n, 1024]⟩ : Shape) .f32) (w : Vec Ideal S8x1024x384 .f32) (b : Vec Ideal S1x3072 .f32) (r : Fin n)
    (j : Fin 3072) : Elt Ideal .f32 :=
  (∑ k : Fin 1024, x (ix2 r k) * w (ix3 ⟨j.val / 384, by have := j.isLt; omega⟩ k ⟨j.val % 384, by omega⟩)) + b (ix2 0 j)

/-- The eight column blocks a point stores, the last first. -/
def stored (x : Vec Ideal S512x1024 .f32) (w : Vec Ideal S8x1024x384 .bf16) (b : Vec Ideal S1x3072 .f32) :
    List (View.Piece (Elt Ideal) S512x3072 .f32) :=
  [ ⟨Rect.unit ![0, 2688] ![512, 384] inb_S512x3072_S512x384_0_2688, k0_pay1 (k0_pay3 x) (View.ld w (Rect.unit ![7, 0, 0] ![1, 1024, 384] inb_S8x1024x384_S1x1024x384_7_0_0))
      (View.ld b (Rect.unit ![0, 2688] ![1, 384] inb_S1x3072_S1x384_0_2688))⟩,
    ⟨Rect.unit ![0, 2304] ![512, 384] inb_S512x3072_S512x384_0_2304, k0_pay10 (k0_pay3 x) (View.ld w (Rect.unit ![6, 0, 0] ![1, 1024, 384] inb_S8x1024x384_S1x1024x384_6_0_0))
      (View.ld b (Rect.unit ![0, 2304] ![1, 384] inb_S1x3072_S1x384_0_2304))⟩,
    ⟨Rect.unit ![0, 1920] ![512, 384] inb_S512x3072_S512x384_0_1920, k0_pay9 (k0_pay3 x) (View.ld w (Rect.unit ![5, 0, 0] ![1, 1024, 384] inb_S8x1024x384_S1x1024x384_5_0_0))
      (View.ld b (Rect.unit ![0, 1920] ![1, 384] inb_S1x3072_S1x384_0_1920))⟩,
    ⟨Rect.unit ![0, 1536] ![512, 384] inb_S512x3072_S512x384_0_1536, k0_pay8 (k0_pay3 x) (View.ld w (Rect.unit ![4, 0, 0] ![1, 1024, 384] inb_S8x1024x384_S1x1024x384_4_0_0))
      (View.ld b (Rect.unit ![0, 1536] ![1, 384] inb_S1x3072_S1x384_0_1536))⟩,
    ⟨Rect.unit ![0, 1152] ![512, 384] inb_S512x3072_S512x384_0_1152, k0_pay7 (k0_pay3 x) (View.ld w (Rect.unit ![3, 0, 0] ![1, 1024, 384] inb_S8x1024x384_S1x1024x384_3_0_0))
      (View.ld b (Rect.unit ![0, 1152] ![1, 384] inb_S1x3072_S1x384_0_1152))⟩,
    ⟨Rect.unit ![0, 768] ![512, 384] inb_S512x3072_S512x384_0_768, k0_pay6 x (View.ld w (Rect.unit ![2, 0, 0] ![1, 1024, 384] inb_S8x1024x384_S1x1024x384_2_0_0))
      (View.ld b (Rect.unit ![0, 768] ![1, 384] inb_S1x3072_S1x384_0_768))⟩,
    ⟨Rect.unit ![0, 384] ![512, 384] inb_S512x3072_S512x384_0_384, k0_pay5 x (View.ld w (Rect.unit ![1, 0, 0] ![1, 1024, 384] inb_S8x1024x384_S1x1024x384_1_0_0))
      (View.ld b (Rect.unit ![0, 384] ![1, 384] inb_S1x3072_S1x384_0_384))⟩,
    ⟨Rect.unit ![0, 0] ![512, 384] inb_S512x3072_S512x384_0_0, k0_pay4 x (View.ld w (Rect.unit ![0, 0, 0] ![1, 1024, 384] inb_S8x1024x384_S1x1024x384_0_0_0))
      (View.ld b (Rect.unit ![0, 0] ![1, 384] inb_S1x3072_S1x384_0_0))⟩]

/-- Together they are the projection's block. -/
theorem stored_canon (x : Vec Ideal S512x1024 .f32) (w : Vec Ideal S8x1024x384 .bf16) (b : Vec Ideal S1x3072 .f32) (y : S512x3072.Idx) :
    View.canon (stored x w b) y = pre x w b (y 0) (y 1) := by
  unfold pre stored
  canon_tiles x h
  all_goals open_payloads
  all_goals pointwise
  all_goals blk_point

variable (c : Dev nD) (i : grid0.Coords) (arg1 : Memref sig .tc .vmem S512x1024 .f32) (harg1 : arg1.IsWhole)
  (arg2 : Memref sig .tc .vmem S8x1024x384 .bf16) (harg2 : arg2.IsWhole) (arg3 : Memref sig .tc .vmem S1x3072 .f32) (harg3 : arg3.IsWhole)
  (arg4 : Memref sig .tc .vmem S512x3072 .f32) (harg4 : arg4.IsWhole) (arg5 : Memref sig .tc .vmem S512x1024 .f32) (harg5 : arg5.IsWhole)
  (arg6 : Memref sig .tc .vmem S512x1024 .bf16) (harg6 : arg6.IsWhole)
  (x : Vec Ideal S512x1024 .f32) (w : Vec Ideal S8x1024x384 .bf16) (b : Vec Ideal S1x3072 .f32)

/-- The projection's block. -/
theorem block3 (y : S512x3072.Idx) :
    out0_A_3 (F := Ideal) c i arg1 harg1 arg2 harg2 arg3 harg3 arg4 harg4 arg5 harg5 arg6 harg6 x w b y = pre x w b (y 0) (y 1) := by
  frame_out
  exact stored_canon x w b y

/-- The cast input's block. -/
theorem block5 (y : S512x1024.Idx) :
    out0_A_5 (F := Ideal) c i arg1 harg1 arg2 harg2 arg3 harg3 arg4 harg4 arg5 harg5 arg6 harg6 x w b y = x y := by
  frame_out
  all_goals open_payloads
  all_goals pointwise

/-- The gated block. -/
theorem block4 (y : S512x1024.Idx) :
    out0_A_4 (F := Ideal) c i arg1 harg1 arg2 harg2 arg3 harg3 arg4 harg4 arg5 harg5 arg6 harg6 x w b y = pre x w b (y 0) ⟨(y 1).val, by have h : (y 1).val < 1024 := (y 1).isLt; omega⟩
      * Ideal.logistic (pre x w b (y 0) ⟨(y 1).val + 1024, by have h : (y 1).val < 1024 := (y 1).isLt; omega⟩) := by
  frame_out
  unfold k0_pay2
  pointwise
  simp only [View.readCov_eq_canon']
  refine congrArg₂ (· * ·) ((stored_canon x w b _).trans (congrArg₂ (pre x w b) (Fin.ext ?_) (Fin.ext ?_)))
    (congrArg Ideal.logistic ((stored_canon x w b _).trans (congrArg₂ (pre x w b) (Fin.ext ?_) (Fin.ext ?_))))
  · exact (show 0 + 1 * (y 0).val = (y 0).val by omega)
  · exact (show 0 + 1 * (y 1).val = (y 1).val by omega)
  · exact (show 0 + 1 * (y 0).val = (y 0).val by omega)
  · exact (show 1024 + 1 * (y 1).val = (y 1).val + 1024 by omega)

end Cert.InputProjectionIdeal.Sum

end
-- ==== Proof.Fi.Array.lean ====
/- The arrays the input projection leaves, and what the reference computes. -/
module

public import proofs.«01_k».proof.Proof.Fi.Values
public import proofs.«01_k».proof.Proof.Gen.InputProjectionReferenceIdeal.Read

@[expose] public section

set_option maxRecDepth 16384

noncomputable section

namespace Cert.InputProjectionIdeal.Sum

open Cert.InputProjectionIdeal.Gen
open Idealize.ShloMosaic Idealize.ShloMosaic.TcCoe

/-- The projection in full. -/
def full3 (x : Vec Ideal S16384x1024 .f32) (w : Vec Ideal S8x1024x384 .f32) (b : Vec Ideal S1x3072 .f32) : Vec Ideal S16384x3072 .f32 := fun i =>
  pre x w b (i 0) (i 1)

/-- Its first third gated by its second. -/
def full4 (x : Vec Ideal S16384x1024 .f32) (w : Vec Ideal S8x1024x384 .f32) (b : Vec Ideal S1x3072 .f32) : Vec Ideal S16384x1024 .f32 := fun i =>
  pre x w b (i 0) ⟨(i 1).val, by have h : (i 1).val < 1024 := (i 1).isLt; omega⟩
    * Ideal.logistic (pre x w b (i 0) ⟨(i 1).val + 1024, by have h : (i 1).val < 1024 := (i 1).isLt; omega⟩)

variable (m : (ℓ : Loc nD τ sig) → Buf (Elt Ideal) ℓ)

/-- Point `t` reads and writes row block `t`. -/
theorem rowBlock : ∀ t : Fin cfg0.N, win0_0.index t 0 = t.val ∧ win0_0.index t 1 = 0
    ∧ win0_1.index t 0 = 0 ∧ win0_1.index t 1 = 0 ∧ win0_1.index t 2 = 0 ∧ win0_2.index t 0 = 0 ∧ win0_2.index t 1 = 0
    ∧ win0_3.index t 0 = t.val ∧ win0_3.index t 1 = 0 ∧ win0_4.index t 0 = t.val ∧ win0_4.index t 1 = 0
    ∧ win0_5.index t 0 = t.val ∧ win0_5.index t 1 = 0 := by
  decide +kernel

/-- An entry of a point's block is the entry of the arrays the block was cut from. -/
theorem cut (c : Dev nD) (t : Fin cfg0.N) (r : Fin 512) (j : Fin 3072) (r' : Fin 16384) (h : r'.val = 512 * t.val + r.val) :
    pre (iblk m c 0 t) (iblk m c 1 t) (iblk m c 2 t) r j
      = pre (m ((c : Thread nD τ).loc main_arg0)) (m ((c : Thread nD τ).loc main_arg1)) (m ((c : Thread nD τ).loc main_arg2)) r' j := by
  unfold pre
  refine congrArg₂ (· + ·) (Finset.sum_congr rfl fun k _ => ?_) ?_
  · congr 1 <;> blk_ext! [iblk, V, rowBlock t]
  · blk_ext! [iblk, V, rowBlock t]

/-- Array 3 after the run. -/
theorem array3 (c : Dev nD) : (dats m 0 c).arrAt 3 cfg0.N
    = full3 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  simp only [outsAt0]
  refine (block3 ..).trans ?_
  unfold full3
  refine (cut m c t _ _ _ ?_).trans (congrArg₂ (pre _ _ _) rfl ?_)
  · blk_simp [rowBlock t]
    omega
  · exact Fin.ext (by blk_simp [rowBlock t])

/-- Array 4 after the run. -/
theorem array4 (c : Dev nD) : (dats m 0 c).arrAt 4 cfg0.N
    = full4 (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  simp only [outsAt0]
  refine (block4 ..).trans ?_
  unfold full4
  refine congrArg₂ (· * ·) ?_ (congrArg Ideal.logistic ?_)
  all_goals
    refine (cut m c t _ _ _ ?_).trans (congrArg₂ (pre _ _ _) rfl ?_)
    · blk_simp [rowBlock t]
      omega
    · exact Fin.ext (by blk_simp [rowBlock t])

/-- Array 5 after the run. -/
theorem array5 (c : Dev nD) : (dats m 0 c).arrAt 5 cfg0.N
    = m ((c : Thread nD τ).loc main_arg0) := by
  refine (dats m 0 c).arrAt_eq_of_covers 5 _ (by decide +kernel) fun t hf y => ?_
  blk_simp
  rw [after0_5]
  simp only [outsAt0]
  refine (block5 ..).trans ?_
  blk_ext! [iblk, V, rowBlock t]

/-- The reference's projection. -/
theorem reference3 (x : Vec Ideal S16384x1024 .f32) (w : Vec Ideal S8x1024x384 .f32) (b : Vec Ideal S1x3072 .f32) :
    Cert.InputProjectionReferenceIdeal.Read.val_main_v4 (F := Ideal) x w b = full3 x w b := by
  funext i
  have h0 : (i 0).val < 16384 := (i 0).isLt
  have h1 : (i 1).val < 3072 := (i 1).isLt
  rw [Cert.InputProjectionReferenceIdeal.Read.val_main_v4_apply, Cert.InputProjectionReferenceIdeal.Read.val_main_v2_apply, Cert.InputProjectionReferenceIdeal.Read.val_main_v3_apply]
  unfold full3 pre
  refine congrArg₂ (· + ·) (Finset.sum_congr rfl fun k _ => ?_) (congrArg b ?_)
  · rw [Cert.InputProjectionReferenceIdeal.Read.val_main_v1_apply, Cert.InputProjectionReferenceIdeal.Read.val_main_v0_apply]
    have hk : k.val < 1024 := k.isLt
    refine congrArg₂ (· * ·) (congrArg x ?_) (congrArg w ?_) <;> blk_ext
  · blk_ext

/-- The reference's gated half. -/
theorem reference4 (x : Vec Ideal S16384x1024 .f32) (w : Vec Ideal S8x1024x384 .f32) (b : Vec Ideal S1x3072 .f32) :
    Cert.InputProjectionReferenceIdeal.Read.val_main_v14 (F := Ideal) x w b = full4 x w b := by
  funext i
  have h1 : (i 1).val < 1024 := (i 1).isLt
  rw [Cert.InputProjectionReferenceIdeal.Read.val_main_v14_apply, Cert.InputProjectionReferenceIdeal.Read.val_main_v13_apply, Cert.InputProjectionReferenceIdeal.Read.val_main_v11_apply, Cert.InputProjectionReferenceIdeal.Read.val_main_v12_apply, Cert.InputProjectionReferenceIdeal.Read.val_main_v10_apply,
    Cert.InputProjectionReferenceIdeal.Read.val_main_v9_apply, Cert.InputProjectionReferenceIdeal.Read.val_main_v8_apply, Cert.InputProjectionReferenceIdeal.Read.val_main_v6_apply, Cert.InputProjectionReferenceIdeal.Read.val_main_v5_apply, Cert.InputProjectionReferenceIdeal.Read.val_main_cst_apply, Cert.InputProjectionReferenceIdeal.Read.val_main_cst_0_apply,
    reference3]
  unfold full3 full4
  rw [show (FloatOps.ofBits (F := Ideal) .f32 0x3F800000#32) = 1 from Ideal.ofBits_one_f32]
  refine congrArg₂ (· * ·) (congrArg₂ (pre x w b) ?_ ?_) (congrArg Ideal.logistic (congrArg₂ (pre x w b) ?_ ?_))
  all_goals exact Fin.ext (by dsimp only; try omega)

/-- The reference's cast input. -/
theorem reference5 (x : Vec Ideal S16384x1024 .f32) : Cert.InputProjectionReferenceIdeal.Read.val_main_v15 (F := Ideal) x = x := rfl

end Cert.InputProjectionIdeal.Sum

end
-- ==== Proof.Fi.Claims.lean ====
/- The claims about the input projection. -/
module

public import proofs.«01_k».proof.Defs
public import proofs.«01_k».proof.Proof.Fi.Array
public import proofs.«01_k».proof.Proof.Gen.InputProjection.Frame
public import proofs.«01_k».proof.Proof.Gen.InputProjectionReferenceIdeal.Run
public import Idealize.ShloMosaic.Lib.Quiescent

@[expose] public section

noncomputable section

namespace Cert.InputProjectionIdeal.Sum

open Idealize.ShloMosaic Idealize.ShloMosaic.TcCoe Idealize.SL.Sem

/-- The kernel's frame. -/
theorem frame_kernel : Cert.quiescent_InputProjection := fun m ρ _ => Cert.InputProjection.Gen.frame m ρ

/-- Its idealization's frame. -/
theorem frame_kernel_ideal : Cert.quiescent_InputProjectionIdeal := fun m ρ _ => Cert.InputProjectionIdeal.Gen.frame m ρ

/-- The reference's frame. -/
theorem frame_reference : Cert.quiescent_InputProjectionReferenceIdeal := fun m ρ _ =>
  (θ_run Cert.InputProjectionReferenceIdeal.defs _ _).mono (fun r h => ⟨fun c => (h c).2.2.2,
      Idealize.ShloMosaic.sem_eq_zero_of_no_sems (by decide) r.2⟩)
    (Cert.InputProjectionReferenceIdeal.Value.run (F := Ideal) m ρ)

/-- Nothing was rewritten. -/
theorem preserves : Cert.preserves_InputProjection_InputProjectionIdeal := trivial

/-- Both programs end with the same three arrays. -/
theorem algebraic : Cert.algebraic_InputProjectionIdeal_InputProjectionReferenceIdeal := by
  intro m ρ m' ρ' _ hagree
  refine ⟨_, _, _, Cert.InputProjectionIdeal.Value.run_blocks (F := Ideal) m ρ, ?_⟩
  refine (θ_run Cert.InputProjectionReferenceIdeal.defs _ _).mono (fun _ h c => ⟨(h c).1.trans ?_, (h c).2.1.trans ?_, (h c).2.2.1.trans ?_, (h c).2.2.2⟩)
    (Cert.InputProjectionReferenceIdeal.Value.run (F := Ideal) m' ρ')
  · rw [(hagree c).1, (hagree c).2.1, (hagree c).2.2]
    exact (Cert.InputProjectionReferenceIdeal.Read.val_main_v4_eq (F := Ideal) _ _ _).trans ((reference3 _ _ _).trans (array3 m c).symm)
  · rw [(hagree c).1, (hagree c).2.1, (hagree c).2.2]
    exact (Cert.InputProjectionReferenceIdeal.Read.val_main_v14_eq (F := Ideal) _ _ _).trans ((reference4 _ _ _).trans (array4 m c).symm)
  · rw [(hagree c).1]
    exact (array5 m c).symm

end Cert.InputProjectionIdeal.Sum

end
-- ==== Proof.Fk.Values.lean ====
/- What one grid point of the key and value projection writes. -/
module

public import proofs.«01_k».proof.Proof.Gen.PairProjectionIdeal.Value
public import Idealize.ShloMosaic.Lib.Pipeline.ValueKit
public import Idealize.ShloMosaic.Lib.Pointwise

@[expose] public section

set_option maxRecDepth 16384

noncomputable section

namespace Cert.PairProjectionIdeal.Sum

open Cert.PairProjectionIdeal.Gen
open Idealize.ShloMosaic Idealize.ShloMosaic.TcCoe

/-- Row `r` of `x` against column `j` of the weight, whose columns lie in eight blocks of 768. -/
def dot {n : ℕ} (x : Vec Ideal (⟨2, ![n, 1024]⟩ : Shape) .f32) (w : Vec Ideal S8x1024x768 .f32) (r : Fin n) (j : Fin 6144) : Elt Ideal .f32 :=
  ∑ k : Fin 1024, x (ix2 r k) * w (ix3 ⟨j.val / 768, by have := j.isLt; omega⟩ k ⟨j.val % 768, by omega⟩)

/-- Output 2's block, entry by entry. -/
theorem block2 (x : Vec Ideal S512x1024 .bf16) (w : Vec Ideal S8x1024x768 .bf16) (y : S512x3072.Idx) :
    out0_2 (F := Ideal) x w y = dot x w (y 0) ⟨(y 1).val, by have h : (y 1).val < 3072 := (y 1).isLt; omega⟩ := by
  unfold dot
  frame_out
  canon_tiles x h
  all_goals open_payloads
  all_goals pointwise
  all_goals blk_point

/-- Output 3's block, entry by entry. -/
theorem block3 (x : Vec Ideal S512x1024 .bf16) (w : Vec Ideal S8x1024x768 .bf16) (y : S512x3072.Idx) :
    out0_3 (F := Ideal) x w y = dot x w (y 0) ⟨(y 1).val + 3072, by have h : (y 1).val < 3072 := (y 1).isLt; omega⟩ := by
  unfold dot
  frame_out
  canon_tiles x h
  all_goals open_payloads
  all_goals pointwise
  all_goals blk_point

end Cert.PairProjectionIdeal.Sum

end
-- ==== Proof.Fk.Array.lean ====
/- The arrays the key and value projection leaves, and what the reference computes. -/
module

public import proofs.«01_k».proof.Proof.Fk.Values
public import proofs.«01_k».proof.Proof.Gen.PairProjectionReferenceIdeal.Read

@[expose] public section

set_option maxRecDepth 16384

noncomputable section

namespace Cert.PairProjectionIdeal.Sum

open Cert.PairProjectionIdeal.Gen
open Idealize.ShloMosaic Idealize.ShloMosaic.TcCoe

variable (m : (ℓ : Loc nD τ sig) → Buf (Elt Ideal) ℓ)

/-- Output 2 in full. -/
def full2 (x : Vec Ideal S16384x1024 .f32) (w : Vec Ideal S8x1024x768 .f32) : Vec Ideal S16384x3072 .bf16 := fun i =>
  dot x w (i 0) ⟨(i 1).val, by have h : (i 1).val < 3072 := (i 1).isLt; omega⟩

/-- Point `t` reads and writes row block `t`. -/
theorem rowBlock2 : ∀ t : Fin cfg0.N, win0_0.index t 0 = t.val ∧ win0_0.index t 1 = 0
    ∧ win0_1.index t 0 = 0 ∧ win0_1.index t 1 = 0 ∧ win0_1.index t 2 = 0 ∧ win0_2.index t 0 = t.val ∧ win0_2.index t 1 = 0 := by
  decide +kernel

/-- The array after the run. -/
theorem array2 (c : Dev nD) : (dats m 0 c).arrAt 2 cfg0.N
    = full2 (m ((c : Thread nD τ).loc main_arg0)) (m ((c : Thread nD τ).loc main_arg1)) := by
  refine (dats m 0 c).arrAt_eq_of_covers 2 _ (by decide +kernel) fun t hf y => ?_
  blk_simp
  rw [after0_2]
  refine (block2 ..).trans ?_
  unfold full2 dot
  refine Finset.sum_congr rfl fun k _ => ?_
  congr 1 <;> blk_ext! [iblk, V, rowBlock2 t]

/-- The reference's array. -/
theorem reference2 (x : Vec Ideal S16384x1024 .f32) (w : Vec Ideal S8x1024x768 .f32) :
    Cert.PairProjectionReferenceIdeal.Read.val_main_v4 (F := Ideal) x w = full2 x w := by
  funext i
  have h0 : (i 0).val < 16384 := (i 0).isLt
  have h1 : (i 1).val < 3072 := (i 1).isLt
  rw [Cert.PairProjectionReferenceIdeal.Read.val_main_v4_apply]
  rw [Cert.PairProjectionReferenceIdeal.Read.val_main_v3_apply]
  rw [Cert.PairProjectionReferenceIdeal.Read.val_main_v2_apply]
  unfold full2 dot
  refine (show _ = _ from Finset.sum_congr rfl fun k _ => ?_)
  rw [Cert.PairProjectionReferenceIdeal.Read.val_main_v1_apply, Cert.PairProjectionReferenceIdeal.Read.val_main_v0_apply]
  have hk : k.val < 1024 := k.isLt
  refine congrArg₂ (· * ·) (congrArg x ?_) (congrArg w ?_) <;> blk_ext

/-- Output 3 in full. -/
def full3 (x : Vec Ideal S16384x1024 .f32) (w : Vec Ideal S8x1024x768 .f32) : Vec Ideal S16384x3072 .bf16 := fun i =>
  dot x w (i 0) ⟨(i 1).val + 3072, by have h : (i 1).val < 3072 := (i 1).isLt; omega⟩

/-- Point `t` reads and writes row block `t`. -/
theorem rowBlock3 : ∀ t : Fin cfg0.N, win0_0.index t 0 = t.val ∧ win0_0.index t 1 = 0
    ∧ win0_1.index t 0 = 0 ∧ win0_1.index t 1 = 0 ∧ win0_1.index t 2 = 0 ∧ win0_3.index t 0 = t.val ∧ win0_3.index t 1 = 0 := by
  decide +kernel

/-- The array after the run. -/
theorem array3 (c : Dev nD) : (dats m 0 c).arrAt 3 cfg0.N
    = full3 (m ((c : Thread nD τ).loc main_arg0)) (m ((c : Thread nD τ).loc main_arg1)) := by
  refine (dats m 0 c).arrAt_eq_of_covers 3 _ (by decide +kernel) fun t hf y => ?_
  blk_simp
  rw [after0_3]
  refine (block3 ..).trans ?_
  unfold full3 dot
  refine Finset.sum_congr rfl fun k _ => ?_
  congr 1 <;> blk_ext! [iblk, V, rowBlock3 t]

/-- The reference's array. -/
theorem reference3 (x : Vec Ideal S16384x1024 .f32) (w : Vec Ideal S8x1024x768 .f32) :
    Cert.PairProjectionReferenceIdeal.Read.val_main_v6 (F := Ideal) x w = full3 x w := by
  funext i
  have h0 : (i 0).val < 16384 := (i 0).isLt
  have h1 : (i 1).val < 3072 := (i 1).isLt
  rw [Cert.PairProjectionReferenceIdeal.Read.val_main_v6_apply]
  rw [Cert.PairProjectionReferenceIdeal.Read.val_main_v5_apply]
  rw [Cert.PairProjectionReferenceIdeal.Read.val_main_v2_apply]
  unfold full3 dot
  refine (show _ = _ from Finset.sum_congr rfl fun k _ => ?_)
  rw [Cert.PairProjectionReferenceIdeal.Read.val_main_v1_apply, Cert.PairProjectionReferenceIdeal.Read.val_main_v0_apply]
  have hk : k.val < 1024 := k.isLt
  refine congrArg₂ (· * ·) (congrArg x ?_) (congrArg w ?_) <;> blk_ext

end Cert.PairProjectionIdeal.Sum

end
-- ==== Proof.Fk.Claims.lean ====
/- The claims about the key and value projection. -/
module

public import proofs.«01_k».proof.Defs
public import proofs.«01_k».proof.Proof.Fk.Array
public import proofs.«01_k».proof.Proof.Gen.PairProjection.Frame
public import proofs.«01_k».proof.Proof.Gen.PairProjectionReferenceIdeal.Run
public import Idealize.ShloMosaic.Lib.Quiescent

@[expose] public section

noncomputable section

namespace Cert.PairProjectionIdeal.Sum

open Idealize.ShloMosaic Idealize.ShloMosaic.TcCoe Idealize.SL.Sem

/-- The kernel's frame. -/
theorem frame_kernel : Cert.quiescent_PairProjection := fun m ρ _ => Cert.PairProjection.Gen.frame m ρ

/-- Its idealization's frame. -/
theorem frame_kernel_ideal : Cert.quiescent_PairProjectionIdeal := fun m ρ _ => Cert.PairProjectionIdeal.Gen.frame m ρ

/-- The reference's frame. -/
theorem frame_reference : Cert.quiescent_PairProjectionReferenceIdeal := fun m ρ _ =>
  (θ_run Cert.PairProjectionReferenceIdeal.defs _ _).mono (fun r h => ⟨fun c => (h c).2.2,
      Idealize.ShloMosaic.sem_eq_zero_of_no_sems (by decide) r.2⟩)
    (Cert.PairProjectionReferenceIdeal.Value.run (F := Ideal) m ρ)

/-- Nothing was rewritten. -/
theorem preserves : Cert.preserves_PairProjection_PairProjectionIdeal := trivial

/-- Both programs end with the same products. -/
theorem algebraic : Cert.algebraic_PairProjectionIdeal_PairProjectionReferenceIdeal := by
  intro m ρ m' ρ' _ hagree
  refine ⟨_, _, Cert.PairProjectionIdeal.Value.run_blocks (F := Ideal) m ρ, ?_⟩
  refine (θ_run Cert.PairProjectionReferenceIdeal.defs _ _).mono (fun _ h c => ⟨(h c).1.trans ?_, (h c).2.1.trans ?_, (h c).2.2⟩)
    (Cert.PairProjectionReferenceIdeal.Value.run (F := Ideal) m' ρ')
  all_goals rw [(hagree c).1, (hagree c).2]
  · exact (Cert.PairProjectionReferenceIdeal.Read.val_main_v4_eq (F := Ideal) _ _).trans ((reference2 _ _).trans (array2 m c).symm)
  · exact (Cert.PairProjectionReferenceIdeal.Read.val_main_v6_eq (F := Ideal) _ _).trans ((reference3 _ _).trans (array3 m c).symm)

end Cert.PairProjectionIdeal.Sum

end
-- ==== Proof.Fq.Values.lean ====
/- What one grid point of the query and gate projection writes. -/
module

public import proofs.«01_k».proof.Proof.Gen.QueryProjectionIdeal.Value
public import Idealize.ShloMosaic.Lib.Pipeline.ValueKit
public import Idealize.ShloMosaic.Lib.Pointwise

@[expose] public section

set_option maxRecDepth 16384

noncomputable section

namespace Cert.QueryProjectionIdeal.Sum

open Cert.QueryProjectionIdeal.Gen
open Idealize.ShloMosaic Idealize.ShloMosaic.TcCoe

/-- Row `r` of `x` against column `j` of the weight, whose columns lie in eight blocks of 512. -/
def dot {n : ℕ} (x : Vec Ideal (⟨2, ![n, 1024]⟩ : Shape) .f32) (w : Vec Ideal S8x1024x512 .f32) (r : Fin n) (j : Fin 4096) : Elt Ideal .f32 :=
  ∑ k : Fin 1024, x (ix2 r k) * w (ix3 ⟨j.val / 512, by have := j.isLt; omega⟩ k ⟨j.val % 512, by omega⟩)

/-- One eighth in either format. -/
theorem eighth : Ideal.ofBits .bf16 0x3E00#16 = Ideal.ofBits .f32 0x3E000000#32 := by
  simp [Ideal.ofBits, Ideal.ieee]
  norm_num [← EReal.coe_mul]

/-- Output 2's block, entry by entry. -/
theorem block2 (x : Vec Ideal S512x1024 .bf16) (w : Vec Ideal S8x1024x512 .bf16) (y : S512x3072.Idx) :
    out0_2 (F := Ideal) x w y = dot x w (y 0) ⟨(y 1).val, by have h : (y 1).val < 3072 := (y 1).isLt; omega⟩ * Ideal.ofBits .f32 0x3E000000#32 := by
  unfold dot
  rw [← eighth]
  frame_out
  canon_tiles x h
  all_goals open_payloads
  all_goals pointwise
  all_goals blk_point

/-- Output 3's block, entry by entry. -/
theorem block3 (x : Vec Ideal S512x1024 .bf16) (w : Vec Ideal S8x1024x512 .bf16) (y : S512x1024.Idx) :
    out0_3 (F := Ideal) x w y = dot x w (y 0) ⟨(y 1).val + 3072, by have h : (y 1).val < 1024 := (y 1).isLt; omega⟩ := by
  unfold dot
  frame_out
  canon_tiles x h
  all_goals open_payloads
  all_goals pointwise
  all_goals blk_point

end Cert.QueryProjectionIdeal.Sum

end
-- ==== Proof.Fq.Array.lean ====
/- The arrays the query and gate projection leaves, and what the reference computes. -/
module

public import proofs.«01_k».proof.Proof.Fq.Values
public import proofs.«01_k».proof.Proof.Gen.QueryProjectionReferenceIdeal.Read

@[expose] public section

set_option maxRecDepth 16384

noncomputable section

namespace Cert.QueryProjectionIdeal.Sum

open Cert.QueryProjectionIdeal.Gen
open Idealize.ShloMosaic Idealize.ShloMosaic.TcCoe

variable (m : (ℓ : Loc nD τ sig) → Buf (Elt Ideal) ℓ)

/-- Output 2 in full. -/
def full2 (x : Vec Ideal S16384x1024 .f32) (w : Vec Ideal S8x1024x512 .f32) : Vec Ideal S16384x3072 .bf16 := fun i =>
  dot x w (i 0) ⟨(i 1).val, by have h : (i 1).val < 3072 := (i 1).isLt; omega⟩ * Ideal.ofBits .f32 0x3E000000#32

/-- Point `t` reads and writes row block `t`. -/
theorem rowBlock2 : ∀ t : Fin cfg0.N, win0_0.index t 0 = t.val ∧ win0_0.index t 1 = 0
    ∧ win0_1.index t 0 = 0 ∧ win0_1.index t 1 = 0 ∧ win0_1.index t 2 = 0 ∧ win0_2.index t 0 = t.val ∧ win0_2.index t 1 = 0 := by
  decide +kernel

/-- The array after the run. -/
theorem array2 (c : Dev nD) : (dats m 0 c).arrAt 2 cfg0.N
    = full2 (m ((c : Thread nD τ).loc main_arg0)) (m ((c : Thread nD τ).loc main_arg1)) := by
  refine (dats m 0 c).arrAt_eq_of_covers 2 _ (by decide +kernel) fun t hf y => ?_
  blk_simp
  rw [after0_2]
  refine (block2 ..).trans ?_
  unfold full2 dot
  refine congrArg (· * _) ?_
  refine Finset.sum_congr rfl fun k _ => ?_
  congr 1 <;> blk_ext! [iblk, V, rowBlock2 t]

/-- The reference's array. -/
theorem reference2 (x : Vec Ideal S16384x1024 .f32) (w : Vec Ideal S8x1024x512 .f32) :
    Cert.QueryProjectionReferenceIdeal.Read.val_main_v6 (F := Ideal) x w = full2 x w := by
  funext i
  have h0 : (i 0).val < 16384 := (i 0).isLt
  have h1 : (i 1).val < 3072 := (i 1).isLt
  rw [Cert.QueryProjectionReferenceIdeal.Read.val_main_v6_apply]
  rw [Cert.QueryProjectionReferenceIdeal.Read.val_main_v5_apply]
  rw [Cert.QueryProjectionReferenceIdeal.Read.val_main_v3_apply]
  rw [Cert.QueryProjectionReferenceIdeal.Read.val_main_v2_apply]
  unfold full2 dot
  refine congrArg₂ (· * ·) ?_ rfl
  refine (show _ = _ from Finset.sum_congr rfl fun k _ => ?_)
  rw [Cert.QueryProjectionReferenceIdeal.Read.val_main_v1_apply, Cert.QueryProjectionReferenceIdeal.Read.val_main_v0_apply]
  have hk : k.val < 1024 := k.isLt
  refine congrArg₂ (· * ·) (congrArg x ?_) (congrArg w ?_) <;> blk_ext

/-- Output 3 in full. -/
def full3 (x : Vec Ideal S16384x1024 .f32) (w : Vec Ideal S8x1024x512 .f32) : Vec Ideal S16384x1024 .f32 := fun i =>
  dot x w (i 0) ⟨(i 1).val + 3072, by have h : (i 1).val < 1024 := (i 1).isLt; omega⟩

/-- Point `t` reads and writes row block `t`. -/
theorem rowBlock3 : ∀ t : Fin cfg0.N, win0_0.index t 0 = t.val ∧ win0_0.index t 1 = 0
    ∧ win0_1.index t 0 = 0 ∧ win0_1.index t 1 = 0 ∧ win0_1.index t 2 = 0 ∧ win0_3.index t 0 = t.val ∧ win0_3.index t 1 = 0 := by
  decide +kernel

/-- The array after the run. -/
theorem array3 (c : Dev nD) : (dats m 0 c).arrAt 3 cfg0.N
    = full3 (m ((c : Thread nD τ).loc main_arg0)) (m ((c : Thread nD τ).loc main_arg1)) := by
  refine (dats m 0 c).arrAt_eq_of_covers 3 _ (by decide +kernel) fun t hf y => ?_
  blk_simp
  rw [after0_3]
  refine (block3 ..).trans ?_
  unfold full3 dot
  refine Finset.sum_congr rfl fun k _ => ?_
  congr 1 <;> blk_ext! [iblk, V, rowBlock3 t]

/-- The reference's array. -/
theorem reference3 (x : Vec Ideal S16384x1024 .f32) (w : Vec Ideal S8x1024x512 .f32) :
    Cert.QueryProjectionReferenceIdeal.Read.val_main_v7 (F := Ideal) x w = full3 x w := by
  funext i
  have h0 : (i 0).val < 16384 := (i 0).isLt
  have h1 : (i 1).val < 1024 := (i 1).isLt
  rw [Cert.QueryProjectionReferenceIdeal.Read.val_main_v7_apply]
  rw [Cert.QueryProjectionReferenceIdeal.Read.val_main_v2_apply]
  unfold full3 dot
  refine (show _ = _ from Finset.sum_congr rfl fun k _ => ?_)
  rw [Cert.QueryProjectionReferenceIdeal.Read.val_main_v1_apply, Cert.QueryProjectionReferenceIdeal.Read.val_main_v0_apply]
  have hk : k.val < 1024 := k.isLt
  refine congrArg₂ (· * ·) (congrArg x ?_) (congrArg w ?_) <;> blk_ext

end Cert.QueryProjectionIdeal.Sum

end
-- ==== Proof.Fq.Claims.lean ====
/- The claims about the query and gate projection. -/
module

public import proofs.«01_k».proof.Defs
public import proofs.«01_k».proof.Proof.Fq.Array
public import proofs.«01_k».proof.Proof.Gen.QueryProjection.Frame
public import proofs.«01_k».proof.Proof.Gen.QueryProjectionReferenceIdeal.Run
public import Idealize.ShloMosaic.Lib.Quiescent

@[expose] public section

noncomputable section

namespace Cert.QueryProjectionIdeal.Sum

open Idealize.ShloMosaic Idealize.ShloMosaic.TcCoe Idealize.SL.Sem

/-- The kernel's frame. -/
theorem frame_kernel : Cert.quiescent_QueryProjection := fun m ρ _ => Cert.QueryProjection.Gen.frame m ρ

/-- Its idealization's frame. -/
theorem frame_kernel_ideal : Cert.quiescent_QueryProjectionIdeal := fun m ρ _ => Cert.QueryProjectionIdeal.Gen.frame m ρ

/-- The reference's frame. -/
theorem frame_reference : Cert.quiescent_QueryProjectionReferenceIdeal := fun m ρ _ =>
  (θ_run Cert.QueryProjectionReferenceIdeal.defs _ _).mono (fun r h => ⟨fun c => (h c).2.2,
      Idealize.ShloMosaic.sem_eq_zero_of_no_sems (by decide) r.2⟩)
    (Cert.QueryProjectionReferenceIdeal.Value.run (F := Ideal) m ρ)

/-- Nothing was rewritten. -/
theorem preserves : Cert.preserves_QueryProjection_QueryProjectionIdeal := trivial

/-- Both programs end with the same products. -/
theorem algebraic : Cert.algebraic_QueryProjectionIdeal_QueryProjectionReferenceIdeal := by
  intro m ρ m' ρ' _ hagree
  refine ⟨_, _, Cert.QueryProjectionIdeal.Value.run_blocks (F := Ideal) m ρ, ?_⟩
  refine (θ_run Cert.QueryProjectionReferenceIdeal.defs _ _).mono (fun _ h c => ⟨(h c).1.trans ?_, (h c).2.1.trans ?_, (h c).2.2⟩)
    (Cert.QueryProjectionReferenceIdeal.Value.run (F := Ideal) m' ρ')
  all_goals rw [(hagree c).1, (hagree c).2]
  · exact (Cert.QueryProjectionReferenceIdeal.Read.val_main_v6_eq (F := Ideal) _ _).trans ((reference2 _ _).trans (array2 m c).symm)
  · exact (Cert.QueryProjectionReferenceIdeal.Read.val_main_v7_eq (F := Ideal) _ _).trans ((reference3 _ _).trans (array3 m c).symm)

end Cert.QueryProjectionIdeal.Sum

end
-- ==== Proof.Gr.Payloads.lean ====
/- The values one grid point of the residual gradient stores, entry by entry. -/
module

public import proofs.«01_k».proof.Proof.Gen.ResidualGradIdeal.Frame
public import Idealize.ShloMosaic.Lib.Pipeline.ValueKit
public import Idealize.ShloMosaic.Lib.Pointwise

@[expose] public section

set_option maxRecDepth 16384

noncomputable section

namespace Cert.ResidualGradIdeal.Sum

open Cert.ResidualGradIdeal.Gen
open Idealize.ShloMosaic Idealize.ShloMosaic.TcCoe

/-- The cotangent of the normalised rows: the residual's share, then for each of the eight column blocks the share of the
    inner projection and that of the keys (first four blocks) or the values (last four). -/
def entry {n : ℕ} (r : Vec Ideal (⟨2, ![n, 1024]⟩ : Shape) .f32) (dh : Vec Ideal (⟨2, ![n, 4096]⟩ : Shape) .f32) (dk dv : Vec Ideal (⟨2, ![n, 3072]⟩ : Shape) .f32)
    (wb : Vec Ideal S8x1024x512 .f32) (wkv : Vec Ideal S8x1024x768 .f32) (y : (⟨2, ![n, 1024]⟩ : Shape).Idx) : Elt Ideal .f32 :=
  Ideal.ofBits .f32 0x3FB504F3#32 * r y
    + (∑ j : Fin 4, ((∑ k : Fin 512, dh (ix2 (y 0) ⟨j.val * 512 + k.val, by have := j.isLt; have := k.isLt; omega⟩) * wb (ix3 ⟨j.val, by have := j.isLt; omega⟩ (y 1) k))
        + ∑ k : Fin 768, dk (ix2 (y 0) ⟨j.val * 768 + k.val, by have := j.isLt; have := k.isLt; omega⟩) * wkv (ix3 ⟨j.val, by have := j.isLt; omega⟩ (y 1) k))
      + ∑ j : Fin 4, ((∑ k : Fin 512, dh (ix2 (y 0) ⟨(j.val + 4) * 512 + k.val, by have := j.isLt; have := k.isLt; omega⟩) * wb (ix3 ⟨j.val + 4, by have := j.isLt; omega⟩ (y 1) k))
        + ∑ k : Fin 768, dv (ix2 (y 0) ⟨j.val * 768 + k.val, by have := j.isLt; have := k.isLt; omega⟩) * wkv (ix3 ⟨j.val + 4, by have := j.isLt; omega⟩ (y 1) k)))

/-- The layer norm's backward of one row: `rstd * (d - mean d - n * mean (d * n))` with `d` the cotangent times the gain. -/
def rowGrad {n : ℕ} (a x : Vec Ideal (⟨2, ![n, 1024]⟩ : Shape) .f32) (s : Vec Ideal (⟨2, ![n, 1]⟩ : Shape) .f32) (g : Vec Ideal S1x1024 .f32)
    (y : (⟨2, ![n, 1024]⟩ : Shape).Idx) : Elt Ideal .f32 :=
  s (ix2 (y 0) 0) * ((a y * g (ix2 0 (y 1)) - Ideal.div (∑ l : Fin 1024, a (ix2 (y 0) l) * g (ix2 0 l)) (Ideal.ofBits .f32 0x44800000#32))
    - x y * Ideal.div (∑ l : Fin 1024, a (ix2 (y 0) l) * g (ix2 0 l) * x (ix2 (y 0) l)) (Ideal.ofBits .f32 0x44800000#32))

/-- Every eighth row of a block added up. -/
def fold8 (v : Vec Ideal S256x1024 .f32) (y : S8x1024.Idx) : Elt Ideal .f32 :=
  ∑ q : Fin 32, v (ix2 ⟨q.val * 8 + (y 0).val, by have h : (y 0).val < 8 := (y 0).isLt; have := q.isLt; omega⟩ (y 1))

theorem gain_share (a : Vec Ideal S256x1024 .f32) (v79 : Vec Ideal S256x512 .bf16) (v80 : Vec Ideal S1x1024x512 .bf16) (v84 : Vec Ideal S256x768 .bf16)
    (v85 : Vec Ideal S1x1024x768 .bf16) (x : Vec Ideal S256x1024 .f32) (o : Vec Ideal S8x1024 .f32) (y : S8x1024.Idx) :
    k0_pay15 (F := Ideal) a v79 v80 v84 v85 x o y = o y + fold8 (fun i => k0_pay14 (F := Ideal) a v79 v80 v84 v85 i * x i) y := by
  unfold fold8
  pointwise [k0_pay15]

theorem bias_share (a : Vec Ideal S256x1024 .f32) (v79 : Vec Ideal S256x512 .bf16) (v80 : Vec Ideal S1x1024x512 .bf16) (v84 : Vec Ideal S256x768 .bf16)
    (v85 : Vec Ideal S1x1024x768 .bf16) (o : Vec Ideal S8x1024 .f32) (y : S8x1024.Idx) :
    k0_pay16 (F := Ideal) a v79 v80 v84 v85 o y = o y + fold8 (k0_pay14 (F := Ideal) a v79 v80 v84 v85) y := by
  unfold fold8
  pointwise [k0_pay16]

theorem row_grad (a : Vec Ideal S256x1024 .f32) (v79 : Vec Ideal S256x512 .bf16) (v80 : Vec Ideal S1x1024x512 .bf16) (v84 : Vec Ideal S256x768 .bf16)
    (v85 : Vec Ideal S1x1024x768 .bf16) (x : Vec Ideal S256x1024 .f32) (s : Vec Ideal S256x1 .f32) (g : Vec Ideal S1x1024 .f32) (y : S256x1024.Idx) :
    k0_pay1 (F := Ideal) x (k0_pay17 a v79 v80 v84 v85 g) s (k0_pay18 a v79 v80 v84 v85 g) (k0_pay19 a v79 v80 v84 v85 x g) y
      = rowGrad (k0_pay14 (F := Ideal) a v79 v80 v84 v85) x s g y := by
  unfold rowGrad
  pointwise [k0_pay1, k0_pay17, k0_pay18, k0_pay19]

theorem row_grad_cast (x v105 : Vec Ideal S256x1024 .f32) (s v110 : Vec Ideal S256x1 .f32) (v112 : Vec Ideal S256 .f32) (y : S256x1024.Idx) :
    k0_pay2 (F := Ideal) x v105 s v110 v112 y = k0_pay1 (F := Ideal) x v105 s v110 v112 y := by
  pointwise [k0_pay2]

theorem row_share (x v105 : Vec Ideal S256x1024 .f32) (s v110 : Vec Ideal S256x1 .f32) (v112 : Vec Ideal S256 .f32) (o : Vec Ideal S8x1024 .f32) (y : S8x1024.Idx) :
    k0_pay3 (F := Ideal) x v105 s v110 v112 o y = o y + fold8 (k0_pay1 (F := Ideal) x v105 s v110 v112) y := by
  unfold fold8
  pointwise [k0_pay3]

/-- The last point adds the eight rows. -/
def total (o : Vec Ideal S8x1024 .f32) (y : S8x1024.Idx) : Elt Ideal .f32 := ∑ q : Fin 8, o (ix2 q (y 1))

theorem total4 (o : Vec Ideal S8x1024 .f32) (y : S8x1024.Idx) : k0_pay4 (F := Ideal) o y = total o y := by
  unfold total
  pointwise [k0_pay4]

theorem total5 (o : Vec Ideal S8x1024 .f32) (y : S8x1024.Idx) : k0_pay5 (F := Ideal) o y = total o y := by
  unfold total
  pointwise [k0_pay5]

theorem total6 (o : Vec Ideal S8x1024 .f32) (y : S8x1024.Idx) : k0_pay6 (F := Ideal) o y = total o y := by
  unfold total
  pointwise [k0_pay6]

theorem zero7 (y : S8x1024.Idx) : k0_pay7 (F := Ideal) y = 0 := by pointwise [k0_pay7]
theorem zero8 (y : S8x1024.Idx) : k0_pay8 (F := Ideal) y = 0 := by pointwise [k0_pay8]
theorem zero9 (y : S8x1024.Idx) : k0_pay9 (F := Ideal) y = 0 := by pointwise [k0_pay9]

end Cert.ResidualGradIdeal.Sum

end
-- ==== Proof.Gr.Values.lean ====
/- What one grid point of the residual gradient leaves in each of its five outputs. -/
module

public import proofs.«01_k».proof.Proof.Gr.Payloads
public import Idealize.ShloMosaic.Lib.Pipeline.ReadBack

@[expose] public section

set_option maxRecDepth 16384

noncomputable section

namespace Cert.ResidualGradIdeal.Sum

open Cert.ResidualGradIdeal.Gen
open Idealize.ShloMosaic Idealize.ShloMosaic.TcCoe

/-- The sixteen products added to the residual's share. -/
theorem acc_eq (x0 : Vec Ideal S256x1024 .f32) (x1 : Vec Ideal S256x4096 .bf16) (x2 x3 : Vec Ideal S256x3072 .bf16) (w0 : Vec Ideal S8x1024x512 .bf16) (w1 : Vec Ideal S8x1024x768 .bf16) :
    k0_pay14 (F := Ideal) (k0_pay13 (k0_pay12 (k0_pay10 (F := Ideal) x0 (View.ld x1 (Rect.unit ![0, 0] ![256, 512] inb_S256x4096_S256x512_0_0)) (View.ld w0 (Rect.unit ![0, 0, 0] ![1, 1024, 512] inb_S8x1024x512_S1x1024x512_0_0_0)) (View.ld x2 (Rect.unit ![0, 0] ![256, 768] inb_S256x3072_S256x768_0_0)) (View.ld w1 (Rect.unit ![0, 0, 0] ![1, 1024, 768] inb_S8x1024x768_S1x1024x768_0_0_0)) (View.ld x1 (Rect.unit ![0, 512] ![256, 512] inb_S256x4096_S256x512_0_512)) (View.ld w0 (Rect.unit ![1, 0, 0] ![1, 1024, 512] inb_S8x1024x512_S1x1024x512_1_0_0))) (View.ld x2 (Rect.unit ![0, 768] ![256, 768] inb_S256x3072_S256x768_0_768)) (k0_pay11 (View.ld w1 (Rect.unit ![1, 0, 0] ![1, 1024, 768] inb_S8x1024x768_S1x1024x768_1_0_0))) (View.ld x1 (Rect.unit ![0, 1024] ![256, 512] inb_S256x4096_S256x512_0_1024)) (View.ld w0 (Rect.unit ![2, 0, 0] ![1, 1024, 512] inb_S8x1024x512_S1x1024x512_2_0_0)) (View.ld x2 (Rect.unit ![0, 1536] ![256, 768] inb_S256x3072_S256x768_0_1536)) (View.ld w1 (Rect.unit ![2, 0, 0] ![1, 1024, 768] inb_S8x1024x768_S1x1024x768_2_0_0)) (View.ld x1 (Rect.unit ![0, 1536] ![256, 512] inb_S256x4096_S256x512_0_1536)) (View.ld w0 (Rect.unit ![3, 0, 0] ![1, 1024, 512] inb_S8x1024x512_S1x1024x512_3_0_0)) (View.ld x2 (Rect.unit ![0, 2304] ![256, 768] inb_S256x3072_S256x768_0_2304)) (View.ld w1 (Rect.unit ![3, 0, 0] ![1, 1024, 768] inb_S8x1024x768_S1x1024x768_3_0_0)) (View.ld x1 (Rect.unit ![0, 2048] ![256, 512] inb_S256x4096_S256x512_0_2048)) (View.ld w0 (Rect.unit ![4, 0, 0] ![1, 1024, 512] inb_S8x1024x512_S1x1024x512_4_0_0))) (View.ld x3 (Rect.unit ![0, 0] ![256, 768] inb_S256x3072_S256x768_0_0)) (View.ld w1 (Rect.unit ![4, 0, 0] ![1, 1024, 768] inb_S8x1024x768_S1x1024x768_4_0_0)) (View.ld x1 (Rect.unit ![0, 2560] ![256, 512] inb_S256x4096_S256x512_0_2560)) (View.ld w0 (Rect.unit ![5, 0, 0] ![1, 1024, 512] inb_S8x1024x512_S1x1024x512_5_0_0)) (View.ld x3 (Rect.unit ![0, 768] ![256, 768] inb_S256x3072_S256x768_0_768)) (View.ld w1 (Rect.unit ![5, 0, 0] ![1, 1024, 768] inb_S8x1024x768_S1x1024x768_5_0_0)) (View.ld x1 (Rect.unit ![0, 3072] ![256, 512] inb_S256x4096_S256x512_0_3072)) (View.ld w0 (Rect.unit ![6, 0, 0] ![1, 1024, 512] inb_S8x1024x512_S1x1024x512_6_0_0)) (View.ld x3 (Rect.unit ![0, 1536] ![256, 768] inb_S256x3072_S256x768_0_1536)) (View.ld w1 (Rect.unit ![6, 0, 0] ![1, 1024, 768] inb_S8x1024x768_S1x1024x768_6_0_0))) (View.ld x1 (Rect.unit ![0, 3584] ![256, 512] inb_S256x4096_S256x512_0_3584)) (View.ld w0 (Rect.unit ![7, 0, 0] ![1, 1024, 512] inb_S8x1024x512_S1x1024x512_7_0_0)) (View.ld x3 (Rect.unit ![0, 2304] ![256, 768] inb_S256x3072_S256x768_0_2304)) (View.ld w1 (Rect.unit ![7, 0, 0] ![1, 1024, 768] inb_S8x1024x768_S1x1024x768_7_0_0))
      = entry x0 x1 x2 x3 w0 w1 := by
  funext y
  unfold entry
  rw [Fin.sum_univ_four, Fin.sum_univ_four]
  pointwise [k0_pay10, k0_pay11, k0_pay12, k0_pay13, k0_pay14]
  simp only [add_assoc]

/-- A load of what one copy of the whole buffer brought. -/
theorem loaded {κ : Kind} {sp : Space} {s : Shape} {e : EltTy} (v : View sig κ sp s e) (w : s.Idx → Elt Ideal e) (r : Rect s) :
    v.readCov [⟨Rect.whole s, w⟩] r.toLoadRect = View.ld w r := by
  rw [View.readCov_eq_canon']
  funext j
  show View.canon [⟨Rect.whole s, w⟩] (r.emb j) = w (r.emb j)
  exact (congrArg _ (Rect.emb_whole_apply s (r.emb j)).symm).trans (View.canon_cons_emb (Rect.whole s) w [] (r.emb j))

theorem copied {s : Shape} {e : EltTy} (w : s.Idx → Elt Ideal e) (y : s.Idx) : View.canon [⟨Rect.whole s, w⟩] y = w y :=
  (congrArg _ (Rect.emb_whole_apply s y).symm).trans (View.canon_cons_emb (Rect.whole s) w [] y)

/-- First point: the gradient rows. -/
theorem block7_A (c : Dev nD) (i : grid0.Coords) (arg1 : Memref sig .tc .vmem S256x1024 .f32) (harg1 : arg1.IsWhole) (arg2 : Memref sig .tc .vmem S256x4096 .bf16) (harg2 : arg2.IsWhole) (arg3 : Memref sig .tc .vmem S256x3072 .bf16) (harg3 : arg3.IsWhole) (arg4 : Memref sig .tc .vmem S256x3072 .bf16) (harg4 : arg4.IsWhole) (arg7 : Memref sig .tc .vmem S256x1024 .f32) (harg7 : arg7.IsWhole) (arg8 : Memref sig .tc .vmem S256x1 .f32) (harg8 : arg8.IsWhole) (arg9 : Memref sig .tc .vmem S1x1024 .f32) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S8x1024x512 .bf16) (harg15 : arg15.IsWhole) (arg16 : Memref sig .tc .vmem S8x1024x768 .bf16) (harg16 : arg16.IsWhole) (hc0 : cond0_0 i) (hc1 : cond0_1 i) (hc2 : ¬cond0_2 i) (x0 : Vec Ideal S256x1024 .f32) (x1 : Vec Ideal S256x4096 .bf16) (x2 : Vec Ideal S256x3072 .bf16) (x3 : Vec Ideal S256x3072 .bf16) (x4 : Vec Ideal S256x1024 .f32) (x5 : Vec Ideal S256x1 .f32) (x6 : Vec Ideal S1x1024 .f32) (fh0 : HbBuf0 (F := Ideal) c hbM0_0) (fh1 : HbBuf0 (F := Ideal) c hbM0_1) (y : S256x1024.Idx) :
    out0_A_7 (F := Ideal) c i arg1 harg1 arg2 harg2 arg3 harg3 arg4 harg4 arg7 harg7 arg8 harg8 arg9 harg9 arg10 harg10 arg11 harg11 arg12 harg12 arg13 harg13 arg14 harg14 arg15 harg15 arg16 harg16 hc0 hc1 hc2 x0 x1 x2 x3 x4 x5 x6 fh0 fh1 y = rowGrad (entry x0 x1 x2 x3 (fh0 : Vec Ideal S8x1024x512 .bf16) (fh1 : Vec Ideal S8x1024x768 .bf16)) x4 x5 x6 y := by
  frame_out
  simp only [loaded]
  refine (row_grad ..).trans ?_
  exact congrArg (fun a => rowGrad a x4 x5 x6 y) (acc_eq ..)

/-- First point: the gradient rows in bf16. -/
theorem block8_A (c : Dev nD) (i : grid0.Coords) (arg1 : Memref sig .tc .vmem S256x1024 .f32) (harg1 : arg1.IsWhole) (arg2 : Memref sig .tc .vmem S256x4096 .bf16) (harg2 : arg2.IsWhole) (arg3 : Memref sig .tc .vmem S256x3072 .bf16) (harg3 : arg3.IsWhole) (arg4 : Memref sig .tc .vmem S256x3072 .bf16) (harg4 : arg4.IsWhole) (arg7 : Memref sig .tc .vmem S256x1024 .f32) (harg7 : arg7.IsWhole) (arg8 : Memref sig .tc .vmem S256x1 .f32) (harg8 : arg8.IsWhole) (arg9 : Memref sig .tc .vmem S1x1024 .f32) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S8x1024x512 .bf16) (harg15 : arg15.IsWhole) (arg16 : Memref sig .tc .vmem S8x1024x768 .bf16) (harg16 : arg16.IsWhole) (hc0 : cond0_0 i) (hc1 : cond0_1 i) (hc2 : ¬cond0_2 i) (x0 : Vec Ideal S256x1024 .f32) (x1 : Vec Ideal S256x4096 .bf16) (x2 : Vec Ideal S256x3072 .bf16) (x3 : Vec Ideal S256x3072 .bf16) (x4 : Vec Ideal S256x1024 .f32) (x5 : Vec Ideal S256x1 .f32) (x6 : Vec Ideal S1x1024 .f32) (fh0 : HbBuf0 (F := Ideal) c hbM0_0) (fh1 : HbBuf0 (F := Ideal) c hbM0_1) (y : S256x1024.Idx) :
    out0_A_8 (F := Ideal) c i arg1 harg1 arg2 harg2 arg3 harg3 arg4 harg4 arg7 harg7 arg8 harg8 arg9 harg9 arg10 harg10 arg11 harg11 arg12 harg12 arg13 harg13 arg14 harg14 arg15 harg15 arg16 harg16 hc0 hc1 hc2 x0 x1 x2 x3 x4 x5 x6 fh0 fh1 y = rowGrad (entry x0 x1 x2 x3 (fh0 : Vec Ideal S8x1024x512 .bf16) (fh1 : Vec Ideal S8x1024x768 .bf16)) x4 x5 x6 y := by
  frame_out
  simp only [loaded]
  refine (row_grad_cast ..).trans ((row_grad ..).trans ?_)
  exact congrArg (fun a => rowGrad a x4 x5 x6 y) (acc_eq ..)

/-- First point: the running sum for the gain. -/
theorem block9_A (c : Dev nD) (i : grid0.Coords) (arg1 : Memref sig .tc .vmem S256x1024 .f32) (harg1 : arg1.IsWhole) (arg2 : Memref sig .tc .vmem S256x4096 .bf16) (harg2 : arg2.IsWhole) (arg3 : Memref sig .tc .vmem S256x3072 .bf16) (harg3 : arg3.IsWhole) (arg4 : Memref sig .tc .vmem S256x3072 .bf16) (harg4 : arg4.IsWhole) (arg7 : Memref sig .tc .vmem S256x1024 .f32) (harg7 : arg7.IsWhole) (arg8 : Memref sig .tc .vmem S256x1 .f32) (harg8 : arg8.IsWhole) (arg9 : Memref sig .tc .vmem S1x1024 .f32) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S8x1024x512 .bf16) (harg15 : arg15.IsWhole) (arg16 : Memref sig .tc .vmem S8x1024x768 .bf16) (harg16 : arg16.IsWhole) (hc0 : cond0_0 i) (hc1 : cond0_1 i) (hc2 : ¬cond0_2 i) (x0 : Vec Ideal S256x1024 .f32) (x1 : Vec Ideal S256x4096 .bf16) (x2 : Vec Ideal S256x3072 .bf16) (x3 : Vec Ideal S256x3072 .bf16) (x4 : Vec Ideal S256x1024 .f32) (x5 : Vec Ideal S256x1 .f32) (x6 : Vec Ideal S1x1024 .f32) (fh0 : HbBuf0 (F := Ideal) c hbM0_0) (fh1 : HbBuf0 (F := Ideal) c hbM0_1) (y : S8x1024.Idx) :
    out0_A_9 (F := Ideal) c i arg1 harg1 arg2 harg2 arg3 harg3 arg4 harg4 arg7 harg7 arg8 harg8 arg9 harg9 arg10 harg10 arg11 harg11 arg12 harg12 arg13 harg13 arg14 harg14 arg15 harg15 arg16 harg16 hc0 hc1 hc2 x0 x1 x2 x3 x4 x5 x6 fh0 fh1 y = 0 + fold8 (fun i => (entry x0 x1 x2 x3 (fh0 : Vec Ideal S8x1024x512 .bf16) (fh1 : Vec Ideal S8x1024x768 .bf16)) i * x4 i) y := by
  frame_out
  simp only [loaded]
  refine (gain_share ..).trans ?_
  rw [zero7]
  exact congrArg (fun a : Vec Ideal S256x1024 .f32 => 0 + fold8 (fun i => a i * x4 i) y) (acc_eq ..)

/-- First point: the running sum for the bias. -/
theorem block10_A (c : Dev nD) (i : grid0.Coords) (arg1 : Memref sig .tc .vmem S256x1024 .f32) (harg1 : arg1.IsWhole) (arg2 : Memref sig .tc .vmem S256x4096 .bf16) (harg2 : arg2.IsWhole) (arg3 : Memref sig .tc .vmem S256x3072 .bf16) (harg3 : arg3.IsWhole) (arg4 : Memref sig .tc .vmem S256x3072 .bf16) (harg4 : arg4.IsWhole) (arg7 : Memref sig .tc .vmem S256x1024 .f32) (harg7 : arg7.IsWhole) (arg8 : Memref sig .tc .vmem S256x1 .f32) (harg8 : arg8.IsWhole) (arg9 : Memref sig .tc .vmem S1x1024 .f32) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S8x1024x512 .bf16) (harg15 : arg15.IsWhole) (arg16 : Memref sig .tc .vmem S8x1024x768 .bf16) (harg16 : arg16.IsWhole) (hc0 : cond0_0 i) (hc1 : cond0_1 i) (hc2 : ¬cond0_2 i) (x0 : Vec Ideal S256x1024 .f32) (x1 : Vec Ideal S256x4096 .bf16) (x2 : Vec Ideal S256x3072 .bf16) (x3 : Vec Ideal S256x3072 .bf16) (x4 : Vec Ideal S256x1024 .f32) (x5 : Vec Ideal S256x1 .f32) (x6 : Vec Ideal S1x1024 .f32) (fh0 : HbBuf0 (F := Ideal) c hbM0_0) (fh1 : HbBuf0 (F := Ideal) c hbM0_1) (y : S8x1024.Idx) :
    out0_A_10 (F := Ideal) c i arg1 harg1 arg2 harg2 arg3 harg3 arg4 harg4 arg7 harg7 arg8 harg8 arg9 harg9 arg10 harg10 arg11 harg11 arg12 harg12 arg13 harg13 arg14 harg14 arg15 harg15 arg16 harg16 hc0 hc1 hc2 x0 x1 x2 x3 x4 x5 x6 fh0 fh1 y = 0 + fold8 (entry x0 x1 x2 x3 (fh0 : Vec Ideal S8x1024x512 .bf16) (fh1 : Vec Ideal S8x1024x768 .bf16)) y := by
  frame_out
  simp only [loaded]
  refine (bias_share ..).trans ?_
  rw [zero8]
  exact congrArg (fun a : Vec Ideal S256x1024 .f32 => 0 + fold8 a y) (acc_eq ..)

/-- First point: the running sum of the gradient rows. -/
theorem block11_A (c : Dev nD) (i : grid0.Coords) (arg1 : Memref sig .tc .vmem S256x1024 .f32) (harg1 : arg1.IsWhole) (arg2 : Memref sig .tc .vmem S256x4096 .bf16) (harg2 : arg2.IsWhole) (arg3 : Memref sig .tc .vmem S256x3072 .bf16) (harg3 : arg3.IsWhole) (arg4 : Memref sig .tc .vmem S256x3072 .bf16) (harg4 : arg4.IsWhole) (arg7 : Memref sig .tc .vmem S256x1024 .f32) (harg7 : arg7.IsWhole) (arg8 : Memref sig .tc .vmem S256x1 .f32) (harg8 : arg8.IsWhole) (arg9 : Memref sig .tc .vmem S1x1024 .f32) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S8x1024x512 .bf16) (harg15 : arg15.IsWhole) (arg16 : Memref sig .tc .vmem S8x1024x768 .bf16) (harg16 : arg16.IsWhole) (hc0 : cond0_0 i) (hc1 : cond0_1 i) (hc2 : ¬cond0_2 i) (x0 : Vec Ideal S256x1024 .f32) (x1 : Vec Ideal S256x4096 .bf16) (x2 : Vec Ideal S256x3072 .bf16) (x3 : Vec Ideal S256x3072 .bf16) (x4 : Vec Ideal S256x1024 .f32) (x5 : Vec Ideal S256x1 .f32) (x6 : Vec Ideal S1x1024 .f32) (fh0 : HbBuf0 (F := Ideal) c hbM0_0) (fh1 : HbBuf0 (F := Ideal) c hbM0_1) (y : S8x1024.Idx) :
    out0_A_11 (F := Ideal) c i arg1 harg1 arg2 harg2 arg3 harg3 arg4 harg4 arg7 harg7 arg8 harg8 arg9 harg9 arg10 harg10 arg11 harg11 arg12 harg12 arg13 harg13 arg14 harg14 arg15 harg15 arg16 harg16 hc0 hc1 hc2 x0 x1 x2 x3 x4 x5 x6 fh0 fh1 y = 0 + fold8 (rowGrad (entry x0 x1 x2 x3 (fh0 : Vec Ideal S8x1024x512 .bf16) (fh1 : Vec Ideal S8x1024x768 .bf16)) x4 x5 x6) y := by
  frame_out
  simp only [loaded]
  refine (row_share ..).trans ?_
  rw [zero9]
  exact congrArg (fun a : Vec Ideal S256x1024 .f32 => 0 + fold8 a y) (funext fun i => (row_grad ..).trans (congrArg (fun a => rowGrad a x4 x5 x6 i) (acc_eq ..)))

/-- A middle point: the gradient rows. -/
theorem block7_B (c : Dev nD) (i : grid0.Coords) (arg1 : Memref sig .tc .vmem S256x1024 .f32) (harg1 : arg1.IsWhole) (arg2 : Memref sig .tc .vmem S256x4096 .bf16) (harg2 : arg2.IsWhole) (arg3 : Memref sig .tc .vmem S256x3072 .bf16) (harg3 : arg3.IsWhole) (arg4 : Memref sig .tc .vmem S256x3072 .bf16) (harg4 : arg4.IsWhole) (arg7 : Memref sig .tc .vmem S256x1024 .f32) (harg7 : arg7.IsWhole) (arg8 : Memref sig .tc .vmem S256x1 .f32) (harg8 : arg8.IsWhole) (arg9 : Memref sig .tc .vmem S1x1024 .f32) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S8x1024x512 .bf16) (harg15 : arg15.IsWhole) (arg16 : Memref sig .tc .vmem S8x1024x768 .bf16) (harg16 : arg16.IsWhole) (hc0 : ¬cond0_0 i) (hc1 : ¬cond0_1 i) (hc2 : ¬cond0_2 i) (x0 : Vec Ideal S256x1024 .f32) (x1 : Vec Ideal S256x4096 .bf16) (x2 : Vec Ideal S256x3072 .bf16) (x3 : Vec Ideal S256x3072 .bf16) (x4 : Vec Ideal S256x1024 .f32) (x5 : Vec Ideal S256x1 .f32) (x6 : Vec Ideal S1x1024 .f32) (xo9 : Vec Ideal S8x1024 .f32) (xo10 : Vec Ideal S8x1024 .f32) (xo11 : Vec Ideal S8x1024 .f32) (xs0 : Vec Ideal S8x1024x512 .bf16) (xs1 : Vec Ideal S8x1024x768 .bf16) (fh0 : HbBuf0 (F := Ideal) c hbM0_0) (fh1 : HbBuf0 (F := Ideal) c hbM0_1) (y : S256x1024.Idx) :
    out0_B_7 (F := Ideal) c i arg1 harg1 arg2 harg2 arg3 harg3 arg4 harg4 arg7 harg7 arg8 harg8 arg9 harg9 arg10 harg10 arg11 harg11 arg12 harg12 arg13 harg13 arg14 harg14 arg15 harg15 arg16 harg16 hc0 hc1 hc2 x0 x1 x2 x3 x4 x5 x6 xo9 xo10 xo11 xs0 xs1 fh0 fh1 y = rowGrad (entry x0 x1 x2 x3 xs0 xs1) x4 x5 x6 y := by
  frame_out
  refine (row_grad ..).trans ?_
  exact congrArg (fun a => rowGrad a x4 x5 x6 y) (acc_eq ..)

/-- A middle point: the gradient rows in bf16. -/
theorem block8_B (c : Dev nD) (i : grid0.Coords) (arg1 : Memref sig .tc .vmem S256x1024 .f32) (harg1 : arg1.IsWhole) (arg2 : Memref sig .tc .vmem S256x4096 .bf16) (harg2 : arg2.IsWhole) (arg3 : Memref sig .tc .vmem S256x3072 .bf16) (harg3 : arg3.IsWhole) (arg4 : Memref sig .tc .vmem S256x3072 .bf16) (harg4 : arg4.IsWhole) (arg7 : Memref sig .tc .vmem S256x1024 .f32) (harg7 : arg7.IsWhole) (arg8 : Memref sig .tc .vmem S256x1 .f32) (harg8 : arg8.IsWhole) (arg9 : Memref sig .tc .vmem S1x1024 .f32) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S8x1024x512 .bf16) (harg15 : arg15.IsWhole) (arg16 : Memref sig .tc .vmem S8x1024x768 .bf16) (harg16 : arg16.IsWhole) (hc0 : ¬cond0_0 i) (hc1 : ¬cond0_1 i) (hc2 : ¬cond0_2 i) (x0 : Vec Ideal S256x1024 .f32) (x1 : Vec Ideal S256x4096 .bf16) (x2 : Vec Ideal S256x3072 .bf16) (x3 : Vec Ideal S256x3072 .bf16) (x4 : Vec Ideal S256x1024 .f32) (x5 : Vec Ideal S256x1 .f32) (x6 : Vec Ideal S1x1024 .f32) (xo9 : Vec Ideal S8x1024 .f32) (xo10 : Vec Ideal S8x1024 .f32) (xo11 : Vec Ideal S8x1024 .f32) (xs0 : Vec Ideal S8x1024x512 .bf16) (xs1 : Vec Ideal S8x1024x768 .bf16) (fh0 : HbBuf0 (F := Ideal) c hbM0_0) (fh1 : HbBuf0 (F := Ideal) c hbM0_1) (y : S256x1024.Idx) :
    out0_B_8 (F := Ideal) c i arg1 harg1 arg2 harg2 arg3 harg3 arg4 harg4 arg7 harg7 arg8 harg8 arg9 harg9 arg10 harg10 arg11 harg11 arg12 harg12 arg13 harg13 arg14 harg14 arg15 harg15 arg16 harg16 hc0 hc1 hc2 x0 x1 x2 x3 x4 x5 x6 xo9 xo10 xo11 xs0 xs1 fh0 fh1 y = rowGrad (entry x0 x1 x2 x3 xs0 xs1) x4 x5 x6 y := by
  frame_out
  refine (row_grad_cast ..).trans ((row_grad ..).trans ?_)
  exact congrArg (fun a => rowGrad a x4 x5 x6 y) (acc_eq ..)

/-- A middle point: the running sum for the gain. -/
theorem block9_B (c : Dev nD) (i : grid0.Coords) (arg1 : Memref sig .tc .vmem S256x1024 .f32) (harg1 : arg1.IsWhole) (arg2 : Memref sig .tc .vmem S256x4096 .bf16) (harg2 : arg2.IsWhole) (arg3 : Memref sig .tc .vmem S256x3072 .bf16) (harg3 : arg3.IsWhole) (arg4 : Memref sig .tc .vmem S256x3072 .bf16) (harg4 : arg4.IsWhole) (arg7 : Memref sig .tc .vmem S256x1024 .f32) (harg7 : arg7.IsWhole) (arg8 : Memref sig .tc .vmem S256x1 .f32) (harg8 : arg8.IsWhole) (arg9 : Memref sig .tc .vmem S1x1024 .f32) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S8x1024x512 .bf16) (harg15 : arg15.IsWhole) (arg16 : Memref sig .tc .vmem S8x1024x768 .bf16) (harg16 : arg16.IsWhole) (hc0 : ¬cond0_0 i) (hc1 : ¬cond0_1 i) (hc2 : ¬cond0_2 i) (x0 : Vec Ideal S256x1024 .f32) (x1 : Vec Ideal S256x4096 .bf16) (x2 : Vec Ideal S256x3072 .bf16) (x3 : Vec Ideal S256x3072 .bf16) (x4 : Vec Ideal S256x1024 .f32) (x5 : Vec Ideal S256x1 .f32) (x6 : Vec Ideal S1x1024 .f32) (xo9 : Vec Ideal S8x1024 .f32) (xo10 : Vec Ideal S8x1024 .f32) (xo11 : Vec Ideal S8x1024 .f32) (xs0 : Vec Ideal S8x1024x512 .bf16) (xs1 : Vec Ideal S8x1024x768 .bf16) (fh0 : HbBuf0 (F := Ideal) c hbM0_0) (fh1 : HbBuf0 (F := Ideal) c hbM0_1) (y : S8x1024.Idx) :
    out0_B_9 (F := Ideal) c i arg1 harg1 arg2 harg2 arg3 harg3 arg4 harg4 arg7 harg7 arg8 harg8 arg9 harg9 arg10 harg10 arg11 harg11 arg12 harg12 arg13 harg13 arg14 harg14 arg15 harg15 arg16 harg16 hc0 hc1 hc2 x0 x1 x2 x3 x4 x5 x6 xo9 xo10 xo11 xs0 xs1 fh0 fh1 y = xo9 y + fold8 (fun i => (entry x0 x1 x2 x3 xs0 xs1) i * x4 i) y := by
  frame_out
  refine (gain_share ..).trans ?_
  exact congrArg (fun a : Vec Ideal S256x1024 .f32 => xo9 y + fold8 (fun i => a i * x4 i) y) (acc_eq ..)

/-- A middle point: the running sum for the bias. -/
theorem block10_B (c : Dev nD) (i : grid0.Coords) (arg1 : Memref sig .tc .vmem S256x1024 .f32) (harg1 : arg1.IsWhole) (arg2 : Memref sig .tc .vmem S256x4096 .bf16) (harg2 : arg2.IsWhole) (arg3 : Memref sig .tc .vmem S256x3072 .bf16) (harg3 : arg3.IsWhole) (arg4 : Memref sig .tc .vmem S256x3072 .bf16) (harg4 : arg4.IsWhole) (arg7 : Memref sig .tc .vmem S256x1024 .f32) (harg7 : arg7.IsWhole) (arg8 : Memref sig .tc .vmem S256x1 .f32) (harg8 : arg8.IsWhole) (arg9 : Memref sig .tc .vmem S1x1024 .f32) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S8x1024x512 .bf16) (harg15 : arg15.IsWhole) (arg16 : Memref sig .tc .vmem S8x1024x768 .bf16) (harg16 : arg16.IsWhole) (hc0 : ¬cond0_0 i) (hc1 : ¬cond0_1 i) (hc2 : ¬cond0_2 i) (x0 : Vec Ideal S256x1024 .f32) (x1 : Vec Ideal S256x4096 .bf16) (x2 : Vec Ideal S256x3072 .bf16) (x3 : Vec Ideal S256x3072 .bf16) (x4 : Vec Ideal S256x1024 .f32) (x5 : Vec Ideal S256x1 .f32) (x6 : Vec Ideal S1x1024 .f32) (xo9 : Vec Ideal S8x1024 .f32) (xo10 : Vec Ideal S8x1024 .f32) (xo11 : Vec Ideal S8x1024 .f32) (xs0 : Vec Ideal S8x1024x512 .bf16) (xs1 : Vec Ideal S8x1024x768 .bf16) (fh0 : HbBuf0 (F := Ideal) c hbM0_0) (fh1 : HbBuf0 (F := Ideal) c hbM0_1) (y : S8x1024.Idx) :
    out0_B_10 (F := Ideal) c i arg1 harg1 arg2 harg2 arg3 harg3 arg4 harg4 arg7 harg7 arg8 harg8 arg9 harg9 arg10 harg10 arg11 harg11 arg12 harg12 arg13 harg13 arg14 harg14 arg15 harg15 arg16 harg16 hc0 hc1 hc2 x0 x1 x2 x3 x4 x5 x6 xo9 xo10 xo11 xs0 xs1 fh0 fh1 y = xo10 y + fold8 (entry x0 x1 x2 x3 xs0 xs1) y := by
  frame_out
  refine (bias_share ..).trans ?_
  exact congrArg (fun a : Vec Ideal S256x1024 .f32 => xo10 y + fold8 a y) (acc_eq ..)

/-- A middle point: the running sum of the gradient rows. -/
theorem block11_B (c : Dev nD) (i : grid0.Coords) (arg1 : Memref sig .tc .vmem S256x1024 .f32) (harg1 : arg1.IsWhole) (arg2 : Memref sig .tc .vmem S256x4096 .bf16) (harg2 : arg2.IsWhole) (arg3 : Memref sig .tc .vmem S256x3072 .bf16) (harg3 : arg3.IsWhole) (arg4 : Memref sig .tc .vmem S256x3072 .bf16) (harg4 : arg4.IsWhole) (arg7 : Memref sig .tc .vmem S256x1024 .f32) (harg7 : arg7.IsWhole) (arg8 : Memref sig .tc .vmem S256x1 .f32) (harg8 : arg8.IsWhole) (arg9 : Memref sig .tc .vmem S1x1024 .f32) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S8x1024x512 .bf16) (harg15 : arg15.IsWhole) (arg16 : Memref sig .tc .vmem S8x1024x768 .bf16) (harg16 : arg16.IsWhole) (hc0 : ¬cond0_0 i) (hc1 : ¬cond0_1 i) (hc2 : ¬cond0_2 i) (x0 : Vec Ideal S256x1024 .f32) (x1 : Vec Ideal S256x4096 .bf16) (x2 : Vec Ideal S256x3072 .bf16) (x3 : Vec Ideal S256x3072 .bf16) (x4 : Vec Ideal S256x1024 .f32) (x5 : Vec Ideal S256x1 .f32) (x6 : Vec Ideal S1x1024 .f32) (xo9 : Vec Ideal S8x1024 .f32) (xo10 : Vec Ideal S8x1024 .f32) (xo11 : Vec Ideal S8x1024 .f32) (xs0 : Vec Ideal S8x1024x512 .bf16) (xs1 : Vec Ideal S8x1024x768 .bf16) (fh0 : HbBuf0 (F := Ideal) c hbM0_0) (fh1 : HbBuf0 (F := Ideal) c hbM0_1) (y : S8x1024.Idx) :
    out0_B_11 (F := Ideal) c i arg1 harg1 arg2 harg2 arg3 harg3 arg4 harg4 arg7 harg7 arg8 harg8 arg9 harg9 arg10 harg10 arg11 harg11 arg12 harg12 arg13 harg13 arg14 harg14 arg15 harg15 arg16 harg16 hc0 hc1 hc2 x0 x1 x2 x3 x4 x5 x6 xo9 xo10 xo11 xs0 xs1 fh0 fh1 y = xo11 y + fold8 (rowGrad (entry x0 x1 x2 x3 xs0 xs1) x4 x5 x6) y := by
  frame_out
  refine (row_share ..).trans ?_
  exact congrArg (fun a : Vec Ideal S256x1024 .f32 => xo11 y + fold8 a y) (funext fun i => (row_grad ..).trans (congrArg (fun a => rowGrad a x4 x5 x6 i) (acc_eq ..)))

/-- Last point: the gradient rows. -/
theorem block7_C (c : Dev nD) (i : grid0.Coords) (arg1 : Memref sig .tc .vmem S256x1024 .f32) (harg1 : arg1.IsWhole) (arg2 : Memref sig .tc .vmem S256x4096 .bf16) (harg2 : arg2.IsWhole) (arg3 : Memref sig .tc .vmem S256x3072 .bf16) (harg3 : arg3.IsWhole) (arg4 : Memref sig .tc .vmem S256x3072 .bf16) (harg4 : arg4.IsWhole) (arg7 : Memref sig .tc .vmem S256x1024 .f32) (harg7 : arg7.IsWhole) (arg8 : Memref sig .tc .vmem S256x1 .f32) (harg8 : arg8.IsWhole) (arg9 : Memref sig .tc .vmem S1x1024 .f32) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S8x1024x512 .bf16) (harg15 : arg15.IsWhole) (arg16 : Memref sig .tc .vmem S8x1024x768 .bf16) (harg16 : arg16.IsWhole) (hc0 : ¬cond0_0 i) (hc1 : ¬cond0_1 i) (hc2 : cond0_2 i) (x0 : Vec Ideal S256x1024 .f32) (x1 : Vec Ideal S256x4096 .bf16) (x2 : Vec Ideal S256x3072 .bf16) (x3 : Vec Ideal S256x3072 .bf16) (x4 : Vec Ideal S256x1024 .f32) (x5 : Vec Ideal S256x1 .f32) (x6 : Vec Ideal S1x1024 .f32) (xo9 : Vec Ideal S8x1024 .f32) (xo10 : Vec Ideal S8x1024 .f32) (xo11 : Vec Ideal S8x1024 .f32) (xs0 : Vec Ideal S8x1024x512 .bf16) (xs1 : Vec Ideal S8x1024x768 .bf16) (fh0 : HbBuf0 (F := Ideal) c hbM0_0) (fh1 : HbBuf0 (F := Ideal) c hbM0_1) (y : S256x1024.Idx) :
    out0_C_7 (F := Ideal) c i arg1 harg1 arg2 harg2 arg3 harg3 arg4 harg4 arg7 harg7 arg8 harg8 arg9 harg9 arg10 harg10 arg11 harg11 arg12 harg12 arg13 harg13 arg14 harg14 arg15 harg15 arg16 harg16 hc0 hc1 hc2 x0 x1 x2 x3 x4 x5 x6 xo9 xo10 xo11 xs0 xs1 fh0 fh1 y = rowGrad (entry x0 x1 x2 x3 xs0 xs1) x4 x5 x6 y := by
  frame_out
  refine (row_grad ..).trans ?_
  exact congrArg (fun a => rowGrad a x4 x5 x6 y) (acc_eq ..)

/-- Last point: the gradient rows in bf16. -/
theorem block8_C (c : Dev nD) (i : grid0.Coords) (arg1 : Memref sig .tc .vmem S256x1024 .f32) (harg1 : arg1.IsWhole) (arg2 : Memref sig .tc .vmem S256x4096 .bf16) (harg2 : arg2.IsWhole) (arg3 : Memref sig .tc .vmem S256x3072 .bf16) (harg3 : arg3.IsWhole) (arg4 : Memref sig .tc .vmem S256x3072 .bf16) (harg4 : arg4.IsWhole) (arg7 : Memref sig .tc .vmem S256x1024 .f32) (harg7 : arg7.IsWhole) (arg8 : Memref sig .tc .vmem S256x1 .f32) (harg8 : arg8.IsWhole) (arg9 : Memref sig .tc .vmem S1x1024 .f32) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S8x1024x512 .bf16) (harg15 : arg15.IsWhole) (arg16 : Memref sig .tc .vmem S8x1024x768 .bf16) (harg16 : arg16.IsWhole) (hc0 : ¬cond0_0 i) (hc1 : ¬cond0_1 i) (hc2 : cond0_2 i) (x0 : Vec Ideal S256x1024 .f32) (x1 : Vec Ideal S256x4096 .bf16) (x2 : Vec Ideal S256x3072 .bf16) (x3 : Vec Ideal S256x3072 .bf16) (x4 : Vec Ideal S256x1024 .f32) (x5 : Vec Ideal S256x1 .f32) (x6 : Vec Ideal S1x1024 .f32) (xo9 : Vec Ideal S8x1024 .f32) (xo10 : Vec Ideal S8x1024 .f32) (xo11 : Vec Ideal S8x1024 .f32) (xs0 : Vec Ideal S8x1024x512 .bf16) (xs1 : Vec Ideal S8x1024x768 .bf16) (fh0 : HbBuf0 (F := Ideal) c hbM0_0) (fh1 : HbBuf0 (F := Ideal) c hbM0_1) (y : S256x1024.Idx) :
    out0_C_8 (F := Ideal) c i arg1 harg1 arg2 harg2 arg3 harg3 arg4 harg4 arg7 harg7 arg8 harg8 arg9 harg9 arg10 harg10 arg11 harg11 arg12 harg12 arg13 harg13 arg14 harg14 arg15 harg15 arg16 harg16 hc0 hc1 hc2 x0 x1 x2 x3 x4 x5 x6 xo9 xo10 xo11 xs0 xs1 fh0 fh1 y = rowGrad (entry x0 x1 x2 x3 xs0 xs1) x4 x5 x6 y := by
  frame_out
  refine (row_grad_cast ..).trans ((row_grad ..).trans ?_)
  exact congrArg (fun a => rowGrad a x4 x5 x6 y) (acc_eq ..)

/-- Last point: the running sum for the gain. -/
theorem block9_C (c : Dev nD) (i : grid0.Coords) (arg1 : Memref sig .tc .vmem S256x1024 .f32) (harg1 : arg1.IsWhole) (arg2 : Memref sig .tc .vmem S256x4096 .bf16) (harg2 : arg2.IsWhole) (arg3 : Memref sig .tc .vmem S256x3072 .bf16) (harg3 : arg3.IsWhole) (arg4 : Memref sig .tc .vmem S256x3072 .bf16) (harg4 : arg4.IsWhole) (arg7 : Memref sig .tc .vmem S256x1024 .f32) (harg7 : arg7.IsWhole) (arg8 : Memref sig .tc .vmem S256x1 .f32) (harg8 : arg8.IsWhole) (arg9 : Memref sig .tc .vmem S1x1024 .f32) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S8x1024x512 .bf16) (harg15 : arg15.IsWhole) (arg16 : Memref sig .tc .vmem S8x1024x768 .bf16) (harg16 : arg16.IsWhole) (hc0 : ¬cond0_0 i) (hc1 : ¬cond0_1 i) (hc2 : cond0_2 i) (x0 : Vec Ideal S256x1024 .f32) (x1 : Vec Ideal S256x4096 .bf16) (x2 : Vec Ideal S256x3072 .bf16) (x3 : Vec Ideal S256x3072 .bf16) (x4 : Vec Ideal S256x1024 .f32) (x5 : Vec Ideal S256x1 .f32) (x6 : Vec Ideal S1x1024 .f32) (xo9 : Vec Ideal S8x1024 .f32) (xo10 : Vec Ideal S8x1024 .f32) (xo11 : Vec Ideal S8x1024 .f32) (xs0 : Vec Ideal S8x1024x512 .bf16) (xs1 : Vec Ideal S8x1024x768 .bf16) (fh0 : HbBuf0 (F := Ideal) c hbM0_0) (fh1 : HbBuf0 (F := Ideal) c hbM0_1) (y : S8x1024.Idx) :
    out0_C_9 (F := Ideal) c i arg1 harg1 arg2 harg2 arg3 harg3 arg4 harg4 arg7 harg7 arg8 harg8 arg9 harg9 arg10 harg10 arg11 harg11 arg12 harg12 arg13 harg13 arg14 harg14 arg15 harg15 arg16 harg16 hc0 hc1 hc2 x0 x1 x2 x3 x4 x5 x6 xo9 xo10 xo11 xs0 xs1 fh0 fh1 y = total (fun z => xo9 z + fold8 (fun i => (entry x0 x1 x2 x3 xs0 xs1) i * x4 i) z) y := by
  frame_out
  refine (total4 ..).trans (congrArg (fun t => total t y) (funext fun z => ?_))
  refine (gain_share ..).trans ?_
  exact congrArg (fun a : Vec Ideal S256x1024 .f32 => xo9 z + fold8 (fun i => a i * x4 i) z) (acc_eq ..)

/-- Last point: the running sum for the bias. -/
theorem block10_C (c : Dev nD) (i : grid0.Coords) (arg1 : Memref sig .tc .vmem S256x1024 .f32) (harg1 : arg1.IsWhole) (arg2 : Memref sig .tc .vmem S256x4096 .bf16) (harg2 : arg2.IsWhole) (arg3 : Memref sig .tc .vmem S256x3072 .bf16) (harg3 : arg3.IsWhole) (arg4 : Memref sig .tc .vmem S256x3072 .bf16) (harg4 : arg4.IsWhole) (arg7 : Memref sig .tc .vmem S256x1024 .f32) (harg7 : arg7.IsWhole) (arg8 : Memref sig .tc .vmem S256x1 .f32) (harg8 : arg8.IsWhole) (arg9 : Memref sig .tc .vmem S1x1024 .f32) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S8x1024x512 .bf16) (harg15 : arg15.IsWhole) (arg16 : Memref sig .tc .vmem S8x1024x768 .bf16) (harg16 : arg16.IsWhole) (hc0 : ¬cond0_0 i) (hc1 : ¬cond0_1 i) (hc2 : cond0_2 i) (x0 : Vec Ideal S256x1024 .f32) (x1 : Vec Ideal S256x4096 .bf16) (x2 : Vec Ideal S256x3072 .bf16) (x3 : Vec Ideal S256x3072 .bf16) (x4 : Vec Ideal S256x1024 .f32) (x5 : Vec Ideal S256x1 .f32) (x6 : Vec Ideal S1x1024 .f32) (xo9 : Vec Ideal S8x1024 .f32) (xo10 : Vec Ideal S8x1024 .f32) (xo11 : Vec Ideal S8x1024 .f32) (xs0 : Vec Ideal S8x1024x512 .bf16) (xs1 : Vec Ideal S8x1024x768 .bf16) (fh0 : HbBuf0 (F := Ideal) c hbM0_0) (fh1 : HbBuf0 (F := Ideal) c hbM0_1) (y : S8x1024.Idx) :
    out0_C_10 (F := Ideal) c i arg1 harg1 arg2 harg2 arg3 harg3 arg4 harg4 arg7 harg7 arg8 harg8 arg9 harg9 arg10 harg10 arg11 harg11 arg12 harg12 arg13 harg13 arg14 harg14 arg15 harg15 arg16 harg16 hc0 hc1 hc2 x0 x1 x2 x3 x4 x5 x6 xo9 xo10 xo11 xs0 xs1 fh0 fh1 y = total (fun z => xo10 z + fold8 (entry x0 x1 x2 x3 xs0 xs1) z) y := by
  frame_out
  refine (total5 ..).trans (congrArg (fun t => total t y) (funext fun z => ?_))
  refine (bias_share ..).trans ?_
  exact congrArg (fun a : Vec Ideal S256x1024 .f32 => xo10 z + fold8 a z) (acc_eq ..)

/-- Last point: the running sum of the gradient rows. -/
theorem block11_C (c : Dev nD) (i : grid0.Coords) (arg1 : Memref sig .tc .vmem S256x1024 .f32) (harg1 : arg1.IsWhole) (arg2 : Memref sig .tc .vmem S256x4096 .bf16) (harg2 : arg2.IsWhole) (arg3 : Memref sig .tc .vmem S256x3072 .bf16) (harg3 : arg3.IsWhole) (arg4 : Memref sig .tc .vmem S256x3072 .bf16) (harg4 : arg4.IsWhole) (arg7 : Memref sig .tc .vmem S256x1024 .f32) (harg7 : arg7.IsWhole) (arg8 : Memref sig .tc .vmem S256x1 .f32) (harg8 : arg8.IsWhole) (arg9 : Memref sig .tc .vmem S1x1024 .f32) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S8x1024x512 .bf16) (harg15 : arg15.IsWhole) (arg16 : Memref sig .tc .vmem S8x1024x768 .bf16) (harg16 : arg16.IsWhole) (hc0 : ¬cond0_0 i) (hc1 : ¬cond0_1 i) (hc2 : cond0_2 i) (x0 : Vec Ideal S256x1024 .f32) (x1 : Vec Ideal S256x4096 .bf16) (x2 : Vec Ideal S256x3072 .bf16) (x3 : Vec Ideal S256x3072 .bf16) (x4 : Vec Ideal S256x1024 .f32) (x5 : Vec Ideal S256x1 .f32) (x6 : Vec Ideal S1x1024 .f32) (xo9 : Vec Ideal S8x1024 .f32) (xo10 : Vec Ideal S8x1024 .f32) (xo11 : Vec Ideal S8x1024 .f32) (xs0 : Vec Ideal S8x1024x512 .bf16) (xs1 : Vec Ideal S8x1024x768 .bf16) (fh0 : HbBuf0 (F := Ideal) c hbM0_0) (fh1 : HbBuf0 (F := Ideal) c hbM0_1) (y : S8x1024.Idx) :
    out0_C_11 (F := Ideal) c i arg1 harg1 arg2 harg2 arg3 harg3 arg4 harg4 arg7 harg7 arg8 harg8 arg9 harg9 arg10 harg10 arg11 harg11 arg12 harg12 arg13 harg13 arg14 harg14 arg15 harg15 arg16 harg16 hc0 hc1 hc2 x0 x1 x2 x3 x4 x5 x6 xo9 xo10 xo11 xs0 xs1 fh0 fh1 y = total (fun z => xo11 z + fold8 (rowGrad (entry x0 x1 x2 x3 xs0 xs1) x4 x5 x6) z) y := by
  frame_out
  refine (total6 ..).trans (congrArg (fun t => total t y) (funext fun z => ?_))
  refine (row_share ..).trans ?_
  exact congrArg (fun a : Vec Ideal S256x1024 .f32 => xo11 z + fold8 a z) (funext fun i => (row_grad ..).trans (congrArg (fun a => rowGrad a x4 x5 x6 i) (acc_eq ..)))

/-- The first point copies the weight. -/
theorem scratch0_A (c : Dev nD) (i : grid0.Coords) (arg1 : Memref sig .tc .vmem S256x1024 .f32) (harg1 : arg1.IsWhole) (arg2 : Memref sig .tc .vmem S256x4096 .bf16) (harg2 : arg2.IsWhole) (arg3 : Memref sig .tc .vmem S256x3072 .bf16) (harg3 : arg3.IsWhole) (arg4 : Memref sig .tc .vmem S256x3072 .bf16) (harg4 : arg4.IsWhole) (arg7 : Memref sig .tc .vmem S256x1024 .f32) (harg7 : arg7.IsWhole) (arg8 : Memref sig .tc .vmem S256x1 .f32) (harg8 : arg8.IsWhole) (arg9 : Memref sig .tc .vmem S1x1024 .f32) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S8x1024x512 .bf16) (harg15 : arg15.IsWhole) (arg16 : Memref sig .tc .vmem S8x1024x768 .bf16) (harg16 : arg16.IsWhole) (hc0 : cond0_0 i) (hc1 : cond0_1 i) (hc2 : ¬cond0_2 i) (x0 : Vec Ideal S256x1024 .f32) (x1 : Vec Ideal S256x4096 .bf16) (x2 : Vec Ideal S256x3072 .bf16) (x3 : Vec Ideal S256x3072 .bf16) (x4 : Vec Ideal S256x1024 .f32) (x5 : Vec Ideal S256x1 .f32) (x6 : Vec Ideal S1x1024 .f32) (fh0 : HbBuf0 (F := Ideal) c hbM0_0) (fh1 : HbBuf0 (F := Ideal) c hbM0_1) : sout0_A_0 (F := Ideal) c i arg1 harg1 arg2 harg2 arg3 harg3 arg4 harg4 arg7 harg7 arg8 harg8 arg9 harg9 arg10 harg10 arg11 harg11 arg12 harg12 arg13 harg13 arg14 harg14 arg15 harg15 arg16 harg16 hc0 hc1 hc2 x0 x1 x2 x3 x4 x5 x6 fh0 fh1 = fh0 := by
  funext y
  frame_out
  exact copied _ y

/-- The other points keep it. -/
theorem scratch0_B (c : Dev nD) (i : grid0.Coords) (arg1 : Memref sig .tc .vmem S256x1024 .f32) (harg1 : arg1.IsWhole) (arg2 : Memref sig .tc .vmem S256x4096 .bf16) (harg2 : arg2.IsWhole) (arg3 : Memref sig .tc .vmem S256x3072 .bf16) (harg3 : arg3.IsWhole) (arg4 : Memref sig .tc .vmem S256x3072 .bf16) (harg4 : arg4.IsWhole) (arg7 : Memref sig .tc .vmem S256x1024 .f32) (harg7 : arg7.IsWhole) (arg8 : Memref sig .tc .vmem S256x1 .f32) (harg8 : arg8.IsWhole) (arg9 : Memref sig .tc .vmem S1x1024 .f32) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S8x1024x512 .bf16) (harg15 : arg15.IsWhole) (arg16 : Memref sig .tc .vmem S8x1024x768 .bf16) (harg16 : arg16.IsWhole) (hc0 : ¬cond0_0 i) (hc1 : ¬cond0_1 i) (hc2 : ¬cond0_2 i) (x0 : Vec Ideal S256x1024 .f32) (x1 : Vec Ideal S256x4096 .bf16) (x2 : Vec Ideal S256x3072 .bf16) (x3 : Vec Ideal S256x3072 .bf16) (x4 : Vec Ideal S256x1024 .f32) (x5 : Vec Ideal S256x1 .f32) (x6 : Vec Ideal S1x1024 .f32) (xo9 : Vec Ideal S8x1024 .f32) (xo10 : Vec Ideal S8x1024 .f32) (xo11 : Vec Ideal S8x1024 .f32) (xs0 : Vec Ideal S8x1024x512 .bf16) (xs1 : Vec Ideal S8x1024x768 .bf16) (fh0 : HbBuf0 (F := Ideal) c hbM0_0) (fh1 : HbBuf0 (F := Ideal) c hbM0_1) : sout0_B_0 (F := Ideal) c i arg1 harg1 arg2 harg2 arg3 harg3 arg4 harg4 arg7 harg7 arg8 harg8 arg9 harg9 arg10 harg10 arg11 harg11 arg12 harg12 arg13 harg13 arg14 harg14 arg15 harg15 arg16 harg16 hc0 hc1 hc2 x0 x1 x2 x3 x4 x5 x6 xo9 xo10 xo11 xs0 xs1 fh0 fh1 = xs0 := rfl

/-- The other points keep it. -/
theorem scratch0_C (c : Dev nD) (i : grid0.Coords) (arg1 : Memref sig .tc .vmem S256x1024 .f32) (harg1 : arg1.IsWhole) (arg2 : Memref sig .tc .vmem S256x4096 .bf16) (harg2 : arg2.IsWhole) (arg3 : Memref sig .tc .vmem S256x3072 .bf16) (harg3 : arg3.IsWhole) (arg4 : Memref sig .tc .vmem S256x3072 .bf16) (harg4 : arg4.IsWhole) (arg7 : Memref sig .tc .vmem S256x1024 .f32) (harg7 : arg7.IsWhole) (arg8 : Memref sig .tc .vmem S256x1 .f32) (harg8 : arg8.IsWhole) (arg9 : Memref sig .tc .vmem S1x1024 .f32) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S8x1024x512 .bf16) (harg15 : arg15.IsWhole) (arg16 : Memref sig .tc .vmem S8x1024x768 .bf16) (harg16 : arg16.IsWhole) (hc0 : ¬cond0_0 i) (hc1 : ¬cond0_1 i) (hc2 : cond0_2 i) (x0 : Vec Ideal S256x1024 .f32) (x1 : Vec Ideal S256x4096 .bf16) (x2 : Vec Ideal S256x3072 .bf16) (x3 : Vec Ideal S256x3072 .bf16) (x4 : Vec Ideal S256x1024 .f32) (x5 : Vec Ideal S256x1 .f32) (x6 : Vec Ideal S1x1024 .f32) (xo9 : Vec Ideal S8x1024 .f32) (xo10 : Vec Ideal S8x1024 .f32) (xo11 : Vec Ideal S8x1024 .f32) (xs0 : Vec Ideal S8x1024x512 .bf16) (xs1 : Vec Ideal S8x1024x768 .bf16) (fh0 : HbBuf0 (F := Ideal) c hbM0_0) (fh1 : HbBuf0 (F := Ideal) c hbM0_1) : sout0_C_0 (F := Ideal) c i arg1 harg1 arg2 harg2 arg3 harg3 arg4 harg4 arg7 harg7 arg8 harg8 arg9 harg9 arg10 harg10 arg11 harg11 arg12 harg12 arg13 harg13 arg14 harg14 arg15 harg15 arg16 harg16 hc0 hc1 hc2 x0 x1 x2 x3 x4 x5 x6 xo9 xo10 xo11 xs0 xs1 fh0 fh1 = xs0 := rfl

/-- The first point copies the weight. -/
theorem scratch1_A (c : Dev nD) (i : grid0.Coords) (arg1 : Memref sig .tc .vmem S256x1024 .f32) (harg1 : arg1.IsWhole) (arg2 : Memref sig .tc .vmem S256x4096 .bf16) (harg2 : arg2.IsWhole) (arg3 : Memref sig .tc .vmem S256x3072 .bf16) (harg3 : arg3.IsWhole) (arg4 : Memref sig .tc .vmem S256x3072 .bf16) (harg4 : arg4.IsWhole) (arg7 : Memref sig .tc .vmem S256x1024 .f32) (harg7 : arg7.IsWhole) (arg8 : Memref sig .tc .vmem S256x1 .f32) (harg8 : arg8.IsWhole) (arg9 : Memref sig .tc .vmem S1x1024 .f32) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S8x1024x512 .bf16) (harg15 : arg15.IsWhole) (arg16 : Memref sig .tc .vmem S8x1024x768 .bf16) (harg16 : arg16.IsWhole) (hc0 : cond0_0 i) (hc1 : cond0_1 i) (hc2 : ¬cond0_2 i) (x0 : Vec Ideal S256x1024 .f32) (x1 : Vec Ideal S256x4096 .bf16) (x2 : Vec Ideal S256x3072 .bf16) (x3 : Vec Ideal S256x3072 .bf16) (x4 : Vec Ideal S256x1024 .f32) (x5 : Vec Ideal S256x1 .f32) (x6 : Vec Ideal S1x1024 .f32) (fh0 : HbBuf0 (F := Ideal) c hbM0_0) (fh1 : HbBuf0 (F := Ideal) c hbM0_1) : sout0_A_1 (F := Ideal) c i arg1 harg1 arg2 harg2 arg3 harg3 arg4 harg4 arg7 harg7 arg8 harg8 arg9 harg9 arg10 harg10 arg11 harg11 arg12 harg12 arg13 harg13 arg14 harg14 arg15 harg15 arg16 harg16 hc0 hc1 hc2 x0 x1 x2 x3 x4 x5 x6 fh0 fh1 = fh1 := by
  funext y
  frame_out
  exact copied _ y

/-- The other points keep it. -/
theorem scratch1_B (c : Dev nD) (i : grid0.Coords) (arg1 : Memref sig .tc .vmem S256x1024 .f32) (harg1 : arg1.IsWhole) (arg2 : Memref sig .tc .vmem S256x4096 .bf16) (harg2 : arg2.IsWhole) (arg3 : Memref sig .tc .vmem S256x3072 .bf16) (harg3 : arg3.IsWhole) (arg4 : Memref sig .tc .vmem S256x3072 .bf16) (harg4 : arg4.IsWhole) (arg7 : Memref sig .tc .vmem S256x1024 .f32) (harg7 : arg7.IsWhole) (arg8 : Memref sig .tc .vmem S256x1 .f32) (harg8 : arg8.IsWhole) (arg9 : Memref sig .tc .vmem S1x1024 .f32) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S8x1024x512 .bf16) (harg15 : arg15.IsWhole) (arg16 : Memref sig .tc .vmem S8x1024x768 .bf16) (harg16 : arg16.IsWhole) (hc0 : ¬cond0_0 i) (hc1 : ¬cond0_1 i) (hc2 : ¬cond0_2 i) (x0 : Vec Ideal S256x1024 .f32) (x1 : Vec Ideal S256x4096 .bf16) (x2 : Vec Ideal S256x3072 .bf16) (x3 : Vec Ideal S256x3072 .bf16) (x4 : Vec Ideal S256x1024 .f32) (x5 : Vec Ideal S256x1 .f32) (x6 : Vec Ideal S1x1024 .f32) (xo9 : Vec Ideal S8x1024 .f32) (xo10 : Vec Ideal S8x1024 .f32) (xo11 : Vec Ideal S8x1024 .f32) (xs0 : Vec Ideal S8x1024x512 .bf16) (xs1 : Vec Ideal S8x1024x768 .bf16) (fh0 : HbBuf0 (F := Ideal) c hbM0_0) (fh1 : HbBuf0 (F := Ideal) c hbM0_1) : sout0_B_1 (F := Ideal) c i arg1 harg1 arg2 harg2 arg3 harg3 arg4 harg4 arg7 harg7 arg8 harg8 arg9 harg9 arg10 harg10 arg11 harg11 arg12 harg12 arg13 harg13 arg14 harg14 arg15 harg15 arg16 harg16 hc0 hc1 hc2 x0 x1 x2 x3 x4 x5 x6 xo9 xo10 xo11 xs0 xs1 fh0 fh1 = xs1 := rfl

/-- The other points keep it. -/
theorem scratch1_C (c : Dev nD) (i : grid0.Coords) (arg1 : Memref sig .tc .vmem S256x1024 .f32) (harg1 : arg1.IsWhole) (arg2 : Memref sig .tc .vmem S256x4096 .bf16) (harg2 : arg2.IsWhole) (arg3 : Memref sig .tc .vmem S256x3072 .bf16) (harg3 : arg3.IsWhole) (arg4 : Memref sig .tc .vmem S256x3072 .bf16) (harg4 : arg4.IsWhole) (arg7 : Memref sig .tc .vmem S256x1024 .f32) (harg7 : arg7.IsWhole) (arg8 : Memref sig .tc .vmem S256x1 .f32) (harg8 : arg8.IsWhole) (arg9 : Memref sig .tc .vmem S1x1024 .f32) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S8x1024x512 .bf16) (harg15 : arg15.IsWhole) (arg16 : Memref sig .tc .vmem S8x1024x768 .bf16) (harg16 : arg16.IsWhole) (hc0 : ¬cond0_0 i) (hc1 : ¬cond0_1 i) (hc2 : cond0_2 i) (x0 : Vec Ideal S256x1024 .f32) (x1 : Vec Ideal S256x4096 .bf16) (x2 : Vec Ideal S256x3072 .bf16) (x3 : Vec Ideal S256x3072 .bf16) (x4 : Vec Ideal S256x1024 .f32) (x5 : Vec Ideal S256x1 .f32) (x6 : Vec Ideal S1x1024 .f32) (xo9 : Vec Ideal S8x1024 .f32) (xo10 : Vec Ideal S8x1024 .f32) (xo11 : Vec Ideal S8x1024 .f32) (xs0 : Vec Ideal S8x1024x512 .bf16) (xs1 : Vec Ideal S8x1024x768 .bf16) (fh0 : HbBuf0 (F := Ideal) c hbM0_0) (fh1 : HbBuf0 (F := Ideal) c hbM0_1) : sout0_C_1 (F := Ideal) c i arg1 harg1 arg2 harg2 arg3 harg3 arg4 harg4 arg7 harg7 arg8 harg8 arg9 harg9 arg10 harg10 arg11 harg11 arg12 harg12 arg13 harg13 arg14 harg14 arg15 harg15 arg16 harg16 hc0 hc1 hc2 x0 x1 x2 x3 x4 x5 x6 xo9 xo10 xo11 xs0 xs1 fh0 fh1 = xs1 := rfl

end Cert.ResidualGradIdeal.Sum

end
-- ==== Proof.Gr.Blocks.lean ====
/- Each point's blocks are the rows `256 t` to `256 t + 255` of the whole arrays, and the copied weights stay in place. -/
module

public import proofs.«01_k».proof.Proof.Gr.Values

@[expose] public section

set_option maxRecDepth 16384

noncomputable section

namespace Cert.ResidualGradIdeal.Sum

open Cert.ResidualGradIdeal.Gen
open Idealize.ShloMosaic Idealize.ShloMosaic.TcCoe

/-- Point `t` reads and writes row block `t`; the gain and the three sums stay at the only block. -/
theorem rowBlock : ∀ t : Fin cfg0.N, (win0_0.index t 0 = t.val ∧ win0_0.index t 1 = 0 ∧ win0_1.index t 0 = t.val ∧ win0_1.index t 1 = 0)
    ∧ (win0_2.index t 0 = t.val ∧ win0_2.index t 1 = 0 ∧ win0_3.index t 0 = t.val ∧ win0_3.index t 1 = 0)
    ∧ (win0_4.index t 0 = t.val ∧ win0_4.index t 1 = 0 ∧ win0_5.index t 0 = t.val ∧ win0_5.index t 1 = 0)
    ∧ (win0_6.index t 0 = 0 ∧ win0_6.index t 1 = 0 ∧ win0_7.index t 0 = t.val ∧ win0_7.index t 1 = 0)
    ∧ (win0_8.index t 0 = t.val ∧ win0_8.index t 1 = 0 ∧ win0_9.index t 0 = 0 ∧ win0_9.index t 1 = 0)
    ∧ (win0_10.index t 0 = 0 ∧ win0_10.index t 1 = 0 ∧ win0_11.index t 0 = 0 ∧ win0_11.index t 1 = 0) := by
  decide +kernel

variable (m : (ℓ : Loc nD τ sig) → Buf (Elt Ideal) ℓ)

/-- Row `r` of block `t`. -/
def rowOf (t : Fin cfg0.N) (r : Fin 256) : Fin 16384 := ⟨t.val * 256 + r.val, by have h := lt_of_lt_of_eq t.isLt N_0; have := r.isLt; omega⟩

/-- The cotangent of the normalised rows, whole. -/
def cotangent (c : Dev nD) : Vec Ideal S16384x1024 .f32 :=
  entry (n := 16384) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The gradient of the rows before the layer norm, whole. -/
def gradient (c : Dev nD) : Vec Ideal S16384x1024 .f32 :=
  rowGrad (cotangent m c) (m ((c : Thread nD τ).loc main_arg6)) (m ((c : Thread nD τ).loc main_arg7)) (m ((c : Thread nD τ).loc main_arg8))

theorem weight0 (c : Dev nD) : V (F := Ideal) m c main_v0 = m ((c : Thread nD τ).loc main_arg4) := by
  unfold V
  after_results
  rfl

theorem weight1 (c : Dev nD) : V (F := Ideal) m c main_v1 = m ((c : Thread nD τ).loc main_arg5) := by
  unfold V
  after_results
  rfl

/-- The cotangent of block `t`. -/
def blockCot (c : Dev nD) (t : Fin cfg0.N) : Vec Ideal S256x1024 .f32 :=
  entry (n := 256) (iblk m c 0 t) (iblk m c 1 t) (iblk m c 2 t) (iblk m c 3 t) (m ((c : Thread nD τ).loc main_arg4)) (m ((c : Thread nD τ).loc main_arg5))

theorem blockCot_eq (c : Dev nD) (t : Fin cfg0.N) (y : S256x1024.Idx) :
    blockCot m c t y = cotangent m c (ix2 (rowOf t (y 0)) (y 1)) := by
  obtain ⟨⟨h00, h01, h10, h11⟩, ⟨h20, h21, h30, h31⟩, -⟩ := rowBlock t
  unfold blockCot cotangent entry
  refine congrArg₂ (· + ·) (congrArg₂ (· * ·) rfl ?_) (congrArg₂ (· + ·)
    (Finset.sum_congr rfl fun j _ => congrArg₂ (· + ·) (Finset.sum_congr rfl fun k _ => congrArg₂ (· * ·) ?_ rfl) (Finset.sum_congr rfl fun k _ => congrArg₂ (· * ·) ?_ rfl))
    (Finset.sum_congr rfl fun j _ => congrArg₂ (· + ·) (Finset.sum_congr rfl fun k _ => congrArg₂ (· * ·) ?_ rfl) (Finset.sum_congr rfl fun k _ => congrArg₂ (· * ·) ?_ rfl)))
  all_goals blk_ext! [iblk, V, rowOf, h00, h01, h10, h11, h20, h21, h30, h31]

/-- The gradient rows of block `t`. -/
def blockGrad (c : Dev nD) (t : Fin cfg0.N) : Vec Ideal S256x1024 .f32 :=
  rowGrad (n := 256) (blockCot m c t) (iblk m c 4 t) (iblk m c 5 t) (iblk m c 6 t)

theorem saved_eq (c : Dev nD) (t : Fin cfg0.N) (y : S256x1024.Idx) :
    (iblk m c 4 t : Vec Ideal S256x1024 .f32) y = (m ((c : Thread nD τ).loc main_arg6) : Vec Ideal S16384x1024 .f32) (ix2 (rowOf t (y 0)) (y 1)) := by
  obtain ⟨-, -, ⟨h40, h41, -, -⟩, -⟩ := rowBlock t
  blk_ext! [iblk, V, rowOf, h40, h41]

theorem scale_eq (c : Dev nD) (t : Fin cfg0.N) (y : S256x1.Idx) :
    (iblk m c 5 t : Vec Ideal S256x1 .f32) y = (m ((c : Thread nD τ).loc main_arg7) : Vec Ideal S16384x1 .f32) (ix2 (rowOf t (y 0)) (y 1)) := by
  obtain ⟨-, -, ⟨-, -, h50, h51⟩, -⟩ := rowBlock t
  blk_ext! [iblk, V, rowOf, h50, h51]

theorem gain_eq (c : Dev nD) (t : Fin cfg0.N) (y : S1x1024.Idx) :
    (iblk m c 6 t : Vec Ideal S1x1024 .f32) y = (m ((c : Thread nD τ).loc main_arg8) : Vec Ideal S1x1024 .f32) y := by
  obtain ⟨-, -, -, ⟨h60, h61, -, -⟩, -⟩ := rowBlock t
  blk_ext! [iblk, V, h60, h61]

theorem blockGrad_eq (c : Dev nD) (t : Fin cfg0.N) (y : S256x1024.Idx) :
    blockGrad m c t y = gradient m c (ix2 (rowOf t (y 0)) (y 1)) := by
  unfold blockGrad gradient rowGrad
  simp only [blockCot_eq, saved_eq, scale_eq, gain_eq]
  rfl

/-- The copied weights stay in the scratch buffers. -/
theorem kept (c : Dev nD) : ∀ (n : ℕ) (hn : n < cfg0.N),
    (outsAt0 m c n hn).2.2.2.2.2.1 = m ((c : Thread nD τ).loc main_arg4) ∧ (outsAt0 m c n hn).2.2.2.2.2.2 = m ((c : Thread nD τ).loc main_arg5) := by
  intro n
  induction n with
  | zero =>
    intro hn
    rw [outsAt0_A m c ⟨0, hn⟩ (Nat.zero_mod _) (Nat.zero_mod _) (by show ¬0 % 64 = 63; decide)]
    dsimp only
    exact ⟨(scratch0_A ..).trans (weight0 m c), (scratch1_A ..).trans (weight1 m c)⟩
  | succ n ih =>
    intro hn
    have hN := lt_of_lt_of_eq hn N_0
    have h0 : ¬(n + 1) % 64 = 0 := by omega
    have hi := ih (Nat.lt_of_succ_lt hn)
    by_cases h2 : (n + 1) % 64 = 63
    · rw [outsAt0_C m c ⟨n + 1, hn⟩ h0 h0 h2]
      dsimp only
      exact ⟨(scratch0_C ..).trans hi.1, (scratch1_C ..).trans hi.2⟩
    · rw [outsAt0_B m c ⟨n + 1, hn⟩ h0 h0 h2]
      dsimp only
      exact ⟨(scratch0_B ..).trans hi.1, (scratch1_B ..).trans hi.2⟩

/-- The gradient rows a point writes, in f32 and in bf16. -/
theorem rows (c : Dev nD) (t : Fin cfg0.N) (y : S256x1024.Idx) :
    (outsAt0 m c t.val t.isLt).1 y = blockGrad m c t y ∧ (outsAt0 m c t.val t.isLt).2.1 y = blockGrad m c t y := by
  have hN := lt_of_lt_of_eq t.isLt N_0
  by_cases h0 : t.val % 64 = 0
  · have s0 := weight0 m c
    have s1 := weight1 m c
    rw [outsAt0_A m c t h0 h0 (by omega)]
    dsimp only
    rw [block7_A, block8_A, s0, s1]
    exact ⟨rfl, rfl⟩
  · have hk := kept m c (t.val - 1) (Nat.lt_of_le_of_lt (Nat.sub_le _ _) t.isLt)
    by_cases h2 : t.val % 64 = 63
    · rw [outsAt0_C m c t h0 h0 h2]
      dsimp only
      rw [block7_C, block8_C, hk.1, hk.2]
      exact ⟨rfl, rfl⟩
    · rw [outsAt0_B m c t h0 h0 h2]
      dsimp only
      rw [block7_B, block8_B, hk.1, hk.2]
      exact ⟨rfl, rfl⟩

end Cert.ResidualGradIdeal.Sum

end
-- ==== Proof.Gr.Sums.lean ====
/- The three row sums: after the last point each holds the total over all 16384 rows, eight times. -/
module

public import proofs.«01_k».proof.Proof.Gr.Blocks
public import Idealize.ShloMosaic.Lib.Pipeline.Value

@[expose] public section

set_option maxRecDepth 16384

noncomputable section

namespace Cert.ResidualGradIdeal.Sum

open Cert.ResidualGradIdeal.Gen
open Idealize.ShloMosaic Idealize.ShloMosaic.TcCoe

/-- A sum that grows by one block's eight partial sums a point, and whose eight rows are added after the last. -/
theorem running (g : (n : ℕ) → n < cfg0.N → Vec Ideal S8x1024 .f32) (f : Fin cfg0.N → Vec Ideal S256x1024 .f32) (A : Vec Ideal S16384x1024 .f32)
    (hA : ∀ t (y : S256x1024.Idx), f t y = A (ix2 (rowOf t (y 0)) (y 1)))
    (hz : ∀ (h : 0 < cfg0.N) y, g 0 h y = fold8 (f ⟨0, h⟩) y)
    (hs : ∀ (n : ℕ) (h : n + 1 < cfg0.N) y, n + 1 < 63 → g (n + 1) h y = g n (Nat.lt_of_succ_lt h) y + fold8 (f ⟨n + 1, h⟩) y)
    (hl : ∀ (n : ℕ) (h : n + 1 < cfg0.N) y, n + 1 = 63 → g (n + 1) h y = total (fun z => g n (Nat.lt_of_succ_lt h) z + fold8 (f ⟨n + 1, h⟩) z) y)
    (n : ℕ) (h : n < cfg0.N) (h63 : n = 63) (y : S8x1024.Idx) : g n h y = ∑ l : Fin 16384, A (ix2 l (y 1)) := by
  subst h63
  have part : ∀ (n : ℕ) (hn : n < cfg0.N) (z : S8x1024.Idx), n < 63 →
      g n hn z = ∑ s : Fin (n + 1), fold8 (f ⟨s.val, Nat.lt_of_le_of_lt (Nat.lt_succ_iff.mp s.isLt) hn⟩) z := by
    intro n
    induction n with
    | zero =>
      intro hn z _
      rw [hz hn z]
      exact (Fin.sum_univ_one (fun s : Fin (0 + 1) => fold8 (f ⟨s.val, Nat.lt_of_le_of_lt (Nat.lt_succ_iff.mp s.isLt) hn⟩) z)).symm
    | succ n ih =>
      intro hn z h63
      rw [hs n hn z h63, ih (Nat.lt_of_succ_lt hn) z (by omega)]
      exact (Fin.sum_univ_castSucc (fun s : Fin (n + 1 + 1) => fold8 (f ⟨s.val, Nat.lt_of_le_of_lt (Nat.lt_succ_iff.mp s.isLt) hn⟩) z)).symm
  have whole : ∀ z : S8x1024.Idx, g 62 (Nat.lt_of_succ_lt h) z + fold8 (f ⟨63, h⟩) z
      = ∑ s : Fin 64, fold8 (f ⟨s.val, lt_of_lt_of_eq s.isLt N_0.symm⟩) z := by
    intro z
    rw [part 62 (Nat.lt_of_succ_lt h) z (by decide)]
    exact (Fin.sum_univ_castSucc (fun s : Fin (63 + 1) => fold8 (f ⟨s.val, lt_of_lt_of_eq s.isLt N_0.symm⟩) z)).symm
  rw [hl 62 h y rfl]
  unfold total
  simp only [whole]
  rw [Finset.sum_comm]
  have inner : ∀ s : Fin 64, (∑ q : Fin 8, fold8 (f ⟨s.val, lt_of_lt_of_eq s.isLt N_0.symm⟩) (ix2 q (y 1)))
      = ∑ r : Fin 256, A (ix2 (rowOf ⟨s.val, lt_of_lt_of_eq s.isLt N_0.symm⟩ r) (y 1)) := by
    intro s
    unfold fold8
    rw [Finset.sum_comm]
    refine (Fin.sum_mul_add_congr fun q r hl => ?_)
    rw [hA]
    refine congrArg A ?_
    blk_ext [rowOf]
  simp only [inner]
  exact Fin.sum_mul_add_congr fun s r hl => congrArg A (by blk_ext [rowOf])

variable (m : (ℓ : Loc nD τ sig) → Buf (Elt Ideal) ℓ)

/-- What one point adds. -/
def gainShare (c : Dev nD) (t : Fin cfg0.N) : Vec Ideal S256x1024 .f32 := fun i => blockCot m c t i * (iblk m c 4 t : Vec Ideal S256x1024 .f32) i

/-- The same over all rows. -/
def gainRows (c : Dev nD) : Vec Ideal S16384x1024 .f32 := fun i => cotangent m c i * (m ((c : Thread nD τ).loc main_arg6) : Vec Ideal S16384x1024 .f32) i

theorem gain_rows (c : Dev nD) (t : Fin cfg0.N) (y : S256x1024.Idx) : gainShare m c t y = gainRows m c (ix2 (rowOf t (y 0)) (y 1)) := by
  unfold gainShare gainRows
  rw [blockCot_eq, saved_eq]

theorem gain_total (c : Dev nD) (n : ℕ) (h : n < cfg0.N) (h63 : n = 63) (y : S8x1024.Idx) :
    (outsAt0 m c n h).2.2.1 y = ∑ l : Fin 16384, gainRows m c (ix2 l (y 1)) := by
  refine running (fun n hn => (outsAt0 m c n hn).2.2.1) (gainShare m c) (gainRows m c) (gain_rows m c) ?_ ?_ ?_ n h h63 y
  · intro hn y
    have s0 := weight0 m c
    have s1 := weight1 m c
    beta_reduce
    rw [outsAt0_A m c ⟨0, hn⟩ (Nat.zero_mod _) (Nat.zero_mod _) (by show ¬0 % 64 = 63; decide)]
    dsimp only
    rw [block9_A, s0, s1, zero_add]
    rfl
  · intro n hn y h63
    have hk := kept m c (n + 1 - 1) (Nat.lt_of_le_of_lt (Nat.sub_le _ _) hn)
    beta_reduce
    rw [outsAt0_B m c ⟨n + 1, hn⟩ (by show ¬(n + 1) % 64 = 0; omega) (by show ¬(n + 1) % 64 = 0; omega) (by show ¬(n + 1) % 64 = 63; omega)]
    dsimp only
    rw [block9_B, hk.1, hk.2]
    rfl
  · intro n hn y h63
    have hk := kept m c (n + 1 - 1) (Nat.lt_of_le_of_lt (Nat.sub_le _ _) hn)
    beta_reduce
    rw [outsAt0_C m c ⟨n + 1, hn⟩ (by show ¬(n + 1) % 64 = 0; omega) (by show ¬(n + 1) % 64 = 0; omega) (by show (n + 1) % 64 = 63; omega)]
    dsimp only
    rw [block9_C, hk.1, hk.2]
    rfl

/-- What one point adds. -/
def biasShare (c : Dev nD) (t : Fin cfg0.N) : Vec Ideal S256x1024 .f32 := blockCot m c t

/-- The same over all rows. -/
def biasRows (c : Dev nD) : Vec Ideal S16384x1024 .f32 := cotangent m c

theorem bias_rows (c : Dev nD) (t : Fin cfg0.N) (y : S256x1024.Idx) : biasShare m c t y = biasRows m c (ix2 (rowOf t (y 0)) (y 1)) := by
  unfold biasShare biasRows
  exact blockCot_eq m c t y

theorem bias_total (c : Dev nD) (n : ℕ) (h : n < cfg0.N) (h63 : n = 63) (y : S8x1024.Idx) :
    (outsAt0 m c n h).2.2.2.1 y = ∑ l : Fin 16384, biasRows m c (ix2 l (y 1)) := by
  refine running (fun n hn => (outsAt0 m c n hn).2.2.2.1) (biasShare m c) (biasRows m c) (bias_rows m c) ?_ ?_ ?_ n h h63 y
  · intro hn y
    have s0 := weight0 m c
    have s1 := weight1 m c
    beta_reduce
    rw [outsAt0_A m c ⟨0, hn⟩ (Nat.zero_mod _) (Nat.zero_mod _) (by show ¬0 % 64 = 63; decide)]
    dsimp only
    rw [block10_A, s0, s1, zero_add]
    rfl
  · intro n hn y h63
    have hk := kept m c (n + 1 - 1) (Nat.lt_of_le_of_lt (Nat.sub_le _ _) hn)
    beta_reduce
    rw [outsAt0_B m c ⟨n + 1, hn⟩ (by show ¬(n + 1) % 64 = 0; omega) (by show ¬(n + 1) % 64 = 0; omega) (by show ¬(n + 1) % 64 = 63; omega)]
    dsimp only
    rw [block10_B, hk.1, hk.2]
    rfl
  · intro n hn y h63
    have hk := kept m c (n + 1 - 1) (Nat.lt_of_le_of_lt (Nat.sub_le _ _) hn)
    beta_reduce
    rw [outsAt0_C m c ⟨n + 1, hn⟩ (by show ¬(n + 1) % 64 = 0; omega) (by show ¬(n + 1) % 64 = 0; omega) (by show (n + 1) % 64 = 63; omega)]
    dsimp only
    rw [block10_C, hk.1, hk.2]
    rfl

/-- What one point adds. -/
def rowsumShare (c : Dev nD) (t : Fin cfg0.N) : Vec Ideal S256x1024 .f32 := blockGrad m c t

/-- The same over all rows. -/
def rowsumRows (c : Dev nD) : Vec Ideal S16384x1024 .f32 := gradient m c

theorem rowsum_rows (c : Dev nD) (t : Fin cfg0.N) (y : S256x1024.Idx) : rowsumShare m c t y = rowsumRows m c (ix2 (rowOf t (y 0)) (y 1)) := by
  unfold rowsumShare rowsumRows
  exact blockGrad_eq m c t y

theorem rowsum_total (c : Dev nD) (n : ℕ) (h : n < cfg0.N) (h63 : n = 63) (y : S8x1024.Idx) :
    (outsAt0 m c n h).2.2.2.2.1 y = ∑ l : Fin 16384, rowsumRows m c (ix2 l (y 1)) := by
  refine running (fun n hn => (outsAt0 m c n hn).2.2.2.2.1) (rowsumShare m c) (rowsumRows m c) (rowsum_rows m c) ?_ ?_ ?_ n h h63 y
  · intro hn y
    have s0 := weight0 m c
    have s1 := weight1 m c
    beta_reduce
    rw [outsAt0_A m c ⟨0, hn⟩ (Nat.zero_mod _) (Nat.zero_mod _) (by show ¬0 % 64 = 63; decide)]
    dsimp only
    rw [block11_A, s0, s1, zero_add]
    rfl
  · intro n hn y h63
    have hk := kept m c (n + 1 - 1) (Nat.lt_of_le_of_lt (Nat.sub_le _ _) hn)
    beta_reduce
    rw [outsAt0_B m c ⟨n + 1, hn⟩ (by show ¬(n + 1) % 64 = 0; omega) (by show ¬(n + 1) % 64 = 0; omega) (by show ¬(n + 1) % 64 = 63; omega)]
    dsimp only
    rw [block11_B, hk.1, hk.2]
    rfl
  · intro n hn y h63
    have hk := kept m c (n + 1 - 1) (Nat.lt_of_le_of_lt (Nat.sub_le _ _) hn)
    beta_reduce
    rw [outsAt0_C m c ⟨n + 1, hn⟩ (by show ¬(n + 1) % 64 = 0; omega) (by show ¬(n + 1) % 64 = 0; omega) (by show (n + 1) % 64 = 63; omega)]
    dsimp only
    rw [block11_C, hk.1, hk.2]
    rfl

end Cert.ResidualGradIdeal.Sum

end
-- ==== Proof.Gr.Array.lean ====
/- The five arrays after the run. -/
module

public import proofs.«01_k».proof.Proof.Gr.Sums

@[expose] public section

set_option maxRecDepth 16384

noncomputable section

namespace Cert.ResidualGradIdeal.Sum

open Cert.ResidualGradIdeal.Gen
open Idealize.ShloMosaic Idealize.ShloMosaic.TcCoe

variable (m : (ℓ : Loc nD τ sig) → Buf (Elt Ideal) ℓ)

/-- A total over all rows, written on each of eight rows. -/
def eight (A : Vec Ideal S16384x1024 .f32) : Vec Ideal S8x1024 .f32 := fun y => ∑ l : Fin 16384, A (ix2 l (y 1))

/-- The gradient rows. -/
theorem array7 (c : Dev nD) : (dats m 0 c).arrAt 7 cfg0.N = gradient m c := by
  refine (dats m 0 c).arrAt_eq_of_covers 7 _ (by decide +kernel) fun t hf y => ?_
  blk_simp
  rw [after0_7]
  refine ((rows m c t y).1.trans (blockGrad_eq m c t y)).trans ?_
  refine congrArg (gradient m c) ?_
  obtain ⟨-, -, -, ⟨-, -, h0, h1⟩, -⟩ := rowBlock t
  blk_ext [rowOf, h0, h1]

/-- The same rows in bf16. -/
theorem array8 (c : Dev nD) : (dats m 0 c).arrAt 8 cfg0.N = (gradient m c : S16384x1024.Idx → EReal) := by
  refine (dats m 0 c).arrAt_eq_of_covers 8 _ (by decide +kernel) fun t hf y => ?_
  blk_simp
  rw [after0_8]
  refine ((rows m c t y).2.trans (blockGrad_eq m c t y)).trans ?_
  refine congrArg (gradient m c) ?_
  obtain ⟨-, -, -, -, ⟨h0, h1, -, -⟩, -⟩ := rowBlock t
  blk_ext [rowOf, h0, h1]

/-- After the last point: the gain's gradient. -/
theorem gain_last (c : Dev nD) (t : Fin cfg0.N) (ht : t.val = 63) (y : S8x1024.Idx) :
    (outsAt0 m c t.val t.isLt).2.2.1 y = eight (gainRows m c) y := by
  exact gain_total m c t.val t.isLt ht y

/-- After the last point: the bias's gradient. -/
theorem bias_last (c : Dev nD) (t : Fin cfg0.N) (ht : t.val = 63) (y : S8x1024.Idx) :
    (outsAt0 m c t.val t.isLt).2.2.2.1 y = eight (biasRows m c) y := by
  exact bias_total m c t.val t.isLt ht y

/-- After the last point: the sum of the gradient rows. -/
theorem rowsum_last (c : Dev nD) (t : Fin cfg0.N) (ht : t.val = 63) (y : S8x1024.Idx) :
    (outsAt0 m c t.val t.isLt).2.2.2.2.1 y = eight (rowsumRows m c) y := by
  exact rowsum_total m c t.val t.isLt ht y

theorem array9 (c : Dev nD) : (dats m 0 c).arrAt 9 cfg0.N = eight (gainRows m c) := by
  refine (dats m 0 c).arrAt_eq_of_covers 9 _ (by decide +kernel) fun t hf y => ?_
  blk_simp
  rw [after0_9]
  have h := (flush0_9 t).mp hf
  have h' : t.val < 64 := lt_of_lt_of_eq t.isLt N_0
  refine (gain_last m c t (by omega) y).trans (congrArg (eight _) ?_)
  obtain ⟨-, -, -, -, ⟨-, -, h0, h1⟩, -⟩ := rowBlock t
  blk_ext [h0, h1]

theorem array10 (c : Dev nD) : (dats m 0 c).arrAt 10 cfg0.N = eight (biasRows m c) := by
  refine (dats m 0 c).arrAt_eq_of_covers 10 _ (by decide +kernel) fun t hf y => ?_
  blk_simp
  rw [after0_10]
  have h := (flush0_10 t).mp hf
  have h' : t.val < 64 := lt_of_lt_of_eq t.isLt N_0
  refine (bias_last m c t (by omega) y).trans (congrArg (eight _) ?_)
  obtain ⟨-, -, -, -, -, h0, h1, -, -⟩ := rowBlock t
  blk_ext [h0, h1]

theorem array11 (c : Dev nD) : (dats m 0 c).arrAt 11 cfg0.N = eight (rowsumRows m c) := by
  refine (dats m 0 c).arrAt_eq_of_covers 11 _ (by decide +kernel) fun t hf y => ?_
  blk_simp
  rw [after0_11]
  have h := (flush0_11 t).mp hf
  have h' : t.val < 64 := lt_of_lt_of_eq t.isLt N_0
  refine (rowsum_last m c t (by omega) y).trans (congrArg (eight _) ?_)
  obtain ⟨-, -, -, -, -, -, -, h0, h1⟩ := rowBlock t
  blk_ext [h0, h1]

end Cert.ResidualGradIdeal.Sum

end
-- ==== Proof.Gr.Reference.lean ====
/- What the reference computes: the same cotangent, the same gradient rows, the same three sums. -/
module

public import proofs.«01_k».proof.Proof.Gr.Array
public import proofs.«01_k».proof.Proof.Gen.ResidualGradReferenceIdeal.Read
public import Idealize.ShloMosaic.Lib.KernelVsHost

@[expose] public section

set_option maxRecDepth 16384

noncomputable section

namespace Cert.ResidualGradIdeal.Sum

open Cert.ResidualGradIdeal.Gen
open Idealize.ShloMosaic Idealize.ShloMosaic.TcCoe
open Cert.ResidualGradReferenceIdeal.Read

/-- Eight blocks of columns: the first four, then the last four. -/
theorem halves {n L : ℕ} (hL : 8 * n = L) (f : Fin L → EReal) : ∑ l : Fin L, f l
    = (∑ j : Fin 4, ∑ k : Fin n, f ⟨j.val * n + k.val, by have := j.isLt; have := k.isLt; nlinarith⟩)
      + ∑ j : Fin 4, ∑ k : Fin n, f ⟨(j.val + 4) * n + k.val, by have := j.isLt; have := k.isLt; nlinarith⟩ := by
  have e : (∑ s : Fin (4 + 4), ∑ k : Fin n, f ⟨s.val * n + k.val, by have := s.isLt; have := k.isLt; nlinarith⟩) = ∑ l : Fin L, f l := by
    subst hL
    exact Fin.sum_mul_add_congr fun s k hl => rfl
  rw [← e, Fin.sum_univ_add]
  refine congrArg₂ (· + ·) rfl (Finset.sum_congr rfl fun j _ => Finset.sum_congr rfl fun k _ => congrArg f (Fin.ext ?_))
  show (4 + j.val) * n + k.val = (j.val + 4) * n + k.val
  rw [Nat.add_comm 4]

variable (x0 : Vec Ideal S16384x1024 .f32) (x1 : Vec Ideal S16384x4096 .bf16) (x2 x3 : Vec Ideal S16384x3072 .bf16)
  (x4 : Vec Ideal S8x1024x512 .f32) (x5 : Vec Ideal S8x1024x768 .f32)
  (x6 : Vec Ideal S16384x1024 .f32) (x7 : Vec Ideal S16384x1 .f32) (x8 : Vec Ideal S1x1024 .f32)

/-- Below column 3072 the padded pair is the keys' cotangent. -/
theorem pair_low (r : Fin 16384) (l : Fin 6144) (h : l.val < 3072) :
    val_main_v17 (F := Ideal) x2 x3 (ix2 r l) = x2 (ix2 r ⟨l.val, h⟩) := by
  rw [val_main_v17_apply]
  unfold val_main_v15 val_main_v16
  rw [pad_apply_of_not_inside _ _ _ _ _ _ _ _ (1 : Fin 2) (by intro hh; have h1 : 3072 ≤ l.val := hh.1; omega),
    pad_apply_of_inside _ _ _ _ _ _ _ _ (ix2 r ⟨l.val, h⟩) (by
      intro a
      match a with
      | ⟨0, _⟩ => show r.val = 0 + r.val * (0 + 1); omega
      | ⟨1, _⟩ => show l.val = 0 + l.val * (0 + 1); omega),
    val_main_cst_1_apply, val_main_v11_apply]
  exact (congrArg (· + x2 (ix2 r ⟨l.val, h⟩)) Ideal.ofBits_zero_f32).trans (zero_add _)

/-- From column 3072 on it is the values' cotangent. -/
theorem pair_high (r : Fin 16384) (l : Fin 6144) (q : Fin 3072) (h : l.val = 3072 + q.val) :
    val_main_v17 (F := Ideal) x2 x3 (ix2 r l) = x3 (ix2 r q) := by
  rw [val_main_v17_apply]
  unfold val_main_v15 val_main_v16
  rw [pad_apply_of_inside _ _ _ _ _ _ _ _ (ix2 r q) (by
      intro a
      match a with
      | ⟨0, _⟩ => show r.val = 0 + r.val * (0 + 1); omega
      | ⟨1, _⟩ => show l.val = 3072 + q.val * (0 + 1); omega),
    pad_apply_of_not_inside _ _ _ _ _ _ _ _ (1 : Fin 2) (by
      intro hh
      have h1 : (l.val - 0) / (0 + 1) < 3072 := hh.2.2
      rw [Nat.sub_zero, Nat.zero_add, Nat.div_one] at h1
      omega),
    val_main_cst_2_apply, val_main_v12_apply]
  exact (congrArg (x3 (ix2 r q) + ·) Ideal.ofBits_zero_f32).trans (add_zero _)

/-- The projection weight laid out as one matrix. -/
theorem weight_wide (y : Fin 1024) (j : Fin 8) (k : Fin 512) (l : Fin 4096) (hl : l.val = j.val * 512 + k.val) :
    val_main_v1 (F := Ideal) x4 (ix2 y l) = x4 (ix3 j y k) := by
  rw [val_main_v1_apply, val_main_v0_apply]
  refine congrArg x4 ?_
  have := k.isLt
  blk_ext

/-- The pair's weight laid out as one matrix. -/
theorem weight_pair (y : Fin 1024) (j : Fin 8) (k : Fin 768) (l : Fin 6144) (hl : l.val = j.val * 768 + k.val) :
    val_main_v3 (F := Ideal) x5 (ix2 y l) = x5 (ix3 j y k) := by
  rw [val_main_v3_apply, val_main_v2_apply]
  refine congrArg x5 ?_
  have := k.isLt
  blk_ext

/-- The cotangent of the normalised rows. -/
theorem cot_eq (i : S16384x1024.Idx) : val_main_v21 (F := Ideal) x0 x1 x2 x3 x4 x5 i = entry (n := 16384) x0 x1 x2 x3 x4 x5 i := by
  rw [val_main_v21_apply, val_main_v19_apply, val_main_v14_apply, val_main_v13_apply, val_main_cst_0_apply, val_main_v18_apply, val_main_v20_apply,
    halves (n := 512) (L := 4096) rfl, halves (n := 768) (L := 6144) rfl]
  unfold entry
  rw [Finset.sum_add_distrib, Finset.sum_add_distrib, add_add_add_comm, ← add_assoc]
  refine congrArg₂ (· + ·) (congrArg₂ (· + ·) rfl (congrArg₂ (· + ·) ?_ ?_)) (congrArg₂ (· + ·) ?_ ?_) <;>
    refine Finset.sum_congr rfl fun j _ => Finset.sum_congr rfl fun k _ => congrArg₂ (· * ·) ?_ ?_
  · rw [val_main_v10_apply]
    refine congrArg x1 ?_
    blk_ext
  · have hj := j.isLt
    have hk := k.isLt
    refine (congrArg _ ?_).trans (weight_wide x4 (i 1) ⟨j.val, by omega⟩ k ⟨j.val * 512 + k.val, by omega⟩ rfl)
    blk_ext
  · rw [val_main_v10_apply]
    refine congrArg x1 ?_
    blk_ext
  · have hj := j.isLt
    have hk := k.isLt
    refine (congrArg _ ?_).trans (weight_wide x4 (i 1) ⟨j.val + 4, by omega⟩ k ⟨(j.val + 4) * 512 + k.val, by omega⟩ rfl)
    blk_ext
  · have hj := j.isLt
    have hk := k.isLt
    refine (congrArg _ ?_).trans (pair_low x2 x3 (i 0) ⟨j.val * 768 + k.val, by omega⟩ (by show j.val * 768 + k.val < 3072; omega))
    blk_ext
  · have hj := j.isLt
    have hk := k.isLt
    refine (congrArg _ ?_).trans (weight_pair x5 (i 1) ⟨j.val, by omega⟩ k ⟨j.val * 768 + k.val, by omega⟩ rfl)
    blk_ext
  · have hj := j.isLt
    have hk := k.isLt
    refine (congrArg _ ?_).trans (pair_high x2 x3 (i 0) ⟨(j.val + 4) * 768 + k.val, by omega⟩ ⟨j.val * 768 + k.val, by omega⟩
      (by show (j.val + 4) * 768 + k.val = 3072 + (j.val * 768 + k.val); omega))
    blk_ext
  · have hj := j.isLt
    have hk := k.isLt
    refine (congrArg _ ?_).trans (weight_pair x5 (i 1) ⟨j.val + 4, by omega⟩ k ⟨(j.val + 4) * 768 + k.val, by omega⟩ rfl)
    blk_ext

/-- A sum with the zero it starts from. -/
theorem from_zero (x : EReal) : (FloatOps.ofBits (F := Ideal) .f32 0x00000000#32 : EReal) + x = x :=
  (congrArg (· + x) Ideal.ofBits_zero_f32).trans (zero_add x)

/-- The gradient rows. -/
theorem grad_eq (i : S16384x1024.Idx) : val_main_v49 (F := Ideal) x0 x1 x2 x3 x4 x5 x6 x7 x8 i
    = rowGrad (n := 16384) (entry (n := 16384) x0 x1 x2 x3 x4 x5) x6 x7 x8 i := by
  rw [val_main_v49_apply, val_main_v48_apply, val_main_v47_apply, val_main_v39_apply, val_main_v38_apply, val_main_v37_apply,
    val_main_v36_apply, val_main_cst_7_apply, val_main_v35_apply, val_main_v34_apply, val_main_cst_6_apply, from_zero,
    val_main_v46_apply, val_main_v45_apply, val_main_v44_apply, val_main_v43_apply, val_main_cst_9_apply, val_main_v42_apply,
    val_main_v41_apply, val_main_cst_8_apply, from_zero]
  have scaled : ∀ y, val_main_v33 (F := Ideal) x0 x1 x2 x3 x4 x5 x8 y = entry (n := 16384) x0 x1 x2 x3 x4 x5 y * x8 (ix2 0 (y 1)) := by
    intro y
    rw [val_main_v33_apply, val_main_v32_apply, cot_eq]
    refine congrArg₂ (· * ·) rfl (congrArg x8 ?_)
    blk_ext
  unfold rowGrad
  simp only [val_main_v40_apply, scaled]
  refine congrArg₂ (· * ·) (congrArg x7 ?_) (congrArg₂ (· - ·) (congrArg₂ (· - ·) ?_ (congrArg₂ Ideal.div (Finset.sum_congr rfl fun l _ => ?_) rfl))
    (congrArg₂ (· * ·) rfl (congrArg₂ Ideal.div (Finset.sum_congr rfl fun l _ => ?_) rfl)))
  · blk_ext
  · rfl
  · refine congrArg₂ (· * ·) (congrArg _ ?_) (congrArg x8 ?_) <;> blk_ext
  · refine congrArg₂ (· * ·) (congrArg₂ (· * ·) (congrArg _ ?_) (congrArg x8 ?_)) (congrArg x6 ?_) <;> blk_ext

/-- The gain's gradient on eight rows. -/
theorem gain_ref (i : S8x1024.Idx) : val_main_v51 (F := Ideal) x0 x1 x2 x3 x4 x5 x6 i
    = ∑ l : Fin 16384, entry (n := 16384) x0 x1 x2 x3 x4 x5 (ix2 l (i 1)) * x6 (ix2 l (i 1)) := by
  rw [val_main_v51_apply, val_main_v31_apply, val_main_v30_apply, val_main_cst_5_apply, from_zero]
  refine Finset.sum_congr rfl fun l _ => ?_
  rw [val_main_v29_apply, cot_eq]
  refine (mul_comm _ _).trans (congrArg₂ (· * ·) (congrArg _ ?_) (congrArg x6 ?_)) <;> blk_ext

/-- The bias's gradient on eight rows. -/
theorem bias_ref (i : S8x1024.Idx) : val_main_v52 (F := Ideal) x0 x1 x2 x3 x4 x5 i
    = ∑ l : Fin 16384, entry (n := 16384) x0 x1 x2 x3 x4 x5 (ix2 l (i 1)) := by
  rw [val_main_v52_apply, val_main_v28_apply, val_main_v27_apply, val_main_cst_4_apply, from_zero]
  refine Finset.sum_congr rfl fun l _ => ?_
  rw [cot_eq]
  refine congrArg _ ?_
  blk_ext

/-- The sum of the gradient rows on eight rows. -/
theorem rowsum_ref (i : S8x1024.Idx) : val_main_v55 (F := Ideal) x0 x1 x2 x3 x4 x5 x6 x7 x8 i
    = ∑ l : Fin 16384, rowGrad (n := 16384) (entry (n := 16384) x0 x1 x2 x3 x4 x5) x6 x7 x8 (ix2 l (i 1)) := by
  rw [val_main_v55_apply, val_main_v54_apply, val_main_v53_apply, val_main_cst_10_apply, from_zero]
  refine Finset.sum_congr rfl fun l _ => ?_
  rw [grad_eq]
  refine congrArg _ ?_
  blk_ext

/-- The same for the whole array. -/
theorem rowsum_whole : val_main_v55 (F := Ideal) x0 x1 x2 x3 x4 x5 x6 x7 x8
    = eight (rowGrad (n := 16384) (entry (n := 16384) x0 x1 x2 x3 x4 x5) x6 x7 x8) :=
  funext fun i => rowsum_ref x0 x1 x2 x3 x4 x5 x6 x7 x8 i

end Cert.ResidualGradIdeal.Sum

end
-- ==== Proof.Gr.Claims.lean ====
/- The claims about the backward of the inner projections, the residual and the layer norm. -/
module

public import proofs.«01_k».proof.Defs
public import proofs.«01_k».proof.Proof.Gr.Reference
public import proofs.«01_k».proof.Proof.Gen.ResidualGrad.Frame
public import proofs.«01_k».proof.Proof.Gen.ResidualGradIdeal.Value
public import proofs.«01_k».proof.Proof.Gen.ResidualGradReferenceIdeal.Run
public import Idealize.ShloMosaic.Lib.Quiescent

@[expose] public section

noncomputable section

namespace Cert.ResidualGradIdeal.Sum

open Idealize.ShloMosaic Idealize.ShloMosaic.TcCoe Idealize.SL.Sem

/-- The kernel's frame. -/
theorem frame_kernel : Cert.quiescent_ResidualGrad := fun m ρ _ => Cert.ResidualGrad.Gen.frame m ρ

/-- Its idealization's frame. -/
theorem frame_kernel_ideal : Cert.quiescent_ResidualGradIdeal := fun m ρ _ => Cert.ResidualGradIdeal.Gen.frame m ρ

/-- The reference's frame. -/
theorem frame_reference : Cert.quiescent_ResidualGradReferenceIdeal := fun m ρ _ =>
  (θ_run Cert.ResidualGradReferenceIdeal.defs _ _).mono (fun r h => ⟨fun c => (h c).2.2.2.2.2,
      Idealize.ShloMosaic.sem_eq_zero_of_no_sems (by decide) r.2⟩)
    (Cert.ResidualGradReferenceIdeal.Value.run (F := Ideal) m ρ)

/-- Nothing was rewritten. -/
theorem preserves : Cert.preserves_ResidualGrad_ResidualGradIdeal := trivial

set_option maxHeartbeats 1000000 in
/-- Both programs end with the same gradient rows and the same three sums. -/
theorem algebraic : Cert.algebraic_ResidualGradIdeal_ResidualGradReferenceIdeal := by
  intro m ρ m' ρ' _ hagree
  refine ⟨_, _, _, _, _, Cert.ResidualGradIdeal.Value.run_blocks (F := Ideal) m ρ, ?_⟩
  refine (θ_run Cert.ResidualGradReferenceIdeal.defs _ _).mono (fun _ h c => ⟨(h c).1.trans ?_, (h c).2.1.trans ?_, (h c).2.2.1.trans ?_,
      (h c).2.2.2.1.trans ?_, (h c).2.2.2.2.1.trans ?_, (h c).2.2.2.2.2⟩)
    (Cert.ResidualGradReferenceIdeal.Value.run (F := Ideal) m' ρ')
  · rw [Cert.ResidualGradReferenceIdeal.Read.val_main_v49_eq]
    obtain ⟨a0, a1, a2, a3, a4, a5, a6, a7, a8⟩ := hagree c
    rw [a0, a1, a2, a3, a4, a5, a6, a7, a8]
    exact (funext fun i => grad_eq _ _ _ _ _ _ _ _ _ i).trans (array7 m c).symm
  · rw [Cert.ResidualGradReferenceIdeal.Read.val_main_v50_eq]
    obtain ⟨a0, a1, a2, a3, a4, a5, a6, a7, a8⟩ := hagree c
    rw [a0, a1, a2, a3, a4, a5, a6, a7, a8]
    exact (funext fun i => (Cert.ResidualGradReferenceIdeal.Read.val_main_v50_apply _ _ _ _ _ _ _ _ _ i).trans
      (grad_eq _ _ _ _ _ _ _ _ _ i)).trans (array8 m c).symm
  · obtain ⟨a0, a1, a2, a3, a4, a5, a6, a7, a8⟩ := hagree c
    rw [a0, a1, a2, a3, a4, a5, a6]
    refine (Cert.ResidualGradReferenceIdeal.Read.val_main_v51_eq (F := Ideal) _ _ _ _ _ _ _).trans
      ((funext fun i => gain_ref _ _ _ _ _ _ _ i).trans ?_)
    rw [array9 m c]
    unfold eight gainRows cotangent
    rfl
  · obtain ⟨a0, a1, a2, a3, a4, a5, a6, a7, a8⟩ := hagree c
    rw [a0, a1, a2, a3, a4, a5]
    refine (Cert.ResidualGradReferenceIdeal.Read.val_main_v52_eq (F := Ideal) _ _ _ _ _ _).trans
      ((funext fun i => bias_ref _ _ _ _ _ _ i).trans ?_)
    rw [array10 m c]
    unfold eight biasRows cotangent
    rfl
  · rw [Cert.ResidualGradReferenceIdeal.Read.val_main_v55_eq]
    obtain ⟨a0, a1, a2, a3, a4, a5, a6, a7, a8⟩ := hagree c
    rw [a0, a1, a2, a3, a4, a5, a6, a7, a8]
    refine (rowsum_whole _ _ _ _ _ _ _ _ _).trans (Eq.trans ?_ (array11 m c).symm)
    unfold rowsumRows gradient cotangent
    rfl

end Cert.ResidualGradIdeal.Sum

end
-- ==== Proof.Lg.Payloads.lean ====
/- The values one grid point of the loss head stores, entry by entry. -/
module

public import proofs.«01_k».proof.Proof.Gen.LossGradIdeal.Frame
public import Idealize.ShloMosaic.Lib.Pipeline.ValueKit
public import Idealize.ShloMosaic.Lib.Pointwise

@[expose] public section

set_option maxRecDepth 16384

noncomputable section

namespace Cert.LossGradIdeal.Sum

open Cert.LossGradIdeal.Gen
open Idealize.ShloMosaic Idealize.ShloMosaic.TcCoe

/-- The rows the second layer norm takes: the scaled residual plus the outer projection and its bias. -/
def before {n : ℕ} (x : Vec Ideal (⟨2, ![n, 1024]⟩ : Shape) .f32) (g b : Vec Ideal S1x1024 .f32) (h : Vec Ideal (⟨2, ![n, 1024]⟩ : Shape) .bf16)
    (w : Vec Ideal S1024x1024 .f32) (v : Vec Ideal S1x1024 .f32) (y : (⟨2, ![n, 1024]⟩ : Shape).Idx) : Elt Ideal .f32 :=
  Ideal.ofBits .f32 0x3FB504F3#32 * (x y * g (ix2 0 (y 1)) + b (ix2 0 (y 1))) + ((∑ k : Fin 1024, h (ix2 (y 0) k) * w (ix2 k (y 1))) + v (ix2 0 (y 1)))

/-- A row less its mean. -/
def centred {n : ℕ} (r : Vec Ideal (⟨2, ![n, 1024]⟩ : Shape) .f32) (y : (⟨2, ![n, 1024]⟩ : Shape).Idx) : Elt Ideal .f32 :=
  r y - Ideal.div (∑ l : Fin 1024, r (ix2 (y 0) l)) (Ideal.ofBits .f32 0x44800000#32)

/-- One over the deviation of a centred row. -/
def scale {n : ℕ} (d : Vec Ideal (⟨2, ![n, 1024]⟩ : Shape) .f32) (y : (⟨2, ![n, 1]⟩ : Shape).Idx) : Elt Ideal .f32 :=
  Ideal.rsqrt (Ideal.div (∑ l : Fin 1024, d (ix2 (y 0) l) * d (ix2 (y 0) l)) (Ideal.ofBits .f32 0x44800000#32) + Ideal.ofBits .f32 0x3727C5AC#32)

/-- A normalised row. -/
def normal {n : ℕ} (d : Vec Ideal (⟨2, ![n, 1024]⟩ : Shape) .f32) (y : (⟨2, ![n, 1024]⟩ : Shape).Idx) : Elt Ideal .f32 :=
  d y * scale d (ix2 (y 0) 0)

/-- The output less the target. -/
def miss {n : ℕ} (x : Vec Ideal (⟨2, ![n, 1024]⟩ : Shape) .f32) (g b : Vec Ideal S1x1024 .f32) (t : Vec Ideal (⟨2, ![n, 1024]⟩ : Shape) .f32)
    (y : (⟨2, ![n, 1024]⟩ : Shape).Idx) : Elt Ideal .f32 :=
  x y * g (ix2 0 (y 1)) + b (ix2 0 (y 1)) - t y

/-- The cotangent of the output. -/
def cot {n : ℕ} (e : Vec Ideal (⟨2, ![n, 1024]⟩ : Shape) .f32) (y : (⟨2, ![n, 1024]⟩ : Shape).Idx) : Elt Ideal .f32 :=
  e y * Ideal.ofBits .f32 0x3A800000#32

/-- The layer norm's backward of one row: `rstd * (d - mean d - n * mean (d * n))` with `d` the cotangent times the gain. -/
def rowGrad {n : ℕ} (a x : Vec Ideal (⟨2, ![n, 1024]⟩ : Shape) .f32) (s : Vec Ideal (⟨2, ![n, 1]⟩ : Shape) .f32) (g : Vec Ideal S1x1024 .f32)
    (y : (⟨2, ![n, 1024]⟩ : Shape).Idx) : Elt Ideal .f32 :=
  s (ix2 (y 0) 0) * ((a y * g (ix2 0 (y 1)) - Ideal.div (∑ l : Fin 1024, a (ix2 (y 0) l) * g (ix2 0 l)) (Ideal.ofBits .f32 0x44800000#32))
    - x y * Ideal.div (∑ l : Fin 1024, a (ix2 (y 0) l) * g (ix2 0 l) * x (ix2 (y 0) l)) (Ideal.ofBits .f32 0x44800000#32))

/-- Every eighth row of a block added up. -/
def fold8 (v : Vec Ideal S512x1024 .f32) (y : S8x1024.Idx) : Elt Ideal .f32 :=
  ∑ q : Fin 64, v (ix2 ⟨q.val * 8 + (y 0).val, by have h : (y 0).val < 8 := (y 0).isLt; have := q.isLt; omega⟩ (y 1))

section
variable (x : Vec Ideal S512x1024 .f32) (g b : Vec Ideal S1x1024 .f32) (h : Vec Ideal S512x1024 .bf16) (w : Vec Ideal S1024x1024 .bf16) (v : Vec Ideal S1x1024 .f32)

theorem centred_eq : k0_pay12 (F := Ideal) x g b h w v = centred (before x g b h w v) := by
  funext y
  unfold centred before
  pointwise [k0_pay12]

theorem scale_eq : k0_pay13 (F := Ideal) x g b h w v = scale (k0_pay12 (F := Ideal) x g b h w v) := by
  funext y
  unfold scale
  pointwise [k0_pay13]

theorem normal_eq : k0_pay14 (F := Ideal) x g b h w v = normal (k0_pay12 (F := Ideal) x g b h w v) := by
  funext y
  unfold normal
  rw [← scale_eq]
  pointwise [k0_pay14]
end

section
variable (x : Vec Ideal S512x1024 .f32) (g b : Vec Ideal S1x1024 .f32) (t : Vec Ideal S512x1024 .f32)

theorem miss_eq : k0_pay15 (F := Ideal) x g b t = miss x g b t := by
  funext y
  unfold miss
  pointwise [k0_pay15]

theorem cot_eq : k0_pay17 (F := Ideal) x g b t = cot (k0_pay15 (F := Ideal) x g b t) := by
  funext y
  unfold cot
  pointwise [k0_pay17]

theorem loss_share (o : Vec Ideal S8x1024 .f32) (y : S8x1024.Idx) :
    k0_pay16 (F := Ideal) x g b t o y = o y + fold8 (fun i => k0_pay15 (F := Ideal) x g b t i * k0_pay15 (F := Ideal) x g b t i) y := by
  unfold fold8
  pointwise [k0_pay16]

theorem gain_share (o : Vec Ideal S8x1024 .f32) (y : S8x1024.Idx) :
    k0_pay18 (F := Ideal) x g b t o y = o y + fold8 (fun i => k0_pay17 (F := Ideal) x g b t i * x i) y := by
  unfold fold8
  pointwise [k0_pay18]

theorem bias_share (o : Vec Ideal S8x1024 .f32) (y : S8x1024.Idx) :
    k0_pay19 (F := Ideal) x g b t o y = o y + fold8 (k0_pay17 (F := Ideal) x g b t) y := by
  unfold fold8
  pointwise [k0_pay19]

theorem row_grad (s : Vec Ideal S512x1 .f32) (f : Vec Ideal S1x1024 .f32) (y : S512x1024.Idx) :
    k0_pay1 (F := Ideal) s x (k0_pay20 (F := Ideal) x g b t f) y = rowGrad (k0_pay17 (F := Ideal) x g b t) x s f y := by
  unfold rowGrad
  pointwise [k0_pay1, k0_pay20]
end

theorem row_grad_cast (s : Vec Ideal S512x1 .f32) (x d : Vec Ideal S512x1024 .f32) (y : S512x1024.Idx) :
    k0_pay2 (F := Ideal) s x d y = k0_pay1 (F := Ideal) s x d y := by
  pointwise [k0_pay2]

theorem row_share (s : Vec Ideal S512x1 .f32) (x d : Vec Ideal S512x1024 .f32) (o : Vec Ideal S8x1024 .f32) (y : S8x1024.Idx) :
    k0_pay3 (F := Ideal) s x d o y = o y + fold8 (k0_pay1 (F := Ideal) s x d) y := by
  unfold fold8
  pointwise [k0_pay3]

/-- The last point adds the eight rows. -/
def total (o : Vec Ideal S8x1024 .f32) (y : S8x1024.Idx) : Elt Ideal .f32 := ∑ q : Fin 8, o (ix2 q (y 1))

/-- The last point adds all entries of the loss and scales the sum. -/
def scaled (o : Vec Ideal S8x1024 .f32) : Elt Ideal .f32 := Ideal.ofBits .f32 0x3A000000#32 * ∑ q : Fin 8, ∑ l : Fin 1024, o (ix2 q l)

theorem total4 (o : Vec Ideal S8x1024 .f32) (y : S8x1024.Idx) : k0_pay4 (F := Ideal) o y = total o y := by
  unfold total
  pointwise [k0_pay4]

theorem total5 (o : Vec Ideal S8x1024 .f32) (y : S8x1024.Idx) : k0_pay5 (F := Ideal) o y = total o y := by
  unfold total
  pointwise [k0_pay5]

theorem total6 (o : Vec Ideal S8x1024 .f32) (y : S8x1024.Idx) : k0_pay6 (F := Ideal) o y = total o y := by
  unfold total
  pointwise [k0_pay6]

theorem total7 (o : Vec Ideal S8x1024 .f32) (y : S8x1024.Idx) : k0_pay7 (F := Ideal) o y = scaled o := by
  unfold scaled
  pointwise [k0_pay7]

theorem zero8 (y : S8x1024.Idx) : k0_pay8 (F := Ideal) y = 0 := by pointwise [k0_pay8]
theorem zero9 (y : S8x1024.Idx) : k0_pay9 (F := Ideal) y = 0 := by pointwise [k0_pay9]
theorem zero10 (y : S8x1024.Idx) : k0_pay10 (F := Ideal) y = 0 := by pointwise [k0_pay10]
theorem zero11 (y : S8x1024.Idx) : k0_pay11 (F := Ideal) y = 0 := by pointwise [k0_pay11]

end Cert.LossGradIdeal.Sum

end
-- ==== Proof.Lg.Values.lean ====
/- What one grid point of the loss head leaves in each of its six outputs. -/
module

public import proofs.«01_k».proof.Proof.Lg.Payloads
public import Idealize.ShloMosaic.Lib.Pipeline.ReadBack

@[expose] public section

set_option maxRecDepth 16384

noncomputable section

namespace Cert.LossGradIdeal.Sum

open Cert.LossGradIdeal.Gen
open Idealize.ShloMosaic Idealize.ShloMosaic.TcCoe

/-- First point: the gradient rows. -/
theorem block9_A (c : Dev nD) (i : grid0.Coords) (arg1 : Memref sig .tc .vmem S512x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S8x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S8x1024 .f32) (harg15 : arg15.IsWhole) (hc0 : cond0_0 i) (hc1 : ¬cond0_1 i) (hc2 : ¬cond0_2 i) (x0 : Vec Ideal S512x1024 .bf16) (x1 : Vec Ideal S1024x1024 .bf16) (x2 : Vec Ideal S1x1024 .f32) (x3 : Vec Ideal S512x1024 .f32) (x4 : Vec Ideal S1x1024 .f32) (x5 : Vec Ideal S1x1024 .f32) (x6 : Vec Ideal S1x1024 .f32) (x7 : Vec Ideal S1x1024 .f32) (x8 : Vec Ideal S512x1024 .f32) (y : S512x1024.Idx) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 y = rowGrad (cot (miss (normal (centred (before x3 x4 x5 x0 x1 x2))) x6 x7 x8)) (normal (centred (before x3 x4 x5 x0 x1 x2))) (scale (centred (before x3 x4 x5 x0 x1 x2))) x6 y := by
  frame_out
  refine (row_grad ..).trans ?_
  rw [cot_eq, miss_eq, normal_eq, scale_eq, centred_eq]

/-- First point: the gradient rows in bf16. -/
theorem block10_A (c : Dev nD) (i : grid0.Coords) (arg1 : Memref sig .tc .vmem S512x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S8x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S8x1024 .f32) (harg15 : arg15.IsWhole) (hc0 : cond0_0 i) (hc1 : ¬cond0_1 i) (hc2 : ¬cond0_2 i) (x0 : Vec Ideal S512x1024 .bf16) (x1 : Vec Ideal S1024x1024 .bf16) (x2 : Vec Ideal S1x1024 .f32) (x3 : Vec Ideal S512x1024 .f32) (x4 : Vec Ideal S1x1024 .f32) (x5 : Vec Ideal S1x1024 .f32) (x6 : Vec Ideal S1x1024 .f32) (x7 : Vec Ideal S1x1024 .f32) (x8 : Vec Ideal S512x1024 .f32) (y : S512x1024.Idx) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 y = rowGrad (cot (miss (normal (centred (before x3 x4 x5 x0 x1 x2))) x6 x7 x8)) (normal (centred (before x3 x4 x5 x0 x1 x2))) (scale (centred (before x3 x4 x5 x0 x1 x2))) x6 y := by
  frame_out
  refine (row_grad_cast ..).trans ((row_grad ..).trans ?_)
  rw [cot_eq, miss_eq, normal_eq, scale_eq, centred_eq]

/-- First point: the running sum for the loss. -/
theorem block11_A (c : Dev nD) (i : grid0.Coords) (arg1 : Memref sig .tc .vmem S512x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S8x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S8x1024 .f32) (harg15 : arg15.IsWhole) (hc0 : cond0_0 i) (hc1 : ¬cond0_1 i) (hc2 : ¬cond0_2 i) (x0 : Vec Ideal S512x1024 .bf16) (x1 : Vec Ideal S1024x1024 .bf16) (x2 : Vec Ideal S1x1024 .f32) (x3 : Vec Ideal S512x1024 .f32) (x4 : Vec Ideal S1x1024 .f32) (x5 : Vec Ideal S1x1024 .f32) (x6 : Vec Ideal S1x1024 .f32) (x7 : Vec Ideal S1x1024 .f32) (x8 : Vec Ideal S512x1024 .f32) (y : S8x1024.Idx) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 y = 0 + fold8 (fun i => (miss (normal (centred (before x3 x4 x5 x0 x1 x2))) x6 x7 x8) i * (miss (normal (centred (before x3 x4 x5 x0 x1 x2))) x6 x7 x8) i) y := by
  frame_out
  refine (loss_share ..).trans ?_
  rw [zero8]
  rw [miss_eq, normal_eq, centred_eq]

/-- First point: the running sum for the gain. -/
theorem block12_A (c : Dev nD) (i : grid0.Coords) (arg1 : Memref sig .tc .vmem S512x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S8x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S8x1024 .f32) (harg15 : arg15.IsWhole) (hc0 : cond0_0 i) (hc1 : ¬cond0_1 i) (hc2 : ¬cond0_2 i) (x0 : Vec Ideal S512x1024 .bf16) (x1 : Vec Ideal S1024x1024 .bf16) (x2 : Vec Ideal S1x1024 .f32) (x3 : Vec Ideal S512x1024 .f32) (x4 : Vec Ideal S1x1024 .f32) (x5 : Vec Ideal S1x1024 .f32) (x6 : Vec Ideal S1x1024 .f32) (x7 : Vec Ideal S1x1024 .f32) (x8 : Vec Ideal S512x1024 .f32) (y : S8x1024.Idx) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 y = 0 + fold8 (fun i => (cot (miss (normal (centred (before x3 x4 x5 x0 x1 x2))) x6 x7 x8)) i * (normal (centred (before x3 x4 x5 x0 x1 x2))) i) y := by
  frame_out
  refine (gain_share ..).trans ?_
  rw [zero9]
  rw [cot_eq, miss_eq, normal_eq, centred_eq]

/-- First point: the running sum for the bias. -/
theorem block13_A (c : Dev nD) (i : grid0.Coords) (arg1 : Memref sig .tc .vmem S512x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S8x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S8x1024 .f32) (harg15 : arg15.IsWhole) (hc0 : cond0_0 i) (hc1 : ¬cond0_1 i) (hc2 : ¬cond0_2 i) (x0 : Vec Ideal S512x1024 .bf16) (x1 : Vec Ideal S1024x1024 .bf16) (x2 : Vec Ideal S1x1024 .f32) (x3 : Vec Ideal S512x1024 .f32) (x4 : Vec Ideal S1x1024 .f32) (x5 : Vec Ideal S1x1024 .f32) (x6 : Vec Ideal S1x1024 .f32) (x7 : Vec Ideal S1x1024 .f32) (x8 : Vec Ideal S512x1024 .f32) (y : S8x1024.Idx) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 y = 0 + fold8 (cot (miss (normal (centred (before x3 x4 x5 x0 x1 x2))) x6 x7 x8)) y := by
  frame_out
  refine (bias_share ..).trans ?_
  rw [zero10]
  rw [cot_eq, miss_eq, normal_eq, centred_eq]

/-- First point: the running sum of the gradient rows. -/
theorem block14_A (c : Dev nD) (i : grid0.Coords) (arg1 : Memref sig .tc .vmem S512x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S8x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S8x1024 .f32) (harg15 : arg15.IsWhole) (hc0 : cond0_0 i) (hc1 : ¬cond0_1 i) (hc2 : ¬cond0_2 i) (x0 : Vec Ideal S512x1024 .bf16) (x1 : Vec Ideal S1024x1024 .bf16) (x2 : Vec Ideal S1x1024 .f32) (x3 : Vec Ideal S512x1024 .f32) (x4 : Vec Ideal S1x1024 .f32) (x5 : Vec Ideal S1x1024 .f32) (x6 : Vec Ideal S1x1024 .f32) (x7 : Vec Ideal S1x1024 .f32) (x8 : Vec Ideal S512x1024 .f32) (y : S8x1024.Idx) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 y = 0 + fold8 (rowGrad (cot (miss (normal (centred (before x3 x4 x5 x0 x1 x2))) x6 x7 x8)) (normal (centred (before x3 x4 x5 x0 x1 x2))) (scale (centred (before x3 x4 x5 x0 x1 x2))) x6) y := by
  frame_out
  refine (row_share ..).trans ?_
  rw [zero11]
  refine congrArg (fun a : Vec Ideal S512x1024 .f32 => 0 + fold8 a y) (funext fun i => (row_grad ..).trans ?_)
  rw [cot_eq, miss_eq, normal_eq, scale_eq, centred_eq]

/-- A middle point: the gradient rows. -/
theorem block9_B (c : Dev nD) (i : grid0.Coords) (arg1 : Memref sig .tc .vmem S512x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S8x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S8x1024 .f32) (harg15 : arg15.IsWhole) (hc0 : ¬cond0_0 i) (hc1 : ¬cond0_1 i) (hc2 : ¬cond0_2 i) (x0 : Vec Ideal S512x1024 .bf16) (x1 : Vec Ideal S1024x1024 .bf16) (x2 : Vec Ideal S1x1024 .f32) (x3 : Vec Ideal S512x1024 .f32) (x4 : Vec Ideal S1x1024 .f32) (x5 : Vec Ideal S1x1024 .f32) (x6 : Vec Ideal S1x1024 .f32) (x7 : Vec Ideal S1x1024 .f32) (x8 : Vec Ideal S512x1024 .f32) (xo11 : Vec Ideal S8x1024 .f32) (xo12 : Vec Ideal S8x1024 .f32) (xo13 : Vec Ideal S8x1024 .f32) (xo14 : Vec Ideal S8x1024 .f32) (y : S512x1024.Idx) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo11 xo12 xo13 xo14 y = rowGrad (cot (miss (normal (centred (before x3 x4 x5 x0 x1 x2))) x6 x7 x8)) (normal (centred (before x3 x4 x5 x0 x1 x2))) (scale (centred (before x3 x4 x5 x0 x1 x2))) x6 y := by
  frame_out
  refine (row_grad ..).trans ?_
  rw [cot_eq, miss_eq, normal_eq, scale_eq, centred_eq]

/-- A middle point: the gradient rows in bf16. -/
theorem block10_B (c : Dev nD) (i : grid0.Coords) (arg1 : Memref sig .tc .vmem S512x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S8x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S8x1024 .f32) (harg15 : arg15.IsWhole) (hc0 : ¬cond0_0 i) (hc1 : ¬cond0_1 i) (hc2 : ¬cond0_2 i) (x0 : Vec Ideal S512x1024 .bf16) (x1 : Vec Ideal S1024x1024 .bf16) (x2 : Vec Ideal S1x1024 .f32) (x3 : Vec Ideal S512x1024 .f32) (x4 : Vec Ideal S1x1024 .f32) (x5 : Vec Ideal S1x1024 .f32) (x6 : Vec Ideal S1x1024 .f32) (x7 : Vec Ideal S1x1024 .f32) (x8 : Vec Ideal S512x1024 .f32) (xo11 : Vec Ideal S8x1024 .f32) (xo12 : Vec Ideal S8x1024 .f32) (xo13 : Vec Ideal S8x1024 .f32) (xo14 : Vec Ideal S8x1024 .f32) (y : S512x1024.Idx) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo11 xo12 xo13 xo14 y = rowGrad (cot (miss (normal (centred (before x3 x4 x5 x0 x1 x2))) x6 x7 x8)) (normal (centred (before x3 x4 x5 x0 x1 x2))) (scale (centred (before x3 x4 x5 x0 x1 x2))) x6 y := by
  frame_out
  refine (row_grad_cast ..).trans ((row_grad ..).trans ?_)
  rw [cot_eq, miss_eq, normal_eq, scale_eq, centred_eq]

/-- A middle point: the running sum for the loss. -/
theorem block11_B (c : Dev nD) (i : grid0.Coords) (arg1 : Memref sig .tc .vmem S512x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S8x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S8x1024 .f32) (harg15 : arg15.IsWhole) (hc0 : ¬cond0_0 i) (hc1 : ¬cond0_1 i) (hc2 : ¬cond0_2 i) (x0 : Vec Ideal S512x1024 .bf16) (x1 : Vec Ideal S1024x1024 .bf16) (x2 : Vec Ideal S1x1024 .f32) (x3 : Vec Ideal S512x1024 .f32) (x4 : Vec Ideal S1x1024 .f32) (x5 : Vec Ideal S1x1024 .f32) (x6 : Vec Ideal S1x1024 .f32) (x7 : Vec Ideal S1x1024 .f32) (x8 : Vec Ideal S512x1024 .f32) (xo11 : Vec Ideal S8x1024 .f32) (xo12 : Vec Ideal S8x1024 .f32) (xo13 : Vec Ideal S8x1024 .f32) (xo14 : Vec Ideal S8x1024 .f32) (y : S8x1024.Idx) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo11 xo12 xo13 xo14 y = xo11 y + fold8 (fun i => (miss (normal (centred (before x3 x4 x5 x0 x1 x2))) x6 x7 x8) i * (miss (normal (centred (before x3 x4 x5 x0 x1 x2))) x6 x7 x8) i) y := by
  frame_out
  refine (loss_share ..).trans ?_
  rw [miss_eq, normal_eq, centred_eq]

/-- A middle point: the running sum for the gain. -/
theorem block12_B (c : Dev nD) (i : grid0.Coords) (arg1 : Memref sig .tc .vmem S512x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S8x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S8x1024 .f32) (harg15 : arg15.IsWhole) (hc0 : ¬cond0_0 i) (hc1 : ¬cond0_1 i) (hc2 : ¬cond0_2 i) (x0 : Vec Ideal S512x1024 .bf16) (x1 : Vec Ideal S1024x1024 .bf16) (x2 : Vec Ideal S1x1024 .f32) (x3 : Vec Ideal S512x1024 .f32) (x4 : Vec Ideal S1x1024 .f32) (x5 : Vec Ideal S1x1024 .f32) (x6 : Vec Ideal S1x1024 .f32) (x7 : Vec Ideal S1x1024 .f32) (x8 : Vec Ideal S512x1024 .f32) (xo11 : Vec Ideal S8x1024 .f32) (xo12 : Vec Ideal S8x1024 .f32) (xo13 : Vec Ideal S8x1024 .f32) (xo14 : Vec Ideal S8x1024 .f32) (y : S8x1024.Idx) :
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo11 xo12 xo13 xo14 y = xo12 y + fold8 (fun i => (cot (miss (normal (centred (before x3 x4 x5 x0 x1 x2))) x6 x7 x8)) i * (normal (centred (before x3 x4 x5 x0 x1 x2))) i) y := by
  frame_out
  refine (gain_share ..).trans ?_
  rw [cot_eq, miss_eq, normal_eq, centred_eq]

/-- A middle point: the running sum for the bias. -/
theorem block13_B (c : Dev nD) (i : grid0.Coords) (arg1 : Memref sig .tc .vmem S512x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S8x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S8x1024 .f32) (harg15 : arg15.IsWhole) (hc0 : ¬cond0_0 i) (hc1 : ¬cond0_1 i) (hc2 : ¬cond0_2 i) (x0 : Vec Ideal S512x1024 .bf16) (x1 : Vec Ideal S1024x1024 .bf16) (x2 : Vec Ideal S1x1024 .f32) (x3 : Vec Ideal S512x1024 .f32) (x4 : Vec Ideal S1x1024 .f32) (x5 : Vec Ideal S1x1024 .f32) (x6 : Vec Ideal S1x1024 .f32) (x7 : Vec Ideal S1x1024 .f32) (x8 : Vec Ideal S512x1024 .f32) (xo11 : Vec Ideal S8x1024 .f32) (xo12 : Vec Ideal S8x1024 .f32) (xo13 : Vec Ideal S8x1024 .f32) (xo14 : Vec Ideal S8x1024 .f32) (y : S8x1024.Idx) :
    out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo11 xo12 xo13 xo14 y = xo13 y + fold8 (cot (miss (normal (centred (before x3 x4 x5 x0 x1 x2))) x6 x7 x8)) y := by
  frame_out
  refine (bias_share ..).trans ?_
  rw [cot_eq, miss_eq, normal_eq, centred_eq]

/-- A middle point: the running sum of the gradient rows. -/
theorem block14_B (c : Dev nD) (i : grid0.Coords) (arg1 : Memref sig .tc .vmem S512x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S8x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S8x1024 .f32) (harg15 : arg15.IsWhole) (hc0 : ¬cond0_0 i) (hc1 : ¬cond0_1 i) (hc2 : ¬cond0_2 i) (x0 : Vec Ideal S512x1024 .bf16) (x1 : Vec Ideal S1024x1024 .bf16) (x2 : Vec Ideal S1x1024 .f32) (x3 : Vec Ideal S512x1024 .f32) (x4 : Vec Ideal S1x1024 .f32) (x5 : Vec Ideal S1x1024 .f32) (x6 : Vec Ideal S1x1024 .f32) (x7 : Vec Ideal S1x1024 .f32) (x8 : Vec Ideal S512x1024 .f32) (xo11 : Vec Ideal S8x1024 .f32) (xo12 : Vec Ideal S8x1024 .f32) (xo13 : Vec Ideal S8x1024 .f32) (xo14 : Vec Ideal S8x1024 .f32) (y : S8x1024.Idx) :
    out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo11 xo12 xo13 xo14 y = xo14 y + fold8 (rowGrad (cot (miss (normal (centred (before x3 x4 x5 x0 x1 x2))) x6 x7 x8)) (normal (centred (before x3 x4 x5 x0 x1 x2))) (scale (centred (before x3 x4 x5 x0 x1 x2))) x6) y := by
  frame_out
  refine (row_share ..).trans ?_
  refine congrArg (fun a : Vec Ideal S512x1024 .f32 => xo14 y + fold8 a y) (funext fun i => (row_grad ..).trans ?_)
  rw [cot_eq, miss_eq, normal_eq, scale_eq, centred_eq]

/-- Last point: the gradient rows. -/
theorem block9_C (c : Dev nD) (i : grid0.Coords) (arg1 : Memref sig .tc .vmem S512x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S8x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S8x1024 .f32) (harg15 : arg15.IsWhole) (hc0 : ¬cond0_0 i) (hc1 : cond0_1 i) (hc2 : cond0_2 i) (x0 : Vec Ideal S512x1024 .bf16) (x1 : Vec Ideal S1024x1024 .bf16) (x2 : Vec Ideal S1x1024 .f32) (x3 : Vec Ideal S512x1024 .f32) (x4 : Vec Ideal S1x1024 .f32) (x5 : Vec Ideal S1x1024 .f32) (x6 : Vec Ideal S1x1024 .f32) (x7 : Vec Ideal S1x1024 .f32) (x8 : Vec Ideal S512x1024 .f32) (xo11 : Vec Ideal S8x1024 .f32) (xo12 : Vec Ideal S8x1024 .f32) (xo13 : Vec Ideal S8x1024 .f32) (xo14 : Vec Ideal S8x1024 .f32) (y : S512x1024.Idx) :
    out0_C_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo11 xo12 xo13 xo14 y = rowGrad (cot (miss (normal (centred (before x3 x4 x5 x0 x1 x2))) x6 x7 x8)) (normal (centred (before x3 x4 x5 x0 x1 x2))) (scale (centred (before x3 x4 x5 x0 x1 x2))) x6 y := by
  frame_out
  refine (row_grad ..).trans ?_
  rw [cot_eq, miss_eq, normal_eq, scale_eq, centred_eq]

/-- Last point: the gradient rows in bf16. -/
theorem block10_C (c : Dev nD) (i : grid0.Coords) (arg1 : Memref sig .tc .vmem S512x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S8x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S8x1024 .f32) (harg15 : arg15.IsWhole) (hc0 : ¬cond0_0 i) (hc1 : cond0_1 i) (hc2 : cond0_2 i) (x0 : Vec Ideal S512x1024 .bf16) (x1 : Vec Ideal S1024x1024 .bf16) (x2 : Vec Ideal S1x1024 .f32) (x3 : Vec Ideal S512x1024 .f32) (x4 : Vec Ideal S1x1024 .f32) (x5 : Vec Ideal S1x1024 .f32) (x6 : Vec Ideal S1x1024 .f32) (x7 : Vec Ideal S1x1024 .f32) (x8 : Vec Ideal S512x1024 .f32) (xo11 : Vec Ideal S8x1024 .f32) (xo12 : Vec Ideal S8x1024 .f32) (xo13 : Vec Ideal S8x1024 .f32) (xo14 : Vec Ideal S8x1024 .f32) (y : S512x1024.Idx) :
    out0_C_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo11 xo12 xo13 xo14 y = rowGrad (cot (miss (normal (centred (before x3 x4 x5 x0 x1 x2))) x6 x7 x8)) (normal (centred (before x3 x4 x5 x0 x1 x2))) (scale (centred (before x3 x4 x5 x0 x1 x2))) x6 y := by
  frame_out
  refine (row_grad_cast ..).trans ((row_grad ..).trans ?_)
  rw [cot_eq, miss_eq, normal_eq, scale_eq, centred_eq]

/-- Last point: the running sum for the loss. -/
theorem block11_C (c : Dev nD) (i : grid0.Coords) (arg1 : Memref sig .tc .vmem S512x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S8x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S8x1024 .f32) (harg15 : arg15.IsWhole) (hc0 : ¬cond0_0 i) (hc1 : cond0_1 i) (hc2 : cond0_2 i) (x0 : Vec Ideal S512x1024 .bf16) (x1 : Vec Ideal S1024x1024 .bf16) (x2 : Vec Ideal S1x1024 .f32) (x3 : Vec Ideal S512x1024 .f32) (x4 : Vec Ideal S1x1024 .f32) (x5 : Vec Ideal S1x1024 .f32) (x6 : Vec Ideal S1x1024 .f32) (x7 : Vec Ideal S1x1024 .f32) (x8 : Vec Ideal S512x1024 .f32) (xo11 : Vec Ideal S8x1024 .f32) (xo12 : Vec Ideal S8x1024 .f32) (xo13 : Vec Ideal S8x1024 .f32) (xo14 : Vec Ideal S8x1024 .f32) (y : S8x1024.Idx) :
    out0_C_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo11 xo12 xo13 xo14 y = scaled (fun z => xo11 z + fold8 (fun i => (miss (normal (centred (before x3 x4 x5 x0 x1 x2))) x6 x7 x8) i * (miss (normal (centred (before x3 x4 x5 x0 x1 x2))) x6 x7 x8) i) z) := by
  frame_out
  refine (total7 ..).trans (congrArg (fun t => scaled t) (funext fun z => ?_))
  refine (loss_share ..).trans ?_
  rw [miss_eq, normal_eq, centred_eq]

/-- Last point: the running sum for the gain. -/
theorem block12_C (c : Dev nD) (i : grid0.Coords) (arg1 : Memref sig .tc .vmem S512x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S8x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S8x1024 .f32) (harg15 : arg15.IsWhole) (hc0 : ¬cond0_0 i) (hc1 : cond0_1 i) (hc2 : cond0_2 i) (x0 : Vec Ideal S512x1024 .bf16) (x1 : Vec Ideal S1024x1024 .bf16) (x2 : Vec Ideal S1x1024 .f32) (x3 : Vec Ideal S512x1024 .f32) (x4 : Vec Ideal S1x1024 .f32) (x5 : Vec Ideal S1x1024 .f32) (x6 : Vec Ideal S1x1024 .f32) (x7 : Vec Ideal S1x1024 .f32) (x8 : Vec Ideal S512x1024 .f32) (xo11 : Vec Ideal S8x1024 .f32) (xo12 : Vec Ideal S8x1024 .f32) (xo13 : Vec Ideal S8x1024 .f32) (xo14 : Vec Ideal S8x1024 .f32) (y : S8x1024.Idx) :
    out0_C_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo11 xo12 xo13 xo14 y = total (fun z => xo12 z + fold8 (fun i => (cot (miss (normal (centred (before x3 x4 x5 x0 x1 x2))) x6 x7 x8)) i * (normal (centred (before x3 x4 x5 x0 x1 x2))) i) z) y := by
  frame_out
  refine (total4 ..).trans (congrArg (fun t => total t y) (funext fun z => ?_))
  refine (gain_share ..).trans ?_
  rw [cot_eq, miss_eq, normal_eq, centred_eq]

/-- Last point: the running sum for the bias. -/
theorem block13_C (c : Dev nD) (i : grid0.Coords) (arg1 : Memref sig .tc .vmem S512x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S8x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S8x1024 .f32) (harg15 : arg15.IsWhole) (hc0 : ¬cond0_0 i) (hc1 : cond0_1 i) (hc2 : cond0_2 i) (x0 : Vec Ideal S512x1024 .bf16) (x1 : Vec Ideal S1024x1024 .bf16) (x2 : Vec Ideal S1x1024 .f32) (x3 : Vec Ideal S512x1024 .f32) (x4 : Vec Ideal S1x1024 .f32) (x5 : Vec Ideal S1x1024 .f32) (x6 : Vec Ideal S1x1024 .f32) (x7 : Vec Ideal S1x1024 .f32) (x8 : Vec Ideal S512x1024 .f32) (xo11 : Vec Ideal S8x1024 .f32) (xo12 : Vec Ideal S8x1024 .f32) (xo13 : Vec Ideal S8x1024 .f32) (xo14 : Vec Ideal S8x1024 .f32) (y : S8x1024.Idx) :
    out0_C_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo11 xo12 xo13 xo14 y = total (fun z => xo13 z + fold8 (cot (miss (normal (centred (before x3 x4 x5 x0 x1 x2))) x6 x7 x8)) z) y := by
  frame_out
  refine (total5 ..).trans (congrArg (fun t => total t y) (funext fun z => ?_))
  refine (bias_share ..).trans ?_
  rw [cot_eq, miss_eq, normal_eq, centred_eq]

/-- Last point: the running sum of the gradient rows. -/
theorem block14_C (c : Dev nD) (i : grid0.Coords) (arg1 : Memref sig .tc .vmem S512x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S8x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S8x1024 .f32) (harg15 : arg15.IsWhole) (hc0 : ¬cond0_0 i) (hc1 : cond0_1 i) (hc2 : cond0_2 i) (x0 : Vec Ideal S512x1024 .bf16) (x1 : Vec Ideal S1024x1024 .bf16) (x2 : Vec Ideal S1x1024 .f32) (x3 : Vec Ideal S512x1024 .f32) (x4 : Vec Ideal S1x1024 .f32) (x5 : Vec Ideal S1x1024 .f32) (x6 : Vec Ideal S1x1024 .f32) (x7 : Vec Ideal S1x1024 .f32) (x8 : Vec Ideal S512x1024 .f32) (xo11 : Vec Ideal S8x1024 .f32) (xo12 : Vec Ideal S8x1024 .f32) (xo13 : Vec Ideal S8x1024 .f32) (xo14 : Vec Ideal S8x1024 .f32) (y : S8x1024.Idx) :
    out0_C_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo11 xo12 xo13 xo14 y = total (fun z => xo14 z + fold8 (rowGrad (cot (miss (normal (centred (before x3 x4 x5 x0 x1 x2))) x6 x7 x8)) (normal (centred (before x3 x4 x5 x0 x1 x2))) (scale (centred (before x3 x4 x5 x0 x1 x2))) x6) z) y := by
  frame_out
  refine (total6 ..).trans (congrArg (fun t => total t y) (funext fun z => ?_))
  refine (row_share ..).trans ?_
  refine congrArg (fun a : Vec Ideal S512x1024 .f32 => xo14 z + fold8 a z) (funext fun i => (row_grad ..).trans ?_)
  rw [cot_eq, miss_eq, normal_eq, scale_eq, centred_eq]

end Cert.LossGradIdeal.Sum

end
-- ==== Proof.Lg.Blocks.lean ====
/- Each point's blocks are the rows `512 t` to `512 t + 511` of the whole arrays. -/
module

public import proofs.«01_k».proof.Proof.Lg.Values

@[expose] public section

set_option maxRecDepth 16384

noncomputable section

namespace Cert.LossGradIdeal.Sum

open Cert.LossGradIdeal.Gen
open Idealize.ShloMosaic Idealize.ShloMosaic.TcCoe

/-- Point `t` reads and writes row block `t`; the weight, the vectors and the four sums stay at the only block. -/
theorem rowBlock : ∀ t : Fin cfg0.N, (win0_0.index t 0 = t.val ∧ win0_0.index t 1 = 0 ∧ win0_1.index t 0 = 0 ∧ win0_1.index t 1 = 0)
    ∧ (win0_2.index t 0 = 0 ∧ win0_2.index t 1 = 0 ∧ win0_3.index t 0 = t.val ∧ win0_3.index t 1 = 0)
    ∧ (win0_4.index t 0 = 0 ∧ win0_4.index t 1 = 0 ∧ win0_5.index t 0 = 0 ∧ win0_5.index t 1 = 0)
    ∧ (win0_6.index t 0 = 0 ∧ win0_6.index t 1 = 0 ∧ win0_7.index t 0 = 0 ∧ win0_7.index t 1 = 0)
    ∧ (win0_8.index t 0 = t.val ∧ win0_8.index t 1 = 0 ∧ win0_9.index t 0 = t.val ∧ win0_9.index t 1 = 0)
    ∧ (win0_10.index t 0 = t.val ∧ win0_10.index t 1 = 0 ∧ win0_11.index t 0 = 0 ∧ win0_11.index t 1 = 0)
    ∧ (win0_12.index t 0 = 0 ∧ win0_12.index t 1 = 0 ∧ win0_13.index t 0 = 0 ∧ win0_13.index t 1 = 0)
    ∧ (win0_14.index t 0 = 0 ∧ win0_14.index t 1 = 0) := by
  decide +kernel

variable (m : (ℓ : Loc nD τ sig) → Buf (Elt Ideal) ℓ)

/-- Row `r` of block `t`. -/
def rowOf (t : Fin cfg0.N) (r : Fin 512) : Fin 16384 := ⟨t.val * 512 + r.val, by have h := lt_of_lt_of_eq t.isLt N_0; have := r.isLt; omega⟩

theorem weight0 (c : Dev nD) : V (F := Ideal) m c main_v0 = m ((c : Thread nD τ).loc main_arg1) := by
  unfold V
  after_results
  rfl

theorem in0_eq (c : Dev nD) (t : Fin cfg0.N) (y : S512x1024.Idx) :
    (iblk m c 0 t : Vec Ideal S512x1024 .bf16) y = (m ((c : Thread nD τ).loc main_arg0) : Vec Ideal S16384x1024 .bf16) (ix2 (rowOf t (y 0)) (y 1)) := by
  obtain ⟨⟨h0, h1, -, -⟩, -⟩ := rowBlock t
  blk_ext! [iblk, V, rowOf, h0, h1]

theorem in1_eq (c : Dev nD) (t : Fin cfg0.N) (y : S1024x1024.Idx) :
    (iblk m c 1 t : Vec Ideal S1024x1024 .bf16) y = (m ((c : Thread nD τ).loc main_arg1) : Vec Ideal S1024x1024 .f32) y := by
  obtain ⟨⟨-, -, h0, h1⟩, -⟩ := rowBlock t
  refine Eq.trans ?_ (congrFun (weight0 m c) y)
  blk_ext! [iblk, h0, h1]

theorem in2_eq (c : Dev nD) (t : Fin cfg0.N) (y : S1x1024.Idx) :
    (iblk m c 2 t : Vec Ideal S1x1024 .f32) y = (m ((c : Thread nD τ).loc main_arg2) : Vec Ideal S1x1024 .f32) y := by
  obtain ⟨-, ⟨h0, h1, -, -⟩, -⟩ := rowBlock t
  blk_ext! [iblk, V, h0, h1]

theorem in3_eq (c : Dev nD) (t : Fin cfg0.N) (y : S512x1024.Idx) :
    (iblk m c 3 t : Vec Ideal S512x1024 .f32) y = (m ((c : Thread nD τ).loc main_arg3) : Vec Ideal S16384x1024 .f32) (ix2 (rowOf t (y 0)) (y 1)) := by
  obtain ⟨-, ⟨-, -, h0, h1⟩, -⟩ := rowBlock t
  blk_ext! [iblk, V, rowOf, h0, h1]

theorem in4_eq (c : Dev nD) (t : Fin cfg0.N) (y : S1x1024.Idx) :
    (iblk m c 4 t : Vec Ideal S1x1024 .f32) y = (m ((c : Thread nD τ).loc main_arg4) : Vec Ideal S1x1024 .f32) y := by
  obtain ⟨-, -, ⟨h0, h1, -, -⟩, -⟩ := rowBlock t
  blk_ext! [iblk, V, h0, h1]

theorem in5_eq (c : Dev nD) (t : Fin cfg0.N) (y : S1x1024.Idx) :
    (iblk m c 5 t : Vec Ideal S1x1024 .f32) y = (m ((c : Thread nD τ).loc main_arg5) : Vec Ideal S1x1024 .f32) y := by
  obtain ⟨-, -, ⟨-, -, h0, h1⟩, -⟩ := rowBlock t
  blk_ext! [iblk, V, h0, h1]

theorem in6_eq (c : Dev nD) (t : Fin cfg0.N) (y : S1x1024.Idx) :
    (iblk m c 6 t : Vec Ideal S1x1024 .f32) y = (m ((c : Thread nD τ).loc main_arg6) : Vec Ideal S1x1024 .f32) y := by
  obtain ⟨-, -, -, ⟨h0, h1, -, -⟩, -⟩ := rowBlock t
  blk_ext! [iblk, V, h0, h1]

theorem in7_eq (c : Dev nD) (t : Fin cfg0.N) (y : S1x1024.Idx) :
    (iblk m c 7 t : Vec Ideal S1x1024 .f32) y = (m ((c : Thread nD τ).loc main_arg7) : Vec Ideal S1x1024 .f32) y := by
  obtain ⟨-, -, -, ⟨-, -, h0, h1⟩, -⟩ := rowBlock t
  blk_ext! [iblk, V, h0, h1]

theorem in8_eq (c : Dev nD) (t : Fin cfg0.N) (y : S512x1024.Idx) :
    (iblk m c 8 t : Vec Ideal S512x1024 .f32) y = (m ((c : Thread nD τ).loc main_arg8) : Vec Ideal S16384x1024 .f32) (ix2 (rowOf t (y 0)) (y 1)) := by
  obtain ⟨-, -, -, -, ⟨h0, h1, -, -⟩, -⟩ := rowBlock t
  blk_ext! [iblk, V, rowOf, h0, h1]

/-- The centred rows, whole. -/
def hidden (c : Dev nD) : Vec Ideal S16384x1024 .f32 := centred (n := 16384) (before (n := 16384) (m ((c : Thread nD τ).loc main_arg3)) (m ((c : Thread nD τ).loc main_arg4)) (m ((c : Thread nD τ).loc main_arg5)) (m ((c : Thread nD τ).loc main_arg0)) (m ((c : Thread nD τ).loc main_arg1)) (m ((c : Thread nD τ).loc main_arg2)))

/-- The centred rows of block `t`. -/
def blockHid (c : Dev nD) (t : Fin cfg0.N) : Vec Ideal S512x1024 .f32 := centred (n := 512) (before (n := 512) (iblk m c 3 t) (iblk m c 4 t) (iblk m c 5 t) (iblk m c 0 t) (iblk m c 1 t) (iblk m c 2 t))

theorem blockHid_eq (c : Dev nD) (t : Fin cfg0.N) (y : S512x1024.Idx) : blockHid m c t y = hidden m c (ix2 (rowOf t (y 0)) (y 1)) := by
  unfold blockHid hidden centred before
  simp only [in0_eq, in1_eq, in2_eq, in3_eq, in4_eq, in5_eq]
  try rfl

/-- The normalised rows, whole. -/
def normals (c : Dev nD) : Vec Ideal S16384x1024 .f32 := normal (n := 16384) (hidden m c)

/-- The normalised rows of block `t`. -/
def blockNrm (c : Dev nD) (t : Fin cfg0.N) : Vec Ideal S512x1024 .f32 := normal (n := 512) (blockHid m c t)

theorem blockNrm_eq (c : Dev nD) (t : Fin cfg0.N) (y : S512x1024.Idx) : blockNrm m c t y = normals m c (ix2 (rowOf t (y 0)) (y 1)) := by
  unfold blockNrm normals normal scale
  simp only [blockHid_eq]
  try rfl

/-- The output less the target, whole. -/
def misses (c : Dev nD) : Vec Ideal S16384x1024 .f32 := miss (n := 16384) (normals m c) (m ((c : Thread nD τ).loc main_arg6)) (m ((c : Thread nD τ).loc main_arg7)) (m ((c : Thread nD τ).loc main_arg8))

/-- The output less the target of block `t`. -/
def blockMiss (c : Dev nD) (t : Fin cfg0.N) : Vec Ideal S512x1024 .f32 := miss (n := 512) (blockNrm m c t) (iblk m c 6 t) (iblk m c 7 t) (iblk m c 8 t)

theorem blockMiss_eq (c : Dev nD) (t : Fin cfg0.N) (y : S512x1024.Idx) : blockMiss m c t y = misses m c (ix2 (rowOf t (y 0)) (y 1)) := by
  unfold blockMiss misses miss
  simp only [in6_eq, in7_eq, in8_eq, blockNrm_eq]
  try rfl

/-- The cotangent of the output, whole. -/
def cots (c : Dev nD) : Vec Ideal S16384x1024 .f32 := cot (n := 16384) (misses m c)

/-- The cotangent of the output of block `t`. -/
def blockCot (c : Dev nD) (t : Fin cfg0.N) : Vec Ideal S512x1024 .f32 := cot (n := 512) (blockMiss m c t)

theorem blockCot_eq (c : Dev nD) (t : Fin cfg0.N) (y : S512x1024.Idx) : blockCot m c t y = cots m c (ix2 (rowOf t (y 0)) (y 1)) := by
  unfold blockCot cots cot
  simp only [blockMiss_eq]
  try rfl

/-- The gradient of the rows before the layer norm, whole. -/
def gradient (c : Dev nD) : Vec Ideal S16384x1024 .f32 := rowGrad (n := 16384) (cots m c) (normals m c) (scale (n := 16384) (hidden m c)) (m ((c : Thread nD τ).loc main_arg6))

/-- The gradient of the rows before the layer norm of block `t`. -/
def blockGrad (c : Dev nD) (t : Fin cfg0.N) : Vec Ideal S512x1024 .f32 := rowGrad (n := 512) (blockCot m c t) (blockNrm m c t) (scale (n := 512) (blockHid m c t)) (iblk m c 6 t)

theorem blockGrad_eq (c : Dev nD) (t : Fin cfg0.N) (y : S512x1024.Idx) : blockGrad m c t y = gradient m c (ix2 (rowOf t (y 0)) (y 1)) := by
  unfold blockGrad gradient scale rowGrad
  simp only [in6_eq, blockHid_eq, blockNrm_eq, blockCot_eq]
  try rfl

/-- The gradient rows a point writes, in f32 and in bf16. -/
theorem rows (c : Dev nD) (t : Fin cfg0.N) (y : S512x1024.Idx) :
    (outsAt0 m c t.val t.isLt).1 y = blockGrad m c t y ∧ (outsAt0 m c t.val t.isLt).2.1 y = blockGrad m c t y := by
  have hN := lt_of_lt_of_eq t.isLt N_0
  by_cases h0 : t.val % 32 = 0
  · rw [outsAt0_A m c t h0 (by omega) (by omega)]
    dsimp only
    rw [block9_A, block10_A]
    exact ⟨rfl, rfl⟩
  · by_cases h2 : t.val % 32 = 31
    · rw [outsAt0_C m c t h0 h2 h2]
      dsimp only
      rw [block9_C, block10_C]
      exact ⟨rfl, rfl⟩
    · rw [outsAt0_B m c t h0 h2 h2]
      dsimp only
      rw [block9_B, block10_B]
      exact ⟨rfl, rfl⟩

end Cert.LossGradIdeal.Sum

end
-- ==== Proof.Lg.Sums.lean ====
/- The four running sums: after the last point each holds the total over all 16384 rows. -/
module

public import proofs.«01_k».proof.Proof.Lg.Blocks
public import Idealize.ShloMosaic.Lib.Pipeline.Value

@[expose] public section

set_option maxRecDepth 16384

noncomputable section

namespace Cert.LossGradIdeal.Sum

open Cert.LossGradIdeal.Gen
open Idealize.ShloMosaic Idealize.ShloMosaic.TcCoe

/-- A sum that grows by one block's eight partial sums a point: what the last point finds and adds. -/
theorem whole (g : (n : ℕ) → n < cfg0.N → Vec Ideal S8x1024 .f32) (f : Fin cfg0.N → Vec Ideal S512x1024 .f32)
    (hz : ∀ (h : 0 < cfg0.N) y, g 0 h y = fold8 (f ⟨0, h⟩) y)
    (hs : ∀ (n : ℕ) (h : n + 1 < cfg0.N) y, n + 1 < 31 → g (n + 1) h y = g n (Nat.lt_of_succ_lt h) y + fold8 (f ⟨n + 1, h⟩) y)
    (h : 31 < cfg0.N) (z : S8x1024.Idx) : g 30 (Nat.lt_of_succ_lt h) z + fold8 (f ⟨31, h⟩) z
      = ∑ s : Fin 32, fold8 (f ⟨s.val, lt_of_lt_of_eq s.isLt N_0.symm⟩) z := by
  have part : ∀ (n : ℕ) (hn : n < cfg0.N) (z : S8x1024.Idx), n < 31 →
      g n hn z = ∑ s : Fin (n + 1), fold8 (f ⟨s.val, Nat.lt_of_le_of_lt (Nat.lt_succ_iff.mp s.isLt) hn⟩) z := by
    intro n
    induction n with
    | zero =>
      intro hn z _
      rw [hz hn z]
      exact (Fin.sum_univ_one (fun s : Fin (0 + 1) => fold8 (f ⟨s.val, Nat.lt_of_le_of_lt (Nat.lt_succ_iff.mp s.isLt) hn⟩) z)).symm
    | succ n ih =>
      intro hn z h31
      rw [hs n hn z h31, ih (Nat.lt_of_succ_lt hn) z (by omega)]
      exact (Fin.sum_univ_castSucc (fun s : Fin (n + 1 + 1) => fold8 (f ⟨s.val, Nat.lt_of_le_of_lt (Nat.lt_succ_iff.mp s.isLt) hn⟩) z)).symm
  rw [part 30 (Nat.lt_of_succ_lt h) z (by decide)]
  exact (Fin.sum_univ_castSucc (fun s : Fin (31 + 1) => fold8 (f ⟨s.val, lt_of_lt_of_eq s.isLt N_0.symm⟩) z)).symm

/-- The eight partial sums of all blocks together are the sum over all rows. -/
theorem allRows (f : Fin cfg0.N → Vec Ideal S512x1024 .f32) (A : Vec Ideal S16384x1024 .f32)
    (hA : ∀ t (y : S512x1024.Idx), f t y = A (ix2 (rowOf t (y 0)) (y 1))) (l : Fin 1024) :
    (∑ q : Fin 8, ∑ s : Fin 32, fold8 (f ⟨s.val, lt_of_lt_of_eq s.isLt N_0.symm⟩) (ix2 q l)) = ∑ r : Fin 16384, A (ix2 r l) := by
  rw [Finset.sum_comm]
  have inner : ∀ s : Fin 32, (∑ q : Fin 8, fold8 (f ⟨s.val, lt_of_lt_of_eq s.isLt N_0.symm⟩) (ix2 q l))
      = ∑ r : Fin 512, A (ix2 (rowOf ⟨s.val, lt_of_lt_of_eq s.isLt N_0.symm⟩ r) l) := by
    intro s
    unfold fold8
    rw [Finset.sum_comm]
    refine (Fin.sum_mul_add_congr fun q r hl => ?_)
    rw [hA]
    refine congrArg A ?_
    blk_ext [rowOf]
  simp only [inner]
  exact Fin.sum_mul_add_congr fun s r hl => congrArg A (by blk_ext [rowOf])

/-- A running sum whose eight rows are added after the last point. -/
theorem running (g : (n : ℕ) → n < cfg0.N → Vec Ideal S8x1024 .f32) (f : Fin cfg0.N → Vec Ideal S512x1024 .f32) (A : Vec Ideal S16384x1024 .f32)
    (hA : ∀ t (y : S512x1024.Idx), f t y = A (ix2 (rowOf t (y 0)) (y 1)))
    (hz : ∀ (h : 0 < cfg0.N) y, g 0 h y = fold8 (f ⟨0, h⟩) y)
    (hs : ∀ (n : ℕ) (h : n + 1 < cfg0.N) y, n + 1 < 31 → g (n + 1) h y = g n (Nat.lt_of_succ_lt h) y + fold8 (f ⟨n + 1, h⟩) y)
    (hl : ∀ (n : ℕ) (h : n + 1 < cfg0.N) y, n + 1 = 31 → g (n + 1) h y = total (fun z => g n (Nat.lt_of_succ_lt h) z + fold8 (f ⟨n + 1, h⟩) z) y)
    (n : ℕ) (h : n < cfg0.N) (h31 : n = 31) (y : S8x1024.Idx) : g n h y = ∑ l : Fin 16384, A (ix2 l (y 1)) := by
  subst h31
  rw [hl 30 h y rfl]
  unfold total
  simp only [whole g f hz hs h]
  exact allRows f A hA (y 1)

/-- A running sum all of whose entries are added and scaled after the last point. -/
theorem runningAll (g : (n : ℕ) → n < cfg0.N → Vec Ideal S8x1024 .f32) (f : Fin cfg0.N → Vec Ideal S512x1024 .f32) (A : Vec Ideal S16384x1024 .f32)
    (hA : ∀ t (y : S512x1024.Idx), f t y = A (ix2 (rowOf t (y 0)) (y 1)))
    (hz : ∀ (h : 0 < cfg0.N) y, g 0 h y = fold8 (f ⟨0, h⟩) y)
    (hs : ∀ (n : ℕ) (h : n + 1 < cfg0.N) y, n + 1 < 31 → g (n + 1) h y = g n (Nat.lt_of_succ_lt h) y + fold8 (f ⟨n + 1, h⟩) y)
    (hl : ∀ (n : ℕ) (h : n + 1 < cfg0.N) y, n + 1 = 31 → g (n + 1) h y = scaled (fun z => g n (Nat.lt_of_succ_lt h) z + fold8 (f ⟨n + 1, h⟩) z))
    (n : ℕ) (h : n < cfg0.N) (h31 : n = 31) (y : S8x1024.Idx) :
    g n h y = Ideal.ofBits .f32 0x3A000000#32 * ∑ r : Fin 16384, ∑ l : Fin 1024, A (ix2 r l) := by
  subst h31
  rw [hl 30 h y rfl]
  unfold scaled
  simp only [whole g f hz hs h]
  refine congrArg₂ (· * ·) rfl ?_
  rw [Finset.sum_comm, Finset.sum_comm (s := (Finset.univ : Finset (Fin 16384)))]
  exact Finset.sum_congr rfl fun l _ => allRows f A hA l

variable (m : (ℓ : Loc nD τ sig) → Buf (Elt Ideal) ℓ)

/-- What one point adds. -/
def lossShare (c : Dev nD) (t : Fin cfg0.N) : Vec Ideal S512x1024 .f32 := fun i => blockMiss m c t i * blockMiss m c t i

/-- The same over all rows. -/
def lossRows (c : Dev nD) : Vec Ideal S16384x1024 .f32 := fun i => misses m c i * misses m c i

theorem loss_rows (c : Dev nD) (t : Fin cfg0.N) (y : S512x1024.Idx) : lossShare m c t y = lossRows m c (ix2 (rowOf t (y 0)) (y 1)) := by
  unfold lossShare lossRows
  rw [blockMiss_eq]

theorem loss_total (c : Dev nD) (n : ℕ) (h : n < cfg0.N) (h31 : n = 31) (y : S8x1024.Idx) :
    (outsAt0 m c n h).2.2.1 y = Ideal.ofBits .f32 0x3A000000#32 * ∑ r : Fin 16384, ∑ l : Fin 1024, lossRows m c (ix2 r l) := by
  refine runningAll (fun n hn => (outsAt0 m c n hn).2.2.1) (lossShare m c) (lossRows m c) (loss_rows m c) ?_ ?_ ?_ n h h31 y
  · intro hn y
    beta_reduce
    rw [outsAt0_A m c ⟨0, hn⟩ (Nat.zero_mod _) (by show ¬0 % 32 = 31; decide) (by show ¬0 % 32 = 31; decide)]
    dsimp only
    rw [block11_A, zero_add]
    rfl
  · intro n hn y h31
    beta_reduce
    rw [outsAt0_B m c ⟨n + 1, hn⟩ (by show ¬(n + 1) % 32 = 0; omega) (by show ¬(n + 1) % 32 = 31; omega) (by show ¬(n + 1) % 32 = 31; omega)]
    dsimp only
    rw [block11_B]
    rfl
  · intro n hn y h31
    beta_reduce
    rw [outsAt0_C m c ⟨n + 1, hn⟩ (by show ¬(n + 1) % 32 = 0; omega) (by show (n + 1) % 32 = 31; omega) (by show (n + 1) % 32 = 31; omega)]
    dsimp only
    rw [block11_C]
    rfl

/-- What one point adds. -/
def gainShare (c : Dev nD) (t : Fin cfg0.N) : Vec Ideal S512x1024 .f32 := fun i => blockCot m c t i * blockNrm m c t i

/-- The same over all rows. -/
def gainRows (c : Dev nD) : Vec Ideal S16384x1024 .f32 := fun i => cots m c i * normals m c i

theorem gain_rows (c : Dev nD) (t : Fin cfg0.N) (y : S512x1024.Idx) : gainShare m c t y = gainRows m c (ix2 (rowOf t (y 0)) (y 1)) := by
  unfold gainShare gainRows
  rw [blockCot_eq, blockNrm_eq]

theorem gain_total (c : Dev nD) (n : ℕ) (h : n < cfg0.N) (h31 : n = 31) (y : S8x1024.Idx) :
    (outsAt0 m c n h).2.2.2.1 y = ∑ l : Fin 16384, gainRows m c (ix2 l (y 1)) := by
  refine running (fun n hn => (outsAt0 m c n hn).2.2.2.1) (gainShare m c) (gainRows m c) (gain_rows m c) ?_ ?_ ?_ n h h31 y
  · intro hn y
    beta_reduce
    rw [outsAt0_A m c ⟨0, hn⟩ (Nat.zero_mod _) (by show ¬0 % 32 = 31; decide) (by show ¬0 % 32 = 31; decide)]
    dsimp only
    rw [block12_A, zero_add]
    rfl
  · intro n hn y h31
    beta_reduce
    rw [outsAt0_B m c ⟨n + 1, hn⟩ (by show ¬(n + 1) % 32 = 0; omega) (by show ¬(n + 1) % 32 = 31; omega) (by show ¬(n + 1) % 32 = 31; omega)]
    dsimp only
    rw [block12_B]
    rfl
  · intro n hn y h31
    beta_reduce
    rw [outsAt0_C m c ⟨n + 1, hn⟩ (by show ¬(n + 1) % 32 = 0; omega) (by show (n + 1) % 32 = 31; omega) (by show (n + 1) % 32 = 31; omega)]
    dsimp only
    rw [block12_C]
    rfl

/-- What one point adds. -/
def biasShare (c : Dev nD) (t : Fin cfg0.N) : Vec Ideal S512x1024 .f32 := blockCot m c t

/-- The same over all rows. -/
def biasRows (c : Dev nD) : Vec Ideal S16384x1024 .f32 := cots m c

theorem bias_rows (c : Dev nD) (t : Fin cfg0.N) (y : S512x1024.Idx) : biasShare m c t y = biasRows m c (ix2 (rowOf t (y 0)) (y 1)) := by
  unfold biasShare biasRows
  exact blockCot_eq m c t y

theorem bias_total (c : Dev nD) (n : ℕ) (h : n < cfg0.N) (h31 : n = 31) (y : S8x1024.Idx) :
    (outsAt0 m c n h).2.2.2.2.1 y = ∑ l : Fin 16384, biasRows m c (ix2 l (y 1)) := by
  refine running (fun n hn => (outsAt0 m c n hn).2.2.2.2.1) (biasShare m c) (biasRows m c) (bias_rows m c) ?_ ?_ ?_ n h h31 y
  · intro hn y
    beta_reduce
    rw [outsAt0_A m c ⟨0, hn⟩ (Nat.zero_mod _) (by show ¬0 % 32 = 31; decide) (by show ¬0 % 32 = 31; decide)]
    dsimp only
    rw [block13_A, zero_add]
    rfl
  · intro n hn y h31
    beta_reduce
    rw [outsAt0_B m c ⟨n + 1, hn⟩ (by show ¬(n + 1) % 32 = 0; omega) (by show ¬(n + 1) % 32 = 31; omega) (by show ¬(n + 1) % 32 = 31; omega)]
    dsimp only
    rw [block13_B]
    rfl
  · intro n hn y h31
    beta_reduce
    rw [outsAt0_C m c ⟨n + 1, hn⟩ (by show ¬(n + 1) % 32 = 0; omega) (by show (n + 1) % 32 = 31; omega) (by show (n + 1) % 32 = 31; omega)]
    dsimp only
    rw [block13_C]
    rfl

/-- What one point adds. -/
def rowsumShare (c : Dev nD) (t : Fin cfg0.N) : Vec Ideal S512x1024 .f32 := blockGrad m c t

/-- The same over all rows. -/
def rowsumRows (c : Dev nD) : Vec Ideal S16384x1024 .f32 := gradient m c

theorem rowsum_rows (c : Dev nD) (t : Fin cfg0.N) (y : S512x1024.Idx) : rowsumShare m c t y = rowsumRows m c (ix2 (rowOf t (y 0)) (y 1)) := by
  unfold rowsumShare rowsumRows
  exact blockGrad_eq m c t y

theorem rowsum_total (c : Dev nD) (n : ℕ) (h : n < cfg0.N) (h31 : n = 31) (y : S8x1024.Idx) :
    (outsAt0 m c n h).2.2.2.2.2 y = ∑ l : Fin 16384, rowsumRows m c (ix2 l (y 1)) := by
  refine running (fun n hn => (outsAt0 m c n hn).2.2.2.2.2) (rowsumShare m c) (rowsumRows m c) (rowsum_rows m c) ?_ ?_ ?_ n h h31 y
  · intro hn y
    beta_reduce
    rw [outsAt0_A m c ⟨0, hn⟩ (Nat.zero_mod _) (by show ¬0 % 32 = 31; decide) (by show ¬0 % 32 = 31; decide)]
    dsimp only
    rw [block14_A, zero_add]
    rfl
  · intro n hn y h31
    beta_reduce
    rw [outsAt0_B m c ⟨n + 1, hn⟩ (by show ¬(n + 1) % 32 = 0; omega) (by show ¬(n + 1) % 32 = 31; omega) (by show ¬(n + 1) % 32 = 31; omega)]
    dsimp only
    rw [block14_B]
    rfl
  · intro n hn y h31
    beta_reduce
    rw [outsAt0_C m c ⟨n + 1, hn⟩ (by show ¬(n + 1) % 32 = 0; omega) (by show (n + 1) % 32 = 31; omega) (by show (n + 1) % 32 = 31; omega)]
    dsimp only
    rw [block14_C]
    rfl

end Cert.LossGradIdeal.Sum

end
-- ==== Proof.Lg.Array.lean ====
/- The six arrays after the run. -/
module

public import proofs.«01_k».proof.Proof.Lg.Sums

@[expose] public section

set_option maxRecDepth 16384

noncomputable section

namespace Cert.LossGradIdeal.Sum

open Cert.LossGradIdeal.Gen
open Idealize.ShloMosaic Idealize.ShloMosaic.TcCoe

variable (m : (ℓ : Loc nD τ sig) → Buf (Elt Ideal) ℓ)

/-- A total over all rows, written on each of eight rows. -/
def eight (A : Vec Ideal S16384x1024 .f32) : Vec Ideal S8x1024 .f32 := fun y => ∑ l : Fin 16384, A (ix2 l (y 1))

/-- A scaled total over everything, written everywhere. -/
def everywhere (A : Vec Ideal S16384x1024 .f32) : Vec Ideal S8x1024 .f32 :=
  fun _ => Ideal.ofBits .f32 0x3A000000#32 * ∑ r : Fin 16384, ∑ l : Fin 1024, A (ix2 r l)

/-- The gradient rows. -/
theorem array9 (c : Dev nD) : (dats m 0 c).arrAt 9 cfg0.N = (gradient m c : S16384x1024.Idx → EReal) := by
  refine (dats m 0 c).arrAt_eq_of_covers 9 _ (by decide +kernel) fun t hf y => ?_
  blk_simp
  rw [after0_9]
  refine ((rows m c t y).1.trans (blockGrad_eq m c t y)).trans ?_
  refine congrArg (gradient m c) ?_
  obtain ⟨-, -, -, -, ⟨-, -, h0, h1⟩, -⟩ := rowBlock t
  blk_ext [rowOf, h0, h1]

/-- The same rows in bf16. -/
theorem array10 (c : Dev nD) : (dats m 0 c).arrAt 10 cfg0.N = (gradient m c : S16384x1024.Idx → EReal) := by
  refine (dats m 0 c).arrAt_eq_of_covers 10 _ (by decide +kernel) fun t hf y => ?_
  blk_simp
  rw [after0_10]
  refine ((rows m c t y).2.trans (blockGrad_eq m c t y)).trans ?_
  refine congrArg (gradient m c) ?_
  obtain ⟨-, -, -, -, -, ⟨h0, h1, -, -⟩, -⟩ := rowBlock t
  blk_ext [rowOf, h0, h1]

theorem loss_last (c : Dev nD) (t : Fin cfg0.N) (ht : t.val = 31) (y : S8x1024.Idx) :
    (outsAt0 m c t.val t.isLt).2.2.1 y = everywhere (lossRows m c) y := by
  exact loss_total m c t.val t.isLt ht y

theorem array11 (c : Dev nD) : (dats m 0 c).arrAt 11 cfg0.N = everywhere (lossRows m c) := by
  refine (dats m 0 c).arrAt_eq_of_covers 11 _ (by decide +kernel) fun t hf y => ?_
  blk_simp
  rw [after0_11]
  have h := (flush0_11 t).mp hf
  have h' : t.val < 32 := lt_of_lt_of_eq t.isLt N_0
  refine (loss_last m c t (by omega) y).trans (congrArg (everywhere _) ?_)
  obtain ⟨-, -, -, -, -, ⟨-, -, h0, h1⟩, -⟩ := rowBlock t
  blk_ext [h0, h1]

theorem gain_last (c : Dev nD) (t : Fin cfg0.N) (ht : t.val = 31) (y : S8x1024.Idx) :
    (outsAt0 m c t.val t.isLt).2.2.2.1 y = eight (gainRows m c) y := by
  exact gain_total m c t.val t.isLt ht y

theorem array12 (c : Dev nD) : (dats m 0 c).arrAt 12 cfg0.N = eight (gainRows m c) := by
  refine (dats m 0 c).arrAt_eq_of_covers 12 _ (by decide +kernel) fun t hf y => ?_
  blk_simp
  rw [after0_12]
  have h := (flush0_12 t).mp hf
  have h' : t.val < 32 := lt_of_lt_of_eq t.isLt N_0
  refine (gain_last m c t (by omega) y).trans (congrArg (eight _) ?_)
  obtain ⟨-, -, -, -, -, -, ⟨h0, h1, -, -⟩, -⟩ := rowBlock t
  blk_ext [h0, h1]

theorem bias_last (c : Dev nD) (t : Fin cfg0.N) (ht : t.val = 31) (y : S8x1024.Idx) :
    (outsAt0 m c t.val t.isLt).2.2.2.2.1 y = eight (biasRows m c) y := by
  exact bias_total m c t.val t.isLt ht y

theorem array13 (c : Dev nD) : (dats m 0 c).arrAt 13 cfg0.N = eight (biasRows m c) := by
  refine (dats m 0 c).arrAt_eq_of_covers 13 _ (by decide +kernel) fun t hf y => ?_
  blk_simp
  rw [after0_13]
  have h := (flush0_13 t).mp hf
  have h' : t.val < 32 := lt_of_lt_of_eq t.isLt N_0
  refine (bias_last m c t (by omega) y).trans (congrArg (eight _) ?_)
  obtain ⟨-, -, -, -, -, -, ⟨-, -, h0, h1⟩, -⟩ := rowBlock t
  blk_ext [h0, h1]

theorem rowsum_last (c : Dev nD) (t : Fin cfg0.N) (ht : t.val = 31) (y : S8x1024.Idx) :
    (outsAt0 m c t.val t.isLt).2.2.2.2.2 y = eight (rowsumRows m c) y := by
  exact rowsum_total m c t.val t.isLt ht y

theorem array14 (c : Dev nD) : (dats m 0 c).arrAt 14 cfg0.N = eight (rowsumRows m c) := by
  refine (dats m 0 c).arrAt_eq_of_covers 14 _ (by decide +kernel) fun t hf y => ?_
  blk_simp
  rw [after0_14]
  have h := (flush0_14 t).mp hf
  have h' : t.val < 32 := lt_of_lt_of_eq t.isLt N_0
  refine (rowsum_last m c t (by omega) y).trans (congrArg (eight _) ?_)
  obtain ⟨-, -, -, -, -, -, -, ⟨h0, h1⟩⟩ := rowBlock t
  blk_ext [h0, h1]

end Cert.LossGradIdeal.Sum

end
-- ==== Proof.Lg.Reference.lean ====
/- What the reference computes: the same rows, the same loss, the same three sums. -/
module

public import proofs.«01_k».proof.Proof.Lg.Array
public import proofs.«01_k».proof.Proof.Gen.LossGradReferenceIdeal.Read

@[expose] public section

set_option maxRecDepth 16384

noncomputable section

namespace Cert.LossGradIdeal.Sum

open Cert.LossGradIdeal.Gen
open Idealize.ShloMosaic Idealize.ShloMosaic.TcCoe
open Cert.LossGradReferenceIdeal.Read

/-- A sum with the zero it starts from. -/
theorem from_zero (x : EReal) : (FloatOps.ofBits (F := Ideal) .f32 0x00000000#32 : EReal) + x = x :=
  (congrArg (· + x) Ideal.ofBits_zero_f32).trans (zero_add x)

theorem bits_half : Ideal.ofBits .f32 0x3F000000#32 = ((1 / 2 : ℝ) : EReal) := by
  simp [Ideal.ofBits, Ideal.ieee]
  norm_num [← EReal.coe_mul]

theorem bits_one : Ideal.ofBits .f32 0x3F800000#32 = ((1 : ℝ) : EReal) := by
  simp [Ideal.ofBits, Ideal.ieee]
  norm_num [← EReal.coe_mul]

theorem bits_two : Ideal.ofBits .f32 0x40000000#32 = ((2 : ℝ) : EReal) := by
  simp [Ideal.ofBits, Ideal.ieee]
  norm_num [← EReal.coe_mul]

theorem bits_width : Ideal.ofBits .f32 0x44800000#32 = ((1024 : ℝ) : EReal) := by
  simp [Ideal.ofBits, Ideal.ieee]
  norm_num [← EReal.coe_mul]

theorem bits_mean : Ideal.ofBits .f32 0x3A800000#32 = ((1 / 1024 : ℝ) : EReal) := by
  simp [Ideal.ofBits, Ideal.ieee]
  norm_num [← EReal.coe_mul]

theorem bits_half_mean : Ideal.ofBits .f32 0x3A000000#32 = ((1 / 2048 : ℝ) : EReal) := by
  simp [Ideal.ofBits, Ideal.ieee]
  norm_num [← EReal.coe_mul]

/-- Half a mean of squares has the cotangent `e / 1024`. -/
theorem half_square (e : EReal) :
    Ideal.div (Ideal.ofBits .f32 0x3F000000#32 * Ideal.ofBits .f32 0x3F800000#32) (Ideal.ofBits .f32 0x44800000#32) * (Ideal.ofBits .f32 0x40000000#32 * e)
      = e * Ideal.ofBits .f32 0x3A800000#32 := by
  rw [bits_half, bits_one, bits_width, bits_two, bits_mean, Ideal.div_coe (by norm_num), ← mul_assoc, mul_comm _ e]
  refine congrArg (e * ·) ?_
  rw [← EReal.coe_mul, ← EReal.coe_mul, ← EReal.coe_mul]
  norm_num

/-- A nonnegative number goes into a sum. -/
theorem scale_sum {ι : Type} (s : Finset ι) (f : ι → EReal) (k : ℝ) (hk : 0 ≤ k) : (k : EReal) * ∑ i ∈ s, f i = ∑ i ∈ s, (k : EReal) * f i := by
  classical
  induction s using Finset.induction_on with
  | empty => simp
  | insert a s ha ih =>
    rw [Finset.sum_insert ha, Finset.sum_insert ha,
      EReal.left_distrib_of_nonneg_of_ne_top (by exact_mod_cast hk) (EReal.coe_ne_top k), ih]

/-- Half the sum of the means is the sum of everything over 2048. -/
theorem half_total {n : ℕ} (f : Fin n → EReal) :
    Ideal.ofBits .f32 0x3F000000#32 * ∑ r : Fin n, Ideal.div (f r) (Ideal.ofBits .f32 0x44800000#32) = Ideal.ofBits .f32 0x3A000000#32 * ∑ r : Fin n, f r := by
  rw [bits_half, bits_width, bits_half_mean, scale_sum _ _ _ (by norm_num), scale_sum _ _ _ (by norm_num)]
  refine Finset.sum_congr rfl fun r _ => ?_
  rw [Ideal.div_coe (by norm_num), mul_comm (f r), ← mul_assoc, ← EReal.coe_mul]
  refine congrArg (· * f r) ?_
  norm_num

variable (x0 : Vec Ideal S16384x1024 .bf16) (x1 : Vec Ideal S1024x1024 .f32) (x2 : Vec Ideal S1x1024 .f32) (x3 : Vec Ideal S16384x1024 .f32)
  (x4 x5 x6 x7 : Vec Ideal S1x1024 .f32) (x8 : Vec Ideal S16384x1024 .f32)

/-- The rows before the layer norm. -/
theorem before_ref : val_main_v10 (F := Ideal) x0 x1 x2 x3 x4 x5 = before (n := 16384) x3 x4 x5 x0 x1 x2 := by
  funext i
  rw [val_main_v10_apply, val_main_v5_apply, val_main_v4_apply, val_main_cst_apply, val_main_v3_apply, val_main_v1_apply, val_main_v0_apply,
    val_main_v2_apply, val_main_v9_apply, val_main_v8_apply, val_main_v7_apply]
  unfold before
  refine congrArg₂ (· + ·) (congrArg₂ (· * ·) rfl (congrArg₂ (· + ·) (congrArg₂ (· * ·) rfl (congrArg x4 ?_)) (congrArg x5 ?_)))
    (congrArg₂ (· + ·) (Finset.sum_congr rfl fun k _ => congrArg₂ (· * ·) ?_ (congrArg x1 ?_)) (congrArg x2 ?_))
  · blk_ext
  · blk_ext
  · rw [val_main_v6_apply]
    refine congrArg x0 ?_
    blk_ext
  · blk_ext
  · blk_ext

/-- The centred rows. -/
theorem centred_ref : val_main_v16 (F := Ideal) x0 x1 x2 x3 x4 x5 = centred (before (n := 16384) x3 x4 x5 x0 x1 x2) := by
  funext i
  rw [val_main_v16_apply, val_main_v15_apply, val_main_v14_apply, val_main_v13_apply, val_main_cst_1_apply, val_main_v12_apply, val_main_v11_apply,
    val_main_cst_0_apply, from_zero, before_ref]
  unfold centred
  refine congrArg₂ (· - ·) rfl (congrArg₂ Ideal.div (Finset.sum_congr rfl fun l _ => congrArg _ ?_) rfl)
  blk_ext

/-- The inverse deviations. -/
theorem scale_ref : val_main_v24 (F := Ideal) x0 x1 x2 x3 x4 x5 = scale (centred (before (n := 16384) x3 x4 x5 x0 x1 x2)) := by
  funext i
  rw [val_main_v24_apply, val_main_v23_apply, val_main_v22_apply, val_main_cst_4_apply, val_main_v21_apply, val_main_v20_apply, val_main_cst_3_apply,
    val_main_v19_apply, val_main_v18_apply, val_main_cst_2_apply, from_zero]
  simp only [val_main_v17_apply, centred_ref]
  unfold scale
  refine congrArg Ideal.rsqrt (congrArg₂ (· + ·) (congrArg₂ Ideal.div (Finset.sum_congr rfl fun l _ => congrArg₂ (· * ·) (congrArg _ ?_) (congrArg _ ?_)) rfl) rfl) <;>
    blk_ext

/-- The normalised rows. -/
theorem normal_ref : val_main_v26 (F := Ideal) x0 x1 x2 x3 x4 x5 = normal (centred (before (n := 16384) x3 x4 x5 x0 x1 x2)) := by
  funext i
  rw [val_main_v26_apply, val_main_v25_apply, scale_ref, centred_ref]
  unfold normal
  refine congrArg₂ (· * ·) rfl (congrArg _ ?_)
  blk_ext

/-- The output less the target. -/
theorem miss_ref : val_main_v31 (F := Ideal) x0 x1 x2 x3 x4 x5 x6 x7 x8 = miss (normal (centred (before (n := 16384) x3 x4 x5 x0 x1 x2))) x6 x7 x8 := by
  funext i
  rw [val_main_v31_apply, val_main_v30_apply, val_main_v29_apply, val_main_v28_apply, val_main_v27_apply, normal_ref]
  unfold miss
  refine congrArg₂ (· - ·) (congrArg₂ (· + ·) (congrArg₂ (· * ·) rfl (congrArg x6 ?_)) (congrArg x7 ?_)) rfl <;> blk_ext

/-- The cotangent of the output. -/
theorem cot_ref : val_main_v45 (F := Ideal) x0 x1 x2 x3 x4 x5 x6 x7 x8
    = cot (miss (normal (centred (before (n := 16384) x3 x4 x5 x0 x1 x2))) x6 x7 x8) := by
  funext i
  rw [val_main_v45_apply, val_main_v44_apply, val_main_v43_apply, val_main_v42_apply, val_main_cst_12_apply, val_main_v41_apply, val_main_v40_apply,
    val_main_cst_10_apply, val_main_cst_11_apply, val_main_v34_apply, val_main_v33_apply, val_main_cst_5_apply, miss_ref]
  unfold cot
  exact half_square _

/-- The gradient rows. -/
theorem grad_ref : val_main_v68 (F := Ideal) x0 x1 x2 x3 x4 x5 x6 x7 x8
    = rowGrad (cot (miss (normal (centred (before (n := 16384) x3 x4 x5 x0 x1 x2))) x6 x7 x8)) (normal (centred (before (n := 16384) x3 x4 x5 x0 x1 x2)))
      (scale (centred (before (n := 16384) x3 x4 x5 x0 x1 x2))) x6 := by
  funext i
  have gained : ∀ y, val_main_v52 (F := Ideal) x0 x1 x2 x3 x4 x5 x6 x7 x8 y
      = cot (miss (normal (centred (before (n := 16384) x3 x4 x5 x0 x1 x2))) x6 x7 x8) y * x6 (ix2 0 (y 1)) := by
    intro y
    rw [val_main_v52_apply, val_main_v51_apply, cot_ref]
    refine congrArg₂ (· * ·) rfl (congrArg x6 ?_)
    blk_ext
  rw [val_main_v68_apply, val_main_v67_apply, val_main_v66_apply, val_main_v65_apply, val_main_v64_apply, val_main_v63_apply, val_main_v62_apply,
    val_main_cst_18_apply, val_main_v61_apply, val_main_v60_apply, val_main_cst_17_apply, from_zero, val_main_v58_apply, val_main_v57_apply,
    val_main_v56_apply, val_main_v55_apply, val_main_cst_16_apply, val_main_v54_apply, val_main_v53_apply, val_main_cst_15_apply, from_zero]
  simp only [val_main_v59_apply, gained, normal_ref, scale_ref]
  unfold rowGrad
  refine congrArg₂ (· * ·) (congrArg _ ?_) (congrArg₂ (· - ·) (congrArg₂ (· - ·) rfl (congrArg₂ Ideal.div (Finset.sum_congr rfl fun l _ => ?_) rfl))
    (congrArg₂ (· * ·) rfl (congrArg₂ Ideal.div (Finset.sum_congr rfl fun l _ => ?_) rfl)))
  · blk_ext
  · refine congrArg₂ (· * ·) (congrArg _ ?_) (congrArg x6 ?_) <;> blk_ext
  · refine congrArg₂ (· * ·) (congrArg₂ (· * ·) (congrArg _ ?_) (congrArg x6 ?_)) (congrArg _ ?_) <;> blk_ext

/-- The loss, everywhere on the tile. -/
theorem loss_ref : val_main_v70 (F := Ideal) x0 x1 x2 x3 x4 x5 x6 x7 x8
    = everywhere (fun i => miss (normal (centred (before (n := 16384) x3 x4 x5 x0 x1 x2))) x6 x7 x8 i
      * miss (normal (centred (before (n := 16384) x3 x4 x5 x0 x1 x2))) x6 x7 x8 i) := by
  funext i
  rw [val_main_v70_apply, val_main_v39_apply, val_main_cst_9_apply, val_main_v38_apply, val_main_cst_8_apply, from_zero]
  refine Eq.trans (congrArg₂ (· * ·) rfl ((sum_idx1 _).trans (Finset.sum_congr rfl fun r _ => ?_))) (half_total _)
  rw [val_main_v37_apply, val_main_v36_apply, val_main_cst_7_apply, val_main_v35_apply, val_main_cst_6_apply, from_zero]
  refine congrArg₂ Ideal.div (Finset.sum_congr rfl fun l _ => ?_) rfl
  rw [val_main_v32_apply, miss_ref]
  refine congrArg₂ (· * ·) (congrArg _ ?_) (congrArg _ ?_) <;> blk_ext

/-- The gain's gradient on eight rows. -/
theorem gain_ref : val_main_v71 (F := Ideal) x0 x1 x2 x3 x4 x5 x6 x7 x8
    = eight (fun i => cot (miss (normal (centred (before (n := 16384) x3 x4 x5 x0 x1 x2))) x6 x7 x8) i
      * normal (centred (before (n := 16384) x3 x4 x5 x0 x1 x2)) i) := by
  funext i
  rw [val_main_v71_apply, val_main_v50_apply, val_main_v49_apply, val_main_cst_14_apply, from_zero]
  refine Finset.sum_congr rfl fun l _ => ?_
  rw [val_main_v48_apply, normal_ref, cot_ref]
  refine (mul_comm _ _).trans (congrArg₂ (· * ·) (congrArg _ ?_) (congrArg _ ?_)) <;> blk_ext

/-- The bias's gradient on eight rows. -/
theorem bias_ref : val_main_v72 (F := Ideal) x0 x1 x2 x3 x4 x5 x6 x7 x8
    = eight (cot (miss (normal (centred (before (n := 16384) x3 x4 x5 x0 x1 x2))) x6 x7 x8)) := by
  funext i
  rw [val_main_v72_apply, val_main_v47_apply, val_main_v46_apply, val_main_cst_13_apply, from_zero]
  refine Finset.sum_congr rfl fun l _ => ?_
  rw [cot_ref]
  refine congrArg _ ?_
  blk_ext

/-- The sum of the gradient rows on eight rows. -/
theorem rowsum_ref : val_main_v75 (F := Ideal) x0 x1 x2 x3 x4 x5 x6 x7 x8
    = eight (val_main_v68 (F := Ideal) x0 x1 x2 x3 x4 x5 x6 x7 x8) := by
  funext i
  rw [val_main_v75_apply, val_main_v74_apply, val_main_v73_apply, val_main_cst_19_apply, from_zero]
  refine Finset.sum_congr rfl fun l _ => ?_
  refine congrArg _ ?_
  blk_ext

end Cert.LossGradIdeal.Sum

end
-- ==== Proof.Lg.Claims.lean ====
/- The claims about the outer projection, the second layer norm, the loss and their backward. -/
module

public import proofs.«01_k».proof.Defs
public import proofs.«01_k».proof.Proof.Lg.Reference
public import proofs.«01_k».proof.Proof.Gen.LossGrad.Frame
public import proofs.«01_k».proof.Proof.Gen.LossGradIdeal.Value
public import proofs.«01_k».proof.Proof.Gen.LossGradReferenceIdeal.Run
public import Idealize.ShloMosaic.Lib.Quiescent

@[expose] public section

noncomputable section

namespace Cert.LossGradIdeal.Sum

open Idealize.ShloMosaic Idealize.ShloMosaic.TcCoe Idealize.SL.Sem

/-- The kernel's frame. -/
theorem frame_kernel : Cert.quiescent_LossGrad := fun m ρ _ => Cert.LossGrad.Gen.frame m ρ

/-- Its idealization's frame. -/
theorem frame_kernel_ideal : Cert.quiescent_LossGradIdeal := fun m ρ _ => Cert.LossGradIdeal.Gen.frame m ρ

/-- The reference's frame. -/
theorem frame_reference : Cert.quiescent_LossGradReferenceIdeal := fun m ρ _ =>
  (θ_run Cert.LossGradReferenceIdeal.defs _ _).mono (fun r h => ⟨fun c => (h c).2.2.2.2.2.2,
      Idealize.ShloMosaic.sem_eq_zero_of_no_sems (by decide) r.2⟩)
    (Cert.LossGradReferenceIdeal.Value.run (F := Ideal) m ρ)

/-- Nothing was rewritten. -/
theorem preserves : Cert.preserves_LossGrad_LossGradIdeal := trivial

set_option maxHeartbeats 1000000 in
/-- Both programs end with the same gradient rows, the same loss and the same three sums. -/
theorem algebraic : Cert.algebraic_LossGradIdeal_LossGradReferenceIdeal := by
  intro m ρ m' ρ' _ hagree
  refine ⟨_, _, _, _, _, _, Cert.LossGradIdeal.Value.run_blocks (F := Ideal) m ρ, ?_⟩
  refine (θ_run Cert.LossGradReferenceIdeal.defs _ _).mono (fun _ h c => ⟨(h c).1.trans ?_, (h c).2.1.trans ?_, (h c).2.2.1.trans ?_,
      (h c).2.2.2.1.trans ?_, (h c).2.2.2.2.1.trans ?_, (h c).2.2.2.2.2.1.trans ?_, (h c).2.2.2.2.2.2⟩)
    (Cert.LossGradReferenceIdeal.Value.run (F := Ideal) m' ρ')
  · rw [Cert.LossGradReferenceIdeal.Read.val_main_v68_eq]
    obtain ⟨a0, a1, a2, a3, a4, a5, a6, a7, a8⟩ := hagree c
    rw [a0, a1, a2, a3, a4, a5, a6, a7, a8]
    refine ((grad_ref _ _ _ _ _ _ _ _ _).trans (Eq.trans ?_ (array9 m c).symm))
    unfold gradient cots misses normals hidden
    rfl
  · rw [Cert.LossGradReferenceIdeal.Read.val_main_v69_eq]
    obtain ⟨a0, a1, a2, a3, a4, a5, a6, a7, a8⟩ := hagree c
    rw [a0, a1, a2, a3, a4, a5, a6, a7, a8]
    refine ((funext fun i => (Cert.LossGradReferenceIdeal.Read.val_main_v69_apply _ _ _ _ _ _ _ _ _ i).trans
        (congrFun (grad_ref _ _ _ _ _ _ _ _ _) i)).trans (Eq.trans ?_ (array10 m c).symm))
    unfold gradient cots misses normals hidden
    rfl
  · rw [Cert.LossGradReferenceIdeal.Read.val_main_v70_eq]
    obtain ⟨a0, a1, a2, a3, a4, a5, a6, a7, a8⟩ := hagree c
    rw [a0, a1, a2, a3, a4, a5, a6, a7, a8]
    refine ((loss_ref _ _ _ _ _ _ _ _ _).trans (Eq.trans ?_ (array11 m c).symm))
    unfold lossRows misses normals hidden
    rfl
  · rw [Cert.LossGradReferenceIdeal.Read.val_main_v71_eq]
    obtain ⟨a0, a1, a2, a3, a4, a5, a6, a7, a8⟩ := hagree c
    rw [a0, a1, a2, a3, a4, a5, a6, a7, a8]
    refine ((gain_ref _ _ _ _ _ _ _ _ _).trans (Eq.trans ?_ (array12 m c).symm))
    unfold gainRows cots misses normals hidden
    rfl
  · rw [Cert.LossGradReferenceIdeal.Read.val_main_v72_eq]
    obtain ⟨a0, a1, a2, a3, a4, a5, a6, a7, a8⟩ := hagree c
    rw [a0, a1, a2, a3, a4, a5, a6, a7, a8]
    refine ((bias_ref _ _ _ _ _ _ _ _ _).trans (Eq.trans ?_ (array13 m c).symm))
    unfold biasRows cots misses normals hidden
    rfl
  · rw [Cert.LossGradReferenceIdeal.Read.val_main_v75_eq]
    obtain ⟨a0, a1, a2, a3, a4, a5, a6, a7, a8⟩ := hagree c
    rw [a0, a1, a2, a3, a4, a5, a6, a7, a8]
    refine ((rowsum_ref _ _ _ _ _ _ _ _ _).trans (Eq.trans (congrArg eight (grad_ref _ _ _ _ _ _ _ _ _)) (Eq.trans ?_ (array14 m c).symm)))
    unfold rowsumRows gradient cots misses normals hidden
    rfl

end Cert.LossGradIdeal.Sum

end
-- ==== Proof.Gg.Values.lean ====
/- What one grid point of the gate's backward writes. -/
module

public import proofs.«01_k».proof.Proof.Gen.GateGradIdeal.Value
public import Idealize.ShloMosaic.Lib.Pipeline.ValueKit
public import Idealize.ShloMosaic.Lib.Pointwise

@[expose] public section

set_option maxRecDepth 16384

noncomputable section

namespace Cert.GateGradIdeal.Sum

open Cert.GateGradIdeal.Gen
open Idealize.ShloMosaic Idealize.ShloMosaic.TcCoe

/-- Row `r` of the cotangent against row `j` of the weight: the gated value's cotangent. -/
def back {n : ℕ} (a : Vec Ideal (⟨2, ![n, 1024]⟩ : Shape) .f32) (w : Vec Ideal S1024x1024 .f32) (r : Fin n) (j : Fin 1024) : Elt Ideal .f32 :=
  ∑ k : Fin 1024, a (ix2 r k) * w (ix2 j k)

/-- The attention's cotangent: `back` times the gate. -/
def gated {n : ℕ} (a : Vec Ideal (⟨2, ![n, 1024]⟩ : Shape) .f32) (w : Vec Ideal S1024x1024 .f32) (z : Vec Ideal (⟨2, ![n, 1024]⟩ : Shape) .f32)
    (r : Fin n) (j : Fin 1024) : Elt Ideal .f32 :=
  back a w r j * (z (ix2 r j) * Ideal.logistic (z (ix2 r j)))

/-- The gate's cotangent as a grid point writes it. -/
def slope {n : ℕ} (a : Vec Ideal (⟨2, ![n, 1024]⟩ : Shape) .f32) (w : Vec Ideal S1024x1024 .f32) (z o : Vec Ideal (⟨2, ![n, 1024]⟩ : Shape) .f32)
    (r : Fin n) (j : Fin 1024) : Elt Ideal .f32 :=
  back a w r j * o (ix2 r j)
    * (Ideal.logistic (z (ix2 r j)) * (1 + z (ix2 r j) * (1 - Ideal.logistic (z (ix2 r j)))))

/-- The products' sums over the selected columns as a grid point writes them: the rounded products and what rounding left, each selected. -/
def picked {n : ℕ} (a : Vec Ideal (⟨2, ![n, 1024]⟩ : Shape) .f32) (w : Vec Ideal S1024x1024 .f32) (z o : Vec Ideal (⟨2, ![n, 1024]⟩ : Shape) .f32)
    (s : Vec Ideal S1024x128 .f32) (r : Fin n) (l : Fin 128) : Elt Ideal .f32 :=
  (∑ k : Fin 1024, gated a w z r k * o (ix2 r k) * s (ix2 k l))
    + ∑ k : Fin 1024, (gated a w z r k * o (ix2 r k) - gated a w z r k * o (ix2 r k)) * s (ix2 k l)

variable (a : Vec Ideal S512x1024 .bf16) (w : Vec Ideal S1024x1024 .bf16) (z o : Vec Ideal S512x1024 .f32) (s : Vec Ideal S1024x128 .bf16)

/-- The product inside the payloads. -/
theorem pay1 (y : S512x1024.Idx) : k0_pay1 (F := Ideal) a w y = back a w (y 0) (y 1) := by
  unfold back
  open_payloads
  pointwise

/-- The attention's cotangent inside the payloads. -/
theorem pay3 (y : S512x1024.Idx) : k0_pay3 (F := Ideal) a w z y = gated a w z (y 0) (y 1) := by
  unfold k0_pay3 k0_pay2
  pointwise
  rw [pay1]
  unfold gated
  rw [← ix2_eta y]
  rfl

/-- Output 5's block. -/
theorem block5 (y : S512x1024.Idx) : out0_5 (F := Ideal) a w z o s y = gated a w z (y 0) (y 1) := by
  frame_out
  unfold k0_pay4
  pointwise
  exact pay3 a w z y

/-- Output 6's block. -/
theorem block6 (y : S512x1024.Idx) : out0_6 (F := Ideal) a w z o s y = slope a w z o (y 0) (y 1) := by
  frame_out
  unfold k0_pay5 k0_pay2
  pointwise
  rw [pay1]
  unfold slope
  rw [← ix2_eta y]
  rfl

/-- Output 7's block. -/
theorem block7 (y : S512x128.Idx) : out0_7 (F := Ideal) a w z o s y = picked a w z o s (y 0) (y 1) := by
  frame_out
  unfold k0_pay6
  pointwise
  simp only [pay3]
  unfold picked
  blk_point

end Cert.GateGradIdeal.Sum

end
-- ==== Proof.Gg.Array.lean ====
/- The arrays the gate's backward leaves. -/
module

public import proofs.«01_k».proof.Proof.Gg.Values

@[expose] public section

set_option maxRecDepth 16384

noncomputable section

namespace Cert.GateGradIdeal.Sum

open Cert.GateGradIdeal.Gen
open Idealize.ShloMosaic Idealize.ShloMosaic.TcCoe

variable (m : (ℓ : Loc nD τ sig) → Buf (Elt Ideal) ℓ)

/-- Column `l` of the selector has ones at head `l`'s 64 rows. -/
def sel : Vec Ideal S1024x128 .f32 := fun i => if (i 0).val / 64 = (i 1).val then 1 else 0

/-- The head of a row, as the host divides it. -/
theorem head_word : ∀ k : Fin 1024, IntOp.divsi .host (BitVec.ofNat 32 k.val) 64#32 = BitVec.ofNat 32 (k.val / 64) := by
  decide +kernel

/-- The selector's array when the grid starts. -/
theorem entry (c : Dev nD) (i : S1024x128.Idx) : V m c main_v7 i = sel i := by
  have h0 : (i 0).val < 1024 := (i 0).isLt
  have h1 : (i 1).val < 128 := (i 1).isLt
  have e : V m c main_v7 i = Idealize.ShloMosaic.select (cmpi .eq (Host.divsi (iotaInDim S1024x128 32 0) (broadcastInDim S1024x128 ![] bcast_S_S1024x128 (constantI S_ 32 64#32)))
      (iotaInDim S1024x128 32 1)) (broadcastInDim S1024x128 ![] bcast_S_S1024x128 (constant (F := Ideal) S_ .f32 0x3F800000#32))
      (broadcastInDim S1024x128 ![] bcast_S_S1024x128 (constant (F := Ideal) S_ .f32 0x00000000#32)) i := by
    unfold V
    after_results
    rfl
  rw [e]
  pointwise
  unfold sel
  rw [head_word ⟨(i 0).val, h0⟩]
  by_cases h : (i 0).val / 64 = (i 1).val
  · rw [if_pos h, h]
    simp [Scalar.select, IntOp.cmpi]
  · rw [if_neg h]
    have hn : BitVec.ofNat 32 ((i 0).val / 64) ≠ BitVec.ofNat 32 (i 1).val := fun q => h (by
      have := congrArg BitVec.toNat q
      simp only [BitVec.toNat_ofNat] at this
      omega)
    simp [Scalar.select, IntOp.cmpi, beq_eq_false_iff_ne.2 hn]

/-- Point `t` reads and writes row block `t`; output 6 is written in its last quarter of the columns. -/
theorem rowBlock : ∀ t : Fin cfg0.N, win0_0.index t 0 = t.val ∧ win0_0.index t 1 = 0
    ∧ win0_1.index t 0 = 0 ∧ win0_1.index t 1 = 0 ∧ win0_2.index t 0 = t.val ∧ win0_2.index t 1 = 0
    ∧ win0_3.index t 0 = t.val ∧ win0_3.index t 1 = 0 ∧ win0_4.index t 0 = 0 ∧ win0_4.index t 1 = 0
    ∧ win0_5.index t 0 = t.val ∧ win0_5.index t 1 = 0 ∧ win0_6.index t 0 = t.val ∧ win0_6.index t 1 = 3
    ∧ win0_7.index t 0 = t.val ∧ win0_7.index t 1 = 0 := by
  decide +kernel

/-- The arguments. -/
abbrev ga (c : Dev nD) : Vec Ideal S16384x1024 .f32 := m ((c : Thread nD τ).loc main_arg0)
abbrev gw (c : Dev nD) : Vec Ideal S1024x1024 .f32 := m ((c : Thread nD τ).loc main_arg1)
abbrev gz (c : Dev nD) : Vec Ideal S16384x1024 .f32 := m ((c : Thread nD τ).loc main_arg2)
abbrev go (c : Dev nD) : Vec Ideal S16384x1024 .f32 := m ((c : Thread nD τ).loc main_arg3)

/-- A point's block of the product is cut from the whole product. -/
theorem cut_back (c : Dev nD) (t : Fin cfg0.N) (r : Fin 512) (j : Fin 1024) (r' : Fin 16384) (h : r'.val = 512 * t.val + r.val) :
    back (iblk m c 0 t) (iblk m c 1 t) r j = back (ga m c) (gw m c) r' j := by
  unfold back
  refine Finset.sum_congr rfl fun k _ => ?_
  congr 1 <;> blk_ext! [iblk, V, rowBlock t]

/-- The same of the attention's cotangent. -/
theorem cut_gated (c : Dev nD) (t : Fin cfg0.N) (r : Fin 512) (j : Fin 1024) (r' : Fin 16384) (h : r'.val = 512 * t.val + r.val) :
    gated (iblk m c 0 t) (iblk m c 1 t) (iblk m c 2 t) r j = gated (ga m c) (gw m c) (gz m c) r' j := by
  unfold gated
  have e : (iblk m c 2 t) (ix2 r j) = gz m c (ix2 r' j) := by blk_ext! [iblk, V, rowBlock t]
  rw [cut_back m c t r j r' h, e]

/-- The same of the gate's cotangent. -/
theorem cut_slope (c : Dev nD) (t : Fin cfg0.N) (r : Fin 512) (j : Fin 1024) (r' : Fin 16384) (h : r'.val = 512 * t.val + r.val) :
    slope (iblk m c 0 t) (iblk m c 1 t) (iblk m c 2 t) (iblk m c 3 t) r j = slope (ga m c) (gw m c) (gz m c) (go m c) r' j := by
  unfold slope
  have e : (iblk m c 2 t) (ix2 r j) = gz m c (ix2 r' j) := by blk_ext! [iblk, V, rowBlock t]
  have e' : (iblk m c 3 t) (ix2 r j) = go m c (ix2 r' j) := by blk_ext! [iblk, V, rowBlock t]
  rw [cut_back m c t r j r' h, e, e']

/-- The selector's block is the selector. -/
theorem cut_sel (c : Dev nD) (t : Fin cfg0.N) (k : Fin 1024) (l : Fin 128) : (iblk m c 4 t) (ix2 k l) = sel (ix2 k l) := by
  refine Eq.trans ?_ (entry m c (ix2 k l))
  blk_ext! [iblk, rowBlock t]

/-- The same of the selected sums. -/
theorem cut_picked (c : Dev nD) (t : Fin cfg0.N) (r : Fin 512) (l : Fin 128) (r' : Fin 16384) (h : r'.val = 512 * t.val + r.val) :
    picked (iblk m c 0 t) (iblk m c 1 t) (iblk m c 2 t) (iblk m c 3 t) (iblk m c 4 t) r l = picked (ga m c) (gw m c) (gz m c) (go m c) sel r' l := by
  unfold picked
  have e (k : Fin 1024) : (iblk m c 3 t) (ix2 r k) = go m c (ix2 r' k) := by blk_ext! [iblk, V, rowBlock t]
  simp only [cut_gated m c t r _ r' h, e, cut_sel m c t]

/-- Array 5 after the run. -/
theorem array5 (c : Dev nD) : (dats m 0 c).arrAt 5 cfg0.N = fun i : S16384x1024.Idx => gated (ga m c) (gw m c) (gz m c) (i 0) (i 1) := by
  refine (dats m 0 c).arrAt_eq_of_covers 5 _ (by decide +kernel) fun t hf y => ?_
  blk_simp
  rw [after0_5]
  refine (block5 ..).trans ?_
  refine (cut_gated m c t _ _ _ ?_).trans (congrArg₂ (gated _ _ _) rfl ?_)
  · blk_simp [rowBlock t]
    omega
  · exact Fin.ext (by blk_simp [rowBlock t])

/-- Array 6 after the run, in its last quarter of the columns. -/
theorem array6 (c : Dev nD) (i : S16384x4096.Idx) (hi : 3072 ≤ (i 1).val) : (dats m 0 c).arrAt 6 cfg0.N i
    = slope (ga m c) (gw m c) (gz m c) (go m c) (i 0) ⟨(i 1).val - 3072, by have h : (i 1).val < 4096 := (i 1).isLt; omega⟩ := by
  have e := (dats m 0 c).arrAt_apply_of_coversWhere 6
    (fun i : S16384x4096.Idx => slope (ga m c) (gw m c) (gz m c) (go m c) (i 0) ⟨((i 1).val - 3072) % 1024, by omega⟩)
    (P := fun i : S16384x4096.Idx => 3072 ≤ (i 1).val) (fun β => 3 ≤ β (1 : Fin 2)) (by decide +kernel) (fun t hf y => by
      blk_simp
      rw [after0_6]
      refine (block6 ..).trans ?_
      refine (cut_slope m c t _ _ _ ?_).trans (congrArg₂ (slope _ _ _ _) rfl ?_)
      · blk_simp [rowBlock t]
        omega
      · have hy : (y 1).val < 1024 := (y 1).isLt
        exact Fin.ext (by blk_simp [rowBlock t]; dsimp only; omega)) (fun j => by
      blk_simp [Pipeline.Window.cell_apply]
      omega) i
  rw [e, if_pos hi]
  have h : (i 1).val < 4096 := (i 1).isLt
  exact congrArg₂ (slope _ _ _ _) rfl (Fin.ext (by dsimp only; omega))

/-- Array 7 after the run. -/
theorem array7 (c : Dev nD) : (dats m 0 c).arrAt 7 cfg0.N = fun i : S16384x128.Idx => picked (ga m c) (gw m c) (gz m c) (go m c) sel (i 0) (i 1) := by
  refine (dats m 0 c).arrAt_eq_of_covers 7 _ (by decide +kernel) fun t hf y => ?_
  blk_simp
  rw [after0_7]
  refine (block7 ..).trans ?_
  refine (cut_picked m c t _ _ _ ?_).trans (congrArg₂ (picked _ _ _ _ _) rfl ?_)
  · blk_simp [rowBlock t]
    omega
  · exact Fin.ext (by blk_simp [rowBlock t])

end Cert.GateGradIdeal.Sum

end
-- ==== Proof.Gg.Reals.lean ====
/- What a grid point writes, for arguments that are real numbers. -/
module

public import proofs.«01_k».proof.Proof.Gg.Values

@[expose] public section

noncomputable section

namespace Cert.GateGradIdeal.Sum

open Idealize.ShloMosaic

/-- Every entry is a real number. -/
def Real' {s : Shape} (x : Vec Ideal s .f32) : Prop := ∀ i, ∃ r : ℝ, x i = (r : EReal)

/-- A finite sum of reals is real. -/
theorem real_sum {n : ℕ} (f : Fin n → EReal) (h : ∀ k, ∃ r : ℝ, f k = (r : EReal)) : ∃ r : ℝ, ∑ k, f k = (r : EReal) := by
  choose g hg using h
  refine ⟨∑ k, g k, ?_⟩
  simp only [hg]
  induction (Finset.univ : Finset (Fin n)) using Finset.cons_induction with
  | empty => simp
  | cons a t ha ih => rw [Finset.sum_cons, Finset.sum_cons, ih, EReal.coe_add]

/-- A product of reals is real. -/
theorem real_mul {x y : EReal} (hx : ∃ r : ℝ, x = (r : EReal)) (hy : ∃ r : ℝ, y = (r : EReal)) : ∃ r : ℝ, x * y = (r : EReal) := by
  obtain ⟨r, rfl⟩ := hx
  obtain ⟨t, rfl⟩ := hy
  exact ⟨r * t, (EReal.coe_mul r t).symm⟩

/-- The logistic function of a real is real. -/
theorem real_logistic {x : EReal} (hx : ∃ r : ℝ, x = (r : EReal)) : ∃ r : ℝ, Ideal.logistic x = (r : EReal) := by
  obtain ⟨r, rfl⟩ := hx
  exact ⟨_, Ideal.logistic_coe r⟩

variable {n : ℕ} {a : Vec Ideal (⟨2, ![n, 1024]⟩ : Shape) .f32} {w : Vec Ideal (⟨2, ![1024, 1024]⟩ : Shape) .f32}
  {z o : Vec Ideal (⟨2, ![n, 1024]⟩ : Shape) .f32}

/-- The product is real. -/
theorem real_back (ha : Real' a) (hw : Real' w) (r : Fin n) (j : Fin 1024) : ∃ x : ℝ, back a w r j = (x : EReal) :=
  real_sum _ fun _ => real_mul (ha _) (hw _)

/-- The two ways to write the gate's derivative. -/
theorem rule (b l v u : ℝ) : (b : EReal) * u * (l * (1 + v * (1 - l))) = u * b * l + v * (u * b) * (l * (1 - l)) := by
  rw [← EReal.coe_one]
  simp only [← EReal.coe_sub, ← EReal.coe_mul, ← EReal.coe_add]
  exact congrArg _ (by ring)

/-- The gate's cotangent as the product rule writes it. -/
theorem slope_eq (ha : Real' a) (hw : Real' w) (hz : Real' z) (ho : Real' o) (r : Fin n) (j : Fin 1024) :
    slope a w z o r j = o (ix2 r j) * back a w r j * Ideal.logistic (z (ix2 r j))
      + z (ix2 r j) * (o (ix2 r j) * back a w r j) * (Ideal.logistic (z (ix2 r j)) * (1 - Ideal.logistic (z (ix2 r j)))) := by
  unfold slope
  obtain ⟨b, hb⟩ := real_back ha hw r j
  obtain ⟨l, hl⟩ := real_logistic (hz (ix2 r j))
  obtain ⟨v, hv⟩ := hz (ix2 r j)
  obtain ⟨u, hu⟩ := ho (ix2 r j)
  rw [hl, hb, hv, hu]
  exact rule b l v u

/-- A sum over 1024 columns, head by head. -/
theorem heads (f : Fin 1024 → EReal) : ∑ k, f k = ∑ h : Fin 16, ∑ e : Fin 64, f ⟨e.val + 64 * h.val, by have := e.isLt; have := h.isLt; omega⟩ := by
  rw [← Fintype.sum_prod_type', ← (finProdFinEquiv (m := 16) (n := 64)).sum_comp]
  rfl

/-- A sum over the rows of one head's column of the selector. -/
theorem selected (f : Fin 1024 → EReal) (l : ℕ) (hl : l < 16) :
    ∑ k : Fin 1024, f k * (if k.val / 64 = l then 1 else 0) = ∑ e : Fin 64, f ⟨64 * l + e.val, by have := e.isLt; omega⟩ := by
  rw [heads, Finset.sum_eq_single (⟨l, hl⟩ : Fin 16)]
  · refine Finset.sum_congr rfl fun e _ => ?_
    have := e.isLt
    rw [if_pos (by dsimp only; omega), mul_one]
    exact congrArg f (Fin.ext (by dsimp only; omega))
  · intro h _ hne
    refine Finset.sum_eq_zero fun e _ => ?_
    have := e.isLt
    rw [if_neg (fun q => hne (Fin.ext (by dsimp only at q ⊢; omega))), mul_zero]
  · exact fun h => absurd (Finset.mem_univ _) h

/-- No row is selected by a column past the heads. -/
theorem unselected (f : Fin 1024 → EReal) (l : ℕ) (hl : 16 ≤ l) : ∑ k : Fin 1024, f k * (if k.val / 64 = l then 1 else 0) = 0 := by
  refine Finset.sum_eq_zero fun k _ => ?_
  have := k.isLt
  rw [if_neg (by omega), mul_zero]

/-- The selected sums: head `l`'s sum, and zeros past the heads. -/
theorem picked_eq (ha : Real' a) (hw : Real' w) (hz : Real' z) (ho : Real' o) (r : Fin n) (l : Fin 128) :
    picked a w z o (fun i => if (i 0).val / 64 = (i 1).val then 1 else 0) r l
      = if h : l.val < 16 then ∑ e : Fin 64, gated a w z r ⟨64 * l.val + e.val, by have := e.isLt; omega⟩ * o (ix2 r ⟨64 * l.val + e.val, by have := e.isLt; omega⟩)
        else 0 := by
  unfold picked
  have hp (k : Fin 1024) : ∃ x : ℝ, gated a w z r k * o (ix2 r k) = (x : EReal) :=
    real_mul (real_mul (real_back ha hw r k) (real_mul (hz _) (real_logistic (hz _)))) (ho _)
  have hzero : ∑ k : Fin 1024, (gated a w z r k * o (ix2 r k) - gated a w z r k * o (ix2 r k)) * (if k.val / 64 = l.val then (1 : EReal) else 0) = 0 :=
    Finset.sum_eq_zero fun k _ => by
      obtain ⟨x, hx⟩ := hp k
      rw [hx, ← EReal.coe_sub, sub_self, EReal.coe_zero, zero_mul]
  refine (congrArg₂ (· + ·) rfl hzero).trans ((add_zero _).trans ?_)
  by_cases h : l.val < 16
  · rw [dif_pos h]
    exact selected (fun k => gated a w z r k * o (ix2 r k)) l.val h
  · rw [dif_neg h]
    exact unselected (fun k => gated a w z r k * o (ix2 r k)) l.val (by omega)

end Cert.GateGradIdeal.Sum

end
-- ==== Proof.Gg.Reference.lean ====
/- What the reference of the gate's backward computes. -/
module

public import proofs.«01_k».proof.Proof.Gg.Reals
public import proofs.«01_k».proof.Proof.Gen.GateGradReferenceIdeal.Read
public import Idealize.ShloMosaic.Lib.KernelVsHost

@[expose] public section

set_option maxRecDepth 16384

noncomputable section

namespace Cert.GateGradIdeal.Sum

open Cert.GateGradReferenceIdeal
open Idealize.ShloMosaic Idealize.ShloMosaic.TcCoe

variable (a : Vec Ideal S16384x1024 .f32) (w : Vec Ideal S1024x1024 .f32) (z o : Vec Ideal S16384x1024 .f32)

/-- The reference's product. -/
theorem ref_back (i : S16384x1024.Idx) : Read.val_main_v13 (F := Ideal) a w i = back a w (i 0) (i 1) := by
  rw [Read.val_main_v13_apply]
  unfold back
  refine Finset.sum_congr rfl fun k _ => congrArg₂ (· * ·) ?_ (congrArg w ?_)
  · rw [Read.val_main_v12_apply]
    exact congrArg a (by blk_ext)
  · blk_ext

/-- The reference's gate function. -/
theorem ref_logistic (i : S16384x1024.Idx) : Read.val_main_v5 (F := Ideal) z i = Ideal.logistic (z i) := by
  rw [Read.val_main_v5_apply, Read.val_main_v4_apply, Read.val_main_v3_apply, Read.val_main_v2_apply, Read.val_main_v1_apply, Read.val_main_v0_apply,
    Read.val_main_cst_apply, Read.val_main_cst_0_apply, show (FloatOps.ofBits (F := Ideal) .f32 0x3F800000#32) = 1 from Ideal.ofBits_one_f32]
  rfl

/-- The reference's attention cotangent. -/
theorem ref_gated (i : S16384x1024.Idx) : Read.val_main_v15 (F := Ideal) a w z i = gated a w z (i 0) (i 1) := by
  rw [Read.val_main_v15_apply, Read.val_main_v9_apply, ref_back, ref_logistic]
  unfold gated
  exact congrArg₂ (fun p q : EReal => back a w (i 0) (i 1) * (p * Ideal.logistic q)) (congrArg z (ix2_eta i).symm) (congrArg z (ix2_eta i).symm)

/-- The reference's first result. -/
theorem reference5 : Read.val_main_v23 (F := Ideal) a w z = fun i : S16384x1024.Idx => gated a w z (i 0) (i 1) := by
  funext i
  rw [Read.val_main_v23_apply]
  exact ref_gated a w z i

/-- The reference's gate cotangent. -/
theorem ref_slope (ha : Real' a) (hw : Real' w) (hz : Real' z) (ho : Real' o) (i : S16384x1024.Idx) :
    Read.val_main_v24 (F := Ideal) a w z o i = slope a w z o (i 0) (i 1) := by
  refine Eq.trans ?_ (slope_eq ha hw hz ho (i 0) (i 1)).symm
  rw [Read.val_main_v24_apply, Read.val_main_v19_apply, Read.val_main_v18_apply, Read.val_main_v17_apply, Read.val_main_v16_apply,
    Read.val_main_v14_apply, Read.val_main_v8_apply, Read.val_main_v7_apply, Read.val_main_v6_apply, Read.val_main_cst_1_apply, ref_back, ref_logistic,
    show (FloatOps.ofBits (F := Ideal) .f32 0x3F800000#32) = 1 from Ideal.ofBits_one_f32]
  exact congrArg₂ (fun p q : EReal => q * back a w (i 0) (i 1) * Ideal.logistic p
      + p * (q * back a w (i 0) (i 1)) * (Ideal.logistic p * (1 - Ideal.logistic p))) (congrArg z (ix2_eta i).symm) (congrArg o (ix2_eta i).symm)

/-- The reference's second result in the last quarter of its columns. -/
theorem reference6 (ha : Real' a) (hw : Real' w) (hz : Real' z) (ho : Real' o) (i : S16384x4096.Idx) (hi : 3072 ≤ (i 1).val) :
    Read.val_main_v25 (F := Ideal) a w z o i = slope a w z o (i 0) ⟨(i 1).val - 3072, by have h : (i 1).val < 4096 := (i 1).isLt; omega⟩ := by
  have h1 : (i 1).val < 4096 := (i 1).isLt
  have h0 : (i 0).val < 16384 := (i 0).isLt
  unfold Read.val_main_v25
  rw [pad_apply_of_inside _ _ _ _ _ _ _ i (ix2 (i 0) (⟨(i 1).val - 3072, by omega⟩ : Fin 1024) : S16384x1024.Idx) (fun b => by
    match b with
    | 0 => exact (show (i 0).val = 0 + (i 0).val * (0 + 1) by omega)
    | 1 => exact (show (i 1).val = 3072 + ((i 1).val - 3072) * (0 + 1) by omega))]
  exact ref_slope a w z o ha hw hz ho _

/-- The reference's products, head by head. -/
theorem ref_heads (i : S16384x16.Idx) : Read.val_main_v22 (F := Ideal) a w z o i
    = ∑ e : Fin 64, gated a w z (i 0) ⟨64 * (i 1).val + e.val, by have := e.isLt; have h : (i 1).val < 16 := (i 1).isLt; omega⟩
        * o (ix2 (i 0) ⟨64 * (i 1).val + e.val, by have := e.isLt; have h : (i 1).val < 16 := (i 1).isLt; omega⟩) := by
  have h1 : (i 1).val < 16 := (i 1).isLt
  have h0 : (i 0).val < 16384 := (i 0).isLt
  rw [Read.val_main_v22_apply, Read.val_main_cst_2_apply, show (FloatOps.ofBits (F := Ideal) .f32 0x00000000#32) = 0 from Ideal.ofBits_zero_f32, zero_add]
  refine Finset.sum_congr rfl fun e _ => ?_
  have he := e.isLt
  have key : Read.idx_main_v21 (Read.idx_main_v22 i e) = (ix2 (i 0) (⟨64 * (i 1).val + e.val, by omega⟩ : Fin 1024) : S16384x1024.Idx) := by
    blk_ext
  rw [Read.val_main_v21_apply, key, Read.val_main_v20_apply, ref_gated]
  rfl

/-- The reference's third result. -/
theorem reference7 (ha : Real' a) (hw : Real' w) (hz : Real' z) (ho : Real' o) : Read.val_main_v26 (F := Ideal) a w z o
    = fun i : S16384x128.Idx => picked a w z o (fun i => if (i 0).val / 64 = (i 1).val then 1 else 0) (i 0) (i 1) := by
  funext i
  refine Eq.trans ?_ (picked_eq ha hw hz ho (i 0) (i 1)).symm
  have h1 : (i 1).val < 128 := (i 1).isLt
  have h0 : (i 0).val < 16384 := (i 0).isLt
  unfold Read.val_main_v26
  by_cases h : (i 1).val < 16
  · rw [dif_pos h, pad_apply_of_inside _ _ _ _ _ _ _ i (ix2 (i 0) (⟨(i 1).val, h⟩ : Fin 16) : S16384x16.Idx) (fun b => by
      match b with
      | 0 => exact (show (i 0).val = 0 + (i 0).val * (0 + 1) by omega)
      | 1 => exact (show (i 1).val = 0 + (i 1).val * (0 + 1) by omega))]
    exact ref_heads a w z o _
  · rw [dif_neg h, pad_apply_of_not_inside _ _ _ _ _ _ _ i 1 (by
      rintro ⟨_, _, q⟩
      have q : ((i 1).val - 0) / (0 + 1) < 16 := q
      omega), Read.val_main_call1_v0_apply, Read.val_main_c_3_apply]
    exact (show (((0#32 : BitVec 32).toInt : ℝ) : EReal) = 0 by simp)

end Cert.GateGradIdeal.Sum

end
-- ==== Proof.Gg.Pre.lean ====
/- The precondition: every entry of the four arguments is a real number. -/
module

public import proofs.«01_k».proof.Proof.Gg.Array
public import proofs.«01_k».proof.Proof.Gg.Reals
public import proofs.«01_k».proof.Proof.Gen.Pre_gate_finite
public import proofs.«01_k».proof.Proof.Gen.On_gate_written
public import proofs.«01_k».proof.Defs
public import Idealize.ShloMosaic.Lib.ReduceAll

@[expose] public section

set_option maxRecDepth 16384

noncomputable section

namespace Cert.GateGradIdeal.Sum

open Idealize.ShloMosaic Idealize.ShloMosaic.TcCoe Idealize.SL.Sem

/-- A number whose absolute value is below the largest is real. -/
theorem real_of_abs (x : EReal) (h : max x (-x) < ⊤) : ∃ r : ℝ, x = r := by
  induction x using EReal.rec with
  | bot => simp at h
  | coe r => exact ⟨r, rfl⟩
  | top => simp at h

/-- The pattern of infinity. -/
theorem top_word : (FloatOps.ofBits (F := Ideal) .f32 0x7F800000#32) = (⊤ : EReal) := by
  show Ideal.ofBits .f32 0x7F800000#32 = ⊤
  simp [Ideal.ofBits, Ideal.ieee]

/-- One comparison that came out true. -/
theorem real_of_bit (x : EReal) (h : FloatOps.cmpf (F := Ideal) (φ := .f32) .olt (max x (-x)) (FloatOps.ofBits (F := Ideal) .f32 0x7F800000#32) = 1#1) : ∃ r : ℝ, x = r := by
  refine real_of_abs x ?_
  rw [top_word] at h
  by_contra hn
  have h : BitVec.ofBool (decide (max x (-x) < (⊤ : EReal))) = 1#1 := h
  rw [decide_eq_false hn] at h
  exact absurd h (by decide)

/-- What the precondition says of one device's arrays. -/
theorem real_of_fn (a : Vec Ideal Cert.Pre_gate_finite.S16384x1024 .bf16) (w : Vec Ideal Cert.Pre_gate_finite.S1024x1024 .f32)
    (z o : Vec Ideal Cert.Pre_gate_finite.S16384x1024 .f32) (h : Cert.Pre_gate_finite.fn (F := Ideal) a w z o = fun _ => 1#1) :
    Real' (s := Cert.Pre_gate_finite.S16384x1024) a ∧ Real' w ∧ Real' z ∧ Real' o := by
  have h := congrFun h (fun b => b.elim0)
  unfold Cert.Pre_gate_finite.fn Cert.Pre_gate_finite.fn_part1 at h
  obtain ⟨h, ho⟩ := IntOp.andi_eq_one.1 h
  obtain ⟨h, hz⟩ := IntOp.andi_eq_one.1 h
  obtain ⟨ha, hw⟩ := IntOp.andi_eq_one.1 h
  exact ⟨fun i => real_of_bit _ (Host.reduce_andi_all _ _ _ _ _ ha i), fun i => real_of_bit _ (Host.reduce_andi_all _ _ _ _ _ hw i),
    fun i => real_of_bit _ (Host.reduce_andi_all _ _ _ _ _ hz i), fun i => real_of_bit _ (Host.reduce_andi_all _ _ _ _ _ ho i)⟩

/-- What the precondition says of the kernel's memory. -/
theorem real_args (m : (ℓ : Loc nD τ sig) → Buf (Elt Ideal) ℓ) (h : Cert.Pre_GateGradIdeal_gate_finite m) (c : Dev nD) :
    Real' (ga m c) ∧ Real' (gw m c) ∧ Real' (gz m c) ∧ Real' (go m c) :=
  real_of_fn _ _ _ _ (h c)

/-- A small number's word reads back. -/
theorem word_toInt (n : ℕ) (hn : n < 4096) : (BitVec.ofNat 32 n).toInt = n := by
  have h : (BitVec.ofNat 32 n).toNat = n := by rw [BitVec.toNat_ofNat]; omega
  rw [BitVec.toInt_eq_toNat_of_lt (by omega), h]

/-- The columns the comparison takes: the last quarter. -/
theorem written_columns (a : Vec Ideal Cert.On_gate_written.S16384x1024 .bf16) (w : Vec Ideal Cert.On_gate_written.S1024x1024 .f32)
    (z o : Vec Ideal Cert.On_gate_written.S16384x1024 .f32) (i : Cert.On_gate_written.S16384x4096.Idx)
    (h : (Cert.On_gate_written.fn (F := Ideal) a w z o).2.1 i = 1#1) : 3072 ≤ (i 1).val := by
  have hi : (i 1).val < 4096 := (i 1).isLt
  have h : IntOp.cmpi .sge (BitVec.ofNat 32 (i 1).val) 3072#32 = 1#1 := h
  have h : BitVec.ofBool (BitVec.sle 3072#32 (BitVec.ofNat 32 (i 1).val)) = 1#1 := h
  by_contra hn
  have e : BitVec.sle 3072#32 (BitVec.ofNat 32 (i 1).val) = false := by
    rw [BitVec.sle_eq_decide, decide_eq_false_iff_not, word_toInt _ hi]
    have : (3072#32 : BitVec 32).toInt = 3072 := by decide
    omega
  rw [e] at h
  exact absurd h (by decide)

end Cert.GateGradIdeal.Sum

end
-- ==== Proof.Gg.Claims.lean ====
/- The claims about the gate's backward. -/
module

public import proofs.«01_k».proof.Defs
public import proofs.«01_k».proof.Proof.Gg.Array
public import proofs.«01_k».proof.Proof.Gg.Reference
public import proofs.«01_k».proof.Proof.Gg.Pre
public import proofs.«01_k».proof.Proof.Gen.GateGrad.Frame
public import proofs.«01_k».proof.Proof.Gen.GateGradIdeal.Value
public import proofs.«01_k».proof.Proof.Gen.GateGradReferenceIdeal.Run
public import Idealize.ShloMosaic.Lib.Quiescent

@[expose] public section

noncomputable section

namespace Cert.GateGradIdeal.Sum

open Idealize.ShloMosaic Idealize.ShloMosaic.TcCoe Idealize.SL.Sem

/-- The kernel's frame. -/
theorem frame_kernel : Cert.quiescent_GateGrad := fun m ρ _ => Cert.GateGrad.Gen.frame m ρ

/-- Its idealization's frame. -/
theorem frame_kernel_ideal : Cert.quiescent_GateGradIdeal := fun m ρ _ => Cert.GateGradIdeal.Gen.frame m ρ

/-- The same under the precondition, which it does not need. -/
theorem frame_kernel_finite : Cert.quiescent_GateGradIdeal_pre_gate_finite := fun m ρ _ => Cert.GateGradIdeal.Gen.frame m ρ

/-- The reference's frame. -/
theorem frame_reference : Cert.quiescent_GateGradReferenceIdeal := fun m ρ _ =>
  (θ_run Cert.GateGradReferenceIdeal.defs _ _).mono (fun r h => ⟨fun c => (h c).2.2.2,
      Idealize.ShloMosaic.sem_eq_zero_of_no_sems (by decide) r.2⟩)
    (Cert.GateGradReferenceIdeal.Value.run (F := Ideal) m ρ)

/-- The same under the precondition, which it does not need. -/
theorem frame_reference_finite : Cert.quiescent_GateGradReferenceIdeal_pre_gate_finite := fun m ρ _ => frame_reference m ρ trivial

/-- Nothing was rewritten. -/
theorem preserves : Cert.preserves_GateGrad_GateGradIdeal := trivial

set_option maxHeartbeats 1000000 in
/-- On real arguments both programs end with the same arrays, the second where it is written. -/
theorem algebraic : Cert.algebraic_GateGradIdeal_GateGradReferenceIdeal_on_gate_written_pre_gate_finite := by
  intro m ρ m' ρ' hpre hagree
  refine ⟨_, _, _, (θ_run Cert.GateGradIdeal.defs _ _).mono (fun _ h c => ⟨fun i _ => congrFun (h c).1 i, fun i _ => congrFun (h c).2.1 i,
    fun i _ => congrFun (h c).2.2.1 i, (h c).2.2.2⟩) (Cert.GateGradIdeal.Value.run_blocks (F := Ideal) m ρ), ?_⟩
  refine (θ_run Cert.GateGradReferenceIdeal.defs _ _).mono (fun _ h c => ⟨fun i _ => (congrFun (h c).1 i).trans ?_, fun i hi => (congrFun (h c).2.1 i).trans ?_,
    fun i _ => (congrFun (h c).2.2.1 i).trans ?_, (h c).2.2.2⟩) (Cert.GateGradReferenceIdeal.Value.run (F := Ideal) m' ρ')
  · refine congrFun ?_ i
    rw [Cert.GateGradReferenceIdeal.Read.val_main_v23_eq, (hagree c).1, (hagree c).2.1, (hagree c).2.2.1]
    exact (reference5 _ _ _).trans (array5 m c).symm
  · obtain ⟨ha, hw, hz, ho⟩ := real_args m hpre c
    rw [Cert.GateGradReferenceIdeal.Read.val_main_v25_eq, (hagree c).1, (hagree c).2.1, (hagree c).2.2.1, (hagree c).2.2.2]
    have hi := written_columns _ _ _ _ i hi
    exact (reference6 _ _ _ _ ha hw hz ho i hi).trans (array6 m c i hi).symm
  · obtain ⟨ha, hw, hz, ho⟩ := real_args m hpre c
    refine congrFun ?_ i
    rw [Cert.GateGradReferenceIdeal.Read.val_main_v26_eq, (hagree c).1, (hagree c).2.1, (hagree c).2.2.1, (hagree c).2.2.2]
    exact (reference7 _ _ _ _ ha hw hz ho).trans (array7 m c).symm

end Cert.GateGradIdeal.Sum

end
-- ==== Proof.Mg.Payloads.lean ====
/- The values one grid point of the gate's backward in front of the convolution's projection stores, entry by entry. -/
module

public import proofs.«01_k».proof.Proof.Gen.MixerGradIdeal.Frame
public import Idealize.ShloMosaic.Lib.Pipeline.ValueKit
public import Idealize.ShloMosaic.Lib.Pointwise

@[expose] public section

set_option maxRecDepth 16384

noncomputable section

namespace Cert.MixerGradIdeal.Sum

open Cert.MixerGradIdeal.Gen
open Idealize.ShloMosaic Idealize.ShloMosaic.TcCoe

/-- The cotangent of the gated rows: rows times the transposed weight. -/
def back {n : ℕ} {φ ψ : FTy} (a : FVec Ideal (⟨2, ![n, 1024]⟩ : Shape) φ) (w : FVec Ideal S1024x1024 ψ) (y : (⟨2, ![n, 1024]⟩ : Shape).Idx) : Elt Ideal .f32 :=
  ∑ k : Fin 1024, a (ix2 (y 0) k) * w (ix2 (y 1) k)

/-- A row less its mean. -/
def centred {n : ℕ} (r : Vec Ideal (⟨2, ![n, 1024]⟩ : Shape) .f32) (y : (⟨2, ![n, 1024]⟩ : Shape).Idx) : Elt Ideal .f32 :=
  r y - Ideal.div (∑ l : Fin 1024, r (ix2 (y 0) l)) (Ideal.ofBits .f32 0x44800000#32)

/-- One over the deviation of a centred row. -/
def scale {n : ℕ} (d : Vec Ideal (⟨2, ![n, 1024]⟩ : Shape) .f32) (y : (⟨2, ![n, 1]⟩ : Shape).Idx) : Elt Ideal .f32 :=
  Ideal.rsqrt (Ideal.div (∑ l : Fin 1024, d (ix2 (y 0) l) * d (ix2 (y 0) l)) (Ideal.ofBits .f32 0x44800000#32) + Ideal.ofBits .f32 0x3727C5AC#32)

/-- A normalised row. -/
def normal {n : ℕ} (d : Vec Ideal (⟨2, ![n, 1024]⟩ : Shape) .f32) (y : (⟨2, ![n, 1024]⟩ : Shape).Idx) : Elt Ideal .f32 :=
  d y * scale d (ix2 (y 0) 0)

/-- The layer norm's output. -/
def affine {n : ℕ} (x : Vec Ideal (⟨2, ![n, 1024]⟩ : Shape) .f32) (g b : Vec Ideal S1x1024 .f32) (y : (⟨2, ![n, 1024]⟩ : Shape).Idx) : Elt Ideal .f32 :=
  x y * g (ix2 0 (y 1)) + b (ix2 0 (y 1))

/-- The derivative of `silu p * silu q` in `q`, times the cotangent. -/
def siluGrad {n : ℕ} (a p q : Vec Ideal (⟨2, ![n, 1024]⟩ : Shape) .f32) (y : (⟨2, ![n, 1024]⟩ : Shape).Idx) : Elt Ideal .f32 :=
  a y * (p y * Ideal.logistic (p y))
    * (Ideal.logistic (q y) * (Ideal.ofBits .f32 0x3F800000#32 + q y * (Ideal.ofBits .f32 0x3F800000#32 - Ideal.logistic (q y))))

/-- The layer norm's backward of one row: `rstd * (d - mean d - n * mean (d * n))` with `d` the cotangent times the gain. -/
def rowGrad {n : ℕ} (a x : Vec Ideal (⟨2, ![n, 1024]⟩ : Shape) .f32) (s : Vec Ideal (⟨2, ![n, 1]⟩ : Shape) .f32) (g : Vec Ideal S1x1024 .f32)
    (y : (⟨2, ![n, 1024]⟩ : Shape).Idx) : Elt Ideal .f32 :=
  s (ix2 (y 0) 0) * ((a y * g (ix2 0 (y 1)) - Ideal.div (∑ l : Fin 1024, a (ix2 (y 0) l) * g (ix2 0 l)) (Ideal.ofBits .f32 0x44800000#32))
    - x y * Ideal.div (∑ l : Fin 1024, a (ix2 (y 0) l) * g (ix2 0 l) * x (ix2 (y 0) l)) (Ideal.ofBits .f32 0x44800000#32))

/-- Every eighth row of a block added up. -/
def fold8 (v : Vec Ideal S512x1024 .f32) (y : S8x1024.Idx) : Elt Ideal .f32 :=
  ∑ q : Fin 64, v (ix2 ⟨q.val * 8 + (y 0).val, by have h : (y 0).val < 8 := (y 0).isLt; have := q.isLt; omega⟩ (y 1))

/-- The last point adds the eight rows. -/
def total (o : Vec Ideal S8x1024 .f32) (y : S8x1024.Idx) : Elt Ideal .f32 := ∑ q : Fin 8, o (ix2 q (y 1))

section
variable (a : Vec Ideal S512x1024 .bf16) (w : Vec Ideal S1024x1024 .bf16) (x : Vec Ideal S512x1024 .f32) (z : Vec Ideal S512x1024 .f32) (g b : Vec Ideal S1x1024 .f32)

theorem back_eq : k0_pay8 (F := Ideal) a w = back (n := 512) (φ := .bf16) (ψ := .bf16) a w := by
  funext y
  unfold back
  pointwise [k0_pay8]

theorem centred_eq : k0_pay9 (F := Ideal) x = centred x := by
  funext y
  unfold centred
  pointwise [k0_pay9]

theorem scale_eq : k0_pay10 (F := Ideal) x = scale (k0_pay9 (F := Ideal) x) := by
  funext y
  unfold scale
  pointwise [k0_pay10]

theorem normal_eq : k0_pay11 (F := Ideal) x = normal (k0_pay9 (F := Ideal) x) := by
  funext y
  unfold normal
  rw [← scale_eq]
  pointwise [k0_pay11]

theorem affine_eq : k0_pay12 (F := Ideal) x g b = affine (k0_pay11 (F := Ideal) x) g b := by
  funext y
  unfold affine
  pointwise [k0_pay12]

theorem gate_eq : k0_pay17 (F := Ideal) z (k0_pay14 (F := Ideal) z) (k0_pay15 (F := Ideal) a w x g b) (k0_pay16 (F := Ideal) z)
    = siluGrad (k0_pay8 (F := Ideal) a w) (k0_pay12 (F := Ideal) x g b) z := by
  funext y
  unfold siluGrad
  pointwise [k0_pay17, k0_pay14, k0_pay15, k0_pay16, k0_pay13]

theorem mixer_eq : k0_pay20 (F := Ideal) (k0_pay8 (F := Ideal) a w) (k0_pay12 (F := Ideal) x g b) (k0_pay13 (F := Ideal) x g b) z (k0_pay14 (F := Ideal) z)
    = siluGrad (k0_pay8 (F := Ideal) a w) z (k0_pay12 (F := Ideal) x g b) := by
  funext y
  unfold siluGrad
  pointwise [k0_pay20, k0_pay14, k0_pay13]
end

section
variable (p q r s t : Vec Ideal S512x1024 .f32) (y : S512x1024.Idx)

theorem gate_cast : k0_pay18 (F := Ideal) p q r s y = k0_pay17 (F := Ideal) p q r s y := by
  pointwise [k0_pay18]

theorem row_grad (d : Vec Ideal S512x1 .f32) (g : Vec Ideal S1x1024 .f32) : k0_pay1 (F := Ideal) d p q g y = rowGrad q p d g y := by
  unfold rowGrad
  pointwise [k0_pay1]

variable (o : Vec Ideal S8x1024 .f32) (u : S8x1024.Idx)

theorem gate_share : k0_pay19 (F := Ideal) p q r s o u = o u + fold8 (k0_pay17 (F := Ideal) p q r s) u := by
  unfold fold8
  pointwise [k0_pay19]

theorem gain_share (n : Vec Ideal S512x1024 .f32) :
    k0_pay21 (F := Ideal) p n q r s t o u = o u + fold8 (fun i => k0_pay20 (F := Ideal) p q r s t i * n i) u := by
  unfold fold8
  pointwise [k0_pay21]

theorem bias_share : k0_pay22 (F := Ideal) p q r s t o u = o u + fold8 (k0_pay20 (F := Ideal) p q r s t) u := by
  unfold fold8
  pointwise [k0_pay22]

theorem total2 : k0_pay2 (F := Ideal) o u = total o u := by
  unfold total
  pointwise [k0_pay2]

theorem total3 : k0_pay3 (F := Ideal) o u = total o u := by
  unfold total
  pointwise [k0_pay3]

theorem total4 : k0_pay4 (F := Ideal) o u = total o u := by
  unfold total
  pointwise [k0_pay4]

theorem zero5 : k0_pay5 (F := Ideal) u = 0 := by pointwise [k0_pay5]
theorem zero6 : k0_pay6 (F := Ideal) u = 0 := by pointwise [k0_pay6]
theorem zero7 : k0_pay7 (F := Ideal) u = 0 := by pointwise [k0_pay7]
end

end Cert.MixerGradIdeal.Sum

end
-- ==== Proof.Mg.Values.lean ====
/- What one grid point leaves in each of its five outputs. -/
module

public import proofs.«01_k».proof.Proof.Mg.Payloads
public import Idealize.ShloMosaic.Lib.Pipeline.ReadBack

@[expose] public section

set_option maxRecDepth 16384

noncomputable section

namespace Cert.MixerGradIdeal.Sum

open Cert.MixerGradIdeal.Gen
open Idealize.ShloMosaic Idealize.ShloMosaic.TcCoe

/-- First point: the gradient rows. -/
theorem block6_A (c : Dev nD) (i : grid0.Coords) (arg1 : Memref sig .tc .vmem S512x1024 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .vmem S8x1024 .f32) (harg11 : arg11.IsWhole) (hc0 : cond0_0 i) (hc1 : ¬cond0_1 i) (x0 : Vec Ideal S512x1024 .bf16) (x1 : Vec Ideal S1024x1024 .bf16) (x2 : Vec Ideal S512x1024 .f32) (x3 : Vec Ideal S512x1024 .f32) (x4 : Vec Ideal S1x1024 .f32) (x5 : Vec Ideal S1x1024 .f32) (y : S512x1024.Idx) :
    out0_A_6 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 y = rowGrad (siluGrad (back (n := 512) (φ := .bf16) (ψ := .bf16) x0 x1) x3 (affine (normal (centred x2)) x4 x5)) (normal (centred x2)) (scale (centred x2)) x4 y := by
  frame_out
  refine (row_grad ..).trans ?_
  rw [mixer_eq, back_eq, affine_eq, normal_eq, scale_eq, centred_eq]

/-- First point: the gate's gradient in bf16. -/
theorem block7_A (c : Dev nD) (i : grid0.Coords) (arg1 : Memref sig .tc .vmem S512x1024 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .vmem S8x1024 .f32) (harg11 : arg11.IsWhole) (hc0 : cond0_0 i) (hc1 : ¬cond0_1 i) (x0 : Vec Ideal S512x1024 .bf16) (x1 : Vec Ideal S1024x1024 .bf16) (x2 : Vec Ideal S512x1024 .f32) (x3 : Vec Ideal S512x1024 .f32) (x4 : Vec Ideal S1x1024 .f32) (x5 : Vec Ideal S1x1024 .f32) (y : S512x1024.Idx) :
    out0_A_7 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 y = (siluGrad (back (n := 512) (φ := .bf16) (ψ := .bf16) x0 x1) (affine (normal (centred x2)) x4 x5) x3) y := by
  frame_out
  refine (gate_cast ..).trans ?_
  rw [gate_eq, back_eq, affine_eq, normal_eq, centred_eq]

/-- First point: the running sum for the gain. -/
theorem block8_A (c : Dev nD) (i : grid0.Coords) (arg1 : Memref sig .tc .vmem S512x1024 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .vmem S8x1024 .f32) (harg11 : arg11.IsWhole) (hc0 : cond0_0 i) (hc1 : ¬cond0_1 i) (x0 : Vec Ideal S512x1024 .bf16) (x1 : Vec Ideal S1024x1024 .bf16) (x2 : Vec Ideal S512x1024 .f32) (x3 : Vec Ideal S512x1024 .f32) (x4 : Vec Ideal S1x1024 .f32) (x5 : Vec Ideal S1x1024 .f32) (y : S8x1024.Idx) :
    out0_A_8 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 y = 0 + fold8 (fun i => (siluGrad (back (n := 512) (φ := .bf16) (ψ := .bf16) x0 x1) x3 (affine (normal (centred x2)) x4 x5)) i * (normal (centred x2)) i) y := by
  frame_out
  refine (gain_share ..).trans ?_
  rw [zero5]
  rw [mixer_eq, back_eq, affine_eq, normal_eq, centred_eq]

/-- First point: the running sum for the bias. -/
theorem block9_A (c : Dev nD) (i : grid0.Coords) (arg1 : Memref sig .tc .vmem S512x1024 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .vmem S8x1024 .f32) (harg11 : arg11.IsWhole) (hc0 : cond0_0 i) (hc1 : ¬cond0_1 i) (x0 : Vec Ideal S512x1024 .bf16) (x1 : Vec Ideal S1024x1024 .bf16) (x2 : Vec Ideal S512x1024 .f32) (x3 : Vec Ideal S512x1024 .f32) (x4 : Vec Ideal S1x1024 .f32) (x5 : Vec Ideal S1x1024 .f32) (y : S8x1024.Idx) :
    out0_A_9 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 y = 0 + fold8 (siluGrad (back (n := 512) (φ := .bf16) (ψ := .bf16) x0 x1) x3 (affine (normal (centred x2)) x4 x5)) y := by
  frame_out
  refine (bias_share ..).trans ?_
  rw [zero6]
  rw [mixer_eq, back_eq, affine_eq, normal_eq, centred_eq]

/-- First point: the running sum of the gate's gradient. -/
theorem block10_A (c : Dev nD) (i : grid0.Coords) (arg1 : Memref sig .tc .vmem S512x1024 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .vmem S8x1024 .f32) (harg11 : arg11.IsWhole) (hc0 : cond0_0 i) (hc1 : ¬cond0_1 i) (x0 : Vec Ideal S512x1024 .bf16) (x1 : Vec Ideal S1024x1024 .bf16) (x2 : Vec Ideal S512x1024 .f32) (x3 : Vec Ideal S512x1024 .f32) (x4 : Vec Ideal S1x1024 .f32) (x5 : Vec Ideal S1x1024 .f32) (y : S8x1024.Idx) :
    out0_A_10 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 y = 0 + fold8 (siluGrad (back (n := 512) (φ := .bf16) (ψ := .bf16) x0 x1) (affine (normal (centred x2)) x4 x5) x3) y := by
  frame_out
  refine (gate_share ..).trans ?_
  rw [zero7]
  rw [gate_eq, back_eq, affine_eq, normal_eq, centred_eq]

/-- A middle point: the gradient rows. -/
theorem block6_B (c : Dev nD) (i : grid0.Coords) (arg1 : Memref sig .tc .vmem S512x1024 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .vmem S8x1024 .f32) (harg11 : arg11.IsWhole) (hc0 : ¬cond0_0 i) (hc1 : ¬cond0_1 i) (x0 : Vec Ideal S512x1024 .bf16) (x1 : Vec Ideal S1024x1024 .bf16) (x2 : Vec Ideal S512x1024 .f32) (x3 : Vec Ideal S512x1024 .f32) (x4 : Vec Ideal S1x1024 .f32) (x5 : Vec Ideal S1x1024 .f32) (xo8 : Vec Ideal S8x1024 .f32) (xo9 : Vec Ideal S8x1024 .f32) (xo10 : Vec Ideal S8x1024 .f32) (y : S512x1024.Idx) :
    out0_B_6 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 xo8 xo9 xo10 y = rowGrad (siluGrad (back (n := 512) (φ := .bf16) (ψ := .bf16) x0 x1) x3 (affine (normal (centred x2)) x4 x5)) (normal (centred x2)) (scale (centred x2)) x4 y := by
  frame_out
  refine (row_grad ..).trans ?_
  rw [mixer_eq, back_eq, affine_eq, normal_eq, scale_eq, centred_eq]

/-- A middle point: the gate's gradient in bf16. -/
theorem block7_B (c : Dev nD) (i : grid0.Coords) (arg1 : Memref sig .tc .vmem S512x1024 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .vmem S8x1024 .f32) (harg11 : arg11.IsWhole) (hc0 : ¬cond0_0 i) (hc1 : ¬cond0_1 i) (x0 : Vec Ideal S512x1024 .bf16) (x1 : Vec Ideal S1024x1024 .bf16) (x2 : Vec Ideal S512x1024 .f32) (x3 : Vec Ideal S512x1024 .f32) (x4 : Vec Ideal S1x1024 .f32) (x5 : Vec Ideal S1x1024 .f32) (xo8 : Vec Ideal S8x1024 .f32) (xo9 : Vec Ideal S8x1024 .f32) (xo10 : Vec Ideal S8x1024 .f32) (y : S512x1024.Idx) :
    out0_B_7 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 xo8 xo9 xo10 y = (siluGrad (back (n := 512) (φ := .bf16) (ψ := .bf16) x0 x1) (affine (normal (centred x2)) x4 x5) x3) y := by
  frame_out
  refine (gate_cast ..).trans ?_
  rw [gate_eq, back_eq, affine_eq, normal_eq, centred_eq]

/-- A middle point: the running sum for the gain. -/
theorem block8_B (c : Dev nD) (i : grid0.Coords) (arg1 : Memref sig .tc .vmem S512x1024 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .vmem S8x1024 .f32) (harg11 : arg11.IsWhole) (hc0 : ¬cond0_0 i) (hc1 : ¬cond0_1 i) (x0 : Vec Ideal S512x1024 .bf16) (x1 : Vec Ideal S1024x1024 .bf16) (x2 : Vec Ideal S512x1024 .f32) (x3 : Vec Ideal S512x1024 .f32) (x4 : Vec Ideal S1x1024 .f32) (x5 : Vec Ideal S1x1024 .f32) (xo8 : Vec Ideal S8x1024 .f32) (xo9 : Vec Ideal S8x1024 .f32) (xo10 : Vec Ideal S8x1024 .f32) (y : S8x1024.Idx) :
    out0_B_8 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 xo8 xo9 xo10 y = xo8 y + fold8 (fun i => (siluGrad (back (n := 512) (φ := .bf16) (ψ := .bf16) x0 x1) x3 (affine (normal (centred x2)) x4 x5)) i * (normal (centred x2)) i) y := by
  frame_out
  refine (gain_share ..).trans ?_
  rw [mixer_eq, back_eq, affine_eq, normal_eq, centred_eq]

/-- A middle point: the running sum for the bias. -/
theorem block9_B (c : Dev nD) (i : grid0.Coords) (arg1 : Memref sig .tc .vmem S512x1024 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .vmem S8x1024 .f32) (harg11 : arg11.IsWhole) (hc0 : ¬cond0_0 i) (hc1 : ¬cond0_1 i) (x0 : Vec Ideal S512x1024 .bf16) (x1 : Vec Ideal S1024x1024 .bf16) (x2 : Vec Ideal S512x1024 .f32) (x3 : Vec Ideal S512x1024 .f32) (x4 : Vec Ideal S1x1024 .f32) (x5 : Vec Ideal S1x1024 .f32) (xo8 : Vec Ideal S8x1024 .f32) (xo9 : Vec Ideal S8x1024 .f32) (xo10 : Vec Ideal S8x1024 .f32) (y : S8x1024.Idx) :
    out0_B_9 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 xo8 xo9 xo10 y = xo9 y + fold8 (siluGrad (back (n := 512) (φ := .bf16) (ψ := .bf16) x0 x1) x3 (affine (normal (centred x2)) x4 x5)) y := by
  frame_out
  refine (bias_share ..).trans ?_
  rw [mixer_eq, back_eq, affine_eq, normal_eq, centred_eq]

/-- A middle point: the running sum of the gate's gradient. -/
theorem block10_B (c : Dev nD) (i : grid0.Coords) (arg1 : Memref sig .tc .vmem S512x1024 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .vmem S8x1024 .f32) (harg11 : arg11.IsWhole) (hc0 : ¬cond0_0 i) (hc1 : ¬cond0_1 i) (x0 : Vec Ideal S512x1024 .bf16) (x1 : Vec Ideal S1024x1024 .bf16) (x2 : Vec Ideal S512x1024 .f32) (x3 : Vec Ideal S512x1024 .f32) (x4 : Vec Ideal S1x1024 .f32) (x5 : Vec Ideal S1x1024 .f32) (xo8 : Vec Ideal S8x1024 .f32) (xo9 : Vec Ideal S8x1024 .f32) (xo10 : Vec Ideal S8x1024 .f32) (y : S8x1024.Idx) :
    out0_B_10 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 xo8 xo9 xo10 y = xo10 y + fold8 (siluGrad (back (n := 512) (φ := .bf16) (ψ := .bf16) x0 x1) (affine (normal (centred x2)) x4 x5) x3) y := by
  frame_out
  refine (gate_share ..).trans ?_
  rw [gate_eq, back_eq, affine_eq, normal_eq, centred_eq]

/-- Last point: the gradient rows. -/
theorem block6_C (c : Dev nD) (i : grid0.Coords) (arg1 : Memref sig .tc .vmem S512x1024 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .vmem S8x1024 .f32) (harg11 : arg11.IsWhole) (hc0 : ¬cond0_0 i) (hc1 : cond0_1 i) (x0 : Vec Ideal S512x1024 .bf16) (x1 : Vec Ideal S1024x1024 .bf16) (x2 : Vec Ideal S512x1024 .f32) (x3 : Vec Ideal S512x1024 .f32) (x4 : Vec Ideal S1x1024 .f32) (x5 : Vec Ideal S1x1024 .f32) (xo8 : Vec Ideal S8x1024 .f32) (xo9 : Vec Ideal S8x1024 .f32) (xo10 : Vec Ideal S8x1024 .f32) (y : S512x1024.Idx) :
    out0_C_6 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 xo8 xo9 xo10 y = rowGrad (siluGrad (back (n := 512) (φ := .bf16) (ψ := .bf16) x0 x1) x3 (affine (normal (centred x2)) x4 x5)) (normal (centred x2)) (scale (centred x2)) x4 y := by
  frame_out
  refine (row_grad ..).trans ?_
  rw [mixer_eq, back_eq, affine_eq, normal_eq, scale_eq, centred_eq]

/-- Last point: the gate's gradient in bf16. -/
theorem block7_C (c : Dev nD) (i : grid0.Coords) (arg1 : Memref sig .tc .vmem S512x1024 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .vmem S8x1024 .f32) (harg11 : arg11.IsWhole) (hc0 : ¬cond0_0 i) (hc1 : cond0_1 i) (x0 : Vec Ideal S512x1024 .bf16) (x1 : Vec Ideal S1024x1024 .bf16) (x2 : Vec Ideal S512x1024 .f32) (x3 : Vec Ideal S512x1024 .f32) (x4 : Vec Ideal S1x1024 .f32) (x5 : Vec Ideal S1x1024 .f32) (xo8 : Vec Ideal S8x1024 .f32) (xo9 : Vec Ideal S8x1024 .f32) (xo10 : Vec Ideal S8x1024 .f32) (y : S512x1024.Idx) :
    out0_C_7 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 xo8 xo9 xo10 y = (siluGrad (back (n := 512) (φ := .bf16) (ψ := .bf16) x0 x1) (affine (normal (centred x2)) x4 x5) x3) y := by
  frame_out
  refine (gate_cast ..).trans ?_
  rw [gate_eq, back_eq, affine_eq, normal_eq, centred_eq]

/-- Last point: the running sum for the gain. -/
theorem block8_C (c : Dev nD) (i : grid0.Coords) (arg1 : Memref sig .tc .vmem S512x1024 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .vmem S8x1024 .f32) (harg11 : arg11.IsWhole) (hc0 : ¬cond0_0 i) (hc1 : cond0_1 i) (x0 : Vec Ideal S512x1024 .bf16) (x1 : Vec Ideal S1024x1024 .bf16) (x2 : Vec Ideal S512x1024 .f32) (x3 : Vec Ideal S512x1024 .f32) (x4 : Vec Ideal S1x1024 .f32) (x5 : Vec Ideal S1x1024 .f32) (xo8 : Vec Ideal S8x1024 .f32) (xo9 : Vec Ideal S8x1024 .f32) (xo10 : Vec Ideal S8x1024 .f32) (y : S8x1024.Idx) :
    out0_C_8 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 xo8 xo9 xo10 y = total (fun z => xo8 z + fold8 (fun i => (siluGrad (back (n := 512) (φ := .bf16) (ψ := .bf16) x0 x1) x3 (affine (normal (centred x2)) x4 x5)) i * (normal (centred x2)) i) z) y := by
  frame_out
  refine (total2 ..).trans (congrArg (fun t => total t y) (funext fun z => ?_))
  refine (gain_share ..).trans ?_
  rw [mixer_eq, back_eq, affine_eq, normal_eq, centred_eq]

/-- Last point: the running sum for the bias. -/
theorem block9_C (c : Dev nD) (i : grid0.Coords) (arg1 : Memref sig .tc .vmem S512x1024 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .vmem S8x1024 .f32) (harg11 : arg11.IsWhole) (hc0 : ¬cond0_0 i) (hc1 : cond0_1 i) (x0 : Vec Ideal S512x1024 .bf16) (x1 : Vec Ideal S1024x1024 .bf16) (x2 : Vec Ideal S512x1024 .f32) (x3 : Vec Ideal S512x1024 .f32) (x4 : Vec Ideal S1x1024 .f32) (x5 : Vec Ideal S1x1024 .f32) (xo8 : Vec Ideal S8x1024 .f32) (xo9 : Vec Ideal S8x1024 .f32) (xo10 : Vec Ideal S8x1024 .f32) (y : S8x1024.Idx) :
    out0_C_9 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 xo8 xo9 xo10 y = total (fun z => xo9 z + fold8 (siluGrad (back (n := 512) (φ := .bf16) (ψ := .bf16) x0 x1) x3 (affine (normal (centred x2)) x4 x5)) z) y := by
  frame_out
  refine (total3 ..).trans (congrArg (fun t => total t y) (funext fun z => ?_))
  refine (bias_share ..).trans ?_
  rw [mixer_eq, back_eq, affine_eq, normal_eq, centred_eq]

/-- Last point: the running sum of the gate's gradient. -/
theorem block10_C (c : Dev nD) (i : grid0.Coords) (arg1 : Memref sig .tc .vmem S512x1024 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .vmem S8x1024 .f32) (harg11 : arg11.IsWhole) (hc0 : ¬cond0_0 i) (hc1 : cond0_1 i) (x0 : Vec Ideal S512x1024 .bf16) (x1 : Vec Ideal S1024x1024 .bf16) (x2 : Vec Ideal S512x1024 .f32) (x3 : Vec Ideal S512x1024 .f32) (x4 : Vec Ideal S1x1024 .f32) (x5 : Vec Ideal S1x1024 .f32) (xo8 : Vec Ideal S8x1024 .f32) (xo9 : Vec Ideal S8x1024 .f32) (xo10 : Vec Ideal S8x1024 .f32) (y : S8x1024.Idx) :
    out0_C_10 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 xo8 xo9 xo10 y = total (fun z => xo10 z + fold8 (siluGrad (back (n := 512) (φ := .bf16) (ψ := .bf16) x0 x1) (affine (normal (centred x2)) x4 x5) x3) z) y := by
  frame_out
  refine (total4 ..).trans (congrArg (fun t => total t y) (funext fun z => ?_))
  refine (gate_share ..).trans ?_
  rw [gate_eq, back_eq, affine_eq, normal_eq, centred_eq]

end Cert.MixerGradIdeal.Sum

end
-- ==== Proof.Mg.Blocks.lean ====
/- Each point's blocks are the rows `512 t` to `512 t + 511` of the whole arrays. -/
module

public import proofs.«01_k».proof.Proof.Mg.Values

@[expose] public section

set_option maxRecDepth 16384

noncomputable section

namespace Cert.MixerGradIdeal.Sum

open Cert.MixerGradIdeal.Gen
open Idealize.ShloMosaic Idealize.ShloMosaic.TcCoe

/-- Point `t` reads and writes row block `t`, of the wide arrays the last third of the columns; the weight, the vectors and the three sums stay at the only block. -/
theorem rowBlock : ∀ t : Fin cfg0.N, (win0_0.index t 0 = t.val ∧ win0_0.index t 1 = 0 ∧ win0_1.index t 0 = 0 ∧ win0_1.index t 1 = 0)
    ∧ (win0_2.index t 0 = t.val ∧ win0_2.index t 1 = 0 ∧ win0_3.index t 0 = t.val ∧ win0_3.index t 1 = 2)
    ∧ (win0_4.index t 0 = 0 ∧ win0_4.index t 1 = 0 ∧ win0_5.index t 0 = 0 ∧ win0_5.index t 1 = 0)
    ∧ (win0_6.index t 0 = t.val ∧ win0_6.index t 1 = 0 ∧ win0_7.index t 0 = t.val ∧ win0_7.index t 1 = 2)
    ∧ (win0_8.index t 0 = 0 ∧ win0_8.index t 1 = 0 ∧ win0_9.index t 0 = 0 ∧ win0_9.index t 1 = 0)
    ∧ (win0_10.index t 0 = 0 ∧ win0_10.index t 1 = 0) := by
  decide +kernel

variable (m : (ℓ : Loc nD τ sig) → Buf (Elt Ideal) ℓ)

/-- Row `r` of block `t`. -/
def rowOf (t : Fin cfg0.N) (r : Fin 512) : Fin 16384 := ⟨t.val * 512 + r.val, by have h := lt_of_lt_of_eq t.isLt N_0; have := r.isLt; omega⟩

/-- Column `j` of the last third. -/
def colOf (j : Fin 1024) : Fin 3072 := ⟨2048 + j.val, by have := j.isLt; omega⟩

/-- The last third of the columns. -/
def third (h : Vec Ideal S16384x3072 .f32) : Vec Ideal S16384x1024 .f32 := fun y => h (ix2 (y 0) (colOf (y 1)))

theorem weight0 (c : Dev nD) : V (F := Ideal) m c main_v0 = m ((c : Thread nD τ).loc main_arg1) := by
  unfold V
  after_results
  rfl

theorem in0_eq (c : Dev nD) (t : Fin cfg0.N) (y : S512x1024.Idx) :
    (iblk m c 0 t : Vec Ideal S512x1024 .bf16) y = (m ((c : Thread nD τ).loc main_arg0) : Vec Ideal S16384x1024 .bf16) (ix2 (rowOf t (y 0)) (y 1)) := by
  obtain ⟨⟨h0, h1, -, -⟩, -⟩ := rowBlock t
  blk_ext! [iblk, V, rowOf, h0, h1]

theorem in1_eq (c : Dev nD) (t : Fin cfg0.N) (y : S1024x1024.Idx) :
    (iblk m c 1 t : Vec Ideal S1024x1024 .bf16) y = (m ((c : Thread nD τ).loc main_arg1) : Vec Ideal S1024x1024 .f32) y := by
  obtain ⟨⟨-, -, h0, h1⟩, -⟩ := rowBlock t
  refine Eq.trans ?_ (congrFun (weight0 m c) y)
  blk_ext! [iblk, h0, h1]

theorem in2_eq (c : Dev nD) (t : Fin cfg0.N) (y : S512x1024.Idx) :
    (iblk m c 2 t : Vec Ideal S512x1024 .f32) y = (m ((c : Thread nD τ).loc main_arg2) : Vec Ideal S16384x1024 .f32) (ix2 (rowOf t (y 0)) (y 1)) := by
  obtain ⟨-, ⟨h0, h1, -, -⟩, -⟩ := rowBlock t
  blk_ext! [iblk, V, rowOf, h0, h1]

theorem in3_eq (c : Dev nD) (t : Fin cfg0.N) (y : S512x1024.Idx) :
    (iblk m c 3 t : Vec Ideal S512x1024 .f32) y = third (m ((c : Thread nD τ).loc main_arg3)) (ix2 (rowOf t (y 0)) (y 1)) := by
  obtain ⟨-, ⟨-, -, h0, h1⟩, -⟩ := rowBlock t
  unfold third
  blk_ext! [iblk, V, rowOf, colOf, h0, h1]

theorem in4_eq (c : Dev nD) (t : Fin cfg0.N) (y : S1x1024.Idx) :
    (iblk m c 4 t : Vec Ideal S1x1024 .f32) y = (m ((c : Thread nD τ).loc main_arg4) : Vec Ideal S1x1024 .f32) y := by
  obtain ⟨-, -, ⟨h0, h1, -, -⟩, -⟩ := rowBlock t
  blk_ext! [iblk, V, h0, h1]

theorem in5_eq (c : Dev nD) (t : Fin cfg0.N) (y : S1x1024.Idx) :
    (iblk m c 5 t : Vec Ideal S1x1024 .f32) y = (m ((c : Thread nD τ).loc main_arg5) : Vec Ideal S1x1024 .f32) y := by
  obtain ⟨-, -, ⟨-, -, h0, h1⟩, -⟩ := rowBlock t
  blk_ext! [iblk, V, h0, h1]

/-- The centred rows, whole. -/
def hidden (c : Dev nD) : Vec Ideal S16384x1024 .f32 := centred (n := 16384) (m ((c : Thread nD τ).loc main_arg2))

/-- The centred rows of block `t`. -/
def blockHid (c : Dev nD) (t : Fin cfg0.N) : Vec Ideal S512x1024 .f32 := centred (n := 512) (iblk m c 2 t)

theorem blockHid_eq (c : Dev nD) (t : Fin cfg0.N) (y : S512x1024.Idx) : blockHid m c t y = hidden m c (ix2 (rowOf t (y 0)) (y 1)) := by
  unfold blockHid hidden centred
  simp only [in2_eq]
  try rfl

/-- The normalised rows, whole. -/
def normals (c : Dev nD) : Vec Ideal S16384x1024 .f32 := normal (n := 16384) (hidden m c)

/-- The normalised rows of block `t`. -/
def blockNrm (c : Dev nD) (t : Fin cfg0.N) : Vec Ideal S512x1024 .f32 := normal (n := 512) (blockHid m c t)

theorem blockNrm_eq (c : Dev nD) (t : Fin cfg0.N) (y : S512x1024.Idx) : blockNrm m c t y = normals m c (ix2 (rowOf t (y 0)) (y 1)) := by
  unfold blockNrm normals normal scale
  simp only [blockHid_eq]
  try rfl

/-- The rows before the gate, whole. -/
def befores (c : Dev nD) : Vec Ideal S16384x1024 .f32 := affine (n := 16384) (normals m c) (m ((c : Thread nD τ).loc main_arg4)) (m ((c : Thread nD τ).loc main_arg5))

/-- The rows before the gate of block `t`. -/
def blockBef (c : Dev nD) (t : Fin cfg0.N) : Vec Ideal S512x1024 .f32 := affine (n := 512) (blockNrm m c t) (iblk m c 4 t) (iblk m c 5 t)

theorem blockBef_eq (c : Dev nD) (t : Fin cfg0.N) (y : S512x1024.Idx) : blockBef m c t y = befores m c (ix2 (rowOf t (y 0)) (y 1)) := by
  unfold blockBef befores affine
  simp only [in4_eq, in5_eq, blockNrm_eq]
  try rfl

/-- The cotangent of the gated rows, whole. -/
def backs (c : Dev nD) : Vec Ideal S16384x1024 .f32 := back (n := 16384) (φ := .bf16) (ψ := .f32) (m ((c : Thread nD τ).loc main_arg0)) (m ((c : Thread nD τ).loc main_arg1))

/-- The cotangent of the gated rows of block `t`. -/
def blockBck (c : Dev nD) (t : Fin cfg0.N) : Vec Ideal S512x1024 .f32 := back (n := 512) (φ := .bf16) (ψ := .bf16) (iblk m c 0 t) (iblk m c 1 t)

theorem blockBck_eq (c : Dev nD) (t : Fin cfg0.N) (y : S512x1024.Idx) : blockBck m c t y = backs m c (ix2 (rowOf t (y 0)) (y 1)) := by
  unfold blockBck backs back
  simp only [in0_eq, in1_eq]
  try rfl

/-- The gate's gradient, whole. -/
def gates (c : Dev nD) : Vec Ideal S16384x1024 .f32 := siluGrad (n := 16384) (backs m c) (befores m c) (third (m ((c : Thread nD τ).loc main_arg3)))

/-- The gate's gradient of block `t`. -/
def blockGat (c : Dev nD) (t : Fin cfg0.N) : Vec Ideal S512x1024 .f32 := siluGrad (n := 512) (blockBck m c t) (blockBef m c t) (iblk m c 3 t)

theorem blockGat_eq (c : Dev nD) (t : Fin cfg0.N) (y : S512x1024.Idx) : blockGat m c t y = gates m c (ix2 (rowOf t (y 0)) (y 1)) := by
  unfold blockGat gates siluGrad
  simp only [in3_eq, blockBef_eq, blockBck_eq]
  try rfl

/-- The layer norm's cotangent, whole. -/
def mixes (c : Dev nD) : Vec Ideal S16384x1024 .f32 := siluGrad (n := 16384) (backs m c) (third (m ((c : Thread nD τ).loc main_arg3))) (befores m c)

/-- The layer norm's cotangent of block `t`. -/
def blockMix (c : Dev nD) (t : Fin cfg0.N) : Vec Ideal S512x1024 .f32 := siluGrad (n := 512) (blockBck m c t) (iblk m c 3 t) (blockBef m c t)

theorem blockMix_eq (c : Dev nD) (t : Fin cfg0.N) (y : S512x1024.Idx) : blockMix m c t y = mixes m c (ix2 (rowOf t (y 0)) (y 1)) := by
  unfold blockMix mixes siluGrad
  simp only [in3_eq, blockBef_eq, blockBck_eq]
  try rfl

/-- The gradient of the rows before the layer norm, whole. -/
def gradient (c : Dev nD) : Vec Ideal S16384x1024 .f32 := rowGrad (n := 16384) (mixes m c) (normals m c) (scale (n := 16384) (hidden m c)) (m ((c : Thread nD τ).loc main_arg4))

/-- The gradient of the rows before the layer norm of block `t`. -/
def blockGrad (c : Dev nD) (t : Fin cfg0.N) : Vec Ideal S512x1024 .f32 := rowGrad (n := 512) (blockMix m c t) (blockNrm m c t) (scale (n := 512) (blockHid m c t)) (iblk m c 4 t)

theorem blockGrad_eq (c : Dev nD) (t : Fin cfg0.N) (y : S512x1024.Idx) : blockGrad m c t y = gradient m c (ix2 (rowOf t (y 0)) (y 1)) := by
  unfold blockGrad gradient scale rowGrad
  simp only [in4_eq, blockHid_eq, blockNrm_eq, blockMix_eq]
  try rfl

/-- The gradient rows a point writes, and the gate's gradient. -/
theorem rows (c : Dev nD) (t : Fin cfg0.N) (y : S512x1024.Idx) :
    (outsAt0 m c t.val t.isLt).1 y = blockGrad m c t y ∧ (outsAt0 m c t.val t.isLt).2.1 y = blockGat m c t y := by
  have hN := lt_of_lt_of_eq t.isLt N_0
  by_cases h0 : t.val % 32 = 0
  · rw [outsAt0_A m c t h0 (by omega)]
    dsimp only
    rw [block6_A, block7_A]
    exact ⟨rfl, rfl⟩
  · by_cases h2 : t.val % 32 = 31
    · rw [outsAt0_C m c t h0 h2]
      dsimp only
      rw [block6_C, block7_C]
      exact ⟨rfl, rfl⟩
    · rw [outsAt0_B m c t h0 h2]
      dsimp only
      rw [block6_B, block7_B]
      exact ⟨rfl, rfl⟩

end Cert.MixerGradIdeal.Sum

end
-- ==== Proof.Mg.Sums.lean ====
/- The three running sums: after the last point each holds the total over all 16384 rows. -/
module

public import proofs.«01_k».proof.Proof.Mg.Blocks
public import Idealize.ShloMosaic.Lib.Pipeline.Value

@[expose] public section

set_option maxRecDepth 16384

noncomputable section

namespace Cert.MixerGradIdeal.Sum

open Cert.MixerGradIdeal.Gen
open Idealize.ShloMosaic Idealize.ShloMosaic.TcCoe

/-- A sum that grows by one block's eight partial sums a point: what the last point finds and adds. -/
theorem whole (g : (n : ℕ) → n < cfg0.N → Vec Ideal S8x1024 .f32) (f : Fin cfg0.N → Vec Ideal S512x1024 .f32)
    (hz : ∀ (h : 0 < cfg0.N) y, g 0 h y = fold8 (f ⟨0, h⟩) y)
    (hs : ∀ (n : ℕ) (h : n + 1 < cfg0.N) y, n + 1 < 31 → g (n + 1) h y = g n (Nat.lt_of_succ_lt h) y + fold8 (f ⟨n + 1, h⟩) y)
    (h : 31 < cfg0.N) (z : S8x1024.Idx) : g 30 (Nat.lt_of_succ_lt h) z + fold8 (f ⟨31, h⟩) z
      = ∑ s : Fin 32, fold8 (f ⟨s.val, lt_of_lt_of_eq s.isLt N_0.symm⟩) z := by
  have part : ∀ (n : ℕ) (hn : n < cfg0.N) (z : S8x1024.Idx), n < 31 →
      g n hn z = ∑ s : Fin (n + 1), fold8 (f ⟨s.val, Nat.lt_of_le_of_lt (Nat.lt_succ_iff.mp s.isLt) hn⟩) z := by
    intro n
    induction n with
    | zero =>
      intro hn z _
      rw [hz hn z]
      exact (Fin.sum_univ_one (fun s : Fin (0 + 1) => fold8 (f ⟨s.val, Nat.lt_of_le_of_lt (Nat.lt_succ_iff.mp s.isLt) hn⟩) z)).symm
    | succ n ih =>
      intro hn z h31
      rw [hs n hn z h31, ih (Nat.lt_of_succ_lt hn) z (by omega)]
      exact (Fin.sum_univ_castSucc (fun s : Fin (n + 1 + 1) => fold8 (f ⟨s.val, Nat.lt_of_le_of_lt (Nat.lt_succ_iff.mp s.isLt) hn⟩) z)).symm
  rw [part 30 (Nat.lt_of_succ_lt h) z (by decide)]
  exact (Fin.sum_univ_castSucc (fun s : Fin (31 + 1) => fold8 (f ⟨s.val, lt_of_lt_of_eq s.isLt N_0.symm⟩) z)).symm

/-- The eight partial sums of all blocks together are the sum over all rows. -/
theorem allRows (f : Fin cfg0.N → Vec Ideal S512x1024 .f32) (A : Vec Ideal S16384x1024 .f32)
    (hA : ∀ t (y : S512x1024.Idx), f t y = A (ix2 (rowOf t (y 0)) (y 1))) (l : Fin 1024) :
    (∑ q : Fin 8, ∑ s : Fin 32, fold8 (f ⟨s.val, lt_of_lt_of_eq s.isLt N_0.symm⟩) (ix2 q l)) = ∑ r : Fin 16384, A (ix2 r l) := by
  rw [Finset.sum_comm]
  have inner : ∀ s : Fin 32, (∑ q : Fin 8, fold8 (f ⟨s.val, lt_of_lt_of_eq s.isLt N_0.symm⟩) (ix2 q l))
      = ∑ r : Fin 512, A (ix2 (rowOf ⟨s.val, lt_of_lt_of_eq s.isLt N_0.symm⟩ r) l) := by
    intro s
    unfold fold8
    rw [Finset.sum_comm]
    refine (Fin.sum_mul_add_congr fun q r hl => ?_)
    rw [hA]
    refine congrArg A ?_
    blk_ext [rowOf]
  simp only [inner]
  exact Fin.sum_mul_add_congr fun s r hl => congrArg A (by blk_ext [rowOf])

/-- A running sum whose eight rows are added after the last point. -/
theorem running (g : (n : ℕ) → n < cfg0.N → Vec Ideal S8x1024 .f32) (f : Fin cfg0.N → Vec Ideal S512x1024 .f32) (A : Vec Ideal S16384x1024 .f32)
    (hA : ∀ t (y : S512x1024.Idx), f t y = A (ix2 (rowOf t (y 0)) (y 1)))
    (hz : ∀ (h : 0 < cfg0.N) y, g 0 h y = fold8 (f ⟨0, h⟩) y)
    (hs : ∀ (n : ℕ) (h : n + 1 < cfg0.N) y, n + 1 < 31 → g (n + 1) h y = g n (Nat.lt_of_succ_lt h) y + fold8 (f ⟨n + 1, h⟩) y)
    (hl : ∀ (n : ℕ) (h : n + 1 < cfg0.N) y, n + 1 = 31 → g (n + 1) h y = total (fun z => g n (Nat.lt_of_succ_lt h) z + fold8 (f ⟨n + 1, h⟩) z) y)
    (n : ℕ) (h : n < cfg0.N) (h31 : n = 31) (y : S8x1024.Idx) : g n h y = ∑ l : Fin 16384, A (ix2 l (y 1)) := by
  subst h31
  rw [hl 30 h y rfl]
  unfold total
  simp only [whole g f hz hs h]
  exact allRows f A hA (y 1)

variable (m : (ℓ : Loc nD τ sig) → Buf (Elt Ideal) ℓ)

/-- What one point adds. -/
def gainShare (c : Dev nD) (t : Fin cfg0.N) : Vec Ideal S512x1024 .f32 := fun i => blockMix m c t i * blockNrm m c t i

/-- The same over all rows. -/
def gainRows (c : Dev nD) : Vec Ideal S16384x1024 .f32 := fun i => mixes m c i * normals m c i

theorem gain_rows (c : Dev nD) (t : Fin cfg0.N) (y : S512x1024.Idx) : gainShare m c t y = gainRows m c (ix2 (rowOf t (y 0)) (y 1)) := by
  unfold gainShare gainRows
  rw [blockMix_eq, blockNrm_eq]

theorem gain_total (c : Dev nD) (n : ℕ) (h : n < cfg0.N) (h31 : n = 31) (y : S8x1024.Idx) :
    (outsAt0 m c n h).2.2.1 y = ∑ l : Fin 16384, gainRows m c (ix2 l (y 1)) := by
  refine running (fun n hn => (outsAt0 m c n hn).2.2.1) (gainShare m c) (gainRows m c) (gain_rows m c) ?_ ?_ ?_ n h h31 y
  · intro hn y
    beta_reduce
    rw [outsAt0_A m c ⟨0, hn⟩ (Nat.zero_mod _) (by show ¬0 % 32 = 31; decide)]
    dsimp only
    rw [block8_A, zero_add]
    rfl
  · intro n hn y h31
    beta_reduce
    rw [outsAt0_B m c ⟨n + 1, hn⟩ (by show ¬(n + 1) % 32 = 0; omega) (by show ¬(n + 1) % 32 = 31; omega)]
    dsimp only
    rw [block8_B]
    rfl
  · intro n hn y h31
    beta_reduce
    rw [outsAt0_C m c ⟨n + 1, hn⟩ (by show ¬(n + 1) % 32 = 0; omega) (by show (n + 1) % 32 = 31; omega)]
    dsimp only
    rw [block8_C]
    rfl

/-- What one point adds. -/
def biasShare (c : Dev nD) (t : Fin cfg0.N) : Vec Ideal S512x1024 .f32 := blockMix m c t

/-- The same over all rows. -/
def biasRows (c : Dev nD) : Vec Ideal S16384x1024 .f32 := mixes m c

theorem bias_rows (c : Dev nD) (t : Fin cfg0.N) (y : S512x1024.Idx) : biasShare m c t y = biasRows m c (ix2 (rowOf t (y 0)) (y 1)) := by
  unfold biasShare biasRows
  exact blockMix_eq m c t y

theorem bias_total (c : Dev nD) (n : ℕ) (h : n < cfg0.N) (h31 : n = 31) (y : S8x1024.Idx) :
    (outsAt0 m c n h).2.2.2.1 y = ∑ l : Fin 16384, biasRows m c (ix2 l (y 1)) := by
  refine running (fun n hn => (outsAt0 m c n hn).2.2.2.1) (biasShare m c) (biasRows m c) (bias_rows m c) ?_ ?_ ?_ n h h31 y
  · intro hn y
    beta_reduce
    rw [outsAt0_A m c ⟨0, hn⟩ (Nat.zero_mod _) (by show ¬0 % 32 = 31; decide)]
    dsimp only
    rw [block9_A, zero_add]
    rfl
  · intro n hn y h31
    beta_reduce
    rw [outsAt0_B m c ⟨n + 1, hn⟩ (by show ¬(n + 1) % 32 = 0; omega) (by show ¬(n + 1) % 32 = 31; omega)]
    dsimp only
    rw [block9_B]
    rfl
  · intro n hn y h31
    beta_reduce
    rw [outsAt0_C m c ⟨n + 1, hn⟩ (by show ¬(n + 1) % 32 = 0; omega) (by show (n + 1) % 32 = 31; omega)]
    dsimp only
    rw [block9_C]
    rfl

/-- What one point adds. -/
def gateShare (c : Dev nD) (t : Fin cfg0.N) : Vec Ideal S512x1024 .f32 := blockGat m c t

/-- The same over all rows. -/
def gateRows (c : Dev nD) : Vec Ideal S16384x1024 .f32 := gates m c

theorem gate_rows (c : Dev nD) (t : Fin cfg0.N) (y : S512x1024.Idx) : gateShare m c t y = gateRows m c (ix2 (rowOf t (y 0)) (y 1)) := by
  unfold gateShare gateRows
  exact blockGat_eq m c t y

theorem gate_total (c : Dev nD) (n : ℕ) (h : n < cfg0.N) (h31 : n = 31) (y : S8x1024.Idx) :
    (outsAt0 m c n h).2.2.2.2 y = ∑ l : Fin 16384, gateRows m c (ix2 l (y 1)) := by
  refine running (fun n hn => (outsAt0 m c n hn).2.2.2.2) (gateShare m c) (gateRows m c) (gate_rows m c) ?_ ?_ ?_ n h h31 y
  · intro hn y
    beta_reduce
    rw [outsAt0_A m c ⟨0, hn⟩ (Nat.zero_mod _) (by show ¬0 % 32 = 31; decide)]
    dsimp only
    rw [block10_A, zero_add]
    rfl
  · intro n hn y h31
    beta_reduce
    rw [outsAt0_B m c ⟨n + 1, hn⟩ (by show ¬(n + 1) % 32 = 0; omega) (by show ¬(n + 1) % 32 = 31; omega)]
    dsimp only
    rw [block10_B]
    rfl
  · intro n hn y h31
    beta_reduce
    rw [outsAt0_C m c ⟨n + 1, hn⟩ (by show ¬(n + 1) % 32 = 0; omega) (by show (n + 1) % 32 = 31; omega)]
    dsimp only
    rw [block10_C]
    rfl

end Cert.MixerGradIdeal.Sum

end
-- ==== Proof.Mg.Array.lean ====
/- The five arrays after the run. -/
module

public import proofs.«01_k».proof.Proof.Mg.Sums

@[expose] public section

set_option maxRecDepth 16384

noncomputable section

namespace Cert.MixerGradIdeal.Sum

open Cert.MixerGradIdeal.Gen
open Idealize.ShloMosaic Idealize.ShloMosaic.TcCoe

variable (m : (ℓ : Loc nD τ sig) → Buf (Elt Ideal) ℓ)

/-- A total over all rows, written on each of eight rows. -/
def eight (A : Vec Ideal S16384x1024 .f32) : Vec Ideal S8x1024 .f32 := fun y => ∑ l : Fin 16384, A (ix2 l (y 1))

/-- The gradient rows. -/
theorem array6 (c : Dev nD) : (dats m 0 c).arrAt 6 cfg0.N = gradient m c := by
  refine (dats m 0 c).arrAt_eq_of_covers 6 _ (by decide +kernel) fun t hf y => ?_
  blk_simp
  rw [after0_6]
  refine ((rows m c t y).1.trans (blockGrad_eq m c t y)).trans ?_
  refine congrArg (gradient m c) ?_
  obtain ⟨-, -, -, ⟨h0, h1, -, -⟩, -⟩ := rowBlock t
  blk_ext [rowOf, h0, h1]

/-- The gate's gradient, in the last third of the columns. -/
theorem array7 (c : Dev nD) (i : S16384x3072.Idx) (hi : 2048 ≤ (i 1).val) : (dats m 0 c).arrAt 7 cfg0.N i
    = gates m c (ix2 (i 0) ⟨(i 1).val - 2048, by have h : (i 1).val < 3072 := (i 1).isLt; omega⟩) := by
  have e := (dats m 0 c).arrAt_apply_of_coversWhere 7
    (fun i : S16384x3072.Idx => gates m c (ix2 (i 0) ⟨((i 1).val - 2048) % 1024, by omega⟩))
    (P := fun i : S16384x3072.Idx => 2048 ≤ (i 1).val) (fun β => 2 ≤ β (1 : Fin 2)) (by decide +kernel) (fun t hf y => by
      blk_simp
      rw [after0_7]
      refine ((rows m c t y).2.trans (blockGat_eq m c t y)).trans ?_
      refine congrArg (gates m c) (congrArg₂ ix2 ?_ ?_)
      · obtain ⟨-, -, -, ⟨-, -, h0, h1⟩, -⟩ := rowBlock t
        exact Fin.ext (by blk_simp [rowOf, h0, h1]; try (dsimp only; omega))
      · obtain ⟨-, -, -, ⟨-, -, h0, h1⟩, -⟩ := rowBlock t
        have hy : (y 1).val < 1024 := (y 1).isLt
        exact Fin.ext (by blk_simp [h0, h1]; dsimp only; omega)) (fun j => by
      blk_simp [Pipeline.Window.cell_apply]
      omega) i
  rw [e, if_pos hi]
  have h : (i 1).val < 3072 := (i 1).isLt
  exact congrArg (gates m c) (congrArg₂ ix2 rfl (Fin.ext (by dsimp only; omega)))

theorem gain_last (c : Dev nD) (t : Fin cfg0.N) (ht : t.val = 31) (y : S8x1024.Idx) :
    (outsAt0 m c t.val t.isLt).2.2.1 y = eight (gainRows m c) y := by
  exact gain_total m c t.val t.isLt ht y

theorem array8 (c : Dev nD) : (dats m 0 c).arrAt 8 cfg0.N = eight (gainRows m c) := by
  refine (dats m 0 c).arrAt_eq_of_covers 8 _ (by decide +kernel) fun t hf y => ?_
  blk_simp
  rw [after0_8]
  have h := (flush0_8 t).mp hf
  have h' : t.val < 32 := lt_of_lt_of_eq t.isLt N_0
  refine (gain_last m c t (by omega) y).trans (congrArg (eight _) ?_)
  obtain ⟨-, -, -, -, ⟨h0, h1, -, -⟩, -⟩ := rowBlock t
  blk_ext [h0, h1]

theorem bias_last (c : Dev nD) (t : Fin cfg0.N) (ht : t.val = 31) (y : S8x1024.Idx) :
    (outsAt0 m c t.val t.isLt).2.2.2.1 y = eight (biasRows m c) y := by
  exact bias_total m c t.val t.isLt ht y

theorem array9 (c : Dev nD) : (dats m 0 c).arrAt 9 cfg0.N = eight (biasRows m c) := by
  refine (dats m 0 c).arrAt_eq_of_covers 9 _ (by decide +kernel) fun t hf y => ?_
  blk_simp
  rw [after0_9]
  have h := (flush0_9 t).mp hf
  have h' : t.val < 32 := lt_of_lt_of_eq t.isLt N_0
  refine (bias_last m c t (by omega) y).trans (congrArg (eight _) ?_)
  obtain ⟨-, -, -, -, ⟨-, -, h0, h1⟩, -⟩ := rowBlock t
  blk_ext [h0, h1]

theorem gate_last (c : Dev nD) (t : Fin cfg0.N) (ht : t.val = 31) (y : S8x1024.Idx) :
    (outsAt0 m c t.val t.isLt).2.2.2.2 y = eight (gateRows m c) y := by
  exact gate_total m c t.val t.isLt ht y

theorem array10 (c : Dev nD) : (dats m 0 c).arrAt 10 cfg0.N = eight (gateRows m c) := by
  refine (dats m 0 c).arrAt_eq_of_covers 10 _ (by decide +kernel) fun t hf y => ?_
  blk_simp
  rw [after0_10]
  have h := (flush0_10 t).mp hf
  have h' : t.val < 32 := lt_of_lt_of_eq t.isLt N_0
  refine (gate_last m c t (by omega) y).trans (congrArg (eight _) ?_)
  obtain ⟨-, -, -, -, -, ⟨h0, h1⟩⟩ := rowBlock t
  blk_ext [h0, h1]

end Cert.MixerGradIdeal.Sum

end
-- ==== Proof.Mg.Reals.lean ====
/- The derivatives, for arguments that are real numbers. -/
module

public import proofs.«01_k».proof.Proof.Mg.Array

@[expose] public section

set_option maxRecDepth 16384

noncomputable section

namespace Cert.MixerGradIdeal.Sum

open Cert.MixerGradIdeal.Gen
open Idealize.ShloMosaic Idealize.ShloMosaic.TcCoe

/-- Every entry is a real number. -/
def Finite {s : Shape} (x : s.Idx → EReal) : Prop := ∀ i, ∃ r : ℝ, x i = (r : EReal)

/-- Reals add up to a real. -/
theorem coe_sum {n : ℕ} (f : Fin n → ℝ) : ∑ k, (f k : EReal) = ((∑ k, f k : ℝ) : EReal) := by
  induction (Finset.univ : Finset (Fin n)) using Finset.cons_induction with
  | empty => simp
  | cons a t ha ih => rw [Finset.sum_cons, Finset.sum_cons, ih, EReal.coe_add]

theorem finite_sum {n : ℕ} (f : Fin n → EReal) (h : ∀ k, ∃ r : ℝ, f k = (r : EReal)) : ∃ r : ℝ, ∑ k, f k = (r : EReal) := by
  choose g hg using h
  exact ⟨∑ k, g k, (Finset.sum_congr rfl fun k _ => hg k).trans (coe_sum g)⟩

theorem finite_mul {x y : EReal} (hx : ∃ r : ℝ, x = (r : EReal)) (hy : ∃ r : ℝ, y = (r : EReal)) : ∃ r : ℝ, x * y = (r : EReal) := by
  obtain ⟨r, rfl⟩ := hx
  obtain ⟨t, rfl⟩ := hy
  exact ⟨r * t, (EReal.coe_mul r t).symm⟩

theorem finite_add {x y : EReal} (hx : ∃ r : ℝ, x = (r : EReal)) (hy : ∃ r : ℝ, y = (r : EReal)) : ∃ r : ℝ, x + y = (r : EReal) := by
  obtain ⟨r, rfl⟩ := hx
  obtain ⟨t, rfl⟩ := hy
  exact ⟨r + t, (EReal.coe_add r t).symm⟩

theorem finite_sub {x y : EReal} (hx : ∃ r : ℝ, x = (r : EReal)) (hy : ∃ r : ℝ, y = (r : EReal)) : ∃ r : ℝ, x - y = (r : EReal) := by
  obtain ⟨r, rfl⟩ := hx
  obtain ⟨t, rfl⟩ := hy
  exact ⟨r - t, (EReal.coe_sub r t).symm⟩

theorem finite_logistic {x : EReal} (hx : ∃ r : ℝ, x = (r : EReal)) : ∃ r : ℝ, Ideal.logistic x = (r : EReal) := by
  obtain ⟨r, rfl⟩ := hx
  exact ⟨_, Ideal.logistic_coe r⟩

theorem div_real (p q : ℝ) (h : q ≠ 0) : Ideal.div (p : EReal) (q : EReal) = ((p / q : ℝ) : EReal) := by
  rw [Ideal.div_coe h, ← EReal.coe_mul]
  exact congrArg _ (by ring)

theorem bits_one : Ideal.ofBits .f32 0x3F800000#32 = ((1 : ℝ) : EReal) := by
  simp [Ideal.ofBits, Ideal.ieee]
  norm_num [← EReal.coe_mul]

theorem bits_two : Ideal.ofBits .f32 0x40000000#32 = ((2 : ℝ) : EReal) := by
  simp [Ideal.ofBits, Ideal.ieee]
  norm_num [← EReal.coe_mul]

theorem bits_width : Ideal.ofBits .f32 0x44800000#32 = ((1024 : ℝ) : EReal) := by
  simp [Ideal.ofBits, Ideal.ieee]
  norm_num [← EReal.coe_mul]

theorem bits_minus_half : Ideal.ofBits .f32 0xBF000000#32 = ((-1 / 2 : ℝ) : EReal) := by
  simp [Ideal.ofBits, Ideal.ieee]
  norm_num [← EReal.coe_mul, ← EReal.coe_neg]

theorem bits_small : Ideal.ofBits .f32 0x3727C5AC#32 = ((10995116 / 1099511627776 : ℝ) : EReal) := by
  simp [Ideal.ofBits, Ideal.ieee]
  norm_num [← EReal.coe_mul]

/-- The variance of a centred row plus the small constant. -/
def spread {n : ℕ} (d : Vec Ideal (⟨2, ![n, 1024]⟩ : Shape) .f32) (y : (⟨2, ![n, 1]⟩ : Shape).Idx) : Elt Ideal .f32 :=
  Ideal.div (∑ l : Fin 1024, d (ix2 (y 0) l) * d (ix2 (y 0) l)) (Ideal.ofBits .f32 0x44800000#32) + Ideal.ofBits .f32 0x3727C5AC#32

/-- A real row's spread is a positive real. -/
theorem spread_pos (d : Fin 1024 → ℝ) : ∃ v : ℝ, 0 < v ∧
    Ideal.div (∑ l : Fin 1024, (d l : EReal) * (d l : EReal)) (Ideal.ofBits .f32 0x44800000#32) + Ideal.ofBits .f32 0x3727C5AC#32 = (v : EReal) := by
  refine ⟨(∑ l, d l * d l) / 1024 + 10995116 / 1099511627776, ?_, ?_⟩
  · have : 0 ≤ ∑ l, d l * d l := Finset.sum_nonneg fun l _ => mul_self_nonneg _
    positivity
  · simp only [← EReal.coe_mul]
    rw [coe_sum, bits_width, bits_small, div_real _ _ (by norm_num), ← EReal.coe_add]

/-- One over the root of a positive real. -/
theorem root_pos (v : ℝ) (h : 0 < v) : Ideal.rsqrt (v : EReal) = (((Real.sqrt v)⁻¹ : ℝ) : EReal) := by
  rw [Ideal.rsqrt_coe, if_neg (not_lt.2 h.le), if_neg h.ne']

theorem root_cube (v : ℝ) (h : 0 < v) : (Real.sqrt v)⁻¹ / v = (Real.sqrt v)⁻¹ ^ 3 := by
  have hs : 0 < Real.sqrt v := Real.sqrt_pos.2 h
  have e : v = Real.sqrt v ^ 2 := (Real.sq_sqrt h.le).symm
  generalize Real.sqrt v = t at *
  subst e
  field_simp

/-- The derivative of one normalised row, in reals: the chain rule through the deviation and the mean, collected. -/
theorem row_rule (d a : Fin 1024 → ℝ) (s c : ℝ) (hc : c = s ^ 3) (h0 : ∑ k, d k = 0) (l : Fin 1024) :
    a l * s + (∑ k, d k * a k) * (-1 / 2 * c) / 1024 * (2 * d l)
      + (∑ k, -(a k * s + (∑ k, d k * a k) * (-1 / 2 * c) / 1024 * (2 * d k))) / 1024
    = s * ((a l - (∑ k, a k) / 1024) - d l * s * ((∑ k, a k * (d k * s)) / 1024)) := by
  generalize hq : (∑ k, d k * a k) * (-1 / 2 * c) / 1024 = q
  have e1 : ∑ k, -(a k * s + q * (2 * d k)) = -(s * ∑ k, a k) - q * 2 * ∑ k, d k := by
    rw [Finset.mul_sum, Finset.mul_sum, ← Finset.sum_neg_distrib, ← Finset.sum_sub_distrib]
    exact Finset.sum_congr rfl fun k _ => by ring
  have e2 : ∑ k, a k * (d k * s) = s * ∑ k, d k * a k := by
    rw [Finset.mul_sum]
    exact Finset.sum_congr rfl fun k _ => by ring
  rw [e1, e2, h0, ← hq, hc]
  ring

/-- The same with the constants and the quotients as the two programs write them. -/
theorem row_vjp (d a : Fin 1024 → ℝ) (v : ℝ) (hv : 0 < v) (h0 : ∑ k, d k = 0) (l : Fin 1024) :
    (a l : EReal) * Ideal.rsqrt (v : EReal)
        + Ideal.div ((∑ k, (d k : EReal) * (a k : EReal)) * (Ideal.ofBits .f32 0xBF000000#32 * Ideal.div (Ideal.rsqrt (v : EReal)) (v : EReal))) (Ideal.ofBits .f32 0x44800000#32)
          * (Ideal.ofBits .f32 0x40000000#32 * (d l : EReal))
        + Ideal.div (∑ k, -((a k : EReal) * Ideal.rsqrt (v : EReal)
          + Ideal.div ((∑ k, (d k : EReal) * (a k : EReal)) * (Ideal.ofBits .f32 0xBF000000#32 * Ideal.div (Ideal.rsqrt (v : EReal)) (v : EReal))) (Ideal.ofBits .f32 0x44800000#32)
            * (Ideal.ofBits .f32 0x40000000#32 * (d k : EReal)))) (Ideal.ofBits .f32 0x44800000#32)
      = Ideal.rsqrt (v : EReal) * (((a l : EReal) - Ideal.div (∑ k, (a k : EReal)) (Ideal.ofBits .f32 0x44800000#32))
        - (d l : EReal) * Ideal.rsqrt (v : EReal) * Ideal.div (∑ k, (a k : EReal) * ((d k : EReal) * Ideal.rsqrt (v : EReal))) (Ideal.ofBits .f32 0x44800000#32)) := by
  have hw (p : ℝ) : Ideal.div (p : EReal) ((1024 : ℝ) : EReal) = ((p / 1024 : ℝ) : EReal) := div_real p 1024 (by norm_num)
  have hd (p : ℝ) : Ideal.div (p : EReal) (v : EReal) = ((p / v : ℝ) : EReal) := div_real p v hv.ne'
  rw [root_pos v hv, bits_width, bits_minus_half, bits_two]
  simp only [← EReal.coe_mul, ← EReal.coe_add, ← EReal.coe_sub, ← EReal.coe_neg, coe_sum, hw, hd]
  exact congrArg _ (row_rule d a _ _ (root_cube v hv) h0 l)

section
variable {n : ℕ} {u a p q : Vec Ideal (⟨2, ![n, 1024]⟩ : Shape) .f32} {g b : Vec Ideal S1x1024 .f32}

theorem finite_back {φ ψ : FTy} {x : FVec Ideal (⟨2, ![n, 1024]⟩ : Shape) φ} {w : FVec Ideal S1024x1024 ψ} (hx : Finite (s := ⟨2, ![n, 1024]⟩) x)
    (hw : Finite (s := S1024x1024) w) : Finite (s := ⟨2, ![n, 1024]⟩) (back x w) :=
  fun _ => finite_sum _ fun _ => finite_mul (hx _) (hw _)

theorem finite_centred (hu : Finite (s := ⟨2, ![n, 1024]⟩) u) : Finite (s := ⟨2, ![n, 1024]⟩) (centred u) := by
  intro y
  refine finite_sub (hu y) ?_
  obtain ⟨t, ht⟩ := finite_sum (fun l : Fin 1024 => u (ix2 (y 0) l)) fun _ => hu _
  exact ⟨t / 1024, by rw [ht, bits_width, div_real _ _ (by norm_num)]⟩

theorem finite_scale (hu : Finite (s := ⟨2, ![n, 1024]⟩) u) : Finite (s := ⟨2, ![n, 1]⟩) (scale u) := by
  intro y
  choose d hd using fun l : Fin 1024 => hu (ix2 (y 0) l)
  obtain ⟨v, hv, e⟩ := spread_pos d
  refine ⟨(Real.sqrt v)⁻¹, ?_⟩
  unfold scale
  simp only [hd]
  rw [e, root_pos v hv]

theorem finite_normal (hu : Finite (s := ⟨2, ![n, 1024]⟩) u) : Finite (s := ⟨2, ![n, 1024]⟩) (normal u) :=
  fun _ => finite_mul (hu _) (finite_scale hu _)

theorem finite_affine (hu : Finite (s := ⟨2, ![n, 1024]⟩) u) (hg : Finite (s := S1x1024) g) (hb : Finite (s := S1x1024) b) :
    Finite (s := ⟨2, ![n, 1024]⟩) (affine u g b) :=
  fun _ => finite_add (finite_mul (hu _) (hg _)) (hb _)

theorem finite_silu (ha : Finite (s := ⟨2, ![n, 1024]⟩) a) (hp : Finite (s := ⟨2, ![n, 1024]⟩) p) (hq : Finite (s := ⟨2, ![n, 1024]⟩) q) :
    Finite (s := ⟨2, ![n, 1024]⟩) (siluGrad a p q) :=
  fun y => finite_mul (finite_mul (ha y) (finite_mul (hp y) (finite_logistic (hp y))))
    (finite_mul (finite_logistic (hq y)) (finite_add ⟨1, bits_one⟩ (finite_mul (hq y) (finite_sub ⟨1, bits_one⟩ (finite_logistic (hq y))))))

/-- The derivative of the gate as the product rule writes it. -/
theorem silu_rule (ha : Finite (s := ⟨2, ![n, 1024]⟩) a) (hp : Finite (s := ⟨2, ![n, 1024]⟩) p) (hq : Finite (s := ⟨2, ![n, 1024]⟩) q)
    (y : (⟨2, ![n, 1024]⟩ : Shape).Idx) : siluGrad a p q y = a y * (p y * Ideal.logistic (p y)) * Ideal.logistic (q y)
      + q y * (a y * (p y * Ideal.logistic (p y))) * (Ideal.logistic (q y) * (Ideal.ofBits .f32 0x3F800000#32 - Ideal.logistic (q y))) := by
  unfold siluGrad
  obtain ⟨t, ht⟩ := finite_mul (ha y) (finite_mul (hp y) (finite_logistic (hp y)))
  obtain ⟨l, hl⟩ := finite_logistic (hq y)
  obtain ⟨v, hv⟩ := hq y
  rw [ht, hl, hv, bits_one]
  simp only [← EReal.coe_sub, ← EReal.coe_mul, ← EReal.coe_add]
  exact congrArg _ (by ring)

/-- A centred real row adds up to zero. -/
theorem centred_zero (x : Fin 1024 → ℝ) : ∑ k, (x k - (∑ l, x l) / 1024) = 0 := by
  rw [Finset.sum_sub_distrib]
  simp
  ring

/-- What the chain rule carries through the deviation of row `y`. -/
def through (a u : Vec Ideal (⟨2, ![n, 1024]⟩ : Shape) .f32) (g : Vec Ideal S1x1024 .f32) (r : Fin n) : EReal :=
  Ideal.div ((∑ k : Fin 1024, centred u (ix2 r k) * (a (ix2 r k) * g (ix2 0 k)))
    * (Ideal.ofBits .f32 0xBF000000#32 * Ideal.div (scale (centred u) (ix2 r 0)) (spread (centred u) (ix2 r 0)))) (Ideal.ofBits .f32 0x44800000#32)

/-- The chain rule through the deviation, before the mean. -/
def inner (a u : Vec Ideal (⟨2, ![n, 1024]⟩ : Shape) .f32) (g : Vec Ideal S1x1024 .f32) (r : Fin n) (l : Fin 1024) : EReal :=
  a (ix2 r l) * g (ix2 0 l) * scale (centred u) (ix2 r 0) + through a u g r * (Ideal.ofBits .f32 0x40000000#32 * centred u (ix2 r l))

/-- The layer norm's derivative as the chain rule writes it. -/
theorem grad_rule (hu : Finite (s := ⟨2, ![n, 1024]⟩) u) (ha : Finite (s := ⟨2, ![n, 1024]⟩) a) (hg : Finite (s := S1x1024) g) (r : Fin n) (l : Fin 1024) :
    rowGrad a (normal (centred u)) (scale (centred u)) g (ix2 r l)
      = inner a u g r l + Ideal.div (∑ k : Fin 1024, -inner a u g r k) (Ideal.ofBits .f32 0x44800000#32) := by
  choose x hx using fun k : Fin 1024 => hu (ix2 r k)
  choose t ht using fun k : Fin 1024 => finite_mul (ha (ix2 r k)) (hg (ix2 0 k))
  have hd (k : Fin 1024) : centred u (ix2 r k) = ((x k - (∑ l, x l) / 1024 : ℝ) : EReal) := by
    show u (ix2 r k) - Ideal.div (∑ l : Fin 1024, u (ix2 r l)) (Ideal.ofBits .f32 0x44800000#32) = _
    simp only [hx]
    rw [coe_sum, bits_width, div_real _ _ (by norm_num), ← EReal.coe_sub]
  obtain ⟨v, hv, e⟩ := spread_pos fun k => x k - (∑ l, x l) / 1024
  have hs : spread (centred u) (ix2 r 0) = (v : EReal) := by
    show Ideal.div (∑ l : Fin 1024, centred u (ix2 r l) * centred u (ix2 r l)) _ + _ = _
    simp only [hd]
    exact e
  have hr : scale (centred u) (ix2 r 0) = Ideal.rsqrt (v : EReal) := congrArg Ideal.rsqrt hs
  refine Eq.trans ?_ (Eq.trans (row_vjp (fun k => x k - (∑ l, x l) / 1024) t v hv (centred_zero x) l).symm ?_)
  · show scale (centred u) (ix2 r 0) * ((a (ix2 r l) * g (ix2 0 l) - Ideal.div (∑ k : Fin 1024, a (ix2 r k) * g (ix2 0 k)) _)
      - centred u (ix2 r l) * scale (centred u) (ix2 r 0) * Ideal.div (∑ k : Fin 1024, a (ix2 r k) * g (ix2 0 k) * (centred u (ix2 r k) * scale (centred u) (ix2 r 0))) _) = _
    simp only [hr, hd, ht]
  · unfold inner through
    simp only [hs, hr, hd, ht]
end

end Cert.MixerGradIdeal.Sum

end
-- ==== Proof.Mg.Reference.lean ====
/- What the reference computes: the chain rule's rows, which on real arguments are the kernel's. -/
module

public import proofs.«01_k».proof.Proof.Mg.Reals
public import proofs.«01_k».proof.Proof.Gen.MixerGradReferenceIdeal.Read
public import Idealize.ShloMosaic.Lib.KernelVsHost

@[expose] public section

set_option maxRecDepth 16384

noncomputable section

namespace Cert.MixerGradIdeal.Sum

open Cert.MixerGradIdeal.Gen
open Idealize.ShloMosaic Idealize.ShloMosaic.TcCoe
open Cert.MixerGradReferenceIdeal.Read

/-- A sum with the zero it starts from. -/
theorem from_zero (x : EReal) : (FloatOps.ofBits (F := Ideal) .f32 0x00000000#32 : EReal) + x = x :=
  (congrArg (· + x) Ideal.ofBits_zero_f32).trans (zero_add x)

/-- The gate function as the reference writes it. -/
theorem logistic_ref (x : EReal) : Ideal.div (FloatOps.ofBits (F := Ideal) .f32 0x3F800000#32) ((FloatOps.ofBits (F := Ideal) .f32 0x3F800000#32 : EReal) + Ideal.exp (-x)) = Ideal.logistic x := by
  rw [show (FloatOps.ofBits (F := Ideal) .f32 0x3F800000#32) = 1 from Ideal.ofBits_one_f32]
  rfl

variable (x0 : Vec Ideal S16384x1024 .bf16) (x1 : Vec Ideal S1024x1024 .f32) (x2 : Vec Ideal S16384x1024 .f32) (x3 : Vec Ideal S16384x3072 .f32)
  (x4 x5 : Vec Ideal S1x1024 .f32)

/-- The reference's normalised rows. -/
def norms : Vec Ideal S16384x1024 .f32 := normal (centred (n := 16384) x2)

/-- The reference's rows before the gate. -/
def befs : Vec Ideal S16384x1024 .f32 := affine (n := 16384) (norms x2) x4 x5

/-- The reference's cotangent of the gated rows. -/
def bcks : Vec Ideal S16384x1024 .f32 := back (n := 16384) (φ := .bf16) (ψ := .f32) x0 x1

/-- The reference's cotangent of the layer norm. -/
def mixs : Vec Ideal S16384x1024 .f32 := siluGrad (n := 16384) (bcks x0 x1) (third x3) (befs x2 x4 x5)

/-- The reference's cotangent of the gate. -/
def gats : Vec Ideal S16384x1024 .f32 := siluGrad (n := 16384) (bcks x0 x1) (befs x2 x4 x5) (third x3)

theorem third_ref : val_main_v0 (F := Ideal) x3 = third x3 := by
  funext i
  rw [val_main_v0_apply]
  unfold third colOf
  refine congrArg x3 ?_
  blk_ext

theorem centred_ref : val_main_v6 (F := Ideal) x2 = centred (n := 16384) x2 := by
  funext i
  rw [val_main_v6_apply, val_main_v5_apply, val_main_v4_apply, val_main_v3_apply, val_main_cst_0_apply, val_main_v2_apply, val_main_v1_apply,
    val_main_cst_apply, from_zero]
  unfold centred
  refine congrArg₂ (· - ·) rfl (congrArg₂ Ideal.div (Finset.sum_congr rfl fun l _ => congrArg _ ?_) rfl)
  blk_ext

theorem spread_ref : val_main_v15 (F := Ideal) x2 = spread (centred (n := 16384) x2) := by
  funext i
  rw [val_main_v15_apply, val_main_v14_apply, val_main_cst_4_apply, val_main_v13_apply, val_main_v12_apply, val_main_cst_3_apply,
    val_main_v11_apply, val_main_v10_apply, val_main_cst_2_apply, from_zero]
  simp only [val_main_v7_apply, centred_ref]
  unfold spread
  refine congrArg₂ (· + ·) (congrArg₂ Ideal.div (Finset.sum_congr rfl fun l _ => congrArg₂ (· * ·) (congrArg _ ?_) (congrArg _ ?_)) rfl) rfl <;>
    blk_ext

theorem scale_ref : val_main_v16 (F := Ideal) x2 = scale (centred (n := 16384) x2) := by
  funext i
  rw [val_main_v16_apply, spread_ref]
  rfl

theorem normal_ref : val_main_v21 (F := Ideal) x2 = norms x2 := by
  funext i
  rw [val_main_v21_apply, val_main_v20_apply, scale_ref, centred_ref]
  unfold norms normal
  refine congrArg₂ (· * ·) rfl (congrArg _ ?_)
  blk_ext

theorem affine_ref : val_main_v25 (F := Ideal) x2 x4 x5 = befs x2 x4 x5 := by
  funext i
  rw [val_main_v25_apply, val_main_v24_apply, val_main_v23_apply, val_main_v22_apply, normal_ref]
  unfold befs affine
  refine congrArg₂ (· + ·) (congrArg₂ (· * ·) rfl (congrArg x4 ?_)) (congrArg x5 ?_) <;> blk_ext

theorem before_logistic (i : S16384x1024.Idx) : val_main_v31 (F := Ideal) x2 x4 x5 i = Ideal.logistic (befs x2 x4 x5 i) := by
  rw [val_main_v31_apply, val_main_v30_apply, val_main_cst_7_apply, val_main_v29_apply, val_main_v28_apply, val_main_cst_6_apply, val_main_v27_apply,
    val_main_v26_apply, affine_ref]
  exact logistic_ref _

theorem gate_logistic (i : S16384x1024.Idx) : val_main_v41 (F := Ideal) x3 i = Ideal.logistic (third x3 i) := by
  rw [val_main_v41_apply, val_main_v40_apply, val_main_cst_10_apply, val_main_v39_apply, val_main_v38_apply, val_main_cst_9_apply, val_main_v37_apply,
    val_main_v36_apply, third_ref]
  exact logistic_ref _

theorem back_ref : val_main_v49 (F := Ideal) x0 x1 = bcks x0 x1 := by
  funext i
  rw [val_main_v49_apply]
  unfold bcks back
  refine Finset.sum_congr rfl fun k _ => congrArg₂ (· * ·) ?_ (congrArg x1 ?_)
  · rw [val_main_v48_apply]
    refine congrArg x0 ?_
    blk_ext
  · blk_ext

section
variable (h0 : Finite (s := S16384x1024) x0) (h1 : Finite (s := S1024x1024) x1) (h2 : Finite (s := S16384x1024) x2) (h3 : Finite (s := S16384x3072) x3)
  (h4 : Finite (s := S1x1024) x4) (h5 : Finite (s := S1x1024) x5)
include h0 h1 h2 h3 h4 h5

theorem finite_mixs : Finite (s := S16384x1024) (mixs x0 x1 x2 x3 x4 x5) :=
  finite_silu (finite_back (φ := .bf16) (ψ := .f32) h0 h1) (fun _ => h3 _) (finite_affine (finite_normal (finite_centred h2)) h4 h5)

theorem gate_ref : val_main_v55 (F := Ideal) x0 x1 x2 x3 x4 x5 = gats x0 x1 x2 x3 x4 x5 := by
  funext i
  refine Eq.trans ?_ (silu_rule (finite_back (φ := .bf16) (ψ := .f32) h0 h1) (finite_affine (finite_normal (finite_centred h2)) h4 h5) (fun _ => h3 _) i).symm
  rw [val_main_v55_apply, val_main_v54_apply, val_main_v53_apply, val_main_v52_apply, val_main_v50_apply, val_main_v44_apply, val_main_v43_apply,
    val_main_v42_apply, val_main_cst_11_apply, val_main_v35_apply, back_ref, third_ref, affine_ref, gate_logistic, before_logistic]
  exact congrArg (fun t : EReal => t * Ideal.logistic (third x3 i)
    + third x3 i * t * (Ideal.logistic (third x3 i) * (Ideal.ofBits .f32 0x3F800000#32 - Ideal.logistic (third x3 i)))) (mul_comm _ _)

theorem mix_ref : val_main_v59 (F := Ideal) x0 x1 x2 x3 x4 x5 = mixs x0 x1 x2 x3 x4 x5 := by
  funext i
  refine Eq.trans ?_ (silu_rule (finite_back (φ := .bf16) (ψ := .f32) h0 h1) (fun _ => h3 _) (finite_affine (finite_normal (finite_centred h2)) h4 h5) i).symm
  rw [val_main_v59_apply, val_main_v58_apply, val_main_v57_apply, val_main_v56_apply, val_main_v51_apply, val_main_v45_apply, val_main_v34_apply,
    val_main_v33_apply, val_main_v32_apply, val_main_cst_8_apply, back_ref, third_ref, affine_ref, gate_logistic, before_logistic]
  rfl

theorem gained_ref (i : S16384x1024.Idx) : val_main_v66 (F := Ideal) x0 x1 x2 x3 x4 x5 i = mixs x0 x1 x2 x3 x4 x5 i * x4 (ix2 0 (i 1)) := by
  rw [val_main_v66_apply, val_main_v65_apply, mix_ref x0 x1 x2 x3 x4 x5 h0 h1 h2 h3 h4 h5]
  refine congrArg₂ (· * ·) rfl (congrArg x4 ?_)
  blk_ext

theorem through_ref (i : S16384x1024.Idx) : val_main_v76 (F := Ideal) x0 x1 x2 x3 x4 x5 i = through (mixs x0 x1 x2 x3 x4 x5) x2 x4 (i 0) := by
  rw [val_main_v76_apply, val_main_v75_apply, val_main_cst_16_apply, from_zero, Fin.sum_univ_one, val_main_v74_apply, val_main_v73_apply,
    val_main_cst_15_apply, val_main_v72_apply, val_main_v69_apply, val_main_v68_apply, val_main_cst_14_apply, from_zero, val_main_v19_apply,
    val_main_v18_apply, val_main_cst_5_apply, val_main_v17_apply, scale_ref, spread_ref]
  simp only [val_main_v67_apply, centred_ref, gained_ref x0 x1 x2 x3 x4 x5 h0 h1 h2 h3 h4 h5]
  unfold through
  refine congrArg₂ Ideal.div (congrArg₂ (· * ·) (Finset.sum_congr rfl fun k _ => congrArg₂ (· * ·) (congrArg _ ?_) (congrArg₂ (· * ·) (congrArg _ ?_) (congrArg x4 ?_)))
    (congrArg₂ (· * ·) rfl (congrArg₂ Ideal.div (congrArg _ ?_) (congrArg _ ?_)))) rfl <;> blk_ext

theorem inner_ref (i : S16384x1024.Idx) : val_main_v78 (F := Ideal) x0 x1 x2 x3 x4 x5 i = inner (mixs x0 x1 x2 x3 x4 x5) x2 x4 (i 0) (i 1) := by
  rw [val_main_v78_apply, val_main_v77_apply, val_main_v71_apply, val_main_v70_apply, val_main_v9_apply, val_main_v8_apply, val_main_cst_1_apply, scale_ref,
    centred_ref, gained_ref x0 x1 x2 x3 x4 x5 h0 h1 h2 h3 h4 h5, through_ref x0 x1 x2 x3 x4 x5 h0 h1 h2 h3 h4 h5]
  unfold inner
  refine congrArg₂ (· + ·) (congrArg₂ (· * ·) (congrArg₂ (· * ·) (congrArg _ ?_) rfl) (congrArg _ ?_)) (congrArg₂ (· * ·) rfl (congrArg₂ (· * ·) rfl (congrArg _ ?_))) <;>
    blk_ext

/-- The reference's first result. -/
theorem grad_ref : val_main_v86 (F := Ideal) x0 x1 x2 x3 x4 x5
    = rowGrad (mixs x0 x1 x2 x3 x4 x5) (norms x2) (scale (centred (n := 16384) x2)) x4 := by
  funext i
  obtain ⟨r, l, rfl⟩ : ∃ (r : Fin 16384) (l : Fin 1024), i = ix2 r l := ⟨i 0, i 1, (ix2_eta i).symm⟩
  refine Eq.trans ?_ (grad_rule h2 (finite_mixs x0 x1 x2 x3 x4 x5 h0 h1 h2 h3 h4 h5) h4 r l).symm
  rw [val_main_v86_apply, val_main_v85_apply, val_main_v84_apply, val_main_cst_19_apply, from_zero, Fin.sum_univ_one, val_main_v83_apply, val_main_v82_apply,
    val_main_cst_18_apply, val_main_v81_apply, val_main_v80_apply, val_main_cst_17_apply, from_zero]
  have key (k : Fin 1024) : idx_main_v80 (idx_main_v81 (idx_main_v84 (idx_main_v85 (ix2 r l : S16384x1024.Idx)) 0)) k = (ix2 r k : S16384x1024.Idx) := by
    blk_ext
  refine congrArg₂ (· + ·) (inner_ref x0 x1 x2 x3 x4 x5 h0 h1 h2 h3 h4 h5 _) (congrArg₂ Ideal.div (Finset.sum_congr rfl fun k _ => ?_) rfl)
  rw [val_main_v79_apply, key, inner_ref x0 x1 x2 x3 x4 x5 h0 h1 h2 h3 h4 h5]
  rfl

/-- The reference's second result in the last third of its columns. -/
theorem hidden_ref (i : S16384x3072.Idx) (hi : 2048 ≤ (i 1).val) : val_main_v88 (F := Ideal) x0 x1 x2 x3 x4 x5 i
    = gats x0 x1 x2 x3 x4 x5 (ix2 (i 0) ⟨(i 1).val - 2048, by have h : (i 1).val < 3072 := (i 1).isLt; omega⟩) := by
  have b1 : (i 1).val < 3072 := (i 1).isLt
  have b0 : (i 0).val < 16384 := (i 0).isLt
  unfold val_main_v88
  rw [pad_apply_of_inside _ _ _ _ _ _ _ i (ix2 (i 0) (⟨(i 1).val - 2048, by omega⟩ : Fin 1024) : S16384x1024.Idx) (fun b => by
    match b with
    | 0 => exact (show (i 0).val = 0 + (i 0).val * (0 + 1) by omega)
    | 1 => exact (show (i 1).val = 2048 + ((i 1).val - 2048) * (0 + 1) by omega)), val_main_v87_apply, gate_ref x0 x1 x2 x3 x4 x5 h0 h1 h2 h3 h4 h5]
  rfl

/-- The gain's gradient on eight rows. -/
theorem gain_ref : val_main_v89 (F := Ideal) x0 x1 x2 x3 x4 x5 = eight (fun i => mixs x0 x1 x2 x3 x4 x5 i * norms x2 i) := by
  funext i
  rw [val_main_v89_apply, val_main_v64_apply, val_main_v63_apply, val_main_cst_13_apply, from_zero]
  refine Finset.sum_congr rfl fun l _ => ?_
  rw [val_main_v62_apply, normal_ref, mix_ref x0 x1 x2 x3 x4 x5 h0 h1 h2 h3 h4 h5]
  refine (mul_comm _ _).trans (congrArg₂ (· * ·) (congrArg _ ?_) (congrArg _ ?_)) <;> blk_ext

/-- The bias's gradient on eight rows. -/
theorem bias_ref : val_main_v90 (F := Ideal) x0 x1 x2 x3 x4 x5 = eight (mixs x0 x1 x2 x3 x4 x5) := by
  funext i
  rw [val_main_v90_apply, val_main_v61_apply, val_main_v60_apply, val_main_cst_12_apply, from_zero]
  refine Finset.sum_congr rfl fun l _ => ?_
  rw [mix_ref x0 x1 x2 x3 x4 x5 h0 h1 h2 h3 h4 h5]
  refine congrArg _ ?_
  blk_ext

/-- The gate's sum on eight rows. -/
theorem gates_ref : val_main_v93 (F := Ideal) x0 x1 x2 x3 x4 x5 = eight (gats x0 x1 x2 x3 x4 x5) := by
  funext i
  rw [val_main_v93_apply, val_main_v92_apply, val_main_v91_apply, val_main_cst_20_apply, from_zero]
  refine Finset.sum_congr rfl fun l _ => ?_
  rw [gate_ref x0 x1 x2 x3 x4 x5 h0 h1 h2 h3 h4 h5]
  refine congrArg _ ?_
  blk_ext
end

end Cert.MixerGradIdeal.Sum

end
-- ==== Proof.Mg.Pre.lean ====
/- The precondition: every entry of the six arguments is a real number. -/
module

public import proofs.«01_k».proof.Proof.Mg.Array
public import proofs.«01_k».proof.Proof.Mg.Reals
public import proofs.«01_k».proof.Proof.Gen.Pre_mixer_finite
public import proofs.«01_k».proof.Proof.Gen.On_mixer_written
public import proofs.«01_k».proof.Defs
public import Idealize.ShloMosaic.Lib.ReduceAll

@[expose] public section

set_option maxRecDepth 16384

noncomputable section

namespace Cert.MixerGradIdeal.Sum

open Idealize.ShloMosaic Idealize.ShloMosaic.TcCoe Idealize.SL.Sem

/-- A number whose absolute value is below the largest is real. -/
theorem real_of_abs (x : EReal) (h : max x (-x) < ⊤) : ∃ r : ℝ, x = r := by
  induction x using EReal.rec with
  | bot => simp at h
  | coe r => exact ⟨r, rfl⟩
  | top => simp at h

/-- The pattern of infinity. -/
theorem top_word : (FloatOps.ofBits (F := Ideal) .f32 0x7F800000#32) = (⊤ : EReal) := by
  show Ideal.ofBits .f32 0x7F800000#32 = ⊤
  simp [Ideal.ofBits, Ideal.ieee]

/-- One comparison that came out true. -/
theorem real_of_bit (x : EReal) (h : FloatOps.cmpf (F := Ideal) (φ := .f32) .olt (max x (-x)) (FloatOps.ofBits (F := Ideal) .f32 0x7F800000#32) = 1#1) : ∃ r : ℝ, x = r := by
  refine real_of_abs x ?_
  rw [top_word] at h
  by_contra hn
  have h : BitVec.ofBool (decide (max x (-x) < (⊤ : EReal))) = 1#1 := h
  rw [decide_eq_false hn] at h
  exact absurd h (by decide)

/-- What the precondition says of one device's arrays. -/
theorem finite_of_fn (a : Vec Ideal Cert.Pre_mixer_finite.S16384x1024 .bf16) (w : Vec Ideal Cert.Pre_mixer_finite.S1024x1024 .f32)
    (u : Vec Ideal Cert.Pre_mixer_finite.S16384x1024 .f32) (z : Vec Ideal Cert.Pre_mixer_finite.S16384x3072 .f32) (g b : Vec Ideal Cert.Pre_mixer_finite.S1x1024 .f32)
    (h : Cert.Pre_mixer_finite.fn (F := Ideal) a w u z g b = fun _ => 1#1) :
    Finite (s := Cert.Pre_mixer_finite.S16384x1024) a ∧ Finite (s := Cert.Pre_mixer_finite.S1024x1024) w ∧ Finite (s := Cert.Pre_mixer_finite.S16384x1024) u
      ∧ Finite (s := Cert.Pre_mixer_finite.S16384x3072) z ∧ Finite (s := Cert.Pre_mixer_finite.S1x1024) g ∧ Finite (s := Cert.Pre_mixer_finite.S1x1024) b := by
  have h := congrFun h (fun b => b.elim0)
  unfold Cert.Pre_mixer_finite.fn Cert.Pre_mixer_finite.fn_part1 at h
  obtain ⟨h, hb⟩ := IntOp.andi_eq_one.1 h
  obtain ⟨h, hg⟩ := IntOp.andi_eq_one.1 h
  obtain ⟨h, hz⟩ := IntOp.andi_eq_one.1 h
  obtain ⟨h, hu⟩ := IntOp.andi_eq_one.1 h
  obtain ⟨ha, hw⟩ := IntOp.andi_eq_one.1 h
  exact ⟨fun i => real_of_bit _ (Host.reduce_andi_all _ _ _ _ _ ha i), fun i => real_of_bit _ (Host.reduce_andi_all _ _ _ _ _ hw i),
    fun i => real_of_bit _ (Host.reduce_andi_all _ _ _ _ _ hu i), fun i => real_of_bit _ (Host.reduce_andi_all _ _ _ _ _ hz i),
    fun i => real_of_bit _ (Host.reduce_andi_all _ _ _ _ _ hg i), fun i => real_of_bit _ (Host.reduce_andi_all _ _ _ _ _ hb i)⟩

/-- A small number's word reads back. -/
theorem word_toInt (n : ℕ) (hn : n < 4096) : (BitVec.ofNat 32 n).toInt = n := by
  have h : (BitVec.ofNat 32 n).toNat = n := by rw [BitVec.toNat_ofNat]; omega
  rw [BitVec.toInt_eq_toNat_of_lt (by omega), h]

/-- The columns the comparison takes: the last third. -/
theorem written_columns (a : Vec Ideal Cert.On_mixer_written.S16384x1024 .bf16) (w : Vec Ideal Cert.On_mixer_written.S1024x1024 .f32)
    (u : Vec Ideal Cert.On_mixer_written.S16384x1024 .f32) (z : Vec Ideal Cert.On_mixer_written.S16384x3072 .f32) (g b : Vec Ideal Cert.On_mixer_written.S1x1024 .f32)
    (i : Cert.On_mixer_written.S16384x3072.Idx) (h : (Cert.On_mixer_written.fn (F := Ideal) a w u z g b).2.1 i = 1#1) : 2048 ≤ (i 1).val := by
  have hi : (i 1).val < 4096 := lt_trans (i 1).isLt (show 3072 < 4096 by norm_num)
  have h : IntOp.cmpi .sge (BitVec.ofNat 32 (i 1).val) 2048#32 = 1#1 := h
  have h : BitVec.ofBool (BitVec.sle 2048#32 (BitVec.ofNat 32 (i 1).val)) = 1#1 := h
  by_contra hn
  have e : BitVec.sle 2048#32 (BitVec.ofNat 32 (i 1).val) = false := by
    rw [BitVec.sle_eq_decide, decide_eq_false_iff_not, word_toInt _ hi]
    have : (2048#32 : BitVec 32).toInt = 2048 := by decide
    omega
  rw [e] at h
  exact absurd h (by decide)

end Cert.MixerGradIdeal.Sum

end
-- ==== Proof.Mg.Claims.lean ====
/- The claims about the gate's backward in front of the convolution's projection. -/
module

public import proofs.«01_k».proof.Defs
public import proofs.«01_k».proof.Proof.Mg.Array
public import proofs.«01_k».proof.Proof.Mg.Reference
public import proofs.«01_k».proof.Proof.Mg.Pre
public import proofs.«01_k».proof.Proof.Gen.MixerGrad.Frame
public import proofs.«01_k».proof.Proof.Gen.MixerGradIdeal.Value
public import proofs.«01_k».proof.Proof.Gen.MixerGradReferenceIdeal.Run
public import Idealize.ShloMosaic.Lib.Quiescent

@[expose] public section

noncomputable section

namespace Cert.MixerGradIdeal.Sum

open Idealize.ShloMosaic Idealize.ShloMosaic.TcCoe Idealize.SL.Sem

/-- The kernel's frame. -/
theorem frame_kernel : Cert.quiescent_MixerGrad := fun m ρ _ => Cert.MixerGrad.Gen.frame m ρ

/-- Its idealization's frame. -/
theorem frame_kernel_ideal : Cert.quiescent_MixerGradIdeal := fun m ρ _ => Cert.MixerGradIdeal.Gen.frame m ρ

/-- The same under the precondition, which it does not need. -/
theorem frame_kernel_finite : Cert.quiescent_MixerGradIdeal_pre_mixer_finite := fun m ρ _ => Cert.MixerGradIdeal.Gen.frame m ρ

/-- The reference's frame. -/
theorem frame_reference : Cert.quiescent_MixerGradReferenceIdeal := fun m ρ _ =>
  (θ_run Cert.MixerGradReferenceIdeal.defs _ _).mono (fun r h => ⟨fun c => (h c).2.2.2.2.2,
      Idealize.ShloMosaic.sem_eq_zero_of_no_sems (by decide) r.2⟩)
    (Cert.MixerGradReferenceIdeal.Value.run (F := Ideal) m ρ)

/-- The same under the precondition, which it does not need. -/
theorem frame_reference_finite : Cert.quiescent_MixerGradReferenceIdeal_pre_mixer_finite := fun m ρ _ => frame_reference m ρ trivial

/-- Nothing was rewritten. -/
theorem preserves : Cert.preserves_MixerGrad_MixerGradIdeal := trivial

set_option maxHeartbeats 1000000 in
/-- On real arguments both programs end with the same arrays, the second where it is written. -/
theorem algebraic : Cert.algebraic_MixerGradIdeal_MixerGradReferenceIdeal_on_mixer_written_pre_mixer_finite := by
  intro m ρ m' ρ' hpre hagree
  refine ⟨_, _, _, _, _, (θ_run Cert.MixerGradIdeal.defs _ _).mono (fun _ h c => ⟨fun i _ => congrFun (h c).1 i, fun i _ => congrFun (h c).2.1 i,
    fun i _ => congrFun (h c).2.2.1 i, fun i _ => congrFun (h c).2.2.2.1 i, fun i _ => congrFun (h c).2.2.2.2.1 i, (h c).2.2.2.2.2⟩)
    (Cert.MixerGradIdeal.Value.run_blocks (F := Ideal) m ρ), ?_⟩
  refine (θ_run Cert.MixerGradReferenceIdeal.defs _ _).mono (fun _ h c => ⟨fun i _ => (congrFun (h c).1 i).trans (congrFun ?_ i),
    fun i hi => (congrFun (h c).2.1 i).trans ?_, fun i _ => (congrFun (h c).2.2.1 i).trans (congrFun ?_ i),
    fun i _ => (congrFun (h c).2.2.2.1 i).trans (congrFun ?_ i), fun i _ => (congrFun (h c).2.2.2.2.1 i).trans (congrFun ?_ i), (h c).2.2.2.2.2⟩)
    (Cert.MixerGradReferenceIdeal.Value.run (F := Ideal) m' ρ')
  · obtain ⟨h0, h1, h2, h3, h4, h5⟩ := finite_of_fn _ _ _ _ _ _ (hpre c)
    rw [Cert.MixerGradReferenceIdeal.Read.val_main_v86_eq]
    obtain ⟨a0, a1, a2, a3, a4, a5⟩ := hagree c
    rw [a0, a1, a2, a3, a4, a5]
    exact (grad_ref _ _ _ _ _ _ h0 h1 h2 h3 h4 h5).trans (array6 m c).symm
  · obtain ⟨h0, h1, h2, h3, h4, h5⟩ := finite_of_fn _ _ _ _ _ _ (hpre c)
    rw [Cert.MixerGradReferenceIdeal.Read.val_main_v88_eq]
    obtain ⟨a0, a1, a2, a3, a4, a5⟩ := hagree c
    rw [a0, a1, a2, a3, a4, a5]
    have hi := written_columns _ _ _ _ _ _ i hi
    exact (hidden_ref _ _ _ _ _ _ h0 h1 h2 h3 h4 h5 i hi).trans (array7 m c i hi).symm
  · obtain ⟨h0, h1, h2, h3, h4, h5⟩ := finite_of_fn _ _ _ _ _ _ (hpre c)
    rw [Cert.MixerGradReferenceIdeal.Read.val_main_v89_eq]
    obtain ⟨a0, a1, a2, a3, a4, a5⟩ := hagree c
    rw [a0, a1, a2, a3, a4, a5]
    exact (gain_ref _ _ _ _ _ _ h0 h1 h2 h3 h4 h5).trans (array8 m c).symm
  · obtain ⟨h0, h1, h2, h3, h4, h5⟩ := finite_of_fn _ _ _ _ _ _ (hpre c)
    rw [Cert.MixerGradReferenceIdeal.Read.val_main_v90_eq]
    obtain ⟨a0, a1, a2, a3, a4, a5⟩ := hagree c
    rw [a0, a1, a2, a3, a4, a5]
    exact (bias_ref _ _ _ _ _ _ h0 h1 h2 h3 h4 h5).trans (array9 m c).symm
  · obtain ⟨h0, h1, h2, h3, h4, h5⟩ := finite_of_fn _ _ _ _ _ _ (hpre c)
    rw [Cert.MixerGradReferenceIdeal.Read.val_main_v93_eq]
    obtain ⟨a0, a1, a2, a3, a4, a5⟩ := hagree c
    rw [a0, a1, a2, a3, a4, a5]
    exact (gates_ref _ _ _ _ _ _ h0 h1 h2 h3 h4 h5).trans (array10 m c).symm

end Cert.MixerGradIdeal.Sum

end
-- ==== Proof.Hm.Values.lean ====
/- What one grid point of the head merge writes. -/
module

public import proofs.«01_k».proof.Proof.Gen.HeadMergeIdeal.Value
public import Idealize.ShloMosaic.Lib.Pipeline.ValueKit
public import Idealize.ShloMosaic.Lib.Pointwise

@[expose] public section

set_option maxRecDepth 16384

noncomputable section

namespace Cert.HeadMergeIdeal.Sum

open Cert.HeadMergeIdeal.Gen
open Idealize.ShloMosaic Idealize.ShloMosaic.TcCoe

/-- The log of the three exponentials' sum, by the largest. -/
def joint (a b c : EReal) : EReal :=
  max (max a b) c + Ideal.log (Ideal.exp (a - max (max a b) c) + Ideal.exp (b - max (max a b) c) + Ideal.exp (c - max (max a b) c))

/-- One group's weight spread over the heads' lanes: the rounded weights and what rounding left, each times the spreading table. -/
def share {n : ℕ} (l t : Vec Ideal (⟨2, ![n, 128]⟩ : Shape) .f32) (s : Vec Ideal S128x1024 .f32) (y : (⟨2, ![n, 1024]⟩ : Shape).Idx) : EReal :=
  (∑ k : Fin 128, Ideal.exp (l (ix2 (y 0) k) - t (ix2 (y 0) k)) * s (ix2 k (y 1)))
    + ∑ k : Fin 128, (Ideal.exp (l (ix2 (y 0) k) - t (ix2 (y 0) k)) - Ideal.exp (l (ix2 (y 0) k) - t (ix2 (y 0) k))) * s (ix2 k (y 1))

/-- The three logs joined, entry by entry. -/
def joints {n : ℕ} (a b c : Vec Ideal (⟨2, ![n, 128]⟩ : Shape) .f32) : Vec Ideal (⟨2, ![n, 128]⟩ : Shape) .f32 := fun y => joint (a y) (b y) (c y)

/-- The three outputs weighted and added. -/
def merged {n : ℕ} (p q r : Vec Ideal (⟨2, ![n, 1024]⟩ : Shape) .f32) (a b c : Vec Ideal (⟨2, ![n, 128]⟩ : Shape) .f32) (s : Vec Ideal S128x1024 .f32)
    (y : (⟨2, ![n, 1024]⟩ : Shape).Idx) : EReal :=
  share a (joints a b c) s y * p y + share b (joints a b c) s y * q y + share c (joints a b c) s y * r y

variable (p q r : Vec Ideal S512x1024 .f32) (a b c : Vec Ideal S512x128 .f32) (z : Vec Ideal S512x1024 .f32) (s : Vec Ideal S128x1024 .bf16)

theorem joints_eq : k0_pay3 (F := Ideal) a b c = joints (n := 512) a b c := by
  funext y
  unfold joints joint
  pointwise [k0_pay3]

theorem first_eq (y : S512x1024.Idx) : k0_pay4 (F := Ideal) a b c s s p y = share (n := 512) a (joints (n := 512) a b c) s y * p y := by
  unfold k0_pay4
  rw [joints_eq]
  pointwise
  unfold share
  rfl

theorem weight_eq : k0_pay6 (F := Ideal) a b c = fun y => Ideal.exp (b y - joints (n := 512) a b c y) := by
  funext y
  unfold k0_pay6 k0_pay5
  rw [joints_eq]
  pointwise

theorem rest_eq : k0_pay7 (F := Ideal) a b c = fun y => Ideal.exp (b y - joints (n := 512) a b c y) - Ideal.exp (b y - joints (n := 512) a b c y) := by
  funext y
  unfold k0_pay7
  rw [weight_eq]
  unfold k0_pay5
  rw [joints_eq]
  pointwise

theorem merged_eq (y : S512x1024.Idx) : k0_pay1 (F := Ideal) c (k0_pay3 (F := Ideal) a b c) (k0_pay4 (F := Ideal) a b c s s p) (k0_pay6 (F := Ideal) a b c)
    (k0_pay7 (F := Ideal) a b c) s s q s s r y = merged (n := 512) p q r a b c s y := by
  unfold k0_pay1 merged
  rw [joints_eq, weight_eq, rest_eq]
  pointwise
  rw [first_eq]
  unfold share
  rfl

/-- Output 8's block. -/
theorem block8 (y : S512x1024.Idx) : out0_8 (F := Ideal) p q r a b c z s y = merged (n := 512) p q r a b c s y := by
  unfold out0_8 k0_pay8 k0_pay9 k0_pay10 k0_pay11
  frame_out
  exact merged_eq p q r a b c s y

/-- Output 9's block. -/
theorem block9 (y : S512x128.Idx) : out0_9 (F := Ideal) p q r a b c z s y = joints (n := 512) a b c y := by
  frame_out
  exact congrFun (joints_eq a b c) y

/-- Output 10's block. -/
theorem block10 (y : S512x1024.Idx) : out0_10 (F := Ideal) p q r a b c z s y = merged (n := 512) p q r a b c s y * (z y * Ideal.logistic (z y)) := by
  unfold out0_10 k0_pay8 k0_pay9 k0_pay10 k0_pay11
  frame_out
  unfold k0_pay2
  pointwise
  rw [merged_eq]

end Cert.HeadMergeIdeal.Sum

end
-- ==== Proof.Hm.Reals.lean ====
/- The joined logs and the weights, for arguments that are real numbers. -/
module

public import proofs.«01_k».proof.Proof.Hm.Values

@[expose] public section

noncomputable section

namespace Cert.HeadMergeIdeal.Sum

open Cert.HeadMergeIdeal.Gen
open Idealize.ShloMosaic

/-- Every entry is a real number. -/
def Real' {s : Shape} (x : Vec Ideal s .f32) : Prop := ∀ i, ∃ r : ℝ, x i = (r : EReal)

/-- A head's three exponentials added. -/
abbrev mass (a b c : ℝ) : ℝ := Real.exp a + Real.exp b + Real.exp c

theorem mass_pos (a b c : ℝ) : 0 < mass a b c := by positivity

/-- A common shift leaves the sum of exponentials up to a factor. -/
theorem mass_shift (a b c m : ℝ) : mass (a - m) (b - m) (c - m) = mass a b c / Real.exp m := by
  unfold mass
  rw [Real.exp_sub, Real.exp_sub, Real.exp_sub, add_div, add_div]

/-- The joined log of reals, without the shift. -/
theorem joint_coe (a b c : ℝ) : joint a b c = ((Real.log (mass a b c) : ℝ) : EReal) := by
  have hm : max (max (a : EReal) b) c = ((max (max a b) c : ℝ) : EReal) := by
    rw [EReal.coe_strictMono.monotone.map_max, EReal.coe_strictMono.monotone.map_max]
  unfold joint
  rw [hm]
  generalize max (max a b) c = m
  simp only [← EReal.coe_sub, Ideal.exp_coe, ← EReal.coe_add]
  have h := mass_pos (a - m) (b - m) (c - m)
  rw [Ideal.log_coe, if_neg (not_le.2 h), ← EReal.coe_add]
  refine congrArg _ ?_
  show m + Real.log (mass (a - m) (b - m) (c - m)) = _
  rw [mass_shift, Real.log_div (mass_pos a b c).ne' (Real.exp_pos m).ne', Real.log_exp]
  ring

/-- The log of the plain sum. -/
theorem log_mass (a b c : ℝ) : Ideal.log (Ideal.exp a + Ideal.exp b + Ideal.exp c) = joint a b c := by
  rw [joint_coe]
  simp only [Ideal.exp_coe, ← EReal.coe_add]
  rw [Ideal.log_coe, if_neg (not_le.2 (mass_pos a b c))]

/-- A weight of the merge. -/
theorem weight_coe (a b c l : ℝ) : Ideal.exp ((l : EReal) - joint a b c) = ((Real.exp l / mass a b c : ℝ) : EReal) := by
  rw [joint_coe, ← EReal.coe_sub, Ideal.exp_coe, Real.exp_sub, Real.exp_log (mass_pos a b c)]

/-- A weight of the softmax, shifted by any real. -/
theorem softmax_coe (a b c l m : ℝ) : Ideal.div (Ideal.exp ((l : EReal) - m)) (Ideal.exp ((a : EReal) - m) + Ideal.exp ((b : EReal) - m) + Ideal.exp ((c : EReal) - m))
    = Ideal.exp ((l : EReal) - joint a b c) := by
  rw [weight_coe]
  simp only [← EReal.coe_sub, Ideal.exp_coe, ← EReal.coe_add]
  have h := mass_pos (a - m) (b - m) (c - m)
  rw [show Real.exp (a - m) + Real.exp (b - m) + Real.exp (c - m) = mass (a - m) (b - m) (c - m) from rfl, Ideal.div_coe h.ne', ← EReal.coe_mul, mass_shift, Real.exp_sub]
  refine congrArg _ ?_
  have := (mass_pos a b c).ne'
  have := (Real.exp_pos m).ne'
  field_simp

/-- The spreading table has ones at a head's 64 columns. -/
def sel : Vec Ideal S128x1024 .f32 := fun i => if (i 0).val = (i 1).val / 64 then 1 else 0

variable {n : ℕ} {a b c : Vec Ideal (⟨2, ![n, 128]⟩ : Shape) .f32}

/-- The head of a column. -/
abbrev head (j : Fin 1024) : Fin 128 := ⟨j.val / 64, by have := j.isLt; omega⟩

/-- A group's spread weight is its head's. -/
theorem share_eq {l t : Vec Ideal (⟨2, ![n, 128]⟩ : Shape) .f32} (h : ∀ i, ∃ w : ℝ, Ideal.exp (l i - t i) = (w : EReal)) (y : (⟨2, ![n, 1024]⟩ : Shape).Idx) :
    share l t sel y = Ideal.exp (l (ix2 (y 0) (head (y 1))) - t (ix2 (y 0) (head (y 1)))) := by
  unfold share
  have hzero : ∑ k : Fin 128, (Ideal.exp (l (ix2 (y 0) k) - t (ix2 (y 0) k)) - Ideal.exp (l (ix2 (y 0) k) - t (ix2 (y 0) k))) * sel (ix2 k (y 1)) = 0 :=
    Finset.sum_eq_zero fun k _ => by
      obtain ⟨w, hw⟩ := h (ix2 (y 0) k)
      rw [hw, ← EReal.coe_sub, sub_self, EReal.coe_zero, zero_mul]
  rw [hzero, add_zero, Finset.sum_eq_single (head (y 1))]
  · rw [show sel (ix2 (head (y 1)) (y 1)) = 1 from if_pos rfl, mul_one]
  · intro k _ hk
    rw [show sel (ix2 k (y 1)) = 0 from if_neg fun q => hk (Fin.ext q), mul_zero]
  · exact fun q => absurd (Finset.mem_univ _) q

/-- The weights are real. -/
theorem real_weight (ha : Real' a) (hb : Real' b) (hc : Real' c) {l : Vec Ideal (⟨2, ![n, 128]⟩ : Shape) .f32} (hl : Real' l) (i : (⟨2, ![n, 128]⟩ : Shape).Idx) :
    ∃ w : ℝ, Ideal.exp (l i - joints a b c i) = (w : EReal) := by
  unfold joints
  obtain ⟨x, hx⟩ := ha i
  obtain ⟨y, hy⟩ := hb i
  obtain ⟨z, hz⟩ := hc i
  obtain ⟨t, ht⟩ := hl i
  rw [hx, hy, hz, ht]
  exact ⟨_, weight_coe x y z t⟩

/-- The merged outputs with each head's weights. -/
theorem merged_sel (ha : Real' a) (hb : Real' b) (hc : Real' c) (p q r : Vec Ideal (⟨2, ![n, 1024]⟩ : Shape) .f32) (y : (⟨2, ![n, 1024]⟩ : Shape).Idx) :
    merged p q r a b c sel y = Ideal.exp (a (ix2 (y 0) (head (y 1))) - joints a b c (ix2 (y 0) (head (y 1)))) * p y
      + Ideal.exp (b (ix2 (y 0) (head (y 1))) - joints a b c (ix2 (y 0) (head (y 1)))) * q y
      + Ideal.exp (c (ix2 (y 0) (head (y 1))) - joints a b c (ix2 (y 0) (head (y 1)))) * r y := by
  unfold merged
  rw [share_eq (real_weight ha hb hc ha), share_eq (real_weight ha hb hc hb), share_eq (real_weight ha hb hc hc)]

end Cert.HeadMergeIdeal.Sum

end
-- ==== Proof.Hm.Array.lean ====
/- The arrays the head merge leaves. -/
module

public import proofs.«01_k».proof.Proof.Hm.Reals

@[expose] public section

set_option maxRecDepth 16384

noncomputable section

namespace Cert.HeadMergeIdeal.Sum

open Cert.HeadMergeIdeal.Gen
open Idealize.ShloMosaic Idealize.ShloMosaic.TcCoe

variable (m : (ℓ : Loc nD τ sig) → Buf (Elt Ideal) ℓ)

/-- The head of a column, as the host divides it. -/
theorem head_word : ∀ k : Fin 1024, IntOp.divsi .host (BitVec.ofNat 32 k.val) 64#32 = BitVec.ofNat 32 (k.val / 64) := by
  decide +kernel

/-- The spreading table's array when the grid starts. -/
theorem entry (c : Dev nD) (i : S128x1024.Idx) : V m c main_v6 i = sel i := by
  have h0 : (i 0).val < 128 := (i 0).isLt
  have h1 : (i 1).val < 1024 := (i 1).isLt
  have e : V m c main_v6 i = Idealize.ShloMosaic.select (cmpi .eq (iotaInDim S128x1024 32 0)
      (Host.divsi (iotaInDim S128x1024 32 1) (broadcastInDim S128x1024 ![] bcast_S_S128x1024 (constantI S_ 32 64#32))))
      (broadcastInDim S128x1024 ![] bcast_S_S128x1024 (constant (F := Ideal) S_ .f32 0x3F800000#32))
      (broadcastInDim S128x1024 ![] bcast_S_S128x1024 (constant (F := Ideal) S_ .f32 0x00000000#32)) i := by
    unfold V
    after_results
    rfl
  rw [e]
  pointwise
  unfold sel
  rw [head_word ⟨(i 1).val, h1⟩]
  by_cases h : (i 0).val = (i 1).val / 64
  · rw [if_pos h, h]
    simp [Scalar.select, IntOp.cmpi]
  · rw [if_neg h]
    have hn : BitVec.ofNat 32 (i 0).val ≠ BitVec.ofNat 32 ((i 1).val / 64) := fun q => h (by
      have := congrArg BitVec.toNat q
      simp only [BitVec.toNat_ofNat] at this
      omega)
    simp [Scalar.select, IntOp.cmpi, beq_eq_false_iff_ne.2 hn]

/-- Point `t` reads and writes row block `t`. -/
theorem rowBlock : ∀ t : Fin cfg0.N, win0_0.index t 0 = t.val ∧ win0_0.index t 1 = 0
    ∧ win0_1.index t 0 = t.val ∧ win0_1.index t 1 = 0 ∧ win0_2.index t 0 = t.val ∧ win0_2.index t 1 = 0
    ∧ win0_3.index t 0 = t.val ∧ win0_3.index t 1 = 0 ∧ win0_4.index t 0 = t.val ∧ win0_4.index t 1 = 0
    ∧ win0_5.index t 0 = t.val ∧ win0_5.index t 1 = 0 ∧ win0_6.index t 0 = t.val ∧ win0_6.index t 1 = 0
    ∧ win0_7.index t 0 = 0 ∧ win0_7.index t 1 = 0 ∧ win0_8.index t 0 = t.val ∧ win0_8.index t 1 = 0
    ∧ win0_9.index t 0 = t.val ∧ win0_9.index t 1 = 0 ∧ win0_10.index t 0 = t.val ∧ win0_10.index t 1 = 0 := by
  decide +kernel

/-- The arguments. -/
abbrev gp (c : Dev nD) : Vec Ideal S16384x1024 .f32 := m ((c : Thread nD τ).loc main_arg0)
abbrev gq (c : Dev nD) : Vec Ideal S16384x1024 .f32 := m ((c : Thread nD τ).loc main_arg1)
abbrev gr (c : Dev nD) : Vec Ideal S16384x1024 .f32 := m ((c : Thread nD τ).loc main_arg2)
abbrev la (c : Dev nD) : Vec Ideal S16384x128 .f32 := m ((c : Thread nD τ).loc main_arg3)
abbrev lb (c : Dev nD) : Vec Ideal S16384x128 .f32 := m ((c : Thread nD τ).loc main_arg4)
abbrev lc (c : Dev nD) : Vec Ideal S16384x128 .f32 := m ((c : Thread nD τ).loc main_arg5)
abbrev gz (c : Dev nD) : Vec Ideal S16384x1024 .f32 := m ((c : Thread nD τ).loc main_arg6)

/-- A point's logs are cut from the whole logs. -/
theorem cut_logs (c : Dev nD) (t : Fin cfg0.N) (r : Fin 512) (k : Fin 128) (r' : Fin 16384) (h : r'.val = 512 * t.val + r.val) :
    (iblk m c 3 t) (ix2 r k) = la m c (ix2 r' k) ∧ (iblk m c 4 t) (ix2 r k) = lb m c (ix2 r' k) ∧ (iblk m c 5 t) (ix2 r k) = lc m c (ix2 r' k) := by
  refine ⟨?_, ?_, ?_⟩ <;> blk_ext! [iblk, V, rowBlock t]

/-- The same of the joined logs. -/
theorem cut_joints (c : Dev nD) (t : Fin cfg0.N) (r : Fin 512) (k : Fin 128) (r' : Fin 16384) (h : r'.val = 512 * t.val + r.val) :
    joints (n := 512) (iblk m c 3 t) (iblk m c 4 t) (iblk m c 5 t) (ix2 r k) = joints (n := 16384) (la m c) (lb m c) (lc m c) (ix2 r' k) := by
  obtain ⟨e, e', e''⟩ := cut_logs m c t r k r' h
  unfold joints
  rw [e, e', e'']

/-- The table's block is the table. -/
theorem cut_sel (c : Dev nD) (t : Fin cfg0.N) (k : Fin 128) (l : Fin 1024) : (iblk m c 7 t) (ix2 k l) = sel (ix2 k l) := by
  refine Eq.trans ?_ (entry m c (ix2 k l))
  blk_ext! [iblk, rowBlock t]

/-- Merged outputs of equal rows are equal. -/
theorem merged_congr {n n' : ℕ} {p q r : Vec Ideal (⟨2, ![n, 1024]⟩ : Shape) .f32} {a b c : Vec Ideal (⟨2, ![n, 128]⟩ : Shape) .f32} {s : Vec Ideal S128x1024 .f32}
    {p' q' r' : Vec Ideal (⟨2, ![n', 1024]⟩ : Shape) .f32} {a' b' c' : Vec Ideal (⟨2, ![n', 128]⟩ : Shape) .f32} {s' : Vec Ideal S128x1024 .f32}
    {y : (⟨2, ![n, 1024]⟩ : Shape).Idx} {y' : (⟨2, ![n', 1024]⟩ : Shape).Idx} (hp : p y = p' y') (hq : q y = q' y') (hr : r y = r' y')
    (ha : ∀ k, a (ix2 (y 0) k) = a' (ix2 (y' 0) k)) (hb : ∀ k, b (ix2 (y 0) k) = b' (ix2 (y' 0) k)) (hc : ∀ k, c (ix2 (y 0) k) = c' (ix2 (y' 0) k))
    (hs : ∀ k, s (ix2 k (y 1)) = s' (ix2 k (y' 1))) : merged p q r a b c s y = merged p' q' r' a' b' c' s' y' := by
  unfold merged share joints
  simp only [hp, hq, hr, ha, hb, hc, hs]

/-- The same of the merged outputs. -/
theorem cut_merged (c : Dev nD) (t : Fin cfg0.N) (r : Fin 512) (j : Fin 1024) (r' : Fin 16384) (h : r'.val = 512 * t.val + r.val) :
    merged (n := 512) (iblk m c 0 t) (iblk m c 1 t) (iblk m c 2 t) (iblk m c 3 t) (iblk m c 4 t) (iblk m c 5 t) (iblk m c 7 t) (ix2 r j)
      = merged (n := 16384) (gp m c) (gq m c) (gr m c) (la m c) (lb m c) (lc m c) sel (ix2 r' j) := by
  have e0 : (iblk m c 0 t) (ix2 r j) = gp m c (ix2 r' j) := by blk_ext! [iblk, V, rowBlock t]
  have e1 : (iblk m c 1 t) (ix2 r j) = gq m c (ix2 r' j) := by blk_ext! [iblk, V, rowBlock t]
  have e2 : (iblk m c 2 t) (ix2 r j) = gr m c (ix2 r' j) := by blk_ext! [iblk, V, rowBlock t]
  have e3 (k : Fin 128) := (cut_logs m c t r k r' h).1
  have e4 (k : Fin 128) := (cut_logs m c t r k r' h).2.1
  have e5 (k : Fin 128) := (cut_logs m c t r k r' h).2.2
  have es (k : Fin 128) := cut_sel m c t k j
  exact merged_congr e0 e1 e2 e3 e4 e5 es

/-- Array 8 after the run. -/
theorem array8 (c : Dev nD) : (dats m 0 c).arrAt 8 cfg0.N
    = fun i : S16384x1024.Idx => merged (n := 16384) (gp m c) (gq m c) (gr m c) (la m c) (lb m c) (lc m c) sel (ix2 (i 0) (i 1)) := by
  refine (dats m 0 c).arrAt_eq_of_covers 8 _ (by decide +kernel) fun t hf y => ?_
  blk_simp
  rw [after0_8]
  refine (block8 ..).trans ?_
  refine (congrArg (merged (n := 512) _ _ _ _ _ _ _) (ix2_eta y).symm).trans ((cut_merged m c t _ _ _ ?_).trans (congrArg (fun j => merged (n := 16384) _ _ _ _ _ _ _ (ix2 _ j)) ?_))
  · blk_simp [rowBlock t]
    omega
  · exact Fin.ext (by blk_simp [rowBlock t])

/-- Array 9 after the run. -/
theorem array9 (c : Dev nD) : (dats m 0 c).arrAt 9 cfg0.N = fun i : S16384x128.Idx => joints (n := 16384) (la m c) (lb m c) (lc m c) (ix2 (i 0) (i 1)) := by
  refine (dats m 0 c).arrAt_eq_of_covers 9 _ (by decide +kernel) fun t hf y => ?_
  blk_simp
  rw [after0_9]
  refine (block9 ..).trans ?_
  refine (congrArg (joints (n := 512) _ _ _) (ix2_eta y).symm).trans ((cut_joints m c t _ _ _ ?_).trans (congrArg (fun j => joints (n := 16384) _ _ _ (ix2 _ j)) ?_))
  · blk_simp [rowBlock t]
    omega
  · exact Fin.ext (by blk_simp [rowBlock t])

/-- The gated outputs, entry by entry. -/
def gatedOut {n : ℕ} (p q r : Vec Ideal (⟨2, ![n, 1024]⟩ : Shape) .f32) (a b c : Vec Ideal (⟨2, ![n, 128]⟩ : Shape) .f32) (s : Vec Ideal S128x1024 .f32)
    (z : Vec Ideal (⟨2, ![n, 1024]⟩ : Shape) .f32) (y : (⟨2, ![n, 1024]⟩ : Shape).Idx) : EReal :=
  merged p q r a b c s y * (z y * Ideal.logistic (z y))

/-- A point's gated outputs are cut from the whole. -/
theorem cut_gated (c : Dev nD) (t : Fin cfg0.N) (r : Fin 512) (j : Fin 1024) (r' : Fin 16384) (h : r'.val = 512 * t.val + r.val) :
    gatedOut (n := 512) (iblk m c 0 t) (iblk m c 1 t) (iblk m c 2 t) (iblk m c 3 t) (iblk m c 4 t) (iblk m c 5 t) (iblk m c 7 t) (iblk m c 6 t) (ix2 r j)
      = gatedOut (n := 16384) (gp m c) (gq m c) (gr m c) (la m c) (lb m c) (lc m c) sel (gz m c) (ix2 r' j) := by
  have e : (iblk m c 6 t) (ix2 r j) = gz m c (ix2 r' j) := by blk_ext! [iblk, V, rowBlock t]
  unfold gatedOut
  rw [cut_merged m c t r j r' h, e]

/-- Array 10 after the run. -/
theorem array10 (c : Dev nD) : (dats m 0 c).arrAt 10 cfg0.N
    = fun i : S16384x1024.Idx => gatedOut (n := 16384) (gp m c) (gq m c) (gr m c) (la m c) (lb m c) (lc m c) sel (gz m c) (ix2 (i 0) (i 1)) := by
  refine (dats m 0 c).arrAt_eq_of_covers 10 _ (by decide +kernel) fun t hf y => ?_
  blk_simp
  rw [after0_10]
  refine (block10 ..).trans ?_
  refine (congrArg (gatedOut (n := 512) _ _ _ _ _ _ _ _) (ix2_eta y).symm).trans ((cut_gated m c t _ _ _ ?_).trans
    (congrArg (fun j => gatedOut (n := 16384) _ _ _ _ _ _ _ _ (ix2 _ j)) ?_))
  · blk_simp [rowBlock t]
    omega
  · exact Fin.ext (by blk_simp [rowBlock t])

end Cert.HeadMergeIdeal.Sum

end
-- ==== Proof.Hm.Reference.lean ====
/- What the reference of the head merge computes. -/
module

public import proofs.«01_k».proof.Proof.Hm.Array
public import proofs.«01_k».proof.Proof.Gen.HeadMergeReferenceIdeal.Read
public import Idealize.ShloMosaic.Lib.KernelVsHost
public import Idealize.ShloMosaic.Lib.Pipeline.Value

@[expose] public section

set_option maxRecDepth 16384

noncomputable section

namespace Cert.HeadMergeIdeal.Sum

open Cert.HeadMergeReferenceIdeal
open Idealize.ShloMosaic Idealize.ShloMosaic.TcCoe

variable (p q r : Vec Ideal S16384x1024 .f32) (a b c : Vec Ideal S16384x128 .f32) (z : Vec Ideal S16384x1024 .f32)

/-- The stacked logs, group by group. -/
theorem stacked (s : Fin 16384) (k : Fin 128) :
    Read.val_main_v3 (F := Ideal) a b c (ix3 (0 : Fin 3) s k) = a (ix2 s k)
      ∧ Read.val_main_v3 (F := Ideal) a b c (ix3 (1 : Fin 3) s k) = b (ix2 s k)
      ∧ Read.val_main_v3 (F := Ideal) a b c (ix3 (2 : Fin 3) s k) = c (ix2 s k) := by
  unfold Read.val_main_v3
  refine ⟨?_, ?_, ?_⟩
  · refine Eq.trans (concatenate_apply_piece (t := S3x16384x128) 0 _ _ _ 0 (by show 0 < 3; decide) S1x16384x128 (Read.val_main_v0 (F := Ideal) a) (by rfl) rfl 0 (by rfl) (ix3 (0 : Fin 1) s k)
      (fun d hd => by match d with | 0 => exact absurd rfl hd | 1 => rfl | 2 => rfl) (by rfl)) ?_
    rw [Read.val_main_v0_apply]
    exact congrArg a (by blk_ext)
  · refine Eq.trans (concatenate_apply_piece (t := S3x16384x128) 0 _ _ _ 1 (by show 1 < 3; decide) S1x16384x128 (Read.val_main_v1 (F := Ideal) b) (by rfl) rfl 1 (by rfl) (ix3 (0 : Fin 1) s k)
      (fun d hd => by match d with | 0 => exact absurd rfl hd | 1 => rfl | 2 => rfl) (by rfl)) ?_
    rw [Read.val_main_v1_apply]
    exact congrArg b (by blk_ext)
  · refine Eq.trans (concatenate_apply_piece (t := S3x16384x128) 0 _ _ _ 2 (by show 2 < 3; decide) S1x16384x128 (Read.val_main_v2 (F := Ideal) c) (by rfl) rfl 2 (by rfl) (ix3 (0 : Fin 1) s k)
      (fun d hd => by match d with | 0 => exact absurd rfl hd | 1 => rfl | 2 => rfl) (by rfl)) ?_
    rw [Read.val_main_v2_apply]
    exact congrArg c (by blk_ext)

/-- The stacked outputs, group by group. -/
theorem stacked_heads (s : Fin 16384) (h : Fin 16) (e : Fin 64) (j : Fin 1024) (hj : j.val = 64 * h.val + e.val) :
    Read.val_main_v23 (F := Ideal) p q r (ix4 (0 : Fin 3) s h e) = p (ix2 s j)
      ∧ Read.val_main_v23 (F := Ideal) p q r (ix4 (1 : Fin 3) s h e) = q (ix2 s j)
      ∧ Read.val_main_v23 (F := Ideal) p q r (ix4 (2 : Fin 3) s h e) = r (ix2 s j) := by
  unfold Read.val_main_v23
  have h0 := s.isLt
  have h1 := h.isLt
  have h2 := e.isLt
  refine ⟨?_, ?_, ?_⟩
  · refine Eq.trans (concatenate_apply_piece (t := S3x16384x16x64) 0 _ _ _ 0 (by show 0 < 3; decide) S1x16384x16x64 (Read.val_main_v20 (F := Ideal) p) (by rfl) rfl 0 (by rfl) (ix4 (0 : Fin 1) s h e)
      (fun d hd => by match d with | 0 => exact absurd rfl hd | 1 => rfl | 2 => rfl | 3 => rfl) (by rfl)) ?_
    rw [Read.val_main_v20_apply, Read.val_main_v17_apply]
    exact congrArg p (by blk_ext)
  · refine Eq.trans (concatenate_apply_piece (t := S3x16384x16x64) 0 _ _ _ 1 (by show 1 < 3; decide) S1x16384x16x64 (Read.val_main_v21 (F := Ideal) q) (by rfl) rfl 1 (by rfl) (ix4 (0 : Fin 1) s h e)
      (fun d hd => by match d with | 0 => exact absurd rfl hd | 1 => rfl | 2 => rfl | 3 => rfl) (by rfl)) ?_
    rw [Read.val_main_v21_apply, Read.val_main_v18_apply]
    exact congrArg q (by blk_ext)
  · refine Eq.trans (concatenate_apply_piece (t := S3x16384x16x64) 0 _ _ _ 2 (by show 2 < 3; decide) S1x16384x16x64 (Read.val_main_v22 (F := Ideal) r) (by rfl) rfl 2 (by rfl) (ix4 (0 : Fin 1) s h e)
      (fun d hd => by match d with | 0 => exact absurd rfl hd | 1 => rfl | 2 => rfl | 3 => rfl) (by rfl)) ?_
    rw [Read.val_main_v22_apply, Read.val_main_v19_apply]
    exact congrArg r (by blk_ext)

/-- A group's log of a head. -/
theorem sliced (g : Fin 3) (s : Fin 16384) (h : Fin 16) :
    Read.val_main_v4 (F := Ideal) a b c (ix3 g s h) = Read.val_main_v3 (F := Ideal) a b c (ix3 g s (⟨h.val, by have := h.isLt; omega⟩ : Fin 128)) := by
  rw [Read.val_main_v4_apply]
  exact congrArg _ (by blk_ext)

/-- The pattern of minus infinity. -/
theorem bot_word : (FloatOps.ofBits (F := Ideal) .f32 0xFF800000#32) = (⊥ : EReal) := by
  show Ideal.ofBits .f32 0xFF800000#32 = ⊥
  simp [Ideal.ofBits, Ideal.ieee]

/-- A maximum of reals over minus infinity is real. -/
theorem real_fold (f : Fin 3 → EReal) (h : ∀ k, ∃ x : ℝ, f k = (x : EReal)) : ∃ x : ℝ, max ⊥ ((Finset.univ : Finset (Fin 3)).fold max ⊥ f) = (x : EReal) := by
  have hlt : (Finset.univ : Finset (Fin 3)).fold max ⊥ f < ⊤ := (Finset.fold_max_lt _).2 ⟨bot_lt_top, fun k _ => by
    obtain ⟨x, hx⟩ := h k
    rw [hx]
    exact EReal.coe_lt_top x⟩
  have hgt : ⊥ < (Finset.univ : Finset (Fin 3)).fold max ⊥ f := (Finset.lt_fold_max _).2 (Or.inr ⟨0, Finset.mem_univ _, by
    obtain ⟨x, hx⟩ := h 0
    rw [hx]
    exact EReal.bot_lt_coe x⟩)
  rw [max_eq_right bot_le]
  exact ⟨_, (EReal.coe_toReal hlt.ne hgt.ne').symm⟩

/-- Every stacked log is real. -/
theorem real_stacked (ha : Real' a) (hb : Real' b) (hc : Real' c) (g : Fin 3) (s : Fin 16384) (k : Fin 128) :
    ∃ x : ℝ, Read.val_main_v3 (F := Ideal) a b c (ix3 g s k) = (x : EReal) := by
  obtain ⟨e0, e1, e2⟩ := stacked a b c s k
  match g with
  | 0 => exact (ha (ix2 s k)).imp fun x hx => e0.trans hx
  | 1 => exact (hb (ix2 s k)).imp fun x hx => e1.trans hx
  | 2 => exact (hc (ix2 s k)).imp fun x hx => e2.trans hx

/-- The shift of a head's softmax is real. -/
theorem real_shift (ha : Real' a) (hb : Real' b) (hc : Real' c) (s : Fin 16384) (h : Fin 16) : ∃ x : ℝ, Read.val_main_v7 (F := Ideal) a b c (ix2 s h) = (x : EReal) := by
  have e : Read.val_main_v5 (F := Ideal) a b c (ix2 s h) = (Finset.univ : Finset (Fin 3)).fold max ⊥ fun g => Read.val_main_v4 (F := Ideal) a b c (ix3 g s h) := by
    unfold Read.val_main_v5
    rw [show (FloatOps.maximumf (F := Ideal) (φ := .f32)) = (max : EReal → EReal → EReal) from rfl]
    rw [Host.reduce_eq_fold_single (max : EReal → EReal → EReal) _ _ _ (by decide : S3x16384x16.Reduces [0] S16384x16)]
    rw [Read.val_main_cst_apply, bot_word]
    refine congrArg (fun f => (Finset.univ : Finset (Fin 3)).fold max ⊥ f) (funext fun g => ?_)
    exact congrArg (Read.val_main_v4 (F := Ideal) a b c) (funext fun d => Fin.ext (by match d with | ⟨0, _⟩ => rfl | ⟨1, _⟩ => rfl | ⟨2, _⟩ => rfl))
  rw [Read.val_main_v7_apply, e, Read.val_main_v6_apply, Read.val_main_cst_0_apply, bot_word]
  refine real_fold _ fun g => ?_
  rw [sliced]
  exact real_stacked a b c ha hb hc _ _ _

/-- A group's shifted exponential of a head. -/
theorem ref_exp (g : Fin 3) (s : Fin 16384) (h : Fin 16) (M : EReal) (hM : Read.val_main_v7 (F := Ideal) a b c (ix2 s h) = M) :
    Read.val_main_v11 (F := Ideal) a b c (ix3 g s h) = Ideal.exp (Read.val_main_v3 (F := Ideal) a b c (ix3 g s (⟨h.val, by have := h.isLt; omega⟩ : Fin 128)) - M) := by
  have key : Read.idx_main_v8 (Read.idx_main_v9 (ix3 g s h)) = (ix2 s h : S16384x16.Idx) := by blk_ext
  rw [Read.val_main_v11_apply, Read.val_main_v10_apply, sliced, Read.val_main_v9_apply, Read.val_main_v8_apply, key, hM]
  rfl

/-- A sum over the three groups. -/
theorem sum_groups (f : Fin 3 → EReal) : 0 + ∑ g, f g = f 0 + f 1 + f 2 := by
  rw [zero_add, Fin.sum_univ_three]

/-- A head's shifted exponentials added. -/
theorem ref_mass (s : Fin 16384) (h : Fin 16) (k : Fin 128) (hk : k.val = h.val) (M : EReal) (hM : Read.val_main_v7 (F := Ideal) a b c (ix2 s h) = M) :
    Read.val_main_v12 (F := Ideal) a b c (ix2 s h) = Ideal.exp (a (ix2 s k) - M) + Ideal.exp (b (ix2 s k) - M) + Ideal.exp (c (ix2 s k) - M) := by
  have hk : k = ⟨h.val, by have := h.isLt; omega⟩ := Fin.ext hk
  obtain ⟨e0, e1, e2⟩ := stacked a b c s k
  rw [Read.val_main_v12_apply, Read.val_main_cst_1_apply, show (FloatOps.ofBits (F := Ideal) .f32 0x00000000#32) = 0 from Ideal.ofBits_zero_f32, sum_groups]
  have key (g : Fin 3) : Read.idx_main_v12 (ix2 s h) g = (ix3 g s h : S3x16384x16.Idx) := by blk_ext
  rw [key, key, key, ref_exp a b c 0 s h M hM, ref_exp a b c 1 s h M hM, ref_exp a b c 2 s h M hM, ← hk, e0, e1, e2]

/-- The softmax's weight is the merge's. -/
theorem ref_weight (ha : Real' a) (hb : Real' b) (hc : Real' c) (g : Fin 3) (s : Fin 16384) (h : Fin 16) (k : Fin 128) (hk : k.val = h.val) :
    Read.val_main_v15 (F := Ideal) a b c (ix3 g s h)
      = Ideal.exp (Read.val_main_v3 (F := Ideal) a b c (ix3 g s k) - joints (n := 16384) a b c (ix2 s k)) := by
  obtain ⟨M, hM⟩ := real_shift a b c ha hb hc s h
  have key : Read.idx_main_v13 (Read.idx_main_v14 (ix3 g s h)) = (ix2 s h : S16384x16.Idx) := by blk_ext
  rw [Read.val_main_v15_apply, ref_exp a b c g s h M hM, Read.val_main_v14_apply, Read.val_main_v13_apply, key, ref_mass a b c s h k hk M hM]
  have hk : k = ⟨h.val, by have := h.isLt; omega⟩ := Fin.ext hk
  rw [← hk]
  unfold joints
  obtain ⟨l, hl⟩ := real_stacked a b c ha hb hc g s k
  obtain ⟨x, hx⟩ := ha (ix2 s k)
  obtain ⟨y, hy⟩ := hb (ix2 s k)
  obtain ⟨w, hw⟩ := hc (ix2 s k)
  rw [hl, hx, hy, hw]
  exact softmax_coe x y w l M

/-- The reference's merged outputs. -/
theorem ref_merged (ha : Real' a) (hb : Real' b) (hc : Real' c) (i : S16384x1024.Idx) :
    Read.val_main_v27 (F := Ideal) p q r a b c i = merged (n := 16384) p q r a b c sel (ix2 (i 0) (i 1)) := by
  have h0 : (i 0).val < 16384 := (i 0).isLt
  have h1 : (i 1).val < 1024 := (i 1).isLt
  have hh : (i 1).val / 64 < 16 := by omega
  have he : (i 1).val % 64 < 64 := Nat.mod_lt _ (by decide)
  rw [merged_sel ha hb hc]
  have key : Read.idx_main_v27 i = (ix3 (i 0) (⟨(i 1).val / 64, hh⟩ : Fin 16) (⟨(i 1).val % 64, he⟩ : Fin 64) : S16384x16x64.Idx) := by blk_ext
  have key' (g : Fin 3) : Read.idx_main_v26 (ix3 (i 0) (⟨(i 1).val / 64, hh⟩ : Fin 16) (⟨(i 1).val % 64, he⟩ : Fin 64)) g
      = (ix4 g (i 0) (⟨(i 1).val / 64, hh⟩ : Fin 16) (⟨(i 1).val % 64, he⟩ : Fin 64) : S3x16384x16x64.Idx) := by blk_ext
  have key'' (g : Fin 3) : Read.idx_main_v16 (Read.idx_main_v24 (ix4 g (i 0) (⟨(i 1).val / 64, hh⟩ : Fin 16) (⟨(i 1).val % 64, he⟩ : Fin 64)))
      = (ix3 g (i 0) (⟨(i 1).val / 64, hh⟩ : Fin 16) : S3x16384x16.Idx) := by blk_ext
  have hw (g : Fin 3) := ref_weight a b c ha hb hc g (i 0) (⟨(i 1).val / 64, hh⟩ : Fin 16) (head (i 1)) rfl
  obtain ⟨e0, e1, e2⟩ := stacked a b c (i 0) (head (i 1))
  obtain ⟨f0, f1, f2⟩ := stacked_heads p q r (i 0) (⟨(i 1).val / 64, hh⟩ : Fin 16) (⟨(i 1).val % 64, he⟩ : Fin 64) (i 1) (by dsimp only; omega)
  rw [Read.val_main_v27_apply, key, Read.val_main_v26_apply, Read.val_main_cst_2_apply,
    show (FloatOps.ofBits (F := Ideal) .f32 0x00000000#32) = 0 from Ideal.ofBits_zero_f32, sum_groups]
  simp only [key', Read.val_main_v25_apply, Read.val_main_v24_apply, Read.val_main_v16_apply, key'', hw, e0, e1, e2, f0, f1, f2]
  rfl

/-- The reference's first result. -/
theorem reference8 (ha : Real' a) (hb : Real' b) (hc : Real' c) : Read.val_main_v27 (F := Ideal) p q r a b c
    = fun i : S16384x1024.Idx => merged (n := 16384) p q r a b c sel (ix2 (i 0) (i 1)) :=
  funext fun i => ref_merged p q r a b c ha hb hc i

/-- The reference's second result. -/
theorem reference9 (ha : Real' a) (hb : Real' b) (hc : Real' c) : Read.val_main_v30 (F := Ideal) a b c
    = fun i : S16384x128.Idx => joints (n := 16384) a b c (ix2 (i 0) (i 1)) := by
  funext i
  obtain ⟨e0, e1, e2⟩ := stacked a b c (i 0) (i 1)
  have key (g : Fin 3) : Read.idx_main_v29 i g = (ix3 g (i 0) (i 1) : S3x16384x128.Idx) := by blk_ext
  rw [Read.val_main_v30_apply, Read.val_main_v29_apply, Read.val_main_cst_3_apply, show (FloatOps.ofBits (F := Ideal) .f32 0x00000000#32) = 0 from Ideal.ofBits_zero_f32,
    sum_groups, key, key, key, Read.val_main_v28_apply, Read.val_main_v28_apply, Read.val_main_v28_apply, e0, e1, e2]
  unfold joints
  obtain ⟨x, hx⟩ := ha (ix2 (i 0) (i 1))
  obtain ⟨y, hy⟩ := hb (ix2 (i 0) (i 1))
  obtain ⟨w, hw⟩ := hc (ix2 (i 0) (i 1))
  rw [hx, hy, hw]
  exact log_mass x y w

/-- The reference's gate function. -/
theorem ref_logistic (i : S16384x1024.Idx) : Read.val_main_v36 (F := Ideal) z i = Ideal.logistic (z i) := by
  rw [Read.val_main_v36_apply, Read.val_main_v35_apply, Read.val_main_v34_apply, Read.val_main_v33_apply, Read.val_main_v32_apply, Read.val_main_v31_apply,
    Read.val_main_cst_4_apply, Read.val_main_cst_5_apply, show (FloatOps.ofBits (F := Ideal) .f32 0x3F800000#32) = 1 from Ideal.ofBits_one_f32]
  rfl

/-- The reference's third result. -/
theorem reference10 (ha : Real' a) (hb : Real' b) (hc : Real' c) : Read.val_main_v39 (F := Ideal) p q r a b c z
    = fun i : S16384x1024.Idx => gatedOut (n := 16384) p q r a b c sel z (ix2 (i 0) (i 1)) := by
  funext i
  rw [Read.val_main_v39_apply, Read.val_main_v38_apply, Read.val_main_v37_apply, ref_merged p q r a b c ha hb hc, ref_logistic]
  unfold gatedOut
  exact congrArg (fun y : EReal => merged (n := 16384) p q r a b c sel (ix2 (i 0) (i 1)) * (y * Ideal.logistic y)) (congrArg z (ix2_eta i).symm)

end Cert.HeadMergeIdeal.Sum

end
-- ==== Proof.Hm.Pre.lean ====
/- The precondition: every entry of the three logs is a real number. -/
module

public import proofs.«01_k».proof.Proof.Hm.Array
public import proofs.«01_k».proof.Proof.Hm.Reals
public import proofs.«01_k».proof.Proof.Gen.Pre_merge_finite
public import proofs.«01_k».proof.Defs
public import Idealize.ShloMosaic.Lib.ReduceAll

@[expose] public section

set_option maxRecDepth 16384

noncomputable section

namespace Cert.HeadMergeIdeal.Sum

open Idealize.ShloMosaic Idealize.ShloMosaic.TcCoe Idealize.SL.Sem

/-- A number whose absolute value is below the largest is real. -/
theorem real_of_abs (x : EReal) (h : max x (-x) < ⊤) : ∃ r : ℝ, x = r := by
  induction x using EReal.rec with
  | bot => simp at h
  | coe r => exact ⟨r, rfl⟩
  | top => simp at h

/-- The pattern of infinity. -/
theorem top_word : (FloatOps.ofBits (F := Ideal) .f32 0x7F800000#32) = (⊤ : EReal) := by
  show Ideal.ofBits .f32 0x7F800000#32 = ⊤
  simp [Ideal.ofBits, Ideal.ieee]

/-- One comparison that came out true. -/
theorem real_of_bit (x : EReal) (h : FloatOps.cmpf (F := Ideal) (φ := .f32) .olt (max x (-x)) (FloatOps.ofBits (F := Ideal) .f32 0x7F800000#32) = 1#1) : ∃ r : ℝ, x = r := by
  refine real_of_abs x ?_
  rw [top_word] at h
  by_contra hn
  have h : BitVec.ofBool (decide (max x (-x) < (⊤ : EReal))) = 1#1 := h
  rw [decide_eq_false hn] at h
  exact absurd h (by decide)

/-- What the precondition says of one device's arrays. -/
theorem real_of_fn (p q r : Vec Ideal Cert.Pre_merge_finite.S16384x1024 .f32) (a b c : Vec Ideal Cert.Pre_merge_finite.S16384x128 .f32)
    (z : Vec Ideal Cert.Pre_merge_finite.S16384x1024 .f32) (h : Cert.Pre_merge_finite.fn (F := Ideal) p q r a b c z = fun _ => 1#1) :
    Real' a ∧ Real' b ∧ Real' c := by
  have h := congrFun h (fun b => b.elim0)
  unfold Cert.Pre_merge_finite.fn at h
  obtain ⟨h, hc⟩ := IntOp.andi_eq_one.1 h
  obtain ⟨ha, hb⟩ := IntOp.andi_eq_one.1 h
  exact ⟨fun i => real_of_bit _ (Host.reduce_andi_all _ _ _ _ _ ha i), fun i => real_of_bit _ (Host.reduce_andi_all _ _ _ _ _ hb i),
    fun i => real_of_bit _ (Host.reduce_andi_all _ _ _ _ _ hc i)⟩

/-- What the precondition says of the kernel's memory. -/
theorem real_args (m : (ℓ : Loc nD τ sig) → Buf (Elt Ideal) ℓ) (h : Cert.Pre_HeadMergeIdeal_merge_finite m) (c : Dev nD) :
    Real' (la m c) ∧ Real' (lb m c) ∧ Real' (lc m c) :=
  real_of_fn _ _ _ _ _ _ _ (h c)

end Cert.HeadMergeIdeal.Sum

end
-- ==== Proof.Hm.Claims.lean ====
/- The claims about the head merge. -/
module

public import proofs.«01_k».proof.Defs
public import proofs.«01_k».proof.Proof.Hm.Array
public import proofs.«01_k».proof.Proof.Hm.Reference
public import proofs.«01_k».proof.Proof.Hm.Pre
public import proofs.«01_k».proof.Proof.Gen.HeadMerge.Frame
public import proofs.«01_k».proof.Proof.Gen.HeadMergeIdeal.Value
public import proofs.«01_k».proof.Proof.Gen.HeadMergeReferenceIdeal.Run
public import Idealize.ShloMosaic.Lib.Quiescent

@[expose] public section

noncomputable section

namespace Cert.HeadMergeIdeal.Sum

open Idealize.ShloMosaic Idealize.ShloMosaic.TcCoe Idealize.SL.Sem

/-- The kernel's frame. -/
theorem frame_kernel : Cert.quiescent_HeadMerge := fun m ρ _ => Cert.HeadMerge.Gen.frame m ρ

/-- Its idealization's frame. -/
theorem frame_kernel_ideal : Cert.quiescent_HeadMergeIdeal := fun m ρ _ => Cert.HeadMergeIdeal.Gen.frame m ρ

/-- The same under the precondition, which it does not need. -/
theorem frame_kernel_finite : Cert.quiescent_HeadMergeIdeal_pre_merge_finite := fun m ρ _ => Cert.HeadMergeIdeal.Gen.frame m ρ

/-- The reference's frame. -/
theorem frame_reference : Cert.quiescent_HeadMergeReferenceIdeal := fun m ρ _ =>
  (θ_run Cert.HeadMergeReferenceIdeal.defs _ _).mono (fun r h => ⟨fun c => (h c).2.2.2,
      Idealize.ShloMosaic.sem_eq_zero_of_no_sems (by decide) r.2⟩)
    (Cert.HeadMergeReferenceIdeal.Value.run (F := Ideal) m ρ)

/-- The same under the precondition, which it does not need. -/
theorem frame_reference_finite : Cert.quiescent_HeadMergeReferenceIdeal_pre_merge_finite := fun m ρ _ => frame_reference m ρ trivial

/-- Nothing was rewritten. -/
theorem preserves : Cert.preserves_HeadMerge_HeadMergeIdeal := trivial

set_option maxHeartbeats 1000000 in
/-- On real logs both programs end with the same arrays. -/
theorem algebraic : Cert.algebraic_HeadMergeIdeal_HeadMergeReferenceIdeal_pre_merge_finite := by
  intro m ρ m' ρ' hpre hagree
  refine ⟨_, _, _, Cert.HeadMergeIdeal.Value.run_blocks (F := Ideal) m ρ, ?_⟩
  refine (θ_run Cert.HeadMergeReferenceIdeal.defs _ _).mono (fun _ h c => ⟨(h c).1.trans ?_, (h c).2.1.trans ?_,
    (h c).2.2.1.trans ?_, (h c).2.2.2⟩) (Cert.HeadMergeReferenceIdeal.Value.run (F := Ideal) m' ρ')
  · obtain ⟨ha, hb, hc⟩ := real_args m hpre c
    obtain ⟨e0, e1, e2, e3, e4, e5, e6⟩ := hagree c
    rw [Cert.HeadMergeReferenceIdeal.Read.val_main_v27_eq, e0, e1, e2, e3, e4, e5]
    exact (reference8 _ _ _ _ _ _ ha hb hc).trans (array8 m c).symm
  · obtain ⟨ha, hb, hc⟩ := real_args m hpre c
    obtain ⟨e0, e1, e2, e3, e4, e5, e6⟩ := hagree c
    rw [Cert.HeadMergeReferenceIdeal.Read.val_main_v30_eq, e3, e4, e5]
    exact (reference9 _ _ _ ha hb hc).trans (array9 m c).symm
  · obtain ⟨ha, hb, hc⟩ := real_args m hpre c
    obtain ⟨e0, e1, e2, e3, e4, e5, e6⟩ := hagree c
    rw [Cert.HeadMergeReferenceIdeal.Read.val_main_v39_eq, e0, e1, e2, e3, e4, e5, e6]
    exact (reference10 _ _ _ _ _ _ _ ha hb hc).trans (array10 m c).symm

end Cert.HeadMergeIdeal.Sum

end
-- ==== Proof.lean ====
/- The claims, assembled: the attention backward, then the calls of the step. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Attn.Body
public import proofs.«01_k».proof.Proof.AttnBits.Body
public import proofs.«01_k».proof.Proof.Gen.QueryWeightGrad
public import proofs.«01_k».proof.Proof.Gen.QueryWeightGrad.Frame
public import proofs.«01_k».proof.Proof.Gen.QueryWeightGradIdeal
public import proofs.«01_k».proof.Proof.Gen.QueryWeightGradIdeal.Frame
public import proofs.«01_k».proof.Proof.Gen.QueryWeightGradIdeal.Value
public import proofs.«01_k».proof.Proof.Gen.QueryWeightGradReferenceIdeal
public import proofs.«01_k».proof.Proof.Gen.QueryWeightGradReferenceIdeal.Run
public import proofs.«01_k».proof.Proof.Gen.QueryWeightGradReferenceIdeal.Read
public import proofs.«01_k».proof.Proof.Gen.InputWeightGrad
public import proofs.«01_k».proof.Proof.Gen.InputWeightGrad.Frame
public import proofs.«01_k».proof.Proof.Gen.InputWeightGradIdeal
public import proofs.«01_k».proof.Proof.Gen.InputWeightGradIdeal.Frame
public import proofs.«01_k».proof.Proof.Gen.InputWeightGradIdeal.Value
public import proofs.«01_k».proof.Proof.Gen.InputWeightGradReferenceIdeal
public import proofs.«01_k».proof.Proof.Gen.InputWeightGradReferenceIdeal.Run
public import proofs.«01_k».proof.Proof.Gen.InputWeightGradReferenceIdeal.Read
public import proofs.«01_k».proof.Proof.Gen.OutputWeightGrad
public import proofs.«01_k».proof.Proof.Gen.OutputWeightGrad.Frame
public import proofs.«01_k».proof.Proof.Gen.OutputWeightGradIdeal
public import proofs.«01_k».proof.Proof.Gen.OutputWeightGradIdeal.Frame
public import proofs.«01_k».proof.Proof.Gen.OutputWeightGradIdeal.Value
public import proofs.«01_k».proof.Proof.Gen.OutputWeightGradReferenceIdeal
public import proofs.«01_k».proof.Proof.Gen.OutputWeightGradReferenceIdeal.Run
public import proofs.«01_k».proof.Proof.Gen.OutputWeightGradReferenceIdeal.Read
public import proofs.«01_k».proof.Proof.Gen.ConvWeightGrad
public import proofs.«01_k».proof.Proof.Gen.ConvWeightGrad.Frame
public import proofs.«01_k».proof.Proof.Gen.ConvWeightGradIdeal
public import proofs.«01_k».proof.Proof.Gen.ConvWeightGradIdeal.Frame
public import proofs.«01_k».proof.Proof.Gen.ConvWeightGradIdeal.Value
public import proofs.«01_k».proof.Proof.Gen.ConvWeightGradReferenceIdeal
public import proofs.«01_k».proof.Proof.Gen.ConvWeightGradReferenceIdeal.Run
public import proofs.«01_k».proof.Proof.Gen.ConvWeightGradReferenceIdeal.Read
public import proofs.«01_k».proof.Proof.Wg.Claims
public import proofs.«01_k».proof.Proof.Wa.Claims
public import proofs.«01_k».proof.Proof.Wo.Claims
public import proofs.«01_k».proof.Proof.Wc.Claims
public import proofs.«01_k».proof.Proof.Gen.PairWeightGrad
public import proofs.«01_k».proof.Proof.Gen.PairWeightGrad.Frame
public import proofs.«01_k».proof.Proof.Gen.PairWeightGradIdeal
public import proofs.«01_k».proof.Proof.Gen.PairWeightGradIdeal.Frame
public import proofs.«01_k».proof.Proof.Gen.PairWeightGradReferenceIdeal
public import proofs.«01_k».proof.Proof.Gen.PairWeightGradReferenceIdeal.Run
public import proofs.«01_k».proof.Proof.Gen.PairWeightGradReferenceIdeal.Read
public import proofs.«01_k».proof.Proof.Gen.InputGrad
public import proofs.«01_k».proof.Proof.Gen.InputGrad.Frame
public import proofs.«01_k».proof.Proof.Gen.InputGradIdeal
public import proofs.«01_k».proof.Proof.Gen.InputGradIdeal.Frame
public import proofs.«01_k».proof.Proof.Gen.InputGradReferenceIdeal
public import proofs.«01_k».proof.Proof.Gen.InputGradReferenceIdeal.Run
public import proofs.«01_k».proof.Proof.Gen.InputGradReferenceIdeal.Read
public import proofs.«01_k».proof.Proof.Wkv.Claims
public import proofs.«01_k».proof.Proof.Gi.Claims
public import proofs.«01_k».proof.Proof.Gen.InputProjection
public import proofs.«01_k».proof.Proof.Gen.InputProjection.Frame
public import proofs.«01_k».proof.Proof.Gen.InputProjectionIdeal
public import proofs.«01_k».proof.Proof.Gen.InputProjectionIdeal.Frame
public import proofs.«01_k».proof.Proof.Gen.InputProjectionIdeal.Value
public import proofs.«01_k».proof.Proof.Gen.InputProjectionReferenceIdeal
public import proofs.«01_k».proof.Proof.Gen.InputProjectionReferenceIdeal.Run
public import proofs.«01_k».proof.Proof.Gen.InputProjectionReferenceIdeal.Read
public import proofs.«01_k».proof.Proof.Gen.PairProjection
public import proofs.«01_k».proof.Proof.Gen.PairProjection.Frame
public import proofs.«01_k».proof.Proof.Gen.PairProjectionIdeal
public import proofs.«01_k».proof.Proof.Gen.PairProjectionIdeal.Frame
public import proofs.«01_k».proof.Proof.Gen.PairProjectionIdeal.Value
public import proofs.«01_k».proof.Proof.Gen.PairProjectionReferenceIdeal
public import proofs.«01_k».proof.Proof.Gen.PairProjectionReferenceIdeal.Run
public import proofs.«01_k».proof.Proof.Gen.PairProjectionReferenceIdeal.Read
public import proofs.«01_k».proof.Proof.Gen.QueryProjection
public import proofs.«01_k».proof.Proof.Gen.QueryProjection.Frame
public import proofs.«01_k».proof.Proof.Gen.QueryProjectionIdeal
public import proofs.«01_k».proof.Proof.Gen.QueryProjectionIdeal.Frame
public import proofs.«01_k».proof.Proof.Gen.QueryProjectionIdeal.Value
public import proofs.«01_k».proof.Proof.Gen.QueryProjectionReferenceIdeal
public import proofs.«01_k».proof.Proof.Gen.QueryProjectionReferenceIdeal.Run
public import proofs.«01_k».proof.Proof.Gen.QueryProjectionReferenceIdeal.Read
public import proofs.«01_k».proof.Proof.Fi.Claims
public import proofs.«01_k».proof.Proof.Fk.Claims
public import proofs.«01_k».proof.Proof.Fq.Claims
public import proofs.«01_k».proof.Proof.Gen.ResidualGrad
public import proofs.«01_k».proof.Proof.Gen.ResidualGrad.Frame
public import proofs.«01_k».proof.Proof.Gen.ResidualGradIdeal
public import proofs.«01_k».proof.Proof.Gen.ResidualGradIdeal.Frame
public import proofs.«01_k».proof.Proof.Gen.ResidualGradIdeal.Value
public import proofs.«01_k».proof.Proof.Gen.ResidualGradReferenceIdeal
public import proofs.«01_k».proof.Proof.Gen.ResidualGradReferenceIdeal.Run
public import proofs.«01_k».proof.Proof.Gen.ResidualGradReferenceIdeal.Read
public import proofs.«01_k».proof.Proof.Gr.Claims
public import proofs.«01_k».proof.Proof.Gen.LossGrad
public import proofs.«01_k».proof.Proof.Gen.LossGrad.Frame
public import proofs.«01_k».proof.Proof.Gen.LossGradIdeal
public import proofs.«01_k».proof.Proof.Gen.LossGradIdeal.Frame
public import proofs.«01_k».proof.Proof.Gen.LossGradIdeal.Value
public import proofs.«01_k».proof.Proof.Gen.LossGradReferenceIdeal
public import proofs.«01_k».proof.Proof.Gen.LossGradReferenceIdeal.Run
public import proofs.«01_k».proof.Proof.Gen.LossGradReferenceIdeal.Read
public import proofs.«01_k».proof.Proof.Lg.Claims
public import proofs.«01_k».proof.Proof.Gen.GateGrad
public import proofs.«01_k».proof.Proof.Gen.GateGrad.Frame
public import proofs.«01_k».proof.Proof.Gen.GateGradIdeal
public import proofs.«01_k».proof.Proof.Gen.GateGradIdeal.Frame
public import proofs.«01_k».proof.Proof.Gen.GateGradIdeal.Value
public import proofs.«01_k».proof.Proof.Gen.GateGradReferenceIdeal
public import proofs.«01_k».proof.Proof.Gen.GateGradReferenceIdeal.Run
public import proofs.«01_k».proof.Proof.Gen.GateGradReferenceIdeal.Read
public import proofs.«01_k».proof.Proof.Gg.Claims
public import proofs.«01_k».proof.Proof.Gen.Pre_gate_finite
public import proofs.«01_k».proof.Proof.Gen.On_gate_written
public import proofs.«01_k».proof.Proof.Gen.MixerGrad
public import proofs.«01_k».proof.Proof.Gen.MixerGrad.Frame
public import proofs.«01_k».proof.Proof.Gen.MixerGradIdeal
public import proofs.«01_k».proof.Proof.Gen.MixerGradIdeal.Frame
public import proofs.«01_k».proof.Proof.Gen.MixerGradIdeal.Value
public import proofs.«01_k».proof.Proof.Gen.MixerGradReferenceIdeal
public import proofs.«01_k».proof.Proof.Gen.MixerGradReferenceIdeal.Run
public import proofs.«01_k».proof.Proof.Gen.MixerGradReferenceIdeal.Read
public import proofs.«01_k».proof.Proof.Mg.Claims
public import proofs.«01_k».proof.Proof.Gen.Pre_mixer_finite
public import proofs.«01_k».proof.Proof.Gen.On_mixer_written
public import proofs.«01_k».proof.Proof.Gen.HeadMerge
public import proofs.«01_k».proof.Proof.Gen.HeadMerge.Frame
public import proofs.«01_k».proof.Proof.Gen.HeadMergeIdeal
public import proofs.«01_k».proof.Proof.Gen.HeadMergeIdeal.Frame
public import proofs.«01_k».proof.Proof.Gen.HeadMergeIdeal.Value
public import proofs.«01_k».proof.Proof.Gen.HeadMergeReferenceIdeal
public import proofs.«01_k».proof.Proof.Gen.HeadMergeReferenceIdeal.Run
public import proofs.«01_k».proof.Proof.Gen.HeadMergeReferenceIdeal.Read
public import proofs.«01_k».proof.Proof.Hm.Claims
public import proofs.«01_k».proof.Proof.Gen.Pre_merge_finite
public import Idealize.ShloMosaic.Adequacy
public import Idealize.ShloMosaic.Init

@[expose] public section

noncomputable section

namespace Cert.Proof

open Idealize.ShloMosaic Idealize.SL.Sem

/-- The kernel runs, leaves its arguments and ends quiescent. -/
theorem frame_kernel : Cert.quiescent_Kernel := fun m ρ _ => Cert.Kernel.Attn.frame m ρ

/-- So does its idealization, by the run of `Attn.Body`. -/
theorem frame_kernel_ideal : Cert.quiescent_KernelIdeal := fun m ρ _ => Cert.KernelIdeal.Attn.frame m ρ

/-- So does the reference. -/
theorem frame_reference : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The mask's constant stands for `⊥`. -/
theorem preserves : Cert.preserves_Kernel_KernelIdeal :=
  IdealRules.named_const.statement Cert.KernelIdeal.κ "mask" .f32 0xF149F2CA#32 ⊥ rfl

theorem claim : Cert.Claim :=
  ⟨Cert.Kernel.Gen.facts, Cert.KernelIdeal.Gen.facts, Cert.ReferenceIdeal.Gen.facts, Cert.QueryWeightGrad.Gen.facts,
    Cert.QueryWeightGradIdeal.Gen.facts, Cert.QueryWeightGradReferenceIdeal.Gen.facts, Cert.InputWeightGrad.Gen.facts,
    Cert.InputWeightGradIdeal.Gen.facts, Cert.InputWeightGradReferenceIdeal.Gen.facts, Cert.OutputWeightGrad.Gen.facts,
    Cert.OutputWeightGradIdeal.Gen.facts, Cert.OutputWeightGradReferenceIdeal.Gen.facts, Cert.ConvWeightGrad.Gen.facts,
    Cert.ConvWeightGradIdeal.Gen.facts, Cert.ConvWeightGradReferenceIdeal.Gen.facts, Cert.PairWeightGrad.Gen.facts,
    Cert.PairWeightGradIdeal.Gen.facts, Cert.PairWeightGradReferenceIdeal.Gen.facts, Cert.InputGrad.Gen.facts,
    Cert.InputGradIdeal.Gen.facts, Cert.InputGradReferenceIdeal.Gen.facts, Cert.InputProjection.Gen.facts,
    Cert.InputProjectionIdeal.Gen.facts, Cert.InputProjectionReferenceIdeal.Gen.facts, Cert.PairProjection.Gen.facts,
    Cert.PairProjectionIdeal.Gen.facts, Cert.PairProjectionReferenceIdeal.Gen.facts, Cert.QueryProjection.Gen.facts,
    Cert.QueryProjectionIdeal.Gen.facts, Cert.QueryProjectionReferenceIdeal.Gen.facts, Cert.ResidualGrad.Gen.facts,
    Cert.ResidualGradIdeal.Gen.facts, Cert.ResidualGradReferenceIdeal.Gen.facts, Cert.LossGrad.Gen.facts,
    Cert.LossGradIdeal.Gen.facts, Cert.LossGradReferenceIdeal.Gen.facts, Cert.GateGrad.Gen.facts,
    Cert.GateGradIdeal.Gen.facts, Cert.GateGradReferenceIdeal.Gen.facts, Cert.MixerGrad.Gen.facts,
    Cert.MixerGradIdeal.Gen.facts, Cert.MixerGradReferenceIdeal.Gen.facts, Cert.HeadMerge.Gen.facts,
    Cert.HeadMergeIdeal.Gen.facts, Cert.HeadMergeReferenceIdeal.Gen.facts, Cert.Pre_gate_finite.Gen.facts,
    Cert.Pre_mixer_finite.Gen.facts, Cert.Pre_merge_finite.Gen.facts, Cert.On_gate_written.Gen.facts,
    Cert.On_mixer_written.Gen.facts, frame_kernel, frame_kernel_ideal, frame_reference,
    Cert.QueryWeightGradIdeal.Sum.frame_kernel, Cert.QueryWeightGradIdeal.Sum.frame_kernel_ideal,
    Cert.QueryWeightGradIdeal.Sum.frame_reference, Cert.InputWeightGradIdeal.Sum.frame_kernel,
    Cert.InputWeightGradIdeal.Sum.frame_kernel_ideal, Cert.InputWeightGradIdeal.Sum.frame_reference,
    Cert.OutputWeightGradIdeal.Sum.frame_kernel, Cert.OutputWeightGradIdeal.Sum.frame_kernel_ideal,
    Cert.OutputWeightGradIdeal.Sum.frame_reference, Cert.ConvWeightGradIdeal.Sum.frame_kernel,
    Cert.ConvWeightGradIdeal.Sum.frame_kernel_ideal, Cert.ConvWeightGradIdeal.Sum.frame_reference,
    Cert.PairWeightGradIdeal.Sum.frame_kernel, Cert.PairWeightGradIdeal.Sum.frame_kernel_ideal,
    Cert.PairWeightGradIdeal.Sum.frame_reference, Cert.InputGradIdeal.Sum.frame_kernel,
    Cert.InputGradIdeal.Sum.frame_kernel_ideal, Cert.InputGradIdeal.Sum.frame_reference,
    Cert.InputProjectionIdeal.Sum.frame_kernel, Cert.InputProjectionIdeal.Sum.frame_kernel_ideal,
    Cert.InputProjectionIdeal.Sum.frame_reference, Cert.PairProjectionIdeal.Sum.frame_kernel,
    Cert.PairProjectionIdeal.Sum.frame_kernel_ideal, Cert.PairProjectionIdeal.Sum.frame_reference,
    Cert.QueryProjectionIdeal.Sum.frame_kernel, Cert.QueryProjectionIdeal.Sum.frame_kernel_ideal,
    Cert.QueryProjectionIdeal.Sum.frame_reference, Cert.ResidualGradIdeal.Sum.frame_kernel,
    Cert.ResidualGradIdeal.Sum.frame_kernel_ideal, Cert.ResidualGradIdeal.Sum.frame_reference,
    Cert.LossGradIdeal.Sum.frame_kernel, Cert.LossGradIdeal.Sum.frame_kernel_ideal, Cert.LossGradIdeal.Sum.frame_reference,
    Cert.GateGradIdeal.Sum.frame_kernel, Cert.GateGradIdeal.Sum.frame_kernel_ideal,
    Cert.GateGradIdeal.Sum.frame_kernel_finite, Cert.GateGradIdeal.Sum.frame_reference,
    Cert.GateGradIdeal.Sum.frame_reference_finite, Cert.MixerGradIdeal.Sum.frame_kernel,
    Cert.MixerGradIdeal.Sum.frame_kernel_ideal, Cert.MixerGradIdeal.Sum.frame_kernel_finite,
    Cert.MixerGradIdeal.Sum.frame_reference, Cert.MixerGradIdeal.Sum.frame_reference_finite,
    Cert.HeadMergeIdeal.Sum.frame_kernel, Cert.HeadMergeIdeal.Sum.frame_kernel_ideal,
    Cert.HeadMergeIdeal.Sum.frame_kernel_finite, Cert.HeadMergeIdeal.Sum.frame_reference,
    Cert.HeadMergeIdeal.Sum.frame_reference_finite, preserves, Cert.QueryWeightGradIdeal.Sum.preserves,
    Cert.QueryWeightGradIdeal.Sum.algebraic, Cert.InputWeightGradIdeal.Sum.preserves,
    Cert.InputWeightGradIdeal.Sum.algebraic, Cert.OutputWeightGradIdeal.Sum.preserves,
    Cert.OutputWeightGradIdeal.Sum.algebraic, Cert.ConvWeightGradIdeal.Sum.preserves, Cert.ConvWeightGradIdeal.Sum.algebraic,
    Cert.PairWeightGradIdeal.Sum.preserves, Cert.PairWeightGradIdeal.Sum.algebraic, Cert.InputGradIdeal.Sum.preserves,
    Cert.InputGradIdeal.Sum.algebraic, Cert.InputProjectionIdeal.Sum.preserves, Cert.InputProjectionIdeal.Sum.algebraic,
    Cert.PairProjectionIdeal.Sum.preserves, Cert.PairProjectionIdeal.Sum.algebraic, Cert.QueryProjectionIdeal.Sum.preserves,
    Cert.QueryProjectionIdeal.Sum.algebraic, Cert.ResidualGradIdeal.Sum.preserves, Cert.ResidualGradIdeal.Sum.algebraic,
    Cert.LossGradIdeal.Sum.preserves, Cert.LossGradIdeal.Sum.algebraic, Cert.GateGradIdeal.Sum.preserves,
    Cert.GateGradIdeal.Sum.algebraic, Cert.MixerGradIdeal.Sum.preserves, Cert.MixerGradIdeal.Sum.algebraic,
    Cert.HeadMergeIdeal.Sum.preserves, Cert.HeadMergeIdeal.Sum.algebraic⟩

end Cert.Proof

end
